-- ==== Defs.lean ====
def Pre_Kernel [hPre_indices_in_vocab : Cert.Pre_indices_in_vocab.Facts] (m : (ℓ : Loc Cert.Kernel.nD Cert.Kernel.τ Cert.Kernel.sig) → Buf (Elt Bits) ℓ) : Prop :=
  ∀ c : Dev Cert.Kernel.nD,
    (Cert.Pre_indices_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_indices_in_vocab : Cert.Pre_indices_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_vocab [hPre_indices_in_vocab : Cert.Pre_indices_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_indices_in_vocab : Cert.Pre_indices_in_vocab.Facts] (m : (ℓ : Loc Cert.Reference.nD Cert.Reference.τ Cert.Reference.sig) → Buf (Elt Bits) ℓ) : Prop :=
  ∀ c : Dev Cert.Reference.nD,
    (Cert.Pre_indices_in_vocab.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_indices_in_vocab : Cert.Pre_indices_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_indices_in_vocab : Cert.Pre_indices_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_indices_in_vocab [hReferenceIdeal : Cert.ReferenceIdeal.Facts] [hPre_indices_in_vocab : Cert.Pre_indices_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_indices_in_vocab : Cert.Pre_indices_in_vocab.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_vocab : Cert.Pre_indices_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_indices_in_vocab : Cert.Pre_indices_in_vocab.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v9)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v9) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_indices_in_vocab : Cert.Pre_indices_in_vocab.Facts),
    quiescent_Kernel (hKernel := hKernel) (hPre_indices_in_vocab := hPre_indices_in_vocab)
    ∧ quiescent_KernelIdeal (hKernelIdeal := hKernelIdeal) (hPre_indices_in_vocab := hPre_indices_in_vocab)
    ∧ quiescent_ReferenceIdeal (hReferenceIdeal := hReferenceIdeal)
    ∧ quiescent_ReferenceIdeal_pre_indices_in_vocab (hReferenceIdeal := hReferenceIdeal) (hPre_indices_in_vocab := hPre_indices_in_vocab)
    ∧ quiescent_Reference (hReference := hReference) (hPre_indices_in_vocab := hPre_indices_in_vocab)
    ∧ preserves_Kernel_KernelIdeal
    ∧ algebraic_KernelIdeal_ReferenceIdeal (hKernelIdeal := hKernelIdeal) (hReferenceIdeal := hReferenceIdeal) (hPre_indices_in_vocab := hPre_indices_in_vocab)
    ∧ bitexact_Kernel_Reference (hKernel := hKernel) (hReference := hReference) (hPre_indices_in_vocab := hPre_indices_in_vocab)
-- ==== Pre_indices_in_vocab.lean ====
abbrev S4096x26 : Shape := ⟨2, ![4096, 26]⟩
abbrev S4096x13 : Shape := ⟨2, ![4096, 13]⟩
abbrev S26x100000x64 : Shape := ⟨3, ![26, 100000, 64]⟩
abbrev S_ : Shape := ⟨0, ![]⟩

class Facts : Prop where
  bcast_S_S4096x26 : S_.BroadcastsInDim S4096x26 (![] : Fin 0 → Fin S4096x26.rank)

variable [Facts]

def fn {F : FTy → Type} [FloatOps F] (main_arg0 : IVec S4096x26 32) (main_arg1 : FVec F S4096x13 .f32) (main_arg2 : FVec F S26x100000x64 .f32) : IVec S4096x26 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 100000#32
  let main_v2 : IVec S4096x26 32 := broadcastInDim S4096x26 ![] bcast_S_S4096x26 main_c_0
  let main_v3 : IVec S4096x26 1 := cmpi .slt main_arg0 main_v2
  let main_v4 : IVec S4096x26 1 := andi main_v1 main_v3
  main_v4
-- ==== Kernel.lean ====
abbrev S4096x26 : Shape := ⟨2, ![4096, 26]⟩
abbrev S4096x13 : Shape := ⟨2, ![4096, 13]⟩
abbrev S26x100000x64 : Shape := ⟨3, ![26, 100000, 64]⟩
abbrev S26x64x100000 : Shape := ⟨3, ![26, 64, 100000]⟩
abbrev S26x32x64 : Shape := ⟨3, ![26, 32, 64]⟩
abbrev S26x64x32 : Shape := ⟨3, ![26, 64, 32]⟩
abbrev S_ : Shape := ⟨0, ![]⟩
abbrev S26x64x128 : Shape := ⟨3, ![26, 64, 128]⟩
abbrev S26x4096 : Shape := ⟨2, ![26, 4096]⟩
abbrev S106496 : Shape := ⟨1, ![106496]⟩
abbrev S110592x128 : Shape := ⟨2, ![110592, 128]⟩
abbrev S4096 : Shape := ⟨1, ![4096]⟩
abbrev S400 : Shape := ⟨1, ![400]⟩
abbrev S64x256 : Shape := ⟨2, ![64, 256]⟩
abbrev S128x128 : Shape := ⟨2, ![128, 128]⟩
abbrev S128 : Shape := ⟨1, ![128]⟩
abbrev S16 : Shape := ⟨1, ![16]⟩
abbrev S1x64x256 : Shape := ⟨3, ![1, 64, 256]⟩
abbrev S1 : Shape := ⟨1, ![1]⟩
abbrev S64x128 : Shape := ⟨2, ![64, 128]⟩
abbrev S1x64x128 : Shape := ⟨3, ![1, 64, 128]⟩
abbrev S106496x64 : Shape := ⟨2, ![106496, 64]⟩
abbrev S4096x1664 : Shape := ⟨2, ![4096, 1664]⟩
abbrev S4096x1677 : Shape := ⟨2, ![4096, 1677]⟩

abbrev nBuf : Table → Nat
  | .hbm => 15
  | .local .scVector .smem => 1
  | .local .scVector .vmem => 9
  | _ => 0

abbrev bufTy : (tb : Table) → Fin (nBuf tb) → BufTy
  | .hbm, ⟨0, _⟩ => ⟨S4096x26, .i32⟩
  | .hbm, ⟨1, _⟩ => ⟨S4096x13, .f32⟩
  | .hbm, ⟨2, _⟩ => ⟨S26x100000x64, .f32⟩
  | .hbm, ⟨3, _⟩ => ⟨S26x64x100000, .f32⟩
  | .hbm, ⟨4, _⟩ => ⟨S26x32x64, .f32⟩
  | .hbm, ⟨5, _⟩ => ⟨S26x64x32, .f32⟩
  | .hbm, ⟨6, _⟩ => ⟨S_, .i32⟩
  | .hbm, ⟨7, _⟩ => ⟨S_, .f32⟩
  | .hbm, ⟨8, _⟩ => ⟨S26x64x128, .f32⟩
  | .hbm, ⟨9, _⟩ => ⟨S26x4096, .i32⟩
  | .hbm, ⟨10, _⟩ => ⟨S106496, .i32⟩
  | .hbm, ⟨11, _⟩ => ⟨S110592x128, .f32⟩
  | .hbm, ⟨12, _⟩ => ⟨S106496x64, .f32⟩
  | .hbm, ⟨13, _⟩ => ⟨S4096x1664, .f32⟩
  | .hbm, ⟨14, _⟩ => ⟨S4096x1677, .f32⟩
  | .local .scVector .smem, ⟨0, _⟩ => ⟨S400, .i32⟩
  | .local .scVector .vmem, ⟨0, _⟩ => ⟨S4096, .i32⟩
  | .local .scVector .vmem, ⟨1, _⟩ => ⟨S4096, .i32⟩
  | .local .scVector .vmem, ⟨2, _⟩ => ⟨S400, .i32⟩
  | .local .scVector .vmem, ⟨3, _⟩ => ⟨S400, .i32⟩
  | .local .scVector .vmem, ⟨4, _⟩ => ⟨S64x256, .f32⟩
  | .local .scVector .vmem, ⟨5, _⟩ => ⟨S64x256, .f32⟩
  | .local .scVector .vmem, ⟨6, _⟩ => ⟨S64x256, .f32⟩
  | .local .scVector .vmem, ⟨7, _⟩ => ⟨S128x128, .f32⟩
  | .local .scVector .vmem, ⟨8, _⟩ => ⟨S128, .i32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v5_scv : Ref sig .scVector := ⟨.hbm, 10, rfl⟩
abbrev main_v0_scv : Ref sig .scVector := ⟨.hbm, 3, rfl⟩
abbrev main_v3_scv : Ref sig .scVector := ⟨.hbm, 8, rfl⟩
abbrev main_v6_scv : Ref sig .scVector := ⟨.hbm, 11, rfl⟩
abbrev cc0_scratch4 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch5 : Ref sig .scVector := ⟨.vmem, 4, rfl⟩
abbrev cc0_scratch6 : Ref sig .scVector := ⟨.vmem, 5, rfl⟩
abbrev cc0_scratch7 : Ref sig .scVector := ⟨.vmem, 6, rfl⟩
abbrev cc0_scratch8 : Ref sig .scVector := ⟨.vmem, 7, rfl⟩
abbrev cc0_scratch9 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 1 := Scalar.cmpi .slt v1 c26_i32
  let v3 : BitVec 32 := Scalar.extui v2
  let c0_i32 : BitVec 32 := 0#32
  let v4 : BitVec 1 := Scalar.cmpi .ne v3 c0_i32
  v4

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v8 : BitVec 32 := Scalar.muli v1 c4096_i32
  v8
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v8 : BitVec 32 := Scalar.muli v1 c4096_i32
  let v9 : BitVec 32 := v8
  ![v9.toNat]
def k0_mult2 : BitVec 32 :=
  let c0_i32_1 : BitVec 32 := 0#32
  c0_i32_1
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2 : BitVec 32 := 0#32
  let c0_i32_1 : BitVec 32 := 0#32
  let v10 : BitVec 32 := c0_i32_1
  ![v1.toNat, 0, 0]
def k0_mult3 : BitVec 32 :=
  let c256_i32 : BitVec 32 := 256#32
  c256_i32
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let c256_i32 : BitVec 32 := 256#32
  let v15 : BitVec 32 := c256_i32
  ![v1.toNat, 0, 256]
def k0_mult4 : BitVec 32 :=
  let c512_i32 : BitVec 32 := 512#32
  c512_i32
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6 : BitVec 32 := 0#32
  let c512_i32 : BitVec 32 := 512#32
  let v20 : BitVec 32 := c512_i32
  ![v1.toNat, 0, 512]
@[reducible] def k0_t1_loop : Scf.Loop 32 :=
  let c0_i32_9 : BitVec 32 := 0#32
  let c256_i32_10 : BitVec 32 := 256#32
  let v50 : BitVec 32 := Scalar.addi c0_i32_9 c256_i32_10
  let c1_i32_11 : BitVec 32 := 1#32
  ⟨c0_i32_9, v50, c1_i32_11⟩

def k0_chk1 (i : grid0.Coords) (v1991 : IVec S16 32) : Prop :=
  (∀ (k0_h1 : k0_cond1 i = 1#1), ∀ a x, ((![v1991] : Fin 1 → IVec S16 32) a x).toNat < S4096.size a)
theorem k0_idx1_inb : ∀ (i : grid0.Coords) (v1991 : IVec S16 32) (k0_hw1 : k0_chk1 i v1991), ∀ (k0_h1 : k0_cond1 i = 1#1), ∀ a x, ((![v1991] : Fin 1 → IVec S16 32) a x).toNat < S4096.size a := fun i v1991 k0_hw1 k0_h1 => k0_hw1 k0_h1

def k0_chk2 (i : grid0.Coords) (v1994 : IVec S16 32) : Prop :=
  (∀ (k0_h1 : k0_cond1 i = 1#1), ∀ a x, ((![v1994] : Fin 1 → IVec S16 32) a x).toNat < S400.size a)
theorem k0_idx2_inb : ∀ (i : grid0.Coords) (v1994 : IVec S16 32) (k0_hw2 : k0_chk2 i v1994), ∀ (k0_h1 : k0_cond1 i = 1#1), ∀ a x, ((![v1994] : Fin 1 → IVec S16 32) a x).toNat < S400.size a := fun i v1994 k0_hw2 k0_h1 => k0_hw2 k0_h1
@[reducible] def k0_t2_loop : Scf.Loop 32 :=
  let c0_i32_95 : BitVec 32 := 0#32
  let c256_i32_96 : BitVec 32 := 256#32
  let v1901 : BitVec 32 := Scalar.addi c0_i32_95 c256_i32_96
  let c1_i32_97 : BitVec 32 := 1#32
  ⟨c0_i32_95, v1901, c1_i32_97⟩

def k0_chk3 (i : grid0.Coords) (v1991 : IVec S16 32) : Prop :=
  (∀ (k0_h1 : k0_cond1 i = 1#1), ∀ a x, ((![v1991] : Fin 1 → IVec S16 32) a x).toNat < S4096.size a)
theorem k0_idx3_inb : ∀ (i : grid0.Coords) (v1991 : IVec S16 32) (k0_hw3 : k0_chk3 i v1991), ∀ (k0_h1 : k0_cond1 i = 1#1), ∀ a x, ((![v1991] : Fin 1 → IVec S16 32) a x).toNat < S4096.size a := fun i v1991 k0_hw3 k0_h1 => k0_hw3 k0_h1

def k0_chk5 (i : grid0.Coords) (v2004 : IVec S16 32) : Prop :=
  (∀ (k0_h1 : k0_cond1 i = 1#1), ∀ a x, ((![v2004] : Fin 1 → IVec S16 32) a x).toNat < S4096.size a)
theorem k0_idx5_inb : ∀ (i : grid0.Coords) (v2004 : IVec S16 32) (k0_hw5 : k0_chk5 i v2004), ∀ (k0_h1 : k0_cond1 i = 1#1), ∀ a x, ((![v2004] : Fin 1 → IVec S16 32) a x).toNat < S4096.size a := fun i v2004 k0_hw5 k0_h1 => k0_hw5 k0_h1

def k0_chk4 (i : grid0.Coords) (v1994 : IVec S16 32) : Prop :=
  (∀ (k0_h1 : k0_cond1 i = 1#1), ∀ a x, ((![v1994] : Fin 1 → IVec S16 32) a x).toNat < S400.size a) ∧
  (∀ (k0_h1 : k0_cond1 i = 1#1), ∀ a x, ((![v1994] : Fin 1 → IVec S16 32) a x).toNat < S400.size a)
theorem k0_idx4_inb : ∀ (i : grid0.Coords) (v1994 : IVec S16 32) (k0_hw4 : k0_chk4 i v1994), ∀ (k0_h1 : k0_cond1 i = 1#1), ∀ a x, ((![v1994] : Fin 1 → IVec S16 32) a x).toNat < S400.size a := fun i v1994 k0_hw4 k0_h1 => k0_hw4.1 k0_h1
theorem k0_idx6_inb : ∀ (i : grid0.Coords) (v1994 : IVec S16 32) (k0_hw4 : k0_chk4 i v1994), ∀ (k0_h1 : k0_cond1 i = 1#1), ∀ a x, ((![v1994] : Fin 1 → IVec S16 32) a x).toNat < S400.size a := fun i v1994 k0_hw4 k0_h1 => k0_hw4.2 k0_h1
@[reducible] def k0_t3_loop : Scf.Loop 32 :=
  let c0_i32_117 : BitVec 32 := 0#32
  let c130_i32_118 : BitVec 32 := 130#32
  let v1938 : BitVec 32 := Scalar.addi c0_i32_117 c130_i32_118
  let c1_i32_119 : BitVec 32 := 1#32
  ⟨c0_i32_117, v1938, c1_i32_119⟩
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_151 : BitVec 32 := 0#32
  let c0_i32_152 : BitVec 32 := 0#32
  ![v1.toNat, 0, 0]
def k0_off6 (k0_t3 : Fin k0_t3_loop.trips) : Fin 1 → Nat :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let v1994 : Index := Scalar.indexCast v1989
  ![v1994.toNat]
def k0_off7 (k0_t3 : Fin k0_t3_loop.trips) : Fin 1 → Nat :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c1_i32_155 : BitVec 32 := 1#32
  let v1996 : BitVec 32 := Scalar.addi v1989 c1_i32_155
  let v1997 : Index := Scalar.indexCast v1996
  ![v1997.toNat]
@[reducible] def k0_t4_loop (v1995 : BitVec 32) (v1998 : BitVec 32) : Scf.Loop 32 :=
  let c0_i32_159 : BitVec 32 := 0#32
  let v1999 : BitVec 32 := Scalar.subi v1998 v1995
  let c16_i32_156 : BitVec 32 := 16#32
  let v2000 : BitVec 32 := Scalar.addi v1999 c16_i32_156
  let c1_i32_157 : BitVec 32 := 1#32
  let v2001 : BitVec 32 := Scalar.subi v2000 c1_i32_157
  let c4_i32_158 : BitVec 32 := 4#32
  let v2002 : BitVec 32 := Scalar.shrsi v2001 c4_i32_158
  let v2003 : BitVec 32 := Scalar.subi v2002 c0_i32_159
  let c1_i32_160 : BitVec 32 := 1#32
  let v2005 : BitVec 32 := Scalar.divsi v2003 c1_i32_160
  let v2006 : BitVec 32 := Scalar.muli v2005 c1_i32_160
  let v2007 : BitVec 32 := Scalar.addi c0_i32_159 v2006
  let c1_i32_161 : BitVec 32 := 1#32
  ⟨c0_i32_159, v2007, c1_i32_161⟩

def k0_chk7 (i : grid0.Coords) (v2075 : IVec S16 32) : Prop :=
  (∀ (k0_h1 : k0_cond1 i = 1#1), ∀ a x, ((![v2075] : Fin 1 → IVec S16 32) a x).toNat < S4096.size a)
theorem k0_idx7_inb : ∀ (i : grid0.Coords) (v2075 : IVec S16 32) (k0_hw7 : k0_chk7 i v2075), ∀ (k0_h1 : k0_cond1 i = 1#1), ∀ a x, ((![v2075] : Fin 1 → IVec S16 32) a x).toNat < S4096.size a := fun i v2075 k0_hw7 k0_h1 => k0_hw7 k0_h1

def k0_chk8 (i : grid0.Coords) (v2087 : IVec S16 32) : Prop :=
  (∀ (k0_h1 : k0_cond1 i = 1#1), ∀ a x, ((![v2087] : Fin 1 → IVec S16 32) a x).toNat < S128.size a)
theorem k0_idx8_inb : ∀ (i : grid0.Coords) (v2087 : IVec S16 32) (k0_hw8 : k0_chk8 i v2087), ∀ (k0_h1 : k0_cond1 i = 1#1), ∀ a x, ((![v2087] : Fin 1 → IVec S16 32) a x).toNat < S128.size a := fun i v2087 k0_hw8 k0_h1 => k0_hw8 k0_h1

def k0_chk9 (i : grid0.Coords) (v2091 : IVec S16 32) (v2095 : IVec S16 32) : Prop :=
  (∀ (k0_h1 : k0_cond1 i = 1#1), ∀ a x, ((![v2095, v2091] : Fin 2 → IVec S16 32) a x).toNat < S64x256.size a)
theorem k0_idx9_inb : ∀ (i : grid0.Coords) (v2091 : IVec S16 32) (v2095 : IVec S16 32) (k0_hw9 : k0_chk9 i v2091 v2095), ∀ (k0_h1 : k0_cond1 i = 1#1), ∀ a x, ((![v2095, v2091] : Fin 2 → IVec S16 32) a x).toNat < S64x256.size a := fun i v2091 v2095 k0_hw9 k0_h1 => k0_hw9 k0_h1

def k0_chk10 (i : grid0.Coords) (v2093 : IVec S16 32) (v2098 : IVec S16 32) : Prop :=
  (∀ (k0_h1 : k0_cond1 i = 1#1), ∀ a x, ((![v2093, v2098] : Fin 2 → IVec S16 32) a x).toNat < S128x128.size a)
theorem k0_idx10_inb : ∀ (i : grid0.Coords) (v2093 : IVec S16 32) (v2098 : IVec S16 32) (k0_hw10 : k0_chk10 i v2093 v2098), ∀ (k0_h1 : k0_cond1 i = 1#1), ∀ a x, ((![v2093, v2098] : Fin 2 → IVec S16 32) a x).toNat < S128x128.size a := fun i v2093 v2098 k0_hw10 k0_h1 => k0_hw10 k0_h1

def k0_chk11 (i : grid0.Coords) (v2091 : IVec S16 32) (v2100 : IVec S16 32) : Prop :=
  (∀ (k0_h1 : k0_cond1 i = 1#1), ∀ a x, ((![v2100, v2091] : Fin 2 → IVec S16 32) a x).toNat < S64x256.size a)
theorem k0_idx11_inb : ∀ (i : grid0.Coords) (v2091 : IVec S16 32) (v2100 : IVec S16 32) (k0_hw11 : k0_chk11 i v2091 v2100), ∀ (k0_h1 : k0_cond1 i = 1#1), ∀ a x, ((![v2100, v2091] : Fin 2 → IVec S16 32) a x).toNat < S64x256.size a := fun i v2091 v2100 k0_hw11 k0_h1 => k0_hw11 k0_h1

def k0_chk12 (i : grid0.Coords) (v2093 : IVec S16 32) (v2103 : IVec S16 32) : Prop :=
  (∀ (k0_h1 : k0_cond1 i = 1#1), ∀ a x, ((![v2093, v2103] : Fin 2 → IVec S16 32) a x).toNat < S128x128.size a)
theorem k0_idx12_inb : ∀ (i : grid0.Coords) (v2093 : IVec S16 32) (v2103 : IVec S16 32) (k0_hw12 : k0_chk12 i v2093 v2103), ∀ (k0_h1 : k0_cond1 i = 1#1), ∀ a x, ((![v2093, v2103] : Fin 2 → IVec S16 32) a x).toNat < S128x128.size a := fun i v2093 v2103 k0_hw12 k0_h1 => k0_hw12 k0_h1

def k0_chk13 (i : grid0.Coords) (v2091 : IVec S16 32) (v2105 : IVec S16 32) : Prop :=
  (∀ (k0_h1 : k0_cond1 i = 1#1), ∀ a x, ((![v2105, v2091] : Fin 2 → IVec S16 32) a x).toNat < S64x256.size a)
theorem k0_idx13_inb : ∀ (i : grid0.Coords) (v2091 : IVec S16 32) (v2105 : IVec S16 32) (k0_hw13 : k0_chk13 i v2091 v2105), ∀ (k0_h1 : k0_cond1 i = 1#1), ∀ a x, ((![v2105, v2091] : Fin 2 → IVec S16 32) a x).toNat < S64x256.size a := fun i v2091 v2105 k0_hw13 k0_h1 => k0_hw13 k0_h1

def k0_chk14 (i : grid0.Coords) (v2093 : IVec S16 32) (v2108 : IVec S16 32) : Prop :=
  (∀ (k0_h1 : k0_cond1 i = 1#1), ∀ a x, ((![v2093, v2108] : Fin 2 → IVec S16 32) a x).toNat < S128x128.size a)
theorem k0_idx14_inb : ∀ (i : grid0.Coords) (v2093 : IVec S16 32) (v2108 : IVec S16 32) (k0_hw14 : k0_chk14 i v2093 v2108), ∀ (k0_h1 : k0_cond1 i = 1#1), ∀ a x, ((![v2093, v2108] : Fin 2 → IVec S16 32) a x).toNat < S128x128.size a := fun i v2093 v2108 k0_hw14 k0_h1 => k0_hw14 k0_h1

def k0_chk15 (i : grid0.Coords) (v2091 : IVec S16 32) (v2110 : IVec S16 32) : Prop :=
  (∀ (k0_h1 : k0_cond1 i = 1#1), ∀ a x, ((![v2110, v2091] : Fin 2 → IVec S16 32) a x).toNat < S64x256.size a)
theorem k0_idx15_inb : ∀ (i : grid0.Coords) (v2091 : IVec S16 32) (v2110 : IVec S16 32) (k0_hw15 : k0_chk15 i v2091 v2110), ∀ (k0_h1 : k0_cond1 i = 1#1), ∀ a x, ((![v2110, v2091] : Fin 2 → IVec S16 32) a x).toNat < S64x256.size a := fun i v2091 v2110 k0_hw15 k0_h1 => k0_hw15 k0_h1

def k0_chk16 (i : grid0.Coords) (v2093 : IVec S16 32) (v2113 : IVec S16 32) : Prop :=
  (∀ (k0_h1 : k0_cond1 i = 1#1), ∀ a x, ((![v2093, v2113] : Fin 2 → IVec S16 32) a x).toNat < S128x128.size a)
theorem k0_idx16_inb : ∀ (i : grid0.Coords) (v2093 : IVec S16 32) (v2113 : IVec S16 32) (k0_hw16 : k0_chk16 i v2093 v2113), ∀ (k0_h1 : k0_cond1 i = 1#1), ∀ a x, ((![v2093, v2113] : Fin 2 → IVec S16 32) a x).toNat < S128x128.size a := fun i v2093 v2113 k0_hw16 k0_h1 => k0_hw16 k0_h1

def k0_chk17 (i : grid0.Coords) (v2117 : IVec S16 32) (v2121 : IVec S16 32) : Prop :=
  (∀ (k0_h1 : k0_cond1 i = 1#1), ∀ a x, ((![v2121, v2117] : Fin 2 → IVec S16 32) a x).toNat < S64x256.size a)
theorem k0_idx17_inb : ∀ (i : grid0.Coords) (v2117 : IVec S16 32) (v2121 : IVec S16 32) (k0_hw17 : k0_chk17 i v2117 v2121), ∀ (k0_h1 : k0_cond1 i = 1#1), ∀ a x, ((![v2121, v2117] : Fin 2 → IVec S16 32) a x).toNat < S64x256.size a := fun i v2117 v2121 k0_hw17 k0_h1 => k0_hw17 k0_h1

def k0_chk18 (i : grid0.Coords) (v2119 : IVec S16 32) (v2124 : IVec S16 32) : Prop :=
  (∀ (k0_h1 : k0_cond1 i = 1#1), ∀ a x, ((![v2119, v2124] : Fin 2 → IVec S16 32) a x).toNat < S128x128.size a)
theorem k0_idx18_inb : ∀ (i : grid0.Coords) (v2119 : IVec S16 32) (v2124 : IVec S16 32) (k0_hw18 : k0_chk18 i v2119 v2124), ∀ (k0_h1 : k0_cond1 i = 1#1), ∀ a x, ((![v2119, v2124] : Fin 2 → IVec S16 32) a x).toNat < S128x128.size a := fun i v2119 v2124 k0_hw18 k0_h1 => k0_hw18 k0_h1

def k0_chk19 (i : grid0.Coords) (v2117 : IVec S16 32) (v2126 : IVec S16 32) : Prop :=
  (∀ (k0_h1 : k0_cond1 i = 1#1), ∀ a x, ((![v2126, v2117] : Fin 2 → IVec S16 32) a x).toNat < S64x256.size a)
theorem k0_idx19_inb : ∀ (i : grid0.Coords) (v2117 : IVec S16 32) (v2126 : IVec S16 32) (k0_hw19 : k0_chk19 i v2117 v2126), ∀ (k0_h1 : k0_cond1 i = 1#1), ∀ a x, ((![v2126, v2117] : Fin 2 → IVec S16 32) a x).toNat < S64x256.size a := fun i v2117 v2126 k0_hw19 k0_h1 => k0_hw19 k0_h1

def k0_chk20 (i : grid0.Coords) (v2119 : IVec S16 32) (v2129 : IVec S16 32) : Prop :=
  (∀ (k0_h1 : k0_cond1 i = 1#1), ∀ a x, ((![v2119, v2129] : Fin 2 → IVec S16 32) a x).toNat < S128x128.size a)
theorem k0_idx20_inb : ∀ (i : grid0.Coords) (v2119 : IVec S16 32) (v2129 : IVec S16 32) (k0_hw20 : k0_chk20 i v2119 v2129), ∀ (k0_h1 : k0_cond1 i = 1#1), ∀ a x, ((![v2119, v2129] : Fin 2 → IVec S16 32) a x).toNat < S128x128.size a := fun i v2119 v2129 k0_hw20 k0_h1 => k0_hw20 k0_h1

def k0_chk21 (i : grid0.Coords) (v2117 : IVec S16 32) (v2131 : IVec S16 32) : Prop :=
  (∀ (k0_h1 : k0_cond1 i = 1#1), ∀ a x, ((![v2131, v2117] : Fin 2 → IVec S16 32) a x).toNat < S64x256.size a)
theorem k0_idx21_inb : ∀ (i : grid0.Coords) (v2117 : IVec S16 32) (v2131 : IVec S16 32) (k0_hw21 : k0_chk21 i v2117 v2131), ∀ (k0_h1 : k0_cond1 i = 1#1), ∀ a x, ((![v2131, v2117] : Fin 2 → IVec S16 32) a x).toNat < S64x256.size a := fun i v2117 v2131 k0_hw21 k0_h1 => k0_hw21 k0_h1

def k0_chk22 (i : grid0.Coords) (v2119 : IVec S16 32) (v2134 : IVec S16 32) : Prop :=
  (∀ (k0_h1 : k0_cond1 i = 1#1), ∀ a x, ((![v2119, v2134] : Fin 2 → IVec S16 32) a x).toNat < S128x128.size a)
theorem k0_idx22_inb : ∀ (i : grid0.Coords) (v2119 : IVec S16 32) (v2134 : IVec S16 32) (k0_hw22 : k0_chk22 i v2119 v2134), ∀ (k0_h1 : k0_cond1 i = 1#1), ∀ a x, ((![v2119, v2134] : Fin 2 → IVec S16 32) a x).toNat < S128x128.size a := fun i v2119 v2134 k0_hw22 k0_h1 => k0_hw22 k0_h1

def k0_chk23 (i : grid0.Coords) (v2117 : IVec S16 32) (v2136 : IVec S16 32) : Prop :=
  (∀ (k0_h1 : k0_cond1 i = 1#1), ∀ a x, ((![v2136, v2117] : Fin 2 → IVec S16 32) a x).toNat < S64x256.size a)
theorem k0_idx23_inb : ∀ (i : grid0.Coords) (v2117 : IVec S16 32) (v2136 : IVec S16 32) (k0_hw23 : k0_chk23 i v2117 v2136), ∀ (k0_h1 : k0_cond1 i = 1#1), ∀ a x, ((![v2136, v2117] : Fin 2 → IVec S16 32) a x).toNat < S64x256.size a := fun i v2117 v2136 k0_hw23 k0_h1 => k0_hw23 k0_h1

def k0_chk24 (i : grid0.Coords) (v2119 : IVec S16 32) (v2139 : IVec S16 32) : Prop :=
  (∀ (k0_h1 : k0_cond1 i = 1#1), ∀ a x, ((![v2119, v2139] : Fin 2 → IVec S16 32) a x).toNat < S128x128.size a)
theorem k0_idx24_inb : ∀ (i : grid0.Coords) (v2119 : IVec S16 32) (v2139 : IVec S16 32) (k0_hw24 : k0_chk24 i v2119 v2139), ∀ (k0_h1 : k0_cond1 i = 1#1), ∀ a x, ((![v2119, v2139] : Fin 2 → IVec S16 32) a x).toNat < S128x128.size a := fun i v2119 v2139 k0_hw24 k0_h1 => k0_hw24 k0_h1

def k0_chk25 (i : grid0.Coords) (v2143 : IVec S16 32) (v2147 : IVec S16 32) : Prop :=
  (∀ (k0_h1 : k0_cond1 i = 1#1), ∀ a x, ((![v2147, v2143] : Fin 2 → IVec S16 32) a x).toNat < S64x256.size a)
theorem k0_idx25_inb : ∀ (i : grid0.Coords) (v2143 : IVec S16 32) (v2147 : IVec S16 32) (k0_hw25 : k0_chk25 i v2143 v2147), ∀ (k0_h1 : k0_cond1 i = 1#1), ∀ a x, ((![v2147, v2143] : Fin 2 → IVec S16 32) a x).toNat < S64x256.size a := fun i v2143 v2147 k0_hw25 k0_h1 => k0_hw25 k0_h1

def k0_chk26 (i : grid0.Coords) (v2145 : IVec S16 32) (v2150 : IVec S16 32) : Prop :=
  (∀ (k0_h1 : k0_cond1 i = 1#1), ∀ a x, ((![v2145, v2150] : Fin 2 → IVec S16 32) a x).toNat < S128x128.size a)
theorem k0_idx26_inb : ∀ (i : grid0.Coords) (v2145 : IVec S16 32) (v2150 : IVec S16 32) (k0_hw26 : k0_chk26 i v2145 v2150), ∀ (k0_h1 : k0_cond1 i = 1#1), ∀ a x, ((![v2145, v2150] : Fin 2 → IVec S16 32) a x).toNat < S128x128.size a := fun i v2145 v2150 k0_hw26 k0_h1 => k0_hw26 k0_h1

def k0_chk27 (i : grid0.Coords) (v2143 : IVec S16 32) (v2152 : IVec S16 32) : Prop :=
  (∀ (k0_h1 : k0_cond1 i = 1#1), ∀ a x, ((![v2152, v2143] : Fin 2 → IVec S16 32) a x).toNat < S64x256.size a)
theorem k0_idx27_inb : ∀ (i : grid0.Coords) (v2143 : IVec S16 32) (v2152 : IVec S16 32) (k0_hw27 : k0_chk27 i v2143 v2152), ∀ (k0_h1 : k0_cond1 i = 1#1), ∀ a x, ((![v2152, v2143] : Fin 2 → IVec S16 32) a x).toNat < S64x256.size a := fun i v2143 v2152 k0_hw27 k0_h1 => k0_hw27 k0_h1

def k0_chk28 (i : grid0.Coords) (v2145 : IVec S16 32) (v2155 : IVec S16 32) : Prop :=
  (∀ (k0_h1 : k0_cond1 i = 1#1), ∀ a x, ((![v2145, v2155] : Fin 2 → IVec S16 32) a x).toNat < S128x128.size a)
theorem k0_idx28_inb : ∀ (i : grid0.Coords) (v2145 : IVec S16 32) (v2155 : IVec S16 32) (k0_hw28 : k0_chk28 i v2145 v2155), ∀ (k0_h1 : k0_cond1 i = 1#1), ∀ a x, ((![v2145, v2155] : Fin 2 → IVec S16 32) a x).toNat < S128x128.size a := fun i v2145 v2155 k0_hw28 k0_h1 => k0_hw28 k0_h1

def k0_chk29 (i : grid0.Coords) (v2143 : IVec S16 32) (v2157 : IVec S16 32) : Prop :=
  (∀ (k0_h1 : k0_cond1 i = 1#1), ∀ a x, ((![v2157, v2143] : Fin 2 → IVec S16 32) a x).toNat < S64x256.size a)
theorem k0_idx29_inb : ∀ (i : grid0.Coords) (v2143 : IVec S16 32) (v2157 : IVec S16 32) (k0_hw29 : k0_chk29 i v2143 v2157), ∀ (k0_h1 : k0_cond1 i = 1#1), ∀ a x, ((![v2157, v2143] : Fin 2 → IVec S16 32) a x).toNat < S64x256.size a := fun i v2143 v2157 k0_hw29 k0_h1 => k0_hw29 k0_h1

def k0_chk30 (i : grid0.Coords) (v2145 : IVec S16 32) (v2160 : IVec S16 32) : Prop :=
  (∀ (k0_h1 : k0_cond1 i = 1#1), ∀ a x, ((![v2145, v2160] : Fin 2 → IVec S16 32) a x).toNat < S128x128.size a)
theorem k0_idx30_inb : ∀ (i : grid0.Coords) (v2145 : IVec S16 32) (v2160 : IVec S16 32) (k0_hw30 : k0_chk30 i v2145 v2160), ∀ (k0_h1 : k0_cond1 i = 1#1), ∀ a x, ((![v2145, v2160] : Fin 2 → IVec S16 32) a x).toNat < S128x128.size a := fun i v2145 v2160 k0_hw30 k0_h1 => k0_hw30 k0_h1

def k0_chk31 (i : grid0.Coords) (v2143 : IVec S16 32) (v2162 : IVec S16 32) : Prop :=
  (∀ (k0_h1 : k0_cond1 i = 1#1), ∀ a x, ((![v2162, v2143] : Fin 2 → IVec S16 32) a x).toNat < S64x256.size a)
theorem k0_idx31_inb : ∀ (i : grid0.Coords) (v2143 : IVec S16 32) (v2162 : IVec S16 32) (k0_hw31 : k0_chk31 i v2143 v2162), ∀ (k0_h1 : k0_cond1 i = 1#1), ∀ a x, ((![v2162, v2143] : Fin 2 → IVec S16 32) a x).toNat < S64x256.size a := fun i v2143 v2162 k0_hw31 k0_h1 => k0_hw31 k0_h1

def k0_chk32 (i : grid0.Coords) (v2145 : IVec S16 32) (v2165 : IVec S16 32) : Prop :=
  (∀ (k0_h1 : k0_cond1 i = 1#1), ∀ a x, ((![v2145, v2165] : Fin 2 → IVec S16 32) a x).toNat < S128x128.size a)
theorem k0_idx32_inb : ∀ (i : grid0.Coords) (v2145 : IVec S16 32) (v2165 : IVec S16 32) (k0_hw32 : k0_chk32 i v2145 v2165), ∀ (k0_h1 : k0_cond1 i = 1#1), ∀ a x, ((![v2145, v2165] : Fin 2 → IVec S16 32) a x).toNat < S128x128.size a := fun i v2145 v2165 k0_hw32 k0_h1 => k0_hw32 k0_h1

def k0_chk33 (i : grid0.Coords) (v2169 : IVec S16 32) (v2173 : IVec S16 32) : Prop :=
  (∀ (k0_h1 : k0_cond1 i = 1#1), ∀ a x, ((![v2173, v2169] : Fin 2 → IVec S16 32) a x).toNat < S64x256.size a)
theorem k0_idx33_inb : ∀ (i : grid0.Coords) (v2169 : IVec S16 32) (v2173 : IVec S16 32) (k0_hw33 : k0_chk33 i v2169 v2173), ∀ (k0_h1 : k0_cond1 i = 1#1), ∀ a x, ((![v2173, v2169] : Fin 2 → IVec S16 32) a x).toNat < S64x256.size a := fun i v2169 v2173 k0_hw33 k0_h1 => k0_hw33 k0_h1

def k0_chk34 (i : grid0.Coords) (v2171 : IVec S16 32) (v2176 : IVec S16 32) : Prop :=
  (∀ (k0_h1 : k0_cond1 i = 1#1), ∀ a x, ((![v2171, v2176] : Fin 2 → IVec S16 32) a x).toNat < S128x128.size a)
theorem k0_idx34_inb : ∀ (i : grid0.Coords) (v2171 : IVec S16 32) (v2176 : IVec S16 32) (k0_hw34 : k0_chk34 i v2171 v2176), ∀ (k0_h1 : k0_cond1 i = 1#1), ∀ a x, ((![v2171, v2176] : Fin 2 → IVec S16 32) a x).toNat < S128x128.size a := fun i v2171 v2176 k0_hw34 k0_h1 => k0_hw34 k0_h1

def k0_chk35 (i : grid0.Coords) (v2169 : IVec S16 32) (v2178 : IVec S16 32) : Prop :=
  (∀ (k0_h1 : k0_cond1 i = 1#1), ∀ a x, ((![v2178, v2169] : Fin 2 → IVec S16 32) a x).toNat < S64x256.size a)
theorem k0_idx35_inb : ∀ (i : grid0.Coords) (v2169 : IVec S16 32) (v2178 : IVec S16 32) (k0_hw35 : k0_chk35 i v2169 v2178), ∀ (k0_h1 : k0_cond1 i = 1#1), ∀ a x, ((![v2178, v2169] : Fin 2 → IVec S16 32) a x).toNat < S64x256.size a := fun i v2169 v2178 k0_hw35 k0_h1 => k0_hw35 k0_h1

def k0_chk36 (i : grid0.Coords) (v2171 : IVec S16 32) (v2181 : IVec S16 32) : Prop :=
  (∀ (k0_h1 : k0_cond1 i = 1#1), ∀ a x, ((![v2171, v2181] : Fin 2 → IVec S16 32) a x).toNat < S128x128.size a)
theorem k0_idx36_inb : ∀ (i : grid0.Coords) (v2171 : IVec S16 32) (v2181 : IVec S16 32) (k0_hw36 : k0_chk36 i v2171 v2181), ∀ (k0_h1 : k0_cond1 i = 1#1), ∀ a x, ((![v2171, v2181] : Fin 2 → IVec S16 32) a x).toNat < S128x128.size a := fun i v2171 v2181 k0_hw36 k0_h1 => k0_hw36 k0_h1

def k0_chk37 (i : grid0.Coords) (v2169 : IVec S16 32) (v2183 : IVec S16 32) : Prop :=
  (∀ (k0_h1 : k0_cond1 i = 1#1), ∀ a x, ((![v2183, v2169] : Fin 2 → IVec S16 32) a x).toNat < S64x256.size a)
theorem k0_idx37_inb : ∀ (i : grid0.Coords) (v2169 : IVec S16 32) (v2183 : IVec S16 32) (k0_hw37 : k0_chk37 i v2169 v2183), ∀ (k0_h1 : k0_cond1 i = 1#1), ∀ a x, ((![v2183, v2169] : Fin 2 → IVec S16 32) a x).toNat < S64x256.size a := fun i v2169 v2183 k0_hw37 k0_h1 => k0_hw37 k0_h1

def k0_chk38 (i : grid0.Coords) (v2171 : IVec S16 32) (v2186 : IVec S16 32) : Prop :=
  (∀ (k0_h1 : k0_cond1 i = 1#1), ∀ a x, ((![v2171, v2186] : Fin 2 → IVec S16 32) a x).toNat < S128x128.size a)
theorem k0_idx38_inb : ∀ (i : grid0.Coords) (v2171 : IVec S16 32) (v2186 : IVec S16 32) (k0_hw38 : k0_chk38 i v2171 v2186), ∀ (k0_h1 : k0_cond1 i = 1#1), ∀ a x, ((![v2171, v2186] : Fin 2 → IVec S16 32) a x).toNat < S128x128.size a := fun i v2171 v2186 k0_hw38 k0_h1 => k0_hw38 k0_h1

def k0_chk39 (i : grid0.Coords) (v2169 : IVec S16 32) (v2188 : IVec S16 32) : Prop :=
  (∀ (k0_h1 : k0_cond1 i = 1#1), ∀ a x, ((![v2188, v2169] : Fin 2 → IVec S16 32) a x).toNat < S64x256.size a)
theorem k0_idx39_inb : ∀ (i : grid0.Coords) (v2169 : IVec S16 32) (v2188 : IVec S16 32) (k0_hw39 : k0_chk39 i v2169 v2188), ∀ (k0_h1 : k0_cond1 i = 1#1), ∀ a x, ((![v2188, v2169] : Fin 2 → IVec S16 32) a x).toNat < S64x256.size a := fun i v2169 v2188 k0_hw39 k0_h1 => k0_hw39 k0_h1

def k0_chk40 (i : grid0.Coords) (v2171 : IVec S16 32) (v2191 : IVec S16 32) : Prop :=
  (∀ (k0_h1 : k0_cond1 i = 1#1), ∀ a x, ((![v2171, v2191] : Fin 2 → IVec S16 32) a x).toNat < S128x128.size a)
theorem k0_idx40_inb : ∀ (i : grid0.Coords) (v2171 : IVec S16 32) (v2191 : IVec S16 32) (k0_hw40 : k0_chk40 i v2171 v2191), ∀ (k0_h1 : k0_cond1 i = 1#1), ∀ a x, ((![v2171, v2191] : Fin 2 → IVec S16 32) a x).toNat < S128x128.size a := fun i v2171 v2191 k0_hw40 k0_h1 => k0_hw40 k0_h1

def k0_chk41 (i : grid0.Coords) (v2195 : IVec S16 32) (v2199 : IVec S16 32) : Prop :=
  (∀ (k0_h1 : k0_cond1 i = 1#1), ∀ a x, ((![v2199, v2195] : Fin 2 → IVec S16 32) a x).toNat < S64x256.size a)
theorem k0_idx41_inb : ∀ (i : grid0.Coords) (v2195 : IVec S16 32) (v2199 : IVec S16 32) (k0_hw41 : k0_chk41 i v2195 v2199), ∀ (k0_h1 : k0_cond1 i = 1#1), ∀ a x, ((![v2199, v2195] : Fin 2 → IVec S16 32) a x).toNat < S64x256.size a := fun i v2195 v2199 k0_hw41 k0_h1 => k0_hw41 k0_h1

def k0_chk42 (i : grid0.Coords) (v2197 : IVec S16 32) (v2202 : IVec S16 32) : Prop :=
  (∀ (k0_h1 : k0_cond1 i = 1#1), ∀ a x, ((![v2197, v2202] : Fin 2 → IVec S16 32) a x).toNat < S128x128.size a)
theorem k0_idx42_inb : ∀ (i : grid0.Coords) (v2197 : IVec S16 32) (v2202 : IVec S16 32) (k0_hw42 : k0_chk42 i v2197 v2202), ∀ (k0_h1 : k0_cond1 i = 1#1), ∀ a x, ((![v2197, v2202] : Fin 2 → IVec S16 32) a x).toNat < S128x128.size a := fun i v2197 v2202 k0_hw42 k0_h1 => k0_hw42 k0_h1

def k0_chk43 (i : grid0.Coords) (v2195 : IVec S16 32) (v2204 : IVec S16 32) : Prop :=
  (∀ (k0_h1 : k0_cond1 i = 1#1), ∀ a x, ((![v2204, v2195] : Fin 2 → IVec S16 32) a x).toNat < S64x256.size a)
theorem k0_idx43_inb : ∀ (i : grid0.Coords) (v2195 : IVec S16 32) (v2204 : IVec S16 32) (k0_hw43 : k0_chk43 i v2195 v2204), ∀ (k0_h1 : k0_cond1 i = 1#1), ∀ a x, ((![v2204, v2195] : Fin 2 → IVec S16 32) a x).toNat < S64x256.size a := fun i v2195 v2204 k0_hw43 k0_h1 => k0_hw43 k0_h1

def k0_chk44 (i : grid0.Coords) (v2197 : IVec S16 32) (v2207 : IVec S16 32) : Prop :=
  (∀ (k0_h1 : k0_cond1 i = 1#1), ∀ a x, ((![v2197, v2207] : Fin 2 → IVec S16 32) a x).toNat < S128x128.size a)
theorem k0_idx44_inb : ∀ (i : grid0.Coords) (v2197 : IVec S16 32) (v2207 : IVec S16 32) (k0_hw44 : k0_chk44 i v2197 v2207), ∀ (k0_h1 : k0_cond1 i = 1#1), ∀ a x, ((![v2197, v2207] : Fin 2 → IVec S16 32) a x).toNat < S128x128.size a := fun i v2197 v2207 k0_hw44 k0_h1 => k0_hw44 k0_h1

def k0_chk45 (i : grid0.Coords) (v2195 : IVec S16 32) (v2209 : IVec S16 32) : Prop :=
  (∀ (k0_h1 : k0_cond1 i = 1#1), ∀ a x, ((![v2209, v2195] : Fin 2 → IVec S16 32) a x).toNat < S64x256.size a)
theorem k0_idx45_inb : ∀ (i : grid0.Coords) (v2195 : IVec S16 32) (v2209 : IVec S16 32) (k0_hw45 : k0_chk45 i v2195 v2209), ∀ (k0_h1 : k0_cond1 i = 1#1), ∀ a x, ((![v2209, v2195] : Fin 2 → IVec S16 32) a x).toNat < S64x256.size a := fun i v2195 v2209 k0_hw45 k0_h1 => k0_hw45 k0_h1

def k0_chk46 (i : grid0.Coords) (v2197 : IVec S16 32) (v2212 : IVec S16 32) : Prop :=
  (∀ (k0_h1 : k0_cond1 i = 1#1), ∀ a x, ((![v2197, v2212] : Fin 2 → IVec S16 32) a x).toNat < S128x128.size a)
theorem k0_idx46_inb : ∀ (i : grid0.Coords) (v2197 : IVec S16 32) (v2212 : IVec S16 32) (k0_hw46 : k0_chk46 i v2197 v2212), ∀ (k0_h1 : k0_cond1 i = 1#1), ∀ a x, ((![v2197, v2212] : Fin 2 → IVec S16 32) a x).toNat < S128x128.size a := fun i v2197 v2212 k0_hw46 k0_h1 => k0_hw46 k0_h1

def k0_chk47 (i : grid0.Coords) (v2195 : IVec S16 32) (v2214 : IVec S16 32) : Prop :=
  (∀ (k0_h1 : k0_cond1 i = 1#1), ∀ a x, ((![v2214, v2195] : Fin 2 → IVec S16 32) a x).toNat < S64x256.size a)
theorem k0_idx47_inb : ∀ (i : grid0.Coords) (v2195 : IVec S16 32) (v2214 : IVec S16 32) (k0_hw47 : k0_chk47 i v2195 v2214), ∀ (k0_h1 : k0_cond1 i = 1#1), ∀ a x, ((![v2214, v2195] : Fin 2 → IVec S16 32) a x).toNat < S64x256.size a := fun i v2195 v2214 k0_hw47 k0_h1 => k0_hw47 k0_h1

def k0_chk48 (i : grid0.Coords) (v2197 : IVec S16 32) (v2217 : IVec S16 32) : Prop :=
  (∀ (k0_h1 : k0_cond1 i = 1#1), ∀ a x, ((![v2197, v2217] : Fin 2 → IVec S16 32) a x).toNat < S128x128.size a)
theorem k0_idx48_inb : ∀ (i : grid0.Coords) (v2197 : IVec S16 32) (v2217 : IVec S16 32) (k0_hw48 : k0_chk48 i v2197 v2217), ∀ (k0_h1 : k0_cond1 i = 1#1), ∀ a x, ((![v2197, v2217] : Fin 2 → IVec S16 32) a x).toNat < S128x128.size a := fun i v2197 v2217 k0_hw48 k0_h1 => k0_hw48 k0_h1

def k0_chk49 (i : grid0.Coords) (v2221 : IVec S16 32) (v2225 : IVec S16 32) : Prop :=
  (∀ (k0_h1 : k0_cond1 i = 1#1), ∀ a x, ((![v2225, v2221] : Fin 2 → IVec S16 32) a x).toNat < S64x256.size a)
theorem k0_idx49_inb : ∀ (i : grid0.Coords) (v2221 : IVec S16 32) (v2225 : IVec S16 32) (k0_hw49 : k0_chk49 i v2221 v2225), ∀ (k0_h1 : k0_cond1 i = 1#1), ∀ a x, ((![v2225, v2221] : Fin 2 → IVec S16 32) a x).toNat < S64x256.size a := fun i v2221 v2225 k0_hw49 k0_h1 => k0_hw49 k0_h1

def k0_chk50 (i : grid0.Coords) (v2223 : IVec S16 32) (v2228 : IVec S16 32) : Prop :=
  (∀ (k0_h1 : k0_cond1 i = 1#1), ∀ a x, ((![v2223, v2228] : Fin 2 → IVec S16 32) a x).toNat < S128x128.size a)
theorem k0_idx50_inb : ∀ (i : grid0.Coords) (v2223 : IVec S16 32) (v2228 : IVec S16 32) (k0_hw50 : k0_chk50 i v2223 v2228), ∀ (k0_h1 : k0_cond1 i = 1#1), ∀ a x, ((![v2223, v2228] : Fin 2 → IVec S16 32) a x).toNat < S128x128.size a := fun i v2223 v2228 k0_hw50 k0_h1 => k0_hw50 k0_h1

def k0_chk51 (i : grid0.Coords) (v2221 : IVec S16 32) (v2230 : IVec S16 32) : Prop :=
  (∀ (k0_h1 : k0_cond1 i = 1#1), ∀ a x, ((![v2230, v2221] : Fin 2 → IVec S16 32) a x).toNat < S64x256.size a)
theorem k0_idx51_inb : ∀ (i : grid0.Coords) (v2221 : IVec S16 32) (v2230 : IVec S16 32) (k0_hw51 : k0_chk51 i v2221 v2230), ∀ (k0_h1 : k0_cond1 i = 1#1), ∀ a x, ((![v2230, v2221] : Fin 2 → IVec S16 32) a x).toNat < S64x256.size a := fun i v2221 v2230 k0_hw51 k0_h1 => k0_hw51 k0_h1

def k0_chk52 (i : grid0.Coords) (v2223 : IVec S16 32) (v2233 : IVec S16 32) : Prop :=
  (∀ (k0_h1 : k0_cond1 i = 1#1), ∀ a x, ((![v2223, v2233] : Fin 2 → IVec S16 32) a x).toNat < S128x128.size a)
theorem k0_idx52_inb : ∀ (i : grid0.Coords) (v2223 : IVec S16 32) (v2233 : IVec S16 32) (k0_hw52 : k0_chk52 i v2223 v2233), ∀ (k0_h1 : k0_cond1 i = 1#1), ∀ a x, ((![v2223, v2233] : Fin 2 → IVec S16 32) a x).toNat < S128x128.size a := fun i v2223 v2233 k0_hw52 k0_h1 => k0_hw52 k0_h1

def k0_chk53 (i : grid0.Coords) (v2221 : IVec S16 32) (v2235 : IVec S16 32) : Prop :=
  (∀ (k0_h1 : k0_cond1 i = 1#1), ∀ a x, ((![v2235, v2221] : Fin 2 → IVec S16 32) a x).toNat < S64x256.size a)
theorem k0_idx53_inb : ∀ (i : grid0.Coords) (v2221 : IVec S16 32) (v2235 : IVec S16 32) (k0_hw53 : k0_chk53 i v2221 v2235), ∀ (k0_h1 : k0_cond1 i = 1#1), ∀ a x, ((![v2235, v2221] : Fin 2 → IVec S16 32) a x).toNat < S64x256.size a := fun i v2221 v2235 k0_hw53 k0_h1 => k0_hw53 k0_h1

def k0_chk54 (i : grid0.Coords) (v2223 : IVec S16 32) (v2238 : IVec S16 32) : Prop :=
  (∀ (k0_h1 : k0_cond1 i = 1#1), ∀ a x, ((![v2223, v2238] : Fin 2 → IVec S16 32) a x).toNat < S128x128.size a)
theorem k0_idx54_inb : ∀ (i : grid0.Coords) (v2223 : IVec S16 32) (v2238 : IVec S16 32) (k0_hw54 : k0_chk54 i v2223 v2238), ∀ (k0_h1 : k0_cond1 i = 1#1), ∀ a x, ((![v2223, v2238] : Fin 2 → IVec S16 32) a x).toNat < S128x128.size a := fun i v2223 v2238 k0_hw54 k0_h1 => k0_hw54 k0_h1

def k0_chk55 (i : grid0.Coords) (v2221 : IVec S16 32) (v2240 : IVec S16 32) : Prop :=
  (∀ (k0_h1 : k0_cond1 i = 1#1), ∀ a x, ((![v2240, v2221] : Fin 2 → IVec S16 32) a x).toNat < S64x256.size a)
theorem k0_idx55_inb : ∀ (i : grid0.Coords) (v2221 : IVec S16 32) (v2240 : IVec S16 32) (k0_hw55 : k0_chk55 i v2221 v2240), ∀ (k0_h1 : k0_cond1 i = 1#1), ∀ a x, ((![v2240, v2221] : Fin 2 → IVec S16 32) a x).toNat < S64x256.size a := fun i v2221 v2240 k0_hw55 k0_h1 => k0_hw55 k0_h1

def k0_chk56 (i : grid0.Coords) (v2223 : IVec S16 32) (v2243 : IVec S16 32) : Prop :=
  (∀ (k0_h1 : k0_cond1 i = 1#1), ∀ a x, ((![v2223, v2243] : Fin 2 → IVec S16 32) a x).toNat < S128x128.size a)
theorem k0_idx56_inb : ∀ (i : grid0.Coords) (v2223 : IVec S16 32) (v2243 : IVec S16 32) (k0_hw56 : k0_chk56 i v2223 v2243), ∀ (k0_h1 : k0_cond1 i = 1#1), ∀ a x, ((![v2223, v2243] : Fin 2 → IVec S16 32) a x).toNat < S128x128.size a := fun i v2223 v2243 k0_hw56 k0_h1 => k0_hw56 k0_h1

def k0_chk57 (i : grid0.Coords) (v2247 : IVec S16 32) (v2251 : IVec S16 32) : Prop :=
  (∀ (k0_h1 : k0_cond1 i = 1#1), ∀ a x, ((![v2251, v2247] : Fin 2 → IVec S16 32) a x).toNat < S64x256.size a)
theorem k0_idx57_inb : ∀ (i : grid0.Coords) (v2247 : IVec S16 32) (v2251 : IVec S16 32) (k0_hw57 : k0_chk57 i v2247 v2251), ∀ (k0_h1 : k0_cond1 i = 1#1), ∀ a x, ((![v2251, v2247] : Fin 2 → IVec S16 32) a x).toNat < S64x256.size a := fun i v2247 v2251 k0_hw57 k0_h1 => k0_hw57 k0_h1

def k0_chk58 (i : grid0.Coords) (v2249 : IVec S16 32) (v2254 : IVec S16 32) : Prop :=
  (∀ (k0_h1 : k0_cond1 i = 1#1), ∀ a x, ((![v2249, v2254] : Fin 2 → IVec S16 32) a x).toNat < S128x128.size a)
theorem k0_idx58_inb : ∀ (i : grid0.Coords) (v2249 : IVec S16 32) (v2254 : IVec S16 32) (k0_hw58 : k0_chk58 i v2249 v2254), ∀ (k0_h1 : k0_cond1 i = 1#1), ∀ a x, ((![v2249, v2254] : Fin 2 → IVec S16 32) a x).toNat < S128x128.size a := fun i v2249 v2254 k0_hw58 k0_h1 => k0_hw58 k0_h1

def k0_chk59 (i : grid0.Coords) (v2247 : IVec S16 32) (v2256 : IVec S16 32) : Prop :=
  (∀ (k0_h1 : k0_cond1 i = 1#1), ∀ a x, ((![v2256, v2247] : Fin 2 → IVec S16 32) a x).toNat < S64x256.size a)
theorem k0_idx59_inb : ∀ (i : grid0.Coords) (v2247 : IVec S16 32) (v2256 : IVec S16 32) (k0_hw59 : k0_chk59 i v2247 v2256), ∀ (k0_h1 : k0_cond1 i = 1#1), ∀ a x, ((![v2256, v2247] : Fin 2 → IVec S16 32) a x).toNat < S64x256.size a := fun i v2247 v2256 k0_hw59 k0_h1 => k0_hw59 k0_h1

def k0_chk60 (i : grid0.Coords) (v2249 : IVec S16 32) (v2259 : IVec S16 32) : Prop :=
  (∀ (k0_h1 : k0_cond1 i = 1#1), ∀ a x, ((![v2249, v2259] : Fin 2 → IVec S16 32) a x).toNat < S128x128.size a)
theorem k0_idx60_inb : ∀ (i : grid0.Coords) (v2249 : IVec S16 32) (v2259 : IVec S16 32) (k0_hw60 : k0_chk60 i v2249 v2259), ∀ (k0_h1 : k0_cond1 i = 1#1), ∀ a x, ((![v2249, v2259] : Fin 2 → IVec S16 32) a x).toNat < S128x128.size a := fun i v2249 v2259 k0_hw60 k0_h1 => k0_hw60 k0_h1

def k0_chk61 (i : grid0.Coords) (v2247 : IVec S16 32) (v2261 : IVec S16 32) : Prop :=
  (∀ (k0_h1 : k0_cond1 i = 1#1), ∀ a x, ((![v2261, v2247] : Fin 2 → IVec S16 32) a x).toNat < S64x256.size a)
theorem k0_idx61_inb : ∀ (i : grid0.Coords) (v2247 : IVec S16 32) (v2261 : IVec S16 32) (k0_hw61 : k0_chk61 i v2247 v2261), ∀ (k0_h1 : k0_cond1 i = 1#1), ∀ a x, ((![v2261, v2247] : Fin 2 → IVec S16 32) a x).toNat < S64x256.size a := fun i v2247 v2261 k0_hw61 k0_h1 => k0_hw61 k0_h1

def k0_chk62 (i : grid0.Coords) (v2249 : IVec S16 32) (v2264 : IVec S16 32) : Prop :=
  (∀ (k0_h1 : k0_cond1 i = 1#1), ∀ a x, ((![v2249, v2264] : Fin 2 → IVec S16 32) a x).toNat < S128x128.size a)
theorem k0_idx62_inb : ∀ (i : grid0.Coords) (v2249 : IVec S16 32) (v2264 : IVec S16 32) (k0_hw62 : k0_chk62 i v2249 v2264), ∀ (k0_h1 : k0_cond1 i = 1#1), ∀ a x, ((![v2249, v2264] : Fin 2 → IVec S16 32) a x).toNat < S128x128.size a := fun i v2249 v2264 k0_hw62 k0_h1 => k0_hw62 k0_h1

def k0_chk63 (i : grid0.Coords) (v2247 : IVec S16 32) (v2266 : IVec S16 32) : Prop :=
  (∀ (k0_h1 : k0_cond1 i = 1#1), ∀ a x, ((![v2266, v2247] : Fin 2 → IVec S16 32) a x).toNat < S64x256.size a)
theorem k0_idx63_inb : ∀ (i : grid0.Coords) (v2247 : IVec S16 32) (v2266 : IVec S16 32) (k0_hw63 : k0_chk63 i v2247 v2266), ∀ (k0_h1 : k0_cond1 i = 1#1), ∀ a x, ((![v2266, v2247] : Fin 2 → IVec S16 32) a x).toNat < S64x256.size a := fun i v2247 v2266 k0_hw63 k0_h1 => k0_hw63 k0_h1

def k0_chk64 (i : grid0.Coords) (v2249 : IVec S16 32) (v2269 : IVec S16 32) : Prop :=
  (∀ (k0_h1 : k0_cond1 i = 1#1), ∀ a x, ((![v2249, v2269] : Fin 2 → IVec S16 32) a x).toNat < S128x128.size a)
theorem k0_idx64_inb : ∀ (i : grid0.Coords) (v2249 : IVec S16 32) (v2269 : IVec S16 32) (k0_hw64 : k0_chk64 i v2249 v2269), ∀ (k0_h1 : k0_cond1 i = 1#1), ∀ a x, ((![v2249, v2269] : Fin 2 → IVec S16 32) a x).toNat < S128x128.size a := fun i v2249 v2269 k0_hw64 k0_h1 => k0_hw64 k0_h1

def k0_chk65 (i : grid0.Coords) (v2273 : IVec S16 32) (v2277 : IVec S16 32) : Prop :=
  (∀ (k0_h1 : k0_cond1 i = 1#1), ∀ a x, ((![v2277, v2273] : Fin 2 → IVec S16 32) a x).toNat < S64x256.size a)
theorem k0_idx65_inb : ∀ (i : grid0.Coords) (v2273 : IVec S16 32) (v2277 : IVec S16 32) (k0_hw65 : k0_chk65 i v2273 v2277), ∀ (k0_h1 : k0_cond1 i = 1#1), ∀ a x, ((![v2277, v2273] : Fin 2 → IVec S16 32) a x).toNat < S64x256.size a := fun i v2273 v2277 k0_hw65 k0_h1 => k0_hw65 k0_h1

def k0_chk66 (i : grid0.Coords) (v2275 : IVec S16 32) (v2280 : IVec S16 32) : Prop :=
  (∀ (k0_h1 : k0_cond1 i = 1#1), ∀ a x, ((![v2275, v2280] : Fin 2 → IVec S16 32) a x).toNat < S128x128.size a)
theorem k0_idx66_inb : ∀ (i : grid0.Coords) (v2275 : IVec S16 32) (v2280 : IVec S16 32) (k0_hw66 : k0_chk66 i v2275 v2280), ∀ (k0_h1 : k0_cond1 i = 1#1), ∀ a x, ((![v2275, v2280] : Fin 2 → IVec S16 32) a x).toNat < S128x128.size a := fun i v2275 v2280 k0_hw66 k0_h1 => k0_hw66 k0_h1

def k0_chk67 (i : grid0.Coords) (v2273 : IVec S16 32) (v2282 : IVec S16 32) : Prop :=
  (∀ (k0_h1 : k0_cond1 i = 1#1), ∀ a x, ((![v2282, v2273] : Fin 2 → IVec S16 32) a x).toNat < S64x256.size a)
theorem k0_idx67_inb : ∀ (i : grid0.Coords) (v2273 : IVec S16 32) (v2282 : IVec S16 32) (k0_hw67 : k0_chk67 i v2273 v2282), ∀ (k0_h1 : k0_cond1 i = 1#1), ∀ a x, ((![v2282, v2273] : Fin 2 → IVec S16 32) a x).toNat < S64x256.size a := fun i v2273 v2282 k0_hw67 k0_h1 => k0_hw67 k0_h1

def k0_chk68 (i : grid0.Coords) (v2275 : IVec S16 32) (v2285 : IVec S16 32) : Prop :=
  (∀ (k0_h1 : k0_cond1 i = 1#1), ∀ a x, ((![v2275, v2285] : Fin 2 → IVec S16 32) a x).toNat < S128x128.size a)
theorem k0_idx68_inb : ∀ (i : grid0.Coords) (v2275 : IVec S16 32) (v2285 : IVec S16 32) (k0_hw68 : k0_chk68 i v2275 v2285), ∀ (k0_h1 : k0_cond1 i = 1#1), ∀ a x, ((![v2275, v2285] : Fin 2 → IVec S16 32) a x).toNat < S128x128.size a := fun i v2275 v2285 k0_hw68 k0_h1 => k0_hw68 k0_h1

def k0_chk69 (i : grid0.Coords) (v2273 : IVec S16 32) (v2287 : IVec S16 32) : Prop :=
  (∀ (k0_h1 : k0_cond1 i = 1#1), ∀ a x, ((![v2287, v2273] : Fin 2 → IVec S16 32) a x).toNat < S64x256.size a)
theorem k0_idx69_inb : ∀ (i : grid0.Coords) (v2273 : IVec S16 32) (v2287 : IVec S16 32) (k0_hw69 : k0_chk69 i v2273 v2287), ∀ (k0_h1 : k0_cond1 i = 1#1), ∀ a x, ((![v2287, v2273] : Fin 2 → IVec S16 32) a x).toNat < S64x256.size a := fun i v2273 v2287 k0_hw69 k0_h1 => k0_hw69 k0_h1

def k0_chk70 (i : grid0.Coords) (v2275 : IVec S16 32) (v2290 : IVec S16 32) : Prop :=
  (∀ (k0_h1 : k0_cond1 i = 1#1), ∀ a x, ((![v2275, v2290] : Fin 2 → IVec S16 32) a x).toNat < S128x128.size a)
theorem k0_idx70_inb : ∀ (i : grid0.Coords) (v2275 : IVec S16 32) (v2290 : IVec S16 32) (k0_hw70 : k0_chk70 i v2275 v2290), ∀ (k0_h1 : k0_cond1 i = 1#1), ∀ a x, ((![v2275, v2290] : Fin 2 → IVec S16 32) a x).toNat < S128x128.size a := fun i v2275 v2290 k0_hw70 k0_h1 => k0_hw70 k0_h1

def k0_chk71 (i : grid0.Coords) (v2273 : IVec S16 32) (v2292 : IVec S16 32) : Prop :=
  (∀ (k0_h1 : k0_cond1 i = 1#1), ∀ a x, ((![v2292, v2273] : Fin 2 → IVec S16 32) a x).toNat < S64x256.size a)
theorem k0_idx71_inb : ∀ (i : grid0.Coords) (v2273 : IVec S16 32) (v2292 : IVec S16 32) (k0_hw71 : k0_chk71 i v2273 v2292), ∀ (k0_h1 : k0_cond1 i = 1#1), ∀ a x, ((![v2292, v2273] : Fin 2 → IVec S16 32) a x).toNat < S64x256.size a := fun i v2273 v2292 k0_hw71 k0_h1 => k0_hw71 k0_h1

def k0_chk72 (i : grid0.Coords) (v2275 : IVec S16 32) (v2295 : IVec S16 32) : Prop :=
  (∀ (k0_h1 : k0_cond1 i = 1#1), ∀ a x, ((![v2275, v2295] : Fin 2 → IVec S16 32) a x).toNat < S128x128.size a)
theorem k0_idx72_inb : ∀ (i : grid0.Coords) (v2275 : IVec S16 32) (v2295 : IVec S16 32) (k0_hw72 : k0_chk72 i v2275 v2295), ∀ (k0_h1 : k0_cond1 i = 1#1), ∀ a x, ((![v2275, v2295] : Fin 2 → IVec S16 32) a x).toNat < S128x128.size a := fun i v2275 v2295 k0_hw72 k0_h1 => k0_hw72 k0_h1

def k0_chk73 (i : grid0.Coords) (v2299 : IVec S16 32) (v2303 : IVec S16 32) : Prop :=
  (∀ (k0_h1 : k0_cond1 i = 1#1), ∀ a x, ((![v2303, v2299] : Fin 2 → IVec S16 32) a x).toNat < S64x256.size a)
theorem k0_idx73_inb : ∀ (i : grid0.Coords) (v2299 : IVec S16 32) (v2303 : IVec S16 32) (k0_hw73 : k0_chk73 i v2299 v2303), ∀ (k0_h1 : k0_cond1 i = 1#1), ∀ a x, ((![v2303, v2299] : Fin 2 → IVec S16 32) a x).toNat < S64x256.size a := fun i v2299 v2303 k0_hw73 k0_h1 => k0_hw73 k0_h1

def k0_chk74 (i : grid0.Coords) (v2301 : IVec S16 32) (v2306 : IVec S16 32) : Prop :=
  (∀ (k0_h1 : k0_cond1 i = 1#1), ∀ a x, ((![v2301, v2306] : Fin 2 → IVec S16 32) a x).toNat < S128x128.size a)
theorem k0_idx74_inb : ∀ (i : grid0.Coords) (v2301 : IVec S16 32) (v2306 : IVec S16 32) (k0_hw74 : k0_chk74 i v2301 v2306), ∀ (k0_h1 : k0_cond1 i = 1#1), ∀ a x, ((![v2301, v2306] : Fin 2 → IVec S16 32) a x).toNat < S128x128.size a := fun i v2301 v2306 k0_hw74 k0_h1 => k0_hw74 k0_h1

def k0_chk75 (i : grid0.Coords) (v2299 : IVec S16 32) (v2308 : IVec S16 32) : Prop :=
  (∀ (k0_h1 : k0_cond1 i = 1#1), ∀ a x, ((![v2308, v2299] : Fin 2 → IVec S16 32) a x).toNat < S64x256.size a)
theorem k0_idx75_inb : ∀ (i : grid0.Coords) (v2299 : IVec S16 32) (v2308 : IVec S16 32) (k0_hw75 : k0_chk75 i v2299 v2308), ∀ (k0_h1 : k0_cond1 i = 1#1), ∀ a x, ((![v2308, v2299] : Fin 2 → IVec S16 32) a x).toNat < S64x256.size a := fun i v2299 v2308 k0_hw75 k0_h1 => k0_hw75 k0_h1

def k0_chk76 (i : grid0.Coords) (v2301 : IVec S16 32) (v2311 : IVec S16 32) : Prop :=
  (∀ (k0_h1 : k0_cond1 i = 1#1), ∀ a x, ((![v2301, v2311] : Fin 2 → IVec S16 32) a x).toNat < S128x128.size a)
theorem k0_idx76_inb : ∀ (i : grid0.Coords) (v2301 : IVec S16 32) (v2311 : IVec S16 32) (k0_hw76 : k0_chk76 i v2301 v2311), ∀ (k0_h1 : k0_cond1 i = 1#1), ∀ a x, ((![v2301, v2311] : Fin 2 → IVec S16 32) a x).toNat < S128x128.size a := fun i v2301 v2311 k0_hw76 k0_h1 => k0_hw76 k0_h1

def k0_chk77 (i : grid0.Coords) (v2299 : IVec S16 32) (v2313 : IVec S16 32) : Prop :=
  (∀ (k0_h1 : k0_cond1 i = 1#1), ∀ a x, ((![v2313, v2299] : Fin 2 → IVec S16 32) a x).toNat < S64x256.size a)
theorem k0_idx77_inb : ∀ (i : grid0.Coords) (v2299 : IVec S16 32) (v2313 : IVec S16 32) (k0_hw77 : k0_chk77 i v2299 v2313), ∀ (k0_h1 : k0_cond1 i = 1#1), ∀ a x, ((![v2313, v2299] : Fin 2 → IVec S16 32) a x).toNat < S64x256.size a := fun i v2299 v2313 k0_hw77 k0_h1 => k0_hw77 k0_h1

def k0_chk78 (i : grid0.Coords) (v2301 : IVec S16 32) (v2316 : IVec S16 32) : Prop :=
  (∀ (k0_h1 : k0_cond1 i = 1#1), ∀ a x, ((![v2301, v2316] : Fin 2 → IVec S16 32) a x).toNat < S128x128.size a)
theorem k0_idx78_inb : ∀ (i : grid0.Coords) (v2301 : IVec S16 32) (v2316 : IVec S16 32) (k0_hw78 : k0_chk78 i v2301 v2316), ∀ (k0_h1 : k0_cond1 i = 1#1), ∀ a x, ((![v2301, v2316] : Fin 2 → IVec S16 32) a x).toNat < S128x128.size a := fun i v2301 v2316 k0_hw78 k0_h1 => k0_hw78 k0_h1

def k0_chk79 (i : grid0.Coords) (v2299 : IVec S16 32) (v2318 : IVec S16 32) : Prop :=
  (∀ (k0_h1 : k0_cond1 i = 1#1), ∀ a x, ((![v2318, v2299] : Fin 2 → IVec S16 32) a x).toNat < S64x256.size a)
theorem k0_idx79_inb : ∀ (i : grid0.Coords) (v2299 : IVec S16 32) (v2318 : IVec S16 32) (k0_hw79 : k0_chk79 i v2299 v2318), ∀ (k0_h1 : k0_cond1 i = 1#1), ∀ a x, ((![v2318, v2299] : Fin 2 → IVec S16 32) a x).toNat < S64x256.size a := fun i v2299 v2318 k0_hw79 k0_h1 => k0_hw79 k0_h1

def k0_chk80 (i : grid0.Coords) (v2301 : IVec S16 32) (v2321 : IVec S16 32) : Prop :=
  (∀ (k0_h1 : k0_cond1 i = 1#1), ∀ a x, ((![v2301, v2321] : Fin 2 → IVec S16 32) a x).toNat < S128x128.size a)
theorem k0_idx80_inb : ∀ (i : grid0.Coords) (v2301 : IVec S16 32) (v2321 : IVec S16 32) (k0_hw80 : k0_chk80 i v2301 v2321), ∀ (k0_h1 : k0_cond1 i = 1#1), ∀ a x, ((![v2301, v2321] : Fin 2 → IVec S16 32) a x).toNat < S128x128.size a := fun i v2301 v2321 k0_hw80 k0_h1 => k0_hw80 k0_h1

def k0_chk81 (i : grid0.Coords) (v2325 : IVec S16 32) (v2329 : IVec S16 32) : Prop :=
  (∀ (k0_h1 : k0_cond1 i = 1#1), ∀ a x, ((![v2329, v2325] : Fin 2 → IVec S16 32) a x).toNat < S64x256.size a)
theorem k0_idx81_inb : ∀ (i : grid0.Coords) (v2325 : IVec S16 32) (v2329 : IVec S16 32) (k0_hw81 : k0_chk81 i v2325 v2329), ∀ (k0_h1 : k0_cond1 i = 1#1), ∀ a x, ((![v2329, v2325] : Fin 2 → IVec S16 32) a x).toNat < S64x256.size a := fun i v2325 v2329 k0_hw81 k0_h1 => k0_hw81 k0_h1

def k0_chk82 (i : grid0.Coords) (v2327 : IVec S16 32) (v2332 : IVec S16 32) : Prop :=
  (∀ (k0_h1 : k0_cond1 i = 1#1), ∀ a x, ((![v2327, v2332] : Fin 2 → IVec S16 32) a x).toNat < S128x128.size a)
theorem k0_idx82_inb : ∀ (i : grid0.Coords) (v2327 : IVec S16 32) (v2332 : IVec S16 32) (k0_hw82 : k0_chk82 i v2327 v2332), ∀ (k0_h1 : k0_cond1 i = 1#1), ∀ a x, ((![v2327, v2332] : Fin 2 → IVec S16 32) a x).toNat < S128x128.size a := fun i v2327 v2332 k0_hw82 k0_h1 => k0_hw82 k0_h1

def k0_chk83 (i : grid0.Coords) (v2325 : IVec S16 32) (v2334 : IVec S16 32) : Prop :=
  (∀ (k0_h1 : k0_cond1 i = 1#1), ∀ a x, ((![v2334, v2325] : Fin 2 → IVec S16 32) a x).toNat < S64x256.size a)
theorem k0_idx83_inb : ∀ (i : grid0.Coords) (v2325 : IVec S16 32) (v2334 : IVec S16 32) (k0_hw83 : k0_chk83 i v2325 v2334), ∀ (k0_h1 : k0_cond1 i = 1#1), ∀ a x, ((![v2334, v2325] : Fin 2 → IVec S16 32) a x).toNat < S64x256.size a := fun i v2325 v2334 k0_hw83 k0_h1 => k0_hw83 k0_h1

def k0_chk84 (i : grid0.Coords) (v2327 : IVec S16 32) (v2337 : IVec S16 32) : Prop :=
  (∀ (k0_h1 : k0_cond1 i = 1#1), ∀ a x, ((![v2327, v2337] : Fin 2 → IVec S16 32) a x).toNat < S128x128.size a)
theorem k0_idx84_inb : ∀ (i : grid0.Coords) (v2327 : IVec S16 32) (v2337 : IVec S16 32) (k0_hw84 : k0_chk84 i v2327 v2337), ∀ (k0_h1 : k0_cond1 i = 1#1), ∀ a x, ((![v2327, v2337] : Fin 2 → IVec S16 32) a x).toNat < S128x128.size a := fun i v2327 v2337 k0_hw84 k0_h1 => k0_hw84 k0_h1

def k0_chk85 (i : grid0.Coords) (v2325 : IVec S16 32) (v2339 : IVec S16 32) : Prop :=
  (∀ (k0_h1 : k0_cond1 i = 1#1), ∀ a x, ((![v2339, v2325] : Fin 2 → IVec S16 32) a x).toNat < S64x256.size a)
theorem k0_idx85_inb : ∀ (i : grid0.Coords) (v2325 : IVec S16 32) (v2339 : IVec S16 32) (k0_hw85 : k0_chk85 i v2325 v2339), ∀ (k0_h1 : k0_cond1 i = 1#1), ∀ a x, ((![v2339, v2325] : Fin 2 → IVec S16 32) a x).toNat < S64x256.size a := fun i v2325 v2339 k0_hw85 k0_h1 => k0_hw85 k0_h1

def k0_chk86 (i : grid0.Coords) (v2327 : IVec S16 32) (v2342 : IVec S16 32) : Prop :=
  (∀ (k0_h1 : k0_cond1 i = 1#1), ∀ a x, ((![v2327, v2342] : Fin 2 → IVec S16 32) a x).toNat < S128x128.size a)
theorem k0_idx86_inb : ∀ (i : grid0.Coords) (v2327 : IVec S16 32) (v2342 : IVec S16 32) (k0_hw86 : k0_chk86 i v2327 v2342), ∀ (k0_h1 : k0_cond1 i = 1#1), ∀ a x, ((![v2327, v2342] : Fin 2 → IVec S16 32) a x).toNat < S128x128.size a := fun i v2327 v2342 k0_hw86 k0_h1 => k0_hw86 k0_h1

def k0_chk87 (i : grid0.Coords) (v2325 : IVec S16 32) (v2344 : IVec S16 32) : Prop :=
  (∀ (k0_h1 : k0_cond1 i = 1#1), ∀ a x, ((![v2344, v2325] : Fin 2 → IVec S16 32) a x).toNat < S64x256.size a)
theorem k0_idx87_inb : ∀ (i : grid0.Coords) (v2325 : IVec S16 32) (v2344 : IVec S16 32) (k0_hw87 : k0_chk87 i v2325 v2344), ∀ (k0_h1 : k0_cond1 i = 1#1), ∀ a x, ((![v2344, v2325] : Fin 2 → IVec S16 32) a x).toNat < S64x256.size a := fun i v2325 v2344 k0_hw87 k0_h1 => k0_hw87 k0_h1

def k0_chk88 (i : grid0.Coords) (v2327 : IVec S16 32) (v2347 : IVec S16 32) : Prop :=
  (∀ (k0_h1 : k0_cond1 i = 1#1), ∀ a x, ((![v2327, v2347] : Fin 2 → IVec S16 32) a x).toNat < S128x128.size a)
theorem k0_idx88_inb : ∀ (i : grid0.Coords) (v2327 : IVec S16 32) (v2347 : IVec S16 32) (k0_hw88 : k0_chk88 i v2327 v2347), ∀ (k0_h1 : k0_cond1 i = 1#1), ∀ a x, ((![v2327, v2347] : Fin 2 → IVec S16 32) a x).toNat < S128x128.size a := fun i v2327 v2347 k0_hw88 k0_h1 => k0_hw88 k0_h1

def k0_chk89 (i : grid0.Coords) (v2351 : IVec S16 32) (v2355 : IVec S16 32) : Prop :=
  (∀ (k0_h1 : k0_cond1 i = 1#1), ∀ a x, ((![v2355, v2351] : Fin 2 → IVec S16 32) a x).toNat < S64x256.size a)
theorem k0_idx89_inb : ∀ (i : grid0.Coords) (v2351 : IVec S16 32) (v2355 : IVec S16 32) (k0_hw89 : k0_chk89 i v2351 v2355), ∀ (k0_h1 : k0_cond1 i = 1#1), ∀ a x, ((![v2355, v2351] : Fin 2 → IVec S16 32) a x).toNat < S64x256.size a := fun i v2351 v2355 k0_hw89 k0_h1 => k0_hw89 k0_h1

def k0_chk90 (i : grid0.Coords) (v2353 : IVec S16 32) (v2358 : IVec S16 32) : Prop :=
  (∀ (k0_h1 : k0_cond1 i = 1#1), ∀ a x, ((![v2353, v2358] : Fin 2 → IVec S16 32) a x).toNat < S128x128.size a)
theorem k0_idx90_inb : ∀ (i : grid0.Coords) (v2353 : IVec S16 32) (v2358 : IVec S16 32) (k0_hw90 : k0_chk90 i v2353 v2358), ∀ (k0_h1 : k0_cond1 i = 1#1), ∀ a x, ((![v2353, v2358] : Fin 2 → IVec S16 32) a x).toNat < S128x128.size a := fun i v2353 v2358 k0_hw90 k0_h1 => k0_hw90 k0_h1

def k0_chk91 (i : grid0.Coords) (v2351 : IVec S16 32) (v2360 : IVec S16 32) : Prop :=
  (∀ (k0_h1 : k0_cond1 i = 1#1), ∀ a x, ((![v2360, v2351] : Fin 2 → IVec S16 32) a x).toNat < S64x256.size a)
theorem k0_idx91_inb : ∀ (i : grid0.Coords) (v2351 : IVec S16 32) (v2360 : IVec S16 32) (k0_hw91 : k0_chk91 i v2351 v2360), ∀ (k0_h1 : k0_cond1 i = 1#1), ∀ a x, ((![v2360, v2351] : Fin 2 → IVec S16 32) a x).toNat < S64x256.size a := fun i v2351 v2360 k0_hw91 k0_h1 => k0_hw91 k0_h1

def k0_chk92 (i : grid0.Coords) (v2353 : IVec S16 32) (v2363 : IVec S16 32) : Prop :=
  (∀ (k0_h1 : k0_cond1 i = 1#1), ∀ a x, ((![v2353, v2363] : Fin 2 → IVec S16 32) a x).toNat < S128x128.size a)
theorem k0_idx92_inb : ∀ (i : grid0.Coords) (v2353 : IVec S16 32) (v2363 : IVec S16 32) (k0_hw92 : k0_chk92 i v2353 v2363), ∀ (k0_h1 : k0_cond1 i = 1#1), ∀ a x, ((![v2353, v2363] : Fin 2 → IVec S16 32) a x).toNat < S128x128.size a := fun i v2353 v2363 k0_hw92 k0_h1 => k0_hw92 k0_h1

def k0_chk93 (i : grid0.Coords) (v2351 : IVec S16 32) (v2365 : IVec S16 32) : Prop :=
  (∀ (k0_h1 : k0_cond1 i = 1#1), ∀ a x, ((![v2365, v2351] : Fin 2 → IVec S16 32) a x).toNat < S64x256.size a)
theorem k0_idx93_inb : ∀ (i : grid0.Coords) (v2351 : IVec S16 32) (v2365 : IVec S16 32) (k0_hw93 : k0_chk93 i v2351 v2365), ∀ (k0_h1 : k0_cond1 i = 1#1), ∀ a x, ((![v2365, v2351] : Fin 2 → IVec S16 32) a x).toNat < S64x256.size a := fun i v2351 v2365 k0_hw93 k0_h1 => k0_hw93 k0_h1

def k0_chk94 (i : grid0.Coords) (v2353 : IVec S16 32) (v2368 : IVec S16 32) : Prop :=
  (∀ (k0_h1 : k0_cond1 i = 1#1), ∀ a x, ((![v2353, v2368] : Fin 2 → IVec S16 32) a x).toNat < S128x128.size a)
theorem k0_idx94_inb : ∀ (i : grid0.Coords) (v2353 : IVec S16 32) (v2368 : IVec S16 32) (k0_hw94 : k0_chk94 i v2353 v2368), ∀ (k0_h1 : k0_cond1 i = 1#1), ∀ a x, ((![v2353, v2368] : Fin 2 → IVec S16 32) a x).toNat < S128x128.size a := fun i v2353 v2368 k0_hw94 k0_h1 => k0_hw94 k0_h1

def k0_chk95 (i : grid0.Coords) (v2351 : IVec S16 32) (v2370 : IVec S16 32) : Prop :=
  (∀ (k0_h1 : k0_cond1 i = 1#1), ∀ a x, ((![v2370, v2351] : Fin 2 → IVec S16 32) a x).toNat < S64x256.size a)
theorem k0_idx95_inb : ∀ (i : grid0.Coords) (v2351 : IVec S16 32) (v2370 : IVec S16 32) (k0_hw95 : k0_chk95 i v2351 v2370), ∀ (k0_h1 : k0_cond1 i = 1#1), ∀ a x, ((![v2370, v2351] : Fin 2 → IVec S16 32) a x).toNat < S64x256.size a := fun i v2351 v2370 k0_hw95 k0_h1 => k0_hw95 k0_h1

def k0_chk96 (i : grid0.Coords) (v2353 : IVec S16 32) (v2373 : IVec S16 32) : Prop :=
  (∀ (k0_h1 : k0_cond1 i = 1#1), ∀ a x, ((![v2353, v2373] : Fin 2 → IVec S16 32) a x).toNat < S128x128.size a)
theorem k0_idx96_inb : ∀ (i : grid0.Coords) (v2353 : IVec S16 32) (v2373 : IVec S16 32) (k0_hw96 : k0_chk96 i v2353 v2373), ∀ (k0_h1 : k0_cond1 i = 1#1), ∀ a x, ((![v2353, v2373] : Fin 2 → IVec S16 32) a x).toNat < S128x128.size a := fun i v2353 v2373 k0_hw96 k0_h1 => k0_hw96 k0_h1

def k0_chk97 (i : grid0.Coords) (v2377 : IVec S16 32) (v2381 : IVec S16 32) : Prop :=
  (∀ (k0_h1 : k0_cond1 i = 1#1), ∀ a x, ((![v2381, v2377] : Fin 2 → IVec S16 32) a x).toNat < S64x256.size a)
theorem k0_idx97_inb : ∀ (i : grid0.Coords) (v2377 : IVec S16 32) (v2381 : IVec S16 32) (k0_hw97 : k0_chk97 i v2377 v2381), ∀ (k0_h1 : k0_cond1 i = 1#1), ∀ a x, ((![v2381, v2377] : Fin 2 → IVec S16 32) a x).toNat < S64x256.size a := fun i v2377 v2381 k0_hw97 k0_h1 => k0_hw97 k0_h1

def k0_chk98 (i : grid0.Coords) (v2379 : IVec S16 32) (v2384 : IVec S16 32) : Prop :=
  (∀ (k0_h1 : k0_cond1 i = 1#1), ∀ a x, ((![v2379, v2384] : Fin 2 → IVec S16 32) a x).toNat < S128x128.size a)
theorem k0_idx98_inb : ∀ (i : grid0.Coords) (v2379 : IVec S16 32) (v2384 : IVec S16 32) (k0_hw98 : k0_chk98 i v2379 v2384), ∀ (k0_h1 : k0_cond1 i = 1#1), ∀ a x, ((![v2379, v2384] : Fin 2 → IVec S16 32) a x).toNat < S128x128.size a := fun i v2379 v2384 k0_hw98 k0_h1 => k0_hw98 k0_h1

def k0_chk99 (i : grid0.Coords) (v2377 : IVec S16 32) (v2386 : IVec S16 32) : Prop :=
  (∀ (k0_h1 : k0_cond1 i = 1#1), ∀ a x, ((![v2386, v2377] : Fin 2 → IVec S16 32) a x).toNat < S64x256.size a)
theorem k0_idx99_inb : ∀ (i : grid0.Coords) (v2377 : IVec S16 32) (v2386 : IVec S16 32) (k0_hw99 : k0_chk99 i v2377 v2386), ∀ (k0_h1 : k0_cond1 i = 1#1), ∀ a x, ((![v2386, v2377] : Fin 2 → IVec S16 32) a x).toNat < S64x256.size a := fun i v2377 v2386 k0_hw99 k0_h1 => k0_hw99 k0_h1

def k0_chk100 (i : grid0.Coords) (v2379 : IVec S16 32) (v2389 : IVec S16 32) : Prop :=
  (∀ (k0_h1 : k0_cond1 i = 1#1), ∀ a x, ((![v2379, v2389] : Fin 2 → IVec S16 32) a x).toNat < S128x128.size a)
theorem k0_idx100_inb : ∀ (i : grid0.Coords) (v2379 : IVec S16 32) (v2389 : IVec S16 32) (k0_hw100 : k0_chk100 i v2379 v2389), ∀ (k0_h1 : k0_cond1 i = 1#1), ∀ a x, ((![v2379, v2389] : Fin 2 → IVec S16 32) a x).toNat < S128x128.size a := fun i v2379 v2389 k0_hw100 k0_h1 => k0_hw100 k0_h1

def k0_chk101 (i : grid0.Coords) (v2377 : IVec S16 32) (v2391 : IVec S16 32) : Prop :=
  (∀ (k0_h1 : k0_cond1 i = 1#1), ∀ a x, ((![v2391, v2377] : Fin 2 → IVec S16 32) a x).toNat < S64x256.size a)
theorem k0_idx101_inb : ∀ (i : grid0.Coords) (v2377 : IVec S16 32) (v2391 : IVec S16 32) (k0_hw101 : k0_chk101 i v2377 v2391), ∀ (k0_h1 : k0_cond1 i = 1#1), ∀ a x, ((![v2391, v2377] : Fin 2 → IVec S16 32) a x).toNat < S64x256.size a := fun i v2377 v2391 k0_hw101 k0_h1 => k0_hw101 k0_h1

def k0_chk102 (i : grid0.Coords) (v2379 : IVec S16 32) (v2394 : IVec S16 32) : Prop :=
  (∀ (k0_h1 : k0_cond1 i = 1#1), ∀ a x, ((![v2379, v2394] : Fin 2 → IVec S16 32) a x).toNat < S128x128.size a)
theorem k0_idx102_inb : ∀ (i : grid0.Coords) (v2379 : IVec S16 32) (v2394 : IVec S16 32) (k0_hw102 : k0_chk102 i v2379 v2394), ∀ (k0_h1 : k0_cond1 i = 1#1), ∀ a x, ((![v2379, v2394] : Fin 2 → IVec S16 32) a x).toNat < S128x128.size a := fun i v2379 v2394 k0_hw102 k0_h1 => k0_hw102 k0_h1

def k0_chk103 (i : grid0.Coords) (v2377 : IVec S16 32) (v2396 : IVec S16 32) : Prop :=
  (∀ (k0_h1 : k0_cond1 i = 1#1), ∀ a x, ((![v2396, v2377] : Fin 2 → IVec S16 32) a x).toNat < S64x256.size a)
theorem k0_idx103_inb : ∀ (i : grid0.Coords) (v2377 : IVec S16 32) (v2396 : IVec S16 32) (k0_hw103 : k0_chk103 i v2377 v2396), ∀ (k0_h1 : k0_cond1 i = 1#1), ∀ a x, ((![v2396, v2377] : Fin 2 → IVec S16 32) a x).toNat < S64x256.size a := fun i v2377 v2396 k0_hw103 k0_h1 => k0_hw103 k0_h1

def k0_chk104 (i : grid0.Coords) (v2379 : IVec S16 32) (v2399 : IVec S16 32) : Prop :=
  (∀ (k0_h1 : k0_cond1 i = 1#1), ∀ a x, ((![v2379, v2399] : Fin 2 → IVec S16 32) a x).toNat < S128x128.size a)
theorem k0_idx104_inb : ∀ (i : grid0.Coords) (v2379 : IVec S16 32) (v2399 : IVec S16 32) (k0_hw104 : k0_chk104 i v2379 v2399), ∀ (k0_h1 : k0_cond1 i = 1#1), ∀ a x, ((![v2379, v2399] : Fin 2 → IVec S16 32) a x).toNat < S128x128.size a := fun i v2379 v2399 k0_hw104 k0_h1 => k0_hw104 k0_h1

def k0_chk105 (i : grid0.Coords) (v2403 : IVec S16 32) (v2407 : IVec S16 32) : Prop :=
  (∀ (k0_h1 : k0_cond1 i = 1#1), ∀ a x, ((![v2407, v2403] : Fin 2 → IVec S16 32) a x).toNat < S64x256.size a)
theorem k0_idx105_inb : ∀ (i : grid0.Coords) (v2403 : IVec S16 32) (v2407 : IVec S16 32) (k0_hw105 : k0_chk105 i v2403 v2407), ∀ (k0_h1 : k0_cond1 i = 1#1), ∀ a x, ((![v2407, v2403] : Fin 2 → IVec S16 32) a x).toNat < S64x256.size a := fun i v2403 v2407 k0_hw105 k0_h1 => k0_hw105 k0_h1

def k0_chk106 (i : grid0.Coords) (v2405 : IVec S16 32) (v2410 : IVec S16 32) : Prop :=
  (∀ (k0_h1 : k0_cond1 i = 1#1), ∀ a x, ((![v2405, v2410] : Fin 2 → IVec S16 32) a x).toNat < S128x128.size a)
theorem k0_idx106_inb : ∀ (i : grid0.Coords) (v2405 : IVec S16 32) (v2410 : IVec S16 32) (k0_hw106 : k0_chk106 i v2405 v2410), ∀ (k0_h1 : k0_cond1 i = 1#1), ∀ a x, ((![v2405, v2410] : Fin 2 → IVec S16 32) a x).toNat < S128x128.size a := fun i v2405 v2410 k0_hw106 k0_h1 => k0_hw106 k0_h1

def k0_chk107 (i : grid0.Coords) (v2403 : IVec S16 32) (v2412 : IVec S16 32) : Prop :=
  (∀ (k0_h1 : k0_cond1 i = 1#1), ∀ a x, ((![v2412, v2403] : Fin 2 → IVec S16 32) a x).toNat < S64x256.size a)
theorem k0_idx107_inb : ∀ (i : grid0.Coords) (v2403 : IVec S16 32) (v2412 : IVec S16 32) (k0_hw107 : k0_chk107 i v2403 v2412), ∀ (k0_h1 : k0_cond1 i = 1#1), ∀ a x, ((![v2412, v2403] : Fin 2 → IVec S16 32) a x).toNat < S64x256.size a := fun i v2403 v2412 k0_hw107 k0_h1 => k0_hw107 k0_h1

def k0_chk108 (i : grid0.Coords) (v2405 : IVec S16 32) (v2415 : IVec S16 32) : Prop :=
  (∀ (k0_h1 : k0_cond1 i = 1#1), ∀ a x, ((![v2405, v2415] : Fin 2 → IVec S16 32) a x).toNat < S128x128.size a)
theorem k0_idx108_inb : ∀ (i : grid0.Coords) (v2405 : IVec S16 32) (v2415 : IVec S16 32) (k0_hw108 : k0_chk108 i v2405 v2415), ∀ (k0_h1 : k0_cond1 i = 1#1), ∀ a x, ((![v2405, v2415] : Fin 2 → IVec S16 32) a x).toNat < S128x128.size a := fun i v2405 v2415 k0_hw108 k0_h1 => k0_hw108 k0_h1

def k0_chk109 (i : grid0.Coords) (v2403 : IVec S16 32) (v2417 : IVec S16 32) : Prop :=
  (∀ (k0_h1 : k0_cond1 i = 1#1), ∀ a x, ((![v2417, v2403] : Fin 2 → IVec S16 32) a x).toNat < S64x256.size a)
theorem k0_idx109_inb : ∀ (i : grid0.Coords) (v2403 : IVec S16 32) (v2417 : IVec S16 32) (k0_hw109 : k0_chk109 i v2403 v2417), ∀ (k0_h1 : k0_cond1 i = 1#1), ∀ a x, ((![v2417, v2403] : Fin 2 → IVec S16 32) a x).toNat < S64x256.size a := fun i v2403 v2417 k0_hw109 k0_h1 => k0_hw109 k0_h1

def k0_chk110 (i : grid0.Coords) (v2405 : IVec S16 32) (v2420 : IVec S16 32) : Prop :=
  (∀ (k0_h1 : k0_cond1 i = 1#1), ∀ a x, ((![v2405, v2420] : Fin 2 → IVec S16 32) a x).toNat < S128x128.size a)
theorem k0_idx110_inb : ∀ (i : grid0.Coords) (v2405 : IVec S16 32) (v2420 : IVec S16 32) (k0_hw110 : k0_chk110 i v2405 v2420), ∀ (k0_h1 : k0_cond1 i = 1#1), ∀ a x, ((![v2405, v2420] : Fin 2 → IVec S16 32) a x).toNat < S128x128.size a := fun i v2405 v2420 k0_hw110 k0_h1 => k0_hw110 k0_h1

def k0_chk111 (i : grid0.Coords) (v2403 : IVec S16 32) (v2422 : IVec S16 32) : Prop :=
  (∀ (k0_h1 : k0_cond1 i = 1#1), ∀ a x, ((![v2422, v2403] : Fin 2 → IVec S16 32) a x).toNat < S64x256.size a)
theorem k0_idx111_inb : ∀ (i : grid0.Coords) (v2403 : IVec S16 32) (v2422 : IVec S16 32) (k0_hw111 : k0_chk111 i v2403 v2422), ∀ (k0_h1 : k0_cond1 i = 1#1), ∀ a x, ((![v2422, v2403] : Fin 2 → IVec S16 32) a x).toNat < S64x256.size a := fun i v2403 v2422 k0_hw111 k0_h1 => k0_hw111 k0_h1

def k0_chk112 (i : grid0.Coords) (v2405 : IVec S16 32) (v2425 : IVec S16 32) : Prop :=
  (∀ (k0_h1 : k0_cond1 i = 1#1), ∀ a x, ((![v2405, v2425] : Fin 2 → IVec S16 32) a x).toNat < S128x128.size a)
theorem k0_idx112_inb : ∀ (i : grid0.Coords) (v2405 : IVec S16 32) (v2425 : IVec S16 32) (k0_hw112 : k0_chk112 i v2405 v2425), ∀ (k0_h1 : k0_cond1 i = 1#1), ∀ a x, ((![v2405, v2425] : Fin 2 → IVec S16 32) a x).toNat < S128x128.size a := fun i v2405 v2425 k0_hw112 k0_h1 => k0_hw112 k0_h1

def k0_chk113 (i : grid0.Coords) (v2429 : IVec S16 32) (v2433 : IVec S16 32) : Prop :=
  (∀ (k0_h1 : k0_cond1 i = 1#1), ∀ a x, ((![v2433, v2429] : Fin 2 → IVec S16 32) a x).toNat < S64x256.size a)
theorem k0_idx113_inb : ∀ (i : grid0.Coords) (v2429 : IVec S16 32) (v2433 : IVec S16 32) (k0_hw113 : k0_chk113 i v2429 v2433), ∀ (k0_h1 : k0_cond1 i = 1#1), ∀ a x, ((![v2433, v2429] : Fin 2 → IVec S16 32) a x).toNat < S64x256.size a := fun i v2429 v2433 k0_hw113 k0_h1 => k0_hw113 k0_h1

def k0_chk114 (i : grid0.Coords) (v2431 : IVec S16 32) (v2436 : IVec S16 32) : Prop :=
  (∀ (k0_h1 : k0_cond1 i = 1#1), ∀ a x, ((![v2431, v2436] : Fin 2 → IVec S16 32) a x).toNat < S128x128.size a)
theorem k0_idx114_inb : ∀ (i : grid0.Coords) (v2431 : IVec S16 32) (v2436 : IVec S16 32) (k0_hw114 : k0_chk114 i v2431 v2436), ∀ (k0_h1 : k0_cond1 i = 1#1), ∀ a x, ((![v2431, v2436] : Fin 2 → IVec S16 32) a x).toNat < S128x128.size a := fun i v2431 v2436 k0_hw114 k0_h1 => k0_hw114 k0_h1

def k0_chk115 (i : grid0.Coords) (v2429 : IVec S16 32) (v2438 : IVec S16 32) : Prop :=
  (∀ (k0_h1 : k0_cond1 i = 1#1), ∀ a x, ((![v2438, v2429] : Fin 2 → IVec S16 32) a x).toNat < S64x256.size a)
theorem k0_idx115_inb : ∀ (i : grid0.Coords) (v2429 : IVec S16 32) (v2438 : IVec S16 32) (k0_hw115 : k0_chk115 i v2429 v2438), ∀ (k0_h1 : k0_cond1 i = 1#1), ∀ a x, ((![v2438, v2429] : Fin 2 → IVec S16 32) a x).toNat < S64x256.size a := fun i v2429 v2438 k0_hw115 k0_h1 => k0_hw115 k0_h1

def k0_chk116 (i : grid0.Coords) (v2431 : IVec S16 32) (v2441 : IVec S16 32) : Prop :=
  (∀ (k0_h1 : k0_cond1 i = 1#1), ∀ a x, ((![v2431, v2441] : Fin 2 → IVec S16 32) a x).toNat < S128x128.size a)
theorem k0_idx116_inb : ∀ (i : grid0.Coords) (v2431 : IVec S16 32) (v2441 : IVec S16 32) (k0_hw116 : k0_chk116 i v2431 v2441), ∀ (k0_h1 : k0_cond1 i = 1#1), ∀ a x, ((![v2431, v2441] : Fin 2 → IVec S16 32) a x).toNat < S128x128.size a := fun i v2431 v2441 k0_hw116 k0_h1 => k0_hw116 k0_h1

def k0_chk117 (i : grid0.Coords) (v2429 : IVec S16 32) (v2443 : IVec S16 32) : Prop :=
  (∀ (k0_h1 : k0_cond1 i = 1#1), ∀ a x, ((![v2443, v2429] : Fin 2 → IVec S16 32) a x).toNat < S64x256.size a)
theorem k0_idx117_inb : ∀ (i : grid0.Coords) (v2429 : IVec S16 32) (v2443 : IVec S16 32) (k0_hw117 : k0_chk117 i v2429 v2443), ∀ (k0_h1 : k0_cond1 i = 1#1), ∀ a x, ((![v2443, v2429] : Fin 2 → IVec S16 32) a x).toNat < S64x256.size a := fun i v2429 v2443 k0_hw117 k0_h1 => k0_hw117 k0_h1

def k0_chk118 (i : grid0.Coords) (v2431 : IVec S16 32) (v2446 : IVec S16 32) : Prop :=
  (∀ (k0_h1 : k0_cond1 i = 1#1), ∀ a x, ((![v2431, v2446] : Fin 2 → IVec S16 32) a x).toNat < S128x128.size a)
theorem k0_idx118_inb : ∀ (i : grid0.Coords) (v2431 : IVec S16 32) (v2446 : IVec S16 32) (k0_hw118 : k0_chk118 i v2431 v2446), ∀ (k0_h1 : k0_cond1 i = 1#1), ∀ a x, ((![v2431, v2446] : Fin 2 → IVec S16 32) a x).toNat < S128x128.size a := fun i v2431 v2446 k0_hw118 k0_h1 => k0_hw118 k0_h1

def k0_chk119 (i : grid0.Coords) (v2429 : IVec S16 32) (v2448 : IVec S16 32) : Prop :=
  (∀ (k0_h1 : k0_cond1 i = 1#1), ∀ a x, ((![v2448, v2429] : Fin 2 → IVec S16 32) a x).toNat < S64x256.size a)
theorem k0_idx119_inb : ∀ (i : grid0.Coords) (v2429 : IVec S16 32) (v2448 : IVec S16 32) (k0_hw119 : k0_chk119 i v2429 v2448), ∀ (k0_h1 : k0_cond1 i = 1#1), ∀ a x, ((![v2448, v2429] : Fin 2 → IVec S16 32) a x).toNat < S64x256.size a := fun i v2429 v2448 k0_hw119 k0_h1 => k0_hw119 k0_h1

def k0_chk120 (i : grid0.Coords) (v2431 : IVec S16 32) (v2451 : IVec S16 32) : Prop :=
  (∀ (k0_h1 : k0_cond1 i = 1#1), ∀ a x, ((![v2431, v2451] : Fin 2 → IVec S16 32) a x).toNat < S128x128.size a)
theorem k0_idx120_inb : ∀ (i : grid0.Coords) (v2431 : IVec S16 32) (v2451 : IVec S16 32) (k0_hw120 : k0_chk120 i v2431 v2451), ∀ (k0_h1 : k0_cond1 i = 1#1), ∀ a x, ((![v2431, v2451] : Fin 2 → IVec S16 32) a x).toNat < S128x128.size a := fun i v2431 v2451 k0_hw120 k0_h1 => k0_hw120 k0_h1

def k0_chk121 (i : grid0.Coords) (v2455 : IVec S16 32) (v2459 : IVec S16 32) : Prop :=
  (∀ (k0_h1 : k0_cond1 i = 1#1), ∀ a x, ((![v2459, v2455] : Fin 2 → IVec S16 32) a x).toNat < S64x256.size a)
theorem k0_idx121_inb : ∀ (i : grid0.Coords) (v2455 : IVec S16 32) (v2459 : IVec S16 32) (k0_hw121 : k0_chk121 i v2455 v2459), ∀ (k0_h1 : k0_cond1 i = 1#1), ∀ a x, ((![v2459, v2455] : Fin 2 → IVec S16 32) a x).toNat < S64x256.size a := fun i v2455 v2459 k0_hw121 k0_h1 => k0_hw121 k0_h1

def k0_chk122 (i : grid0.Coords) (v2457 : IVec S16 32) (v2462 : IVec S16 32) : Prop :=
  (∀ (k0_h1 : k0_cond1 i = 1#1), ∀ a x, ((![v2457, v2462] : Fin 2 → IVec S16 32) a x).toNat < S128x128.size a)
theorem k0_idx122_inb : ∀ (i : grid0.Coords) (v2457 : IVec S16 32) (v2462 : IVec S16 32) (k0_hw122 : k0_chk122 i v2457 v2462), ∀ (k0_h1 : k0_cond1 i = 1#1), ∀ a x, ((![v2457, v2462] : Fin 2 → IVec S16 32) a x).toNat < S128x128.size a := fun i v2457 v2462 k0_hw122 k0_h1 => k0_hw122 k0_h1

def k0_chk123 (i : grid0.Coords) (v2455 : IVec S16 32) (v2464 : IVec S16 32) : Prop :=
  (∀ (k0_h1 : k0_cond1 i = 1#1), ∀ a x, ((![v2464, v2455] : Fin 2 → IVec S16 32) a x).toNat < S64x256.size a)
theorem k0_idx123_inb : ∀ (i : grid0.Coords) (v2455 : IVec S16 32) (v2464 : IVec S16 32) (k0_hw123 : k0_chk123 i v2455 v2464), ∀ (k0_h1 : k0_cond1 i = 1#1), ∀ a x, ((![v2464, v2455] : Fin 2 → IVec S16 32) a x).toNat < S64x256.size a := fun i v2455 v2464 k0_hw123 k0_h1 => k0_hw123 k0_h1

def k0_chk124 (i : grid0.Coords) (v2457 : IVec S16 32) (v2467 : IVec S16 32) : Prop :=
  (∀ (k0_h1 : k0_cond1 i = 1#1), ∀ a x, ((![v2457, v2467] : Fin 2 → IVec S16 32) a x).toNat < S128x128.size a)
theorem k0_idx124_inb : ∀ (i : grid0.Coords) (v2457 : IVec S16 32) (v2467 : IVec S16 32) (k0_hw124 : k0_chk124 i v2457 v2467), ∀ (k0_h1 : k0_cond1 i = 1#1), ∀ a x, ((![v2457, v2467] : Fin 2 → IVec S16 32) a x).toNat < S128x128.size a := fun i v2457 v2467 k0_hw124 k0_h1 => k0_hw124 k0_h1

def k0_chk125 (i : grid0.Coords) (v2455 : IVec S16 32) (v2469 : IVec S16 32) : Prop :=
  (∀ (k0_h1 : k0_cond1 i = 1#1), ∀ a x, ((![v2469, v2455] : Fin 2 → IVec S16 32) a x).toNat < S64x256.size a)
theorem k0_idx125_inb : ∀ (i : grid0.Coords) (v2455 : IVec S16 32) (v2469 : IVec S16 32) (k0_hw125 : k0_chk125 i v2455 v2469), ∀ (k0_h1 : k0_cond1 i = 1#1), ∀ a x, ((![v2469, v2455] : Fin 2 → IVec S16 32) a x).toNat < S64x256.size a := fun i v2455 v2469 k0_hw125 k0_h1 => k0_hw125 k0_h1

def k0_chk126 (i : grid0.Coords) (v2457 : IVec S16 32) (v2472 : IVec S16 32) : Prop :=
  (∀ (k0_h1 : k0_cond1 i = 1#1), ∀ a x, ((![v2457, v2472] : Fin 2 → IVec S16 32) a x).toNat < S128x128.size a)
theorem k0_idx126_inb : ∀ (i : grid0.Coords) (v2457 : IVec S16 32) (v2472 : IVec S16 32) (k0_hw126 : k0_chk126 i v2457 v2472), ∀ (k0_h1 : k0_cond1 i = 1#1), ∀ a x, ((![v2457, v2472] : Fin 2 → IVec S16 32) a x).toNat < S128x128.size a := fun i v2457 v2472 k0_hw126 k0_h1 => k0_hw126 k0_h1

def k0_chk127 (i : grid0.Coords) (v2455 : IVec S16 32) (v2474 : IVec S16 32) : Prop :=
  (∀ (k0_h1 : k0_cond1 i = 1#1), ∀ a x, ((![v2474, v2455] : Fin 2 → IVec S16 32) a x).toNat < S64x256.size a)
theorem k0_idx127_inb : ∀ (i : grid0.Coords) (v2455 : IVec S16 32) (v2474 : IVec S16 32) (k0_hw127 : k0_chk127 i v2455 v2474), ∀ (k0_h1 : k0_cond1 i = 1#1), ∀ a x, ((![v2474, v2455] : Fin 2 → IVec S16 32) a x).toNat < S64x256.size a := fun i v2455 v2474 k0_hw127 k0_h1 => k0_hw127 k0_h1

def k0_chk128 (i : grid0.Coords) (v2457 : IVec S16 32) (v2477 : IVec S16 32) : Prop :=
  (∀ (k0_h1 : k0_cond1 i = 1#1), ∀ a x, ((![v2457, v2477] : Fin 2 → IVec S16 32) a x).toNat < S128x128.size a)
theorem k0_idx128_inb : ∀ (i : grid0.Coords) (v2457 : IVec S16 32) (v2477 : IVec S16 32) (k0_hw128 : k0_chk128 i v2457 v2477), ∀ (k0_h1 : k0_cond1 i = 1#1), ∀ a x, ((![v2457, v2477] : Fin 2 → IVec S16 32) a x).toNat < S128x128.size a := fun i v2457 v2477 k0_hw128 k0_h1 => k0_hw128 k0_h1

def k0_chk129 (i : grid0.Coords) (v2481 : IVec S16 32) (v2485 : IVec S16 32) : Prop :=
  (∀ (k0_h1 : k0_cond1 i = 1#1), ∀ a x, ((![v2485, v2481] : Fin 2 → IVec S16 32) a x).toNat < S64x256.size a)
theorem k0_idx129_inb : ∀ (i : grid0.Coords) (v2481 : IVec S16 32) (v2485 : IVec S16 32) (k0_hw129 : k0_chk129 i v2481 v2485), ∀ (k0_h1 : k0_cond1 i = 1#1), ∀ a x, ((![v2485, v2481] : Fin 2 → IVec S16 32) a x).toNat < S64x256.size a := fun i v2481 v2485 k0_hw129 k0_h1 => k0_hw129 k0_h1

def k0_chk130 (i : grid0.Coords) (v2483 : IVec S16 32) (v2488 : IVec S16 32) : Prop :=
  (∀ (k0_h1 : k0_cond1 i = 1#1), ∀ a x, ((![v2483, v2488] : Fin 2 → IVec S16 32) a x).toNat < S128x128.size a)
theorem k0_idx130_inb : ∀ (i : grid0.Coords) (v2483 : IVec S16 32) (v2488 : IVec S16 32) (k0_hw130 : k0_chk130 i v2483 v2488), ∀ (k0_h1 : k0_cond1 i = 1#1), ∀ a x, ((![v2483, v2488] : Fin 2 → IVec S16 32) a x).toNat < S128x128.size a := fun i v2483 v2488 k0_hw130 k0_h1 => k0_hw130 k0_h1

def k0_chk131 (i : grid0.Coords) (v2481 : IVec S16 32) (v2490 : IVec S16 32) : Prop :=
  (∀ (k0_h1 : k0_cond1 i = 1#1), ∀ a x, ((![v2490, v2481] : Fin 2 → IVec S16 32) a x).toNat < S64x256.size a)
theorem k0_idx131_inb : ∀ (i : grid0.Coords) (v2481 : IVec S16 32) (v2490 : IVec S16 32) (k0_hw131 : k0_chk131 i v2481 v2490), ∀ (k0_h1 : k0_cond1 i = 1#1), ∀ a x, ((![v2490, v2481] : Fin 2 → IVec S16 32) a x).toNat < S64x256.size a := fun i v2481 v2490 k0_hw131 k0_h1 => k0_hw131 k0_h1

def k0_chk132 (i : grid0.Coords) (v2483 : IVec S16 32) (v2493 : IVec S16 32) : Prop :=
  (∀ (k0_h1 : k0_cond1 i = 1#1), ∀ a x, ((![v2483, v2493] : Fin 2 → IVec S16 32) a x).toNat < S128x128.size a)
theorem k0_idx132_inb : ∀ (i : grid0.Coords) (v2483 : IVec S16 32) (v2493 : IVec S16 32) (k0_hw132 : k0_chk132 i v2483 v2493), ∀ (k0_h1 : k0_cond1 i = 1#1), ∀ a x, ((![v2483, v2493] : Fin 2 → IVec S16 32) a x).toNat < S128x128.size a := fun i v2483 v2493 k0_hw132 k0_h1 => k0_hw132 k0_h1

def k0_chk133 (i : grid0.Coords) (v2481 : IVec S16 32) (v2495 : IVec S16 32) : Prop :=
  (∀ (k0_h1 : k0_cond1 i = 1#1), ∀ a x, ((![v2495, v2481] : Fin 2 → IVec S16 32) a x).toNat < S64x256.size a)
theorem k0_idx133_inb : ∀ (i : grid0.Coords) (v2481 : IVec S16 32) (v2495 : IVec S16 32) (k0_hw133 : k0_chk133 i v2481 v2495), ∀ (k0_h1 : k0_cond1 i = 1#1), ∀ a x, ((![v2495, v2481] : Fin 2 → IVec S16 32) a x).toNat < S64x256.size a := fun i v2481 v2495 k0_hw133 k0_h1 => k0_hw133 k0_h1

def k0_chk134 (i : grid0.Coords) (v2483 : IVec S16 32) (v2498 : IVec S16 32) : Prop :=
  (∀ (k0_h1 : k0_cond1 i = 1#1), ∀ a x, ((![v2483, v2498] : Fin 2 → IVec S16 32) a x).toNat < S128x128.size a)
theorem k0_idx134_inb : ∀ (i : grid0.Coords) (v2483 : IVec S16 32) (v2498 : IVec S16 32) (k0_hw134 : k0_chk134 i v2483 v2498), ∀ (k0_h1 : k0_cond1 i = 1#1), ∀ a x, ((![v2483, v2498] : Fin 2 → IVec S16 32) a x).toNat < S128x128.size a := fun i v2483 v2498 k0_hw134 k0_h1 => k0_hw134 k0_h1

def k0_chk135 (i : grid0.Coords) (v2481 : IVec S16 32) (v2500 : IVec S16 32) : Prop :=
  (∀ (k0_h1 : k0_cond1 i = 1#1), ∀ a x, ((![v2500, v2481] : Fin 2 → IVec S16 32) a x).toNat < S64x256.size a)
theorem k0_idx135_inb : ∀ (i : grid0.Coords) (v2481 : IVec S16 32) (v2500 : IVec S16 32) (k0_hw135 : k0_chk135 i v2481 v2500), ∀ (k0_h1 : k0_cond1 i = 1#1), ∀ a x, ((![v2500, v2481] : Fin 2 → IVec S16 32) a x).toNat < S64x256.size a := fun i v2481 v2500 k0_hw135 k0_h1 => k0_hw135 k0_h1

def k0_chk136 (i : grid0.Coords) (v2483 : IVec S16 32) (v2503 : IVec S16 32) : Prop :=
  (∀ (k0_h1 : k0_cond1 i = 1#1), ∀ a x, ((![v2483, v2503] : Fin 2 → IVec S16 32) a x).toNat < S128x128.size a)
theorem k0_idx136_inb : ∀ (i : grid0.Coords) (v2483 : IVec S16 32) (v2503 : IVec S16 32) (k0_hw136 : k0_chk136 i v2483 v2503), ∀ (k0_h1 : k0_cond1 i = 1#1), ∀ a x, ((![v2483, v2503] : Fin 2 → IVec S16 32) a x).toNat < S128x128.size a := fun i v2483 v2503 k0_hw136 k0_h1 => k0_hw136 k0_h1
@[reducible] def k0_t5_loop (v1995 : BitVec 32) (v1998 : BitVec 32) : Scf.Loop 32 :=
  let c0_i32_159 : BitVec 32 := 0#32
  let v1999 : BitVec 32 := Scalar.subi v1998 v1995
  let c16_i32_156 : BitVec 32 := 16#32
  let v2000 : BitVec 32 := Scalar.addi v1999 c16_i32_156
  let c1_i32_157 : BitVec 32 := 1#32
  let v2001 : BitVec 32 := Scalar.subi v2000 c1_i32_157
  let c4_i32_158 : BitVec 32 := 4#32
  let v2002 : BitVec 32 := Scalar.shrsi v2001 c4_i32_158
  let v2003 : BitVec 32 := Scalar.subi v2002 c0_i32_159
  let c1_i32_160 : BitVec 32 := 1#32
  let v2005 : BitVec 32 := Scalar.divsi v2003 c1_i32_160
  let v2006 : BitVec 32 := Scalar.muli v2005 c1_i32_160
  let v2007 : BitVec 32 := Scalar.addi c0_i32_159 v2006
  let v2004 : BitVec 32 := Scalar.addi c0_i32_159 v2003
  let c1_i32_162 : BitVec 32 := 1#32
  ⟨v2007, v2004, c1_i32_162⟩

def k0_chk6 (i : grid0.Coords) (v1995 : BitVec 32) (v1998 : BitVec 32) : Prop :=
  (∀ (k0_h1 : k0_cond1 i = 1#1), (k0_t4_loop v1995 v1998).OK) ∧
  (∀ (k0_h1 : k0_cond1 i = 1#1), (k0_t5_loop v1995 v1998).OK)
theorem k0_t4_ok : ∀ (i : grid0.Coords) (v1995 : BitVec 32) (v1998 : BitVec 32) (k0_hw6 : k0_chk6 i v1995 v1998), ∀ (k0_h1 : k0_cond1 i = 1#1), (k0_t4_loop v1995 v1998).OK := fun i v1995 v1998 k0_hw6 k0_h1 => k0_hw6.1 k0_h1
theorem k0_t5_ok : ∀ (i : grid0.Coords) (v1995 : BitVec 32) (v1998 : BitVec 32) (k0_hw6 : k0_chk6 i v1995 v1998), ∀ (k0_h1 : k0_cond1 i = 1#1), (k0_t5_loop v1995 v1998).OK := fun i v1995 v1998 k0_hw6 k0_h1 => k0_hw6.2 k0_h1

def k0_chk137 (i : grid0.Coords) (v2075 : IVec S16 32) : Prop :=
  (∀ (k0_h1 : k0_cond1 i = 1#1), ∀ a x, ((![v2075] : Fin 1 → IVec S16 32) a x).toNat < S4096.size a)
theorem k0_idx137_inb : ∀ (i : grid0.Coords) (v2075 : IVec S16 32) (k0_hw137 : k0_chk137 i v2075), ∀ (k0_h1 : k0_cond1 i = 1#1), ∀ a x, ((![v2075] : Fin 1 → IVec S16 32) a x).toNat < S4096.size a := fun i v2075 k0_hw137 k0_h1 => k0_hw137 k0_h1

def k0_chk138 (i : grid0.Coords) (v2087 : IVec S16 32) : Prop :=
  (∀ (k0_h1 : k0_cond1 i = 1#1), ∀ a x, ((![v2087] : Fin 1 → IVec S16 32) a x).toNat < S128.size a)
theorem k0_idx138_inb : ∀ (i : grid0.Coords) (v2087 : IVec S16 32) (k0_hw138 : k0_chk138 i v2087), ∀ (k0_h1 : k0_cond1 i = 1#1), ∀ a x, ((![v2087] : Fin 1 → IVec S16 32) a x).toNat < S128.size a := fun i v2087 k0_hw138 k0_h1 => k0_hw138 k0_h1

def k0_chk139 (i : grid0.Coords) (v2091 : IVec S16 32) (v2095 : IVec S16 32) : Prop :=
  (∀ (k0_h1 : k0_cond1 i = 1#1), ∀ a x, ((![v2095, v2091] : Fin 2 → IVec S16 32) a x).toNat < S64x256.size a)
theorem k0_idx139_inb : ∀ (i : grid0.Coords) (v2091 : IVec S16 32) (v2095 : IVec S16 32) (k0_hw139 : k0_chk139 i v2091 v2095), ∀ (k0_h1 : k0_cond1 i = 1#1), ∀ a x, ((![v2095, v2091] : Fin 2 → IVec S16 32) a x).toNat < S64x256.size a := fun i v2091 v2095 k0_hw139 k0_h1 => k0_hw139 k0_h1

def k0_chk140 (i : grid0.Coords) (v2093 : IVec S16 32) (v2098 : IVec S16 32) : Prop :=
  (∀ (k0_h1 : k0_cond1 i = 1#1), ∀ a x, ((![v2093, v2098] : Fin 2 → IVec S16 32) a x).toNat < S128x128.size a)
theorem k0_idx140_inb : ∀ (i : grid0.Coords) (v2093 : IVec S16 32) (v2098 : IVec S16 32) (k0_hw140 : k0_chk140 i v2093 v2098), ∀ (k0_h1 : k0_cond1 i = 1#1), ∀ a x, ((![v2093, v2098] : Fin 2 → IVec S16 32) a x).toNat < S128x128.size a := fun i v2093 v2098 k0_hw140 k0_h1 => k0_hw140 k0_h1

def k0_chk141 (i : grid0.Coords) (v2091 : IVec S16 32) (v2100 : IVec S16 32) : Prop :=
  (∀ (k0_h1 : k0_cond1 i = 1#1), ∀ a x, ((![v2100, v2091] : Fin 2 → IVec S16 32) a x).toNat < S64x256.size a)
theorem k0_idx141_inb : ∀ (i : grid0.Coords) (v2091 : IVec S16 32) (v2100 : IVec S16 32) (k0_hw141 : k0_chk141 i v2091 v2100), ∀ (k0_h1 : k0_cond1 i = 1#1), ∀ a x, ((![v2100, v2091] : Fin 2 → IVec S16 32) a x).toNat < S64x256.size a := fun i v2091 v2100 k0_hw141 k0_h1 => k0_hw141 k0_h1

def k0_chk142 (i : grid0.Coords) (v2093 : IVec S16 32) (v2103 : IVec S16 32) : Prop :=
  (∀ (k0_h1 : k0_cond1 i = 1#1), ∀ a x, ((![v2093, v2103] : Fin 2 → IVec S16 32) a x).toNat < S128x128.size a)
theorem k0_idx142_inb : ∀ (i : grid0.Coords) (v2093 : IVec S16 32) (v2103 : IVec S16 32) (k0_hw142 : k0_chk142 i v2093 v2103), ∀ (k0_h1 : k0_cond1 i = 1#1), ∀ a x, ((![v2093, v2103] : Fin 2 → IVec S16 32) a x).toNat < S128x128.size a := fun i v2093 v2103 k0_hw142 k0_h1 => k0_hw142 k0_h1

def k0_chk143 (i : grid0.Coords) (v2091 : IVec S16 32) (v2105 : IVec S16 32) : Prop :=
  (∀ (k0_h1 : k0_cond1 i = 1#1), ∀ a x, ((![v2105, v2091] : Fin 2 → IVec S16 32) a x).toNat < S64x256.size a)
theorem k0_idx143_inb : ∀ (i : grid0.Coords) (v2091 : IVec S16 32) (v2105 : IVec S16 32) (k0_hw143 : k0_chk143 i v2091 v2105), ∀ (k0_h1 : k0_cond1 i = 1#1), ∀ a x, ((![v2105, v2091] : Fin 2 → IVec S16 32) a x).toNat < S64x256.size a := fun i v2091 v2105 k0_hw143 k0_h1 => k0_hw143 k0_h1

def k0_chk144 (i : grid0.Coords) (v2093 : IVec S16 32) (v2108 : IVec S16 32) : Prop :=
  (∀ (k0_h1 : k0_cond1 i = 1#1), ∀ a x, ((![v2093, v2108] : Fin 2 → IVec S16 32) a x).toNat < S128x128.size a)
theorem k0_idx144_inb : ∀ (i : grid0.Coords) (v2093 : IVec S16 32) (v2108 : IVec S16 32) (k0_hw144 : k0_chk144 i v2093 v2108), ∀ (k0_h1 : k0_cond1 i = 1#1), ∀ a x, ((![v2093, v2108] : Fin 2 → IVec S16 32) a x).toNat < S128x128.size a := fun i v2093 v2108 k0_hw144 k0_h1 => k0_hw144 k0_h1

def k0_chk145 (i : grid0.Coords) (v2091 : IVec S16 32) (v2110 : IVec S16 32) : Prop :=
  (∀ (k0_h1 : k0_cond1 i = 1#1), ∀ a x, ((![v2110, v2091] : Fin 2 → IVec S16 32) a x).toNat < S64x256.size a)
theorem k0_idx145_inb : ∀ (i : grid0.Coords) (v2091 : IVec S16 32) (v2110 : IVec S16 32) (k0_hw145 : k0_chk145 i v2091 v2110), ∀ (k0_h1 : k0_cond1 i = 1#1), ∀ a x, ((![v2110, v2091] : Fin 2 → IVec S16 32) a x).toNat < S64x256.size a := fun i v2091 v2110 k0_hw145 k0_h1 => k0_hw145 k0_h1

def k0_chk146 (i : grid0.Coords) (v2093 : IVec S16 32) (v2113 : IVec S16 32) : Prop :=
  (∀ (k0_h1 : k0_cond1 i = 1#1), ∀ a x, ((![v2093, v2113] : Fin 2 → IVec S16 32) a x).toNat < S128x128.size a)
theorem k0_idx146_inb : ∀ (i : grid0.Coords) (v2093 : IVec S16 32) (v2113 : IVec S16 32) (k0_hw146 : k0_chk146 i v2093 v2113), ∀ (k0_h1 : k0_cond1 i = 1#1), ∀ a x, ((![v2093, v2113] : Fin 2 → IVec S16 32) a x).toNat < S128x128.size a := fun i v2093 v2113 k0_hw146 k0_h1 => k0_hw146 k0_h1

def k0_chk147 (i : grid0.Coords) (v2117 : IVec S16 32) (v2121 : IVec S16 32) : Prop :=
  (∀ (k0_h1 : k0_cond1 i = 1#1), ∀ a x, ((![v2121, v2117] : Fin 2 → IVec S16 32) a x).toNat < S64x256.size a)
theorem k0_idx147_inb : ∀ (i : grid0.Coords) (v2117 : IVec S16 32) (v2121 : IVec S16 32) (k0_hw147 : k0_chk147 i v2117 v2121), ∀ (k0_h1 : k0_cond1 i = 1#1), ∀ a x, ((![v2121, v2117] : Fin 2 → IVec S16 32) a x).toNat < S64x256.size a := fun i v2117 v2121 k0_hw147 k0_h1 => k0_hw147 k0_h1

def k0_chk148 (i : grid0.Coords) (v2119 : IVec S16 32) (v2124 : IVec S16 32) : Prop :=
  (∀ (k0_h1 : k0_cond1 i = 1#1), ∀ a x, ((![v2119, v2124] : Fin 2 → IVec S16 32) a x).toNat < S128x128.size a)
theorem k0_idx148_inb : ∀ (i : grid0.Coords) (v2119 : IVec S16 32) (v2124 : IVec S16 32) (k0_hw148 : k0_chk148 i v2119 v2124), ∀ (k0_h1 : k0_cond1 i = 1#1), ∀ a x, ((![v2119, v2124] : Fin 2 → IVec S16 32) a x).toNat < S128x128.size a := fun i v2119 v2124 k0_hw148 k0_h1 => k0_hw148 k0_h1

def k0_chk149 (i : grid0.Coords) (v2117 : IVec S16 32) (v2126 : IVec S16 32) : Prop :=
  (∀ (k0_h1 : k0_cond1 i = 1#1), ∀ a x, ((![v2126, v2117] : Fin 2 → IVec S16 32) a x).toNat < S64x256.size a)
theorem k0_idx149_inb : ∀ (i : grid0.Coords) (v2117 : IVec S16 32) (v2126 : IVec S16 32) (k0_hw149 : k0_chk149 i v2117 v2126), ∀ (k0_h1 : k0_cond1 i = 1#1), ∀ a x, ((![v2126, v2117] : Fin 2 → IVec S16 32) a x).toNat < S64x256.size a := fun i v2117 v2126 k0_hw149 k0_h1 => k0_hw149 k0_h1

def k0_chk150 (i : grid0.Coords) (v2119 : IVec S16 32) (v2129 : IVec S16 32) : Prop :=
  (∀ (k0_h1 : k0_cond1 i = 1#1), ∀ a x, ((![v2119, v2129] : Fin 2 → IVec S16 32) a x).toNat < S128x128.size a)
theorem k0_idx150_inb : ∀ (i : grid0.Coords) (v2119 : IVec S16 32) (v2129 : IVec S16 32) (k0_hw150 : k0_chk150 i v2119 v2129), ∀ (k0_h1 : k0_cond1 i = 1#1), ∀ a x, ((![v2119, v2129] : Fin 2 → IVec S16 32) a x).toNat < S128x128.size a := fun i v2119 v2129 k0_hw150 k0_h1 => k0_hw150 k0_h1

def k0_chk151 (i : grid0.Coords) (v2117 : IVec S16 32) (v2131 : IVec S16 32) : Prop :=
  (∀ (k0_h1 : k0_cond1 i = 1#1), ∀ a x, ((![v2131, v2117] : Fin 2 → IVec S16 32) a x).toNat < S64x256.size a)
theorem k0_idx151_inb : ∀ (i : grid0.Coords) (v2117 : IVec S16 32) (v2131 : IVec S16 32) (k0_hw151 : k0_chk151 i v2117 v2131), ∀ (k0_h1 : k0_cond1 i = 1#1), ∀ a x, ((![v2131, v2117] : Fin 2 → IVec S16 32) a x).toNat < S64x256.size a := fun i v2117 v2131 k0_hw151 k0_h1 => k0_hw151 k0_h1

def k0_chk152 (i : grid0.Coords) (v2119 : IVec S16 32) (v2134 : IVec S16 32) : Prop :=
  (∀ (k0_h1 : k0_cond1 i = 1#1), ∀ a x, ((![v2119, v2134] : Fin 2 → IVec S16 32) a x).toNat < S128x128.size a)
theorem k0_idx152_inb : ∀ (i : grid0.Coords) (v2119 : IVec S16 32) (v2134 : IVec S16 32) (k0_hw152 : k0_chk152 i v2119 v2134), ∀ (k0_h1 : k0_cond1 i = 1#1), ∀ a x, ((![v2119, v2134] : Fin 2 → IVec S16 32) a x).toNat < S128x128.size a := fun i v2119 v2134 k0_hw152 k0_h1 => k0_hw152 k0_h1

def k0_chk153 (i : grid0.Coords) (v2117 : IVec S16 32) (v2136 : IVec S16 32) : Prop :=
  (∀ (k0_h1 : k0_cond1 i = 1#1), ∀ a x, ((![v2136, v2117] : Fin 2 → IVec S16 32) a x).toNat < S64x256.size a)
theorem k0_idx153_inb : ∀ (i : grid0.Coords) (v2117 : IVec S16 32) (v2136 : IVec S16 32) (k0_hw153 : k0_chk153 i v2117 v2136), ∀ (k0_h1 : k0_cond1 i = 1#1), ∀ a x, ((![v2136, v2117] : Fin 2 → IVec S16 32) a x).toNat < S64x256.size a := fun i v2117 v2136 k0_hw153 k0_h1 => k0_hw153 k0_h1

def k0_chk154 (i : grid0.Coords) (v2119 : IVec S16 32) (v2139 : IVec S16 32) : Prop :=
  (∀ (k0_h1 : k0_cond1 i = 1#1), ∀ a x, ((![v2119, v2139] : Fin 2 → IVec S16 32) a x).toNat < S128x128.size a)
theorem k0_idx154_inb : ∀ (i : grid0.Coords) (v2119 : IVec S16 32) (v2139 : IVec S16 32) (k0_hw154 : k0_chk154 i v2119 v2139), ∀ (k0_h1 : k0_cond1 i = 1#1), ∀ a x, ((![v2119, v2139] : Fin 2 → IVec S16 32) a x).toNat < S128x128.size a := fun i v2119 v2139 k0_hw154 k0_h1 => k0_hw154 k0_h1

def k0_chk155 (i : grid0.Coords) (v2143 : IVec S16 32) (v2147 : IVec S16 32) : Prop :=
  (∀ (k0_h1 : k0_cond1 i = 1#1), ∀ a x, ((![v2147, v2143] : Fin 2 → IVec S16 32) a x).toNat < S64x256.size a)
theorem k0_idx155_inb : ∀ (i : grid0.Coords) (v2143 : IVec S16 32) (v2147 : IVec S16 32) (k0_hw155 : k0_chk155 i v2143 v2147), ∀ (k0_h1 : k0_cond1 i = 1#1), ∀ a x, ((![v2147, v2143] : Fin 2 → IVec S16 32) a x).toNat < S64x256.size a := fun i v2143 v2147 k0_hw155 k0_h1 => k0_hw155 k0_h1

def k0_chk156 (i : grid0.Coords) (v2145 : IVec S16 32) (v2150 : IVec S16 32) : Prop :=
  (∀ (k0_h1 : k0_cond1 i = 1#1), ∀ a x, ((![v2145, v2150] : Fin 2 → IVec S16 32) a x).toNat < S128x128.size a)
theorem k0_idx156_inb : ∀ (i : grid0.Coords) (v2145 : IVec S16 32) (v2150 : IVec S16 32) (k0_hw156 : k0_chk156 i v2145 v2150), ∀ (k0_h1 : k0_cond1 i = 1#1), ∀ a x, ((![v2145, v2150] : Fin 2 → IVec S16 32) a x).toNat < S128x128.size a := fun i v2145 v2150 k0_hw156 k0_h1 => k0_hw156 k0_h1

def k0_chk157 (i : grid0.Coords) (v2143 : IVec S16 32) (v2152 : IVec S16 32) : Prop :=
  (∀ (k0_h1 : k0_cond1 i = 1#1), ∀ a x, ((![v2152, v2143] : Fin 2 → IVec S16 32) a x).toNat < S64x256.size a)
theorem k0_idx157_inb : ∀ (i : grid0.Coords) (v2143 : IVec S16 32) (v2152 : IVec S16 32) (k0_hw157 : k0_chk157 i v2143 v2152), ∀ (k0_h1 : k0_cond1 i = 1#1), ∀ a x, ((![v2152, v2143] : Fin 2 → IVec S16 32) a x).toNat < S64x256.size a := fun i v2143 v2152 k0_hw157 k0_h1 => k0_hw157 k0_h1

def k0_chk158 (i : grid0.Coords) (v2145 : IVec S16 32) (v2155 : IVec S16 32) : Prop :=
  (∀ (k0_h1 : k0_cond1 i = 1#1), ∀ a x, ((![v2145, v2155] : Fin 2 → IVec S16 32) a x).toNat < S128x128.size a)
theorem k0_idx158_inb : ∀ (i : grid0.Coords) (v2145 : IVec S16 32) (v2155 : IVec S16 32) (k0_hw158 : k0_chk158 i v2145 v2155), ∀ (k0_h1 : k0_cond1 i = 1#1), ∀ a x, ((![v2145, v2155] : Fin 2 → IVec S16 32) a x).toNat < S128x128.size a := fun i v2145 v2155 k0_hw158 k0_h1 => k0_hw158 k0_h1

def k0_chk159 (i : grid0.Coords) (v2143 : IVec S16 32) (v2157 : IVec S16 32) : Prop :=
  (∀ (k0_h1 : k0_cond1 i = 1#1), ∀ a x, ((![v2157, v2143] : Fin 2 → IVec S16 32) a x).toNat < S64x256.size a)
theorem k0_idx159_inb : ∀ (i : grid0.Coords) (v2143 : IVec S16 32) (v2157 : IVec S16 32) (k0_hw159 : k0_chk159 i v2143 v2157), ∀ (k0_h1 : k0_cond1 i = 1#1), ∀ a x, ((![v2157, v2143] : Fin 2 → IVec S16 32) a x).toNat < S64x256.size a := fun i v2143 v2157 k0_hw159 k0_h1 => k0_hw159 k0_h1

def k0_chk160 (i : grid0.Coords) (v2145 : IVec S16 32) (v2160 : IVec S16 32) : Prop :=
  (∀ (k0_h1 : k0_cond1 i = 1#1), ∀ a x, ((![v2145, v2160] : Fin 2 → IVec S16 32) a x).toNat < S128x128.size a)
theorem k0_idx160_inb : ∀ (i : grid0.Coords) (v2145 : IVec S16 32) (v2160 : IVec S16 32) (k0_hw160 : k0_chk160 i v2145 v2160), ∀ (k0_h1 : k0_cond1 i = 1#1), ∀ a x, ((![v2145, v2160] : Fin 2 → IVec S16 32) a x).toNat < S128x128.size a := fun i v2145 v2160 k0_hw160 k0_h1 => k0_hw160 k0_h1

def k0_chk161 (i : grid0.Coords) (v2143 : IVec S16 32) (v2162 : IVec S16 32) : Prop :=
  (∀ (k0_h1 : k0_cond1 i = 1#1), ∀ a x, ((![v2162, v2143] : Fin 2 → IVec S16 32) a x).toNat < S64x256.size a)
theorem k0_idx161_inb : ∀ (i : grid0.Coords) (v2143 : IVec S16 32) (v2162 : IVec S16 32) (k0_hw161 : k0_chk161 i v2143 v2162), ∀ (k0_h1 : k0_cond1 i = 1#1), ∀ a x, ((![v2162, v2143] : Fin 2 → IVec S16 32) a x).toNat < S64x256.size a := fun i v2143 v2162 k0_hw161 k0_h1 => k0_hw161 k0_h1

def k0_chk162 (i : grid0.Coords) (v2145 : IVec S16 32) (v2165 : IVec S16 32) : Prop :=
  (∀ (k0_h1 : k0_cond1 i = 1#1), ∀ a x, ((![v2145, v2165] : Fin 2 → IVec S16 32) a x).toNat < S128x128.size a)
theorem k0_idx162_inb : ∀ (i : grid0.Coords) (v2145 : IVec S16 32) (v2165 : IVec S16 32) (k0_hw162 : k0_chk162 i v2145 v2165), ∀ (k0_h1 : k0_cond1 i = 1#1), ∀ a x, ((![v2145, v2165] : Fin 2 → IVec S16 32) a x).toNat < S128x128.size a := fun i v2145 v2165 k0_hw162 k0_h1 => k0_hw162 k0_h1

def k0_chk163 (i : grid0.Coords) (v2169 : IVec S16 32) (v2173 : IVec S16 32) : Prop :=
  (∀ (k0_h1 : k0_cond1 i = 1#1), ∀ a x, ((![v2173, v2169] : Fin 2 → IVec S16 32) a x).toNat < S64x256.size a)
theorem k0_idx163_inb : ∀ (i : grid0.Coords) (v2169 : IVec S16 32) (v2173 : IVec S16 32) (k0_hw163 : k0_chk163 i v2169 v2173), ∀ (k0_h1 : k0_cond1 i = 1#1), ∀ a x, ((![v2173, v2169] : Fin 2 → IVec S16 32) a x).toNat < S64x256.size a := fun i v2169 v2173 k0_hw163 k0_h1 => k0_hw163 k0_h1

def k0_chk164 (i : grid0.Coords) (v2171 : IVec S16 32) (v2176 : IVec S16 32) : Prop :=
  (∀ (k0_h1 : k0_cond1 i = 1#1), ∀ a x, ((![v2171, v2176] : Fin 2 → IVec S16 32) a x).toNat < S128x128.size a)
theorem k0_idx164_inb : ∀ (i : grid0.Coords) (v2171 : IVec S16 32) (v2176 : IVec S16 32) (k0_hw164 : k0_chk164 i v2171 v2176), ∀ (k0_h1 : k0_cond1 i = 1#1), ∀ a x, ((![v2171, v2176] : Fin 2 → IVec S16 32) a x).toNat < S128x128.size a := fun i v2171 v2176 k0_hw164 k0_h1 => k0_hw164 k0_h1

def k0_chk165 (i : grid0.Coords) (v2169 : IVec S16 32) (v2178 : IVec S16 32) : Prop :=
  (∀ (k0_h1 : k0_cond1 i = 1#1), ∀ a x, ((![v2178, v2169] : Fin 2 → IVec S16 32) a x).toNat < S64x256.size a)
theorem k0_idx165_inb : ∀ (i : grid0.Coords) (v2169 : IVec S16 32) (v2178 : IVec S16 32) (k0_hw165 : k0_chk165 i v2169 v2178), ∀ (k0_h1 : k0_cond1 i = 1#1), ∀ a x, ((![v2178, v2169] : Fin 2 → IVec S16 32) a x).toNat < S64x256.size a := fun i v2169 v2178 k0_hw165 k0_h1 => k0_hw165 k0_h1

def k0_chk166 (i : grid0.Coords) (v2171 : IVec S16 32) (v2181 : IVec S16 32) : Prop :=
  (∀ (k0_h1 : k0_cond1 i = 1#1), ∀ a x, ((![v2171, v2181] : Fin 2 → IVec S16 32) a x).toNat < S128x128.size a)
theorem k0_idx166_inb : ∀ (i : grid0.Coords) (v2171 : IVec S16 32) (v2181 : IVec S16 32) (k0_hw166 : k0_chk166 i v2171 v2181), ∀ (k0_h1 : k0_cond1 i = 1#1), ∀ a x, ((![v2171, v2181] : Fin 2 → IVec S16 32) a x).toNat < S128x128.size a := fun i v2171 v2181 k0_hw166 k0_h1 => k0_hw166 k0_h1

def k0_chk167 (i : grid0.Coords) (v2169 : IVec S16 32) (v2183 : IVec S16 32) : Prop :=
  (∀ (k0_h1 : k0_cond1 i = 1#1), ∀ a x, ((![v2183, v2169] : Fin 2 → IVec S16 32) a x).toNat < S64x256.size a)
theorem k0_idx167_inb : ∀ (i : grid0.Coords) (v2169 : IVec S16 32) (v2183 : IVec S16 32) (k0_hw167 : k0_chk167 i v2169 v2183), ∀ (k0_h1 : k0_cond1 i = 1#1), ∀ a x, ((![v2183, v2169] : Fin 2 → IVec S16 32) a x).toNat < S64x256.size a := fun i v2169 v2183 k0_hw167 k0_h1 => k0_hw167 k0_h1

def k0_chk168 (i : grid0.Coords) (v2171 : IVec S16 32) (v2186 : IVec S16 32) : Prop :=
  (∀ (k0_h1 : k0_cond1 i = 1#1), ∀ a x, ((![v2171, v2186] : Fin 2 → IVec S16 32) a x).toNat < S128x128.size a)
theorem k0_idx168_inb : ∀ (i : grid0.Coords) (v2171 : IVec S16 32) (v2186 : IVec S16 32) (k0_hw168 : k0_chk168 i v2171 v2186), ∀ (k0_h1 : k0_cond1 i = 1#1), ∀ a x, ((![v2171, v2186] : Fin 2 → IVec S16 32) a x).toNat < S128x128.size a := fun i v2171 v2186 k0_hw168 k0_h1 => k0_hw168 k0_h1

def k0_chk169 (i : grid0.Coords) (v2169 : IVec S16 32) (v2188 : IVec S16 32) : Prop :=
  (∀ (k0_h1 : k0_cond1 i = 1#1), ∀ a x, ((![v2188, v2169] : Fin 2 → IVec S16 32) a x).toNat < S64x256.size a)
theorem k0_idx169_inb : ∀ (i : grid0.Coords) (v2169 : IVec S16 32) (v2188 : IVec S16 32) (k0_hw169 : k0_chk169 i v2169 v2188), ∀ (k0_h1 : k0_cond1 i = 1#1), ∀ a x, ((![v2188, v2169] : Fin 2 → IVec S16 32) a x).toNat < S64x256.size a := fun i v2169 v2188 k0_hw169 k0_h1 => k0_hw169 k0_h1

def k0_chk170 (i : grid0.Coords) (v2171 : IVec S16 32) (v2191 : IVec S16 32) : Prop :=
  (∀ (k0_h1 : k0_cond1 i = 1#1), ∀ a x, ((![v2171, v2191] : Fin 2 → IVec S16 32) a x).toNat < S128x128.size a)
theorem k0_idx170_inb : ∀ (i : grid0.Coords) (v2171 : IVec S16 32) (v2191 : IVec S16 32) (k0_hw170 : k0_chk170 i v2171 v2191), ∀ (k0_h1 : k0_cond1 i = 1#1), ∀ a x, ((![v2171, v2191] : Fin 2 → IVec S16 32) a x).toNat < S128x128.size a := fun i v2171 v2191 k0_hw170 k0_h1 => k0_hw170 k0_h1

def k0_chk171 (i : grid0.Coords) (v2195 : IVec S16 32) (v2199 : IVec S16 32) : Prop :=
  (∀ (k0_h1 : k0_cond1 i = 1#1), ∀ a x, ((![v2199, v2195] : Fin 2 → IVec S16 32) a x).toNat < S64x256.size a)
theorem k0_idx171_inb : ∀ (i : grid0.Coords) (v2195 : IVec S16 32) (v2199 : IVec S16 32) (k0_hw171 : k0_chk171 i v2195 v2199), ∀ (k0_h1 : k0_cond1 i = 1#1), ∀ a x, ((![v2199, v2195] : Fin 2 → IVec S16 32) a x).toNat < S64x256.size a := fun i v2195 v2199 k0_hw171 k0_h1 => k0_hw171 k0_h1

def k0_chk172 (i : grid0.Coords) (v2197 : IVec S16 32) (v2202 : IVec S16 32) : Prop :=
  (∀ (k0_h1 : k0_cond1 i = 1#1), ∀ a x, ((![v2197, v2202] : Fin 2 → IVec S16 32) a x).toNat < S128x128.size a)
theorem k0_idx172_inb : ∀ (i : grid0.Coords) (v2197 : IVec S16 32) (v2202 : IVec S16 32) (k0_hw172 : k0_chk172 i v2197 v2202), ∀ (k0_h1 : k0_cond1 i = 1#1), ∀ a x, ((![v2197, v2202] : Fin 2 → IVec S16 32) a x).toNat < S128x128.size a := fun i v2197 v2202 k0_hw172 k0_h1 => k0_hw172 k0_h1

def k0_chk173 (i : grid0.Coords) (v2195 : IVec S16 32) (v2204 : IVec S16 32) : Prop :=
  (∀ (k0_h1 : k0_cond1 i = 1#1), ∀ a x, ((![v2204, v2195] : Fin 2 → IVec S16 32) a x).toNat < S64x256.size a)
theorem k0_idx173_inb : ∀ (i : grid0.Coords) (v2195 : IVec S16 32) (v2204 : IVec S16 32) (k0_hw173 : k0_chk173 i v2195 v2204), ∀ (k0_h1 : k0_cond1 i = 1#1), ∀ a x, ((![v2204, v2195] : Fin 2 → IVec S16 32) a x).toNat < S64x256.size a := fun i v2195 v2204 k0_hw173 k0_h1 => k0_hw173 k0_h1

def k0_chk174 (i : grid0.Coords) (v2197 : IVec S16 32) (v2207 : IVec S16 32) : Prop :=
  (∀ (k0_h1 : k0_cond1 i = 1#1), ∀ a x, ((![v2197, v2207] : Fin 2 → IVec S16 32) a x).toNat < S128x128.size a)
theorem k0_idx174_inb : ∀ (i : grid0.Coords) (v2197 : IVec S16 32) (v2207 : IVec S16 32) (k0_hw174 : k0_chk174 i v2197 v2207), ∀ (k0_h1 : k0_cond1 i = 1#1), ∀ a x, ((![v2197, v2207] : Fin 2 → IVec S16 32) a x).toNat < S128x128.size a := fun i v2197 v2207 k0_hw174 k0_h1 => k0_hw174 k0_h1

def k0_chk175 (i : grid0.Coords) (v2195 : IVec S16 32) (v2209 : IVec S16 32) : Prop :=
  (∀ (k0_h1 : k0_cond1 i = 1#1), ∀ a x, ((![v2209, v2195] : Fin 2 → IVec S16 32) a x).toNat < S64x256.size a)
theorem k0_idx175_inb : ∀ (i : grid0.Coords) (v2195 : IVec S16 32) (v2209 : IVec S16 32) (k0_hw175 : k0_chk175 i v2195 v2209), ∀ (k0_h1 : k0_cond1 i = 1#1), ∀ a x, ((![v2209, v2195] : Fin 2 → IVec S16 32) a x).toNat < S64x256.size a := fun i v2195 v2209 k0_hw175 k0_h1 => k0_hw175 k0_h1

def k0_chk176 (i : grid0.Coords) (v2197 : IVec S16 32) (v2212 : IVec S16 32) : Prop :=
  (∀ (k0_h1 : k0_cond1 i = 1#1), ∀ a x, ((![v2197, v2212] : Fin 2 → IVec S16 32) a x).toNat < S128x128.size a)
theorem k0_idx176_inb : ∀ (i : grid0.Coords) (v2197 : IVec S16 32) (v2212 : IVec S16 32) (k0_hw176 : k0_chk176 i v2197 v2212), ∀ (k0_h1 : k0_cond1 i = 1#1), ∀ a x, ((![v2197, v2212] : Fin 2 → IVec S16 32) a x).toNat < S128x128.size a := fun i v2197 v2212 k0_hw176 k0_h1 => k0_hw176 k0_h1

def k0_chk177 (i : grid0.Coords) (v2195 : IVec S16 32) (v2214 : IVec S16 32) : Prop :=
  (∀ (k0_h1 : k0_cond1 i = 1#1), ∀ a x, ((![v2214, v2195] : Fin 2 → IVec S16 32) a x).toNat < S64x256.size a)
theorem k0_idx177_inb : ∀ (i : grid0.Coords) (v2195 : IVec S16 32) (v2214 : IVec S16 32) (k0_hw177 : k0_chk177 i v2195 v2214), ∀ (k0_h1 : k0_cond1 i = 1#1), ∀ a x, ((![v2214, v2195] : Fin 2 → IVec S16 32) a x).toNat < S64x256.size a := fun i v2195 v2214 k0_hw177 k0_h1 => k0_hw177 k0_h1

def k0_chk178 (i : grid0.Coords) (v2197 : IVec S16 32) (v2217 : IVec S16 32) : Prop :=
  (∀ (k0_h1 : k0_cond1 i = 1#1), ∀ a x, ((![v2197, v2217] : Fin 2 → IVec S16 32) a x).toNat < S128x128.size a)
theorem k0_idx178_inb : ∀ (i : grid0.Coords) (v2197 : IVec S16 32) (v2217 : IVec S16 32) (k0_hw178 : k0_chk178 i v2197 v2217), ∀ (k0_h1 : k0_cond1 i = 1#1), ∀ a x, ((![v2197, v2217] : Fin 2 → IVec S16 32) a x).toNat < S128x128.size a := fun i v2197 v2217 k0_hw178 k0_h1 => k0_hw178 k0_h1

def k0_chk179 (i : grid0.Coords) (v2221 : IVec S16 32) (v2225 : IVec S16 32) : Prop :=
  (∀ (k0_h1 : k0_cond1 i = 1#1), ∀ a x, ((![v2225, v2221] : Fin 2 → IVec S16 32) a x).toNat < S64x256.size a)
theorem k0_idx179_inb : ∀ (i : grid0.Coords) (v2221 : IVec S16 32) (v2225 : IVec S16 32) (k0_hw179 : k0_chk179 i v2221 v2225), ∀ (k0_h1 : k0_cond1 i = 1#1), ∀ a x, ((![v2225, v2221] : Fin 2 → IVec S16 32) a x).toNat < S64x256.size a := fun i v2221 v2225 k0_hw179 k0_h1 => k0_hw179 k0_h1

def k0_chk180 (i : grid0.Coords) (v2223 : IVec S16 32) (v2228 : IVec S16 32) : Prop :=
  (∀ (k0_h1 : k0_cond1 i = 1#1), ∀ a x, ((![v2223, v2228] : Fin 2 → IVec S16 32) a x).toNat < S128x128.size a)
theorem k0_idx180_inb : ∀ (i : grid0.Coords) (v2223 : IVec S16 32) (v2228 : IVec S16 32) (k0_hw180 : k0_chk180 i v2223 v2228), ∀ (k0_h1 : k0_cond1 i = 1#1), ∀ a x, ((![v2223, v2228] : Fin 2 → IVec S16 32) a x).toNat < S128x128.size a := fun i v2223 v2228 k0_hw180 k0_h1 => k0_hw180 k0_h1

def k0_chk181 (i : grid0.Coords) (v2221 : IVec S16 32) (v2230 : IVec S16 32) : Prop :=
  (∀ (k0_h1 : k0_cond1 i = 1#1), ∀ a x, ((![v2230, v2221] : Fin 2 → IVec S16 32) a x).toNat < S64x256.size a)
theorem k0_idx181_inb : ∀ (i : grid0.Coords) (v2221 : IVec S16 32) (v2230 : IVec S16 32) (k0_hw181 : k0_chk181 i v2221 v2230), ∀ (k0_h1 : k0_cond1 i = 1#1), ∀ a x, ((![v2230, v2221] : Fin 2 → IVec S16 32) a x).toNat < S64x256.size a := fun i v2221 v2230 k0_hw181 k0_h1 => k0_hw181 k0_h1

def k0_chk182 (i : grid0.Coords) (v2223 : IVec S16 32) (v2233 : IVec S16 32) : Prop :=
  (∀ (k0_h1 : k0_cond1 i = 1#1), ∀ a x, ((![v2223, v2233] : Fin 2 → IVec S16 32) a x).toNat < S128x128.size a)
theorem k0_idx182_inb : ∀ (i : grid0.Coords) (v2223 : IVec S16 32) (v2233 : IVec S16 32) (k0_hw182 : k0_chk182 i v2223 v2233), ∀ (k0_h1 : k0_cond1 i = 1#1), ∀ a x, ((![v2223, v2233] : Fin 2 → IVec S16 32) a x).toNat < S128x128.size a := fun i v2223 v2233 k0_hw182 k0_h1 => k0_hw182 k0_h1

def k0_chk183 (i : grid0.Coords) (v2221 : IVec S16 32) (v2235 : IVec S16 32) : Prop :=
  (∀ (k0_h1 : k0_cond1 i = 1#1), ∀ a x, ((![v2235, v2221] : Fin 2 → IVec S16 32) a x).toNat < S64x256.size a)
theorem k0_idx183_inb : ∀ (i : grid0.Coords) (v2221 : IVec S16 32) (v2235 : IVec S16 32) (k0_hw183 : k0_chk183 i v2221 v2235), ∀ (k0_h1 : k0_cond1 i = 1#1), ∀ a x, ((![v2235, v2221] : Fin 2 → IVec S16 32) a x).toNat < S64x256.size a := fun i v2221 v2235 k0_hw183 k0_h1 => k0_hw183 k0_h1

def k0_chk184 (i : grid0.Coords) (v2223 : IVec S16 32) (v2238 : IVec S16 32) : Prop :=
  (∀ (k0_h1 : k0_cond1 i = 1#1), ∀ a x, ((![v2223, v2238] : Fin 2 → IVec S16 32) a x).toNat < S128x128.size a)
theorem k0_idx184_inb : ∀ (i : grid0.Coords) (v2223 : IVec S16 32) (v2238 : IVec S16 32) (k0_hw184 : k0_chk184 i v2223 v2238), ∀ (k0_h1 : k0_cond1 i = 1#1), ∀ a x, ((![v2223, v2238] : Fin 2 → IVec S16 32) a x).toNat < S128x128.size a := fun i v2223 v2238 k0_hw184 k0_h1 => k0_hw184 k0_h1

def k0_chk185 (i : grid0.Coords) (v2221 : IVec S16 32) (v2240 : IVec S16 32) : Prop :=
  (∀ (k0_h1 : k0_cond1 i = 1#1), ∀ a x, ((![v2240, v2221] : Fin 2 → IVec S16 32) a x).toNat < S64x256.size a)
theorem k0_idx185_inb : ∀ (i : grid0.Coords) (v2221 : IVec S16 32) (v2240 : IVec S16 32) (k0_hw185 : k0_chk185 i v2221 v2240), ∀ (k0_h1 : k0_cond1 i = 1#1), ∀ a x, ((![v2240, v2221] : Fin 2 → IVec S16 32) a x).toNat < S64x256.size a := fun i v2221 v2240 k0_hw185 k0_h1 => k0_hw185 k0_h1

def k0_chk186 (i : grid0.Coords) (v2223 : IVec S16 32) (v2243 : IVec S16 32) : Prop :=
  (∀ (k0_h1 : k0_cond1 i = 1#1), ∀ a x, ((![v2223, v2243] : Fin 2 → IVec S16 32) a x).toNat < S128x128.size a)
theorem k0_idx186_inb : ∀ (i : grid0.Coords) (v2223 : IVec S16 32) (v2243 : IVec S16 32) (k0_hw186 : k0_chk186 i v2223 v2243), ∀ (k0_h1 : k0_cond1 i = 1#1), ∀ a x, ((![v2223, v2243] : Fin 2 → IVec S16 32) a x).toNat < S128x128.size a := fun i v2223 v2243 k0_hw186 k0_h1 => k0_hw186 k0_h1

def k0_chk187 (i : grid0.Coords) (v2247 : IVec S16 32) (v2251 : IVec S16 32) : Prop :=
  (∀ (k0_h1 : k0_cond1 i = 1#1), ∀ a x, ((![v2251, v2247] : Fin 2 → IVec S16 32) a x).toNat < S64x256.size a)
theorem k0_idx187_inb : ∀ (i : grid0.Coords) (v2247 : IVec S16 32) (v2251 : IVec S16 32) (k0_hw187 : k0_chk187 i v2247 v2251), ∀ (k0_h1 : k0_cond1 i = 1#1), ∀ a x, ((![v2251, v2247] : Fin 2 → IVec S16 32) a x).toNat < S64x256.size a := fun i v2247 v2251 k0_hw187 k0_h1 => k0_hw187 k0_h1

def k0_chk188 (i : grid0.Coords) (v2249 : IVec S16 32) (v2254 : IVec S16 32) : Prop :=
  (∀ (k0_h1 : k0_cond1 i = 1#1), ∀ a x, ((![v2249, v2254] : Fin 2 → IVec S16 32) a x).toNat < S128x128.size a)
theorem k0_idx188_inb : ∀ (i : grid0.Coords) (v2249 : IVec S16 32) (v2254 : IVec S16 32) (k0_hw188 : k0_chk188 i v2249 v2254), ∀ (k0_h1 : k0_cond1 i = 1#1), ∀ a x, ((![v2249, v2254] : Fin 2 → IVec S16 32) a x).toNat < S128x128.size a := fun i v2249 v2254 k0_hw188 k0_h1 => k0_hw188 k0_h1

def k0_chk189 (i : grid0.Coords) (v2247 : IVec S16 32) (v2256 : IVec S16 32) : Prop :=
  (∀ (k0_h1 : k0_cond1 i = 1#1), ∀ a x, ((![v2256, v2247] : Fin 2 → IVec S16 32) a x).toNat < S64x256.size a)
theorem k0_idx189_inb : ∀ (i : grid0.Coords) (v2247 : IVec S16 32) (v2256 : IVec S16 32) (k0_hw189 : k0_chk189 i v2247 v2256), ∀ (k0_h1 : k0_cond1 i = 1#1), ∀ a x, ((![v2256, v2247] : Fin 2 → IVec S16 32) a x).toNat < S64x256.size a := fun i v2247 v2256 k0_hw189 k0_h1 => k0_hw189 k0_h1

def k0_chk190 (i : grid0.Coords) (v2249 : IVec S16 32) (v2259 : IVec S16 32) : Prop :=
  (∀ (k0_h1 : k0_cond1 i = 1#1), ∀ a x, ((![v2249, v2259] : Fin 2 → IVec S16 32) a x).toNat < S128x128.size a)
theorem k0_idx190_inb : ∀ (i : grid0.Coords) (v2249 : IVec S16 32) (v2259 : IVec S16 32) (k0_hw190 : k0_chk190 i v2249 v2259), ∀ (k0_h1 : k0_cond1 i = 1#1), ∀ a x, ((![v2249, v2259] : Fin 2 → IVec S16 32) a x).toNat < S128x128.size a := fun i v2249 v2259 k0_hw190 k0_h1 => k0_hw190 k0_h1

def k0_chk191 (i : grid0.Coords) (v2247 : IVec S16 32) (v2261 : IVec S16 32) : Prop :=
  (∀ (k0_h1 : k0_cond1 i = 1#1), ∀ a x, ((![v2261, v2247] : Fin 2 → IVec S16 32) a x).toNat < S64x256.size a)
theorem k0_idx191_inb : ∀ (i : grid0.Coords) (v2247 : IVec S16 32) (v2261 : IVec S16 32) (k0_hw191 : k0_chk191 i v2247 v2261), ∀ (k0_h1 : k0_cond1 i = 1#1), ∀ a x, ((![v2261, v2247] : Fin 2 → IVec S16 32) a x).toNat < S64x256.size a := fun i v2247 v2261 k0_hw191 k0_h1 => k0_hw191 k0_h1

def k0_chk192 (i : grid0.Coords) (v2249 : IVec S16 32) (v2264 : IVec S16 32) : Prop :=
  (∀ (k0_h1 : k0_cond1 i = 1#1), ∀ a x, ((![v2249, v2264] : Fin 2 → IVec S16 32) a x).toNat < S128x128.size a)
theorem k0_idx192_inb : ∀ (i : grid0.Coords) (v2249 : IVec S16 32) (v2264 : IVec S16 32) (k0_hw192 : k0_chk192 i v2249 v2264), ∀ (k0_h1 : k0_cond1 i = 1#1), ∀ a x, ((![v2249, v2264] : Fin 2 → IVec S16 32) a x).toNat < S128x128.size a := fun i v2249 v2264 k0_hw192 k0_h1 => k0_hw192 k0_h1

def k0_chk193 (i : grid0.Coords) (v2247 : IVec S16 32) (v2266 : IVec S16 32) : Prop :=
  (∀ (k0_h1 : k0_cond1 i = 1#1), ∀ a x, ((![v2266, v2247] : Fin 2 → IVec S16 32) a x).toNat < S64x256.size a)
theorem k0_idx193_inb : ∀ (i : grid0.Coords) (v2247 : IVec S16 32) (v2266 : IVec S16 32) (k0_hw193 : k0_chk193 i v2247 v2266), ∀ (k0_h1 : k0_cond1 i = 1#1), ∀ a x, ((![v2266, v2247] : Fin 2 → IVec S16 32) a x).toNat < S64x256.size a := fun i v2247 v2266 k0_hw193 k0_h1 => k0_hw193 k0_h1

def k0_chk194 (i : grid0.Coords) (v2249 : IVec S16 32) (v2269 : IVec S16 32) : Prop :=
  (∀ (k0_h1 : k0_cond1 i = 1#1), ∀ a x, ((![v2249, v2269] : Fin 2 → IVec S16 32) a x).toNat < S128x128.size a)
theorem k0_idx194_inb : ∀ (i : grid0.Coords) (v2249 : IVec S16 32) (v2269 : IVec S16 32) (k0_hw194 : k0_chk194 i v2249 v2269), ∀ (k0_h1 : k0_cond1 i = 1#1), ∀ a x, ((![v2249, v2269] : Fin 2 → IVec S16 32) a x).toNat < S128x128.size a := fun i v2249 v2269 k0_hw194 k0_h1 => k0_hw194 k0_h1

def k0_chk195 (i : grid0.Coords) (v2273 : IVec S16 32) (v2277 : IVec S16 32) : Prop :=
  (∀ (k0_h1 : k0_cond1 i = 1#1), ∀ a x, ((![v2277, v2273] : Fin 2 → IVec S16 32) a x).toNat < S64x256.size a)
theorem k0_idx195_inb : ∀ (i : grid0.Coords) (v2273 : IVec S16 32) (v2277 : IVec S16 32) (k0_hw195 : k0_chk195 i v2273 v2277), ∀ (k0_h1 : k0_cond1 i = 1#1), ∀ a x, ((![v2277, v2273] : Fin 2 → IVec S16 32) a x).toNat < S64x256.size a := fun i v2273 v2277 k0_hw195 k0_h1 => k0_hw195 k0_h1

def k0_chk196 (i : grid0.Coords) (v2275 : IVec S16 32) (v2280 : IVec S16 32) : Prop :=
  (∀ (k0_h1 : k0_cond1 i = 1#1), ∀ a x, ((![v2275, v2280] : Fin 2 → IVec S16 32) a x).toNat < S128x128.size a)
theorem k0_idx196_inb : ∀ (i : grid0.Coords) (v2275 : IVec S16 32) (v2280 : IVec S16 32) (k0_hw196 : k0_chk196 i v2275 v2280), ∀ (k0_h1 : k0_cond1 i = 1#1), ∀ a x, ((![v2275, v2280] : Fin 2 → IVec S16 32) a x).toNat < S128x128.size a := fun i v2275 v2280 k0_hw196 k0_h1 => k0_hw196 k0_h1

def k0_chk197 (i : grid0.Coords) (v2273 : IVec S16 32) (v2282 : IVec S16 32) : Prop :=
  (∀ (k0_h1 : k0_cond1 i = 1#1), ∀ a x, ((![v2282, v2273] : Fin 2 → IVec S16 32) a x).toNat < S64x256.size a)
theorem k0_idx197_inb : ∀ (i : grid0.Coords) (v2273 : IVec S16 32) (v2282 : IVec S16 32) (k0_hw197 : k0_chk197 i v2273 v2282), ∀ (k0_h1 : k0_cond1 i = 1#1), ∀ a x, ((![v2282, v2273] : Fin 2 → IVec S16 32) a x).toNat < S64x256.size a := fun i v2273 v2282 k0_hw197 k0_h1 => k0_hw197 k0_h1

def k0_chk198 (i : grid0.Coords) (v2275 : IVec S16 32) (v2285 : IVec S16 32) : Prop :=
  (∀ (k0_h1 : k0_cond1 i = 1#1), ∀ a x, ((![v2275, v2285] : Fin 2 → IVec S16 32) a x).toNat < S128x128.size a)
theorem k0_idx198_inb : ∀ (i : grid0.Coords) (v2275 : IVec S16 32) (v2285 : IVec S16 32) (k0_hw198 : k0_chk198 i v2275 v2285), ∀ (k0_h1 : k0_cond1 i = 1#1), ∀ a x, ((![v2275, v2285] : Fin 2 → IVec S16 32) a x).toNat < S128x128.size a := fun i v2275 v2285 k0_hw198 k0_h1 => k0_hw198 k0_h1

def k0_chk199 (i : grid0.Coords) (v2273 : IVec S16 32) (v2287 : IVec S16 32) : Prop :=
  (∀ (k0_h1 : k0_cond1 i = 1#1), ∀ a x, ((![v2287, v2273] : Fin 2 → IVec S16 32) a x).toNat < S64x256.size a)
theorem k0_idx199_inb : ∀ (i : grid0.Coords) (v2273 : IVec S16 32) (v2287 : IVec S16 32) (k0_hw199 : k0_chk199 i v2273 v2287), ∀ (k0_h1 : k0_cond1 i = 1#1), ∀ a x, ((![v2287, v2273] : Fin 2 → IVec S16 32) a x).toNat < S64x256.size a := fun i v2273 v2287 k0_hw199 k0_h1 => k0_hw199 k0_h1

def k0_chk200 (i : grid0.Coords) (v2275 : IVec S16 32) (v2290 : IVec S16 32) : Prop :=
  (∀ (k0_h1 : k0_cond1 i = 1#1), ∀ a x, ((![v2275, v2290] : Fin 2 → IVec S16 32) a x).toNat < S128x128.size a)
theorem k0_idx200_inb : ∀ (i : grid0.Coords) (v2275 : IVec S16 32) (v2290 : IVec S16 32) (k0_hw200 : k0_chk200 i v2275 v2290), ∀ (k0_h1 : k0_cond1 i = 1#1), ∀ a x, ((![v2275, v2290] : Fin 2 → IVec S16 32) a x).toNat < S128x128.size a := fun i v2275 v2290 k0_hw200 k0_h1 => k0_hw200 k0_h1

def k0_chk201 (i : grid0.Coords) (v2273 : IVec S16 32) (v2292 : IVec S16 32) : Prop :=
  (∀ (k0_h1 : k0_cond1 i = 1#1), ∀ a x, ((![v2292, v2273] : Fin 2 → IVec S16 32) a x).toNat < S64x256.size a)
theorem k0_idx201_inb : ∀ (i : grid0.Coords) (v2273 : IVec S16 32) (v2292 : IVec S16 32) (k0_hw201 : k0_chk201 i v2273 v2292), ∀ (k0_h1 : k0_cond1 i = 1#1), ∀ a x, ((![v2292, v2273] : Fin 2 → IVec S16 32) a x).toNat < S64x256.size a := fun i v2273 v2292 k0_hw201 k0_h1 => k0_hw201 k0_h1

def k0_chk202 (i : grid0.Coords) (v2275 : IVec S16 32) (v2295 : IVec S16 32) : Prop :=
  (∀ (k0_h1 : k0_cond1 i = 1#1), ∀ a x, ((![v2275, v2295] : Fin 2 → IVec S16 32) a x).toNat < S128x128.size a)
theorem k0_idx202_inb : ∀ (i : grid0.Coords) (v2275 : IVec S16 32) (v2295 : IVec S16 32) (k0_hw202 : k0_chk202 i v2275 v2295), ∀ (k0_h1 : k0_cond1 i = 1#1), ∀ a x, ((![v2275, v2295] : Fin 2 → IVec S16 32) a x).toNat < S128x128.size a := fun i v2275 v2295 k0_hw202 k0_h1 => k0_hw202 k0_h1

def k0_chk203 (i : grid0.Coords) (v2299 : IVec S16 32) (v2303 : IVec S16 32) : Prop :=
  (∀ (k0_h1 : k0_cond1 i = 1#1), ∀ a x, ((![v2303, v2299] : Fin 2 → IVec S16 32) a x).toNat < S64x256.size a)
theorem k0_idx203_inb : ∀ (i : grid0.Coords) (v2299 : IVec S16 32) (v2303 : IVec S16 32) (k0_hw203 : k0_chk203 i v2299 v2303), ∀ (k0_h1 : k0_cond1 i = 1#1), ∀ a x, ((![v2303, v2299] : Fin 2 → IVec S16 32) a x).toNat < S64x256.size a := fun i v2299 v2303 k0_hw203 k0_h1 => k0_hw203 k0_h1

def k0_chk204 (i : grid0.Coords) (v2301 : IVec S16 32) (v2306 : IVec S16 32) : Prop :=
  (∀ (k0_h1 : k0_cond1 i = 1#1), ∀ a x, ((![v2301, v2306] : Fin 2 → IVec S16 32) a x).toNat < S128x128.size a)
theorem k0_idx204_inb : ∀ (i : grid0.Coords) (v2301 : IVec S16 32) (v2306 : IVec S16 32) (k0_hw204 : k0_chk204 i v2301 v2306), ∀ (k0_h1 : k0_cond1 i = 1#1), ∀ a x, ((![v2301, v2306] : Fin 2 → IVec S16 32) a x).toNat < S128x128.size a := fun i v2301 v2306 k0_hw204 k0_h1 => k0_hw204 k0_h1

def k0_chk205 (i : grid0.Coords) (v2299 : IVec S16 32) (v2308 : IVec S16 32) : Prop :=
  (∀ (k0_h1 : k0_cond1 i = 1#1), ∀ a x, ((![v2308, v2299] : Fin 2 → IVec S16 32) a x).toNat < S64x256.size a)
theorem k0_idx205_inb : ∀ (i : grid0.Coords) (v2299 : IVec S16 32) (v2308 : IVec S16 32) (k0_hw205 : k0_chk205 i v2299 v2308), ∀ (k0_h1 : k0_cond1 i = 1#1), ∀ a x, ((![v2308, v2299] : Fin 2 → IVec S16 32) a x).toNat < S64x256.size a := fun i v2299 v2308 k0_hw205 k0_h1 => k0_hw205 k0_h1

def k0_chk206 (i : grid0.Coords) (v2301 : IVec S16 32) (v2311 : IVec S16 32) : Prop :=
  (∀ (k0_h1 : k0_cond1 i = 1#1), ∀ a x, ((![v2301, v2311] : Fin 2 → IVec S16 32) a x).toNat < S128x128.size a)
theorem k0_idx206_inb : ∀ (i : grid0.Coords) (v2301 : IVec S16 32) (v2311 : IVec S16 32) (k0_hw206 : k0_chk206 i v2301 v2311), ∀ (k0_h1 : k0_cond1 i = 1#1), ∀ a x, ((![v2301, v2311] : Fin 2 → IVec S16 32) a x).toNat < S128x128.size a := fun i v2301 v2311 k0_hw206 k0_h1 => k0_hw206 k0_h1

def k0_chk207 (i : grid0.Coords) (v2299 : IVec S16 32) (v2313 : IVec S16 32) : Prop :=
  (∀ (k0_h1 : k0_cond1 i = 1#1), ∀ a x, ((![v2313, v2299] : Fin 2 → IVec S16 32) a x).toNat < S64x256.size a)
theorem k0_idx207_inb : ∀ (i : grid0.Coords) (v2299 : IVec S16 32) (v2313 : IVec S16 32) (k0_hw207 : k0_chk207 i v2299 v2313), ∀ (k0_h1 : k0_cond1 i = 1#1), ∀ a x, ((![v2313, v2299] : Fin 2 → IVec S16 32) a x).toNat < S64x256.size a := fun i v2299 v2313 k0_hw207 k0_h1 => k0_hw207 k0_h1

def k0_chk208 (i : grid0.Coords) (v2301 : IVec S16 32) (v2316 : IVec S16 32) : Prop :=
  (∀ (k0_h1 : k0_cond1 i = 1#1), ∀ a x, ((![v2301, v2316] : Fin 2 → IVec S16 32) a x).toNat < S128x128.size a)
theorem k0_idx208_inb : ∀ (i : grid0.Coords) (v2301 : IVec S16 32) (v2316 : IVec S16 32) (k0_hw208 : k0_chk208 i v2301 v2316), ∀ (k0_h1 : k0_cond1 i = 1#1), ∀ a x, ((![v2301, v2316] : Fin 2 → IVec S16 32) a x).toNat < S128x128.size a := fun i v2301 v2316 k0_hw208 k0_h1 => k0_hw208 k0_h1

def k0_chk209 (i : grid0.Coords) (v2299 : IVec S16 32) (v2318 : IVec S16 32) : Prop :=
  (∀ (k0_h1 : k0_cond1 i = 1#1), ∀ a x, ((![v2318, v2299] : Fin 2 → IVec S16 32) a x).toNat < S64x256.size a)
theorem k0_idx209_inb : ∀ (i : grid0.Coords) (v2299 : IVec S16 32) (v2318 : IVec S16 32) (k0_hw209 : k0_chk209 i v2299 v2318), ∀ (k0_h1 : k0_cond1 i = 1#1), ∀ a x, ((![v2318, v2299] : Fin 2 → IVec S16 32) a x).toNat < S64x256.size a := fun i v2299 v2318 k0_hw209 k0_h1 => k0_hw209 k0_h1

def k0_chk210 (i : grid0.Coords) (v2301 : IVec S16 32) (v2321 : IVec S16 32) : Prop :=
  (∀ (k0_h1 : k0_cond1 i = 1#1), ∀ a x, ((![v2301, v2321] : Fin 2 → IVec S16 32) a x).toNat < S128x128.size a)
theorem k0_idx210_inb : ∀ (i : grid0.Coords) (v2301 : IVec S16 32) (v2321 : IVec S16 32) (k0_hw210 : k0_chk210 i v2301 v2321), ∀ (k0_h1 : k0_cond1 i = 1#1), ∀ a x, ((![v2301, v2321] : Fin 2 → IVec S16 32) a x).toNat < S128x128.size a := fun i v2301 v2321 k0_hw210 k0_h1 => k0_hw210 k0_h1

def k0_chk211 (i : grid0.Coords) (v2325 : IVec S16 32) (v2329 : IVec S16 32) : Prop :=
  (∀ (k0_h1 : k0_cond1 i = 1#1), ∀ a x, ((![v2329, v2325] : Fin 2 → IVec S16 32) a x).toNat < S64x256.size a)
theorem k0_idx211_inb : ∀ (i : grid0.Coords) (v2325 : IVec S16 32) (v2329 : IVec S16 32) (k0_hw211 : k0_chk211 i v2325 v2329), ∀ (k0_h1 : k0_cond1 i = 1#1), ∀ a x, ((![v2329, v2325] : Fin 2 → IVec S16 32) a x).toNat < S64x256.size a := fun i v2325 v2329 k0_hw211 k0_h1 => k0_hw211 k0_h1

def k0_chk212 (i : grid0.Coords) (v2327 : IVec S16 32) (v2332 : IVec S16 32) : Prop :=
  (∀ (k0_h1 : k0_cond1 i = 1#1), ∀ a x, ((![v2327, v2332] : Fin 2 → IVec S16 32) a x).toNat < S128x128.size a)
theorem k0_idx212_inb : ∀ (i : grid0.Coords) (v2327 : IVec S16 32) (v2332 : IVec S16 32) (k0_hw212 : k0_chk212 i v2327 v2332), ∀ (k0_h1 : k0_cond1 i = 1#1), ∀ a x, ((![v2327, v2332] : Fin 2 → IVec S16 32) a x).toNat < S128x128.size a := fun i v2327 v2332 k0_hw212 k0_h1 => k0_hw212 k0_h1

def k0_chk213 (i : grid0.Coords) (v2325 : IVec S16 32) (v2334 : IVec S16 32) : Prop :=
  (∀ (k0_h1 : k0_cond1 i = 1#1), ∀ a x, ((![v2334, v2325] : Fin 2 → IVec S16 32) a x).toNat < S64x256.size a)
theorem k0_idx213_inb : ∀ (i : grid0.Coords) (v2325 : IVec S16 32) (v2334 : IVec S16 32) (k0_hw213 : k0_chk213 i v2325 v2334), ∀ (k0_h1 : k0_cond1 i = 1#1), ∀ a x, ((![v2334, v2325] : Fin 2 → IVec S16 32) a x).toNat < S64x256.size a := fun i v2325 v2334 k0_hw213 k0_h1 => k0_hw213 k0_h1

def k0_chk214 (i : grid0.Coords) (v2327 : IVec S16 32) (v2337 : IVec S16 32) : Prop :=
  (∀ (k0_h1 : k0_cond1 i = 1#1), ∀ a x, ((![v2327, v2337] : Fin 2 → IVec S16 32) a x).toNat < S128x128.size a)
theorem k0_idx214_inb : ∀ (i : grid0.Coords) (v2327 : IVec S16 32) (v2337 : IVec S16 32) (k0_hw214 : k0_chk214 i v2327 v2337), ∀ (k0_h1 : k0_cond1 i = 1#1), ∀ a x, ((![v2327, v2337] : Fin 2 → IVec S16 32) a x).toNat < S128x128.size a := fun i v2327 v2337 k0_hw214 k0_h1 => k0_hw214 k0_h1

def k0_chk215 (i : grid0.Coords) (v2325 : IVec S16 32) (v2339 : IVec S16 32) : Prop :=
  (∀ (k0_h1 : k0_cond1 i = 1#1), ∀ a x, ((![v2339, v2325] : Fin 2 → IVec S16 32) a x).toNat < S64x256.size a)
theorem k0_idx215_inb : ∀ (i : grid0.Coords) (v2325 : IVec S16 32) (v2339 : IVec S16 32) (k0_hw215 : k0_chk215 i v2325 v2339), ∀ (k0_h1 : k0_cond1 i = 1#1), ∀ a x, ((![v2339, v2325] : Fin 2 → IVec S16 32) a x).toNat < S64x256.size a := fun i v2325 v2339 k0_hw215 k0_h1 => k0_hw215 k0_h1

def k0_chk216 (i : grid0.Coords) (v2327 : IVec S16 32) (v2342 : IVec S16 32) : Prop :=
  (∀ (k0_h1 : k0_cond1 i = 1#1), ∀ a x, ((![v2327, v2342] : Fin 2 → IVec S16 32) a x).toNat < S128x128.size a)
theorem k0_idx216_inb : ∀ (i : grid0.Coords) (v2327 : IVec S16 32) (v2342 : IVec S16 32) (k0_hw216 : k0_chk216 i v2327 v2342), ∀ (k0_h1 : k0_cond1 i = 1#1), ∀ a x, ((![v2327, v2342] : Fin 2 → IVec S16 32) a x).toNat < S128x128.size a := fun i v2327 v2342 k0_hw216 k0_h1 => k0_hw216 k0_h1

def k0_chk217 (i : grid0.Coords) (v2325 : IVec S16 32) (v2344 : IVec S16 32) : Prop :=
  (∀ (k0_h1 : k0_cond1 i = 1#1), ∀ a x, ((![v2344, v2325] : Fin 2 → IVec S16 32) a x).toNat < S64x256.size a)
theorem k0_idx217_inb : ∀ (i : grid0.Coords) (v2325 : IVec S16 32) (v2344 : IVec S16 32) (k0_hw217 : k0_chk217 i v2325 v2344), ∀ (k0_h1 : k0_cond1 i = 1#1), ∀ a x, ((![v2344, v2325] : Fin 2 → IVec S16 32) a x).toNat < S64x256.size a := fun i v2325 v2344 k0_hw217 k0_h1 => k0_hw217 k0_h1

def k0_chk218 (i : grid0.Coords) (v2327 : IVec S16 32) (v2347 : IVec S16 32) : Prop :=
  (∀ (k0_h1 : k0_cond1 i = 1#1), ∀ a x, ((![v2327, v2347] : Fin 2 → IVec S16 32) a x).toNat < S128x128.size a)
theorem k0_idx218_inb : ∀ (i : grid0.Coords) (v2327 : IVec S16 32) (v2347 : IVec S16 32) (k0_hw218 : k0_chk218 i v2327 v2347), ∀ (k0_h1 : k0_cond1 i = 1#1), ∀ a x, ((![v2327, v2347] : Fin 2 → IVec S16 32) a x).toNat < S128x128.size a := fun i v2327 v2347 k0_hw218 k0_h1 => k0_hw218 k0_h1

def k0_chk219 (i : grid0.Coords) (v2351 : IVec S16 32) (v2355 : IVec S16 32) : Prop :=
  (∀ (k0_h1 : k0_cond1 i = 1#1), ∀ a x, ((![v2355, v2351] : Fin 2 → IVec S16 32) a x).toNat < S64x256.size a)
theorem k0_idx219_inb : ∀ (i : grid0.Coords) (v2351 : IVec S16 32) (v2355 : IVec S16 32) (k0_hw219 : k0_chk219 i v2351 v2355), ∀ (k0_h1 : k0_cond1 i = 1#1), ∀ a x, ((![v2355, v2351] : Fin 2 → IVec S16 32) a x).toNat < S64x256.size a := fun i v2351 v2355 k0_hw219 k0_h1 => k0_hw219 k0_h1

def k0_chk220 (i : grid0.Coords) (v2353 : IVec S16 32) (v2358 : IVec S16 32) : Prop :=
  (∀ (k0_h1 : k0_cond1 i = 1#1), ∀ a x, ((![v2353, v2358] : Fin 2 → IVec S16 32) a x).toNat < S128x128.size a)
theorem k0_idx220_inb : ∀ (i : grid0.Coords) (v2353 : IVec S16 32) (v2358 : IVec S16 32) (k0_hw220 : k0_chk220 i v2353 v2358), ∀ (k0_h1 : k0_cond1 i = 1#1), ∀ a x, ((![v2353, v2358] : Fin 2 → IVec S16 32) a x).toNat < S128x128.size a := fun i v2353 v2358 k0_hw220 k0_h1 => k0_hw220 k0_h1

def k0_chk221 (i : grid0.Coords) (v2351 : IVec S16 32) (v2360 : IVec S16 32) : Prop :=
  (∀ (k0_h1 : k0_cond1 i = 1#1), ∀ a x, ((![v2360, v2351] : Fin 2 → IVec S16 32) a x).toNat < S64x256.size a)
theorem k0_idx221_inb : ∀ (i : grid0.Coords) (v2351 : IVec S16 32) (v2360 : IVec S16 32) (k0_hw221 : k0_chk221 i v2351 v2360), ∀ (k0_h1 : k0_cond1 i = 1#1), ∀ a x, ((![v2360, v2351] : Fin 2 → IVec S16 32) a x).toNat < S64x256.size a := fun i v2351 v2360 k0_hw221 k0_h1 => k0_hw221 k0_h1

def k0_chk222 (i : grid0.Coords) (v2353 : IVec S16 32) (v2363 : IVec S16 32) : Prop :=
  (∀ (k0_h1 : k0_cond1 i = 1#1), ∀ a x, ((![v2353, v2363] : Fin 2 → IVec S16 32) a x).toNat < S128x128.size a)
theorem k0_idx222_inb : ∀ (i : grid0.Coords) (v2353 : IVec S16 32) (v2363 : IVec S16 32) (k0_hw222 : k0_chk222 i v2353 v2363), ∀ (k0_h1 : k0_cond1 i = 1#1), ∀ a x, ((![v2353, v2363] : Fin 2 → IVec S16 32) a x).toNat < S128x128.size a := fun i v2353 v2363 k0_hw222 k0_h1 => k0_hw222 k0_h1

def k0_chk223 (i : grid0.Coords) (v2351 : IVec S16 32) (v2365 : IVec S16 32) : Prop :=
  (∀ (k0_h1 : k0_cond1 i = 1#1), ∀ a x, ((![v2365, v2351] : Fin 2 → IVec S16 32) a x).toNat < S64x256.size a)
theorem k0_idx223_inb : ∀ (i : grid0.Coords) (v2351 : IVec S16 32) (v2365 : IVec S16 32) (k0_hw223 : k0_chk223 i v2351 v2365), ∀ (k0_h1 : k0_cond1 i = 1#1), ∀ a x, ((![v2365, v2351] : Fin 2 → IVec S16 32) a x).toNat < S64x256.size a := fun i v2351 v2365 k0_hw223 k0_h1 => k0_hw223 k0_h1

def k0_chk224 (i : grid0.Coords) (v2353 : IVec S16 32) (v2368 : IVec S16 32) : Prop :=
  (∀ (k0_h1 : k0_cond1 i = 1#1), ∀ a x, ((![v2353, v2368] : Fin 2 → IVec S16 32) a x).toNat < S128x128.size a)
theorem k0_idx224_inb : ∀ (i : grid0.Coords) (v2353 : IVec S16 32) (v2368 : IVec S16 32) (k0_hw224 : k0_chk224 i v2353 v2368), ∀ (k0_h1 : k0_cond1 i = 1#1), ∀ a x, ((![v2353, v2368] : Fin 2 → IVec S16 32) a x).toNat < S128x128.size a := fun i v2353 v2368 k0_hw224 k0_h1 => k0_hw224 k0_h1

def k0_chk225 (i : grid0.Coords) (v2351 : IVec S16 32) (v2370 : IVec S16 32) : Prop :=
  (∀ (k0_h1 : k0_cond1 i = 1#1), ∀ a x, ((![v2370, v2351] : Fin 2 → IVec S16 32) a x).toNat < S64x256.size a)
theorem k0_idx225_inb : ∀ (i : grid0.Coords) (v2351 : IVec S16 32) (v2370 : IVec S16 32) (k0_hw225 : k0_chk225 i v2351 v2370), ∀ (k0_h1 : k0_cond1 i = 1#1), ∀ a x, ((![v2370, v2351] : Fin 2 → IVec S16 32) a x).toNat < S64x256.size a := fun i v2351 v2370 k0_hw225 k0_h1 => k0_hw225 k0_h1

def k0_chk226 (i : grid0.Coords) (v2353 : IVec S16 32) (v2373 : IVec S16 32) : Prop :=
  (∀ (k0_h1 : k0_cond1 i = 1#1), ∀ a x, ((![v2353, v2373] : Fin 2 → IVec S16 32) a x).toNat < S128x128.size a)
theorem k0_idx226_inb : ∀ (i : grid0.Coords) (v2353 : IVec S16 32) (v2373 : IVec S16 32) (k0_hw226 : k0_chk226 i v2353 v2373), ∀ (k0_h1 : k0_cond1 i = 1#1), ∀ a x, ((![v2353, v2373] : Fin 2 → IVec S16 32) a x).toNat < S128x128.size a := fun i v2353 v2373 k0_hw226 k0_h1 => k0_hw226 k0_h1

def k0_chk227 (i : grid0.Coords) (v2377 : IVec S16 32) (v2381 : IVec S16 32) : Prop :=
  (∀ (k0_h1 : k0_cond1 i = 1#1), ∀ a x, ((![v2381, v2377] : Fin 2 → IVec S16 32) a x).toNat < S64x256.size a)
theorem k0_idx227_inb : ∀ (i : grid0.Coords) (v2377 : IVec S16 32) (v2381 : IVec S16 32) (k0_hw227 : k0_chk227 i v2377 v2381), ∀ (k0_h1 : k0_cond1 i = 1#1), ∀ a x, ((![v2381, v2377] : Fin 2 → IVec S16 32) a x).toNat < S64x256.size a := fun i v2377 v2381 k0_hw227 k0_h1 => k0_hw227 k0_h1

def k0_chk228 (i : grid0.Coords) (v2379 : IVec S16 32) (v2384 : IVec S16 32) : Prop :=
  (∀ (k0_h1 : k0_cond1 i = 1#1), ∀ a x, ((![v2379, v2384] : Fin 2 → IVec S16 32) a x).toNat < S128x128.size a)
theorem k0_idx228_inb : ∀ (i : grid0.Coords) (v2379 : IVec S16 32) (v2384 : IVec S16 32) (k0_hw228 : k0_chk228 i v2379 v2384), ∀ (k0_h1 : k0_cond1 i = 1#1), ∀ a x, ((![v2379, v2384] : Fin 2 → IVec S16 32) a x).toNat < S128x128.size a := fun i v2379 v2384 k0_hw228 k0_h1 => k0_hw228 k0_h1

def k0_chk229 (i : grid0.Coords) (v2377 : IVec S16 32) (v2386 : IVec S16 32) : Prop :=
  (∀ (k0_h1 : k0_cond1 i = 1#1), ∀ a x, ((![v2386, v2377] : Fin 2 → IVec S16 32) a x).toNat < S64x256.size a)
theorem k0_idx229_inb : ∀ (i : grid0.Coords) (v2377 : IVec S16 32) (v2386 : IVec S16 32) (k0_hw229 : k0_chk229 i v2377 v2386), ∀ (k0_h1 : k0_cond1 i = 1#1), ∀ a x, ((![v2386, v2377] : Fin 2 → IVec S16 32) a x).toNat < S64x256.size a := fun i v2377 v2386 k0_hw229 k0_h1 => k0_hw229 k0_h1

def k0_chk230 (i : grid0.Coords) (v2379 : IVec S16 32) (v2389 : IVec S16 32) : Prop :=
  (∀ (k0_h1 : k0_cond1 i = 1#1), ∀ a x, ((![v2379, v2389] : Fin 2 → IVec S16 32) a x).toNat < S128x128.size a)
theorem k0_idx230_inb : ∀ (i : grid0.Coords) (v2379 : IVec S16 32) (v2389 : IVec S16 32) (k0_hw230 : k0_chk230 i v2379 v2389), ∀ (k0_h1 : k0_cond1 i = 1#1), ∀ a x, ((![v2379, v2389] : Fin 2 → IVec S16 32) a x).toNat < S128x128.size a := fun i v2379 v2389 k0_hw230 k0_h1 => k0_hw230 k0_h1

def k0_chk231 (i : grid0.Coords) (v2377 : IVec S16 32) (v2391 : IVec S16 32) : Prop :=
  (∀ (k0_h1 : k0_cond1 i = 1#1), ∀ a x, ((![v2391, v2377] : Fin 2 → IVec S16 32) a x).toNat < S64x256.size a)
theorem k0_idx231_inb : ∀ (i : grid0.Coords) (v2377 : IVec S16 32) (v2391 : IVec S16 32) (k0_hw231 : k0_chk231 i v2377 v2391), ∀ (k0_h1 : k0_cond1 i = 1#1), ∀ a x, ((![v2391, v2377] : Fin 2 → IVec S16 32) a x).toNat < S64x256.size a := fun i v2377 v2391 k0_hw231 k0_h1 => k0_hw231 k0_h1

def k0_chk232 (i : grid0.Coords) (v2379 : IVec S16 32) (v2394 : IVec S16 32) : Prop :=
  (∀ (k0_h1 : k0_cond1 i = 1#1), ∀ a x, ((![v2379, v2394] : Fin 2 → IVec S16 32) a x).toNat < S128x128.size a)
theorem k0_idx232_inb : ∀ (i : grid0.Coords) (v2379 : IVec S16 32) (v2394 : IVec S16 32) (k0_hw232 : k0_chk232 i v2379 v2394), ∀ (k0_h1 : k0_cond1 i = 1#1), ∀ a x, ((![v2379, v2394] : Fin 2 → IVec S16 32) a x).toNat < S128x128.size a := fun i v2379 v2394 k0_hw232 k0_h1 => k0_hw232 k0_h1

def k0_chk233 (i : grid0.Coords) (v2377 : IVec S16 32) (v2396 : IVec S16 32) : Prop :=
  (∀ (k0_h1 : k0_cond1 i = 1#1), ∀ a x, ((![v2396, v2377] : Fin 2 → IVec S16 32) a x).toNat < S64x256.size a)
theorem k0_idx233_inb : ∀ (i : grid0.Coords) (v2377 : IVec S16 32) (v2396 : IVec S16 32) (k0_hw233 : k0_chk233 i v2377 v2396), ∀ (k0_h1 : k0_cond1 i = 1#1), ∀ a x, ((![v2396, v2377] : Fin 2 → IVec S16 32) a x).toNat < S64x256.size a := fun i v2377 v2396 k0_hw233 k0_h1 => k0_hw233 k0_h1

def k0_chk234 (i : grid0.Coords) (v2379 : IVec S16 32) (v2399 : IVec S16 32) : Prop :=
  (∀ (k0_h1 : k0_cond1 i = 1#1), ∀ a x, ((![v2379, v2399] : Fin 2 → IVec S16 32) a x).toNat < S128x128.size a)
theorem k0_idx234_inb : ∀ (i : grid0.Coords) (v2379 : IVec S16 32) (v2399 : IVec S16 32) (k0_hw234 : k0_chk234 i v2379 v2399), ∀ (k0_h1 : k0_cond1 i = 1#1), ∀ a x, ((![v2379, v2399] : Fin 2 → IVec S16 32) a x).toNat < S128x128.size a := fun i v2379 v2399 k0_hw234 k0_h1 => k0_hw234 k0_h1

def k0_chk235 (i : grid0.Coords) (v2403 : IVec S16 32) (v2407 : IVec S16 32) : Prop :=
  (∀ (k0_h1 : k0_cond1 i = 1#1), ∀ a x, ((![v2407, v2403] : Fin 2 → IVec S16 32) a x).toNat < S64x256.size a)
theorem k0_idx235_inb : ∀ (i : grid0.Coords) (v2403 : IVec S16 32) (v2407 : IVec S16 32) (k0_hw235 : k0_chk235 i v2403 v2407), ∀ (k0_h1 : k0_cond1 i = 1#1), ∀ a x, ((![v2407, v2403] : Fin 2 → IVec S16 32) a x).toNat < S64x256.size a := fun i v2403 v2407 k0_hw235 k0_h1 => k0_hw235 k0_h1

def k0_chk236 (i : grid0.Coords) (v2405 : IVec S16 32) (v2410 : IVec S16 32) : Prop :=
  (∀ (k0_h1 : k0_cond1 i = 1#1), ∀ a x, ((![v2405, v2410] : Fin 2 → IVec S16 32) a x).toNat < S128x128.size a)
theorem k0_idx236_inb : ∀ (i : grid0.Coords) (v2405 : IVec S16 32) (v2410 : IVec S16 32) (k0_hw236 : k0_chk236 i v2405 v2410), ∀ (k0_h1 : k0_cond1 i = 1#1), ∀ a x, ((![v2405, v2410] : Fin 2 → IVec S16 32) a x).toNat < S128x128.size a := fun i v2405 v2410 k0_hw236 k0_h1 => k0_hw236 k0_h1

def k0_chk237 (i : grid0.Coords) (v2403 : IVec S16 32) (v2412 : IVec S16 32) : Prop :=
  (∀ (k0_h1 : k0_cond1 i = 1#1), ∀ a x, ((![v2412, v2403] : Fin 2 → IVec S16 32) a x).toNat < S64x256.size a)
theorem k0_idx237_inb : ∀ (i : grid0.Coords) (v2403 : IVec S16 32) (v2412 : IVec S16 32) (k0_hw237 : k0_chk237 i v2403 v2412), ∀ (k0_h1 : k0_cond1 i = 1#1), ∀ a x, ((![v2412, v2403] : Fin 2 → IVec S16 32) a x).toNat < S64x256.size a := fun i v2403 v2412 k0_hw237 k0_h1 => k0_hw237 k0_h1

def k0_chk238 (i : grid0.Coords) (v2405 : IVec S16 32) (v2415 : IVec S16 32) : Prop :=
  (∀ (k0_h1 : k0_cond1 i = 1#1), ∀ a x, ((![v2405, v2415] : Fin 2 → IVec S16 32) a x).toNat < S128x128.size a)
theorem k0_idx238_inb : ∀ (i : grid0.Coords) (v2405 : IVec S16 32) (v2415 : IVec S16 32) (k0_hw238 : k0_chk238 i v2405 v2415), ∀ (k0_h1 : k0_cond1 i = 1#1), ∀ a x, ((![v2405, v2415] : Fin 2 → IVec S16 32) a x).toNat < S128x128.size a := fun i v2405 v2415 k0_hw238 k0_h1 => k0_hw238 k0_h1

def k0_chk239 (i : grid0.Coords) (v2403 : IVec S16 32) (v2417 : IVec S16 32) : Prop :=
  (∀ (k0_h1 : k0_cond1 i = 1#1), ∀ a x, ((![v2417, v2403] : Fin 2 → IVec S16 32) a x).toNat < S64x256.size a)
theorem k0_idx239_inb : ∀ (i : grid0.Coords) (v2403 : IVec S16 32) (v2417 : IVec S16 32) (k0_hw239 : k0_chk239 i v2403 v2417), ∀ (k0_h1 : k0_cond1 i = 1#1), ∀ a x, ((![v2417, v2403] : Fin 2 → IVec S16 32) a x).toNat < S64x256.size a := fun i v2403 v2417 k0_hw239 k0_h1 => k0_hw239 k0_h1

def k0_chk240 (i : grid0.Coords) (v2405 : IVec S16 32) (v2420 : IVec S16 32) : Prop :=
  (∀ (k0_h1 : k0_cond1 i = 1#1), ∀ a x, ((![v2405, v2420] : Fin 2 → IVec S16 32) a x).toNat < S128x128.size a)
theorem k0_idx240_inb : ∀ (i : grid0.Coords) (v2405 : IVec S16 32) (v2420 : IVec S16 32) (k0_hw240 : k0_chk240 i v2405 v2420), ∀ (k0_h1 : k0_cond1 i = 1#1), ∀ a x, ((![v2405, v2420] : Fin 2 → IVec S16 32) a x).toNat < S128x128.size a := fun i v2405 v2420 k0_hw240 k0_h1 => k0_hw240 k0_h1

def k0_chk241 (i : grid0.Coords) (v2403 : IVec S16 32) (v2422 : IVec S16 32) : Prop :=
  (∀ (k0_h1 : k0_cond1 i = 1#1), ∀ a x, ((![v2422, v2403] : Fin 2 → IVec S16 32) a x).toNat < S64x256.size a)
theorem k0_idx241_inb : ∀ (i : grid0.Coords) (v2403 : IVec S16 32) (v2422 : IVec S16 32) (k0_hw241 : k0_chk241 i v2403 v2422), ∀ (k0_h1 : k0_cond1 i = 1#1), ∀ a x, ((![v2422, v2403] : Fin 2 → IVec S16 32) a x).toNat < S64x256.size a := fun i v2403 v2422 k0_hw241 k0_h1 => k0_hw241 k0_h1

def k0_chk242 (i : grid0.Coords) (v2405 : IVec S16 32) (v2425 : IVec S16 32) : Prop :=
  (∀ (k0_h1 : k0_cond1 i = 1#1), ∀ a x, ((![v2405, v2425] : Fin 2 → IVec S16 32) a x).toNat < S128x128.size a)
theorem k0_idx242_inb : ∀ (i : grid0.Coords) (v2405 : IVec S16 32) (v2425 : IVec S16 32) (k0_hw242 : k0_chk242 i v2405 v2425), ∀ (k0_h1 : k0_cond1 i = 1#1), ∀ a x, ((![v2405, v2425] : Fin 2 → IVec S16 32) a x).toNat < S128x128.size a := fun i v2405 v2425 k0_hw242 k0_h1 => k0_hw242 k0_h1

def k0_chk243 (i : grid0.Coords) (v2429 : IVec S16 32) (v2433 : IVec S16 32) : Prop :=
  (∀ (k0_h1 : k0_cond1 i = 1#1), ∀ a x, ((![v2433, v2429] : Fin 2 → IVec S16 32) a x).toNat < S64x256.size a)
theorem k0_idx243_inb : ∀ (i : grid0.Coords) (v2429 : IVec S16 32) (v2433 : IVec S16 32) (k0_hw243 : k0_chk243 i v2429 v2433), ∀ (k0_h1 : k0_cond1 i = 1#1), ∀ a x, ((![v2433, v2429] : Fin 2 → IVec S16 32) a x).toNat < S64x256.size a := fun i v2429 v2433 k0_hw243 k0_h1 => k0_hw243 k0_h1

def k0_chk244 (i : grid0.Coords) (v2431 : IVec S16 32) (v2436 : IVec S16 32) : Prop :=
  (∀ (k0_h1 : k0_cond1 i = 1#1), ∀ a x, ((![v2431, v2436] : Fin 2 → IVec S16 32) a x).toNat < S128x128.size a)
theorem k0_idx244_inb : ∀ (i : grid0.Coords) (v2431 : IVec S16 32) (v2436 : IVec S16 32) (k0_hw244 : k0_chk244 i v2431 v2436), ∀ (k0_h1 : k0_cond1 i = 1#1), ∀ a x, ((![v2431, v2436] : Fin 2 → IVec S16 32) a x).toNat < S128x128.size a := fun i v2431 v2436 k0_hw244 k0_h1 => k0_hw244 k0_h1

def k0_chk245 (i : grid0.Coords) (v2429 : IVec S16 32) (v2438 : IVec S16 32) : Prop :=
  (∀ (k0_h1 : k0_cond1 i = 1#1), ∀ a x, ((![v2438, v2429] : Fin 2 → IVec S16 32) a x).toNat < S64x256.size a)
theorem k0_idx245_inb : ∀ (i : grid0.Coords) (v2429 : IVec S16 32) (v2438 : IVec S16 32) (k0_hw245 : k0_chk245 i v2429 v2438), ∀ (k0_h1 : k0_cond1 i = 1#1), ∀ a x, ((![v2438, v2429] : Fin 2 → IVec S16 32) a x).toNat < S64x256.size a := fun i v2429 v2438 k0_hw245 k0_h1 => k0_hw245 k0_h1

def k0_chk246 (i : grid0.Coords) (v2431 : IVec S16 32) (v2441 : IVec S16 32) : Prop :=
  (∀ (k0_h1 : k0_cond1 i = 1#1), ∀ a x, ((![v2431, v2441] : Fin 2 → IVec S16 32) a x).toNat < S128x128.size a)
theorem k0_idx246_inb : ∀ (i : grid0.Coords) (v2431 : IVec S16 32) (v2441 : IVec S16 32) (k0_hw246 : k0_chk246 i v2431 v2441), ∀ (k0_h1 : k0_cond1 i = 1#1), ∀ a x, ((![v2431, v2441] : Fin 2 → IVec S16 32) a x).toNat < S128x128.size a := fun i v2431 v2441 k0_hw246 k0_h1 => k0_hw246 k0_h1

def k0_chk247 (i : grid0.Coords) (v2429 : IVec S16 32) (v2443 : IVec S16 32) : Prop :=
  (∀ (k0_h1 : k0_cond1 i = 1#1), ∀ a x, ((![v2443, v2429] : Fin 2 → IVec S16 32) a x).toNat < S64x256.size a)
theorem k0_idx247_inb : ∀ (i : grid0.Coords) (v2429 : IVec S16 32) (v2443 : IVec S16 32) (k0_hw247 : k0_chk247 i v2429 v2443), ∀ (k0_h1 : k0_cond1 i = 1#1), ∀ a x, ((![v2443, v2429] : Fin 2 → IVec S16 32) a x).toNat < S64x256.size a := fun i v2429 v2443 k0_hw247 k0_h1 => k0_hw247 k0_h1

def k0_chk248 (i : grid0.Coords) (v2431 : IVec S16 32) (v2446 : IVec S16 32) : Prop :=
  (∀ (k0_h1 : k0_cond1 i = 1#1), ∀ a x, ((![v2431, v2446] : Fin 2 → IVec S16 32) a x).toNat < S128x128.size a)
theorem k0_idx248_inb : ∀ (i : grid0.Coords) (v2431 : IVec S16 32) (v2446 : IVec S16 32) (k0_hw248 : k0_chk248 i v2431 v2446), ∀ (k0_h1 : k0_cond1 i = 1#1), ∀ a x, ((![v2431, v2446] : Fin 2 → IVec S16 32) a x).toNat < S128x128.size a := fun i v2431 v2446 k0_hw248 k0_h1 => k0_hw248 k0_h1

def k0_chk249 (i : grid0.Coords) (v2429 : IVec S16 32) (v2448 : IVec S16 32) : Prop :=
  (∀ (k0_h1 : k0_cond1 i = 1#1), ∀ a x, ((![v2448, v2429] : Fin 2 → IVec S16 32) a x).toNat < S64x256.size a)
theorem k0_idx249_inb : ∀ (i : grid0.Coords) (v2429 : IVec S16 32) (v2448 : IVec S16 32) (k0_hw249 : k0_chk249 i v2429 v2448), ∀ (k0_h1 : k0_cond1 i = 1#1), ∀ a x, ((![v2448, v2429] : Fin 2 → IVec S16 32) a x).toNat < S64x256.size a := fun i v2429 v2448 k0_hw249 k0_h1 => k0_hw249 k0_h1

def k0_chk250 (i : grid0.Coords) (v2431 : IVec S16 32) (v2451 : IVec S16 32) : Prop :=
  (∀ (k0_h1 : k0_cond1 i = 1#1), ∀ a x, ((![v2431, v2451] : Fin 2 → IVec S16 32) a x).toNat < S128x128.size a)
theorem k0_idx250_inb : ∀ (i : grid0.Coords) (v2431 : IVec S16 32) (v2451 : IVec S16 32) (k0_hw250 : k0_chk250 i v2431 v2451), ∀ (k0_h1 : k0_cond1 i = 1#1), ∀ a x, ((![v2431, v2451] : Fin 2 → IVec S16 32) a x).toNat < S128x128.size a := fun i v2431 v2451 k0_hw250 k0_h1 => k0_hw250 k0_h1

def k0_chk251 (i : grid0.Coords) (v2455 : IVec S16 32) (v2459 : IVec S16 32) : Prop :=
  (∀ (k0_h1 : k0_cond1 i = 1#1), ∀ a x, ((![v2459, v2455] : Fin 2 → IVec S16 32) a x).toNat < S64x256.size a)
theorem k0_idx251_inb : ∀ (i : grid0.Coords) (v2455 : IVec S16 32) (v2459 : IVec S16 32) (k0_hw251 : k0_chk251 i v2455 v2459), ∀ (k0_h1 : k0_cond1 i = 1#1), ∀ a x, ((![v2459, v2455] : Fin 2 → IVec S16 32) a x).toNat < S64x256.size a := fun i v2455 v2459 k0_hw251 k0_h1 => k0_hw251 k0_h1

def k0_chk252 (i : grid0.Coords) (v2457 : IVec S16 32) (v2462 : IVec S16 32) : Prop :=
  (∀ (k0_h1 : k0_cond1 i = 1#1), ∀ a x, ((![v2457, v2462] : Fin 2 → IVec S16 32) a x).toNat < S128x128.size a)
theorem k0_idx252_inb : ∀ (i : grid0.Coords) (v2457 : IVec S16 32) (v2462 : IVec S16 32) (k0_hw252 : k0_chk252 i v2457 v2462), ∀ (k0_h1 : k0_cond1 i = 1#1), ∀ a x, ((![v2457, v2462] : Fin 2 → IVec S16 32) a x).toNat < S128x128.size a := fun i v2457 v2462 k0_hw252 k0_h1 => k0_hw252 k0_h1

def k0_chk253 (i : grid0.Coords) (v2455 : IVec S16 32) (v2464 : IVec S16 32) : Prop :=
  (∀ (k0_h1 : k0_cond1 i = 1#1), ∀ a x, ((![v2464, v2455] : Fin 2 → IVec S16 32) a x).toNat < S64x256.size a)
theorem k0_idx253_inb : ∀ (i : grid0.Coords) (v2455 : IVec S16 32) (v2464 : IVec S16 32) (k0_hw253 : k0_chk253 i v2455 v2464), ∀ (k0_h1 : k0_cond1 i = 1#1), ∀ a x, ((![v2464, v2455] : Fin 2 → IVec S16 32) a x).toNat < S64x256.size a := fun i v2455 v2464 k0_hw253 k0_h1 => k0_hw253 k0_h1

def k0_chk254 (i : grid0.Coords) (v2457 : IVec S16 32) (v2467 : IVec S16 32) : Prop :=
  (∀ (k0_h1 : k0_cond1 i = 1#1), ∀ a x, ((![v2457, v2467] : Fin 2 → IVec S16 32) a x).toNat < S128x128.size a)
theorem k0_idx254_inb : ∀ (i : grid0.Coords) (v2457 : IVec S16 32) (v2467 : IVec S16 32) (k0_hw254 : k0_chk254 i v2457 v2467), ∀ (k0_h1 : k0_cond1 i = 1#1), ∀ a x, ((![v2457, v2467] : Fin 2 → IVec S16 32) a x).toNat < S128x128.size a := fun i v2457 v2467 k0_hw254 k0_h1 => k0_hw254 k0_h1

def k0_chk255 (i : grid0.Coords) (v2455 : IVec S16 32) (v2469 : IVec S16 32) : Prop :=
  (∀ (k0_h1 : k0_cond1 i = 1#1), ∀ a x, ((![v2469, v2455] : Fin 2 → IVec S16 32) a x).toNat < S64x256.size a)
theorem k0_idx255_inb : ∀ (i : grid0.Coords) (v2455 : IVec S16 32) (v2469 : IVec S16 32) (k0_hw255 : k0_chk255 i v2455 v2469), ∀ (k0_h1 : k0_cond1 i = 1#1), ∀ a x, ((![v2469, v2455] : Fin 2 → IVec S16 32) a x).toNat < S64x256.size a := fun i v2455 v2469 k0_hw255 k0_h1 => k0_hw255 k0_h1

def k0_chk256 (i : grid0.Coords) (v2457 : IVec S16 32) (v2472 : IVec S16 32) : Prop :=
  (∀ (k0_h1 : k0_cond1 i = 1#1), ∀ a x, ((![v2457, v2472] : Fin 2 → IVec S16 32) a x).toNat < S128x128.size a)
theorem k0_idx256_inb : ∀ (i : grid0.Coords) (v2457 : IVec S16 32) (v2472 : IVec S16 32) (k0_hw256 : k0_chk256 i v2457 v2472), ∀ (k0_h1 : k0_cond1 i = 1#1), ∀ a x, ((![v2457, v2472] : Fin 2 → IVec S16 32) a x).toNat < S128x128.size a := fun i v2457 v2472 k0_hw256 k0_h1 => k0_hw256 k0_h1

def k0_chk257 (i : grid0.Coords) (v2455 : IVec S16 32) (v2474 : IVec S16 32) : Prop :=
  (∀ (k0_h1 : k0_cond1 i = 1#1), ∀ a x, ((![v2474, v2455] : Fin 2 → IVec S16 32) a x).toNat < S64x256.size a)
theorem k0_idx257_inb : ∀ (i : grid0.Coords) (v2455 : IVec S16 32) (v2474 : IVec S16 32) (k0_hw257 : k0_chk257 i v2455 v2474), ∀ (k0_h1 : k0_cond1 i = 1#1), ∀ a x, ((![v2474, v2455] : Fin 2 → IVec S16 32) a x).toNat < S64x256.size a := fun i v2455 v2474 k0_hw257 k0_h1 => k0_hw257 k0_h1

def k0_chk258 (i : grid0.Coords) (v2457 : IVec S16 32) (v2477 : IVec S16 32) : Prop :=
  (∀ (k0_h1 : k0_cond1 i = 1#1), ∀ a x, ((![v2457, v2477] : Fin 2 → IVec S16 32) a x).toNat < S128x128.size a)
theorem k0_idx258_inb : ∀ (i : grid0.Coords) (v2457 : IVec S16 32) (v2477 : IVec S16 32) (k0_hw258 : k0_chk258 i v2457 v2477), ∀ (k0_h1 : k0_cond1 i = 1#1), ∀ a x, ((![v2457, v2477] : Fin 2 → IVec S16 32) a x).toNat < S128x128.size a := fun i v2457 v2477 k0_hw258 k0_h1 => k0_hw258 k0_h1

def k0_chk259 (i : grid0.Coords) (v2481 : IVec S16 32) (v2485 : IVec S16 32) : Prop :=
  (∀ (k0_h1 : k0_cond1 i = 1#1), ∀ a x, ((![v2485, v2481] : Fin 2 → IVec S16 32) a x).toNat < S64x256.size a)
theorem k0_idx259_inb : ∀ (i : grid0.Coords) (v2481 : IVec S16 32) (v2485 : IVec S16 32) (k0_hw259 : k0_chk259 i v2481 v2485), ∀ (k0_h1 : k0_cond1 i = 1#1), ∀ a x, ((![v2485, v2481] : Fin 2 → IVec S16 32) a x).toNat < S64x256.size a := fun i v2481 v2485 k0_hw259 k0_h1 => k0_hw259 k0_h1

def k0_chk260 (i : grid0.Coords) (v2483 : IVec S16 32) (v2488 : IVec S16 32) : Prop :=
  (∀ (k0_h1 : k0_cond1 i = 1#1), ∀ a x, ((![v2483, v2488] : Fin 2 → IVec S16 32) a x).toNat < S128x128.size a)
theorem k0_idx260_inb : ∀ (i : grid0.Coords) (v2483 : IVec S16 32) (v2488 : IVec S16 32) (k0_hw260 : k0_chk260 i v2483 v2488), ∀ (k0_h1 : k0_cond1 i = 1#1), ∀ a x, ((![v2483, v2488] : Fin 2 → IVec S16 32) a x).toNat < S128x128.size a := fun i v2483 v2488 k0_hw260 k0_h1 => k0_hw260 k0_h1

def k0_chk261 (i : grid0.Coords) (v2481 : IVec S16 32) (v2490 : IVec S16 32) : Prop :=
  (∀ (k0_h1 : k0_cond1 i = 1#1), ∀ a x, ((![v2490, v2481] : Fin 2 → IVec S16 32) a x).toNat < S64x256.size a)
theorem k0_idx261_inb : ∀ (i : grid0.Coords) (v2481 : IVec S16 32) (v2490 : IVec S16 32) (k0_hw261 : k0_chk261 i v2481 v2490), ∀ (k0_h1 : k0_cond1 i = 1#1), ∀ a x, ((![v2490, v2481] : Fin 2 → IVec S16 32) a x).toNat < S64x256.size a := fun i v2481 v2490 k0_hw261 k0_h1 => k0_hw261 k0_h1

def k0_chk262 (i : grid0.Coords) (v2483 : IVec S16 32) (v2493 : IVec S16 32) : Prop :=
  (∀ (k0_h1 : k0_cond1 i = 1#1), ∀ a x, ((![v2483, v2493] : Fin 2 → IVec S16 32) a x).toNat < S128x128.size a)
theorem k0_idx262_inb : ∀ (i : grid0.Coords) (v2483 : IVec S16 32) (v2493 : IVec S16 32) (k0_hw262 : k0_chk262 i v2483 v2493), ∀ (k0_h1 : k0_cond1 i = 1#1), ∀ a x, ((![v2483, v2493] : Fin 2 → IVec S16 32) a x).toNat < S128x128.size a := fun i v2483 v2493 k0_hw262 k0_h1 => k0_hw262 k0_h1

def k0_chk263 (i : grid0.Coords) (v2481 : IVec S16 32) (v2495 : IVec S16 32) : Prop :=
  (∀ (k0_h1 : k0_cond1 i = 1#1), ∀ a x, ((![v2495, v2481] : Fin 2 → IVec S16 32) a x).toNat < S64x256.size a)
theorem k0_idx263_inb : ∀ (i : grid0.Coords) (v2481 : IVec S16 32) (v2495 : IVec S16 32) (k0_hw263 : k0_chk263 i v2481 v2495), ∀ (k0_h1 : k0_cond1 i = 1#1), ∀ a x, ((![v2495, v2481] : Fin 2 → IVec S16 32) a x).toNat < S64x256.size a := fun i v2481 v2495 k0_hw263 k0_h1 => k0_hw263 k0_h1

def k0_chk264 (i : grid0.Coords) (v2483 : IVec S16 32) (v2498 : IVec S16 32) : Prop :=
  (∀ (k0_h1 : k0_cond1 i = 1#1), ∀ a x, ((![v2483, v2498] : Fin 2 → IVec S16 32) a x).toNat < S128x128.size a)
theorem k0_idx264_inb : ∀ (i : grid0.Coords) (v2483 : IVec S16 32) (v2498 : IVec S16 32) (k0_hw264 : k0_chk264 i v2483 v2498), ∀ (k0_h1 : k0_cond1 i = 1#1), ∀ a x, ((![v2483, v2498] : Fin 2 → IVec S16 32) a x).toNat < S128x128.size a := fun i v2483 v2498 k0_hw264 k0_h1 => k0_hw264 k0_h1

def k0_chk265 (i : grid0.Coords) (v2481 : IVec S16 32) (v2500 : IVec S16 32) : Prop :=
  (∀ (k0_h1 : k0_cond1 i = 1#1), ∀ a x, ((![v2500, v2481] : Fin 2 → IVec S16 32) a x).toNat < S64x256.size a)
theorem k0_idx265_inb : ∀ (i : grid0.Coords) (v2481 : IVec S16 32) (v2500 : IVec S16 32) (k0_hw265 : k0_chk265 i v2481 v2500), ∀ (k0_h1 : k0_cond1 i = 1#1), ∀ a x, ((![v2500, v2481] : Fin 2 → IVec S16 32) a x).toNat < S64x256.size a := fun i v2481 v2500 k0_hw265 k0_h1 => k0_hw265 k0_h1

def k0_chk266 (i : grid0.Coords) (v2483 : IVec S16 32) (v2503 : IVec S16 32) : Prop :=
  (∀ (k0_h1 : k0_cond1 i = 1#1), ∀ a x, ((![v2483, v2503] : Fin 2 → IVec S16 32) a x).toNat < S128x128.size a)
theorem k0_idx266_inb : ∀ (i : grid0.Coords) (v2483 : IVec S16 32) (v2503 : IVec S16 32) (k0_hw266 : k0_chk266 i v2483 v2503), ∀ (k0_h1 : k0_cond1 i = 1#1), ∀ a x, ((![v2483, v2503] : Fin 2 → IVec S16 32) a x).toNat < S128x128.size a := fun i v2483 v2503 k0_hw266 k0_h1 => k0_hw266 k0_h1
def k0_cond4 (k0_t3 : Fin k0_t3_loop.trips) : BitVec 1 :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c3_i32_163 : BitVec 32 := 3#32
  let v2010 : BitVec 32 := Scalar.addi v1989 c3_i32_163
  let c390_i32_164 : BitVec 32 := 390#32
  let v2011 : BitVec 1 := Scalar.cmpi .slt v2010 c390_i32_164
  let v2012 : BitVec 32 := Scalar.extui v2011
  let c0_i32_165 : BitVec 32 := 0#32
  let v2013 : BitVec 1 := Scalar.cmpi .ne v2012 c0_i32_165
  v2013

def k0_mult5 (k0_t3 : Fin k0_t3_loop.trips) : BitVec 32 :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c3_i32_198 : BitVec 32 := 3#32
  let v2064 : BitVec 32 := Scalar.addi v1989 c3_i32_198
  let c256_i32_199 : BitVec 32 := 256#32
  let v2065 : BitVec 32 := Scalar.muli v2064 c256_i32_199
  v2065
def k0_off8 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_200 : BitVec 32 := 0#32
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c3_i32_198 : BitVec 32 := 3#32
  let v2064 : BitVec 32 := Scalar.addi v1989 c3_i32_198
  let c256_i32_199 : BitVec 32 := 256#32
  let v2065 : BitVec 32 := Scalar.muli v2064 c256_i32_199
  let v2066 : BitVec 32 := v2065
  ![v1.toNat, 0, v2066.toNat]
def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_166 : BitVec 32 := 0#32
  let c0_i32_167 : BitVec 32 := 0#32
  ![v1.toNat, 0, 0]
def k0_off10 (k0_t3 : Fin k0_t3_loop.trips) : Fin 1 → Nat :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c1_i32_170 : BitVec 32 := 1#32
  let v2018 : BitVec 32 := Scalar.addi v1989 c1_i32_170
  let v2019 : Index := Scalar.indexCast v2018
  ![v2019.toNat]
def k0_off11 (k0_t3 : Fin k0_t3_loop.trips) : Fin 1 → Nat :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c1_i32_170 : BitVec 32 := 1#32
  let v2018 : BitVec 32 := Scalar.addi v1989 c1_i32_170
  let c1_i32_171 : BitVec 32 := 1#32
  let v2021 : BitVec 32 := Scalar.addi v2018 c1_i32_171
  let v2022 : Index := Scalar.indexCast v2021
  ![v2022.toNat]
@[reducible] def k0_t6_loop (v2020 : BitVec 32) (v2023 : BitVec 32) : Scf.Loop 32 :=
  let c0_i32_175 : BitVec 32 := 0#32
  let v2024 : BitVec 32 := Scalar.subi v2023 v2020
  let c16_i32_172 : BitVec 32 := 16#32
  let v2025 : BitVec 32 := Scalar.addi v2024 c16_i32_172
  let c1_i32_173 : BitVec 32 := 1#32
  let v2026 : BitVec 32 := Scalar.subi v2025 c1_i32_173
  let c4_i32_174 : BitVec 32 := 4#32
  let v2027 : BitVec 32 := Scalar.shrsi v2026 c4_i32_174
  let v2028 : BitVec 32 := Scalar.subi v2027 c0_i32_175
  let c1_i32_176 : BitVec 32 := 1#32
  let v2030 : BitVec 32 := Scalar.divsi v2028 c1_i32_176
  let v2031 : BitVec 32 := Scalar.muli v2030 c1_i32_176
  let v2032 : BitVec 32 := Scalar.addi c0_i32_175 v2031
  let c1_i32_177 : BitVec 32 := 1#32
  ⟨c0_i32_175, v2032, c1_i32_177⟩

def k0_chk268 (i : grid0.Coords) (v2075 : IVec S16 32) : Prop :=
  (∀ (k0_h1 : k0_cond1 i = 1#1), ∀ a x, ((![v2075] : Fin 1 → IVec S16 32) a x).toNat < S4096.size a)
theorem k0_idx267_inb : ∀ (i : grid0.Coords) (v2075 : IVec S16 32) (k0_hw268 : k0_chk268 i v2075), ∀ (k0_h1 : k0_cond1 i = 1#1), ∀ a x, ((![v2075] : Fin 1 → IVec S16 32) a x).toNat < S4096.size a := fun i v2075 k0_hw268 k0_h1 => k0_hw268 k0_h1

def k0_chk269 (i : grid0.Coords) (v2087 : IVec S16 32) : Prop :=
  (∀ (k0_h1 : k0_cond1 i = 1#1), ∀ a x, ((![v2087] : Fin 1 → IVec S16 32) a x).toNat < S128.size a)
theorem k0_idx268_inb : ∀ (i : grid0.Coords) (v2087 : IVec S16 32) (k0_hw269 : k0_chk269 i v2087), ∀ (k0_h1 : k0_cond1 i = 1#1), ∀ a x, ((![v2087] : Fin 1 → IVec S16 32) a x).toNat < S128.size a := fun i v2087 k0_hw269 k0_h1 => k0_hw269 k0_h1

def k0_chk270 (i : grid0.Coords) (v2091 : IVec S16 32) (v2095 : IVec S16 32) : Prop :=
  (∀ (k0_h1 : k0_cond1 i = 1#1), ∀ a x, ((![v2095, v2091] : Fin 2 → IVec S16 32) a x).toNat < S64x256.size a)
theorem k0_idx269_inb : ∀ (i : grid0.Coords) (v2091 : IVec S16 32) (v2095 : IVec S16 32) (k0_hw270 : k0_chk270 i v2091 v2095), ∀ (k0_h1 : k0_cond1 i = 1#1), ∀ a x, ((![v2095, v2091] : Fin 2 → IVec S16 32) a x).toNat < S64x256.size a := fun i v2091 v2095 k0_hw270 k0_h1 => k0_hw270 k0_h1

def k0_chk271 (i : grid0.Coords) (v2093 : IVec S16 32) (v2098 : IVec S16 32) : Prop :=
  (∀ (k0_h1 : k0_cond1 i = 1#1), ∀ a x, ((![v2093, v2098] : Fin 2 → IVec S16 32) a x).toNat < S128x128.size a)
theorem k0_idx270_inb : ∀ (i : grid0.Coords) (v2093 : IVec S16 32) (v2098 : IVec S16 32) (k0_hw271 : k0_chk271 i v2093 v2098), ∀ (k0_h1 : k0_cond1 i = 1#1), ∀ a x, ((![v2093, v2098] : Fin 2 → IVec S16 32) a x).toNat < S128x128.size a := fun i v2093 v2098 k0_hw271 k0_h1 => k0_hw271 k0_h1

def k0_chk272 (i : grid0.Coords) (v2091 : IVec S16 32) (v2100 : IVec S16 32) : Prop :=
  (∀ (k0_h1 : k0_cond1 i = 1#1), ∀ a x, ((![v2100, v2091] : Fin 2 → IVec S16 32) a x).toNat < S64x256.size a)
theorem k0_idx271_inb : ∀ (i : grid0.Coords) (v2091 : IVec S16 32) (v2100 : IVec S16 32) (k0_hw272 : k0_chk272 i v2091 v2100), ∀ (k0_h1 : k0_cond1 i = 1#1), ∀ a x, ((![v2100, v2091] : Fin 2 → IVec S16 32) a x).toNat < S64x256.size a := fun i v2091 v2100 k0_hw272 k0_h1 => k0_hw272 k0_h1

def k0_chk273 (i : grid0.Coords) (v2093 : IVec S16 32) (v2103 : IVec S16 32) : Prop :=
  (∀ (k0_h1 : k0_cond1 i = 1#1), ∀ a x, ((![v2093, v2103] : Fin 2 → IVec S16 32) a x).toNat < S128x128.size a)
theorem k0_idx272_inb : ∀ (i : grid0.Coords) (v2093 : IVec S16 32) (v2103 : IVec S16 32) (k0_hw273 : k0_chk273 i v2093 v2103), ∀ (k0_h1 : k0_cond1 i = 1#1), ∀ a x, ((![v2093, v2103] : Fin 2 → IVec S16 32) a x).toNat < S128x128.size a := fun i v2093 v2103 k0_hw273 k0_h1 => k0_hw273 k0_h1

def k0_chk274 (i : grid0.Coords) (v2091 : IVec S16 32) (v2105 : IVec S16 32) : Prop :=
  (∀ (k0_h1 : k0_cond1 i = 1#1), ∀ a x, ((![v2105, v2091] : Fin 2 → IVec S16 32) a x).toNat < S64x256.size a)
theorem k0_idx273_inb : ∀ (i : grid0.Coords) (v2091 : IVec S16 32) (v2105 : IVec S16 32) (k0_hw274 : k0_chk274 i v2091 v2105), ∀ (k0_h1 : k0_cond1 i = 1#1), ∀ a x, ((![v2105, v2091] : Fin 2 → IVec S16 32) a x).toNat < S64x256.size a := fun i v2091 v2105 k0_hw274 k0_h1 => k0_hw274 k0_h1

def k0_chk275 (i : grid0.Coords) (v2093 : IVec S16 32) (v2108 : IVec S16 32) : Prop :=
  (∀ (k0_h1 : k0_cond1 i = 1#1), ∀ a x, ((![v2093, v2108] : Fin 2 → IVec S16 32) a x).toNat < S128x128.size a)
theorem k0_idx274_inb : ∀ (i : grid0.Coords) (v2093 : IVec S16 32) (v2108 : IVec S16 32) (k0_hw275 : k0_chk275 i v2093 v2108), ∀ (k0_h1 : k0_cond1 i = 1#1), ∀ a x, ((![v2093, v2108] : Fin 2 → IVec S16 32) a x).toNat < S128x128.size a := fun i v2093 v2108 k0_hw275 k0_h1 => k0_hw275 k0_h1

def k0_chk276 (i : grid0.Coords) (v2091 : IVec S16 32) (v2110 : IVec S16 32) : Prop :=
  (∀ (k0_h1 : k0_cond1 i = 1#1), ∀ a x, ((![v2110, v2091] : Fin 2 → IVec S16 32) a x).toNat < S64x256.size a)
theorem k0_idx275_inb : ∀ (i : grid0.Coords) (v2091 : IVec S16 32) (v2110 : IVec S16 32) (k0_hw276 : k0_chk276 i v2091 v2110), ∀ (k0_h1 : k0_cond1 i = 1#1), ∀ a x, ((![v2110, v2091] : Fin 2 → IVec S16 32) a x).toNat < S64x256.size a := fun i v2091 v2110 k0_hw276 k0_h1 => k0_hw276 k0_h1

def k0_chk277 (i : grid0.Coords) (v2093 : IVec S16 32) (v2113 : IVec S16 32) : Prop :=
  (∀ (k0_h1 : k0_cond1 i = 1#1), ∀ a x, ((![v2093, v2113] : Fin 2 → IVec S16 32) a x).toNat < S128x128.size a)
theorem k0_idx276_inb : ∀ (i : grid0.Coords) (v2093 : IVec S16 32) (v2113 : IVec S16 32) (k0_hw277 : k0_chk277 i v2093 v2113), ∀ (k0_h1 : k0_cond1 i = 1#1), ∀ a x, ((![v2093, v2113] : Fin 2 → IVec S16 32) a x).toNat < S128x128.size a := fun i v2093 v2113 k0_hw277 k0_h1 => k0_hw277 k0_h1

def k0_chk278 (i : grid0.Coords) (v2117 : IVec S16 32) (v2121 : IVec S16 32) : Prop :=
  (∀ (k0_h1 : k0_cond1 i = 1#1), ∀ a x, ((![v2121, v2117] : Fin 2 → IVec S16 32) a x).toNat < S64x256.size a)
theorem k0_idx277_inb : ∀ (i : grid0.Coords) (v2117 : IVec S16 32) (v2121 : IVec S16 32) (k0_hw278 : k0_chk278 i v2117 v2121), ∀ (k0_h1 : k0_cond1 i = 1#1), ∀ a x, ((![v2121, v2117] : Fin 2 → IVec S16 32) a x).toNat < S64x256.size a := fun i v2117 v2121 k0_hw278 k0_h1 => k0_hw278 k0_h1

def k0_chk279 (i : grid0.Coords) (v2119 : IVec S16 32) (v2124 : IVec S16 32) : Prop :=
  (∀ (k0_h1 : k0_cond1 i = 1#1), ∀ a x, ((![v2119, v2124] : Fin 2 → IVec S16 32) a x).toNat < S128x128.size a)
theorem k0_idx278_inb : ∀ (i : grid0.Coords) (v2119 : IVec S16 32) (v2124 : IVec S16 32) (k0_hw279 : k0_chk279 i v2119 v2124), ∀ (k0_h1 : k0_cond1 i = 1#1), ∀ a x, ((![v2119, v2124] : Fin 2 → IVec S16 32) a x).toNat < S128x128.size a := fun i v2119 v2124 k0_hw279 k0_h1 => k0_hw279 k0_h1

def k0_chk280 (i : grid0.Coords) (v2117 : IVec S16 32) (v2126 : IVec S16 32) : Prop :=
  (∀ (k0_h1 : k0_cond1 i = 1#1), ∀ a x, ((![v2126, v2117] : Fin 2 → IVec S16 32) a x).toNat < S64x256.size a)
theorem k0_idx279_inb : ∀ (i : grid0.Coords) (v2117 : IVec S16 32) (v2126 : IVec S16 32) (k0_hw280 : k0_chk280 i v2117 v2126), ∀ (k0_h1 : k0_cond1 i = 1#1), ∀ a x, ((![v2126, v2117] : Fin 2 → IVec S16 32) a x).toNat < S64x256.size a := fun i v2117 v2126 k0_hw280 k0_h1 => k0_hw280 k0_h1

def k0_chk281 (i : grid0.Coords) (v2119 : IVec S16 32) (v2129 : IVec S16 32) : Prop :=
  (∀ (k0_h1 : k0_cond1 i = 1#1), ∀ a x, ((![v2119, v2129] : Fin 2 → IVec S16 32) a x).toNat < S128x128.size a)
theorem k0_idx280_inb : ∀ (i : grid0.Coords) (v2119 : IVec S16 32) (v2129 : IVec S16 32) (k0_hw281 : k0_chk281 i v2119 v2129), ∀ (k0_h1 : k0_cond1 i = 1#1), ∀ a x, ((![v2119, v2129] : Fin 2 → IVec S16 32) a x).toNat < S128x128.size a := fun i v2119 v2129 k0_hw281 k0_h1 => k0_hw281 k0_h1

def k0_chk282 (i : grid0.Coords) (v2117 : IVec S16 32) (v2131 : IVec S16 32) : Prop :=
  (∀ (k0_h1 : k0_cond1 i = 1#1), ∀ a x, ((![v2131, v2117] : Fin 2 → IVec S16 32) a x).toNat < S64x256.size a)
theorem k0_idx281_inb : ∀ (i : grid0.Coords) (v2117 : IVec S16 32) (v2131 : IVec S16 32) (k0_hw282 : k0_chk282 i v2117 v2131), ∀ (k0_h1 : k0_cond1 i = 1#1), ∀ a x, ((![v2131, v2117] : Fin 2 → IVec S16 32) a x).toNat < S64x256.size a := fun i v2117 v2131 k0_hw282 k0_h1 => k0_hw282 k0_h1

def k0_chk283 (i : grid0.Coords) (v2119 : IVec S16 32) (v2134 : IVec S16 32) : Prop :=
  (∀ (k0_h1 : k0_cond1 i = 1#1), ∀ a x, ((![v2119, v2134] : Fin 2 → IVec S16 32) a x).toNat < S128x128.size a)
theorem k0_idx282_inb : ∀ (i : grid0.Coords) (v2119 : IVec S16 32) (v2134 : IVec S16 32) (k0_hw283 : k0_chk283 i v2119 v2134), ∀ (k0_h1 : k0_cond1 i = 1#1), ∀ a x, ((![v2119, v2134] : Fin 2 → IVec S16 32) a x).toNat < S128x128.size a := fun i v2119 v2134 k0_hw283 k0_h1 => k0_hw283 k0_h1

def k0_chk284 (i : grid0.Coords) (v2117 : IVec S16 32) (v2136 : IVec S16 32) : Prop :=
  (∀ (k0_h1 : k0_cond1 i = 1#1), ∀ a x, ((![v2136, v2117] : Fin 2 → IVec S16 32) a x).toNat < S64x256.size a)
theorem k0_idx283_inb : ∀ (i : grid0.Coords) (v2117 : IVec S16 32) (v2136 : IVec S16 32) (k0_hw284 : k0_chk284 i v2117 v2136), ∀ (k0_h1 : k0_cond1 i = 1#1), ∀ a x, ((![v2136, v2117] : Fin 2 → IVec S16 32) a x).toNat < S64x256.size a := fun i v2117 v2136 k0_hw284 k0_h1 => k0_hw284 k0_h1

def k0_chk285 (i : grid0.Coords) (v2119 : IVec S16 32) (v2139 : IVec S16 32) : Prop :=
  (∀ (k0_h1 : k0_cond1 i = 1#1), ∀ a x, ((![v2119, v2139] : Fin 2 → IVec S16 32) a x).toNat < S128x128.size a)
theorem k0_idx284_inb : ∀ (i : grid0.Coords) (v2119 : IVec S16 32) (v2139 : IVec S16 32) (k0_hw285 : k0_chk285 i v2119 v2139), ∀ (k0_h1 : k0_cond1 i = 1#1), ∀ a x, ((![v2119, v2139] : Fin 2 → IVec S16 32) a x).toNat < S128x128.size a := fun i v2119 v2139 k0_hw285 k0_h1 => k0_hw285 k0_h1

def k0_chk286 (i : grid0.Coords) (v2143 : IVec S16 32) (v2147 : IVec S16 32) : Prop :=
  (∀ (k0_h1 : k0_cond1 i = 1#1), ∀ a x, ((![v2147, v2143] : Fin 2 → IVec S16 32) a x).toNat < S64x256.size a)
theorem k0_idx285_inb : ∀ (i : grid0.Coords) (v2143 : IVec S16 32) (v2147 : IVec S16 32) (k0_hw286 : k0_chk286 i v2143 v2147), ∀ (k0_h1 : k0_cond1 i = 1#1), ∀ a x, ((![v2147, v2143] : Fin 2 → IVec S16 32) a x).toNat < S64x256.size a := fun i v2143 v2147 k0_hw286 k0_h1 => k0_hw286 k0_h1

def k0_chk287 (i : grid0.Coords) (v2145 : IVec S16 32) (v2150 : IVec S16 32) : Prop :=
  (∀ (k0_h1 : k0_cond1 i = 1#1), ∀ a x, ((![v2145, v2150] : Fin 2 → IVec S16 32) a x).toNat < S128x128.size a)
theorem k0_idx286_inb : ∀ (i : grid0.Coords) (v2145 : IVec S16 32) (v2150 : IVec S16 32) (k0_hw287 : k0_chk287 i v2145 v2150), ∀ (k0_h1 : k0_cond1 i = 1#1), ∀ a x, ((![v2145, v2150] : Fin 2 → IVec S16 32) a x).toNat < S128x128.size a := fun i v2145 v2150 k0_hw287 k0_h1 => k0_hw287 k0_h1

def k0_chk288 (i : grid0.Coords) (v2143 : IVec S16 32) (v2152 : IVec S16 32) : Prop :=
  (∀ (k0_h1 : k0_cond1 i = 1#1), ∀ a x, ((![v2152, v2143] : Fin 2 → IVec S16 32) a x).toNat < S64x256.size a)
theorem k0_idx287_inb : ∀ (i : grid0.Coords) (v2143 : IVec S16 32) (v2152 : IVec S16 32) (k0_hw288 : k0_chk288 i v2143 v2152), ∀ (k0_h1 : k0_cond1 i = 1#1), ∀ a x, ((![v2152, v2143] : Fin 2 → IVec S16 32) a x).toNat < S64x256.size a := fun i v2143 v2152 k0_hw288 k0_h1 => k0_hw288 k0_h1

def k0_chk289 (i : grid0.Coords) (v2145 : IVec S16 32) (v2155 : IVec S16 32) : Prop :=
  (∀ (k0_h1 : k0_cond1 i = 1#1), ∀ a x, ((![v2145, v2155] : Fin 2 → IVec S16 32) a x).toNat < S128x128.size a)
theorem k0_idx288_inb : ∀ (i : grid0.Coords) (v2145 : IVec S16 32) (v2155 : IVec S16 32) (k0_hw289 : k0_chk289 i v2145 v2155), ∀ (k0_h1 : k0_cond1 i = 1#1), ∀ a x, ((![v2145, v2155] : Fin 2 → IVec S16 32) a x).toNat < S128x128.size a := fun i v2145 v2155 k0_hw289 k0_h1 => k0_hw289 k0_h1

def k0_chk290 (i : grid0.Coords) (v2143 : IVec S16 32) (v2157 : IVec S16 32) : Prop :=
  (∀ (k0_h1 : k0_cond1 i = 1#1), ∀ a x, ((![v2157, v2143] : Fin 2 → IVec S16 32) a x).toNat < S64x256.size a)
theorem k0_idx289_inb : ∀ (i : grid0.Coords) (v2143 : IVec S16 32) (v2157 : IVec S16 32) (k0_hw290 : k0_chk290 i v2143 v2157), ∀ (k0_h1 : k0_cond1 i = 1#1), ∀ a x, ((![v2157, v2143] : Fin 2 → IVec S16 32) a x).toNat < S64x256.size a := fun i v2143 v2157 k0_hw290 k0_h1 => k0_hw290 k0_h1

def k0_chk291 (i : grid0.Coords) (v2145 : IVec S16 32) (v2160 : IVec S16 32) : Prop :=
  (∀ (k0_h1 : k0_cond1 i = 1#1), ∀ a x, ((![v2145, v2160] : Fin 2 → IVec S16 32) a x).toNat < S128x128.size a)
theorem k0_idx290_inb : ∀ (i : grid0.Coords) (v2145 : IVec S16 32) (v2160 : IVec S16 32) (k0_hw291 : k0_chk291 i v2145 v2160), ∀ (k0_h1 : k0_cond1 i = 1#1), ∀ a x, ((![v2145, v2160] : Fin 2 → IVec S16 32) a x).toNat < S128x128.size a := fun i v2145 v2160 k0_hw291 k0_h1 => k0_hw291 k0_h1

def k0_chk292 (i : grid0.Coords) (v2143 : IVec S16 32) (v2162 : IVec S16 32) : Prop :=
  (∀ (k0_h1 : k0_cond1 i = 1#1), ∀ a x, ((![v2162, v2143] : Fin 2 → IVec S16 32) a x).toNat < S64x256.size a)
theorem k0_idx291_inb : ∀ (i : grid0.Coords) (v2143 : IVec S16 32) (v2162 : IVec S16 32) (k0_hw292 : k0_chk292 i v2143 v2162), ∀ (k0_h1 : k0_cond1 i = 1#1), ∀ a x, ((![v2162, v2143] : Fin 2 → IVec S16 32) a x).toNat < S64x256.size a := fun i v2143 v2162 k0_hw292 k0_h1 => k0_hw292 k0_h1

def k0_chk293 (i : grid0.Coords) (v2145 : IVec S16 32) (v2165 : IVec S16 32) : Prop :=
  (∀ (k0_h1 : k0_cond1 i = 1#1), ∀ a x, ((![v2145, v2165] : Fin 2 → IVec S16 32) a x).toNat < S128x128.size a)
theorem k0_idx292_inb : ∀ (i : grid0.Coords) (v2145 : IVec S16 32) (v2165 : IVec S16 32) (k0_hw293 : k0_chk293 i v2145 v2165), ∀ (k0_h1 : k0_cond1 i = 1#1), ∀ a x, ((![v2145, v2165] : Fin 2 → IVec S16 32) a x).toNat < S128x128.size a := fun i v2145 v2165 k0_hw293 k0_h1 => k0_hw293 k0_h1

def k0_chk294 (i : grid0.Coords) (v2169 : IVec S16 32) (v2173 : IVec S16 32) : Prop :=
  (∀ (k0_h1 : k0_cond1 i = 1#1), ∀ a x, ((![v2173, v2169] : Fin 2 → IVec S16 32) a x).toNat < S64x256.size a)
theorem k0_idx293_inb : ∀ (i : grid0.Coords) (v2169 : IVec S16 32) (v2173 : IVec S16 32) (k0_hw294 : k0_chk294 i v2169 v2173), ∀ (k0_h1 : k0_cond1 i = 1#1), ∀ a x, ((![v2173, v2169] : Fin 2 → IVec S16 32) a x).toNat < S64x256.size a := fun i v2169 v2173 k0_hw294 k0_h1 => k0_hw294 k0_h1

def k0_chk295 (i : grid0.Coords) (v2171 : IVec S16 32) (v2176 : IVec S16 32) : Prop :=
  (∀ (k0_h1 : k0_cond1 i = 1#1), ∀ a x, ((![v2171, v2176] : Fin 2 → IVec S16 32) a x).toNat < S128x128.size a)
theorem k0_idx294_inb : ∀ (i : grid0.Coords) (v2171 : IVec S16 32) (v2176 : IVec S16 32) (k0_hw295 : k0_chk295 i v2171 v2176), ∀ (k0_h1 : k0_cond1 i = 1#1), ∀ a x, ((![v2171, v2176] : Fin 2 → IVec S16 32) a x).toNat < S128x128.size a := fun i v2171 v2176 k0_hw295 k0_h1 => k0_hw295 k0_h1

def k0_chk296 (i : grid0.Coords) (v2169 : IVec S16 32) (v2178 : IVec S16 32) : Prop :=
  (∀ (k0_h1 : k0_cond1 i = 1#1), ∀ a x, ((![v2178, v2169] : Fin 2 → IVec S16 32) a x).toNat < S64x256.size a)
theorem k0_idx295_inb : ∀ (i : grid0.Coords) (v2169 : IVec S16 32) (v2178 : IVec S16 32) (k0_hw296 : k0_chk296 i v2169 v2178), ∀ (k0_h1 : k0_cond1 i = 1#1), ∀ a x, ((![v2178, v2169] : Fin 2 → IVec S16 32) a x).toNat < S64x256.size a := fun i v2169 v2178 k0_hw296 k0_h1 => k0_hw296 k0_h1

def k0_chk297 (i : grid0.Coords) (v2171 : IVec S16 32) (v2181 : IVec S16 32) : Prop :=
  (∀ (k0_h1 : k0_cond1 i = 1#1), ∀ a x, ((![v2171, v2181] : Fin 2 → IVec S16 32) a x).toNat < S128x128.size a)
theorem k0_idx296_inb : ∀ (i : grid0.Coords) (v2171 : IVec S16 32) (v2181 : IVec S16 32) (k0_hw297 : k0_chk297 i v2171 v2181), ∀ (k0_h1 : k0_cond1 i = 1#1), ∀ a x, ((![v2171, v2181] : Fin 2 → IVec S16 32) a x).toNat < S128x128.size a := fun i v2171 v2181 k0_hw297 k0_h1 => k0_hw297 k0_h1

def k0_chk298 (i : grid0.Coords) (v2169 : IVec S16 32) (v2183 : IVec S16 32) : Prop :=
  (∀ (k0_h1 : k0_cond1 i = 1#1), ∀ a x, ((![v2183, v2169] : Fin 2 → IVec S16 32) a x).toNat < S64x256.size a)
theorem k0_idx297_inb : ∀ (i : grid0.Coords) (v2169 : IVec S16 32) (v2183 : IVec S16 32) (k0_hw298 : k0_chk298 i v2169 v2183), ∀ (k0_h1 : k0_cond1 i = 1#1), ∀ a x, ((![v2183, v2169] : Fin 2 → IVec S16 32) a x).toNat < S64x256.size a := fun i v2169 v2183 k0_hw298 k0_h1 => k0_hw298 k0_h1

def k0_chk299 (i : grid0.Coords) (v2171 : IVec S16 32) (v2186 : IVec S16 32) : Prop :=
  (∀ (k0_h1 : k0_cond1 i = 1#1), ∀ a x, ((![v2171, v2186] : Fin 2 → IVec S16 32) a x).toNat < S128x128.size a)
theorem k0_idx298_inb : ∀ (i : grid0.Coords) (v2171 : IVec S16 32) (v2186 : IVec S16 32) (k0_hw299 : k0_chk299 i v2171 v2186), ∀ (k0_h1 : k0_cond1 i = 1#1), ∀ a x, ((![v2171, v2186] : Fin 2 → IVec S16 32) a x).toNat < S128x128.size a := fun i v2171 v2186 k0_hw299 k0_h1 => k0_hw299 k0_h1

def k0_chk300 (i : grid0.Coords) (v2169 : IVec S16 32) (v2188 : IVec S16 32) : Prop :=
  (∀ (k0_h1 : k0_cond1 i = 1#1), ∀ a x, ((![v2188, v2169] : Fin 2 → IVec S16 32) a x).toNat < S64x256.size a)
theorem k0_idx299_inb : ∀ (i : grid0.Coords) (v2169 : IVec S16 32) (v2188 : IVec S16 32) (k0_hw300 : k0_chk300 i v2169 v2188), ∀ (k0_h1 : k0_cond1 i = 1#1), ∀ a x, ((![v2188, v2169] : Fin 2 → IVec S16 32) a x).toNat < S64x256.size a := fun i v2169 v2188 k0_hw300 k0_h1 => k0_hw300 k0_h1

def k0_chk301 (i : grid0.Coords) (v2171 : IVec S16 32) (v2191 : IVec S16 32) : Prop :=
  (∀ (k0_h1 : k0_cond1 i = 1#1), ∀ a x, ((![v2171, v2191] : Fin 2 → IVec S16 32) a x).toNat < S128x128.size a)
theorem k0_idx300_inb : ∀ (i : grid0.Coords) (v2171 : IVec S16 32) (v2191 : IVec S16 32) (k0_hw301 : k0_chk301 i v2171 v2191), ∀ (k0_h1 : k0_cond1 i = 1#1), ∀ a x, ((![v2171, v2191] : Fin 2 → IVec S16 32) a x).toNat < S128x128.size a := fun i v2171 v2191 k0_hw301 k0_h1 => k0_hw301 k0_h1

def k0_chk302 (i : grid0.Coords) (v2195 : IVec S16 32) (v2199 : IVec S16 32) : Prop :=
  (∀ (k0_h1 : k0_cond1 i = 1#1), ∀ a x, ((![v2199, v2195] : Fin 2 → IVec S16 32) a x).toNat < S64x256.size a)
theorem k0_idx301_inb : ∀ (i : grid0.Coords) (v2195 : IVec S16 32) (v2199 : IVec S16 32) (k0_hw302 : k0_chk302 i v2195 v2199), ∀ (k0_h1 : k0_cond1 i = 1#1), ∀ a x, ((![v2199, v2195] : Fin 2 → IVec S16 32) a x).toNat < S64x256.size a := fun i v2195 v2199 k0_hw302 k0_h1 => k0_hw302 k0_h1

def k0_chk303 (i : grid0.Coords) (v2197 : IVec S16 32) (v2202 : IVec S16 32) : Prop :=
  (∀ (k0_h1 : k0_cond1 i = 1#1), ∀ a x, ((![v2197, v2202] : Fin 2 → IVec S16 32) a x).toNat < S128x128.size a)
theorem k0_idx302_inb : ∀ (i : grid0.Coords) (v2197 : IVec S16 32) (v2202 : IVec S16 32) (k0_hw303 : k0_chk303 i v2197 v2202), ∀ (k0_h1 : k0_cond1 i = 1#1), ∀ a x, ((![v2197, v2202] : Fin 2 → IVec S16 32) a x).toNat < S128x128.size a := fun i v2197 v2202 k0_hw303 k0_h1 => k0_hw303 k0_h1

def k0_chk304 (i : grid0.Coords) (v2195 : IVec S16 32) (v2204 : IVec S16 32) : Prop :=
  (∀ (k0_h1 : k0_cond1 i = 1#1), ∀ a x, ((![v2204, v2195] : Fin 2 → IVec S16 32) a x).toNat < S64x256.size a)
theorem k0_idx303_inb : ∀ (i : grid0.Coords) (v2195 : IVec S16 32) (v2204 : IVec S16 32) (k0_hw304 : k0_chk304 i v2195 v2204), ∀ (k0_h1 : k0_cond1 i = 1#1), ∀ a x, ((![v2204, v2195] : Fin 2 → IVec S16 32) a x).toNat < S64x256.size a := fun i v2195 v2204 k0_hw304 k0_h1 => k0_hw304 k0_h1

def k0_chk305 (i : grid0.Coords) (v2197 : IVec S16 32) (v2207 : IVec S16 32) : Prop :=
  (∀ (k0_h1 : k0_cond1 i = 1#1), ∀ a x, ((![v2197, v2207] : Fin 2 → IVec S16 32) a x).toNat < S128x128.size a)
theorem k0_idx304_inb : ∀ (i : grid0.Coords) (v2197 : IVec S16 32) (v2207 : IVec S16 32) (k0_hw305 : k0_chk305 i v2197 v2207), ∀ (k0_h1 : k0_cond1 i = 1#1), ∀ a x, ((![v2197, v2207] : Fin 2 → IVec S16 32) a x).toNat < S128x128.size a := fun i v2197 v2207 k0_hw305 k0_h1 => k0_hw305 k0_h1

def k0_chk306 (i : grid0.Coords) (v2195 : IVec S16 32) (v2209 : IVec S16 32) : Prop :=
  (∀ (k0_h1 : k0_cond1 i = 1#1), ∀ a x, ((![v2209, v2195] : Fin 2 → IVec S16 32) a x).toNat < S64x256.size a)
theorem k0_idx305_inb : ∀ (i : grid0.Coords) (v2195 : IVec S16 32) (v2209 : IVec S16 32) (k0_hw306 : k0_chk306 i v2195 v2209), ∀ (k0_h1 : k0_cond1 i = 1#1), ∀ a x, ((![v2209, v2195] : Fin 2 → IVec S16 32) a x).toNat < S64x256.size a := fun i v2195 v2209 k0_hw306 k0_h1 => k0_hw306 k0_h1

def k0_chk307 (i : grid0.Coords) (v2197 : IVec S16 32) (v2212 : IVec S16 32) : Prop :=
  (∀ (k0_h1 : k0_cond1 i = 1#1), ∀ a x, ((![v2197, v2212] : Fin 2 → IVec S16 32) a x).toNat < S128x128.size a)
theorem k0_idx306_inb : ∀ (i : grid0.Coords) (v2197 : IVec S16 32) (v2212 : IVec S16 32) (k0_hw307 : k0_chk307 i v2197 v2212), ∀ (k0_h1 : k0_cond1 i = 1#1), ∀ a x, ((![v2197, v2212] : Fin 2 → IVec S16 32) a x).toNat < S128x128.size a := fun i v2197 v2212 k0_hw307 k0_h1 => k0_hw307 k0_h1

def k0_chk308 (i : grid0.Coords) (v2195 : IVec S16 32) (v2214 : IVec S16 32) : Prop :=
  (∀ (k0_h1 : k0_cond1 i = 1#1), ∀ a x, ((![v2214, v2195] : Fin 2 → IVec S16 32) a x).toNat < S64x256.size a)
theorem k0_idx307_inb : ∀ (i : grid0.Coords) (v2195 : IVec S16 32) (v2214 : IVec S16 32) (k0_hw308 : k0_chk308 i v2195 v2214), ∀ (k0_h1 : k0_cond1 i = 1#1), ∀ a x, ((![v2214, v2195] : Fin 2 → IVec S16 32) a x).toNat < S64x256.size a := fun i v2195 v2214 k0_hw308 k0_h1 => k0_hw308 k0_h1

def k0_chk309 (i : grid0.Coords) (v2197 : IVec S16 32) (v2217 : IVec S16 32) : Prop :=
  (∀ (k0_h1 : k0_cond1 i = 1#1), ∀ a x, ((![v2197, v2217] : Fin 2 → IVec S16 32) a x).toNat < S128x128.size a)
theorem k0_idx308_inb : ∀ (i : grid0.Coords) (v2197 : IVec S16 32) (v2217 : IVec S16 32) (k0_hw309 : k0_chk309 i v2197 v2217), ∀ (k0_h1 : k0_cond1 i = 1#1), ∀ a x, ((![v2197, v2217] : Fin 2 → IVec S16 32) a x).toNat < S128x128.size a := fun i v2197 v2217 k0_hw309 k0_h1 => k0_hw309 k0_h1

def k0_chk310 (i : grid0.Coords) (v2221 : IVec S16 32) (v2225 : IVec S16 32) : Prop :=
  (∀ (k0_h1 : k0_cond1 i = 1#1), ∀ a x, ((![v2225, v2221] : Fin 2 → IVec S16 32) a x).toNat < S64x256.size a)
theorem k0_idx309_inb : ∀ (i : grid0.Coords) (v2221 : IVec S16 32) (v2225 : IVec S16 32) (k0_hw310 : k0_chk310 i v2221 v2225), ∀ (k0_h1 : k0_cond1 i = 1#1), ∀ a x, ((![v2225, v2221] : Fin 2 → IVec S16 32) a x).toNat < S64x256.size a := fun i v2221 v2225 k0_hw310 k0_h1 => k0_hw310 k0_h1

def k0_chk311 (i : grid0.Coords) (v2223 : IVec S16 32) (v2228 : IVec S16 32) : Prop :=
  (∀ (k0_h1 : k0_cond1 i = 1#1), ∀ a x, ((![v2223, v2228] : Fin 2 → IVec S16 32) a x).toNat < S128x128.size a)
theorem k0_idx310_inb : ∀ (i : grid0.Coords) (v2223 : IVec S16 32) (v2228 : IVec S16 32) (k0_hw311 : k0_chk311 i v2223 v2228), ∀ (k0_h1 : k0_cond1 i = 1#1), ∀ a x, ((![v2223, v2228] : Fin 2 → IVec S16 32) a x).toNat < S128x128.size a := fun i v2223 v2228 k0_hw311 k0_h1 => k0_hw311 k0_h1

def k0_chk312 (i : grid0.Coords) (v2221 : IVec S16 32) (v2230 : IVec S16 32) : Prop :=
  (∀ (k0_h1 : k0_cond1 i = 1#1), ∀ a x, ((![v2230, v2221] : Fin 2 → IVec S16 32) a x).toNat < S64x256.size a)
theorem k0_idx311_inb : ∀ (i : grid0.Coords) (v2221 : IVec S16 32) (v2230 : IVec S16 32) (k0_hw312 : k0_chk312 i v2221 v2230), ∀ (k0_h1 : k0_cond1 i = 1#1), ∀ a x, ((![v2230, v2221] : Fin 2 → IVec S16 32) a x).toNat < S64x256.size a := fun i v2221 v2230 k0_hw312 k0_h1 => k0_hw312 k0_h1

def k0_chk313 (i : grid0.Coords) (v2223 : IVec S16 32) (v2233 : IVec S16 32) : Prop :=
  (∀ (k0_h1 : k0_cond1 i = 1#1), ∀ a x, ((![v2223, v2233] : Fin 2 → IVec S16 32) a x).toNat < S128x128.size a)
theorem k0_idx312_inb : ∀ (i : grid0.Coords) (v2223 : IVec S16 32) (v2233 : IVec S16 32) (k0_hw313 : k0_chk313 i v2223 v2233), ∀ (k0_h1 : k0_cond1 i = 1#1), ∀ a x, ((![v2223, v2233] : Fin 2 → IVec S16 32) a x).toNat < S128x128.size a := fun i v2223 v2233 k0_hw313 k0_h1 => k0_hw313 k0_h1

def k0_chk314 (i : grid0.Coords) (v2221 : IVec S16 32) (v2235 : IVec S16 32) : Prop :=
  (∀ (k0_h1 : k0_cond1 i = 1#1), ∀ a x, ((![v2235, v2221] : Fin 2 → IVec S16 32) a x).toNat < S64x256.size a)
theorem k0_idx313_inb : ∀ (i : grid0.Coords) (v2221 : IVec S16 32) (v2235 : IVec S16 32) (k0_hw314 : k0_chk314 i v2221 v2235), ∀ (k0_h1 : k0_cond1 i = 1#1), ∀ a x, ((![v2235, v2221] : Fin 2 → IVec S16 32) a x).toNat < S64x256.size a := fun i v2221 v2235 k0_hw314 k0_h1 => k0_hw314 k0_h1

def k0_chk315 (i : grid0.Coords) (v2223 : IVec S16 32) (v2238 : IVec S16 32) : Prop :=
  (∀ (k0_h1 : k0_cond1 i = 1#1), ∀ a x, ((![v2223, v2238] : Fin 2 → IVec S16 32) a x).toNat < S128x128.size a)
theorem k0_idx314_inb : ∀ (i : grid0.Coords) (v2223 : IVec S16 32) (v2238 : IVec S16 32) (k0_hw315 : k0_chk315 i v2223 v2238), ∀ (k0_h1 : k0_cond1 i = 1#1), ∀ a x, ((![v2223, v2238] : Fin 2 → IVec S16 32) a x).toNat < S128x128.size a := fun i v2223 v2238 k0_hw315 k0_h1 => k0_hw315 k0_h1

def k0_chk316 (i : grid0.Coords) (v2221 : IVec S16 32) (v2240 : IVec S16 32) : Prop :=
  (∀ (k0_h1 : k0_cond1 i = 1#1), ∀ a x, ((![v2240, v2221] : Fin 2 → IVec S16 32) a x).toNat < S64x256.size a)
theorem k0_idx315_inb : ∀ (i : grid0.Coords) (v2221 : IVec S16 32) (v2240 : IVec S16 32) (k0_hw316 : k0_chk316 i v2221 v2240), ∀ (k0_h1 : k0_cond1 i = 1#1), ∀ a x, ((![v2240, v2221] : Fin 2 → IVec S16 32) a x).toNat < S64x256.size a := fun i v2221 v2240 k0_hw316 k0_h1 => k0_hw316 k0_h1

def k0_chk317 (i : grid0.Coords) (v2223 : IVec S16 32) (v2243 : IVec S16 32) : Prop :=
  (∀ (k0_h1 : k0_cond1 i = 1#1), ∀ a x, ((![v2223, v2243] : Fin 2 → IVec S16 32) a x).toNat < S128x128.size a)
theorem k0_idx316_inb : ∀ (i : grid0.Coords) (v2223 : IVec S16 32) (v2243 : IVec S16 32) (k0_hw317 : k0_chk317 i v2223 v2243), ∀ (k0_h1 : k0_cond1 i = 1#1), ∀ a x, ((![v2223, v2243] : Fin 2 → IVec S16 32) a x).toNat < S128x128.size a := fun i v2223 v2243 k0_hw317 k0_h1 => k0_hw317 k0_h1

def k0_chk318 (i : grid0.Coords) (v2247 : IVec S16 32) (v2251 : IVec S16 32) : Prop :=
  (∀ (k0_h1 : k0_cond1 i = 1#1), ∀ a x, ((![v2251, v2247] : Fin 2 → IVec S16 32) a x).toNat < S64x256.size a)
theorem k0_idx317_inb : ∀ (i : grid0.Coords) (v2247 : IVec S16 32) (v2251 : IVec S16 32) (k0_hw318 : k0_chk318 i v2247 v2251), ∀ (k0_h1 : k0_cond1 i = 1#1), ∀ a x, ((![v2251, v2247] : Fin 2 → IVec S16 32) a x).toNat < S64x256.size a := fun i v2247 v2251 k0_hw318 k0_h1 => k0_hw318 k0_h1

def k0_chk319 (i : grid0.Coords) (v2249 : IVec S16 32) (v2254 : IVec S16 32) : Prop :=
  (∀ (k0_h1 : k0_cond1 i = 1#1), ∀ a x, ((![v2249, v2254] : Fin 2 → IVec S16 32) a x).toNat < S128x128.size a)
theorem k0_idx318_inb : ∀ (i : grid0.Coords) (v2249 : IVec S16 32) (v2254 : IVec S16 32) (k0_hw319 : k0_chk319 i v2249 v2254), ∀ (k0_h1 : k0_cond1 i = 1#1), ∀ a x, ((![v2249, v2254] : Fin 2 → IVec S16 32) a x).toNat < S128x128.size a := fun i v2249 v2254 k0_hw319 k0_h1 => k0_hw319 k0_h1

def k0_chk320 (i : grid0.Coords) (v2247 : IVec S16 32) (v2256 : IVec S16 32) : Prop :=
  (∀ (k0_h1 : k0_cond1 i = 1#1), ∀ a x, ((![v2256, v2247] : Fin 2 → IVec S16 32) a x).toNat < S64x256.size a)
theorem k0_idx319_inb : ∀ (i : grid0.Coords) (v2247 : IVec S16 32) (v2256 : IVec S16 32) (k0_hw320 : k0_chk320 i v2247 v2256), ∀ (k0_h1 : k0_cond1 i = 1#1), ∀ a x, ((![v2256, v2247] : Fin 2 → IVec S16 32) a x).toNat < S64x256.size a := fun i v2247 v2256 k0_hw320 k0_h1 => k0_hw320 k0_h1

def k0_chk321 (i : grid0.Coords) (v2249 : IVec S16 32) (v2259 : IVec S16 32) : Prop :=
  (∀ (k0_h1 : k0_cond1 i = 1#1), ∀ a x, ((![v2249, v2259] : Fin 2 → IVec S16 32) a x).toNat < S128x128.size a)
theorem k0_idx320_inb : ∀ (i : grid0.Coords) (v2249 : IVec S16 32) (v2259 : IVec S16 32) (k0_hw321 : k0_chk321 i v2249 v2259), ∀ (k0_h1 : k0_cond1 i = 1#1), ∀ a x, ((![v2249, v2259] : Fin 2 → IVec S16 32) a x).toNat < S128x128.size a := fun i v2249 v2259 k0_hw321 k0_h1 => k0_hw321 k0_h1

def k0_chk322 (i : grid0.Coords) (v2247 : IVec S16 32) (v2261 : IVec S16 32) : Prop :=
  (∀ (k0_h1 : k0_cond1 i = 1#1), ∀ a x, ((![v2261, v2247] : Fin 2 → IVec S16 32) a x).toNat < S64x256.size a)
theorem k0_idx321_inb : ∀ (i : grid0.Coords) (v2247 : IVec S16 32) (v2261 : IVec S16 32) (k0_hw322 : k0_chk322 i v2247 v2261), ∀ (k0_h1 : k0_cond1 i = 1#1), ∀ a x, ((![v2261, v2247] : Fin 2 → IVec S16 32) a x).toNat < S64x256.size a := fun i v2247 v2261 k0_hw322 k0_h1 => k0_hw322 k0_h1

def k0_chk323 (i : grid0.Coords) (v2249 : IVec S16 32) (v2264 : IVec S16 32) : Prop :=
  (∀ (k0_h1 : k0_cond1 i = 1#1), ∀ a x, ((![v2249, v2264] : Fin 2 → IVec S16 32) a x).toNat < S128x128.size a)
theorem k0_idx322_inb : ∀ (i : grid0.Coords) (v2249 : IVec S16 32) (v2264 : IVec S16 32) (k0_hw323 : k0_chk323 i v2249 v2264), ∀ (k0_h1 : k0_cond1 i = 1#1), ∀ a x, ((![v2249, v2264] : Fin 2 → IVec S16 32) a x).toNat < S128x128.size a := fun i v2249 v2264 k0_hw323 k0_h1 => k0_hw323 k0_h1

def k0_chk324 (i : grid0.Coords) (v2247 : IVec S16 32) (v2266 : IVec S16 32) : Prop :=
  (∀ (k0_h1 : k0_cond1 i = 1#1), ∀ a x, ((![v2266, v2247] : Fin 2 → IVec S16 32) a x).toNat < S64x256.size a)
theorem k0_idx323_inb : ∀ (i : grid0.Coords) (v2247 : IVec S16 32) (v2266 : IVec S16 32) (k0_hw324 : k0_chk324 i v2247 v2266), ∀ (k0_h1 : k0_cond1 i = 1#1), ∀ a x, ((![v2266, v2247] : Fin 2 → IVec S16 32) a x).toNat < S64x256.size a := fun i v2247 v2266 k0_hw324 k0_h1 => k0_hw324 k0_h1

def k0_chk325 (i : grid0.Coords) (v2249 : IVec S16 32) (v2269 : IVec S16 32) : Prop :=
  (∀ (k0_h1 : k0_cond1 i = 1#1), ∀ a x, ((![v2249, v2269] : Fin 2 → IVec S16 32) a x).toNat < S128x128.size a)
theorem k0_idx324_inb : ∀ (i : grid0.Coords) (v2249 : IVec S16 32) (v2269 : IVec S16 32) (k0_hw325 : k0_chk325 i v2249 v2269), ∀ (k0_h1 : k0_cond1 i = 1#1), ∀ a x, ((![v2249, v2269] : Fin 2 → IVec S16 32) a x).toNat < S128x128.size a := fun i v2249 v2269 k0_hw325 k0_h1 => k0_hw325 k0_h1

def k0_chk326 (i : grid0.Coords) (v2273 : IVec S16 32) (v2277 : IVec S16 32) : Prop :=
  (∀ (k0_h1 : k0_cond1 i = 1#1), ∀ a x, ((![v2277, v2273] : Fin 2 → IVec S16 32) a x).toNat < S64x256.size a)
theorem k0_idx325_inb : ∀ (i : grid0.Coords) (v2273 : IVec S16 32) (v2277 : IVec S16 32) (k0_hw326 : k0_chk326 i v2273 v2277), ∀ (k0_h1 : k0_cond1 i = 1#1), ∀ a x, ((![v2277, v2273] : Fin 2 → IVec S16 32) a x).toNat < S64x256.size a := fun i v2273 v2277 k0_hw326 k0_h1 => k0_hw326 k0_h1

def k0_chk327 (i : grid0.Coords) (v2275 : IVec S16 32) (v2280 : IVec S16 32) : Prop :=
  (∀ (k0_h1 : k0_cond1 i = 1#1), ∀ a x, ((![v2275, v2280] : Fin 2 → IVec S16 32) a x).toNat < S128x128.size a)
theorem k0_idx326_inb : ∀ (i : grid0.Coords) (v2275 : IVec S16 32) (v2280 : IVec S16 32) (k0_hw327 : k0_chk327 i v2275 v2280), ∀ (k0_h1 : k0_cond1 i = 1#1), ∀ a x, ((![v2275, v2280] : Fin 2 → IVec S16 32) a x).toNat < S128x128.size a := fun i v2275 v2280 k0_hw327 k0_h1 => k0_hw327 k0_h1

def k0_chk328 (i : grid0.Coords) (v2273 : IVec S16 32) (v2282 : IVec S16 32) : Prop :=
  (∀ (k0_h1 : k0_cond1 i = 1#1), ∀ a x, ((![v2282, v2273] : Fin 2 → IVec S16 32) a x).toNat < S64x256.size a)
theorem k0_idx327_inb : ∀ (i : grid0.Coords) (v2273 : IVec S16 32) (v2282 : IVec S16 32) (k0_hw328 : k0_chk328 i v2273 v2282), ∀ (k0_h1 : k0_cond1 i = 1#1), ∀ a x, ((![v2282, v2273] : Fin 2 → IVec S16 32) a x).toNat < S64x256.size a := fun i v2273 v2282 k0_hw328 k0_h1 => k0_hw328 k0_h1

def k0_chk329 (i : grid0.Coords) (v2275 : IVec S16 32) (v2285 : IVec S16 32) : Prop :=
  (∀ (k0_h1 : k0_cond1 i = 1#1), ∀ a x, ((![v2275, v2285] : Fin 2 → IVec S16 32) a x).toNat < S128x128.size a)
theorem k0_idx328_inb : ∀ (i : grid0.Coords) (v2275 : IVec S16 32) (v2285 : IVec S16 32) (k0_hw329 : k0_chk329 i v2275 v2285), ∀ (k0_h1 : k0_cond1 i = 1#1), ∀ a x, ((![v2275, v2285] : Fin 2 → IVec S16 32) a x).toNat < S128x128.size a := fun i v2275 v2285 k0_hw329 k0_h1 => k0_hw329 k0_h1

def k0_chk330 (i : grid0.Coords) (v2273 : IVec S16 32) (v2287 : IVec S16 32) : Prop :=
  (∀ (k0_h1 : k0_cond1 i = 1#1), ∀ a x, ((![v2287, v2273] : Fin 2 → IVec S16 32) a x).toNat < S64x256.size a)
theorem k0_idx329_inb : ∀ (i : grid0.Coords) (v2273 : IVec S16 32) (v2287 : IVec S16 32) (k0_hw330 : k0_chk330 i v2273 v2287), ∀ (k0_h1 : k0_cond1 i = 1#1), ∀ a x, ((![v2287, v2273] : Fin 2 → IVec S16 32) a x).toNat < S64x256.size a := fun i v2273 v2287 k0_hw330 k0_h1 => k0_hw330 k0_h1

def k0_chk331 (i : grid0.Coords) (v2275 : IVec S16 32) (v2290 : IVec S16 32) : Prop :=
  (∀ (k0_h1 : k0_cond1 i = 1#1), ∀ a x, ((![v2275, v2290] : Fin 2 → IVec S16 32) a x).toNat < S128x128.size a)
theorem k0_idx330_inb : ∀ (i : grid0.Coords) (v2275 : IVec S16 32) (v2290 : IVec S16 32) (k0_hw331 : k0_chk331 i v2275 v2290), ∀ (k0_h1 : k0_cond1 i = 1#1), ∀ a x, ((![v2275, v2290] : Fin 2 → IVec S16 32) a x).toNat < S128x128.size a := fun i v2275 v2290 k0_hw331 k0_h1 => k0_hw331 k0_h1

def k0_chk332 (i : grid0.Coords) (v2273 : IVec S16 32) (v2292 : IVec S16 32) : Prop :=
  (∀ (k0_h1 : k0_cond1 i = 1#1), ∀ a x, ((![v2292, v2273] : Fin 2 → IVec S16 32) a x).toNat < S64x256.size a)
theorem k0_idx331_inb : ∀ (i : grid0.Coords) (v2273 : IVec S16 32) (v2292 : IVec S16 32) (k0_hw332 : k0_chk332 i v2273 v2292), ∀ (k0_h1 : k0_cond1 i = 1#1), ∀ a x, ((![v2292, v2273] : Fin 2 → IVec S16 32) a x).toNat < S64x256.size a := fun i v2273 v2292 k0_hw332 k0_h1 => k0_hw332 k0_h1

def k0_chk333 (i : grid0.Coords) (v2275 : IVec S16 32) (v2295 : IVec S16 32) : Prop :=
  (∀ (k0_h1 : k0_cond1 i = 1#1), ∀ a x, ((![v2275, v2295] : Fin 2 → IVec S16 32) a x).toNat < S128x128.size a)
theorem k0_idx332_inb : ∀ (i : grid0.Coords) (v2275 : IVec S16 32) (v2295 : IVec S16 32) (k0_hw333 : k0_chk333 i v2275 v2295), ∀ (k0_h1 : k0_cond1 i = 1#1), ∀ a x, ((![v2275, v2295] : Fin 2 → IVec S16 32) a x).toNat < S128x128.size a := fun i v2275 v2295 k0_hw333 k0_h1 => k0_hw333 k0_h1

def k0_chk334 (i : grid0.Coords) (v2299 : IVec S16 32) (v2303 : IVec S16 32) : Prop :=
  (∀ (k0_h1 : k0_cond1 i = 1#1), ∀ a x, ((![v2303, v2299] : Fin 2 → IVec S16 32) a x).toNat < S64x256.size a)
theorem k0_idx333_inb : ∀ (i : grid0.Coords) (v2299 : IVec S16 32) (v2303 : IVec S16 32) (k0_hw334 : k0_chk334 i v2299 v2303), ∀ (k0_h1 : k0_cond1 i = 1#1), ∀ a x, ((![v2303, v2299] : Fin 2 → IVec S16 32) a x).toNat < S64x256.size a := fun i v2299 v2303 k0_hw334 k0_h1 => k0_hw334 k0_h1

def k0_chk335 (i : grid0.Coords) (v2301 : IVec S16 32) (v2306 : IVec S16 32) : Prop :=
  (∀ (k0_h1 : k0_cond1 i = 1#1), ∀ a x, ((![v2301, v2306] : Fin 2 → IVec S16 32) a x).toNat < S128x128.size a)
theorem k0_idx334_inb : ∀ (i : grid0.Coords) (v2301 : IVec S16 32) (v2306 : IVec S16 32) (k0_hw335 : k0_chk335 i v2301 v2306), ∀ (k0_h1 : k0_cond1 i = 1#1), ∀ a x, ((![v2301, v2306] : Fin 2 → IVec S16 32) a x).toNat < S128x128.size a := fun i v2301 v2306 k0_hw335 k0_h1 => k0_hw335 k0_h1

def k0_chk336 (i : grid0.Coords) (v2299 : IVec S16 32) (v2308 : IVec S16 32) : Prop :=
  (∀ (k0_h1 : k0_cond1 i = 1#1), ∀ a x, ((![v2308, v2299] : Fin 2 → IVec S16 32) a x).toNat < S64x256.size a)
theorem k0_idx335_inb : ∀ (i : grid0.Coords) (v2299 : IVec S16 32) (v2308 : IVec S16 32) (k0_hw336 : k0_chk336 i v2299 v2308), ∀ (k0_h1 : k0_cond1 i = 1#1), ∀ a x, ((![v2308, v2299] : Fin 2 → IVec S16 32) a x).toNat < S64x256.size a := fun i v2299 v2308 k0_hw336 k0_h1 => k0_hw336 k0_h1

def k0_chk337 (i : grid0.Coords) (v2301 : IVec S16 32) (v2311 : IVec S16 32) : Prop :=
  (∀ (k0_h1 : k0_cond1 i = 1#1), ∀ a x, ((![v2301, v2311] : Fin 2 → IVec S16 32) a x).toNat < S128x128.size a)
theorem k0_idx336_inb : ∀ (i : grid0.Coords) (v2301 : IVec S16 32) (v2311 : IVec S16 32) (k0_hw337 : k0_chk337 i v2301 v2311), ∀ (k0_h1 : k0_cond1 i = 1#1), ∀ a x, ((![v2301, v2311] : Fin 2 → IVec S16 32) a x).toNat < S128x128.size a := fun i v2301 v2311 k0_hw337 k0_h1 => k0_hw337 k0_h1

def k0_chk338 (i : grid0.Coords) (v2299 : IVec S16 32) (v2313 : IVec S16 32) : Prop :=
  (∀ (k0_h1 : k0_cond1 i = 1#1), ∀ a x, ((![v2313, v2299] : Fin 2 → IVec S16 32) a x).toNat < S64x256.size a)
theorem k0_idx337_inb : ∀ (i : grid0.Coords) (v2299 : IVec S16 32) (v2313 : IVec S16 32) (k0_hw338 : k0_chk338 i v2299 v2313), ∀ (k0_h1 : k0_cond1 i = 1#1), ∀ a x, ((![v2313, v2299] : Fin 2 → IVec S16 32) a x).toNat < S64x256.size a := fun i v2299 v2313 k0_hw338 k0_h1 => k0_hw338 k0_h1

def k0_chk339 (i : grid0.Coords) (v2301 : IVec S16 32) (v2316 : IVec S16 32) : Prop :=
  (∀ (k0_h1 : k0_cond1 i = 1#1), ∀ a x, ((![v2301, v2316] : Fin 2 → IVec S16 32) a x).toNat < S128x128.size a)
theorem k0_idx338_inb : ∀ (i : grid0.Coords) (v2301 : IVec S16 32) (v2316 : IVec S16 32) (k0_hw339 : k0_chk339 i v2301 v2316), ∀ (k0_h1 : k0_cond1 i = 1#1), ∀ a x, ((![v2301, v2316] : Fin 2 → IVec S16 32) a x).toNat < S128x128.size a := fun i v2301 v2316 k0_hw339 k0_h1 => k0_hw339 k0_h1

def k0_chk340 (i : grid0.Coords) (v2299 : IVec S16 32) (v2318 : IVec S16 32) : Prop :=
  (∀ (k0_h1 : k0_cond1 i = 1#1), ∀ a x, ((![v2318, v2299] : Fin 2 → IVec S16 32) a x).toNat < S64x256.size a)
theorem k0_idx339_inb : ∀ (i : grid0.Coords) (v2299 : IVec S16 32) (v2318 : IVec S16 32) (k0_hw340 : k0_chk340 i v2299 v2318), ∀ (k0_h1 : k0_cond1 i = 1#1), ∀ a x, ((![v2318, v2299] : Fin 2 → IVec S16 32) a x).toNat < S64x256.size a := fun i v2299 v2318 k0_hw340 k0_h1 => k0_hw340 k0_h1

def k0_chk341 (i : grid0.Coords) (v2301 : IVec S16 32) (v2321 : IVec S16 32) : Prop :=
  (∀ (k0_h1 : k0_cond1 i = 1#1), ∀ a x, ((![v2301, v2321] : Fin 2 → IVec S16 32) a x).toNat < S128x128.size a)
theorem k0_idx340_inb : ∀ (i : grid0.Coords) (v2301 : IVec S16 32) (v2321 : IVec S16 32) (k0_hw341 : k0_chk341 i v2301 v2321), ∀ (k0_h1 : k0_cond1 i = 1#1), ∀ a x, ((![v2301, v2321] : Fin 2 → IVec S16 32) a x).toNat < S128x128.size a := fun i v2301 v2321 k0_hw341 k0_h1 => k0_hw341 k0_h1

def k0_chk342 (i : grid0.Coords) (v2325 : IVec S16 32) (v2329 : IVec S16 32) : Prop :=
  (∀ (k0_h1 : k0_cond1 i = 1#1), ∀ a x, ((![v2329, v2325] : Fin 2 → IVec S16 32) a x).toNat < S64x256.size a)
theorem k0_idx341_inb : ∀ (i : grid0.Coords) (v2325 : IVec S16 32) (v2329 : IVec S16 32) (k0_hw342 : k0_chk342 i v2325 v2329), ∀ (k0_h1 : k0_cond1 i = 1#1), ∀ a x, ((![v2329, v2325] : Fin 2 → IVec S16 32) a x).toNat < S64x256.size a := fun i v2325 v2329 k0_hw342 k0_h1 => k0_hw342 k0_h1

def k0_chk343 (i : grid0.Coords) (v2327 : IVec S16 32) (v2332 : IVec S16 32) : Prop :=
  (∀ (k0_h1 : k0_cond1 i = 1#1), ∀ a x, ((![v2327, v2332] : Fin 2 → IVec S16 32) a x).toNat < S128x128.size a)
theorem k0_idx342_inb : ∀ (i : grid0.Coords) (v2327 : IVec S16 32) (v2332 : IVec S16 32) (k0_hw343 : k0_chk343 i v2327 v2332), ∀ (k0_h1 : k0_cond1 i = 1#1), ∀ a x, ((![v2327, v2332] : Fin 2 → IVec S16 32) a x).toNat < S128x128.size a := fun i v2327 v2332 k0_hw343 k0_h1 => k0_hw343 k0_h1

def k0_chk344 (i : grid0.Coords) (v2325 : IVec S16 32) (v2334 : IVec S16 32) : Prop :=
  (∀ (k0_h1 : k0_cond1 i = 1#1), ∀ a x, ((![v2334, v2325] : Fin 2 → IVec S16 32) a x).toNat < S64x256.size a)
theorem k0_idx343_inb : ∀ (i : grid0.Coords) (v2325 : IVec S16 32) (v2334 : IVec S16 32) (k0_hw344 : k0_chk344 i v2325 v2334), ∀ (k0_h1 : k0_cond1 i = 1#1), ∀ a x, ((![v2334, v2325] : Fin 2 → IVec S16 32) a x).toNat < S64x256.size a := fun i v2325 v2334 k0_hw344 k0_h1 => k0_hw344 k0_h1

def k0_chk345 (i : grid0.Coords) (v2327 : IVec S16 32) (v2337 : IVec S16 32) : Prop :=
  (∀ (k0_h1 : k0_cond1 i = 1#1), ∀ a x, ((![v2327, v2337] : Fin 2 → IVec S16 32) a x).toNat < S128x128.size a)
theorem k0_idx344_inb : ∀ (i : grid0.Coords) (v2327 : IVec S16 32) (v2337 : IVec S16 32) (k0_hw345 : k0_chk345 i v2327 v2337), ∀ (k0_h1 : k0_cond1 i = 1#1), ∀ a x, ((![v2327, v2337] : Fin 2 → IVec S16 32) a x).toNat < S128x128.size a := fun i v2327 v2337 k0_hw345 k0_h1 => k0_hw345 k0_h1

def k0_chk346 (i : grid0.Coords) (v2325 : IVec S16 32) (v2339 : IVec S16 32) : Prop :=
  (∀ (k0_h1 : k0_cond1 i = 1#1), ∀ a x, ((![v2339, v2325] : Fin 2 → IVec S16 32) a x).toNat < S64x256.size a)
theorem k0_idx345_inb : ∀ (i : grid0.Coords) (v2325 : IVec S16 32) (v2339 : IVec S16 32) (k0_hw346 : k0_chk346 i v2325 v2339), ∀ (k0_h1 : k0_cond1 i = 1#1), ∀ a x, ((![v2339, v2325] : Fin 2 → IVec S16 32) a x).toNat < S64x256.size a := fun i v2325 v2339 k0_hw346 k0_h1 => k0_hw346 k0_h1

def k0_chk347 (i : grid0.Coords) (v2327 : IVec S16 32) (v2342 : IVec S16 32) : Prop :=
  (∀ (k0_h1 : k0_cond1 i = 1#1), ∀ a x, ((![v2327, v2342] : Fin 2 → IVec S16 32) a x).toNat < S128x128.size a)
theorem k0_idx346_inb : ∀ (i : grid0.Coords) (v2327 : IVec S16 32) (v2342 : IVec S16 32) (k0_hw347 : k0_chk347 i v2327 v2342), ∀ (k0_h1 : k0_cond1 i = 1#1), ∀ a x, ((![v2327, v2342] : Fin 2 → IVec S16 32) a x).toNat < S128x128.size a := fun i v2327 v2342 k0_hw347 k0_h1 => k0_hw347 k0_h1

def k0_chk348 (i : grid0.Coords) (v2325 : IVec S16 32) (v2344 : IVec S16 32) : Prop :=
  (∀ (k0_h1 : k0_cond1 i = 1#1), ∀ a x, ((![v2344, v2325] : Fin 2 → IVec S16 32) a x).toNat < S64x256.size a)
theorem k0_idx347_inb : ∀ (i : grid0.Coords) (v2325 : IVec S16 32) (v2344 : IVec S16 32) (k0_hw348 : k0_chk348 i v2325 v2344), ∀ (k0_h1 : k0_cond1 i = 1#1), ∀ a x, ((![v2344, v2325] : Fin 2 → IVec S16 32) a x).toNat < S64x256.size a := fun i v2325 v2344 k0_hw348 k0_h1 => k0_hw348 k0_h1

def k0_chk349 (i : grid0.Coords) (v2327 : IVec S16 32) (v2347 : IVec S16 32) : Prop :=
  (∀ (k0_h1 : k0_cond1 i = 1#1), ∀ a x, ((![v2327, v2347] : Fin 2 → IVec S16 32) a x).toNat < S128x128.size a)
theorem k0_idx348_inb : ∀ (i : grid0.Coords) (v2327 : IVec S16 32) (v2347 : IVec S16 32) (k0_hw349 : k0_chk349 i v2327 v2347), ∀ (k0_h1 : k0_cond1 i = 1#1), ∀ a x, ((![v2327, v2347] : Fin 2 → IVec S16 32) a x).toNat < S128x128.size a := fun i v2327 v2347 k0_hw349 k0_h1 => k0_hw349 k0_h1

def k0_chk350 (i : grid0.Coords) (v2351 : IVec S16 32) (v2355 : IVec S16 32) : Prop :=
  (∀ (k0_h1 : k0_cond1 i = 1#1), ∀ a x, ((![v2355, v2351] : Fin 2 → IVec S16 32) a x).toNat < S64x256.size a)
theorem k0_idx349_inb : ∀ (i : grid0.Coords) (v2351 : IVec S16 32) (v2355 : IVec S16 32) (k0_hw350 : k0_chk350 i v2351 v2355), ∀ (k0_h1 : k0_cond1 i = 1#1), ∀ a x, ((![v2355, v2351] : Fin 2 → IVec S16 32) a x).toNat < S64x256.size a := fun i v2351 v2355 k0_hw350 k0_h1 => k0_hw350 k0_h1

def k0_chk351 (i : grid0.Coords) (v2353 : IVec S16 32) (v2358 : IVec S16 32) : Prop :=
  (∀ (k0_h1 : k0_cond1 i = 1#1), ∀ a x, ((![v2353, v2358] : Fin 2 → IVec S16 32) a x).toNat < S128x128.size a)
theorem k0_idx350_inb : ∀ (i : grid0.Coords) (v2353 : IVec S16 32) (v2358 : IVec S16 32) (k0_hw351 : k0_chk351 i v2353 v2358), ∀ (k0_h1 : k0_cond1 i = 1#1), ∀ a x, ((![v2353, v2358] : Fin 2 → IVec S16 32) a x).toNat < S128x128.size a := fun i v2353 v2358 k0_hw351 k0_h1 => k0_hw351 k0_h1

def k0_chk352 (i : grid0.Coords) (v2351 : IVec S16 32) (v2360 : IVec S16 32) : Prop :=
  (∀ (k0_h1 : k0_cond1 i = 1#1), ∀ a x, ((![v2360, v2351] : Fin 2 → IVec S16 32) a x).toNat < S64x256.size a)
theorem k0_idx351_inb : ∀ (i : grid0.Coords) (v2351 : IVec S16 32) (v2360 : IVec S16 32) (k0_hw352 : k0_chk352 i v2351 v2360), ∀ (k0_h1 : k0_cond1 i = 1#1), ∀ a x, ((![v2360, v2351] : Fin 2 → IVec S16 32) a x).toNat < S64x256.size a := fun i v2351 v2360 k0_hw352 k0_h1 => k0_hw352 k0_h1

def k0_chk353 (i : grid0.Coords) (v2353 : IVec S16 32) (v2363 : IVec S16 32) : Prop :=
  (∀ (k0_h1 : k0_cond1 i = 1#1), ∀ a x, ((![v2353, v2363] : Fin 2 → IVec S16 32) a x).toNat < S128x128.size a)
theorem k0_idx352_inb : ∀ (i : grid0.Coords) (v2353 : IVec S16 32) (v2363 : IVec S16 32) (k0_hw353 : k0_chk353 i v2353 v2363), ∀ (k0_h1 : k0_cond1 i = 1#1), ∀ a x, ((![v2353, v2363] : Fin 2 → IVec S16 32) a x).toNat < S128x128.size a := fun i v2353 v2363 k0_hw353 k0_h1 => k0_hw353 k0_h1

def k0_chk354 (i : grid0.Coords) (v2351 : IVec S16 32) (v2365 : IVec S16 32) : Prop :=
  (∀ (k0_h1 : k0_cond1 i = 1#1), ∀ a x, ((![v2365, v2351] : Fin 2 → IVec S16 32) a x).toNat < S64x256.size a)
theorem k0_idx353_inb : ∀ (i : grid0.Coords) (v2351 : IVec S16 32) (v2365 : IVec S16 32) (k0_hw354 : k0_chk354 i v2351 v2365), ∀ (k0_h1 : k0_cond1 i = 1#1), ∀ a x, ((![v2365, v2351] : Fin 2 → IVec S16 32) a x).toNat < S64x256.size a := fun i v2351 v2365 k0_hw354 k0_h1 => k0_hw354 k0_h1

def k0_chk355 (i : grid0.Coords) (v2353 : IVec S16 32) (v2368 : IVec S16 32) : Prop :=
  (∀ (k0_h1 : k0_cond1 i = 1#1), ∀ a x, ((![v2353, v2368] : Fin 2 → IVec S16 32) a x).toNat < S128x128.size a)
theorem k0_idx354_inb : ∀ (i : grid0.Coords) (v2353 : IVec S16 32) (v2368 : IVec S16 32) (k0_hw355 : k0_chk355 i v2353 v2368), ∀ (k0_h1 : k0_cond1 i = 1#1), ∀ a x, ((![v2353, v2368] : Fin 2 → IVec S16 32) a x).toNat < S128x128.size a := fun i v2353 v2368 k0_hw355 k0_h1 => k0_hw355 k0_h1

def k0_chk356 (i : grid0.Coords) (v2351 : IVec S16 32) (v2370 : IVec S16 32) : Prop :=
  (∀ (k0_h1 : k0_cond1 i = 1#1), ∀ a x, ((![v2370, v2351] : Fin 2 → IVec S16 32) a x).toNat < S64x256.size a)
theorem k0_idx355_inb : ∀ (i : grid0.Coords) (v2351 : IVec S16 32) (v2370 : IVec S16 32) (k0_hw356 : k0_chk356 i v2351 v2370), ∀ (k0_h1 : k0_cond1 i = 1#1), ∀ a x, ((![v2370, v2351] : Fin 2 → IVec S16 32) a x).toNat < S64x256.size a := fun i v2351 v2370 k0_hw356 k0_h1 => k0_hw356 k0_h1

def k0_chk357 (i : grid0.Coords) (v2353 : IVec S16 32) (v2373 : IVec S16 32) : Prop :=
  (∀ (k0_h1 : k0_cond1 i = 1#1), ∀ a x, ((![v2353, v2373] : Fin 2 → IVec S16 32) a x).toNat < S128x128.size a)
theorem k0_idx356_inb : ∀ (i : grid0.Coords) (v2353 : IVec S16 32) (v2373 : IVec S16 32) (k0_hw357 : k0_chk357 i v2353 v2373), ∀ (k0_h1 : k0_cond1 i = 1#1), ∀ a x, ((![v2353, v2373] : Fin 2 → IVec S16 32) a x).toNat < S128x128.size a := fun i v2353 v2373 k0_hw357 k0_h1 => k0_hw357 k0_h1

def k0_chk358 (i : grid0.Coords) (v2377 : IVec S16 32) (v2381 : IVec S16 32) : Prop :=
  (∀ (k0_h1 : k0_cond1 i = 1#1), ∀ a x, ((![v2381, v2377] : Fin 2 → IVec S16 32) a x).toNat < S64x256.size a)
theorem k0_idx357_inb : ∀ (i : grid0.Coords) (v2377 : IVec S16 32) (v2381 : IVec S16 32) (k0_hw358 : k0_chk358 i v2377 v2381), ∀ (k0_h1 : k0_cond1 i = 1#1), ∀ a x, ((![v2381, v2377] : Fin 2 → IVec S16 32) a x).toNat < S64x256.size a := fun i v2377 v2381 k0_hw358 k0_h1 => k0_hw358 k0_h1

def k0_chk359 (i : grid0.Coords) (v2379 : IVec S16 32) (v2384 : IVec S16 32) : Prop :=
  (∀ (k0_h1 : k0_cond1 i = 1#1), ∀ a x, ((![v2379, v2384] : Fin 2 → IVec S16 32) a x).toNat < S128x128.size a)
theorem k0_idx358_inb : ∀ (i : grid0.Coords) (v2379 : IVec S16 32) (v2384 : IVec S16 32) (k0_hw359 : k0_chk359 i v2379 v2384), ∀ (k0_h1 : k0_cond1 i = 1#1), ∀ a x, ((![v2379, v2384] : Fin 2 → IVec S16 32) a x).toNat < S128x128.size a := fun i v2379 v2384 k0_hw359 k0_h1 => k0_hw359 k0_h1

def k0_chk360 (i : grid0.Coords) (v2377 : IVec S16 32) (v2386 : IVec S16 32) : Prop :=
  (∀ (k0_h1 : k0_cond1 i = 1#1), ∀ a x, ((![v2386, v2377] : Fin 2 → IVec S16 32) a x).toNat < S64x256.size a)
theorem k0_idx359_inb : ∀ (i : grid0.Coords) (v2377 : IVec S16 32) (v2386 : IVec S16 32) (k0_hw360 : k0_chk360 i v2377 v2386), ∀ (k0_h1 : k0_cond1 i = 1#1), ∀ a x, ((![v2386, v2377] : Fin 2 → IVec S16 32) a x).toNat < S64x256.size a := fun i v2377 v2386 k0_hw360 k0_h1 => k0_hw360 k0_h1

def k0_chk361 (i : grid0.Coords) (v2379 : IVec S16 32) (v2389 : IVec S16 32) : Prop :=
  (∀ (k0_h1 : k0_cond1 i = 1#1), ∀ a x, ((![v2379, v2389] : Fin 2 → IVec S16 32) a x).toNat < S128x128.size a)
theorem k0_idx360_inb : ∀ (i : grid0.Coords) (v2379 : IVec S16 32) (v2389 : IVec S16 32) (k0_hw361 : k0_chk361 i v2379 v2389), ∀ (k0_h1 : k0_cond1 i = 1#1), ∀ a x, ((![v2379, v2389] : Fin 2 → IVec S16 32) a x).toNat < S128x128.size a := fun i v2379 v2389 k0_hw361 k0_h1 => k0_hw361 k0_h1

def k0_chk362 (i : grid0.Coords) (v2377 : IVec S16 32) (v2391 : IVec S16 32) : Prop :=
  (∀ (k0_h1 : k0_cond1 i = 1#1), ∀ a x, ((![v2391, v2377] : Fin 2 → IVec S16 32) a x).toNat < S64x256.size a)
theorem k0_idx361_inb : ∀ (i : grid0.Coords) (v2377 : IVec S16 32) (v2391 : IVec S16 32) (k0_hw362 : k0_chk362 i v2377 v2391), ∀ (k0_h1 : k0_cond1 i = 1#1), ∀ a x, ((![v2391, v2377] : Fin 2 → IVec S16 32) a x).toNat < S64x256.size a := fun i v2377 v2391 k0_hw362 k0_h1 => k0_hw362 k0_h1

def k0_chk363 (i : grid0.Coords) (v2379 : IVec S16 32) (v2394 : IVec S16 32) : Prop :=
  (∀ (k0_h1 : k0_cond1 i = 1#1), ∀ a x, ((![v2379, v2394] : Fin 2 → IVec S16 32) a x).toNat < S128x128.size a)
theorem k0_idx362_inb : ∀ (i : grid0.Coords) (v2379 : IVec S16 32) (v2394 : IVec S16 32) (k0_hw363 : k0_chk363 i v2379 v2394), ∀ (k0_h1 : k0_cond1 i = 1#1), ∀ a x, ((![v2379, v2394] : Fin 2 → IVec S16 32) a x).toNat < S128x128.size a := fun i v2379 v2394 k0_hw363 k0_h1 => k0_hw363 k0_h1

def k0_chk364 (i : grid0.Coords) (v2377 : IVec S16 32) (v2396 : IVec S16 32) : Prop :=
  (∀ (k0_h1 : k0_cond1 i = 1#1), ∀ a x, ((![v2396, v2377] : Fin 2 → IVec S16 32) a x).toNat < S64x256.size a)
theorem k0_idx363_inb : ∀ (i : grid0.Coords) (v2377 : IVec S16 32) (v2396 : IVec S16 32) (k0_hw364 : k0_chk364 i v2377 v2396), ∀ (k0_h1 : k0_cond1 i = 1#1), ∀ a x, ((![v2396, v2377] : Fin 2 → IVec S16 32) a x).toNat < S64x256.size a := fun i v2377 v2396 k0_hw364 k0_h1 => k0_hw364 k0_h1

def k0_chk365 (i : grid0.Coords) (v2379 : IVec S16 32) (v2399 : IVec S16 32) : Prop :=
  (∀ (k0_h1 : k0_cond1 i = 1#1), ∀ a x, ((![v2379, v2399] : Fin 2 → IVec S16 32) a x).toNat < S128x128.size a)
theorem k0_idx364_inb : ∀ (i : grid0.Coords) (v2379 : IVec S16 32) (v2399 : IVec S16 32) (k0_hw365 : k0_chk365 i v2379 v2399), ∀ (k0_h1 : k0_cond1 i = 1#1), ∀ a x, ((![v2379, v2399] : Fin 2 → IVec S16 32) a x).toNat < S128x128.size a := fun i v2379 v2399 k0_hw365 k0_h1 => k0_hw365 k0_h1

def k0_chk366 (i : grid0.Coords) (v2403 : IVec S16 32) (v2407 : IVec S16 32) : Prop :=
  (∀ (k0_h1 : k0_cond1 i = 1#1), ∀ a x, ((![v2407, v2403] : Fin 2 → IVec S16 32) a x).toNat < S64x256.size a)
theorem k0_idx365_inb : ∀ (i : grid0.Coords) (v2403 : IVec S16 32) (v2407 : IVec S16 32) (k0_hw366 : k0_chk366 i v2403 v2407), ∀ (k0_h1 : k0_cond1 i = 1#1), ∀ a x, ((![v2407, v2403] : Fin 2 → IVec S16 32) a x).toNat < S64x256.size a := fun i v2403 v2407 k0_hw366 k0_h1 => k0_hw366 k0_h1

def k0_chk367 (i : grid0.Coords) (v2405 : IVec S16 32) (v2410 : IVec S16 32) : Prop :=
  (∀ (k0_h1 : k0_cond1 i = 1#1), ∀ a x, ((![v2405, v2410] : Fin 2 → IVec S16 32) a x).toNat < S128x128.size a)
theorem k0_idx366_inb : ∀ (i : grid0.Coords) (v2405 : IVec S16 32) (v2410 : IVec S16 32) (k0_hw367 : k0_chk367 i v2405 v2410), ∀ (k0_h1 : k0_cond1 i = 1#1), ∀ a x, ((![v2405, v2410] : Fin 2 → IVec S16 32) a x).toNat < S128x128.size a := fun i v2405 v2410 k0_hw367 k0_h1 => k0_hw367 k0_h1

def k0_chk368 (i : grid0.Coords) (v2403 : IVec S16 32) (v2412 : IVec S16 32) : Prop :=
  (∀ (k0_h1 : k0_cond1 i = 1#1), ∀ a x, ((![v2412, v2403] : Fin 2 → IVec S16 32) a x).toNat < S64x256.size a)
theorem k0_idx367_inb : ∀ (i : grid0.Coords) (v2403 : IVec S16 32) (v2412 : IVec S16 32) (k0_hw368 : k0_chk368 i v2403 v2412), ∀ (k0_h1 : k0_cond1 i = 1#1), ∀ a x, ((![v2412, v2403] : Fin 2 → IVec S16 32) a x).toNat < S64x256.size a := fun i v2403 v2412 k0_hw368 k0_h1 => k0_hw368 k0_h1

def k0_chk369 (i : grid0.Coords) (v2405 : IVec S16 32) (v2415 : IVec S16 32) : Prop :=
  (∀ (k0_h1 : k0_cond1 i = 1#1), ∀ a x, ((![v2405, v2415] : Fin 2 → IVec S16 32) a x).toNat < S128x128.size a)
theorem k0_idx368_inb : ∀ (i : grid0.Coords) (v2405 : IVec S16 32) (v2415 : IVec S16 32) (k0_hw369 : k0_chk369 i v2405 v2415), ∀ (k0_h1 : k0_cond1 i = 1#1), ∀ a x, ((![v2405, v2415] : Fin 2 → IVec S16 32) a x).toNat < S128x128.size a := fun i v2405 v2415 k0_hw369 k0_h1 => k0_hw369 k0_h1

def k0_chk370 (i : grid0.Coords) (v2403 : IVec S16 32) (v2417 : IVec S16 32) : Prop :=
  (∀ (k0_h1 : k0_cond1 i = 1#1), ∀ a x, ((![v2417, v2403] : Fin 2 → IVec S16 32) a x).toNat < S64x256.size a)
theorem k0_idx369_inb : ∀ (i : grid0.Coords) (v2403 : IVec S16 32) (v2417 : IVec S16 32) (k0_hw370 : k0_chk370 i v2403 v2417), ∀ (k0_h1 : k0_cond1 i = 1#1), ∀ a x, ((![v2417, v2403] : Fin 2 → IVec S16 32) a x).toNat < S64x256.size a := fun i v2403 v2417 k0_hw370 k0_h1 => k0_hw370 k0_h1

def k0_chk371 (i : grid0.Coords) (v2405 : IVec S16 32) (v2420 : IVec S16 32) : Prop :=
  (∀ (k0_h1 : k0_cond1 i = 1#1), ∀ a x, ((![v2405, v2420] : Fin 2 → IVec S16 32) a x).toNat < S128x128.size a)
theorem k0_idx370_inb : ∀ (i : grid0.Coords) (v2405 : IVec S16 32) (v2420 : IVec S16 32) (k0_hw371 : k0_chk371 i v2405 v2420), ∀ (k0_h1 : k0_cond1 i = 1#1), ∀ a x, ((![v2405, v2420] : Fin 2 → IVec S16 32) a x).toNat < S128x128.size a := fun i v2405 v2420 k0_hw371 k0_h1 => k0_hw371 k0_h1

def k0_chk372 (i : grid0.Coords) (v2403 : IVec S16 32) (v2422 : IVec S16 32) : Prop :=
  (∀ (k0_h1 : k0_cond1 i = 1#1), ∀ a x, ((![v2422, v2403] : Fin 2 → IVec S16 32) a x).toNat < S64x256.size a)
theorem k0_idx371_inb : ∀ (i : grid0.Coords) (v2403 : IVec S16 32) (v2422 : IVec S16 32) (k0_hw372 : k0_chk372 i v2403 v2422), ∀ (k0_h1 : k0_cond1 i = 1#1), ∀ a x, ((![v2422, v2403] : Fin 2 → IVec S16 32) a x).toNat < S64x256.size a := fun i v2403 v2422 k0_hw372 k0_h1 => k0_hw372 k0_h1

def k0_chk373 (i : grid0.Coords) (v2405 : IVec S16 32) (v2425 : IVec S16 32) : Prop :=
  (∀ (k0_h1 : k0_cond1 i = 1#1), ∀ a x, ((![v2405, v2425] : Fin 2 → IVec S16 32) a x).toNat < S128x128.size a)
theorem k0_idx372_inb : ∀ (i : grid0.Coords) (v2405 : IVec S16 32) (v2425 : IVec S16 32) (k0_hw373 : k0_chk373 i v2405 v2425), ∀ (k0_h1 : k0_cond1 i = 1#1), ∀ a x, ((![v2405, v2425] : Fin 2 → IVec S16 32) a x).toNat < S128x128.size a := fun i v2405 v2425 k0_hw373 k0_h1 => k0_hw373 k0_h1

def k0_chk374 (i : grid0.Coords) (v2429 : IVec S16 32) (v2433 : IVec S16 32) : Prop :=
  (∀ (k0_h1 : k0_cond1 i = 1#1), ∀ a x, ((![v2433, v2429] : Fin 2 → IVec S16 32) a x).toNat < S64x256.size a)
theorem k0_idx373_inb : ∀ (i : grid0.Coords) (v2429 : IVec S16 32) (v2433 : IVec S16 32) (k0_hw374 : k0_chk374 i v2429 v2433), ∀ (k0_h1 : k0_cond1 i = 1#1), ∀ a x, ((![v2433, v2429] : Fin 2 → IVec S16 32) a x).toNat < S64x256.size a := fun i v2429 v2433 k0_hw374 k0_h1 => k0_hw374 k0_h1

def k0_chk375 (i : grid0.Coords) (v2431 : IVec S16 32) (v2436 : IVec S16 32) : Prop :=
  (∀ (k0_h1 : k0_cond1 i = 1#1), ∀ a x, ((![v2431, v2436] : Fin 2 → IVec S16 32) a x).toNat < S128x128.size a)
theorem k0_idx374_inb : ∀ (i : grid0.Coords) (v2431 : IVec S16 32) (v2436 : IVec S16 32) (k0_hw375 : k0_chk375 i v2431 v2436), ∀ (k0_h1 : k0_cond1 i = 1#1), ∀ a x, ((![v2431, v2436] : Fin 2 → IVec S16 32) a x).toNat < S128x128.size a := fun i v2431 v2436 k0_hw375 k0_h1 => k0_hw375 k0_h1

def k0_chk376 (i : grid0.Coords) (v2429 : IVec S16 32) (v2438 : IVec S16 32) : Prop :=
  (∀ (k0_h1 : k0_cond1 i = 1#1), ∀ a x, ((![v2438, v2429] : Fin 2 → IVec S16 32) a x).toNat < S64x256.size a)
theorem k0_idx375_inb : ∀ (i : grid0.Coords) (v2429 : IVec S16 32) (v2438 : IVec S16 32) (k0_hw376 : k0_chk376 i v2429 v2438), ∀ (k0_h1 : k0_cond1 i = 1#1), ∀ a x, ((![v2438, v2429] : Fin 2 → IVec S16 32) a x).toNat < S64x256.size a := fun i v2429 v2438 k0_hw376 k0_h1 => k0_hw376 k0_h1

def k0_chk377 (i : grid0.Coords) (v2431 : IVec S16 32) (v2441 : IVec S16 32) : Prop :=
  (∀ (k0_h1 : k0_cond1 i = 1#1), ∀ a x, ((![v2431, v2441] : Fin 2 → IVec S16 32) a x).toNat < S128x128.size a)
theorem k0_idx376_inb : ∀ (i : grid0.Coords) (v2431 : IVec S16 32) (v2441 : IVec S16 32) (k0_hw377 : k0_chk377 i v2431 v2441), ∀ (k0_h1 : k0_cond1 i = 1#1), ∀ a x, ((![v2431, v2441] : Fin 2 → IVec S16 32) a x).toNat < S128x128.size a := fun i v2431 v2441 k0_hw377 k0_h1 => k0_hw377 k0_h1

def k0_chk378 (i : grid0.Coords) (v2429 : IVec S16 32) (v2443 : IVec S16 32) : Prop :=
  (∀ (k0_h1 : k0_cond1 i = 1#1), ∀ a x, ((![v2443, v2429] : Fin 2 → IVec S16 32) a x).toNat < S64x256.size a)
theorem k0_idx377_inb : ∀ (i : grid0.Coords) (v2429 : IVec S16 32) (v2443 : IVec S16 32) (k0_hw378 : k0_chk378 i v2429 v2443), ∀ (k0_h1 : k0_cond1 i = 1#1), ∀ a x, ((![v2443, v2429] : Fin 2 → IVec S16 32) a x).toNat < S64x256.size a := fun i v2429 v2443 k0_hw378 k0_h1 => k0_hw378 k0_h1

def k0_chk379 (i : grid0.Coords) (v2431 : IVec S16 32) (v2446 : IVec S16 32) : Prop :=
  (∀ (k0_h1 : k0_cond1 i = 1#1), ∀ a x, ((![v2431, v2446] : Fin 2 → IVec S16 32) a x).toNat < S128x128.size a)
theorem k0_idx378_inb : ∀ (i : grid0.Coords) (v2431 : IVec S16 32) (v2446 : IVec S16 32) (k0_hw379 : k0_chk379 i v2431 v2446), ∀ (k0_h1 : k0_cond1 i = 1#1), ∀ a x, ((![v2431, v2446] : Fin 2 → IVec S16 32) a x).toNat < S128x128.size a := fun i v2431 v2446 k0_hw379 k0_h1 => k0_hw379 k0_h1

def k0_chk380 (i : grid0.Coords) (v2429 : IVec S16 32) (v2448 : IVec S16 32) : Prop :=
  (∀ (k0_h1 : k0_cond1 i = 1#1), ∀ a x, ((![v2448, v2429] : Fin 2 → IVec S16 32) a x).toNat < S64x256.size a)
theorem k0_idx379_inb : ∀ (i : grid0.Coords) (v2429 : IVec S16 32) (v2448 : IVec S16 32) (k0_hw380 : k0_chk380 i v2429 v2448), ∀ (k0_h1 : k0_cond1 i = 1#1), ∀ a x, ((![v2448, v2429] : Fin 2 → IVec S16 32) a x).toNat < S64x256.size a := fun i v2429 v2448 k0_hw380 k0_h1 => k0_hw380 k0_h1

def k0_chk381 (i : grid0.Coords) (v2431 : IVec S16 32) (v2451 : IVec S16 32) : Prop :=
  (∀ (k0_h1 : k0_cond1 i = 1#1), ∀ a x, ((![v2431, v2451] : Fin 2 → IVec S16 32) a x).toNat < S128x128.size a)
theorem k0_idx380_inb : ∀ (i : grid0.Coords) (v2431 : IVec S16 32) (v2451 : IVec S16 32) (k0_hw381 : k0_chk381 i v2431 v2451), ∀ (k0_h1 : k0_cond1 i = 1#1), ∀ a x, ((![v2431, v2451] : Fin 2 → IVec S16 32) a x).toNat < S128x128.size a := fun i v2431 v2451 k0_hw381 k0_h1 => k0_hw381 k0_h1

def k0_chk382 (i : grid0.Coords) (v2455 : IVec S16 32) (v2459 : IVec S16 32) : Prop :=
  (∀ (k0_h1 : k0_cond1 i = 1#1), ∀ a x, ((![v2459, v2455] : Fin 2 → IVec S16 32) a x).toNat < S64x256.size a)
theorem k0_idx381_inb : ∀ (i : grid0.Coords) (v2455 : IVec S16 32) (v2459 : IVec S16 32) (k0_hw382 : k0_chk382 i v2455 v2459), ∀ (k0_h1 : k0_cond1 i = 1#1), ∀ a x, ((![v2459, v2455] : Fin 2 → IVec S16 32) a x).toNat < S64x256.size a := fun i v2455 v2459 k0_hw382 k0_h1 => k0_hw382 k0_h1

def k0_chk383 (i : grid0.Coords) (v2457 : IVec S16 32) (v2462 : IVec S16 32) : Prop :=
  (∀ (k0_h1 : k0_cond1 i = 1#1), ∀ a x, ((![v2457, v2462] : Fin 2 → IVec S16 32) a x).toNat < S128x128.size a)
theorem k0_idx382_inb : ∀ (i : grid0.Coords) (v2457 : IVec S16 32) (v2462 : IVec S16 32) (k0_hw383 : k0_chk383 i v2457 v2462), ∀ (k0_h1 : k0_cond1 i = 1#1), ∀ a x, ((![v2457, v2462] : Fin 2 → IVec S16 32) a x).toNat < S128x128.size a := fun i v2457 v2462 k0_hw383 k0_h1 => k0_hw383 k0_h1

def k0_chk384 (i : grid0.Coords) (v2455 : IVec S16 32) (v2464 : IVec S16 32) : Prop :=
  (∀ (k0_h1 : k0_cond1 i = 1#1), ∀ a x, ((![v2464, v2455] : Fin 2 → IVec S16 32) a x).toNat < S64x256.size a)
theorem k0_idx383_inb : ∀ (i : grid0.Coords) (v2455 : IVec S16 32) (v2464 : IVec S16 32) (k0_hw384 : k0_chk384 i v2455 v2464), ∀ (k0_h1 : k0_cond1 i = 1#1), ∀ a x, ((![v2464, v2455] : Fin 2 → IVec S16 32) a x).toNat < S64x256.size a := fun i v2455 v2464 k0_hw384 k0_h1 => k0_hw384 k0_h1

def k0_chk385 (i : grid0.Coords) (v2457 : IVec S16 32) (v2467 : IVec S16 32) : Prop :=
  (∀ (k0_h1 : k0_cond1 i = 1#1), ∀ a x, ((![v2457, v2467] : Fin 2 → IVec S16 32) a x).toNat < S128x128.size a)
theorem k0_idx384_inb : ∀ (i : grid0.Coords) (v2457 : IVec S16 32) (v2467 : IVec S16 32) (k0_hw385 : k0_chk385 i v2457 v2467), ∀ (k0_h1 : k0_cond1 i = 1#1), ∀ a x, ((![v2457, v2467] : Fin 2 → IVec S16 32) a x).toNat < S128x128.size a := fun i v2457 v2467 k0_hw385 k0_h1 => k0_hw385 k0_h1

def k0_chk386 (i : grid0.Coords) (v2455 : IVec S16 32) (v2469 : IVec S16 32) : Prop :=
  (∀ (k0_h1 : k0_cond1 i = 1#1), ∀ a x, ((![v2469, v2455] : Fin 2 → IVec S16 32) a x).toNat < S64x256.size a)
theorem k0_idx385_inb : ∀ (i : grid0.Coords) (v2455 : IVec S16 32) (v2469 : IVec S16 32) (k0_hw386 : k0_chk386 i v2455 v2469), ∀ (k0_h1 : k0_cond1 i = 1#1), ∀ a x, ((![v2469, v2455] : Fin 2 → IVec S16 32) a x).toNat < S64x256.size a := fun i v2455 v2469 k0_hw386 k0_h1 => k0_hw386 k0_h1

def k0_chk387 (i : grid0.Coords) (v2457 : IVec S16 32) (v2472 : IVec S16 32) : Prop :=
  (∀ (k0_h1 : k0_cond1 i = 1#1), ∀ a x, ((![v2457, v2472] : Fin 2 → IVec S16 32) a x).toNat < S128x128.size a)
theorem k0_idx386_inb : ∀ (i : grid0.Coords) (v2457 : IVec S16 32) (v2472 : IVec S16 32) (k0_hw387 : k0_chk387 i v2457 v2472), ∀ (k0_h1 : k0_cond1 i = 1#1), ∀ a x, ((![v2457, v2472] : Fin 2 → IVec S16 32) a x).toNat < S128x128.size a := fun i v2457 v2472 k0_hw387 k0_h1 => k0_hw387 k0_h1

def k0_chk388 (i : grid0.Coords) (v2455 : IVec S16 32) (v2474 : IVec S16 32) : Prop :=
  (∀ (k0_h1 : k0_cond1 i = 1#1), ∀ a x, ((![v2474, v2455] : Fin 2 → IVec S16 32) a x).toNat < S64x256.size a)
theorem k0_idx387_inb : ∀ (i : grid0.Coords) (v2455 : IVec S16 32) (v2474 : IVec S16 32) (k0_hw388 : k0_chk388 i v2455 v2474), ∀ (k0_h1 : k0_cond1 i = 1#1), ∀ a x, ((![v2474, v2455] : Fin 2 → IVec S16 32) a x).toNat < S64x256.size a := fun i v2455 v2474 k0_hw388 k0_h1 => k0_hw388 k0_h1

def k0_chk389 (i : grid0.Coords) (v2457 : IVec S16 32) (v2477 : IVec S16 32) : Prop :=
  (∀ (k0_h1 : k0_cond1 i = 1#1), ∀ a x, ((![v2457, v2477] : Fin 2 → IVec S16 32) a x).toNat < S128x128.size a)
theorem k0_idx388_inb : ∀ (i : grid0.Coords) (v2457 : IVec S16 32) (v2477 : IVec S16 32) (k0_hw389 : k0_chk389 i v2457 v2477), ∀ (k0_h1 : k0_cond1 i = 1#1), ∀ a x, ((![v2457, v2477] : Fin 2 → IVec S16 32) a x).toNat < S128x128.size a := fun i v2457 v2477 k0_hw389 k0_h1 => k0_hw389 k0_h1

def k0_chk390 (i : grid0.Coords) (v2481 : IVec S16 32) (v2485 : IVec S16 32) : Prop :=
  (∀ (k0_h1 : k0_cond1 i = 1#1), ∀ a x, ((![v2485, v2481] : Fin 2 → IVec S16 32) a x).toNat < S64x256.size a)
theorem k0_idx389_inb : ∀ (i : grid0.Coords) (v2481 : IVec S16 32) (v2485 : IVec S16 32) (k0_hw390 : k0_chk390 i v2481 v2485), ∀ (k0_h1 : k0_cond1 i = 1#1), ∀ a x, ((![v2485, v2481] : Fin 2 → IVec S16 32) a x).toNat < S64x256.size a := fun i v2481 v2485 k0_hw390 k0_h1 => k0_hw390 k0_h1

def k0_chk391 (i : grid0.Coords) (v2483 : IVec S16 32) (v2488 : IVec S16 32) : Prop :=
  (∀ (k0_h1 : k0_cond1 i = 1#1), ∀ a x, ((![v2483, v2488] : Fin 2 → IVec S16 32) a x).toNat < S128x128.size a)
theorem k0_idx390_inb : ∀ (i : grid0.Coords) (v2483 : IVec S16 32) (v2488 : IVec S16 32) (k0_hw391 : k0_chk391 i v2483 v2488), ∀ (k0_h1 : k0_cond1 i = 1#1), ∀ a x, ((![v2483, v2488] : Fin 2 → IVec S16 32) a x).toNat < S128x128.size a := fun i v2483 v2488 k0_hw391 k0_h1 => k0_hw391 k0_h1

def k0_chk392 (i : grid0.Coords) (v2481 : IVec S16 32) (v2490 : IVec S16 32) : Prop :=
  (∀ (k0_h1 : k0_cond1 i = 1#1), ∀ a x, ((![v2490, v2481] : Fin 2 → IVec S16 32) a x).toNat < S64x256.size a)
theorem k0_idx391_inb : ∀ (i : grid0.Coords) (v2481 : IVec S16 32) (v2490 : IVec S16 32) (k0_hw392 : k0_chk392 i v2481 v2490), ∀ (k0_h1 : k0_cond1 i = 1#1), ∀ a x, ((![v2490, v2481] : Fin 2 → IVec S16 32) a x).toNat < S64x256.size a := fun i v2481 v2490 k0_hw392 k0_h1 => k0_hw392 k0_h1

def k0_chk393 (i : grid0.Coords) (v2483 : IVec S16 32) (v2493 : IVec S16 32) : Prop :=
  (∀ (k0_h1 : k0_cond1 i = 1#1), ∀ a x, ((![v2483, v2493] : Fin 2 → IVec S16 32) a x).toNat < S128x128.size a)
theorem k0_idx392_inb : ∀ (i : grid0.Coords) (v2483 : IVec S16 32) (v2493 : IVec S16 32) (k0_hw393 : k0_chk393 i v2483 v2493), ∀ (k0_h1 : k0_cond1 i = 1#1), ∀ a x, ((![v2483, v2493] : Fin 2 → IVec S16 32) a x).toNat < S128x128.size a := fun i v2483 v2493 k0_hw393 k0_h1 => k0_hw393 k0_h1

def k0_chk394 (i : grid0.Coords) (v2481 : IVec S16 32) (v2495 : IVec S16 32) : Prop :=
  (∀ (k0_h1 : k0_cond1 i = 1#1), ∀ a x, ((![v2495, v2481] : Fin 2 → IVec S16 32) a x).toNat < S64x256.size a)
theorem k0_idx393_inb : ∀ (i : grid0.Coords) (v2481 : IVec S16 32) (v2495 : IVec S16 32) (k0_hw394 : k0_chk394 i v2481 v2495), ∀ (k0_h1 : k0_cond1 i = 1#1), ∀ a x, ((![v2495, v2481] : Fin 2 → IVec S16 32) a x).toNat < S64x256.size a := fun i v2481 v2495 k0_hw394 k0_h1 => k0_hw394 k0_h1

def k0_chk395 (i : grid0.Coords) (v2483 : IVec S16 32) (v2498 : IVec S16 32) : Prop :=
  (∀ (k0_h1 : k0_cond1 i = 1#1), ∀ a x, ((![v2483, v2498] : Fin 2 → IVec S16 32) a x).toNat < S128x128.size a)
theorem k0_idx394_inb : ∀ (i : grid0.Coords) (v2483 : IVec S16 32) (v2498 : IVec S16 32) (k0_hw395 : k0_chk395 i v2483 v2498), ∀ (k0_h1 : k0_cond1 i = 1#1), ∀ a x, ((![v2483, v2498] : Fin 2 → IVec S16 32) a x).toNat < S128x128.size a := fun i v2483 v2498 k0_hw395 k0_h1 => k0_hw395 k0_h1

def k0_chk396 (i : grid0.Coords) (v2481 : IVec S16 32) (v2500 : IVec S16 32) : Prop :=
  (∀ (k0_h1 : k0_cond1 i = 1#1), ∀ a x, ((![v2500, v2481] : Fin 2 → IVec S16 32) a x).toNat < S64x256.size a)
theorem k0_idx395_inb : ∀ (i : grid0.Coords) (v2481 : IVec S16 32) (v2500 : IVec S16 32) (k0_hw396 : k0_chk396 i v2481 v2500), ∀ (k0_h1 : k0_cond1 i = 1#1), ∀ a x, ((![v2500, v2481] : Fin 2 → IVec S16 32) a x).toNat < S64x256.size a := fun i v2481 v2500 k0_hw396 k0_h1 => k0_hw396 k0_h1

def k0_chk397 (i : grid0.Coords) (v2483 : IVec S16 32) (v2503 : IVec S16 32) : Prop :=
  (∀ (k0_h1 : k0_cond1 i = 1#1), ∀ a x, ((![v2483, v2503] : Fin 2 → IVec S16 32) a x).toNat < S128x128.size a)
theorem k0_idx396_inb : ∀ (i : grid0.Coords) (v2483 : IVec S16 32) (v2503 : IVec S16 32) (k0_hw397 : k0_chk397 i v2483 v2503), ∀ (k0_h1 : k0_cond1 i = 1#1), ∀ a x, ((![v2483, v2503] : Fin 2 → IVec S16 32) a x).toNat < S128x128.size a := fun i v2483 v2503 k0_hw397 k0_h1 => k0_hw397 k0_h1
@[reducible] def k0_t7_loop (v2020 : BitVec 32) (v2023 : BitVec 32) : Scf.Loop 32 :=
  let c0_i32_175 : BitVec 32 := 0#32
  let v2024 : BitVec 32 := Scalar.subi v2023 v2020
  let c16_i32_172 : BitVec 32 := 16#32
  let v2025 : BitVec 32 := Scalar.addi v2024 c16_i32_172
  let c1_i32_173 : BitVec 32 := 1#32
  let v2026 : BitVec 32 := Scalar.subi v2025 c1_i32_173
  let c4_i32_174 : BitVec 32 := 4#32
  let v2027 : BitVec 32 := Scalar.shrsi v2026 c4_i32_174
  let v2028 : BitVec 32 := Scalar.subi v2027 c0_i32_175
  let c1_i32_176 : BitVec 32 := 1#32
  let v2030 : BitVec 32 := Scalar.divsi v2028 c1_i32_176
  let v2031 : BitVec 32 := Scalar.muli v2030 c1_i32_176
  let v2032 : BitVec 32 := Scalar.addi c0_i32_175 v2031
  let v2029 : BitVec 32 := Scalar.addi c0_i32_175 v2028
  let c1_i32_178 : BitVec 32 := 1#32
  ⟨v2032, v2029, c1_i32_178⟩

def k0_chk267 (i : grid0.Coords) (v2020 : BitVec 32) (v2023 : BitVec 32) : Prop :=
  (∀ (k0_h1 : k0_cond1 i = 1#1), (k0_t6_loop v2020 v2023).OK) ∧
  (∀ (k0_h1 : k0_cond1 i = 1#1), (k0_t7_loop v2020 v2023).OK)
theorem k0_t6_ok : ∀ (i : grid0.Coords) (v2020 : BitVec 32) (v2023 : BitVec 32) (k0_hw267 : k0_chk267 i v2020 v2023), ∀ (k0_h1 : k0_cond1 i = 1#1), (k0_t6_loop v2020 v2023).OK := fun i v2020 v2023 k0_hw267 k0_h1 => k0_hw267.1 k0_h1
theorem k0_t7_ok : ∀ (i : grid0.Coords) (v2020 : BitVec 32) (v2023 : BitVec 32) (k0_hw267 : k0_chk267 i v2020 v2023), ∀ (k0_h1 : k0_cond1 i = 1#1), (k0_t7_loop v2020 v2023).OK := fun i v2020 v2023 k0_hw267 k0_h1 => k0_hw267.2 k0_h1

def k0_chk398 (i : grid0.Coords) (v2075 : IVec S16 32) : Prop :=
  (∀ (k0_h1 : k0_cond1 i = 1#1), ∀ a x, ((![v2075] : Fin 1 → IVec S16 32) a x).toNat < S4096.size a)
theorem k0_idx397_inb : ∀ (i : grid0.Coords) (v2075 : IVec S16 32) (k0_hw398 : k0_chk398 i v2075), ∀ (k0_h1 : k0_cond1 i = 1#1), ∀ a x, ((![v2075] : Fin 1 → IVec S16 32) a x).toNat < S4096.size a := fun i v2075 k0_hw398 k0_h1 => k0_hw398 k0_h1

def k0_chk399 (i : grid0.Coords) (v2087 : IVec S16 32) : Prop :=
  (∀ (k0_h1 : k0_cond1 i = 1#1), ∀ a x, ((![v2087] : Fin 1 → IVec S16 32) a x).toNat < S128.size a)
theorem k0_idx398_inb : ∀ (i : grid0.Coords) (v2087 : IVec S16 32) (k0_hw399 : k0_chk399 i v2087), ∀ (k0_h1 : k0_cond1 i = 1#1), ∀ a x, ((![v2087] : Fin 1 → IVec S16 32) a x).toNat < S128.size a := fun i v2087 k0_hw399 k0_h1 => k0_hw399 k0_h1

def k0_chk400 (i : grid0.Coords) (v2091 : IVec S16 32) (v2095 : IVec S16 32) : Prop :=
  (∀ (k0_h1 : k0_cond1 i = 1#1), ∀ a x, ((![v2095, v2091] : Fin 2 → IVec S16 32) a x).toNat < S64x256.size a)
theorem k0_idx399_inb : ∀ (i : grid0.Coords) (v2091 : IVec S16 32) (v2095 : IVec S16 32) (k0_hw400 : k0_chk400 i v2091 v2095), ∀ (k0_h1 : k0_cond1 i = 1#1), ∀ a x, ((![v2095, v2091] : Fin 2 → IVec S16 32) a x).toNat < S64x256.size a := fun i v2091 v2095 k0_hw400 k0_h1 => k0_hw400 k0_h1

def k0_chk401 (i : grid0.Coords) (v2093 : IVec S16 32) (v2098 : IVec S16 32) : Prop :=
  (∀ (k0_h1 : k0_cond1 i = 1#1), ∀ a x, ((![v2093, v2098] : Fin 2 → IVec S16 32) a x).toNat < S128x128.size a)
theorem k0_idx400_inb : ∀ (i : grid0.Coords) (v2093 : IVec S16 32) (v2098 : IVec S16 32) (k0_hw401 : k0_chk401 i v2093 v2098), ∀ (k0_h1 : k0_cond1 i = 1#1), ∀ a x, ((![v2093, v2098] : Fin 2 → IVec S16 32) a x).toNat < S128x128.size a := fun i v2093 v2098 k0_hw401 k0_h1 => k0_hw401 k0_h1

def k0_chk402 (i : grid0.Coords) (v2091 : IVec S16 32) (v2100 : IVec S16 32) : Prop :=
  (∀ (k0_h1 : k0_cond1 i = 1#1), ∀ a x, ((![v2100, v2091] : Fin 2 → IVec S16 32) a x).toNat < S64x256.size a)
theorem k0_idx401_inb : ∀ (i : grid0.Coords) (v2091 : IVec S16 32) (v2100 : IVec S16 32) (k0_hw402 : k0_chk402 i v2091 v2100), ∀ (k0_h1 : k0_cond1 i = 1#1), ∀ a x, ((![v2100, v2091] : Fin 2 → IVec S16 32) a x).toNat < S64x256.size a := fun i v2091 v2100 k0_hw402 k0_h1 => k0_hw402 k0_h1

def k0_chk403 (i : grid0.Coords) (v2093 : IVec S16 32) (v2103 : IVec S16 32) : Prop :=
  (∀ (k0_h1 : k0_cond1 i = 1#1), ∀ a x, ((![v2093, v2103] : Fin 2 → IVec S16 32) a x).toNat < S128x128.size a)
theorem k0_idx402_inb : ∀ (i : grid0.Coords) (v2093 : IVec S16 32) (v2103 : IVec S16 32) (k0_hw403 : k0_chk403 i v2093 v2103), ∀ (k0_h1 : k0_cond1 i = 1#1), ∀ a x, ((![v2093, v2103] : Fin 2 → IVec S16 32) a x).toNat < S128x128.size a := fun i v2093 v2103 k0_hw403 k0_h1 => k0_hw403 k0_h1

def k0_chk404 (i : grid0.Coords) (v2091 : IVec S16 32) (v2105 : IVec S16 32) : Prop :=
  (∀ (k0_h1 : k0_cond1 i = 1#1), ∀ a x, ((![v2105, v2091] : Fin 2 → IVec S16 32) a x).toNat < S64x256.size a)
theorem k0_idx403_inb : ∀ (i : grid0.Coords) (v2091 : IVec S16 32) (v2105 : IVec S16 32) (k0_hw404 : k0_chk404 i v2091 v2105), ∀ (k0_h1 : k0_cond1 i = 1#1), ∀ a x, ((![v2105, v2091] : Fin 2 → IVec S16 32) a x).toNat < S64x256.size a := fun i v2091 v2105 k0_hw404 k0_h1 => k0_hw404 k0_h1

def k0_chk405 (i : grid0.Coords) (v2093 : IVec S16 32) (v2108 : IVec S16 32) : Prop :=
  (∀ (k0_h1 : k0_cond1 i = 1#1), ∀ a x, ((![v2093, v2108] : Fin 2 → IVec S16 32) a x).toNat < S128x128.size a)
theorem k0_idx404_inb : ∀ (i : grid0.Coords) (v2093 : IVec S16 32) (v2108 : IVec S16 32) (k0_hw405 : k0_chk405 i v2093 v2108), ∀ (k0_h1 : k0_cond1 i = 1#1), ∀ a x, ((![v2093, v2108] : Fin 2 → IVec S16 32) a x).toNat < S128x128.size a := fun i v2093 v2108 k0_hw405 k0_h1 => k0_hw405 k0_h1

def k0_chk406 (i : grid0.Coords) (v2091 : IVec S16 32) (v2110 : IVec S16 32) : Prop :=
  (∀ (k0_h1 : k0_cond1 i = 1#1), ∀ a x, ((![v2110, v2091] : Fin 2 → IVec S16 32) a x).toNat < S64x256.size a)
theorem k0_idx405_inb : ∀ (i : grid0.Coords) (v2091 : IVec S16 32) (v2110 : IVec S16 32) (k0_hw406 : k0_chk406 i v2091 v2110), ∀ (k0_h1 : k0_cond1 i = 1#1), ∀ a x, ((![v2110, v2091] : Fin 2 → IVec S16 32) a x).toNat < S64x256.size a := fun i v2091 v2110 k0_hw406 k0_h1 => k0_hw406 k0_h1

def k0_chk407 (i : grid0.Coords) (v2093 : IVec S16 32) (v2113 : IVec S16 32) : Prop :=
  (∀ (k0_h1 : k0_cond1 i = 1#1), ∀ a x, ((![v2093, v2113] : Fin 2 → IVec S16 32) a x).toNat < S128x128.size a)
theorem k0_idx406_inb : ∀ (i : grid0.Coords) (v2093 : IVec S16 32) (v2113 : IVec S16 32) (k0_hw407 : k0_chk407 i v2093 v2113), ∀ (k0_h1 : k0_cond1 i = 1#1), ∀ a x, ((![v2093, v2113] : Fin 2 → IVec S16 32) a x).toNat < S128x128.size a := fun i v2093 v2113 k0_hw407 k0_h1 => k0_hw407 k0_h1

def k0_chk408 (i : grid0.Coords) (v2117 : IVec S16 32) (v2121 : IVec S16 32) : Prop :=
  (∀ (k0_h1 : k0_cond1 i = 1#1), ∀ a x, ((![v2121, v2117] : Fin 2 → IVec S16 32) a x).toNat < S64x256.size a)
theorem k0_idx407_inb : ∀ (i : grid0.Coords) (v2117 : IVec S16 32) (v2121 : IVec S16 32) (k0_hw408 : k0_chk408 i v2117 v2121), ∀ (k0_h1 : k0_cond1 i = 1#1), ∀ a x, ((![v2121, v2117] : Fin 2 → IVec S16 32) a x).toNat < S64x256.size a := fun i v2117 v2121 k0_hw408 k0_h1 => k0_hw408 k0_h1

def k0_chk409 (i : grid0.Coords) (v2119 : IVec S16 32) (v2124 : IVec S16 32) : Prop :=
  (∀ (k0_h1 : k0_cond1 i = 1#1), ∀ a x, ((![v2119, v2124] : Fin 2 → IVec S16 32) a x).toNat < S128x128.size a)
theorem k0_idx408_inb : ∀ (i : grid0.Coords) (v2119 : IVec S16 32) (v2124 : IVec S16 32) (k0_hw409 : k0_chk409 i v2119 v2124), ∀ (k0_h1 : k0_cond1 i = 1#1), ∀ a x, ((![v2119, v2124] : Fin 2 → IVec S16 32) a x).toNat < S128x128.size a := fun i v2119 v2124 k0_hw409 k0_h1 => k0_hw409 k0_h1

def k0_chk410 (i : grid0.Coords) (v2117 : IVec S16 32) (v2126 : IVec S16 32) : Prop :=
  (∀ (k0_h1 : k0_cond1 i = 1#1), ∀ a x, ((![v2126, v2117] : Fin 2 → IVec S16 32) a x).toNat < S64x256.size a)
theorem k0_idx409_inb : ∀ (i : grid0.Coords) (v2117 : IVec S16 32) (v2126 : IVec S16 32) (k0_hw410 : k0_chk410 i v2117 v2126), ∀ (k0_h1 : k0_cond1 i = 1#1), ∀ a x, ((![v2126, v2117] : Fin 2 → IVec S16 32) a x).toNat < S64x256.size a := fun i v2117 v2126 k0_hw410 k0_h1 => k0_hw410 k0_h1

def k0_chk411 (i : grid0.Coords) (v2119 : IVec S16 32) (v2129 : IVec S16 32) : Prop :=
  (∀ (k0_h1 : k0_cond1 i = 1#1), ∀ a x, ((![v2119, v2129] : Fin 2 → IVec S16 32) a x).toNat < S128x128.size a)
theorem k0_idx410_inb : ∀ (i : grid0.Coords) (v2119 : IVec S16 32) (v2129 : IVec S16 32) (k0_hw411 : k0_chk411 i v2119 v2129), ∀ (k0_h1 : k0_cond1 i = 1#1), ∀ a x, ((![v2119, v2129] : Fin 2 → IVec S16 32) a x).toNat < S128x128.size a := fun i v2119 v2129 k0_hw411 k0_h1 => k0_hw411 k0_h1

def k0_chk412 (i : grid0.Coords) (v2117 : IVec S16 32) (v2131 : IVec S16 32) : Prop :=
  (∀ (k0_h1 : k0_cond1 i = 1#1), ∀ a x, ((![v2131, v2117] : Fin 2 → IVec S16 32) a x).toNat < S64x256.size a)
theorem k0_idx411_inb : ∀ (i : grid0.Coords) (v2117 : IVec S16 32) (v2131 : IVec S16 32) (k0_hw412 : k0_chk412 i v2117 v2131), ∀ (k0_h1 : k0_cond1 i = 1#1), ∀ a x, ((![v2131, v2117] : Fin 2 → IVec S16 32) a x).toNat < S64x256.size a := fun i v2117 v2131 k0_hw412 k0_h1 => k0_hw412 k0_h1

def k0_chk413 (i : grid0.Coords) (v2119 : IVec S16 32) (v2134 : IVec S16 32) : Prop :=
  (∀ (k0_h1 : k0_cond1 i = 1#1), ∀ a x, ((![v2119, v2134] : Fin 2 → IVec S16 32) a x).toNat < S128x128.size a)
theorem k0_idx412_inb : ∀ (i : grid0.Coords) (v2119 : IVec S16 32) (v2134 : IVec S16 32) (k0_hw413 : k0_chk413 i v2119 v2134), ∀ (k0_h1 : k0_cond1 i = 1#1), ∀ a x, ((![v2119, v2134] : Fin 2 → IVec S16 32) a x).toNat < S128x128.size a := fun i v2119 v2134 k0_hw413 k0_h1 => k0_hw413 k0_h1

def k0_chk414 (i : grid0.Coords) (v2117 : IVec S16 32) (v2136 : IVec S16 32) : Prop :=
  (∀ (k0_h1 : k0_cond1 i = 1#1), ∀ a x, ((![v2136, v2117] : Fin 2 → IVec S16 32) a x).toNat < S64x256.size a)
theorem k0_idx413_inb : ∀ (i : grid0.Coords) (v2117 : IVec S16 32) (v2136 : IVec S16 32) (k0_hw414 : k0_chk414 i v2117 v2136), ∀ (k0_h1 : k0_cond1 i = 1#1), ∀ a x, ((![v2136, v2117] : Fin 2 → IVec S16 32) a x).toNat < S64x256.size a := fun i v2117 v2136 k0_hw414 k0_h1 => k0_hw414 k0_h1

def k0_chk415 (i : grid0.Coords) (v2119 : IVec S16 32) (v2139 : IVec S16 32) : Prop :=
  (∀ (k0_h1 : k0_cond1 i = 1#1), ∀ a x, ((![v2119, v2139] : Fin 2 → IVec S16 32) a x).toNat < S128x128.size a)
theorem k0_idx414_inb : ∀ (i : grid0.Coords) (v2119 : IVec S16 32) (v2139 : IVec S16 32) (k0_hw415 : k0_chk415 i v2119 v2139), ∀ (k0_h1 : k0_cond1 i = 1#1), ∀ a x, ((![v2119, v2139] : Fin 2 → IVec S16 32) a x).toNat < S128x128.size a := fun i v2119 v2139 k0_hw415 k0_h1 => k0_hw415 k0_h1

def k0_chk416 (i : grid0.Coords) (v2143 : IVec S16 32) (v2147 : IVec S16 32) : Prop :=
  (∀ (k0_h1 : k0_cond1 i = 1#1), ∀ a x, ((![v2147, v2143] : Fin 2 → IVec S16 32) a x).toNat < S64x256.size a)
theorem k0_idx415_inb : ∀ (i : grid0.Coords) (v2143 : IVec S16 32) (v2147 : IVec S16 32) (k0_hw416 : k0_chk416 i v2143 v2147), ∀ (k0_h1 : k0_cond1 i = 1#1), ∀ a x, ((![v2147, v2143] : Fin 2 → IVec S16 32) a x).toNat < S64x256.size a := fun i v2143 v2147 k0_hw416 k0_h1 => k0_hw416 k0_h1

def k0_chk417 (i : grid0.Coords) (v2145 : IVec S16 32) (v2150 : IVec S16 32) : Prop :=
  (∀ (k0_h1 : k0_cond1 i = 1#1), ∀ a x, ((![v2145, v2150] : Fin 2 → IVec S16 32) a x).toNat < S128x128.size a)
theorem k0_idx416_inb : ∀ (i : grid0.Coords) (v2145 : IVec S16 32) (v2150 : IVec S16 32) (k0_hw417 : k0_chk417 i v2145 v2150), ∀ (k0_h1 : k0_cond1 i = 1#1), ∀ a x, ((![v2145, v2150] : Fin 2 → IVec S16 32) a x).toNat < S128x128.size a := fun i v2145 v2150 k0_hw417 k0_h1 => k0_hw417 k0_h1

def k0_chk418 (i : grid0.Coords) (v2143 : IVec S16 32) (v2152 : IVec S16 32) : Prop :=
  (∀ (k0_h1 : k0_cond1 i = 1#1), ∀ a x, ((![v2152, v2143] : Fin 2 → IVec S16 32) a x).toNat < S64x256.size a)
theorem k0_idx417_inb : ∀ (i : grid0.Coords) (v2143 : IVec S16 32) (v2152 : IVec S16 32) (k0_hw418 : k0_chk418 i v2143 v2152), ∀ (k0_h1 : k0_cond1 i = 1#1), ∀ a x, ((![v2152, v2143] : Fin 2 → IVec S16 32) a x).toNat < S64x256.size a := fun i v2143 v2152 k0_hw418 k0_h1 => k0_hw418 k0_h1

def k0_chk419 (i : grid0.Coords) (v2145 : IVec S16 32) (v2155 : IVec S16 32) : Prop :=
  (∀ (k0_h1 : k0_cond1 i = 1#1), ∀ a x, ((![v2145, v2155] : Fin 2 → IVec S16 32) a x).toNat < S128x128.size a)
theorem k0_idx418_inb : ∀ (i : grid0.Coords) (v2145 : IVec S16 32) (v2155 : IVec S16 32) (k0_hw419 : k0_chk419 i v2145 v2155), ∀ (k0_h1 : k0_cond1 i = 1#1), ∀ a x, ((![v2145, v2155] : Fin 2 → IVec S16 32) a x).toNat < S128x128.size a := fun i v2145 v2155 k0_hw419 k0_h1 => k0_hw419 k0_h1

def k0_chk420 (i : grid0.Coords) (v2143 : IVec S16 32) (v2157 : IVec S16 32) : Prop :=
  (∀ (k0_h1 : k0_cond1 i = 1#1), ∀ a x, ((![v2157, v2143] : Fin 2 → IVec S16 32) a x).toNat < S64x256.size a)
theorem k0_idx419_inb : ∀ (i : grid0.Coords) (v2143 : IVec S16 32) (v2157 : IVec S16 32) (k0_hw420 : k0_chk420 i v2143 v2157), ∀ (k0_h1 : k0_cond1 i = 1#1), ∀ a x, ((![v2157, v2143] : Fin 2 → IVec S16 32) a x).toNat < S64x256.size a := fun i v2143 v2157 k0_hw420 k0_h1 => k0_hw420 k0_h1

def k0_chk421 (i : grid0.Coords) (v2145 : IVec S16 32) (v2160 : IVec S16 32) : Prop :=
  (∀ (k0_h1 : k0_cond1 i = 1#1), ∀ a x, ((![v2145, v2160] : Fin 2 → IVec S16 32) a x).toNat < S128x128.size a)
theorem k0_idx420_inb : ∀ (i : grid0.Coords) (v2145 : IVec S16 32) (v2160 : IVec S16 32) (k0_hw421 : k0_chk421 i v2145 v2160), ∀ (k0_h1 : k0_cond1 i = 1#1), ∀ a x, ((![v2145, v2160] : Fin 2 → IVec S16 32) a x).toNat < S128x128.size a := fun i v2145 v2160 k0_hw421 k0_h1 => k0_hw421 k0_h1

def k0_chk422 (i : grid0.Coords) (v2143 : IVec S16 32) (v2162 : IVec S16 32) : Prop :=
  (∀ (k0_h1 : k0_cond1 i = 1#1), ∀ a x, ((![v2162, v2143] : Fin 2 → IVec S16 32) a x).toNat < S64x256.size a)
theorem k0_idx421_inb : ∀ (i : grid0.Coords) (v2143 : IVec S16 32) (v2162 : IVec S16 32) (k0_hw422 : k0_chk422 i v2143 v2162), ∀ (k0_h1 : k0_cond1 i = 1#1), ∀ a x, ((![v2162, v2143] : Fin 2 → IVec S16 32) a x).toNat < S64x256.size a := fun i v2143 v2162 k0_hw422 k0_h1 => k0_hw422 k0_h1

def k0_chk423 (i : grid0.Coords) (v2145 : IVec S16 32) (v2165 : IVec S16 32) : Prop :=
  (∀ (k0_h1 : k0_cond1 i = 1#1), ∀ a x, ((![v2145, v2165] : Fin 2 → IVec S16 32) a x).toNat < S128x128.size a)
theorem k0_idx422_inb : ∀ (i : grid0.Coords) (v2145 : IVec S16 32) (v2165 : IVec S16 32) (k0_hw423 : k0_chk423 i v2145 v2165), ∀ (k0_h1 : k0_cond1 i = 1#1), ∀ a x, ((![v2145, v2165] : Fin 2 → IVec S16 32) a x).toNat < S128x128.size a := fun i v2145 v2165 k0_hw423 k0_h1 => k0_hw423 k0_h1

def k0_chk424 (i : grid0.Coords) (v2169 : IVec S16 32) (v2173 : IVec S16 32) : Prop :=
  (∀ (k0_h1 : k0_cond1 i = 1#1), ∀ a x, ((![v2173, v2169] : Fin 2 → IVec S16 32) a x).toNat < S64x256.size a)
theorem k0_idx423_inb : ∀ (i : grid0.Coords) (v2169 : IVec S16 32) (v2173 : IVec S16 32) (k0_hw424 : k0_chk424 i v2169 v2173), ∀ (k0_h1 : k0_cond1 i = 1#1), ∀ a x, ((![v2173, v2169] : Fin 2 → IVec S16 32) a x).toNat < S64x256.size a := fun i v2169 v2173 k0_hw424 k0_h1 => k0_hw424 k0_h1

def k0_chk425 (i : grid0.Coords) (v2171 : IVec S16 32) (v2176 : IVec S16 32) : Prop :=
  (∀ (k0_h1 : k0_cond1 i = 1#1), ∀ a x, ((![v2171, v2176] : Fin 2 → IVec S16 32) a x).toNat < S128x128.size a)
theorem k0_idx424_inb : ∀ (i : grid0.Coords) (v2171 : IVec S16 32) (v2176 : IVec S16 32) (k0_hw425 : k0_chk425 i v2171 v2176), ∀ (k0_h1 : k0_cond1 i = 1#1), ∀ a x, ((![v2171, v2176] : Fin 2 → IVec S16 32) a x).toNat < S128x128.size a := fun i v2171 v2176 k0_hw425 k0_h1 => k0_hw425 k0_h1

def k0_chk426 (i : grid0.Coords) (v2169 : IVec S16 32) (v2178 : IVec S16 32) : Prop :=
  (∀ (k0_h1 : k0_cond1 i = 1#1), ∀ a x, ((![v2178, v2169] : Fin 2 → IVec S16 32) a x).toNat < S64x256.size a)
theorem k0_idx425_inb : ∀ (i : grid0.Coords) (v2169 : IVec S16 32) (v2178 : IVec S16 32) (k0_hw426 : k0_chk426 i v2169 v2178), ∀ (k0_h1 : k0_cond1 i = 1#1), ∀ a x, ((![v2178, v2169] : Fin 2 → IVec S16 32) a x).toNat < S64x256.size a := fun i v2169 v2178 k0_hw426 k0_h1 => k0_hw426 k0_h1

def k0_chk427 (i : grid0.Coords) (v2171 : IVec S16 32) (v2181 : IVec S16 32) : Prop :=
  (∀ (k0_h1 : k0_cond1 i = 1#1), ∀ a x, ((![v2171, v2181] : Fin 2 → IVec S16 32) a x).toNat < S128x128.size a)
theorem k0_idx426_inb : ∀ (i : grid0.Coords) (v2171 : IVec S16 32) (v2181 : IVec S16 32) (k0_hw427 : k0_chk427 i v2171 v2181), ∀ (k0_h1 : k0_cond1 i = 1#1), ∀ a x, ((![v2171, v2181] : Fin 2 → IVec S16 32) a x).toNat < S128x128.size a := fun i v2171 v2181 k0_hw427 k0_h1 => k0_hw427 k0_h1

def k0_chk428 (i : grid0.Coords) (v2169 : IVec S16 32) (v2183 : IVec S16 32) : Prop :=
  (∀ (k0_h1 : k0_cond1 i = 1#1), ∀ a x, ((![v2183, v2169] : Fin 2 → IVec S16 32) a x).toNat < S64x256.size a)
theorem k0_idx427_inb : ∀ (i : grid0.Coords) (v2169 : IVec S16 32) (v2183 : IVec S16 32) (k0_hw428 : k0_chk428 i v2169 v2183), ∀ (k0_h1 : k0_cond1 i = 1#1), ∀ a x, ((![v2183, v2169] : Fin 2 → IVec S16 32) a x).toNat < S64x256.size a := fun i v2169 v2183 k0_hw428 k0_h1 => k0_hw428 k0_h1

def k0_chk429 (i : grid0.Coords) (v2171 : IVec S16 32) (v2186 : IVec S16 32) : Prop :=
  (∀ (k0_h1 : k0_cond1 i = 1#1), ∀ a x, ((![v2171, v2186] : Fin 2 → IVec S16 32) a x).toNat < S128x128.size a)
theorem k0_idx428_inb : ∀ (i : grid0.Coords) (v2171 : IVec S16 32) (v2186 : IVec S16 32) (k0_hw429 : k0_chk429 i v2171 v2186), ∀ (k0_h1 : k0_cond1 i = 1#1), ∀ a x, ((![v2171, v2186] : Fin 2 → IVec S16 32) a x).toNat < S128x128.size a := fun i v2171 v2186 k0_hw429 k0_h1 => k0_hw429 k0_h1

def k0_chk430 (i : grid0.Coords) (v2169 : IVec S16 32) (v2188 : IVec S16 32) : Prop :=
  (∀ (k0_h1 : k0_cond1 i = 1#1), ∀ a x, ((![v2188, v2169] : Fin 2 → IVec S16 32) a x).toNat < S64x256.size a)
theorem k0_idx429_inb : ∀ (i : grid0.Coords) (v2169 : IVec S16 32) (v2188 : IVec S16 32) (k0_hw430 : k0_chk430 i v2169 v2188), ∀ (k0_h1 : k0_cond1 i = 1#1), ∀ a x, ((![v2188, v2169] : Fin 2 → IVec S16 32) a x).toNat < S64x256.size a := fun i v2169 v2188 k0_hw430 k0_h1 => k0_hw430 k0_h1

def k0_chk431 (i : grid0.Coords) (v2171 : IVec S16 32) (v2191 : IVec S16 32) : Prop :=
  (∀ (k0_h1 : k0_cond1 i = 1#1), ∀ a x, ((![v2171, v2191] : Fin 2 → IVec S16 32) a x).toNat < S128x128.size a)
theorem k0_idx430_inb : ∀ (i : grid0.Coords) (v2171 : IVec S16 32) (v2191 : IVec S16 32) (k0_hw431 : k0_chk431 i v2171 v2191), ∀ (k0_h1 : k0_cond1 i = 1#1), ∀ a x, ((![v2171, v2191] : Fin 2 → IVec S16 32) a x).toNat < S128x128.size a := fun i v2171 v2191 k0_hw431 k0_h1 => k0_hw431 k0_h1

def k0_chk432 (i : grid0.Coords) (v2195 : IVec S16 32) (v2199 : IVec S16 32) : Prop :=
  (∀ (k0_h1 : k0_cond1 i = 1#1), ∀ a x, ((![v2199, v2195] : Fin 2 → IVec S16 32) a x).toNat < S64x256.size a)
theorem k0_idx431_inb : ∀ (i : grid0.Coords) (v2195 : IVec S16 32) (v2199 : IVec S16 32) (k0_hw432 : k0_chk432 i v2195 v2199), ∀ (k0_h1 : k0_cond1 i = 1#1), ∀ a x, ((![v2199, v2195] : Fin 2 → IVec S16 32) a x).toNat < S64x256.size a := fun i v2195 v2199 k0_hw432 k0_h1 => k0_hw432 k0_h1

def k0_chk433 (i : grid0.Coords) (v2197 : IVec S16 32) (v2202 : IVec S16 32) : Prop :=
  (∀ (k0_h1 : k0_cond1 i = 1#1), ∀ a x, ((![v2197, v2202] : Fin 2 → IVec S16 32) a x).toNat < S128x128.size a)
theorem k0_idx432_inb : ∀ (i : grid0.Coords) (v2197 : IVec S16 32) (v2202 : IVec S16 32) (k0_hw433 : k0_chk433 i v2197 v2202), ∀ (k0_h1 : k0_cond1 i = 1#1), ∀ a x, ((![v2197, v2202] : Fin 2 → IVec S16 32) a x).toNat < S128x128.size a := fun i v2197 v2202 k0_hw433 k0_h1 => k0_hw433 k0_h1

def k0_chk434 (i : grid0.Coords) (v2195 : IVec S16 32) (v2204 : IVec S16 32) : Prop :=
  (∀ (k0_h1 : k0_cond1 i = 1#1), ∀ a x, ((![v2204, v2195] : Fin 2 → IVec S16 32) a x).toNat < S64x256.size a)
theorem k0_idx433_inb : ∀ (i : grid0.Coords) (v2195 : IVec S16 32) (v2204 : IVec S16 32) (k0_hw434 : k0_chk434 i v2195 v2204), ∀ (k0_h1 : k0_cond1 i = 1#1), ∀ a x, ((![v2204, v2195] : Fin 2 → IVec S16 32) a x).toNat < S64x256.size a := fun i v2195 v2204 k0_hw434 k0_h1 => k0_hw434 k0_h1

def k0_chk435 (i : grid0.Coords) (v2197 : IVec S16 32) (v2207 : IVec S16 32) : Prop :=
  (∀ (k0_h1 : k0_cond1 i = 1#1), ∀ a x, ((![v2197, v2207] : Fin 2 → IVec S16 32) a x).toNat < S128x128.size a)
theorem k0_idx434_inb : ∀ (i : grid0.Coords) (v2197 : IVec S16 32) (v2207 : IVec S16 32) (k0_hw435 : k0_chk435 i v2197 v2207), ∀ (k0_h1 : k0_cond1 i = 1#1), ∀ a x, ((![v2197, v2207] : Fin 2 → IVec S16 32) a x).toNat < S128x128.size a := fun i v2197 v2207 k0_hw435 k0_h1 => k0_hw435 k0_h1

def k0_chk436 (i : grid0.Coords) (v2195 : IVec S16 32) (v2209 : IVec S16 32) : Prop :=
  (∀ (k0_h1 : k0_cond1 i = 1#1), ∀ a x, ((![v2209, v2195] : Fin 2 → IVec S16 32) a x).toNat < S64x256.size a)
theorem k0_idx435_inb : ∀ (i : grid0.Coords) (v2195 : IVec S16 32) (v2209 : IVec S16 32) (k0_hw436 : k0_chk436 i v2195 v2209), ∀ (k0_h1 : k0_cond1 i = 1#1), ∀ a x, ((![v2209, v2195] : Fin 2 → IVec S16 32) a x).toNat < S64x256.size a := fun i v2195 v2209 k0_hw436 k0_h1 => k0_hw436 k0_h1

def k0_chk437 (i : grid0.Coords) (v2197 : IVec S16 32) (v2212 : IVec S16 32) : Prop :=
  (∀ (k0_h1 : k0_cond1 i = 1#1), ∀ a x, ((![v2197, v2212] : Fin 2 → IVec S16 32) a x).toNat < S128x128.size a)
theorem k0_idx436_inb : ∀ (i : grid0.Coords) (v2197 : IVec S16 32) (v2212 : IVec S16 32) (k0_hw437 : k0_chk437 i v2197 v2212), ∀ (k0_h1 : k0_cond1 i = 1#1), ∀ a x, ((![v2197, v2212] : Fin 2 → IVec S16 32) a x).toNat < S128x128.size a := fun i v2197 v2212 k0_hw437 k0_h1 => k0_hw437 k0_h1

def k0_chk438 (i : grid0.Coords) (v2195 : IVec S16 32) (v2214 : IVec S16 32) : Prop :=
  (∀ (k0_h1 : k0_cond1 i = 1#1), ∀ a x, ((![v2214, v2195] : Fin 2 → IVec S16 32) a x).toNat < S64x256.size a)
theorem k0_idx437_inb : ∀ (i : grid0.Coords) (v2195 : IVec S16 32) (v2214 : IVec S16 32) (k0_hw438 : k0_chk438 i v2195 v2214), ∀ (k0_h1 : k0_cond1 i = 1#1), ∀ a x, ((![v2214, v2195] : Fin 2 → IVec S16 32) a x).toNat < S64x256.size a := fun i v2195 v2214 k0_hw438 k0_h1 => k0_hw438 k0_h1

def k0_chk439 (i : grid0.Coords) (v2197 : IVec S16 32) (v2217 : IVec S16 32) : Prop :=
  (∀ (k0_h1 : k0_cond1 i = 1#1), ∀ a x, ((![v2197, v2217] : Fin 2 → IVec S16 32) a x).toNat < S128x128.size a)
theorem k0_idx438_inb : ∀ (i : grid0.Coords) (v2197 : IVec S16 32) (v2217 : IVec S16 32) (k0_hw439 : k0_chk439 i v2197 v2217), ∀ (k0_h1 : k0_cond1 i = 1#1), ∀ a x, ((![v2197, v2217] : Fin 2 → IVec S16 32) a x).toNat < S128x128.size a := fun i v2197 v2217 k0_hw439 k0_h1 => k0_hw439 k0_h1

def k0_chk440 (i : grid0.Coords) (v2221 : IVec S16 32) (v2225 : IVec S16 32) : Prop :=
  (∀ (k0_h1 : k0_cond1 i = 1#1), ∀ a x, ((![v2225, v2221] : Fin 2 → IVec S16 32) a x).toNat < S64x256.size a)
theorem k0_idx439_inb : ∀ (i : grid0.Coords) (v2221 : IVec S16 32) (v2225 : IVec S16 32) (k0_hw440 : k0_chk440 i v2221 v2225), ∀ (k0_h1 : k0_cond1 i = 1#1), ∀ a x, ((![v2225, v2221] : Fin 2 → IVec S16 32) a x).toNat < S64x256.size a := fun i v2221 v2225 k0_hw440 k0_h1 => k0_hw440 k0_h1

def k0_chk441 (i : grid0.Coords) (v2223 : IVec S16 32) (v2228 : IVec S16 32) : Prop :=
  (∀ (k0_h1 : k0_cond1 i = 1#1), ∀ a x, ((![v2223, v2228] : Fin 2 → IVec S16 32) a x).toNat < S128x128.size a)
theorem k0_idx440_inb : ∀ (i : grid0.Coords) (v2223 : IVec S16 32) (v2228 : IVec S16 32) (k0_hw441 : k0_chk441 i v2223 v2228), ∀ (k0_h1 : k0_cond1 i = 1#1), ∀ a x, ((![v2223, v2228] : Fin 2 → IVec S16 32) a x).toNat < S128x128.size a := fun i v2223 v2228 k0_hw441 k0_h1 => k0_hw441 k0_h1

def k0_chk442 (i : grid0.Coords) (v2221 : IVec S16 32) (v2230 : IVec S16 32) : Prop :=
  (∀ (k0_h1 : k0_cond1 i = 1#1), ∀ a x, ((![v2230, v2221] : Fin 2 → IVec S16 32) a x).toNat < S64x256.size a)
theorem k0_idx441_inb : ∀ (i : grid0.Coords) (v2221 : IVec S16 32) (v2230 : IVec S16 32) (k0_hw442 : k0_chk442 i v2221 v2230), ∀ (k0_h1 : k0_cond1 i = 1#1), ∀ a x, ((![v2230, v2221] : Fin 2 → IVec S16 32) a x).toNat < S64x256.size a := fun i v2221 v2230 k0_hw442 k0_h1 => k0_hw442 k0_h1

def k0_chk443 (i : grid0.Coords) (v2223 : IVec S16 32) (v2233 : IVec S16 32) : Prop :=
  (∀ (k0_h1 : k0_cond1 i = 1#1), ∀ a x, ((![v2223, v2233] : Fin 2 → IVec S16 32) a x).toNat < S128x128.size a)
theorem k0_idx442_inb : ∀ (i : grid0.Coords) (v2223 : IVec S16 32) (v2233 : IVec S16 32) (k0_hw443 : k0_chk443 i v2223 v2233), ∀ (k0_h1 : k0_cond1 i = 1#1), ∀ a x, ((![v2223, v2233] : Fin 2 → IVec S16 32) a x).toNat < S128x128.size a := fun i v2223 v2233 k0_hw443 k0_h1 => k0_hw443 k0_h1

def k0_chk444 (i : grid0.Coords) (v2221 : IVec S16 32) (v2235 : IVec S16 32) : Prop :=
  (∀ (k0_h1 : k0_cond1 i = 1#1), ∀ a x, ((![v2235, v2221] : Fin 2 → IVec S16 32) a x).toNat < S64x256.size a)
theorem k0_idx443_inb : ∀ (i : grid0.Coords) (v2221 : IVec S16 32) (v2235 : IVec S16 32) (k0_hw444 : k0_chk444 i v2221 v2235), ∀ (k0_h1 : k0_cond1 i = 1#1), ∀ a x, ((![v2235, v2221] : Fin 2 → IVec S16 32) a x).toNat < S64x256.size a := fun i v2221 v2235 k0_hw444 k0_h1 => k0_hw444 k0_h1

def k0_chk445 (i : grid0.Coords) (v2223 : IVec S16 32) (v2238 : IVec S16 32) : Prop :=
  (∀ (k0_h1 : k0_cond1 i = 1#1), ∀ a x, ((![v2223, v2238] : Fin 2 → IVec S16 32) a x).toNat < S128x128.size a)
theorem k0_idx444_inb : ∀ (i : grid0.Coords) (v2223 : IVec S16 32) (v2238 : IVec S16 32) (k0_hw445 : k0_chk445 i v2223 v2238), ∀ (k0_h1 : k0_cond1 i = 1#1), ∀ a x, ((![v2223, v2238] : Fin 2 → IVec S16 32) a x).toNat < S128x128.size a := fun i v2223 v2238 k0_hw445 k0_h1 => k0_hw445 k0_h1

def k0_chk446 (i : grid0.Coords) (v2221 : IVec S16 32) (v2240 : IVec S16 32) : Prop :=
  (∀ (k0_h1 : k0_cond1 i = 1#1), ∀ a x, ((![v2240, v2221] : Fin 2 → IVec S16 32) a x).toNat < S64x256.size a)
theorem k0_idx445_inb : ∀ (i : grid0.Coords) (v2221 : IVec S16 32) (v2240 : IVec S16 32) (k0_hw446 : k0_chk446 i v2221 v2240), ∀ (k0_h1 : k0_cond1 i = 1#1), ∀ a x, ((![v2240, v2221] : Fin 2 → IVec S16 32) a x).toNat < S64x256.size a := fun i v2221 v2240 k0_hw446 k0_h1 => k0_hw446 k0_h1

def k0_chk447 (i : grid0.Coords) (v2223 : IVec S16 32) (v2243 : IVec S16 32) : Prop :=
  (∀ (k0_h1 : k0_cond1 i = 1#1), ∀ a x, ((![v2223, v2243] : Fin 2 → IVec S16 32) a x).toNat < S128x128.size a)
theorem k0_idx446_inb : ∀ (i : grid0.Coords) (v2223 : IVec S16 32) (v2243 : IVec S16 32) (k0_hw447 : k0_chk447 i v2223 v2243), ∀ (k0_h1 : k0_cond1 i = 1#1), ∀ a x, ((![v2223, v2243] : Fin 2 → IVec S16 32) a x).toNat < S128x128.size a := fun i v2223 v2243 k0_hw447 k0_h1 => k0_hw447 k0_h1

def k0_chk448 (i : grid0.Coords) (v2247 : IVec S16 32) (v2251 : IVec S16 32) : Prop :=
  (∀ (k0_h1 : k0_cond1 i = 1#1), ∀ a x, ((![v2251, v2247] : Fin 2 → IVec S16 32) a x).toNat < S64x256.size a)
theorem k0_idx447_inb : ∀ (i : grid0.Coords) (v2247 : IVec S16 32) (v2251 : IVec S16 32) (k0_hw448 : k0_chk448 i v2247 v2251), ∀ (k0_h1 : k0_cond1 i = 1#1), ∀ a x, ((![v2251, v2247] : Fin 2 → IVec S16 32) a x).toNat < S64x256.size a := fun i v2247 v2251 k0_hw448 k0_h1 => k0_hw448 k0_h1

def k0_chk449 (i : grid0.Coords) (v2249 : IVec S16 32) (v2254 : IVec S16 32) : Prop :=
  (∀ (k0_h1 : k0_cond1 i = 1#1), ∀ a x, ((![v2249, v2254] : Fin 2 → IVec S16 32) a x).toNat < S128x128.size a)
theorem k0_idx448_inb : ∀ (i : grid0.Coords) (v2249 : IVec S16 32) (v2254 : IVec S16 32) (k0_hw449 : k0_chk449 i v2249 v2254), ∀ (k0_h1 : k0_cond1 i = 1#1), ∀ a x, ((![v2249, v2254] : Fin 2 → IVec S16 32) a x).toNat < S128x128.size a := fun i v2249 v2254 k0_hw449 k0_h1 => k0_hw449 k0_h1

def k0_chk450 (i : grid0.Coords) (v2247 : IVec S16 32) (v2256 : IVec S16 32) : Prop :=
  (∀ (k0_h1 : k0_cond1 i = 1#1), ∀ a x, ((![v2256, v2247] : Fin 2 → IVec S16 32) a x).toNat < S64x256.size a)
theorem k0_idx449_inb : ∀ (i : grid0.Coords) (v2247 : IVec S16 32) (v2256 : IVec S16 32) (k0_hw450 : k0_chk450 i v2247 v2256), ∀ (k0_h1 : k0_cond1 i = 1#1), ∀ a x, ((![v2256, v2247] : Fin 2 → IVec S16 32) a x).toNat < S64x256.size a := fun i v2247 v2256 k0_hw450 k0_h1 => k0_hw450 k0_h1

def k0_chk451 (i : grid0.Coords) (v2249 : IVec S16 32) (v2259 : IVec S16 32) : Prop :=
  (∀ (k0_h1 : k0_cond1 i = 1#1), ∀ a x, ((![v2249, v2259] : Fin 2 → IVec S16 32) a x).toNat < S128x128.size a)
theorem k0_idx450_inb : ∀ (i : grid0.Coords) (v2249 : IVec S16 32) (v2259 : IVec S16 32) (k0_hw451 : k0_chk451 i v2249 v2259), ∀ (k0_h1 : k0_cond1 i = 1#1), ∀ a x, ((![v2249, v2259] : Fin 2 → IVec S16 32) a x).toNat < S128x128.size a := fun i v2249 v2259 k0_hw451 k0_h1 => k0_hw451 k0_h1

def k0_chk452 (i : grid0.Coords) (v2247 : IVec S16 32) (v2261 : IVec S16 32) : Prop :=
  (∀ (k0_h1 : k0_cond1 i = 1#1), ∀ a x, ((![v2261, v2247] : Fin 2 → IVec S16 32) a x).toNat < S64x256.size a)
theorem k0_idx451_inb : ∀ (i : grid0.Coords) (v2247 : IVec S16 32) (v2261 : IVec S16 32) (k0_hw452 : k0_chk452 i v2247 v2261), ∀ (k0_h1 : k0_cond1 i = 1#1), ∀ a x, ((![v2261, v2247] : Fin 2 → IVec S16 32) a x).toNat < S64x256.size a := fun i v2247 v2261 k0_hw452 k0_h1 => k0_hw452 k0_h1

def k0_chk453 (i : grid0.Coords) (v2249 : IVec S16 32) (v2264 : IVec S16 32) : Prop :=
  (∀ (k0_h1 : k0_cond1 i = 1#1), ∀ a x, ((![v2249, v2264] : Fin 2 → IVec S16 32) a x).toNat < S128x128.size a)
theorem k0_idx452_inb : ∀ (i : grid0.Coords) (v2249 : IVec S16 32) (v2264 : IVec S16 32) (k0_hw453 : k0_chk453 i v2249 v2264), ∀ (k0_h1 : k0_cond1 i = 1#1), ∀ a x, ((![v2249, v2264] : Fin 2 → IVec S16 32) a x).toNat < S128x128.size a := fun i v2249 v2264 k0_hw453 k0_h1 => k0_hw453 k0_h1

def k0_chk454 (i : grid0.Coords) (v2247 : IVec S16 32) (v2266 : IVec S16 32) : Prop :=
  (∀ (k0_h1 : k0_cond1 i = 1#1), ∀ a x, ((![v2266, v2247] : Fin 2 → IVec S16 32) a x).toNat < S64x256.size a)
theorem k0_idx453_inb : ∀ (i : grid0.Coords) (v2247 : IVec S16 32) (v2266 : IVec S16 32) (k0_hw454 : k0_chk454 i v2247 v2266), ∀ (k0_h1 : k0_cond1 i = 1#1), ∀ a x, ((![v2266, v2247] : Fin 2 → IVec S16 32) a x).toNat < S64x256.size a := fun i v2247 v2266 k0_hw454 k0_h1 => k0_hw454 k0_h1

def k0_chk455 (i : grid0.Coords) (v2249 : IVec S16 32) (v2269 : IVec S16 32) : Prop :=
  (∀ (k0_h1 : k0_cond1 i = 1#1), ∀ a x, ((![v2249, v2269] : Fin 2 → IVec S16 32) a x).toNat < S128x128.size a)
theorem k0_idx454_inb : ∀ (i : grid0.Coords) (v2249 : IVec S16 32) (v2269 : IVec S16 32) (k0_hw455 : k0_chk455 i v2249 v2269), ∀ (k0_h1 : k0_cond1 i = 1#1), ∀ a x, ((![v2249, v2269] : Fin 2 → IVec S16 32) a x).toNat < S128x128.size a := fun i v2249 v2269 k0_hw455 k0_h1 => k0_hw455 k0_h1

def k0_chk456 (i : grid0.Coords) (v2273 : IVec S16 32) (v2277 : IVec S16 32) : Prop :=
  (∀ (k0_h1 : k0_cond1 i = 1#1), ∀ a x, ((![v2277, v2273] : Fin 2 → IVec S16 32) a x).toNat < S64x256.size a)
theorem k0_idx455_inb : ∀ (i : grid0.Coords) (v2273 : IVec S16 32) (v2277 : IVec S16 32) (k0_hw456 : k0_chk456 i v2273 v2277), ∀ (k0_h1 : k0_cond1 i = 1#1), ∀ a x, ((![v2277, v2273] : Fin 2 → IVec S16 32) a x).toNat < S64x256.size a := fun i v2273 v2277 k0_hw456 k0_h1 => k0_hw456 k0_h1

def k0_chk457 (i : grid0.Coords) (v2275 : IVec S16 32) (v2280 : IVec S16 32) : Prop :=
  (∀ (k0_h1 : k0_cond1 i = 1#1), ∀ a x, ((![v2275, v2280] : Fin 2 → IVec S16 32) a x).toNat < S128x128.size a)
theorem k0_idx456_inb : ∀ (i : grid0.Coords) (v2275 : IVec S16 32) (v2280 : IVec S16 32) (k0_hw457 : k0_chk457 i v2275 v2280), ∀ (k0_h1 : k0_cond1 i = 1#1), ∀ a x, ((![v2275, v2280] : Fin 2 → IVec S16 32) a x).toNat < S128x128.size a := fun i v2275 v2280 k0_hw457 k0_h1 => k0_hw457 k0_h1

def k0_chk458 (i : grid0.Coords) (v2273 : IVec S16 32) (v2282 : IVec S16 32) : Prop :=
  (∀ (k0_h1 : k0_cond1 i = 1#1), ∀ a x, ((![v2282, v2273] : Fin 2 → IVec S16 32) a x).toNat < S64x256.size a)
theorem k0_idx457_inb : ∀ (i : grid0.Coords) (v2273 : IVec S16 32) (v2282 : IVec S16 32) (k0_hw458 : k0_chk458 i v2273 v2282), ∀ (k0_h1 : k0_cond1 i = 1#1), ∀ a x, ((![v2282, v2273] : Fin 2 → IVec S16 32) a x).toNat < S64x256.size a := fun i v2273 v2282 k0_hw458 k0_h1 => k0_hw458 k0_h1

def k0_chk459 (i : grid0.Coords) (v2275 : IVec S16 32) (v2285 : IVec S16 32) : Prop :=
  (∀ (k0_h1 : k0_cond1 i = 1#1), ∀ a x, ((![v2275, v2285] : Fin 2 → IVec S16 32) a x).toNat < S128x128.size a)
theorem k0_idx458_inb : ∀ (i : grid0.Coords) (v2275 : IVec S16 32) (v2285 : IVec S16 32) (k0_hw459 : k0_chk459 i v2275 v2285), ∀ (k0_h1 : k0_cond1 i = 1#1), ∀ a x, ((![v2275, v2285] : Fin 2 → IVec S16 32) a x).toNat < S128x128.size a := fun i v2275 v2285 k0_hw459 k0_h1 => k0_hw459 k0_h1

def k0_chk460 (i : grid0.Coords) (v2273 : IVec S16 32) (v2287 : IVec S16 32) : Prop :=
  (∀ (k0_h1 : k0_cond1 i = 1#1), ∀ a x, ((![v2287, v2273] : Fin 2 → IVec S16 32) a x).toNat < S64x256.size a)
theorem k0_idx459_inb : ∀ (i : grid0.Coords) (v2273 : IVec S16 32) (v2287 : IVec S16 32) (k0_hw460 : k0_chk460 i v2273 v2287), ∀ (k0_h1 : k0_cond1 i = 1#1), ∀ a x, ((![v2287, v2273] : Fin 2 → IVec S16 32) a x).toNat < S64x256.size a := fun i v2273 v2287 k0_hw460 k0_h1 => k0_hw460 k0_h1

def k0_chk461 (i : grid0.Coords) (v2275 : IVec S16 32) (v2290 : IVec S16 32) : Prop :=
  (∀ (k0_h1 : k0_cond1 i = 1#1), ∀ a x, ((![v2275, v2290] : Fin 2 → IVec S16 32) a x).toNat < S128x128.size a)
theorem k0_idx460_inb : ∀ (i : grid0.Coords) (v2275 : IVec S16 32) (v2290 : IVec S16 32) (k0_hw461 : k0_chk461 i v2275 v2290), ∀ (k0_h1 : k0_cond1 i = 1#1), ∀ a x, ((![v2275, v2290] : Fin 2 → IVec S16 32) a x).toNat < S128x128.size a := fun i v2275 v2290 k0_hw461 k0_h1 => k0_hw461 k0_h1

def k0_chk462 (i : grid0.Coords) (v2273 : IVec S16 32) (v2292 : IVec S16 32) : Prop :=
  (∀ (k0_h1 : k0_cond1 i = 1#1), ∀ a x, ((![v2292, v2273] : Fin 2 → IVec S16 32) a x).toNat < S64x256.size a)
theorem k0_idx461_inb : ∀ (i : grid0.Coords) (v2273 : IVec S16 32) (v2292 : IVec S16 32) (k0_hw462 : k0_chk462 i v2273 v2292), ∀ (k0_h1 : k0_cond1 i = 1#1), ∀ a x, ((![v2292, v2273] : Fin 2 → IVec S16 32) a x).toNat < S64x256.size a := fun i v2273 v2292 k0_hw462 k0_h1 => k0_hw462 k0_h1

def k0_chk463 (i : grid0.Coords) (v2275 : IVec S16 32) (v2295 : IVec S16 32) : Prop :=
  (∀ (k0_h1 : k0_cond1 i = 1#1), ∀ a x, ((![v2275, v2295] : Fin 2 → IVec S16 32) a x).toNat < S128x128.size a)
theorem k0_idx462_inb : ∀ (i : grid0.Coords) (v2275 : IVec S16 32) (v2295 : IVec S16 32) (k0_hw463 : k0_chk463 i v2275 v2295), ∀ (k0_h1 : k0_cond1 i = 1#1), ∀ a x, ((![v2275, v2295] : Fin 2 → IVec S16 32) a x).toNat < S128x128.size a := fun i v2275 v2295 k0_hw463 k0_h1 => k0_hw463 k0_h1

def k0_chk464 (i : grid0.Coords) (v2299 : IVec S16 32) (v2303 : IVec S16 32) : Prop :=
  (∀ (k0_h1 : k0_cond1 i = 1#1), ∀ a x, ((![v2303, v2299] : Fin 2 → IVec S16 32) a x).toNat < S64x256.size a)
theorem k0_idx463_inb : ∀ (i : grid0.Coords) (v2299 : IVec S16 32) (v2303 : IVec S16 32) (k0_hw464 : k0_chk464 i v2299 v2303), ∀ (k0_h1 : k0_cond1 i = 1#1), ∀ a x, ((![v2303, v2299] : Fin 2 → IVec S16 32) a x).toNat < S64x256.size a := fun i v2299 v2303 k0_hw464 k0_h1 => k0_hw464 k0_h1

def k0_chk465 (i : grid0.Coords) (v2301 : IVec S16 32) (v2306 : IVec S16 32) : Prop :=
  (∀ (k0_h1 : k0_cond1 i = 1#1), ∀ a x, ((![v2301, v2306] : Fin 2 → IVec S16 32) a x).toNat < S128x128.size a)
theorem k0_idx464_inb : ∀ (i : grid0.Coords) (v2301 : IVec S16 32) (v2306 : IVec S16 32) (k0_hw465 : k0_chk465 i v2301 v2306), ∀ (k0_h1 : k0_cond1 i = 1#1), ∀ a x, ((![v2301, v2306] : Fin 2 → IVec S16 32) a x).toNat < S128x128.size a := fun i v2301 v2306 k0_hw465 k0_h1 => k0_hw465 k0_h1

def k0_chk466 (i : grid0.Coords) (v2299 : IVec S16 32) (v2308 : IVec S16 32) : Prop :=
  (∀ (k0_h1 : k0_cond1 i = 1#1), ∀ a x, ((![v2308, v2299] : Fin 2 → IVec S16 32) a x).toNat < S64x256.size a)
theorem k0_idx465_inb : ∀ (i : grid0.Coords) (v2299 : IVec S16 32) (v2308 : IVec S16 32) (k0_hw466 : k0_chk466 i v2299 v2308), ∀ (k0_h1 : k0_cond1 i = 1#1), ∀ a x, ((![v2308, v2299] : Fin 2 → IVec S16 32) a x).toNat < S64x256.size a := fun i v2299 v2308 k0_hw466 k0_h1 => k0_hw466 k0_h1

def k0_chk467 (i : grid0.Coords) (v2301 : IVec S16 32) (v2311 : IVec S16 32) : Prop :=
  (∀ (k0_h1 : k0_cond1 i = 1#1), ∀ a x, ((![v2301, v2311] : Fin 2 → IVec S16 32) a x).toNat < S128x128.size a)
theorem k0_idx466_inb : ∀ (i : grid0.Coords) (v2301 : IVec S16 32) (v2311 : IVec S16 32) (k0_hw467 : k0_chk467 i v2301 v2311), ∀ (k0_h1 : k0_cond1 i = 1#1), ∀ a x, ((![v2301, v2311] : Fin 2 → IVec S16 32) a x).toNat < S128x128.size a := fun i v2301 v2311 k0_hw467 k0_h1 => k0_hw467 k0_h1

def k0_chk468 (i : grid0.Coords) (v2299 : IVec S16 32) (v2313 : IVec S16 32) : Prop :=
  (∀ (k0_h1 : k0_cond1 i = 1#1), ∀ a x, ((![v2313, v2299] : Fin 2 → IVec S16 32) a x).toNat < S64x256.size a)
theorem k0_idx467_inb : ∀ (i : grid0.Coords) (v2299 : IVec S16 32) (v2313 : IVec S16 32) (k0_hw468 : k0_chk468 i v2299 v2313), ∀ (k0_h1 : k0_cond1 i = 1#1), ∀ a x, ((![v2313, v2299] : Fin 2 → IVec S16 32) a x).toNat < S64x256.size a := fun i v2299 v2313 k0_hw468 k0_h1 => k0_hw468 k0_h1

def k0_chk469 (i : grid0.Coords) (v2301 : IVec S16 32) (v2316 : IVec S16 32) : Prop :=
  (∀ (k0_h1 : k0_cond1 i = 1#1), ∀ a x, ((![v2301, v2316] : Fin 2 → IVec S16 32) a x).toNat < S128x128.size a)
theorem k0_idx468_inb : ∀ (i : grid0.Coords) (v2301 : IVec S16 32) (v2316 : IVec S16 32) (k0_hw469 : k0_chk469 i v2301 v2316), ∀ (k0_h1 : k0_cond1 i = 1#1), ∀ a x, ((![v2301, v2316] : Fin 2 → IVec S16 32) a x).toNat < S128x128.size a := fun i v2301 v2316 k0_hw469 k0_h1 => k0_hw469 k0_h1

def k0_chk470 (i : grid0.Coords) (v2299 : IVec S16 32) (v2318 : IVec S16 32) : Prop :=
  (∀ (k0_h1 : k0_cond1 i = 1#1), ∀ a x, ((![v2318, v2299] : Fin 2 → IVec S16 32) a x).toNat < S64x256.size a)
theorem k0_idx469_inb : ∀ (i : grid0.Coords) (v2299 : IVec S16 32) (v2318 : IVec S16 32) (k0_hw470 : k0_chk470 i v2299 v2318), ∀ (k0_h1 : k0_cond1 i = 1#1), ∀ a x, ((![v2318, v2299] : Fin 2 → IVec S16 32) a x).toNat < S64x256.size a := fun i v2299 v2318 k0_hw470 k0_h1 => k0_hw470 k0_h1

def k0_chk471 (i : grid0.Coords) (v2301 : IVec S16 32) (v2321 : IVec S16 32) : Prop :=
  (∀ (k0_h1 : k0_cond1 i = 1#1), ∀ a x, ((![v2301, v2321] : Fin 2 → IVec S16 32) a x).toNat < S128x128.size a)
theorem k0_idx470_inb : ∀ (i : grid0.Coords) (v2301 : IVec S16 32) (v2321 : IVec S16 32) (k0_hw471 : k0_chk471 i v2301 v2321), ∀ (k0_h1 : k0_cond1 i = 1#1), ∀ a x, ((![v2301, v2321] : Fin 2 → IVec S16 32) a x).toNat < S128x128.size a := fun i v2301 v2321 k0_hw471 k0_h1 => k0_hw471 k0_h1

def k0_chk472 (i : grid0.Coords) (v2325 : IVec S16 32) (v2329 : IVec S16 32) : Prop :=
  (∀ (k0_h1 : k0_cond1 i = 1#1), ∀ a x, ((![v2329, v2325] : Fin 2 → IVec S16 32) a x).toNat < S64x256.size a)
theorem k0_idx471_inb : ∀ (i : grid0.Coords) (v2325 : IVec S16 32) (v2329 : IVec S16 32) (k0_hw472 : k0_chk472 i v2325 v2329), ∀ (k0_h1 : k0_cond1 i = 1#1), ∀ a x, ((![v2329, v2325] : Fin 2 → IVec S16 32) a x).toNat < S64x256.size a := fun i v2325 v2329 k0_hw472 k0_h1 => k0_hw472 k0_h1

def k0_chk473 (i : grid0.Coords) (v2327 : IVec S16 32) (v2332 : IVec S16 32) : Prop :=
  (∀ (k0_h1 : k0_cond1 i = 1#1), ∀ a x, ((![v2327, v2332] : Fin 2 → IVec S16 32) a x).toNat < S128x128.size a)
theorem k0_idx472_inb : ∀ (i : grid0.Coords) (v2327 : IVec S16 32) (v2332 : IVec S16 32) (k0_hw473 : k0_chk473 i v2327 v2332), ∀ (k0_h1 : k0_cond1 i = 1#1), ∀ a x, ((![v2327, v2332] : Fin 2 → IVec S16 32) a x).toNat < S128x128.size a := fun i v2327 v2332 k0_hw473 k0_h1 => k0_hw473 k0_h1

def k0_chk474 (i : grid0.Coords) (v2325 : IVec S16 32) (v2334 : IVec S16 32) : Prop :=
  (∀ (k0_h1 : k0_cond1 i = 1#1), ∀ a x, ((![v2334, v2325] : Fin 2 → IVec S16 32) a x).toNat < S64x256.size a)
theorem k0_idx473_inb : ∀ (i : grid0.Coords) (v2325 : IVec S16 32) (v2334 : IVec S16 32) (k0_hw474 : k0_chk474 i v2325 v2334), ∀ (k0_h1 : k0_cond1 i = 1#1), ∀ a x, ((![v2334, v2325] : Fin 2 → IVec S16 32) a x).toNat < S64x256.size a := fun i v2325 v2334 k0_hw474 k0_h1 => k0_hw474 k0_h1

def k0_chk475 (i : grid0.Coords) (v2327 : IVec S16 32) (v2337 : IVec S16 32) : Prop :=
  (∀ (k0_h1 : k0_cond1 i = 1#1), ∀ a x, ((![v2327, v2337] : Fin 2 → IVec S16 32) a x).toNat < S128x128.size a)
theorem k0_idx474_inb : ∀ (i : grid0.Coords) (v2327 : IVec S16 32) (v2337 : IVec S16 32) (k0_hw475 : k0_chk475 i v2327 v2337), ∀ (k0_h1 : k0_cond1 i = 1#1), ∀ a x, ((![v2327, v2337] : Fin 2 → IVec S16 32) a x).toNat < S128x128.size a := fun i v2327 v2337 k0_hw475 k0_h1 => k0_hw475 k0_h1

def k0_chk476 (i : grid0.Coords) (v2325 : IVec S16 32) (v2339 : IVec S16 32) : Prop :=
  (∀ (k0_h1 : k0_cond1 i = 1#1), ∀ a x, ((![v2339, v2325] : Fin 2 → IVec S16 32) a x).toNat < S64x256.size a)
theorem k0_idx475_inb : ∀ (i : grid0.Coords) (v2325 : IVec S16 32) (v2339 : IVec S16 32) (k0_hw476 : k0_chk476 i v2325 v2339), ∀ (k0_h1 : k0_cond1 i = 1#1), ∀ a x, ((![v2339, v2325] : Fin 2 → IVec S16 32) a x).toNat < S64x256.size a := fun i v2325 v2339 k0_hw476 k0_h1 => k0_hw476 k0_h1

def k0_chk477 (i : grid0.Coords) (v2327 : IVec S16 32) (v2342 : IVec S16 32) : Prop :=
  (∀ (k0_h1 : k0_cond1 i = 1#1), ∀ a x, ((![v2327, v2342] : Fin 2 → IVec S16 32) a x).toNat < S128x128.size a)
theorem k0_idx476_inb : ∀ (i : grid0.Coords) (v2327 : IVec S16 32) (v2342 : IVec S16 32) (k0_hw477 : k0_chk477 i v2327 v2342), ∀ (k0_h1 : k0_cond1 i = 1#1), ∀ a x, ((![v2327, v2342] : Fin 2 → IVec S16 32) a x).toNat < S128x128.size a := fun i v2327 v2342 k0_hw477 k0_h1 => k0_hw477 k0_h1

def k0_chk478 (i : grid0.Coords) (v2325 : IVec S16 32) (v2344 : IVec S16 32) : Prop :=
  (∀ (k0_h1 : k0_cond1 i = 1#1), ∀ a x, ((![v2344, v2325] : Fin 2 → IVec S16 32) a x).toNat < S64x256.size a)
theorem k0_idx477_inb : ∀ (i : grid0.Coords) (v2325 : IVec S16 32) (v2344 : IVec S16 32) (k0_hw478 : k0_chk478 i v2325 v2344), ∀ (k0_h1 : k0_cond1 i = 1#1), ∀ a x, ((![v2344, v2325] : Fin 2 → IVec S16 32) a x).toNat < S64x256.size a := fun i v2325 v2344 k0_hw478 k0_h1 => k0_hw478 k0_h1

def k0_chk479 (i : grid0.Coords) (v2327 : IVec S16 32) (v2347 : IVec S16 32) : Prop :=
  (∀ (k0_h1 : k0_cond1 i = 1#1), ∀ a x, ((![v2327, v2347] : Fin 2 → IVec S16 32) a x).toNat < S128x128.size a)
theorem k0_idx478_inb : ∀ (i : grid0.Coords) (v2327 : IVec S16 32) (v2347 : IVec S16 32) (k0_hw479 : k0_chk479 i v2327 v2347), ∀ (k0_h1 : k0_cond1 i = 1#1), ∀ a x, ((![v2327, v2347] : Fin 2 → IVec S16 32) a x).toNat < S128x128.size a := fun i v2327 v2347 k0_hw479 k0_h1 => k0_hw479 k0_h1

def k0_chk480 (i : grid0.Coords) (v2351 : IVec S16 32) (v2355 : IVec S16 32) : Prop :=
  (∀ (k0_h1 : k0_cond1 i = 1#1), ∀ a x, ((![v2355, v2351] : Fin 2 → IVec S16 32) a x).toNat < S64x256.size a)
theorem k0_idx479_inb : ∀ (i : grid0.Coords) (v2351 : IVec S16 32) (v2355 : IVec S16 32) (k0_hw480 : k0_chk480 i v2351 v2355), ∀ (k0_h1 : k0_cond1 i = 1#1), ∀ a x, ((![v2355, v2351] : Fin 2 → IVec S16 32) a x).toNat < S64x256.size a := fun i v2351 v2355 k0_hw480 k0_h1 => k0_hw480 k0_h1

def k0_chk481 (i : grid0.Coords) (v2353 : IVec S16 32) (v2358 : IVec S16 32) : Prop :=
  (∀ (k0_h1 : k0_cond1 i = 1#1), ∀ a x, ((![v2353, v2358] : Fin 2 → IVec S16 32) a x).toNat < S128x128.size a)
theorem k0_idx480_inb : ∀ (i : grid0.Coords) (v2353 : IVec S16 32) (v2358 : IVec S16 32) (k0_hw481 : k0_chk481 i v2353 v2358), ∀ (k0_h1 : k0_cond1 i = 1#1), ∀ a x, ((![v2353, v2358] : Fin 2 → IVec S16 32) a x).toNat < S128x128.size a := fun i v2353 v2358 k0_hw481 k0_h1 => k0_hw481 k0_h1

def k0_chk482 (i : grid0.Coords) (v2351 : IVec S16 32) (v2360 : IVec S16 32) : Prop :=
  (∀ (k0_h1 : k0_cond1 i = 1#1), ∀ a x, ((![v2360, v2351] : Fin 2 → IVec S16 32) a x).toNat < S64x256.size a)
theorem k0_idx481_inb : ∀ (i : grid0.Coords) (v2351 : IVec S16 32) (v2360 : IVec S16 32) (k0_hw482 : k0_chk482 i v2351 v2360), ∀ (k0_h1 : k0_cond1 i = 1#1), ∀ a x, ((![v2360, v2351] : Fin 2 → IVec S16 32) a x).toNat < S64x256.size a := fun i v2351 v2360 k0_hw482 k0_h1 => k0_hw482 k0_h1

def k0_chk483 (i : grid0.Coords) (v2353 : IVec S16 32) (v2363 : IVec S16 32) : Prop :=
  (∀ (k0_h1 : k0_cond1 i = 1#1), ∀ a x, ((![v2353, v2363] : Fin 2 → IVec S16 32) a x).toNat < S128x128.size a)
theorem k0_idx482_inb : ∀ (i : grid0.Coords) (v2353 : IVec S16 32) (v2363 : IVec S16 32) (k0_hw483 : k0_chk483 i v2353 v2363), ∀ (k0_h1 : k0_cond1 i = 1#1), ∀ a x, ((![v2353, v2363] : Fin 2 → IVec S16 32) a x).toNat < S128x128.size a := fun i v2353 v2363 k0_hw483 k0_h1 => k0_hw483 k0_h1

def k0_chk484 (i : grid0.Coords) (v2351 : IVec S16 32) (v2365 : IVec S16 32) : Prop :=
  (∀ (k0_h1 : k0_cond1 i = 1#1), ∀ a x, ((![v2365, v2351] : Fin 2 → IVec S16 32) a x).toNat < S64x256.size a)
theorem k0_idx483_inb : ∀ (i : grid0.Coords) (v2351 : IVec S16 32) (v2365 : IVec S16 32) (k0_hw484 : k0_chk484 i v2351 v2365), ∀ (k0_h1 : k0_cond1 i = 1#1), ∀ a x, ((![v2365, v2351] : Fin 2 → IVec S16 32) a x).toNat < S64x256.size a := fun i v2351 v2365 k0_hw484 k0_h1 => k0_hw484 k0_h1

def k0_chk485 (i : grid0.Coords) (v2353 : IVec S16 32) (v2368 : IVec S16 32) : Prop :=
  (∀ (k0_h1 : k0_cond1 i = 1#1), ∀ a x, ((![v2353, v2368] : Fin 2 → IVec S16 32) a x).toNat < S128x128.size a)
theorem k0_idx484_inb : ∀ (i : grid0.Coords) (v2353 : IVec S16 32) (v2368 : IVec S16 32) (k0_hw485 : k0_chk485 i v2353 v2368), ∀ (k0_h1 : k0_cond1 i = 1#1), ∀ a x, ((![v2353, v2368] : Fin 2 → IVec S16 32) a x).toNat < S128x128.size a := fun i v2353 v2368 k0_hw485 k0_h1 => k0_hw485 k0_h1

def k0_chk486 (i : grid0.Coords) (v2351 : IVec S16 32) (v2370 : IVec S16 32) : Prop :=
  (∀ (k0_h1 : k0_cond1 i = 1#1), ∀ a x, ((![v2370, v2351] : Fin 2 → IVec S16 32) a x).toNat < S64x256.size a)
theorem k0_idx485_inb : ∀ (i : grid0.Coords) (v2351 : IVec S16 32) (v2370 : IVec S16 32) (k0_hw486 : k0_chk486 i v2351 v2370), ∀ (k0_h1 : k0_cond1 i = 1#1), ∀ a x, ((![v2370, v2351] : Fin 2 → IVec S16 32) a x).toNat < S64x256.size a := fun i v2351 v2370 k0_hw486 k0_h1 => k0_hw486 k0_h1

def k0_chk487 (i : grid0.Coords) (v2353 : IVec S16 32) (v2373 : IVec S16 32) : Prop :=
  (∀ (k0_h1 : k0_cond1 i = 1#1), ∀ a x, ((![v2353, v2373] : Fin 2 → IVec S16 32) a x).toNat < S128x128.size a)
theorem k0_idx486_inb : ∀ (i : grid0.Coords) (v2353 : IVec S16 32) (v2373 : IVec S16 32) (k0_hw487 : k0_chk487 i v2353 v2373), ∀ (k0_h1 : k0_cond1 i = 1#1), ∀ a x, ((![v2353, v2373] : Fin 2 → IVec S16 32) a x).toNat < S128x128.size a := fun i v2353 v2373 k0_hw487 k0_h1 => k0_hw487 k0_h1

def k0_chk488 (i : grid0.Coords) (v2377 : IVec S16 32) (v2381 : IVec S16 32) : Prop :=
  (∀ (k0_h1 : k0_cond1 i = 1#1), ∀ a x, ((![v2381, v2377] : Fin 2 → IVec S16 32) a x).toNat < S64x256.size a)
theorem k0_idx487_inb : ∀ (i : grid0.Coords) (v2377 : IVec S16 32) (v2381 : IVec S16 32) (k0_hw488 : k0_chk488 i v2377 v2381), ∀ (k0_h1 : k0_cond1 i = 1#1), ∀ a x, ((![v2381, v2377] : Fin 2 → IVec S16 32) a x).toNat < S64x256.size a := fun i v2377 v2381 k0_hw488 k0_h1 => k0_hw488 k0_h1

def k0_chk489 (i : grid0.Coords) (v2379 : IVec S16 32) (v2384 : IVec S16 32) : Prop :=
  (∀ (k0_h1 : k0_cond1 i = 1#1), ∀ a x, ((![v2379, v2384] : Fin 2 → IVec S16 32) a x).toNat < S128x128.size a)
theorem k0_idx488_inb : ∀ (i : grid0.Coords) (v2379 : IVec S16 32) (v2384 : IVec S16 32) (k0_hw489 : k0_chk489 i v2379 v2384), ∀ (k0_h1 : k0_cond1 i = 1#1), ∀ a x, ((![v2379, v2384] : Fin 2 → IVec S16 32) a x).toNat < S128x128.size a := fun i v2379 v2384 k0_hw489 k0_h1 => k0_hw489 k0_h1

def k0_chk490 (i : grid0.Coords) (v2377 : IVec S16 32) (v2386 : IVec S16 32) : Prop :=
  (∀ (k0_h1 : k0_cond1 i = 1#1), ∀ a x, ((![v2386, v2377] : Fin 2 → IVec S16 32) a x).toNat < S64x256.size a)
theorem k0_idx489_inb : ∀ (i : grid0.Coords) (v2377 : IVec S16 32) (v2386 : IVec S16 32) (k0_hw490 : k0_chk490 i v2377 v2386), ∀ (k0_h1 : k0_cond1 i = 1#1), ∀ a x, ((![v2386, v2377] : Fin 2 → IVec S16 32) a x).toNat < S64x256.size a := fun i v2377 v2386 k0_hw490 k0_h1 => k0_hw490 k0_h1

def k0_chk491 (i : grid0.Coords) (v2379 : IVec S16 32) (v2389 : IVec S16 32) : Prop :=
  (∀ (k0_h1 : k0_cond1 i = 1#1), ∀ a x, ((![v2379, v2389] : Fin 2 → IVec S16 32) a x).toNat < S128x128.size a)
theorem k0_idx490_inb : ∀ (i : grid0.Coords) (v2379 : IVec S16 32) (v2389 : IVec S16 32) (k0_hw491 : k0_chk491 i v2379 v2389), ∀ (k0_h1 : k0_cond1 i = 1#1), ∀ a x, ((![v2379, v2389] : Fin 2 → IVec S16 32) a x).toNat < S128x128.size a := fun i v2379 v2389 k0_hw491 k0_h1 => k0_hw491 k0_h1

def k0_chk492 (i : grid0.Coords) (v2377 : IVec S16 32) (v2391 : IVec S16 32) : Prop :=
  (∀ (k0_h1 : k0_cond1 i = 1#1), ∀ a x, ((![v2391, v2377] : Fin 2 → IVec S16 32) a x).toNat < S64x256.size a)
theorem k0_idx491_inb : ∀ (i : grid0.Coords) (v2377 : IVec S16 32) (v2391 : IVec S16 32) (k0_hw492 : k0_chk492 i v2377 v2391), ∀ (k0_h1 : k0_cond1 i = 1#1), ∀ a x, ((![v2391, v2377] : Fin 2 → IVec S16 32) a x).toNat < S64x256.size a := fun i v2377 v2391 k0_hw492 k0_h1 => k0_hw492 k0_h1

def k0_chk493 (i : grid0.Coords) (v2379 : IVec S16 32) (v2394 : IVec S16 32) : Prop :=
  (∀ (k0_h1 : k0_cond1 i = 1#1), ∀ a x, ((![v2379, v2394] : Fin 2 → IVec S16 32) a x).toNat < S128x128.size a)
theorem k0_idx492_inb : ∀ (i : grid0.Coords) (v2379 : IVec S16 32) (v2394 : IVec S16 32) (k0_hw493 : k0_chk493 i v2379 v2394), ∀ (k0_h1 : k0_cond1 i = 1#1), ∀ a x, ((![v2379, v2394] : Fin 2 → IVec S16 32) a x).toNat < S128x128.size a := fun i v2379 v2394 k0_hw493 k0_h1 => k0_hw493 k0_h1

def k0_chk494 (i : grid0.Coords) (v2377 : IVec S16 32) (v2396 : IVec S16 32) : Prop :=
  (∀ (k0_h1 : k0_cond1 i = 1#1), ∀ a x, ((![v2396, v2377] : Fin 2 → IVec S16 32) a x).toNat < S64x256.size a)
theorem k0_idx493_inb : ∀ (i : grid0.Coords) (v2377 : IVec S16 32) (v2396 : IVec S16 32) (k0_hw494 : k0_chk494 i v2377 v2396), ∀ (k0_h1 : k0_cond1 i = 1#1), ∀ a x, ((![v2396, v2377] : Fin 2 → IVec S16 32) a x).toNat < S64x256.size a := fun i v2377 v2396 k0_hw494 k0_h1 => k0_hw494 k0_h1

def k0_chk495 (i : grid0.Coords) (v2379 : IVec S16 32) (v2399 : IVec S16 32) : Prop :=
  (∀ (k0_h1 : k0_cond1 i = 1#1), ∀ a x, ((![v2379, v2399] : Fin 2 → IVec S16 32) a x).toNat < S128x128.size a)
theorem k0_idx494_inb : ∀ (i : grid0.Coords) (v2379 : IVec S16 32) (v2399 : IVec S16 32) (k0_hw495 : k0_chk495 i v2379 v2399), ∀ (k0_h1 : k0_cond1 i = 1#1), ∀ a x, ((![v2379, v2399] : Fin 2 → IVec S16 32) a x).toNat < S128x128.size a := fun i v2379 v2399 k0_hw495 k0_h1 => k0_hw495 k0_h1

def k0_chk496 (i : grid0.Coords) (v2403 : IVec S16 32) (v2407 : IVec S16 32) : Prop :=
  (∀ (k0_h1 : k0_cond1 i = 1#1), ∀ a x, ((![v2407, v2403] : Fin 2 → IVec S16 32) a x).toNat < S64x256.size a)
theorem k0_idx495_inb : ∀ (i : grid0.Coords) (v2403 : IVec S16 32) (v2407 : IVec S16 32) (k0_hw496 : k0_chk496 i v2403 v2407), ∀ (k0_h1 : k0_cond1 i = 1#1), ∀ a x, ((![v2407, v2403] : Fin 2 → IVec S16 32) a x).toNat < S64x256.size a := fun i v2403 v2407 k0_hw496 k0_h1 => k0_hw496 k0_h1

def k0_chk497 (i : grid0.Coords) (v2405 : IVec S16 32) (v2410 : IVec S16 32) : Prop :=
  (∀ (k0_h1 : k0_cond1 i = 1#1), ∀ a x, ((![v2405, v2410] : Fin 2 → IVec S16 32) a x).toNat < S128x128.size a)
theorem k0_idx496_inb : ∀ (i : grid0.Coords) (v2405 : IVec S16 32) (v2410 : IVec S16 32) (k0_hw497 : k0_chk497 i v2405 v2410), ∀ (k0_h1 : k0_cond1 i = 1#1), ∀ a x, ((![v2405, v2410] : Fin 2 → IVec S16 32) a x).toNat < S128x128.size a := fun i v2405 v2410 k0_hw497 k0_h1 => k0_hw497 k0_h1

def k0_chk498 (i : grid0.Coords) (v2403 : IVec S16 32) (v2412 : IVec S16 32) : Prop :=
  (∀ (k0_h1 : k0_cond1 i = 1#1), ∀ a x, ((![v2412, v2403] : Fin 2 → IVec S16 32) a x).toNat < S64x256.size a)
theorem k0_idx497_inb : ∀ (i : grid0.Coords) (v2403 : IVec S16 32) (v2412 : IVec S16 32) (k0_hw498 : k0_chk498 i v2403 v2412), ∀ (k0_h1 : k0_cond1 i = 1#1), ∀ a x, ((![v2412, v2403] : Fin 2 → IVec S16 32) a x).toNat < S64x256.size a := fun i v2403 v2412 k0_hw498 k0_h1 => k0_hw498 k0_h1

def k0_chk499 (i : grid0.Coords) (v2405 : IVec S16 32) (v2415 : IVec S16 32) : Prop :=
  (∀ (k0_h1 : k0_cond1 i = 1#1), ∀ a x, ((![v2405, v2415] : Fin 2 → IVec S16 32) a x).toNat < S128x128.size a)
theorem k0_idx498_inb : ∀ (i : grid0.Coords) (v2405 : IVec S16 32) (v2415 : IVec S16 32) (k0_hw499 : k0_chk499 i v2405 v2415), ∀ (k0_h1 : k0_cond1 i = 1#1), ∀ a x, ((![v2405, v2415] : Fin 2 → IVec S16 32) a x).toNat < S128x128.size a := fun i v2405 v2415 k0_hw499 k0_h1 => k0_hw499 k0_h1

def k0_chk500 (i : grid0.Coords) (v2403 : IVec S16 32) (v2417 : IVec S16 32) : Prop :=
  (∀ (k0_h1 : k0_cond1 i = 1#1), ∀ a x, ((![v2417, v2403] : Fin 2 → IVec S16 32) a x).toNat < S64x256.size a)
theorem k0_idx499_inb : ∀ (i : grid0.Coords) (v2403 : IVec S16 32) (v2417 : IVec S16 32) (k0_hw500 : k0_chk500 i v2403 v2417), ∀ (k0_h1 : k0_cond1 i = 1#1), ∀ a x, ((![v2417, v2403] : Fin 2 → IVec S16 32) a x).toNat < S64x256.size a := fun i v2403 v2417 k0_hw500 k0_h1 => k0_hw500 k0_h1

def k0_chk501 (i : grid0.Coords) (v2405 : IVec S16 32) (v2420 : IVec S16 32) : Prop :=
  (∀ (k0_h1 : k0_cond1 i = 1#1), ∀ a x, ((![v2405, v2420] : Fin 2 → IVec S16 32) a x).toNat < S128x128.size a)
theorem k0_idx500_inb : ∀ (i : grid0.Coords) (v2405 : IVec S16 32) (v2420 : IVec S16 32) (k0_hw501 : k0_chk501 i v2405 v2420), ∀ (k0_h1 : k0_cond1 i = 1#1), ∀ a x, ((![v2405, v2420] : Fin 2 → IVec S16 32) a x).toNat < S128x128.size a := fun i v2405 v2420 k0_hw501 k0_h1 => k0_hw501 k0_h1

def k0_chk502 (i : grid0.Coords) (v2403 : IVec S16 32) (v2422 : IVec S16 32) : Prop :=
  (∀ (k0_h1 : k0_cond1 i = 1#1), ∀ a x, ((![v2422, v2403] : Fin 2 → IVec S16 32) a x).toNat < S64x256.size a)
theorem k0_idx501_inb : ∀ (i : grid0.Coords) (v2403 : IVec S16 32) (v2422 : IVec S16 32) (k0_hw502 : k0_chk502 i v2403 v2422), ∀ (k0_h1 : k0_cond1 i = 1#1), ∀ a x, ((![v2422, v2403] : Fin 2 → IVec S16 32) a x).toNat < S64x256.size a := fun i v2403 v2422 k0_hw502 k0_h1 => k0_hw502 k0_h1

def k0_chk503 (i : grid0.Coords) (v2405 : IVec S16 32) (v2425 : IVec S16 32) : Prop :=
  (∀ (k0_h1 : k0_cond1 i = 1#1), ∀ a x, ((![v2405, v2425] : Fin 2 → IVec S16 32) a x).toNat < S128x128.size a)
theorem k0_idx502_inb : ∀ (i : grid0.Coords) (v2405 : IVec S16 32) (v2425 : IVec S16 32) (k0_hw503 : k0_chk503 i v2405 v2425), ∀ (k0_h1 : k0_cond1 i = 1#1), ∀ a x, ((![v2405, v2425] : Fin 2 → IVec S16 32) a x).toNat < S128x128.size a := fun i v2405 v2425 k0_hw503 k0_h1 => k0_hw503 k0_h1

def k0_chk504 (i : grid0.Coords) (v2429 : IVec S16 32) (v2433 : IVec S16 32) : Prop :=
  (∀ (k0_h1 : k0_cond1 i = 1#1), ∀ a x, ((![v2433, v2429] : Fin 2 → IVec S16 32) a x).toNat < S64x256.size a)
theorem k0_idx503_inb : ∀ (i : grid0.Coords) (v2429 : IVec S16 32) (v2433 : IVec S16 32) (k0_hw504 : k0_chk504 i v2429 v2433), ∀ (k0_h1 : k0_cond1 i = 1#1), ∀ a x, ((![v2433, v2429] : Fin 2 → IVec S16 32) a x).toNat < S64x256.size a := fun i v2429 v2433 k0_hw504 k0_h1 => k0_hw504 k0_h1

def k0_chk505 (i : grid0.Coords) (v2431 : IVec S16 32) (v2436 : IVec S16 32) : Prop :=
  (∀ (k0_h1 : k0_cond1 i = 1#1), ∀ a x, ((![v2431, v2436] : Fin 2 → IVec S16 32) a x).toNat < S128x128.size a)
theorem k0_idx504_inb : ∀ (i : grid0.Coords) (v2431 : IVec S16 32) (v2436 : IVec S16 32) (k0_hw505 : k0_chk505 i v2431 v2436), ∀ (k0_h1 : k0_cond1 i = 1#1), ∀ a x, ((![v2431, v2436] : Fin 2 → IVec S16 32) a x).toNat < S128x128.size a := fun i v2431 v2436 k0_hw505 k0_h1 => k0_hw505 k0_h1

def k0_chk506 (i : grid0.Coords) (v2429 : IVec S16 32) (v2438 : IVec S16 32) : Prop :=
  (∀ (k0_h1 : k0_cond1 i = 1#1), ∀ a x, ((![v2438, v2429] : Fin 2 → IVec S16 32) a x).toNat < S64x256.size a)
theorem k0_idx505_inb : ∀ (i : grid0.Coords) (v2429 : IVec S16 32) (v2438 : IVec S16 32) (k0_hw506 : k0_chk506 i v2429 v2438), ∀ (k0_h1 : k0_cond1 i = 1#1), ∀ a x, ((![v2438, v2429] : Fin 2 → IVec S16 32) a x).toNat < S64x256.size a := fun i v2429 v2438 k0_hw506 k0_h1 => k0_hw506 k0_h1

def k0_chk507 (i : grid0.Coords) (v2431 : IVec S16 32) (v2441 : IVec S16 32) : Prop :=
  (∀ (k0_h1 : k0_cond1 i = 1#1), ∀ a x, ((![v2431, v2441] : Fin 2 → IVec S16 32) a x).toNat < S128x128.size a)
theorem k0_idx506_inb : ∀ (i : grid0.Coords) (v2431 : IVec S16 32) (v2441 : IVec S16 32) (k0_hw507 : k0_chk507 i v2431 v2441), ∀ (k0_h1 : k0_cond1 i = 1#1), ∀ a x, ((![v2431, v2441] : Fin 2 → IVec S16 32) a x).toNat < S128x128.size a := fun i v2431 v2441 k0_hw507 k0_h1 => k0_hw507 k0_h1

def k0_chk508 (i : grid0.Coords) (v2429 : IVec S16 32) (v2443 : IVec S16 32) : Prop :=
  (∀ (k0_h1 : k0_cond1 i = 1#1), ∀ a x, ((![v2443, v2429] : Fin 2 → IVec S16 32) a x).toNat < S64x256.size a)
theorem k0_idx507_inb : ∀ (i : grid0.Coords) (v2429 : IVec S16 32) (v2443 : IVec S16 32) (k0_hw508 : k0_chk508 i v2429 v2443), ∀ (k0_h1 : k0_cond1 i = 1#1), ∀ a x, ((![v2443, v2429] : Fin 2 → IVec S16 32) a x).toNat < S64x256.size a := fun i v2429 v2443 k0_hw508 k0_h1 => k0_hw508 k0_h1

def k0_chk509 (i : grid0.Coords) (v2431 : IVec S16 32) (v2446 : IVec S16 32) : Prop :=
  (∀ (k0_h1 : k0_cond1 i = 1#1), ∀ a x, ((![v2431, v2446] : Fin 2 → IVec S16 32) a x).toNat < S128x128.size a)
theorem k0_idx508_inb : ∀ (i : grid0.Coords) (v2431 : IVec S16 32) (v2446 : IVec S16 32) (k0_hw509 : k0_chk509 i v2431 v2446), ∀ (k0_h1 : k0_cond1 i = 1#1), ∀ a x, ((![v2431, v2446] : Fin 2 → IVec S16 32) a x).toNat < S128x128.size a := fun i v2431 v2446 k0_hw509 k0_h1 => k0_hw509 k0_h1

def k0_chk510 (i : grid0.Coords) (v2429 : IVec S16 32) (v2448 : IVec S16 32) : Prop :=
  (∀ (k0_h1 : k0_cond1 i = 1#1), ∀ a x, ((![v2448, v2429] : Fin 2 → IVec S16 32) a x).toNat < S64x256.size a)
theorem k0_idx509_inb : ∀ (i : grid0.Coords) (v2429 : IVec S16 32) (v2448 : IVec S16 32) (k0_hw510 : k0_chk510 i v2429 v2448), ∀ (k0_h1 : k0_cond1 i = 1#1), ∀ a x, ((![v2448, v2429] : Fin 2 → IVec S16 32) a x).toNat < S64x256.size a := fun i v2429 v2448 k0_hw510 k0_h1 => k0_hw510 k0_h1

def k0_chk511 (i : grid0.Coords) (v2431 : IVec S16 32) (v2451 : IVec S16 32) : Prop :=
  (∀ (k0_h1 : k0_cond1 i = 1#1), ∀ a x, ((![v2431, v2451] : Fin 2 → IVec S16 32) a x).toNat < S128x128.size a)
theorem k0_idx510_inb : ∀ (i : grid0.Coords) (v2431 : IVec S16 32) (v2451 : IVec S16 32) (k0_hw511 : k0_chk511 i v2431 v2451), ∀ (k0_h1 : k0_cond1 i = 1#1), ∀ a x, ((![v2431, v2451] : Fin 2 → IVec S16 32) a x).toNat < S128x128.size a := fun i v2431 v2451 k0_hw511 k0_h1 => k0_hw511 k0_h1

def k0_chk512 (i : grid0.Coords) (v2455 : IVec S16 32) (v2459 : IVec S16 32) : Prop :=
  (∀ (k0_h1 : k0_cond1 i = 1#1), ∀ a x, ((![v2459, v2455] : Fin 2 → IVec S16 32) a x).toNat < S64x256.size a)
theorem k0_idx511_inb : ∀ (i : grid0.Coords) (v2455 : IVec S16 32) (v2459 : IVec S16 32) (k0_hw512 : k0_chk512 i v2455 v2459), ∀ (k0_h1 : k0_cond1 i = 1#1), ∀ a x, ((![v2459, v2455] : Fin 2 → IVec S16 32) a x).toNat < S64x256.size a := fun i v2455 v2459 k0_hw512 k0_h1 => k0_hw512 k0_h1

def k0_chk513 (i : grid0.Coords) (v2457 : IVec S16 32) (v2462 : IVec S16 32) : Prop :=
  (∀ (k0_h1 : k0_cond1 i = 1#1), ∀ a x, ((![v2457, v2462] : Fin 2 → IVec S16 32) a x).toNat < S128x128.size a)
theorem k0_idx512_inb : ∀ (i : grid0.Coords) (v2457 : IVec S16 32) (v2462 : IVec S16 32) (k0_hw513 : k0_chk513 i v2457 v2462), ∀ (k0_h1 : k0_cond1 i = 1#1), ∀ a x, ((![v2457, v2462] : Fin 2 → IVec S16 32) a x).toNat < S128x128.size a := fun i v2457 v2462 k0_hw513 k0_h1 => k0_hw513 k0_h1

def k0_chk514 (i : grid0.Coords) (v2455 : IVec S16 32) (v2464 : IVec S16 32) : Prop :=
  (∀ (k0_h1 : k0_cond1 i = 1#1), ∀ a x, ((![v2464, v2455] : Fin 2 → IVec S16 32) a x).toNat < S64x256.size a)
theorem k0_idx513_inb : ∀ (i : grid0.Coords) (v2455 : IVec S16 32) (v2464 : IVec S16 32) (k0_hw514 : k0_chk514 i v2455 v2464), ∀ (k0_h1 : k0_cond1 i = 1#1), ∀ a x, ((![v2464, v2455] : Fin 2 → IVec S16 32) a x).toNat < S64x256.size a := fun i v2455 v2464 k0_hw514 k0_h1 => k0_hw514 k0_h1

def k0_chk515 (i : grid0.Coords) (v2457 : IVec S16 32) (v2467 : IVec S16 32) : Prop :=
  (∀ (k0_h1 : k0_cond1 i = 1#1), ∀ a x, ((![v2457, v2467] : Fin 2 → IVec S16 32) a x).toNat < S128x128.size a)
theorem k0_idx514_inb : ∀ (i : grid0.Coords) (v2457 : IVec S16 32) (v2467 : IVec S16 32) (k0_hw515 : k0_chk515 i v2457 v2467), ∀ (k0_h1 : k0_cond1 i = 1#1), ∀ a x, ((![v2457, v2467] : Fin 2 → IVec S16 32) a x).toNat < S128x128.size a := fun i v2457 v2467 k0_hw515 k0_h1 => k0_hw515 k0_h1

def k0_chk516 (i : grid0.Coords) (v2455 : IVec S16 32) (v2469 : IVec S16 32) : Prop :=
  (∀ (k0_h1 : k0_cond1 i = 1#1), ∀ a x, ((![v2469, v2455] : Fin 2 → IVec S16 32) a x).toNat < S64x256.size a)
theorem k0_idx515_inb : ∀ (i : grid0.Coords) (v2455 : IVec S16 32) (v2469 : IVec S16 32) (k0_hw516 : k0_chk516 i v2455 v2469), ∀ (k0_h1 : k0_cond1 i = 1#1), ∀ a x, ((![v2469, v2455] : Fin 2 → IVec S16 32) a x).toNat < S64x256.size a := fun i v2455 v2469 k0_hw516 k0_h1 => k0_hw516 k0_h1

def k0_chk517 (i : grid0.Coords) (v2457 : IVec S16 32) (v2472 : IVec S16 32) : Prop :=
  (∀ (k0_h1 : k0_cond1 i = 1#1), ∀ a x, ((![v2457, v2472] : Fin 2 → IVec S16 32) a x).toNat < S128x128.size a)
theorem k0_idx516_inb : ∀ (i : grid0.Coords) (v2457 : IVec S16 32) (v2472 : IVec S16 32) (k0_hw517 : k0_chk517 i v2457 v2472), ∀ (k0_h1 : k0_cond1 i = 1#1), ∀ a x, ((![v2457, v2472] : Fin 2 → IVec S16 32) a x).toNat < S128x128.size a := fun i v2457 v2472 k0_hw517 k0_h1 => k0_hw517 k0_h1

def k0_chk518 (i : grid0.Coords) (v2455 : IVec S16 32) (v2474 : IVec S16 32) : Prop :=
  (∀ (k0_h1 : k0_cond1 i = 1#1), ∀ a x, ((![v2474, v2455] : Fin 2 → IVec S16 32) a x).toNat < S64x256.size a)
theorem k0_idx517_inb : ∀ (i : grid0.Coords) (v2455 : IVec S16 32) (v2474 : IVec S16 32) (k0_hw518 : k0_chk518 i v2455 v2474), ∀ (k0_h1 : k0_cond1 i = 1#1), ∀ a x, ((![v2474, v2455] : Fin 2 → IVec S16 32) a x).toNat < S64x256.size a := fun i v2455 v2474 k0_hw518 k0_h1 => k0_hw518 k0_h1

def k0_chk519 (i : grid0.Coords) (v2457 : IVec S16 32) (v2477 : IVec S16 32) : Prop :=
  (∀ (k0_h1 : k0_cond1 i = 1#1), ∀ a x, ((![v2457, v2477] : Fin 2 → IVec S16 32) a x).toNat < S128x128.size a)
theorem k0_idx518_inb : ∀ (i : grid0.Coords) (v2457 : IVec S16 32) (v2477 : IVec S16 32) (k0_hw519 : k0_chk519 i v2457 v2477), ∀ (k0_h1 : k0_cond1 i = 1#1), ∀ a x, ((![v2457, v2477] : Fin 2 → IVec S16 32) a x).toNat < S128x128.size a := fun i v2457 v2477 k0_hw519 k0_h1 => k0_hw519 k0_h1

def k0_chk520 (i : grid0.Coords) (v2481 : IVec S16 32) (v2485 : IVec S16 32) : Prop :=
  (∀ (k0_h1 : k0_cond1 i = 1#1), ∀ a x, ((![v2485, v2481] : Fin 2 → IVec S16 32) a x).toNat < S64x256.size a)
theorem k0_idx519_inb : ∀ (i : grid0.Coords) (v2481 : IVec S16 32) (v2485 : IVec S16 32) (k0_hw520 : k0_chk520 i v2481 v2485), ∀ (k0_h1 : k0_cond1 i = 1#1), ∀ a x, ((![v2485, v2481] : Fin 2 → IVec S16 32) a x).toNat < S64x256.size a := fun i v2481 v2485 k0_hw520 k0_h1 => k0_hw520 k0_h1

def k0_chk521 (i : grid0.Coords) (v2483 : IVec S16 32) (v2488 : IVec S16 32) : Prop :=
  (∀ (k0_h1 : k0_cond1 i = 1#1), ∀ a x, ((![v2483, v2488] : Fin 2 → IVec S16 32) a x).toNat < S128x128.size a)
theorem k0_idx520_inb : ∀ (i : grid0.Coords) (v2483 : IVec S16 32) (v2488 : IVec S16 32) (k0_hw521 : k0_chk521 i v2483 v2488), ∀ (k0_h1 : k0_cond1 i = 1#1), ∀ a x, ((![v2483, v2488] : Fin 2 → IVec S16 32) a x).toNat < S128x128.size a := fun i v2483 v2488 k0_hw521 k0_h1 => k0_hw521 k0_h1

def k0_chk522 (i : grid0.Coords) (v2481 : IVec S16 32) (v2490 : IVec S16 32) : Prop :=
  (∀ (k0_h1 : k0_cond1 i = 1#1), ∀ a x, ((![v2490, v2481] : Fin 2 → IVec S16 32) a x).toNat < S64x256.size a)
theorem k0_idx521_inb : ∀ (i : grid0.Coords) (v2481 : IVec S16 32) (v2490 : IVec S16 32) (k0_hw522 : k0_chk522 i v2481 v2490), ∀ (k0_h1 : k0_cond1 i = 1#1), ∀ a x, ((![v2490, v2481] : Fin 2 → IVec S16 32) a x).toNat < S64x256.size a := fun i v2481 v2490 k0_hw522 k0_h1 => k0_hw522 k0_h1

def k0_chk523 (i : grid0.Coords) (v2483 : IVec S16 32) (v2493 : IVec S16 32) : Prop :=
  (∀ (k0_h1 : k0_cond1 i = 1#1), ∀ a x, ((![v2483, v2493] : Fin 2 → IVec S16 32) a x).toNat < S128x128.size a)
theorem k0_idx522_inb : ∀ (i : grid0.Coords) (v2483 : IVec S16 32) (v2493 : IVec S16 32) (k0_hw523 : k0_chk523 i v2483 v2493), ∀ (k0_h1 : k0_cond1 i = 1#1), ∀ a x, ((![v2483, v2493] : Fin 2 → IVec S16 32) a x).toNat < S128x128.size a := fun i v2483 v2493 k0_hw523 k0_h1 => k0_hw523 k0_h1

def k0_chk524 (i : grid0.Coords) (v2481 : IVec S16 32) (v2495 : IVec S16 32) : Prop :=
  (∀ (k0_h1 : k0_cond1 i = 1#1), ∀ a x, ((![v2495, v2481] : Fin 2 → IVec S16 32) a x).toNat < S64x256.size a)
theorem k0_idx523_inb : ∀ (i : grid0.Coords) (v2481 : IVec S16 32) (v2495 : IVec S16 32) (k0_hw524 : k0_chk524 i v2481 v2495), ∀ (k0_h1 : k0_cond1 i = 1#1), ∀ a x, ((![v2495, v2481] : Fin 2 → IVec S16 32) a x).toNat < S64x256.size a := fun i v2481 v2495 k0_hw524 k0_h1 => k0_hw524 k0_h1

def k0_chk525 (i : grid0.Coords) (v2483 : IVec S16 32) (v2498 : IVec S16 32) : Prop :=
  (∀ (k0_h1 : k0_cond1 i = 1#1), ∀ a x, ((![v2483, v2498] : Fin 2 → IVec S16 32) a x).toNat < S128x128.size a)
theorem k0_idx524_inb : ∀ (i : grid0.Coords) (v2483 : IVec S16 32) (v2498 : IVec S16 32) (k0_hw525 : k0_chk525 i v2483 v2498), ∀ (k0_h1 : k0_cond1 i = 1#1), ∀ a x, ((![v2483, v2498] : Fin 2 → IVec S16 32) a x).toNat < S128x128.size a := fun i v2483 v2498 k0_hw525 k0_h1 => k0_hw525 k0_h1

def k0_chk526 (i : grid0.Coords) (v2481 : IVec S16 32) (v2500 : IVec S16 32) : Prop :=
  (∀ (k0_h1 : k0_cond1 i = 1#1), ∀ a x, ((![v2500, v2481] : Fin 2 → IVec S16 32) a x).toNat < S64x256.size a)
theorem k0_idx525_inb : ∀ (i : grid0.Coords) (v2481 : IVec S16 32) (v2500 : IVec S16 32) (k0_hw526 : k0_chk526 i v2481 v2500), ∀ (k0_h1 : k0_cond1 i = 1#1), ∀ a x, ((![v2500, v2481] : Fin 2 → IVec S16 32) a x).toNat < S64x256.size a := fun i v2481 v2500 k0_hw526 k0_h1 => k0_hw526 k0_h1

def k0_chk527 (i : grid0.Coords) (v2483 : IVec S16 32) (v2503 : IVec S16 32) : Prop :=
  (∀ (k0_h1 : k0_cond1 i = 1#1), ∀ a x, ((![v2483, v2503] : Fin 2 → IVec S16 32) a x).toNat < S128x128.size a)
theorem k0_idx526_inb : ∀ (i : grid0.Coords) (v2483 : IVec S16 32) (v2503 : IVec S16 32) (k0_hw527 : k0_chk527 i v2483 v2503), ∀ (k0_h1 : k0_cond1 i = 1#1), ∀ a x, ((![v2483, v2503] : Fin 2 → IVec S16 32) a x).toNat < S128x128.size a := fun i v2483 v2503 k0_hw527 k0_h1 => k0_hw527 k0_h1
def k0_cond7 (k0_t3 : Fin k0_t3_loop.trips) : BitVec 1 :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c4_i32_179 : BitVec 32 := 4#32
  let v2035 : BitVec 32 := Scalar.addi v1989 c4_i32_179
  let c390_i32_180 : BitVec 32 := 390#32
  let v2036 : BitVec 1 := Scalar.cmpi .slt v2035 c390_i32_180
  let v2037 : BitVec 32 := Scalar.extui v2036
  let c0_i32_181 : BitVec 32 := 0#32
  let v2038 : BitVec 1 := Scalar.cmpi .ne v2037 c0_i32_181
  v2038

def k0_mult6 (k0_t3 : Fin k0_t3_loop.trips) : BitVec 32 :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c4_i32_198 : BitVec 32 := 4#32
  let v2064 : BitVec 32 := Scalar.addi v1989 c4_i32_198
  let c256_i32_199 : BitVec 32 := 256#32
  let v2065 : BitVec 32 := Scalar.muli v2064 c256_i32_199
  v2065
def k0_off12 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_200 : BitVec 32 := 0#32
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c4_i32_198 : BitVec 32 := 4#32
  let v2064 : BitVec 32 := Scalar.addi v1989 c4_i32_198
  let c256_i32_199 : BitVec 32 := 256#32
  let v2065 : BitVec 32 := Scalar.muli v2064 c256_i32_199
  let v2066 : BitVec 32 := v2065
  ![v1.toNat, 0, v2066.toNat]
def k0_off13 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_182 : BitVec 32 := 0#32
  let c0_i32_183 : BitVec 32 := 0#32
  ![v1.toNat, 0, 0]
def k0_off14 (k0_t3 : Fin k0_t3_loop.trips) : Fin 1 → Nat :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c2_i32_186 : BitVec 32 := 2#32
  let v2043 : BitVec 32 := Scalar.addi v1989 c2_i32_186
  let v2044 : Index := Scalar.indexCast v2043
  ![v2044.toNat]
def k0_off15 (k0_t3 : Fin k0_t3_loop.trips) : Fin 1 → Nat :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c2_i32_186 : BitVec 32 := 2#32
  let v2043 : BitVec 32 := Scalar.addi v1989 c2_i32_186
  let c1_i32_187 : BitVec 32 := 1#32
  let v2046 : BitVec 32 := Scalar.addi v2043 c1_i32_187
  let v2047 : Index := Scalar.indexCast v2046
  ![v2047.toNat]
@[reducible] def k0_t8_loop (v2045 : BitVec 32) (v2048 : BitVec 32) : Scf.Loop 32 :=
  let c0_i32_191 : BitVec 32 := 0#32
  let v2049 : BitVec 32 := Scalar.subi v2048 v2045
  let c16_i32_188 : BitVec 32 := 16#32
  let v2050 : BitVec 32 := Scalar.addi v2049 c16_i32_188
  let c1_i32_189 : BitVec 32 := 1#32
  let v2051 : BitVec 32 := Scalar.subi v2050 c1_i32_189
  let c4_i32_190 : BitVec 32 := 4#32
  let v2052 : BitVec 32 := Scalar.shrsi v2051 c4_i32_190
  let v2053 : BitVec 32 := Scalar.subi v2052 c0_i32_191
  let c1_i32_192 : BitVec 32 := 1#32
  let v2055 : BitVec 32 := Scalar.divsi v2053 c1_i32_192
  let v2056 : BitVec 32 := Scalar.muli v2055 c1_i32_192
  let v2057 : BitVec 32 := Scalar.addi c0_i32_191 v2056
  let c1_i32_193 : BitVec 32 := 1#32
  ⟨c0_i32_191, v2057, c1_i32_193⟩

def k0_chk529 (i : grid0.Coords) (v2075 : IVec S16 32) : Prop :=
  (∀ (k0_h1 : k0_cond1 i = 1#1), ∀ a x, ((![v2075] : Fin 1 → IVec S16 32) a x).toNat < S4096.size a)
theorem k0_idx527_inb : ∀ (i : grid0.Coords) (v2075 : IVec S16 32) (k0_hw529 : k0_chk529 i v2075), ∀ (k0_h1 : k0_cond1 i = 1#1), ∀ a x, ((![v2075] : Fin 1 → IVec S16 32) a x).toNat < S4096.size a := fun i v2075 k0_hw529 k0_h1 => k0_hw529 k0_h1

def k0_chk530 (i : grid0.Coords) (v2087 : IVec S16 32) : Prop :=
  (∀ (k0_h1 : k0_cond1 i = 1#1), ∀ a x, ((![v2087] : Fin 1 → IVec S16 32) a x).toNat < S128.size a)
theorem k0_idx528_inb : ∀ (i : grid0.Coords) (v2087 : IVec S16 32) (k0_hw530 : k0_chk530 i v2087), ∀ (k0_h1 : k0_cond1 i = 1#1), ∀ a x, ((![v2087] : Fin 1 → IVec S16 32) a x).toNat < S128.size a := fun i v2087 k0_hw530 k0_h1 => k0_hw530 k0_h1

def k0_chk531 (i : grid0.Coords) (v2091 : IVec S16 32) (v2095 : IVec S16 32) : Prop :=
  (∀ (k0_h1 : k0_cond1 i = 1#1), ∀ a x, ((![v2095, v2091] : Fin 2 → IVec S16 32) a x).toNat < S64x256.size a)
theorem k0_idx529_inb : ∀ (i : grid0.Coords) (v2091 : IVec S16 32) (v2095 : IVec S16 32) (k0_hw531 : k0_chk531 i v2091 v2095), ∀ (k0_h1 : k0_cond1 i = 1#1), ∀ a x, ((![v2095, v2091] : Fin 2 → IVec S16 32) a x).toNat < S64x256.size a := fun i v2091 v2095 k0_hw531 k0_h1 => k0_hw531 k0_h1

def k0_chk532 (i : grid0.Coords) (v2093 : IVec S16 32) (v2098 : IVec S16 32) : Prop :=
  (∀ (k0_h1 : k0_cond1 i = 1#1), ∀ a x, ((![v2093, v2098] : Fin 2 → IVec S16 32) a x).toNat < S128x128.size a)
theorem k0_idx530_inb : ∀ (i : grid0.Coords) (v2093 : IVec S16 32) (v2098 : IVec S16 32) (k0_hw532 : k0_chk532 i v2093 v2098), ∀ (k0_h1 : k0_cond1 i = 1#1), ∀ a x, ((![v2093, v2098] : Fin 2 → IVec S16 32) a x).toNat < S128x128.size a := fun i v2093 v2098 k0_hw532 k0_h1 => k0_hw532 k0_h1

def k0_chk533 (i : grid0.Coords) (v2091 : IVec S16 32) (v2100 : IVec S16 32) : Prop :=
  (∀ (k0_h1 : k0_cond1 i = 1#1), ∀ a x, ((![v2100, v2091] : Fin 2 → IVec S16 32) a x).toNat < S64x256.size a)
theorem k0_idx531_inb : ∀ (i : grid0.Coords) (v2091 : IVec S16 32) (v2100 : IVec S16 32) (k0_hw533 : k0_chk533 i v2091 v2100), ∀ (k0_h1 : k0_cond1 i = 1#1), ∀ a x, ((![v2100, v2091] : Fin 2 → IVec S16 32) a x).toNat < S64x256.size a := fun i v2091 v2100 k0_hw533 k0_h1 => k0_hw533 k0_h1

def k0_chk534 (i : grid0.Coords) (v2093 : IVec S16 32) (v2103 : IVec S16 32) : Prop :=
  (∀ (k0_h1 : k0_cond1 i = 1#1), ∀ a x, ((![v2093, v2103] : Fin 2 → IVec S16 32) a x).toNat < S128x128.size a)
theorem k0_idx532_inb : ∀ (i : grid0.Coords) (v2093 : IVec S16 32) (v2103 : IVec S16 32) (k0_hw534 : k0_chk534 i v2093 v2103), ∀ (k0_h1 : k0_cond1 i = 1#1), ∀ a x, ((![v2093, v2103] : Fin 2 → IVec S16 32) a x).toNat < S128x128.size a := fun i v2093 v2103 k0_hw534 k0_h1 => k0_hw534 k0_h1

def k0_chk535 (i : grid0.Coords) (v2091 : IVec S16 32) (v2105 : IVec S16 32) : Prop :=
  (∀ (k0_h1 : k0_cond1 i = 1#1), ∀ a x, ((![v2105, v2091] : Fin 2 → IVec S16 32) a x).toNat < S64x256.size a)
theorem k0_idx533_inb : ∀ (i : grid0.Coords) (v2091 : IVec S16 32) (v2105 : IVec S16 32) (k0_hw535 : k0_chk535 i v2091 v2105), ∀ (k0_h1 : k0_cond1 i = 1#1), ∀ a x, ((![v2105, v2091] : Fin 2 → IVec S16 32) a x).toNat < S64x256.size a := fun i v2091 v2105 k0_hw535 k0_h1 => k0_hw535 k0_h1

def k0_chk536 (i : grid0.Coords) (v2093 : IVec S16 32) (v2108 : IVec S16 32) : Prop :=
  (∀ (k0_h1 : k0_cond1 i = 1#1), ∀ a x, ((![v2093, v2108] : Fin 2 → IVec S16 32) a x).toNat < S128x128.size a)
theorem k0_idx534_inb : ∀ (i : grid0.Coords) (v2093 : IVec S16 32) (v2108 : IVec S16 32) (k0_hw536 : k0_chk536 i v2093 v2108), ∀ (k0_h1 : k0_cond1 i = 1#1), ∀ a x, ((![v2093, v2108] : Fin 2 → IVec S16 32) a x).toNat < S128x128.size a := fun i v2093 v2108 k0_hw536 k0_h1 => k0_hw536 k0_h1

def k0_chk537 (i : grid0.Coords) (v2091 : IVec S16 32) (v2110 : IVec S16 32) : Prop :=
  (∀ (k0_h1 : k0_cond1 i = 1#1), ∀ a x, ((![v2110, v2091] : Fin 2 → IVec S16 32) a x).toNat < S64x256.size a)
theorem k0_idx535_inb : ∀ (i : grid0.Coords) (v2091 : IVec S16 32) (v2110 : IVec S16 32) (k0_hw537 : k0_chk537 i v2091 v2110), ∀ (k0_h1 : k0_cond1 i = 1#1), ∀ a x, ((![v2110, v2091] : Fin 2 → IVec S16 32) a x).toNat < S64x256.size a := fun i v2091 v2110 k0_hw537 k0_h1 => k0_hw537 k0_h1

def k0_chk538 (i : grid0.Coords) (v2093 : IVec S16 32) (v2113 : IVec S16 32) : Prop :=
  (∀ (k0_h1 : k0_cond1 i = 1#1), ∀ a x, ((![v2093, v2113] : Fin 2 → IVec S16 32) a x).toNat < S128x128.size a)
theorem k0_idx536_inb : ∀ (i : grid0.Coords) (v2093 : IVec S16 32) (v2113 : IVec S16 32) (k0_hw538 : k0_chk538 i v2093 v2113), ∀ (k0_h1 : k0_cond1 i = 1#1), ∀ a x, ((![v2093, v2113] : Fin 2 → IVec S16 32) a x).toNat < S128x128.size a := fun i v2093 v2113 k0_hw538 k0_h1 => k0_hw538 k0_h1

def k0_chk539 (i : grid0.Coords) (v2117 : IVec S16 32) (v2121 : IVec S16 32) : Prop :=
  (∀ (k0_h1 : k0_cond1 i = 1#1), ∀ a x, ((![v2121, v2117] : Fin 2 → IVec S16 32) a x).toNat < S64x256.size a)
theorem k0_idx537_inb : ∀ (i : grid0.Coords) (v2117 : IVec S16 32) (v2121 : IVec S16 32) (k0_hw539 : k0_chk539 i v2117 v2121), ∀ (k0_h1 : k0_cond1 i = 1#1), ∀ a x, ((![v2121, v2117] : Fin 2 → IVec S16 32) a x).toNat < S64x256.size a := fun i v2117 v2121 k0_hw539 k0_h1 => k0_hw539 k0_h1

def k0_chk540 (i : grid0.Coords) (v2119 : IVec S16 32) (v2124 : IVec S16 32) : Prop :=
  (∀ (k0_h1 : k0_cond1 i = 1#1), ∀ a x, ((![v2119, v2124] : Fin 2 → IVec S16 32) a x).toNat < S128x128.size a)
theorem k0_idx538_inb : ∀ (i : grid0.Coords) (v2119 : IVec S16 32) (v2124 : IVec S16 32) (k0_hw540 : k0_chk540 i v2119 v2124), ∀ (k0_h1 : k0_cond1 i = 1#1), ∀ a x, ((![v2119, v2124] : Fin 2 → IVec S16 32) a x).toNat < S128x128.size a := fun i v2119 v2124 k0_hw540 k0_h1 => k0_hw540 k0_h1

def k0_chk541 (i : grid0.Coords) (v2117 : IVec S16 32) (v2126 : IVec S16 32) : Prop :=
  (∀ (k0_h1 : k0_cond1 i = 1#1), ∀ a x, ((![v2126, v2117] : Fin 2 → IVec S16 32) a x).toNat < S64x256.size a)
theorem k0_idx539_inb : ∀ (i : grid0.Coords) (v2117 : IVec S16 32) (v2126 : IVec S16 32) (k0_hw541 : k0_chk541 i v2117 v2126), ∀ (k0_h1 : k0_cond1 i = 1#1), ∀ a x, ((![v2126, v2117] : Fin 2 → IVec S16 32) a x).toNat < S64x256.size a := fun i v2117 v2126 k0_hw541 k0_h1 => k0_hw541 k0_h1

def k0_chk542 (i : grid0.Coords) (v2119 : IVec S16 32) (v2129 : IVec S16 32) : Prop :=
  (∀ (k0_h1 : k0_cond1 i = 1#1), ∀ a x, ((![v2119, v2129] : Fin 2 → IVec S16 32) a x).toNat < S128x128.size a)
theorem k0_idx540_inb : ∀ (i : grid0.Coords) (v2119 : IVec S16 32) (v2129 : IVec S16 32) (k0_hw542 : k0_chk542 i v2119 v2129), ∀ (k0_h1 : k0_cond1 i = 1#1), ∀ a x, ((![v2119, v2129] : Fin 2 → IVec S16 32) a x).toNat < S128x128.size a := fun i v2119 v2129 k0_hw542 k0_h1 => k0_hw542 k0_h1

def k0_chk543 (i : grid0.Coords) (v2117 : IVec S16 32) (v2131 : IVec S16 32) : Prop :=
  (∀ (k0_h1 : k0_cond1 i = 1#1), ∀ a x, ((![v2131, v2117] : Fin 2 → IVec S16 32) a x).toNat < S64x256.size a)
theorem k0_idx541_inb : ∀ (i : grid0.Coords) (v2117 : IVec S16 32) (v2131 : IVec S16 32) (k0_hw543 : k0_chk543 i v2117 v2131), ∀ (k0_h1 : k0_cond1 i = 1#1), ∀ a x, ((![v2131, v2117] : Fin 2 → IVec S16 32) a x).toNat < S64x256.size a := fun i v2117 v2131 k0_hw543 k0_h1 => k0_hw543 k0_h1

def k0_chk544 (i : grid0.Coords) (v2119 : IVec S16 32) (v2134 : IVec S16 32) : Prop :=
  (∀ (k0_h1 : k0_cond1 i = 1#1), ∀ a x, ((![v2119, v2134] : Fin 2 → IVec S16 32) a x).toNat < S128x128.size a)
theorem k0_idx542_inb : ∀ (i : grid0.Coords) (v2119 : IVec S16 32) (v2134 : IVec S16 32) (k0_hw544 : k0_chk544 i v2119 v2134), ∀ (k0_h1 : k0_cond1 i = 1#1), ∀ a x, ((![v2119, v2134] : Fin 2 → IVec S16 32) a x).toNat < S128x128.size a := fun i v2119 v2134 k0_hw544 k0_h1 => k0_hw544 k0_h1

def k0_chk545 (i : grid0.Coords) (v2117 : IVec S16 32) (v2136 : IVec S16 32) : Prop :=
  (∀ (k0_h1 : k0_cond1 i = 1#1), ∀ a x, ((![v2136, v2117] : Fin 2 → IVec S16 32) a x).toNat < S64x256.size a)
theorem k0_idx543_inb : ∀ (i : grid0.Coords) (v2117 : IVec S16 32) (v2136 : IVec S16 32) (k0_hw545 : k0_chk545 i v2117 v2136), ∀ (k0_h1 : k0_cond1 i = 1#1), ∀ a x, ((![v2136, v2117] : Fin 2 → IVec S16 32) a x).toNat < S64x256.size a := fun i v2117 v2136 k0_hw545 k0_h1 => k0_hw545 k0_h1

def k0_chk546 (i : grid0.Coords) (v2119 : IVec S16 32) (v2139 : IVec S16 32) : Prop :=
  (∀ (k0_h1 : k0_cond1 i = 1#1), ∀ a x, ((![v2119, v2139] : Fin 2 → IVec S16 32) a x).toNat < S128x128.size a)
theorem k0_idx544_inb : ∀ (i : grid0.Coords) (v2119 : IVec S16 32) (v2139 : IVec S16 32) (k0_hw546 : k0_chk546 i v2119 v2139), ∀ (k0_h1 : k0_cond1 i = 1#1), ∀ a x, ((![v2119, v2139] : Fin 2 → IVec S16 32) a x).toNat < S128x128.size a := fun i v2119 v2139 k0_hw546 k0_h1 => k0_hw546 k0_h1

def k0_chk547 (i : grid0.Coords) (v2143 : IVec S16 32) (v2147 : IVec S16 32) : Prop :=
  (∀ (k0_h1 : k0_cond1 i = 1#1), ∀ a x, ((![v2147, v2143] : Fin 2 → IVec S16 32) a x).toNat < S64x256.size a)
theorem k0_idx545_inb : ∀ (i : grid0.Coords) (v2143 : IVec S16 32) (v2147 : IVec S16 32) (k0_hw547 : k0_chk547 i v2143 v2147), ∀ (k0_h1 : k0_cond1 i = 1#1), ∀ a x, ((![v2147, v2143] : Fin 2 → IVec S16 32) a x).toNat < S64x256.size a := fun i v2143 v2147 k0_hw547 k0_h1 => k0_hw547 k0_h1

def k0_chk548 (i : grid0.Coords) (v2145 : IVec S16 32) (v2150 : IVec S16 32) : Prop :=
  (∀ (k0_h1 : k0_cond1 i = 1#1), ∀ a x, ((![v2145, v2150] : Fin 2 → IVec S16 32) a x).toNat < S128x128.size a)
theorem k0_idx546_inb : ∀ (i : grid0.Coords) (v2145 : IVec S16 32) (v2150 : IVec S16 32) (k0_hw548 : k0_chk548 i v2145 v2150), ∀ (k0_h1 : k0_cond1 i = 1#1), ∀ a x, ((![v2145, v2150] : Fin 2 → IVec S16 32) a x).toNat < S128x128.size a := fun i v2145 v2150 k0_hw548 k0_h1 => k0_hw548 k0_h1

def k0_chk549 (i : grid0.Coords) (v2143 : IVec S16 32) (v2152 : IVec S16 32) : Prop :=
  (∀ (k0_h1 : k0_cond1 i = 1#1), ∀ a x, ((![v2152, v2143] : Fin 2 → IVec S16 32) a x).toNat < S64x256.size a)
theorem k0_idx547_inb : ∀ (i : grid0.Coords) (v2143 : IVec S16 32) (v2152 : IVec S16 32) (k0_hw549 : k0_chk549 i v2143 v2152), ∀ (k0_h1 : k0_cond1 i = 1#1), ∀ a x, ((![v2152, v2143] : Fin 2 → IVec S16 32) a x).toNat < S64x256.size a := fun i v2143 v2152 k0_hw549 k0_h1 => k0_hw549 k0_h1

def k0_chk550 (i : grid0.Coords) (v2145 : IVec S16 32) (v2155 : IVec S16 32) : Prop :=
  (∀ (k0_h1 : k0_cond1 i = 1#1), ∀ a x, ((![v2145, v2155] : Fin 2 → IVec S16 32) a x).toNat < S128x128.size a)
theorem k0_idx548_inb : ∀ (i : grid0.Coords) (v2145 : IVec S16 32) (v2155 : IVec S16 32) (k0_hw550 : k0_chk550 i v2145 v2155), ∀ (k0_h1 : k0_cond1 i = 1#1), ∀ a x, ((![v2145, v2155] : Fin 2 → IVec S16 32) a x).toNat < S128x128.size a := fun i v2145 v2155 k0_hw550 k0_h1 => k0_hw550 k0_h1

def k0_chk551 (i : grid0.Coords) (v2143 : IVec S16 32) (v2157 : IVec S16 32) : Prop :=
  (∀ (k0_h1 : k0_cond1 i = 1#1), ∀ a x, ((![v2157, v2143] : Fin 2 → IVec S16 32) a x).toNat < S64x256.size a)
theorem k0_idx549_inb : ∀ (i : grid0.Coords) (v2143 : IVec S16 32) (v2157 : IVec S16 32) (k0_hw551 : k0_chk551 i v2143 v2157), ∀ (k0_h1 : k0_cond1 i = 1#1), ∀ a x, ((![v2157, v2143] : Fin 2 → IVec S16 32) a x).toNat < S64x256.size a := fun i v2143 v2157 k0_hw551 k0_h1 => k0_hw551 k0_h1

def k0_chk552 (i : grid0.Coords) (v2145 : IVec S16 32) (v2160 : IVec S16 32) : Prop :=
  (∀ (k0_h1 : k0_cond1 i = 1#1), ∀ a x, ((![v2145, v2160] : Fin 2 → IVec S16 32) a x).toNat < S128x128.size a)
theorem k0_idx550_inb : ∀ (i : grid0.Coords) (v2145 : IVec S16 32) (v2160 : IVec S16 32) (k0_hw552 : k0_chk552 i v2145 v2160), ∀ (k0_h1 : k0_cond1 i = 1#1), ∀ a x, ((![v2145, v2160] : Fin 2 → IVec S16 32) a x).toNat < S128x128.size a := fun i v2145 v2160 k0_hw552 k0_h1 => k0_hw552 k0_h1

def k0_chk553 (i : grid0.Coords) (v2143 : IVec S16 32) (v2162 : IVec S16 32) : Prop :=
  (∀ (k0_h1 : k0_cond1 i = 1#1), ∀ a x, ((![v2162, v2143] : Fin 2 → IVec S16 32) a x).toNat < S64x256.size a)
theorem k0_idx551_inb : ∀ (i : grid0.Coords) (v2143 : IVec S16 32) (v2162 : IVec S16 32) (k0_hw553 : k0_chk553 i v2143 v2162), ∀ (k0_h1 : k0_cond1 i = 1#1), ∀ a x, ((![v2162, v2143] : Fin 2 → IVec S16 32) a x).toNat < S64x256.size a := fun i v2143 v2162 k0_hw553 k0_h1 => k0_hw553 k0_h1

def k0_chk554 (i : grid0.Coords) (v2145 : IVec S16 32) (v2165 : IVec S16 32) : Prop :=
  (∀ (k0_h1 : k0_cond1 i = 1#1), ∀ a x, ((![v2145, v2165] : Fin 2 → IVec S16 32) a x).toNat < S128x128.size a)
theorem k0_idx552_inb : ∀ (i : grid0.Coords) (v2145 : IVec S16 32) (v2165 : IVec S16 32) (k0_hw554 : k0_chk554 i v2145 v2165), ∀ (k0_h1 : k0_cond1 i = 1#1), ∀ a x, ((![v2145, v2165] : Fin 2 → IVec S16 32) a x).toNat < S128x128.size a := fun i v2145 v2165 k0_hw554 k0_h1 => k0_hw554 k0_h1

def k0_chk555 (i : grid0.Coords) (v2169 : IVec S16 32) (v2173 : IVec S16 32) : Prop :=
  (∀ (k0_h1 : k0_cond1 i = 1#1), ∀ a x, ((![v2173, v2169] : Fin 2 → IVec S16 32) a x).toNat < S64x256.size a)
theorem k0_idx553_inb : ∀ (i : grid0.Coords) (v2169 : IVec S16 32) (v2173 : IVec S16 32) (k0_hw555 : k0_chk555 i v2169 v2173), ∀ (k0_h1 : k0_cond1 i = 1#1), ∀ a x, ((![v2173, v2169] : Fin 2 → IVec S16 32) a x).toNat < S64x256.size a := fun i v2169 v2173 k0_hw555 k0_h1 => k0_hw555 k0_h1

def k0_chk556 (i : grid0.Coords) (v2171 : IVec S16 32) (v2176 : IVec S16 32) : Prop :=
  (∀ (k0_h1 : k0_cond1 i = 1#1), ∀ a x, ((![v2171, v2176] : Fin 2 → IVec S16 32) a x).toNat < S128x128.size a)
theorem k0_idx554_inb : ∀ (i : grid0.Coords) (v2171 : IVec S16 32) (v2176 : IVec S16 32) (k0_hw556 : k0_chk556 i v2171 v2176), ∀ (k0_h1 : k0_cond1 i = 1#1), ∀ a x, ((![v2171, v2176] : Fin 2 → IVec S16 32) a x).toNat < S128x128.size a := fun i v2171 v2176 k0_hw556 k0_h1 => k0_hw556 k0_h1

def k0_chk557 (i : grid0.Coords) (v2169 : IVec S16 32) (v2178 : IVec S16 32) : Prop :=
  (∀ (k0_h1 : k0_cond1 i = 1#1), ∀ a x, ((![v2178, v2169] : Fin 2 → IVec S16 32) a x).toNat < S64x256.size a)
theorem k0_idx555_inb : ∀ (i : grid0.Coords) (v2169 : IVec S16 32) (v2178 : IVec S16 32) (k0_hw557 : k0_chk557 i v2169 v2178), ∀ (k0_h1 : k0_cond1 i = 1#1), ∀ a x, ((![v2178, v2169] : Fin 2 → IVec S16 32) a x).toNat < S64x256.size a := fun i v2169 v2178 k0_hw557 k0_h1 => k0_hw557 k0_h1

def k0_chk558 (i : grid0.Coords) (v2171 : IVec S16 32) (v2181 : IVec S16 32) : Prop :=
  (∀ (k0_h1 : k0_cond1 i = 1#1), ∀ a x, ((![v2171, v2181] : Fin 2 → IVec S16 32) a x).toNat < S128x128.size a)
theorem k0_idx556_inb : ∀ (i : grid0.Coords) (v2171 : IVec S16 32) (v2181 : IVec S16 32) (k0_hw558 : k0_chk558 i v2171 v2181), ∀ (k0_h1 : k0_cond1 i = 1#1), ∀ a x, ((![v2171, v2181] : Fin 2 → IVec S16 32) a x).toNat < S128x128.size a := fun i v2171 v2181 k0_hw558 k0_h1 => k0_hw558 k0_h1

def k0_chk559 (i : grid0.Coords) (v2169 : IVec S16 32) (v2183 : IVec S16 32) : Prop :=
  (∀ (k0_h1 : k0_cond1 i = 1#1), ∀ a x, ((![v2183, v2169] : Fin 2 → IVec S16 32) a x).toNat < S64x256.size a)
theorem k0_idx557_inb : ∀ (i : grid0.Coords) (v2169 : IVec S16 32) (v2183 : IVec S16 32) (k0_hw559 : k0_chk559 i v2169 v2183), ∀ (k0_h1 : k0_cond1 i = 1#1), ∀ a x, ((![v2183, v2169] : Fin 2 → IVec S16 32) a x).toNat < S64x256.size a := fun i v2169 v2183 k0_hw559 k0_h1 => k0_hw559 k0_h1

def k0_chk560 (i : grid0.Coords) (v2171 : IVec S16 32) (v2186 : IVec S16 32) : Prop :=
  (∀ (k0_h1 : k0_cond1 i = 1#1), ∀ a x, ((![v2171, v2186] : Fin 2 → IVec S16 32) a x).toNat < S128x128.size a)
theorem k0_idx558_inb : ∀ (i : grid0.Coords) (v2171 : IVec S16 32) (v2186 : IVec S16 32) (k0_hw560 : k0_chk560 i v2171 v2186), ∀ (k0_h1 : k0_cond1 i = 1#1), ∀ a x, ((![v2171, v2186] : Fin 2 → IVec S16 32) a x).toNat < S128x128.size a := fun i v2171 v2186 k0_hw560 k0_h1 => k0_hw560 k0_h1

def k0_chk561 (i : grid0.Coords) (v2169 : IVec S16 32) (v2188 : IVec S16 32) : Prop :=
  (∀ (k0_h1 : k0_cond1 i = 1#1), ∀ a x, ((![v2188, v2169] : Fin 2 → IVec S16 32) a x).toNat < S64x256.size a)
theorem k0_idx559_inb : ∀ (i : grid0.Coords) (v2169 : IVec S16 32) (v2188 : IVec S16 32) (k0_hw561 : k0_chk561 i v2169 v2188), ∀ (k0_h1 : k0_cond1 i = 1#1), ∀ a x, ((![v2188, v2169] : Fin 2 → IVec S16 32) a x).toNat < S64x256.size a := fun i v2169 v2188 k0_hw561 k0_h1 => k0_hw561 k0_h1

def k0_chk562 (i : grid0.Coords) (v2171 : IVec S16 32) (v2191 : IVec S16 32) : Prop :=
  (∀ (k0_h1 : k0_cond1 i = 1#1), ∀ a x, ((![v2171, v2191] : Fin 2 → IVec S16 32) a x).toNat < S128x128.size a)
theorem k0_idx560_inb : ∀ (i : grid0.Coords) (v2171 : IVec S16 32) (v2191 : IVec S16 32) (k0_hw562 : k0_chk562 i v2171 v2191), ∀ (k0_h1 : k0_cond1 i = 1#1), ∀ a x, ((![v2171, v2191] : Fin 2 → IVec S16 32) a x).toNat < S128x128.size a := fun i v2171 v2191 k0_hw562 k0_h1 => k0_hw562 k0_h1

def k0_chk563 (i : grid0.Coords) (v2195 : IVec S16 32) (v2199 : IVec S16 32) : Prop :=
  (∀ (k0_h1 : k0_cond1 i = 1#1), ∀ a x, ((![v2199, v2195] : Fin 2 → IVec S16 32) a x).toNat < S64x256.size a)
theorem k0_idx561_inb : ∀ (i : grid0.Coords) (v2195 : IVec S16 32) (v2199 : IVec S16 32) (k0_hw563 : k0_chk563 i v2195 v2199), ∀ (k0_h1 : k0_cond1 i = 1#1), ∀ a x, ((![v2199, v2195] : Fin 2 → IVec S16 32) a x).toNat < S64x256.size a := fun i v2195 v2199 k0_hw563 k0_h1 => k0_hw563 k0_h1

def k0_chk564 (i : grid0.Coords) (v2197 : IVec S16 32) (v2202 : IVec S16 32) : Prop :=
  (∀ (k0_h1 : k0_cond1 i = 1#1), ∀ a x, ((![v2197, v2202] : Fin 2 → IVec S16 32) a x).toNat < S128x128.size a)
theorem k0_idx562_inb : ∀ (i : grid0.Coords) (v2197 : IVec S16 32) (v2202 : IVec S16 32) (k0_hw564 : k0_chk564 i v2197 v2202), ∀ (k0_h1 : k0_cond1 i = 1#1), ∀ a x, ((![v2197, v2202] : Fin 2 → IVec S16 32) a x).toNat < S128x128.size a := fun i v2197 v2202 k0_hw564 k0_h1 => k0_hw564 k0_h1

def k0_chk565 (i : grid0.Coords) (v2195 : IVec S16 32) (v2204 : IVec S16 32) : Prop :=
  (∀ (k0_h1 : k0_cond1 i = 1#1), ∀ a x, ((![v2204, v2195] : Fin 2 → IVec S16 32) a x).toNat < S64x256.size a)
theorem k0_idx563_inb : ∀ (i : grid0.Coords) (v2195 : IVec S16 32) (v2204 : IVec S16 32) (k0_hw565 : k0_chk565 i v2195 v2204), ∀ (k0_h1 : k0_cond1 i = 1#1), ∀ a x, ((![v2204, v2195] : Fin 2 → IVec S16 32) a x).toNat < S64x256.size a := fun i v2195 v2204 k0_hw565 k0_h1 => k0_hw565 k0_h1

def k0_chk566 (i : grid0.Coords) (v2197 : IVec S16 32) (v2207 : IVec S16 32) : Prop :=
  (∀ (k0_h1 : k0_cond1 i = 1#1), ∀ a x, ((![v2197, v2207] : Fin 2 → IVec S16 32) a x).toNat < S128x128.size a)
theorem k0_idx564_inb : ∀ (i : grid0.Coords) (v2197 : IVec S16 32) (v2207 : IVec S16 32) (k0_hw566 : k0_chk566 i v2197 v2207), ∀ (k0_h1 : k0_cond1 i = 1#1), ∀ a x, ((![v2197, v2207] : Fin 2 → IVec S16 32) a x).toNat < S128x128.size a := fun i v2197 v2207 k0_hw566 k0_h1 => k0_hw566 k0_h1

def k0_chk567 (i : grid0.Coords) (v2195 : IVec S16 32) (v2209 : IVec S16 32) : Prop :=
  (∀ (k0_h1 : k0_cond1 i = 1#1), ∀ a x, ((![v2209, v2195] : Fin 2 → IVec S16 32) a x).toNat < S64x256.size a)
theorem k0_idx565_inb : ∀ (i : grid0.Coords) (v2195 : IVec S16 32) (v2209 : IVec S16 32) (k0_hw567 : k0_chk567 i v2195 v2209), ∀ (k0_h1 : k0_cond1 i = 1#1), ∀ a x, ((![v2209, v2195] : Fin 2 → IVec S16 32) a x).toNat < S64x256.size a := fun i v2195 v2209 k0_hw567 k0_h1 => k0_hw567 k0_h1

def k0_chk568 (i : grid0.Coords) (v2197 : IVec S16 32) (v2212 : IVec S16 32) : Prop :=
  (∀ (k0_h1 : k0_cond1 i = 1#1), ∀ a x, ((![v2197, v2212] : Fin 2 → IVec S16 32) a x).toNat < S128x128.size a)
theorem k0_idx566_inb : ∀ (i : grid0.Coords) (v2197 : IVec S16 32) (v2212 : IVec S16 32) (k0_hw568 : k0_chk568 i v2197 v2212), ∀ (k0_h1 : k0_cond1 i = 1#1), ∀ a x, ((![v2197, v2212] : Fin 2 → IVec S16 32) a x).toNat < S128x128.size a := fun i v2197 v2212 k0_hw568 k0_h1 => k0_hw568 k0_h1

def k0_chk569 (i : grid0.Coords) (v2195 : IVec S16 32) (v2214 : IVec S16 32) : Prop :=
  (∀ (k0_h1 : k0_cond1 i = 1#1), ∀ a x, ((![v2214, v2195] : Fin 2 → IVec S16 32) a x).toNat < S64x256.size a)
theorem k0_idx567_inb : ∀ (i : grid0.Coords) (v2195 : IVec S16 32) (v2214 : IVec S16 32) (k0_hw569 : k0_chk569 i v2195 v2214), ∀ (k0_h1 : k0_cond1 i = 1#1), ∀ a x, ((![v2214, v2195] : Fin 2 → IVec S16 32) a x).toNat < S64x256.size a := fun i v2195 v2214 k0_hw569 k0_h1 => k0_hw569 k0_h1

def k0_chk570 (i : grid0.Coords) (v2197 : IVec S16 32) (v2217 : IVec S16 32) : Prop :=
  (∀ (k0_h1 : k0_cond1 i = 1#1), ∀ a x, ((![v2197, v2217] : Fin 2 → IVec S16 32) a x).toNat < S128x128.size a)
theorem k0_idx568_inb : ∀ (i : grid0.Coords) (v2197 : IVec S16 32) (v2217 : IVec S16 32) (k0_hw570 : k0_chk570 i v2197 v2217), ∀ (k0_h1 : k0_cond1 i = 1#1), ∀ a x, ((![v2197, v2217] : Fin 2 → IVec S16 32) a x).toNat < S128x128.size a := fun i v2197 v2217 k0_hw570 k0_h1 => k0_hw570 k0_h1

def k0_chk571 (i : grid0.Coords) (v2221 : IVec S16 32) (v2225 : IVec S16 32) : Prop :=
  (∀ (k0_h1 : k0_cond1 i = 1#1), ∀ a x, ((![v2225, v2221] : Fin 2 → IVec S16 32) a x).toNat < S64x256.size a)
theorem k0_idx569_inb : ∀ (i : grid0.Coords) (v2221 : IVec S16 32) (v2225 : IVec S16 32) (k0_hw571 : k0_chk571 i v2221 v2225), ∀ (k0_h1 : k0_cond1 i = 1#1), ∀ a x, ((![v2225, v2221] : Fin 2 → IVec S16 32) a x).toNat < S64x256.size a := fun i v2221 v2225 k0_hw571 k0_h1 => k0_hw571 k0_h1

def k0_chk572 (i : grid0.Coords) (v2223 : IVec S16 32) (v2228 : IVec S16 32) : Prop :=
  (∀ (k0_h1 : k0_cond1 i = 1#1), ∀ a x, ((![v2223, v2228] : Fin 2 → IVec S16 32) a x).toNat < S128x128.size a)
theorem k0_idx570_inb : ∀ (i : grid0.Coords) (v2223 : IVec S16 32) (v2228 : IVec S16 32) (k0_hw572 : k0_chk572 i v2223 v2228), ∀ (k0_h1 : k0_cond1 i = 1#1), ∀ a x, ((![v2223, v2228] : Fin 2 → IVec S16 32) a x).toNat < S128x128.size a := fun i v2223 v2228 k0_hw572 k0_h1 => k0_hw572 k0_h1

def k0_chk573 (i : grid0.Coords) (v2221 : IVec S16 32) (v2230 : IVec S16 32) : Prop :=
  (∀ (k0_h1 : k0_cond1 i = 1#1), ∀ a x, ((![v2230, v2221] : Fin 2 → IVec S16 32) a x).toNat < S64x256.size a)
theorem k0_idx571_inb : ∀ (i : grid0.Coords) (v2221 : IVec S16 32) (v2230 : IVec S16 32) (k0_hw573 : k0_chk573 i v2221 v2230), ∀ (k0_h1 : k0_cond1 i = 1#1), ∀ a x, ((![v2230, v2221] : Fin 2 → IVec S16 32) a x).toNat < S64x256.size a := fun i v2221 v2230 k0_hw573 k0_h1 => k0_hw573 k0_h1

def k0_chk574 (i : grid0.Coords) (v2223 : IVec S16 32) (v2233 : IVec S16 32) : Prop :=
  (∀ (k0_h1 : k0_cond1 i = 1#1), ∀ a x, ((![v2223, v2233] : Fin 2 → IVec S16 32) a x).toNat < S128x128.size a)
theorem k0_idx572_inb : ∀ (i : grid0.Coords) (v2223 : IVec S16 32) (v2233 : IVec S16 32) (k0_hw574 : k0_chk574 i v2223 v2233), ∀ (k0_h1 : k0_cond1 i = 1#1), ∀ a x, ((![v2223, v2233] : Fin 2 → IVec S16 32) a x).toNat < S128x128.size a := fun i v2223 v2233 k0_hw574 k0_h1 => k0_hw574 k0_h1

def k0_chk575 (i : grid0.Coords) (v2221 : IVec S16 32) (v2235 : IVec S16 32) : Prop :=
  (∀ (k0_h1 : k0_cond1 i = 1#1), ∀ a x, ((![v2235, v2221] : Fin 2 → IVec S16 32) a x).toNat < S64x256.size a)
theorem k0_idx573_inb : ∀ (i : grid0.Coords) (v2221 : IVec S16 32) (v2235 : IVec S16 32) (k0_hw575 : k0_chk575 i v2221 v2235), ∀ (k0_h1 : k0_cond1 i = 1#1), ∀ a x, ((![v2235, v2221] : Fin 2 → IVec S16 32) a x).toNat < S64x256.size a := fun i v2221 v2235 k0_hw575 k0_h1 => k0_hw575 k0_h1

def k0_chk576 (i : grid0.Coords) (v2223 : IVec S16 32) (v2238 : IVec S16 32) : Prop :=
  (∀ (k0_h1 : k0_cond1 i = 1#1), ∀ a x, ((![v2223, v2238] : Fin 2 → IVec S16 32) a x).toNat < S128x128.size a)
theorem k0_idx574_inb : ∀ (i : grid0.Coords) (v2223 : IVec S16 32) (v2238 : IVec S16 32) (k0_hw576 : k0_chk576 i v2223 v2238), ∀ (k0_h1 : k0_cond1 i = 1#1), ∀ a x, ((![v2223, v2238] : Fin 2 → IVec S16 32) a x).toNat < S128x128.size a := fun i v2223 v2238 k0_hw576 k0_h1 => k0_hw576 k0_h1

def k0_chk577 (i : grid0.Coords) (v2221 : IVec S16 32) (v2240 : IVec S16 32) : Prop :=
  (∀ (k0_h1 : k0_cond1 i = 1#1), ∀ a x, ((![v2240, v2221] : Fin 2 → IVec S16 32) a x).toNat < S64x256.size a)
theorem k0_idx575_inb : ∀ (i : grid0.Coords) (v2221 : IVec S16 32) (v2240 : IVec S16 32) (k0_hw577 : k0_chk577 i v2221 v2240), ∀ (k0_h1 : k0_cond1 i = 1#1), ∀ a x, ((![v2240, v2221] : Fin 2 → IVec S16 32) a x).toNat < S64x256.size a := fun i v2221 v2240 k0_hw577 k0_h1 => k0_hw577 k0_h1

def k0_chk578 (i : grid0.Coords) (v2223 : IVec S16 32) (v2243 : IVec S16 32) : Prop :=
  (∀ (k0_h1 : k0_cond1 i = 1#1), ∀ a x, ((![v2223, v2243] : Fin 2 → IVec S16 32) a x).toNat < S128x128.size a)
theorem k0_idx576_inb : ∀ (i : grid0.Coords) (v2223 : IVec S16 32) (v2243 : IVec S16 32) (k0_hw578 : k0_chk578 i v2223 v2243), ∀ (k0_h1 : k0_cond1 i = 1#1), ∀ a x, ((![v2223, v2243] : Fin 2 → IVec S16 32) a x).toNat < S128x128.size a := fun i v2223 v2243 k0_hw578 k0_h1 => k0_hw578 k0_h1

def k0_chk579 (i : grid0.Coords) (v2247 : IVec S16 32) (v2251 : IVec S16 32) : Prop :=
  (∀ (k0_h1 : k0_cond1 i = 1#1), ∀ a x, ((![v2251, v2247] : Fin 2 → IVec S16 32) a x).toNat < S64x256.size a)
theorem k0_idx577_inb : ∀ (i : grid0.Coords) (v2247 : IVec S16 32) (v2251 : IVec S16 32) (k0_hw579 : k0_chk579 i v2247 v2251), ∀ (k0_h1 : k0_cond1 i = 1#1), ∀ a x, ((![v2251, v2247] : Fin 2 → IVec S16 32) a x).toNat < S64x256.size a := fun i v2247 v2251 k0_hw579 k0_h1 => k0_hw579 k0_h1

def k0_chk580 (i : grid0.Coords) (v2249 : IVec S16 32) (v2254 : IVec S16 32) : Prop :=
  (∀ (k0_h1 : k0_cond1 i = 1#1), ∀ a x, ((![v2249, v2254] : Fin 2 → IVec S16 32) a x).toNat < S128x128.size a)
theorem k0_idx578_inb : ∀ (i : grid0.Coords) (v2249 : IVec S16 32) (v2254 : IVec S16 32) (k0_hw580 : k0_chk580 i v2249 v2254), ∀ (k0_h1 : k0_cond1 i = 1#1), ∀ a x, ((![v2249, v2254] : Fin 2 → IVec S16 32) a x).toNat < S128x128.size a := fun i v2249 v2254 k0_hw580 k0_h1 => k0_hw580 k0_h1

def k0_chk581 (i : grid0.Coords) (v2247 : IVec S16 32) (v2256 : IVec S16 32) : Prop :=
  (∀ (k0_h1 : k0_cond1 i = 1#1), ∀ a x, ((![v2256, v2247] : Fin 2 → IVec S16 32) a x).toNat < S64x256.size a)
theorem k0_idx579_inb : ∀ (i : grid0.Coords) (v2247 : IVec S16 32) (v2256 : IVec S16 32) (k0_hw581 : k0_chk581 i v2247 v2256), ∀ (k0_h1 : k0_cond1 i = 1#1), ∀ a x, ((![v2256, v2247] : Fin 2 → IVec S16 32) a x).toNat < S64x256.size a := fun i v2247 v2256 k0_hw581 k0_h1 => k0_hw581 k0_h1

def k0_chk582 (i : grid0.Coords) (v2249 : IVec S16 32) (v2259 : IVec S16 32) : Prop :=
  (∀ (k0_h1 : k0_cond1 i = 1#1), ∀ a x, ((![v2249, v2259] : Fin 2 → IVec S16 32) a x).toNat < S128x128.size a)
theorem k0_idx580_inb : ∀ (i : grid0.Coords) (v2249 : IVec S16 32) (v2259 : IVec S16 32) (k0_hw582 : k0_chk582 i v2249 v2259), ∀ (k0_h1 : k0_cond1 i = 1#1), ∀ a x, ((![v2249, v2259] : Fin 2 → IVec S16 32) a x).toNat < S128x128.size a := fun i v2249 v2259 k0_hw582 k0_h1 => k0_hw582 k0_h1

def k0_chk583 (i : grid0.Coords) (v2247 : IVec S16 32) (v2261 : IVec S16 32) : Prop :=
  (∀ (k0_h1 : k0_cond1 i = 1#1), ∀ a x, ((![v2261, v2247] : Fin 2 → IVec S16 32) a x).toNat < S64x256.size a)
theorem k0_idx581_inb : ∀ (i : grid0.Coords) (v2247 : IVec S16 32) (v2261 : IVec S16 32) (k0_hw583 : k0_chk583 i v2247 v2261), ∀ (k0_h1 : k0_cond1 i = 1#1), ∀ a x, ((![v2261, v2247] : Fin 2 → IVec S16 32) a x).toNat < S64x256.size a := fun i v2247 v2261 k0_hw583 k0_h1 => k0_hw583 k0_h1

def k0_chk584 (i : grid0.Coords) (v2249 : IVec S16 32) (v2264 : IVec S16 32) : Prop :=
  (∀ (k0_h1 : k0_cond1 i = 1#1), ∀ a x, ((![v2249, v2264] : Fin 2 → IVec S16 32) a x).toNat < S128x128.size a)
theorem k0_idx582_inb : ∀ (i : grid0.Coords) (v2249 : IVec S16 32) (v2264 : IVec S16 32) (k0_hw584 : k0_chk584 i v2249 v2264), ∀ (k0_h1 : k0_cond1 i = 1#1), ∀ a x, ((![v2249, v2264] : Fin 2 → IVec S16 32) a x).toNat < S128x128.size a := fun i v2249 v2264 k0_hw584 k0_h1 => k0_hw584 k0_h1

def k0_chk585 (i : grid0.Coords) (v2247 : IVec S16 32) (v2266 : IVec S16 32) : Prop :=
  (∀ (k0_h1 : k0_cond1 i = 1#1), ∀ a x, ((![v2266, v2247] : Fin 2 → IVec S16 32) a x).toNat < S64x256.size a)
theorem k0_idx583_inb : ∀ (i : grid0.Coords) (v2247 : IVec S16 32) (v2266 : IVec S16 32) (k0_hw585 : k0_chk585 i v2247 v2266), ∀ (k0_h1 : k0_cond1 i = 1#1), ∀ a x, ((![v2266, v2247] : Fin 2 → IVec S16 32) a x).toNat < S64x256.size a := fun i v2247 v2266 k0_hw585 k0_h1 => k0_hw585 k0_h1

def k0_chk586 (i : grid0.Coords) (v2249 : IVec S16 32) (v2269 : IVec S16 32) : Prop :=
  (∀ (k0_h1 : k0_cond1 i = 1#1), ∀ a x, ((![v2249, v2269] : Fin 2 → IVec S16 32) a x).toNat < S128x128.size a)
theorem k0_idx584_inb : ∀ (i : grid0.Coords) (v2249 : IVec S16 32) (v2269 : IVec S16 32) (k0_hw586 : k0_chk586 i v2249 v2269), ∀ (k0_h1 : k0_cond1 i = 1#1), ∀ a x, ((![v2249, v2269] : Fin 2 → IVec S16 32) a x).toNat < S128x128.size a := fun i v2249 v2269 k0_hw586 k0_h1 => k0_hw586 k0_h1

def k0_chk587 (i : grid0.Coords) (v2273 : IVec S16 32) (v2277 : IVec S16 32) : Prop :=
  (∀ (k0_h1 : k0_cond1 i = 1#1), ∀ a x, ((![v2277, v2273] : Fin 2 → IVec S16 32) a x).toNat < S64x256.size a)
theorem k0_idx585_inb : ∀ (i : grid0.Coords) (v2273 : IVec S16 32) (v2277 : IVec S16 32) (k0_hw587 : k0_chk587 i v2273 v2277), ∀ (k0_h1 : k0_cond1 i = 1#1), ∀ a x, ((![v2277, v2273] : Fin 2 → IVec S16 32) a x).toNat < S64x256.size a := fun i v2273 v2277 k0_hw587 k0_h1 => k0_hw587 k0_h1

def k0_chk588 (i : grid0.Coords) (v2275 : IVec S16 32) (v2280 : IVec S16 32) : Prop :=
  (∀ (k0_h1 : k0_cond1 i = 1#1), ∀ a x, ((![v2275, v2280] : Fin 2 → IVec S16 32) a x).toNat < S128x128.size a)
theorem k0_idx586_inb : ∀ (i : grid0.Coords) (v2275 : IVec S16 32) (v2280 : IVec S16 32) (k0_hw588 : k0_chk588 i v2275 v2280), ∀ (k0_h1 : k0_cond1 i = 1#1), ∀ a x, ((![v2275, v2280] : Fin 2 → IVec S16 32) a x).toNat < S128x128.size a := fun i v2275 v2280 k0_hw588 k0_h1 => k0_hw588 k0_h1

def k0_chk589 (i : grid0.Coords) (v2273 : IVec S16 32) (v2282 : IVec S16 32) : Prop :=
  (∀ (k0_h1 : k0_cond1 i = 1#1), ∀ a x, ((![v2282, v2273] : Fin 2 → IVec S16 32) a x).toNat < S64x256.size a)
theorem k0_idx587_inb : ∀ (i : grid0.Coords) (v2273 : IVec S16 32) (v2282 : IVec S16 32) (k0_hw589 : k0_chk589 i v2273 v2282), ∀ (k0_h1 : k0_cond1 i = 1#1), ∀ a x, ((![v2282, v2273] : Fin 2 → IVec S16 32) a x).toNat < S64x256.size a := fun i v2273 v2282 k0_hw589 k0_h1 => k0_hw589 k0_h1

def k0_chk590 (i : grid0.Coords) (v2275 : IVec S16 32) (v2285 : IVec S16 32) : Prop :=
  (∀ (k0_h1 : k0_cond1 i = 1#1), ∀ a x, ((![v2275, v2285] : Fin 2 → IVec S16 32) a x).toNat < S128x128.size a)
theorem k0_idx588_inb : ∀ (i : grid0.Coords) (v2275 : IVec S16 32) (v2285 : IVec S16 32) (k0_hw590 : k0_chk590 i v2275 v2285), ∀ (k0_h1 : k0_cond1 i = 1#1), ∀ a x, ((![v2275, v2285] : Fin 2 → IVec S16 32) a x).toNat < S128x128.size a := fun i v2275 v2285 k0_hw590 k0_h1 => k0_hw590 k0_h1

def k0_chk591 (i : grid0.Coords) (v2273 : IVec S16 32) (v2287 : IVec S16 32) : Prop :=
  (∀ (k0_h1 : k0_cond1 i = 1#1), ∀ a x, ((![v2287, v2273] : Fin 2 → IVec S16 32) a x).toNat < S64x256.size a)
theorem k0_idx589_inb : ∀ (i : grid0.Coords) (v2273 : IVec S16 32) (v2287 : IVec S16 32) (k0_hw591 : k0_chk591 i v2273 v2287), ∀ (k0_h1 : k0_cond1 i = 1#1), ∀ a x, ((![v2287, v2273] : Fin 2 → IVec S16 32) a x).toNat < S64x256.size a := fun i v2273 v2287 k0_hw591 k0_h1 => k0_hw591 k0_h1

def k0_chk592 (i : grid0.Coords) (v2275 : IVec S16 32) (v2290 : IVec S16 32) : Prop :=
  (∀ (k0_h1 : k0_cond1 i = 1#1), ∀ a x, ((![v2275, v2290] : Fin 2 → IVec S16 32) a x).toNat < S128x128.size a)
theorem k0_idx590_inb : ∀ (i : grid0.Coords) (v2275 : IVec S16 32) (v2290 : IVec S16 32) (k0_hw592 : k0_chk592 i v2275 v2290), ∀ (k0_h1 : k0_cond1 i = 1#1), ∀ a x, ((![v2275, v2290] : Fin 2 → IVec S16 32) a x).toNat < S128x128.size a := fun i v2275 v2290 k0_hw592 k0_h1 => k0_hw592 k0_h1

def k0_chk593 (i : grid0.Coords) (v2273 : IVec S16 32) (v2292 : IVec S16 32) : Prop :=
  (∀ (k0_h1 : k0_cond1 i = 1#1), ∀ a x, ((![v2292, v2273] : Fin 2 → IVec S16 32) a x).toNat < S64x256.size a)
theorem k0_idx591_inb : ∀ (i : grid0.Coords) (v2273 : IVec S16 32) (v2292 : IVec S16 32) (k0_hw593 : k0_chk593 i v2273 v2292), ∀ (k0_h1 : k0_cond1 i = 1#1), ∀ a x, ((![v2292, v2273] : Fin 2 → IVec S16 32) a x).toNat < S64x256.size a := fun i v2273 v2292 k0_hw593 k0_h1 => k0_hw593 k0_h1

def k0_chk594 (i : grid0.Coords) (v2275 : IVec S16 32) (v2295 : IVec S16 32) : Prop :=
  (∀ (k0_h1 : k0_cond1 i = 1#1), ∀ a x, ((![v2275, v2295] : Fin 2 → IVec S16 32) a x).toNat < S128x128.size a)
theorem k0_idx592_inb : ∀ (i : grid0.Coords) (v2275 : IVec S16 32) (v2295 : IVec S16 32) (k0_hw594 : k0_chk594 i v2275 v2295), ∀ (k0_h1 : k0_cond1 i = 1#1), ∀ a x, ((![v2275, v2295] : Fin 2 → IVec S16 32) a x).toNat < S128x128.size a := fun i v2275 v2295 k0_hw594 k0_h1 => k0_hw594 k0_h1

def k0_chk595 (i : grid0.Coords) (v2299 : IVec S16 32) (v2303 : IVec S16 32) : Prop :=
  (∀ (k0_h1 : k0_cond1 i = 1#1), ∀ a x, ((![v2303, v2299] : Fin 2 → IVec S16 32) a x).toNat < S64x256.size a)
theorem k0_idx593_inb : ∀ (i : grid0.Coords) (v2299 : IVec S16 32) (v2303 : IVec S16 32) (k0_hw595 : k0_chk595 i v2299 v2303), ∀ (k0_h1 : k0_cond1 i = 1#1), ∀ a x, ((![v2303, v2299] : Fin 2 → IVec S16 32) a x).toNat < S64x256.size a := fun i v2299 v2303 k0_hw595 k0_h1 => k0_hw595 k0_h1

def k0_chk596 (i : grid0.Coords) (v2301 : IVec S16 32) (v2306 : IVec S16 32) : Prop :=
  (∀ (k0_h1 : k0_cond1 i = 1#1), ∀ a x, ((![v2301, v2306] : Fin 2 → IVec S16 32) a x).toNat < S128x128.size a)
theorem k0_idx594_inb : ∀ (i : grid0.Coords) (v2301 : IVec S16 32) (v2306 : IVec S16 32) (k0_hw596 : k0_chk596 i v2301 v2306), ∀ (k0_h1 : k0_cond1 i = 1#1), ∀ a x, ((![v2301, v2306] : Fin 2 → IVec S16 32) a x).toNat < S128x128.size a := fun i v2301 v2306 k0_hw596 k0_h1 => k0_hw596 k0_h1

def k0_chk597 (i : grid0.Coords) (v2299 : IVec S16 32) (v2308 : IVec S16 32) : Prop :=
  (∀ (k0_h1 : k0_cond1 i = 1#1), ∀ a x, ((![v2308, v2299] : Fin 2 → IVec S16 32) a x).toNat < S64x256.size a)
theorem k0_idx595_inb : ∀ (i : grid0.Coords) (v2299 : IVec S16 32) (v2308 : IVec S16 32) (k0_hw597 : k0_chk597 i v2299 v2308), ∀ (k0_h1 : k0_cond1 i = 1#1), ∀ a x, ((![v2308, v2299] : Fin 2 → IVec S16 32) a x).toNat < S64x256.size a := fun i v2299 v2308 k0_hw597 k0_h1 => k0_hw597 k0_h1

def k0_chk598 (i : grid0.Coords) (v2301 : IVec S16 32) (v2311 : IVec S16 32) : Prop :=
  (∀ (k0_h1 : k0_cond1 i = 1#1), ∀ a x, ((![v2301, v2311] : Fin 2 → IVec S16 32) a x).toNat < S128x128.size a)
theorem k0_idx596_inb : ∀ (i : grid0.Coords) (v2301 : IVec S16 32) (v2311 : IVec S16 32) (k0_hw598 : k0_chk598 i v2301 v2311), ∀ (k0_h1 : k0_cond1 i = 1#1), ∀ a x, ((![v2301, v2311] : Fin 2 → IVec S16 32) a x).toNat < S128x128.size a := fun i v2301 v2311 k0_hw598 k0_h1 => k0_hw598 k0_h1

def k0_chk599 (i : grid0.Coords) (v2299 : IVec S16 32) (v2313 : IVec S16 32) : Prop :=
  (∀ (k0_h1 : k0_cond1 i = 1#1), ∀ a x, ((![v2313, v2299] : Fin 2 → IVec S16 32) a x).toNat < S64x256.size a)
theorem k0_idx597_inb : ∀ (i : grid0.Coords) (v2299 : IVec S16 32) (v2313 : IVec S16 32) (k0_hw599 : k0_chk599 i v2299 v2313), ∀ (k0_h1 : k0_cond1 i = 1#1), ∀ a x, ((![v2313, v2299] : Fin 2 → IVec S16 32) a x).toNat < S64x256.size a := fun i v2299 v2313 k0_hw599 k0_h1 => k0_hw599 k0_h1

def k0_chk600 (i : grid0.Coords) (v2301 : IVec S16 32) (v2316 : IVec S16 32) : Prop :=
  (∀ (k0_h1 : k0_cond1 i = 1#1), ∀ a x, ((![v2301, v2316] : Fin 2 → IVec S16 32) a x).toNat < S128x128.size a)
theorem k0_idx598_inb : ∀ (i : grid0.Coords) (v2301 : IVec S16 32) (v2316 : IVec S16 32) (k0_hw600 : k0_chk600 i v2301 v2316), ∀ (k0_h1 : k0_cond1 i = 1#1), ∀ a x, ((![v2301, v2316] : Fin 2 → IVec S16 32) a x).toNat < S128x128.size a := fun i v2301 v2316 k0_hw600 k0_h1 => k0_hw600 k0_h1

def k0_chk601 (i : grid0.Coords) (v2299 : IVec S16 32) (v2318 : IVec S16 32) : Prop :=
  (∀ (k0_h1 : k0_cond1 i = 1#1), ∀ a x, ((![v2318, v2299] : Fin 2 → IVec S16 32) a x).toNat < S64x256.size a)
theorem k0_idx599_inb : ∀ (i : grid0.Coords) (v2299 : IVec S16 32) (v2318 : IVec S16 32) (k0_hw601 : k0_chk601 i v2299 v2318), ∀ (k0_h1 : k0_cond1 i = 1#1), ∀ a x, ((![v2318, v2299] : Fin 2 → IVec S16 32) a x).toNat < S64x256.size a := fun i v2299 v2318 k0_hw601 k0_h1 => k0_hw601 k0_h1

def k0_chk602 (i : grid0.Coords) (v2301 : IVec S16 32) (v2321 : IVec S16 32) : Prop :=
  (∀ (k0_h1 : k0_cond1 i = 1#1), ∀ a x, ((![v2301, v2321] : Fin 2 → IVec S16 32) a x).toNat < S128x128.size a)
theorem k0_idx600_inb : ∀ (i : grid0.Coords) (v2301 : IVec S16 32) (v2321 : IVec S16 32) (k0_hw602 : k0_chk602 i v2301 v2321), ∀ (k0_h1 : k0_cond1 i = 1#1), ∀ a x, ((![v2301, v2321] : Fin 2 → IVec S16 32) a x).toNat < S128x128.size a := fun i v2301 v2321 k0_hw602 k0_h1 => k0_hw602 k0_h1

def k0_chk603 (i : grid0.Coords) (v2325 : IVec S16 32) (v2329 : IVec S16 32) : Prop :=
  (∀ (k0_h1 : k0_cond1 i = 1#1), ∀ a x, ((![v2329, v2325] : Fin 2 → IVec S16 32) a x).toNat < S64x256.size a)
theorem k0_idx601_inb : ∀ (i : grid0.Coords) (v2325 : IVec S16 32) (v2329 : IVec S16 32) (k0_hw603 : k0_chk603 i v2325 v2329), ∀ (k0_h1 : k0_cond1 i = 1#1), ∀ a x, ((![v2329, v2325] : Fin 2 → IVec S16 32) a x).toNat < S64x256.size a := fun i v2325 v2329 k0_hw603 k0_h1 => k0_hw603 k0_h1

def k0_chk604 (i : grid0.Coords) (v2327 : IVec S16 32) (v2332 : IVec S16 32) : Prop :=
  (∀ (k0_h1 : k0_cond1 i = 1#1), ∀ a x, ((![v2327, v2332] : Fin 2 → IVec S16 32) a x).toNat < S128x128.size a)
theorem k0_idx602_inb : ∀ (i : grid0.Coords) (v2327 : IVec S16 32) (v2332 : IVec S16 32) (k0_hw604 : k0_chk604 i v2327 v2332), ∀ (k0_h1 : k0_cond1 i = 1#1), ∀ a x, ((![v2327, v2332] : Fin 2 → IVec S16 32) a x).toNat < S128x128.size a := fun i v2327 v2332 k0_hw604 k0_h1 => k0_hw604 k0_h1

def k0_chk605 (i : grid0.Coords) (v2325 : IVec S16 32) (v2334 : IVec S16 32) : Prop :=
  (∀ (k0_h1 : k0_cond1 i = 1#1), ∀ a x, ((![v2334, v2325] : Fin 2 → IVec S16 32) a x).toNat < S64x256.size a)
theorem k0_idx603_inb : ∀ (i : grid0.Coords) (v2325 : IVec S16 32) (v2334 : IVec S16 32) (k0_hw605 : k0_chk605 i v2325 v2334), ∀ (k0_h1 : k0_cond1 i = 1#1), ∀ a x, ((![v2334, v2325] : Fin 2 → IVec S16 32) a x).toNat < S64x256.size a := fun i v2325 v2334 k0_hw605 k0_h1 => k0_hw605 k0_h1

def k0_chk606 (i : grid0.Coords) (v2327 : IVec S16 32) (v2337 : IVec S16 32) : Prop :=
  (∀ (k0_h1 : k0_cond1 i = 1#1), ∀ a x, ((![v2327, v2337] : Fin 2 → IVec S16 32) a x).toNat < S128x128.size a)
theorem k0_idx604_inb : ∀ (i : grid0.Coords) (v2327 : IVec S16 32) (v2337 : IVec S16 32) (k0_hw606 : k0_chk606 i v2327 v2337), ∀ (k0_h1 : k0_cond1 i = 1#1), ∀ a x, ((![v2327, v2337] : Fin 2 → IVec S16 32) a x).toNat < S128x128.size a := fun i v2327 v2337 k0_hw606 k0_h1 => k0_hw606 k0_h1

def k0_chk607 (i : grid0.Coords) (v2325 : IVec S16 32) (v2339 : IVec S16 32) : Prop :=
  (∀ (k0_h1 : k0_cond1 i = 1#1), ∀ a x, ((![v2339, v2325] : Fin 2 → IVec S16 32) a x).toNat < S64x256.size a)
theorem k0_idx605_inb : ∀ (i : grid0.Coords) (v2325 : IVec S16 32) (v2339 : IVec S16 32) (k0_hw607 : k0_chk607 i v2325 v2339), ∀ (k0_h1 : k0_cond1 i = 1#1), ∀ a x, ((![v2339, v2325] : Fin 2 → IVec S16 32) a x).toNat < S64x256.size a := fun i v2325 v2339 k0_hw607 k0_h1 => k0_hw607 k0_h1

def k0_chk608 (i : grid0.Coords) (v2327 : IVec S16 32) (v2342 : IVec S16 32) : Prop :=
  (∀ (k0_h1 : k0_cond1 i = 1#1), ∀ a x, ((![v2327, v2342] : Fin 2 → IVec S16 32) a x).toNat < S128x128.size a)
theorem k0_idx606_inb : ∀ (i : grid0.Coords) (v2327 : IVec S16 32) (v2342 : IVec S16 32) (k0_hw608 : k0_chk608 i v2327 v2342), ∀ (k0_h1 : k0_cond1 i = 1#1), ∀ a x, ((![v2327, v2342] : Fin 2 → IVec S16 32) a x).toNat < S128x128.size a := fun i v2327 v2342 k0_hw608 k0_h1 => k0_hw608 k0_h1

def k0_chk609 (i : grid0.Coords) (v2325 : IVec S16 32) (v2344 : IVec S16 32) : Prop :=
  (∀ (k0_h1 : k0_cond1 i = 1#1), ∀ a x, ((![v2344, v2325] : Fin 2 → IVec S16 32) a x).toNat < S64x256.size a)
theorem k0_idx607_inb : ∀ (i : grid0.Coords) (v2325 : IVec S16 32) (v2344 : IVec S16 32) (k0_hw609 : k0_chk609 i v2325 v2344), ∀ (k0_h1 : k0_cond1 i = 1#1), ∀ a x, ((![v2344, v2325] : Fin 2 → IVec S16 32) a x).toNat < S64x256.size a := fun i v2325 v2344 k0_hw609 k0_h1 => k0_hw609 k0_h1

def k0_chk610 (i : grid0.Coords) (v2327 : IVec S16 32) (v2347 : IVec S16 32) : Prop :=
  (∀ (k0_h1 : k0_cond1 i = 1#1), ∀ a x, ((![v2327, v2347] : Fin 2 → IVec S16 32) a x).toNat < S128x128.size a)
theorem k0_idx608_inb : ∀ (i : grid0.Coords) (v2327 : IVec S16 32) (v2347 : IVec S16 32) (k0_hw610 : k0_chk610 i v2327 v2347), ∀ (k0_h1 : k0_cond1 i = 1#1), ∀ a x, ((![v2327, v2347] : Fin 2 → IVec S16 32) a x).toNat < S128x128.size a := fun i v2327 v2347 k0_hw610 k0_h1 => k0_hw610 k0_h1

def k0_chk611 (i : grid0.Coords) (v2351 : IVec S16 32) (v2355 : IVec S16 32) : Prop :=
  (∀ (k0_h1 : k0_cond1 i = 1#1), ∀ a x, ((![v2355, v2351] : Fin 2 → IVec S16 32) a x).toNat < S64x256.size a)
theorem k0_idx609_inb : ∀ (i : grid0.Coords) (v2351 : IVec S16 32) (v2355 : IVec S16 32) (k0_hw611 : k0_chk611 i v2351 v2355), ∀ (k0_h1 : k0_cond1 i = 1#1), ∀ a x, ((![v2355, v2351] : Fin 2 → IVec S16 32) a x).toNat < S64x256.size a := fun i v2351 v2355 k0_hw611 k0_h1 => k0_hw611 k0_h1

def k0_chk612 (i : grid0.Coords) (v2353 : IVec S16 32) (v2358 : IVec S16 32) : Prop :=
  (∀ (k0_h1 : k0_cond1 i = 1#1), ∀ a x, ((![v2353, v2358] : Fin 2 → IVec S16 32) a x).toNat < S128x128.size a)
theorem k0_idx610_inb : ∀ (i : grid0.Coords) (v2353 : IVec S16 32) (v2358 : IVec S16 32) (k0_hw612 : k0_chk612 i v2353 v2358), ∀ (k0_h1 : k0_cond1 i = 1#1), ∀ a x, ((![v2353, v2358] : Fin 2 → IVec S16 32) a x).toNat < S128x128.size a := fun i v2353 v2358 k0_hw612 k0_h1 => k0_hw612 k0_h1

def k0_chk613 (i : grid0.Coords) (v2351 : IVec S16 32) (v2360 : IVec S16 32) : Prop :=
  (∀ (k0_h1 : k0_cond1 i = 1#1), ∀ a x, ((![v2360, v2351] : Fin 2 → IVec S16 32) a x).toNat < S64x256.size a)
theorem k0_idx611_inb : ∀ (i : grid0.Coords) (v2351 : IVec S16 32) (v2360 : IVec S16 32) (k0_hw613 : k0_chk613 i v2351 v2360), ∀ (k0_h1 : k0_cond1 i = 1#1), ∀ a x, ((![v2360, v2351] : Fin 2 → IVec S16 32) a x).toNat < S64x256.size a := fun i v2351 v2360 k0_hw613 k0_h1 => k0_hw613 k0_h1

def k0_chk614 (i : grid0.Coords) (v2353 : IVec S16 32) (v2363 : IVec S16 32) : Prop :=
  (∀ (k0_h1 : k0_cond1 i = 1#1), ∀ a x, ((![v2353, v2363] : Fin 2 → IVec S16 32) a x).toNat < S128x128.size a)
theorem k0_idx612_inb : ∀ (i : grid0.Coords) (v2353 : IVec S16 32) (v2363 : IVec S16 32) (k0_hw614 : k0_chk614 i v2353 v2363), ∀ (k0_h1 : k0_cond1 i = 1#1), ∀ a x, ((![v2353, v2363] : Fin 2 → IVec S16 32) a x).toNat < S128x128.size a := fun i v2353 v2363 k0_hw614 k0_h1 => k0_hw614 k0_h1

def k0_chk615 (i : grid0.Coords) (v2351 : IVec S16 32) (v2365 : IVec S16 32) : Prop :=
  (∀ (k0_h1 : k0_cond1 i = 1#1), ∀ a x, ((![v2365, v2351] : Fin 2 → IVec S16 32) a x).toNat < S64x256.size a)
theorem k0_idx613_inb : ∀ (i : grid0.Coords) (v2351 : IVec S16 32) (v2365 : IVec S16 32) (k0_hw615 : k0_chk615 i v2351 v2365), ∀ (k0_h1 : k0_cond1 i = 1#1), ∀ a x, ((![v2365, v2351] : Fin 2 → IVec S16 32) a x).toNat < S64x256.size a := fun i v2351 v2365 k0_hw615 k0_h1 => k0_hw615 k0_h1

def k0_chk616 (i : grid0.Coords) (v2353 : IVec S16 32) (v2368 : IVec S16 32) : Prop :=
  (∀ (k0_h1 : k0_cond1 i = 1#1), ∀ a x, ((![v2353, v2368] : Fin 2 → IVec S16 32) a x).toNat < S128x128.size a)
theorem k0_idx614_inb : ∀ (i : grid0.Coords) (v2353 : IVec S16 32) (v2368 : IVec S16 32) (k0_hw616 : k0_chk616 i v2353 v2368), ∀ (k0_h1 : k0_cond1 i = 1#1), ∀ a x, ((![v2353, v2368] : Fin 2 → IVec S16 32) a x).toNat < S128x128.size a := fun i v2353 v2368 k0_hw616 k0_h1 => k0_hw616 k0_h1

def k0_chk617 (i : grid0.Coords) (v2351 : IVec S16 32) (v2370 : IVec S16 32) : Prop :=
  (∀ (k0_h1 : k0_cond1 i = 1#1), ∀ a x, ((![v2370, v2351] : Fin 2 → IVec S16 32) a x).toNat < S64x256.size a)
theorem k0_idx615_inb : ∀ (i : grid0.Coords) (v2351 : IVec S16 32) (v2370 : IVec S16 32) (k0_hw617 : k0_chk617 i v2351 v2370), ∀ (k0_h1 : k0_cond1 i = 1#1), ∀ a x, ((![v2370, v2351] : Fin 2 → IVec S16 32) a x).toNat < S64x256.size a := fun i v2351 v2370 k0_hw617 k0_h1 => k0_hw617 k0_h1

def k0_chk618 (i : grid0.Coords) (v2353 : IVec S16 32) (v2373 : IVec S16 32) : Prop :=
  (∀ (k0_h1 : k0_cond1 i = 1#1), ∀ a x, ((![v2353, v2373] : Fin 2 → IVec S16 32) a x).toNat < S128x128.size a)
theorem k0_idx616_inb : ∀ (i : grid0.Coords) (v2353 : IVec S16 32) (v2373 : IVec S16 32) (k0_hw618 : k0_chk618 i v2353 v2373), ∀ (k0_h1 : k0_cond1 i = 1#1), ∀ a x, ((![v2353, v2373] : Fin 2 → IVec S16 32) a x).toNat < S128x128.size a := fun i v2353 v2373 k0_hw618 k0_h1 => k0_hw618 k0_h1

def k0_chk619 (i : grid0.Coords) (v2377 : IVec S16 32) (v2381 : IVec S16 32) : Prop :=
  (∀ (k0_h1 : k0_cond1 i = 1#1), ∀ a x, ((![v2381, v2377] : Fin 2 → IVec S16 32) a x).toNat < S64x256.size a)
theorem k0_idx617_inb : ∀ (i : grid0.Coords) (v2377 : IVec S16 32) (v2381 : IVec S16 32) (k0_hw619 : k0_chk619 i v2377 v2381), ∀ (k0_h1 : k0_cond1 i = 1#1), ∀ a x, ((![v2381, v2377] : Fin 2 → IVec S16 32) a x).toNat < S64x256.size a := fun i v2377 v2381 k0_hw619 k0_h1 => k0_hw619 k0_h1

def k0_chk620 (i : grid0.Coords) (v2379 : IVec S16 32) (v2384 : IVec S16 32) : Prop :=
  (∀ (k0_h1 : k0_cond1 i = 1#1), ∀ a x, ((![v2379, v2384] : Fin 2 → IVec S16 32) a x).toNat < S128x128.size a)
theorem k0_idx618_inb : ∀ (i : grid0.Coords) (v2379 : IVec S16 32) (v2384 : IVec S16 32) (k0_hw620 : k0_chk620 i v2379 v2384), ∀ (k0_h1 : k0_cond1 i = 1#1), ∀ a x, ((![v2379, v2384] : Fin 2 → IVec S16 32) a x).toNat < S128x128.size a := fun i v2379 v2384 k0_hw620 k0_h1 => k0_hw620 k0_h1

def k0_chk621 (i : grid0.Coords) (v2377 : IVec S16 32) (v2386 : IVec S16 32) : Prop :=
  (∀ (k0_h1 : k0_cond1 i = 1#1), ∀ a x, ((![v2386, v2377] : Fin 2 → IVec S16 32) a x).toNat < S64x256.size a)
theorem k0_idx619_inb : ∀ (i : grid0.Coords) (v2377 : IVec S16 32) (v2386 : IVec S16 32) (k0_hw621 : k0_chk621 i v2377 v2386), ∀ (k0_h1 : k0_cond1 i = 1#1), ∀ a x, ((![v2386, v2377] : Fin 2 → IVec S16 32) a x).toNat < S64x256.size a := fun i v2377 v2386 k0_hw621 k0_h1 => k0_hw621 k0_h1

def k0_chk622 (i : grid0.Coords) (v2379 : IVec S16 32) (v2389 : IVec S16 32) : Prop :=
  (∀ (k0_h1 : k0_cond1 i = 1#1), ∀ a x, ((![v2379, v2389] : Fin 2 → IVec S16 32) a x).toNat < S128x128.size a)
theorem k0_idx620_inb : ∀ (i : grid0.Coords) (v2379 : IVec S16 32) (v2389 : IVec S16 32) (k0_hw622 : k0_chk622 i v2379 v2389), ∀ (k0_h1 : k0_cond1 i = 1#1), ∀ a x, ((![v2379, v2389] : Fin 2 → IVec S16 32) a x).toNat < S128x128.size a := fun i v2379 v2389 k0_hw622 k0_h1 => k0_hw622 k0_h1

def k0_chk623 (i : grid0.Coords) (v2377 : IVec S16 32) (v2391 : IVec S16 32) : Prop :=
  (∀ (k0_h1 : k0_cond1 i = 1#1), ∀ a x, ((![v2391, v2377] : Fin 2 → IVec S16 32) a x).toNat < S64x256.size a)
theorem k0_idx621_inb : ∀ (i : grid0.Coords) (v2377 : IVec S16 32) (v2391 : IVec S16 32) (k0_hw623 : k0_chk623 i v2377 v2391), ∀ (k0_h1 : k0_cond1 i = 1#1), ∀ a x, ((![v2391, v2377] : Fin 2 → IVec S16 32) a x).toNat < S64x256.size a := fun i v2377 v2391 k0_hw623 k0_h1 => k0_hw623 k0_h1

def k0_chk624 (i : grid0.Coords) (v2379 : IVec S16 32) (v2394 : IVec S16 32) : Prop :=
  (∀ (k0_h1 : k0_cond1 i = 1#1), ∀ a x, ((![v2379, v2394] : Fin 2 → IVec S16 32) a x).toNat < S128x128.size a)
theorem k0_idx622_inb : ∀ (i : grid0.Coords) (v2379 : IVec S16 32) (v2394 : IVec S16 32) (k0_hw624 : k0_chk624 i v2379 v2394), ∀ (k0_h1 : k0_cond1 i = 1#1), ∀ a x, ((![v2379, v2394] : Fin 2 → IVec S16 32) a x).toNat < S128x128.size a := fun i v2379 v2394 k0_hw624 k0_h1 => k0_hw624 k0_h1

def k0_chk625 (i : grid0.Coords) (v2377 : IVec S16 32) (v2396 : IVec S16 32) : Prop :=
  (∀ (k0_h1 : k0_cond1 i = 1#1), ∀ a x, ((![v2396, v2377] : Fin 2 → IVec S16 32) a x).toNat < S64x256.size a)
theorem k0_idx623_inb : ∀ (i : grid0.Coords) (v2377 : IVec S16 32) (v2396 : IVec S16 32) (k0_hw625 : k0_chk625 i v2377 v2396), ∀ (k0_h1 : k0_cond1 i = 1#1), ∀ a x, ((![v2396, v2377] : Fin 2 → IVec S16 32) a x).toNat < S64x256.size a := fun i v2377 v2396 k0_hw625 k0_h1 => k0_hw625 k0_h1

def k0_chk626 (i : grid0.Coords) (v2379 : IVec S16 32) (v2399 : IVec S16 32) : Prop :=
  (∀ (k0_h1 : k0_cond1 i = 1#1), ∀ a x, ((![v2379, v2399] : Fin 2 → IVec S16 32) a x).toNat < S128x128.size a)
theorem k0_idx624_inb : ∀ (i : grid0.Coords) (v2379 : IVec S16 32) (v2399 : IVec S16 32) (k0_hw626 : k0_chk626 i v2379 v2399), ∀ (k0_h1 : k0_cond1 i = 1#1), ∀ a x, ((![v2379, v2399] : Fin 2 → IVec S16 32) a x).toNat < S128x128.size a := fun i v2379 v2399 k0_hw626 k0_h1 => k0_hw626 k0_h1

def k0_chk627 (i : grid0.Coords) (v2403 : IVec S16 32) (v2407 : IVec S16 32) : Prop :=
  (∀ (k0_h1 : k0_cond1 i = 1#1), ∀ a x, ((![v2407, v2403] : Fin 2 → IVec S16 32) a x).toNat < S64x256.size a)
theorem k0_idx625_inb : ∀ (i : grid0.Coords) (v2403 : IVec S16 32) (v2407 : IVec S16 32) (k0_hw627 : k0_chk627 i v2403 v2407), ∀ (k0_h1 : k0_cond1 i = 1#1), ∀ a x, ((![v2407, v2403] : Fin 2 → IVec S16 32) a x).toNat < S64x256.size a := fun i v2403 v2407 k0_hw627 k0_h1 => k0_hw627 k0_h1

def k0_chk628 (i : grid0.Coords) (v2405 : IVec S16 32) (v2410 : IVec S16 32) : Prop :=
  (∀ (k0_h1 : k0_cond1 i = 1#1), ∀ a x, ((![v2405, v2410] : Fin 2 → IVec S16 32) a x).toNat < S128x128.size a)
theorem k0_idx626_inb : ∀ (i : grid0.Coords) (v2405 : IVec S16 32) (v2410 : IVec S16 32) (k0_hw628 : k0_chk628 i v2405 v2410), ∀ (k0_h1 : k0_cond1 i = 1#1), ∀ a x, ((![v2405, v2410] : Fin 2 → IVec S16 32) a x).toNat < S128x128.size a := fun i v2405 v2410 k0_hw628 k0_h1 => k0_hw628 k0_h1

def k0_chk629 (i : grid0.Coords) (v2403 : IVec S16 32) (v2412 : IVec S16 32) : Prop :=
  (∀ (k0_h1 : k0_cond1 i = 1#1), ∀ a x, ((![v2412, v2403] : Fin 2 → IVec S16 32) a x).toNat < S64x256.size a)
theorem k0_idx627_inb : ∀ (i : grid0.Coords) (v2403 : IVec S16 32) (v2412 : IVec S16 32) (k0_hw629 : k0_chk629 i v2403 v2412), ∀ (k0_h1 : k0_cond1 i = 1#1), ∀ a x, ((![v2412, v2403] : Fin 2 → IVec S16 32) a x).toNat < S64x256.size a := fun i v2403 v2412 k0_hw629 k0_h1 => k0_hw629 k0_h1

def k0_chk630 (i : grid0.Coords) (v2405 : IVec S16 32) (v2415 : IVec S16 32) : Prop :=
  (∀ (k0_h1 : k0_cond1 i = 1#1), ∀ a x, ((![v2405, v2415] : Fin 2 → IVec S16 32) a x).toNat < S128x128.size a)
theorem k0_idx628_inb : ∀ (i : grid0.Coords) (v2405 : IVec S16 32) (v2415 : IVec S16 32) (k0_hw630 : k0_chk630 i v2405 v2415), ∀ (k0_h1 : k0_cond1 i = 1#1), ∀ a x, ((![v2405, v2415] : Fin 2 → IVec S16 32) a x).toNat < S128x128.size a := fun i v2405 v2415 k0_hw630 k0_h1 => k0_hw630 k0_h1

def k0_chk631 (i : grid0.Coords) (v2403 : IVec S16 32) (v2417 : IVec S16 32) : Prop :=
  (∀ (k0_h1 : k0_cond1 i = 1#1), ∀ a x, ((![v2417, v2403] : Fin 2 → IVec S16 32) a x).toNat < S64x256.size a)
theorem k0_idx629_inb : ∀ (i : grid0.Coords) (v2403 : IVec S16 32) (v2417 : IVec S16 32) (k0_hw631 : k0_chk631 i v2403 v2417), ∀ (k0_h1 : k0_cond1 i = 1#1), ∀ a x, ((![v2417, v2403] : Fin 2 → IVec S16 32) a x).toNat < S64x256.size a := fun i v2403 v2417 k0_hw631 k0_h1 => k0_hw631 k0_h1

def k0_chk632 (i : grid0.Coords) (v2405 : IVec S16 32) (v2420 : IVec S16 32) : Prop :=
  (∀ (k0_h1 : k0_cond1 i = 1#1), ∀ a x, ((![v2405, v2420] : Fin 2 → IVec S16 32) a x).toNat < S128x128.size a)
theorem k0_idx630_inb : ∀ (i : grid0.Coords) (v2405 : IVec S16 32) (v2420 : IVec S16 32) (k0_hw632 : k0_chk632 i v2405 v2420), ∀ (k0_h1 : k0_cond1 i = 1#1), ∀ a x, ((![v2405, v2420] : Fin 2 → IVec S16 32) a x).toNat < S128x128.size a := fun i v2405 v2420 k0_hw632 k0_h1 => k0_hw632 k0_h1

def k0_chk633 (i : grid0.Coords) (v2403 : IVec S16 32) (v2422 : IVec S16 32) : Prop :=
  (∀ (k0_h1 : k0_cond1 i = 1#1), ∀ a x, ((![v2422, v2403] : Fin 2 → IVec S16 32) a x).toNat < S64x256.size a)
theorem k0_idx631_inb : ∀ (i : grid0.Coords) (v2403 : IVec S16 32) (v2422 : IVec S16 32) (k0_hw633 : k0_chk633 i v2403 v2422), ∀ (k0_h1 : k0_cond1 i = 1#1), ∀ a x, ((![v2422, v2403] : Fin 2 → IVec S16 32) a x).toNat < S64x256.size a := fun i v2403 v2422 k0_hw633 k0_h1 => k0_hw633 k0_h1

def k0_chk634 (i : grid0.Coords) (v2405 : IVec S16 32) (v2425 : IVec S16 32) : Prop :=
  (∀ (k0_h1 : k0_cond1 i = 1#1), ∀ a x, ((![v2405, v2425] : Fin 2 → IVec S16 32) a x).toNat < S128x128.size a)
theorem k0_idx632_inb : ∀ (i : grid0.Coords) (v2405 : IVec S16 32) (v2425 : IVec S16 32) (k0_hw634 : k0_chk634 i v2405 v2425), ∀ (k0_h1 : k0_cond1 i = 1#1), ∀ a x, ((![v2405, v2425] : Fin 2 → IVec S16 32) a x).toNat < S128x128.size a := fun i v2405 v2425 k0_hw634 k0_h1 => k0_hw634 k0_h1

def k0_chk635 (i : grid0.Coords) (v2429 : IVec S16 32) (v2433 : IVec S16 32) : Prop :=
  (∀ (k0_h1 : k0_cond1 i = 1#1), ∀ a x, ((![v2433, v2429] : Fin 2 → IVec S16 32) a x).toNat < S64x256.size a)
theorem k0_idx633_inb : ∀ (i : grid0.Coords) (v2429 : IVec S16 32) (v2433 : IVec S16 32) (k0_hw635 : k0_chk635 i v2429 v2433), ∀ (k0_h1 : k0_cond1 i = 1#1), ∀ a x, ((![v2433, v2429] : Fin 2 → IVec S16 32) a x).toNat < S64x256.size a := fun i v2429 v2433 k0_hw635 k0_h1 => k0_hw635 k0_h1

def k0_chk636 (i : grid0.Coords) (v2431 : IVec S16 32) (v2436 : IVec S16 32) : Prop :=
  (∀ (k0_h1 : k0_cond1 i = 1#1), ∀ a x, ((![v2431, v2436] : Fin 2 → IVec S16 32) a x).toNat < S128x128.size a)
theorem k0_idx634_inb : ∀ (i : grid0.Coords) (v2431 : IVec S16 32) (v2436 : IVec S16 32) (k0_hw636 : k0_chk636 i v2431 v2436), ∀ (k0_h1 : k0_cond1 i = 1#1), ∀ a x, ((![v2431, v2436] : Fin 2 → IVec S16 32) a x).toNat < S128x128.size a := fun i v2431 v2436 k0_hw636 k0_h1 => k0_hw636 k0_h1

def k0_chk637 (i : grid0.Coords) (v2429 : IVec S16 32) (v2438 : IVec S16 32) : Prop :=
  (∀ (k0_h1 : k0_cond1 i = 1#1), ∀ a x, ((![v2438, v2429] : Fin 2 → IVec S16 32) a x).toNat < S64x256.size a)
theorem k0_idx635_inb : ∀ (i : grid0.Coords) (v2429 : IVec S16 32) (v2438 : IVec S16 32) (k0_hw637 : k0_chk637 i v2429 v2438), ∀ (k0_h1 : k0_cond1 i = 1#1), ∀ a x, ((![v2438, v2429] : Fin 2 → IVec S16 32) a x).toNat < S64x256.size a := fun i v2429 v2438 k0_hw637 k0_h1 => k0_hw637 k0_h1

def k0_chk638 (i : grid0.Coords) (v2431 : IVec S16 32) (v2441 : IVec S16 32) : Prop :=
  (∀ (k0_h1 : k0_cond1 i = 1#1), ∀ a x, ((![v2431, v2441] : Fin 2 → IVec S16 32) a x).toNat < S128x128.size a)
theorem k0_idx636_inb : ∀ (i : grid0.Coords) (v2431 : IVec S16 32) (v2441 : IVec S16 32) (k0_hw638 : k0_chk638 i v2431 v2441), ∀ (k0_h1 : k0_cond1 i = 1#1), ∀ a x, ((![v2431, v2441] : Fin 2 → IVec S16 32) a x).toNat < S128x128.size a := fun i v2431 v2441 k0_hw638 k0_h1 => k0_hw638 k0_h1

def k0_chk639 (i : grid0.Coords) (v2429 : IVec S16 32) (v2443 : IVec S16 32) : Prop :=
  (∀ (k0_h1 : k0_cond1 i = 1#1), ∀ a x, ((![v2443, v2429] : Fin 2 → IVec S16 32) a x).toNat < S64x256.size a)
theorem k0_idx637_inb : ∀ (i : grid0.Coords) (v2429 : IVec S16 32) (v2443 : IVec S16 32) (k0_hw639 : k0_chk639 i v2429 v2443), ∀ (k0_h1 : k0_cond1 i = 1#1), ∀ a x, ((![v2443, v2429] : Fin 2 → IVec S16 32) a x).toNat < S64x256.size a := fun i v2429 v2443 k0_hw639 k0_h1 => k0_hw639 k0_h1

def k0_chk640 (i : grid0.Coords) (v2431 : IVec S16 32) (v2446 : IVec S16 32) : Prop :=
  (∀ (k0_h1 : k0_cond1 i = 1#1), ∀ a x, ((![v2431, v2446] : Fin 2 → IVec S16 32) a x).toNat < S128x128.size a)
theorem k0_idx638_inb : ∀ (i : grid0.Coords) (v2431 : IVec S16 32) (v2446 : IVec S16 32) (k0_hw640 : k0_chk640 i v2431 v2446), ∀ (k0_h1 : k0_cond1 i = 1#1), ∀ a x, ((![v2431, v2446] : Fin 2 → IVec S16 32) a x).toNat < S128x128.size a := fun i v2431 v2446 k0_hw640 k0_h1 => k0_hw640 k0_h1

def k0_chk641 (i : grid0.Coords) (v2429 : IVec S16 32) (v2448 : IVec S16 32) : Prop :=
  (∀ (k0_h1 : k0_cond1 i = 1#1), ∀ a x, ((![v2448, v2429] : Fin 2 → IVec S16 32) a x).toNat < S64x256.size a)
theorem k0_idx639_inb : ∀ (i : grid0.Coords) (v2429 : IVec S16 32) (v2448 : IVec S16 32) (k0_hw641 : k0_chk641 i v2429 v2448), ∀ (k0_h1 : k0_cond1 i = 1#1), ∀ a x, ((![v2448, v2429] : Fin 2 → IVec S16 32) a x).toNat < S64x256.size a := fun i v2429 v2448 k0_hw641 k0_h1 => k0_hw641 k0_h1

def k0_chk642 (i : grid0.Coords) (v2431 : IVec S16 32) (v2451 : IVec S16 32) : Prop :=
  (∀ (k0_h1 : k0_cond1 i = 1#1), ∀ a x, ((![v2431, v2451] : Fin 2 → IVec S16 32) a x).toNat < S128x128.size a)
theorem k0_idx640_inb : ∀ (i : grid0.Coords) (v2431 : IVec S16 32) (v2451 : IVec S16 32) (k0_hw642 : k0_chk642 i v2431 v2451), ∀ (k0_h1 : k0_cond1 i = 1#1), ∀ a x, ((![v2431, v2451] : Fin 2 → IVec S16 32) a x).toNat < S128x128.size a := fun i v2431 v2451 k0_hw642 k0_h1 => k0_hw642 k0_h1

def k0_chk643 (i : grid0.Coords) (v2455 : IVec S16 32) (v2459 : IVec S16 32) : Prop :=
  (∀ (k0_h1 : k0_cond1 i = 1#1), ∀ a x, ((![v2459, v2455] : Fin 2 → IVec S16 32) a x).toNat < S64x256.size a)
theorem k0_idx641_inb : ∀ (i : grid0.Coords) (v2455 : IVec S16 32) (v2459 : IVec S16 32) (k0_hw643 : k0_chk643 i v2455 v2459), ∀ (k0_h1 : k0_cond1 i = 1#1), ∀ a x, ((![v2459, v2455] : Fin 2 → IVec S16 32) a x).toNat < S64x256.size a := fun i v2455 v2459 k0_hw643 k0_h1 => k0_hw643 k0_h1

def k0_chk644 (i : grid0.Coords) (v2457 : IVec S16 32) (v2462 : IVec S16 32) : Prop :=
  (∀ (k0_h1 : k0_cond1 i = 1#1), ∀ a x, ((![v2457, v2462] : Fin 2 → IVec S16 32) a x).toNat < S128x128.size a)
theorem k0_idx642_inb : ∀ (i : grid0.Coords) (v2457 : IVec S16 32) (v2462 : IVec S16 32) (k0_hw644 : k0_chk644 i v2457 v2462), ∀ (k0_h1 : k0_cond1 i = 1#1), ∀ a x, ((![v2457, v2462] : Fin 2 → IVec S16 32) a x).toNat < S128x128.size a := fun i v2457 v2462 k0_hw644 k0_h1 => k0_hw644 k0_h1

def k0_chk645 (i : grid0.Coords) (v2455 : IVec S16 32) (v2464 : IVec S16 32) : Prop :=
  (∀ (k0_h1 : k0_cond1 i = 1#1), ∀ a x, ((![v2464, v2455] : Fin 2 → IVec S16 32) a x).toNat < S64x256.size a)
theorem k0_idx643_inb : ∀ (i : grid0.Coords) (v2455 : IVec S16 32) (v2464 : IVec S16 32) (k0_hw645 : k0_chk645 i v2455 v2464), ∀ (k0_h1 : k0_cond1 i = 1#1), ∀ a x, ((![v2464, v2455] : Fin 2 → IVec S16 32) a x).toNat < S64x256.size a := fun i v2455 v2464 k0_hw645 k0_h1 => k0_hw645 k0_h1

def k0_chk646 (i : grid0.Coords) (v2457 : IVec S16 32) (v2467 : IVec S16 32) : Prop :=
  (∀ (k0_h1 : k0_cond1 i = 1#1), ∀ a x, ((![v2457, v2467] : Fin 2 → IVec S16 32) a x).toNat < S128x128.size a)
theorem k0_idx644_inb : ∀ (i : grid0.Coords) (v2457 : IVec S16 32) (v2467 : IVec S16 32) (k0_hw646 : k0_chk646 i v2457 v2467), ∀ (k0_h1 : k0_cond1 i = 1#1), ∀ a x, ((![v2457, v2467] : Fin 2 → IVec S16 32) a x).toNat < S128x128.size a := fun i v2457 v2467 k0_hw646 k0_h1 => k0_hw646 k0_h1

def k0_chk647 (i : grid0.Coords) (v2455 : IVec S16 32) (v2469 : IVec S16 32) : Prop :=
  (∀ (k0_h1 : k0_cond1 i = 1#1), ∀ a x, ((![v2469, v2455] : Fin 2 → IVec S16 32) a x).toNat < S64x256.size a)
theorem k0_idx645_inb : ∀ (i : grid0.Coords) (v2455 : IVec S16 32) (v2469 : IVec S16 32) (k0_hw647 : k0_chk647 i v2455 v2469), ∀ (k0_h1 : k0_cond1 i = 1#1), ∀ a x, ((![v2469, v2455] : Fin 2 → IVec S16 32) a x).toNat < S64x256.size a := fun i v2455 v2469 k0_hw647 k0_h1 => k0_hw647 k0_h1

def k0_chk648 (i : grid0.Coords) (v2457 : IVec S16 32) (v2472 : IVec S16 32) : Prop :=
  (∀ (k0_h1 : k0_cond1 i = 1#1), ∀ a x, ((![v2457, v2472] : Fin 2 → IVec S16 32) a x).toNat < S128x128.size a)
theorem k0_idx646_inb : ∀ (i : grid0.Coords) (v2457 : IVec S16 32) (v2472 : IVec S16 32) (k0_hw648 : k0_chk648 i v2457 v2472), ∀ (k0_h1 : k0_cond1 i = 1#1), ∀ a x, ((![v2457, v2472] : Fin 2 → IVec S16 32) a x).toNat < S128x128.size a := fun i v2457 v2472 k0_hw648 k0_h1 => k0_hw648 k0_h1

def k0_chk649 (i : grid0.Coords) (v2455 : IVec S16 32) (v2474 : IVec S16 32) : Prop :=
  (∀ (k0_h1 : k0_cond1 i = 1#1), ∀ a x, ((![v2474, v2455] : Fin 2 → IVec S16 32) a x).toNat < S64x256.size a)
theorem k0_idx647_inb : ∀ (i : grid0.Coords) (v2455 : IVec S16 32) (v2474 : IVec S16 32) (k0_hw649 : k0_chk649 i v2455 v2474), ∀ (k0_h1 : k0_cond1 i = 1#1), ∀ a x, ((![v2474, v2455] : Fin 2 → IVec S16 32) a x).toNat < S64x256.size a := fun i v2455 v2474 k0_hw649 k0_h1 => k0_hw649 k0_h1

def k0_chk650 (i : grid0.Coords) (v2457 : IVec S16 32) (v2477 : IVec S16 32) : Prop :=
  (∀ (k0_h1 : k0_cond1 i = 1#1), ∀ a x, ((![v2457, v2477] : Fin 2 → IVec S16 32) a x).toNat < S128x128.size a)
theorem k0_idx648_inb : ∀ (i : grid0.Coords) (v2457 : IVec S16 32) (v2477 : IVec S16 32) (k0_hw650 : k0_chk650 i v2457 v2477), ∀ (k0_h1 : k0_cond1 i = 1#1), ∀ a x, ((![v2457, v2477] : Fin 2 → IVec S16 32) a x).toNat < S128x128.size a := fun i v2457 v2477 k0_hw650 k0_h1 => k0_hw650 k0_h1

def k0_chk651 (i : grid0.Coords) (v2481 : IVec S16 32) (v2485 : IVec S16 32) : Prop :=
  (∀ (k0_h1 : k0_cond1 i = 1#1), ∀ a x, ((![v2485, v2481] : Fin 2 → IVec S16 32) a x).toNat < S64x256.size a)
theorem k0_idx649_inb : ∀ (i : grid0.Coords) (v2481 : IVec S16 32) (v2485 : IVec S16 32) (k0_hw651 : k0_chk651 i v2481 v2485), ∀ (k0_h1 : k0_cond1 i = 1#1), ∀ a x, ((![v2485, v2481] : Fin 2 → IVec S16 32) a x).toNat < S64x256.size a := fun i v2481 v2485 k0_hw651 k0_h1 => k0_hw651 k0_h1

def k0_chk652 (i : grid0.Coords) (v2483 : IVec S16 32) (v2488 : IVec S16 32) : Prop :=
  (∀ (k0_h1 : k0_cond1 i = 1#1), ∀ a x, ((![v2483, v2488] : Fin 2 → IVec S16 32) a x).toNat < S128x128.size a)
theorem k0_idx650_inb : ∀ (i : grid0.Coords) (v2483 : IVec S16 32) (v2488 : IVec S16 32) (k0_hw652 : k0_chk652 i v2483 v2488), ∀ (k0_h1 : k0_cond1 i = 1#1), ∀ a x, ((![v2483, v2488] : Fin 2 → IVec S16 32) a x).toNat < S128x128.size a := fun i v2483 v2488 k0_hw652 k0_h1 => k0_hw652 k0_h1

def k0_chk653 (i : grid0.Coords) (v2481 : IVec S16 32) (v2490 : IVec S16 32) : Prop :=
  (∀ (k0_h1 : k0_cond1 i = 1#1), ∀ a x, ((![v2490, v2481] : Fin 2 → IVec S16 32) a x).toNat < S64x256.size a)
theorem k0_idx651_inb : ∀ (i : grid0.Coords) (v2481 : IVec S16 32) (v2490 : IVec S16 32) (k0_hw653 : k0_chk653 i v2481 v2490), ∀ (k0_h1 : k0_cond1 i = 1#1), ∀ a x, ((![v2490, v2481] : Fin 2 → IVec S16 32) a x).toNat < S64x256.size a := fun i v2481 v2490 k0_hw653 k0_h1 => k0_hw653 k0_h1

def k0_chk654 (i : grid0.Coords) (v2483 : IVec S16 32) (v2493 : IVec S16 32) : Prop :=
  (∀ (k0_h1 : k0_cond1 i = 1#1), ∀ a x, ((![v2483, v2493] : Fin 2 → IVec S16 32) a x).toNat < S128x128.size a)
theorem k0_idx652_inb : ∀ (i : grid0.Coords) (v2483 : IVec S16 32) (v2493 : IVec S16 32) (k0_hw654 : k0_chk654 i v2483 v2493), ∀ (k0_h1 : k0_cond1 i = 1#1), ∀ a x, ((![v2483, v2493] : Fin 2 → IVec S16 32) a x).toNat < S128x128.size a := fun i v2483 v2493 k0_hw654 k0_h1 => k0_hw654 k0_h1

def k0_chk655 (i : grid0.Coords) (v2481 : IVec S16 32) (v2495 : IVec S16 32) : Prop :=
  (∀ (k0_h1 : k0_cond1 i = 1#1), ∀ a x, ((![v2495, v2481] : Fin 2 → IVec S16 32) a x).toNat < S64x256.size a)
theorem k0_idx653_inb : ∀ (i : grid0.Coords) (v2481 : IVec S16 32) (v2495 : IVec S16 32) (k0_hw655 : k0_chk655 i v2481 v2495), ∀ (k0_h1 : k0_cond1 i = 1#1), ∀ a x, ((![v2495, v2481] : Fin 2 → IVec S16 32) a x).toNat < S64x256.size a := fun i v2481 v2495 k0_hw655 k0_h1 => k0_hw655 k0_h1

def k0_chk656 (i : grid0.Coords) (v2483 : IVec S16 32) (v2498 : IVec S16 32) : Prop :=
  (∀ (k0_h1 : k0_cond1 i = 1#1), ∀ a x, ((![v2483, v2498] : Fin 2 → IVec S16 32) a x).toNat < S128x128.size a)
theorem k0_idx654_inb : ∀ (i : grid0.Coords) (v2483 : IVec S16 32) (v2498 : IVec S16 32) (k0_hw656 : k0_chk656 i v2483 v2498), ∀ (k0_h1 : k0_cond1 i = 1#1), ∀ a x, ((![v2483, v2498] : Fin 2 → IVec S16 32) a x).toNat < S128x128.size a := fun i v2483 v2498 k0_hw656 k0_h1 => k0_hw656 k0_h1

def k0_chk657 (i : grid0.Coords) (v2481 : IVec S16 32) (v2500 : IVec S16 32) : Prop :=
  (∀ (k0_h1 : k0_cond1 i = 1#1), ∀ a x, ((![v2500, v2481] : Fin 2 → IVec S16 32) a x).toNat < S64x256.size a)
theorem k0_idx655_inb : ∀ (i : grid0.Coords) (v2481 : IVec S16 32) (v2500 : IVec S16 32) (k0_hw657 : k0_chk657 i v2481 v2500), ∀ (k0_h1 : k0_cond1 i = 1#1), ∀ a x, ((![v2500, v2481] : Fin 2 → IVec S16 32) a x).toNat < S64x256.size a := fun i v2481 v2500 k0_hw657 k0_h1 => k0_hw657 k0_h1

def k0_chk658 (i : grid0.Coords) (v2483 : IVec S16 32) (v2503 : IVec S16 32) : Prop :=
  (∀ (k0_h1 : k0_cond1 i = 1#1), ∀ a x, ((![v2483, v2503] : Fin 2 → IVec S16 32) a x).toNat < S128x128.size a)
theorem k0_idx656_inb : ∀ (i : grid0.Coords) (v2483 : IVec S16 32) (v2503 : IVec S16 32) (k0_hw658 : k0_chk658 i v2483 v2503), ∀ (k0_h1 : k0_cond1 i = 1#1), ∀ a x, ((![v2483, v2503] : Fin 2 → IVec S16 32) a x).toNat < S128x128.size a := fun i v2483 v2503 k0_hw658 k0_h1 => k0_hw658 k0_h1
@[reducible] def k0_t9_loop (v2045 : BitVec 32) (v2048 : BitVec 32) : Scf.Loop 32 :=
  let c0_i32_191 : BitVec 32 := 0#32
  let v2049 : BitVec 32 := Scalar.subi v2048 v2045
  let c16_i32_188 : BitVec 32 := 16#32
  let v2050 : BitVec 32 := Scalar.addi v2049 c16_i32_188
  let c1_i32_189 : BitVec 32 := 1#32
  let v2051 : BitVec 32 := Scalar.subi v2050 c1_i32_189
  let c4_i32_190 : BitVec 32 := 4#32
  let v2052 : BitVec 32 := Scalar.shrsi v2051 c4_i32_190
  let v2053 : BitVec 32 := Scalar.subi v2052 c0_i32_191
  let c1_i32_192 : BitVec 32 := 1#32
  let v2055 : BitVec 32 := Scalar.divsi v2053 c1_i32_192
  let v2056 : BitVec 32 := Scalar.muli v2055 c1_i32_192
  let v2057 : BitVec 32 := Scalar.addi c0_i32_191 v2056
  let v2054 : BitVec 32 := Scalar.addi c0_i32_191 v2053
  let c1_i32_194 : BitVec 32 := 1#32
  ⟨v2057, v2054, c1_i32_194⟩

def k0_chk528 (i : grid0.Coords) (v2045 : BitVec 32) (v2048 : BitVec 32) : Prop :=
  (∀ (k0_h1 : k0_cond1 i = 1#1), (k0_t8_loop v2045 v2048).OK) ∧
  (∀ (k0_h1 : k0_cond1 i = 1#1), (k0_t9_loop v2045 v2048).OK)
theorem k0_t8_ok : ∀ (i : grid0.Coords) (v2045 : BitVec 32) (v2048 : BitVec 32) (k0_hw528 : k0_chk528 i v2045 v2048), ∀ (k0_h1 : k0_cond1 i = 1#1), (k0_t8_loop v2045 v2048).OK := fun i v2045 v2048 k0_hw528 k0_h1 => k0_hw528.1 k0_h1
theorem k0_t9_ok : ∀ (i : grid0.Coords) (v2045 : BitVec 32) (v2048 : BitVec 32) (k0_hw528 : k0_chk528 i v2045 v2048), ∀ (k0_h1 : k0_cond1 i = 1#1), (k0_t9_loop v2045 v2048).OK := fun i v2045 v2048 k0_hw528 k0_h1 => k0_hw528.2 k0_h1

def k0_chk659 (i : grid0.Coords) (v2075 : IVec S16 32) : Prop :=
  (∀ (k0_h1 : k0_cond1 i = 1#1), ∀ a x, ((![v2075] : Fin 1 → IVec S16 32) a x).toNat < S4096.size a)
theorem k0_idx657_inb : ∀ (i : grid0.Coords) (v2075 : IVec S16 32) (k0_hw659 : k0_chk659 i v2075), ∀ (k0_h1 : k0_cond1 i = 1#1), ∀ a x, ((![v2075] : Fin 1 → IVec S16 32) a x).toNat < S4096.size a := fun i v2075 k0_hw659 k0_h1 => k0_hw659 k0_h1

def k0_chk660 (i : grid0.Coords) (v2087 : IVec S16 32) : Prop :=
  (∀ (k0_h1 : k0_cond1 i = 1#1), ∀ a x, ((![v2087] : Fin 1 → IVec S16 32) a x).toNat < S128.size a)
theorem k0_idx658_inb : ∀ (i : grid0.Coords) (v2087 : IVec S16 32) (k0_hw660 : k0_chk660 i v2087), ∀ (k0_h1 : k0_cond1 i = 1#1), ∀ a x, ((![v2087] : Fin 1 → IVec S16 32) a x).toNat < S128.size a := fun i v2087 k0_hw660 k0_h1 => k0_hw660 k0_h1

def k0_chk661 (i : grid0.Coords) (v2091 : IVec S16 32) (v2095 : IVec S16 32) : Prop :=
  (∀ (k0_h1 : k0_cond1 i = 1#1), ∀ a x, ((![v2095, v2091] : Fin 2 → IVec S16 32) a x).toNat < S64x256.size a)
theorem k0_idx659_inb : ∀ (i : grid0.Coords) (v2091 : IVec S16 32) (v2095 : IVec S16 32) (k0_hw661 : k0_chk661 i v2091 v2095), ∀ (k0_h1 : k0_cond1 i = 1#1), ∀ a x, ((![v2095, v2091] : Fin 2 → IVec S16 32) a x).toNat < S64x256.size a := fun i v2091 v2095 k0_hw661 k0_h1 => k0_hw661 k0_h1

def k0_chk662 (i : grid0.Coords) (v2093 : IVec S16 32) (v2098 : IVec S16 32) : Prop :=
  (∀ (k0_h1 : k0_cond1 i = 1#1), ∀ a x, ((![v2093, v2098] : Fin 2 → IVec S16 32) a x).toNat < S128x128.size a)
theorem k0_idx660_inb : ∀ (i : grid0.Coords) (v2093 : IVec S16 32) (v2098 : IVec S16 32) (k0_hw662 : k0_chk662 i v2093 v2098), ∀ (k0_h1 : k0_cond1 i = 1#1), ∀ a x, ((![v2093, v2098] : Fin 2 → IVec S16 32) a x).toNat < S128x128.size a := fun i v2093 v2098 k0_hw662 k0_h1 => k0_hw662 k0_h1

def k0_chk663 (i : grid0.Coords) (v2091 : IVec S16 32) (v2100 : IVec S16 32) : Prop :=
  (∀ (k0_h1 : k0_cond1 i = 1#1), ∀ a x, ((![v2100, v2091] : Fin 2 → IVec S16 32) a x).toNat < S64x256.size a)
theorem k0_idx661_inb : ∀ (i : grid0.Coords) (v2091 : IVec S16 32) (v2100 : IVec S16 32) (k0_hw663 : k0_chk663 i v2091 v2100), ∀ (k0_h1 : k0_cond1 i = 1#1), ∀ a x, ((![v2100, v2091] : Fin 2 → IVec S16 32) a x).toNat < S64x256.size a := fun i v2091 v2100 k0_hw663 k0_h1 => k0_hw663 k0_h1

def k0_chk664 (i : grid0.Coords) (v2093 : IVec S16 32) (v2103 : IVec S16 32) : Prop :=
  (∀ (k0_h1 : k0_cond1 i = 1#1), ∀ a x, ((![v2093, v2103] : Fin 2 → IVec S16 32) a x).toNat < S128x128.size a)
theorem k0_idx662_inb : ∀ (i : grid0.Coords) (v2093 : IVec S16 32) (v2103 : IVec S16 32) (k0_hw664 : k0_chk664 i v2093 v2103), ∀ (k0_h1 : k0_cond1 i = 1#1), ∀ a x, ((![v2093, v2103] : Fin 2 → IVec S16 32) a x).toNat < S128x128.size a := fun i v2093 v2103 k0_hw664 k0_h1 => k0_hw664 k0_h1

def k0_chk665 (i : grid0.Coords) (v2091 : IVec S16 32) (v2105 : IVec S16 32) : Prop :=
  (∀ (k0_h1 : k0_cond1 i = 1#1), ∀ a x, ((![v2105, v2091] : Fin 2 → IVec S16 32) a x).toNat < S64x256.size a)
theorem k0_idx663_inb : ∀ (i : grid0.Coords) (v2091 : IVec S16 32) (v2105 : IVec S16 32) (k0_hw665 : k0_chk665 i v2091 v2105), ∀ (k0_h1 : k0_cond1 i = 1#1), ∀ a x, ((![v2105, v2091] : Fin 2 → IVec S16 32) a x).toNat < S64x256.size a := fun i v2091 v2105 k0_hw665 k0_h1 => k0_hw665 k0_h1

def k0_chk666 (i : grid0.Coords) (v2093 : IVec S16 32) (v2108 : IVec S16 32) : Prop :=
  (∀ (k0_h1 : k0_cond1 i = 1#1), ∀ a x, ((![v2093, v2108] : Fin 2 → IVec S16 32) a x).toNat < S128x128.size a)
theorem k0_idx664_inb : ∀ (i : grid0.Coords) (v2093 : IVec S16 32) (v2108 : IVec S16 32) (k0_hw666 : k0_chk666 i v2093 v2108), ∀ (k0_h1 : k0_cond1 i = 1#1), ∀ a x, ((![v2093, v2108] : Fin 2 → IVec S16 32) a x).toNat < S128x128.size a := fun i v2093 v2108 k0_hw666 k0_h1 => k0_hw666 k0_h1

def k0_chk667 (i : grid0.Coords) (v2091 : IVec S16 32) (v2110 : IVec S16 32) : Prop :=
  (∀ (k0_h1 : k0_cond1 i = 1#1), ∀ a x, ((![v2110, v2091] : Fin 2 → IVec S16 32) a x).toNat < S64x256.size a)
theorem k0_idx665_inb : ∀ (i : grid0.Coords) (v2091 : IVec S16 32) (v2110 : IVec S16 32) (k0_hw667 : k0_chk667 i v2091 v2110), ∀ (k0_h1 : k0_cond1 i = 1#1), ∀ a x, ((![v2110, v2091] : Fin 2 → IVec S16 32) a x).toNat < S64x256.size a := fun i v2091 v2110 k0_hw667 k0_h1 => k0_hw667 k0_h1

def k0_chk668 (i : grid0.Coords) (v2093 : IVec S16 32) (v2113 : IVec S16 32) : Prop :=
  (∀ (k0_h1 : k0_cond1 i = 1#1), ∀ a x, ((![v2093, v2113] : Fin 2 → IVec S16 32) a x).toNat < S128x128.size a)
theorem k0_idx666_inb : ∀ (i : grid0.Coords) (v2093 : IVec S16 32) (v2113 : IVec S16 32) (k0_hw668 : k0_chk668 i v2093 v2113), ∀ (k0_h1 : k0_cond1 i = 1#1), ∀ a x, ((![v2093, v2113] : Fin 2 → IVec S16 32) a x).toNat < S128x128.size a := fun i v2093 v2113 k0_hw668 k0_h1 => k0_hw668 k0_h1

def k0_chk669 (i : grid0.Coords) (v2117 : IVec S16 32) (v2121 : IVec S16 32) : Prop :=
  (∀ (k0_h1 : k0_cond1 i = 1#1), ∀ a x, ((![v2121, v2117] : Fin 2 → IVec S16 32) a x).toNat < S64x256.size a)
theorem k0_idx667_inb : ∀ (i : grid0.Coords) (v2117 : IVec S16 32) (v2121 : IVec S16 32) (k0_hw669 : k0_chk669 i v2117 v2121), ∀ (k0_h1 : k0_cond1 i = 1#1), ∀ a x, ((![v2121, v2117] : Fin 2 → IVec S16 32) a x).toNat < S64x256.size a := fun i v2117 v2121 k0_hw669 k0_h1 => k0_hw669 k0_h1

def k0_chk670 (i : grid0.Coords) (v2119 : IVec S16 32) (v2124 : IVec S16 32) : Prop :=
  (∀ (k0_h1 : k0_cond1 i = 1#1), ∀ a x, ((![v2119, v2124] : Fin 2 → IVec S16 32) a x).toNat < S128x128.size a)
theorem k0_idx668_inb : ∀ (i : grid0.Coords) (v2119 : IVec S16 32) (v2124 : IVec S16 32) (k0_hw670 : k0_chk670 i v2119 v2124), ∀ (k0_h1 : k0_cond1 i = 1#1), ∀ a x, ((![v2119, v2124] : Fin 2 → IVec S16 32) a x).toNat < S128x128.size a := fun i v2119 v2124 k0_hw670 k0_h1 => k0_hw670 k0_h1

def k0_chk671 (i : grid0.Coords) (v2117 : IVec S16 32) (v2126 : IVec S16 32) : Prop :=
  (∀ (k0_h1 : k0_cond1 i = 1#1), ∀ a x, ((![v2126, v2117] : Fin 2 → IVec S16 32) a x).toNat < S64x256.size a)
theorem k0_idx669_inb : ∀ (i : grid0.Coords) (v2117 : IVec S16 32) (v2126 : IVec S16 32) (k0_hw671 : k0_chk671 i v2117 v2126), ∀ (k0_h1 : k0_cond1 i = 1#1), ∀ a x, ((![v2126, v2117] : Fin 2 → IVec S16 32) a x).toNat < S64x256.size a := fun i v2117 v2126 k0_hw671 k0_h1 => k0_hw671 k0_h1

def k0_chk672 (i : grid0.Coords) (v2119 : IVec S16 32) (v2129 : IVec S16 32) : Prop :=
  (∀ (k0_h1 : k0_cond1 i = 1#1), ∀ a x, ((![v2119, v2129] : Fin 2 → IVec S16 32) a x).toNat < S128x128.size a)
theorem k0_idx670_inb : ∀ (i : grid0.Coords) (v2119 : IVec S16 32) (v2129 : IVec S16 32) (k0_hw672 : k0_chk672 i v2119 v2129), ∀ (k0_h1 : k0_cond1 i = 1#1), ∀ a x, ((![v2119, v2129] : Fin 2 → IVec S16 32) a x).toNat < S128x128.size a := fun i v2119 v2129 k0_hw672 k0_h1 => k0_hw672 k0_h1

def k0_chk673 (i : grid0.Coords) (v2117 : IVec S16 32) (v2131 : IVec S16 32) : Prop :=
  (∀ (k0_h1 : k0_cond1 i = 1#1), ∀ a x, ((![v2131, v2117] : Fin 2 → IVec S16 32) a x).toNat < S64x256.size a)
theorem k0_idx671_inb : ∀ (i : grid0.Coords) (v2117 : IVec S16 32) (v2131 : IVec S16 32) (k0_hw673 : k0_chk673 i v2117 v2131), ∀ (k0_h1 : k0_cond1 i = 1#1), ∀ a x, ((![v2131, v2117] : Fin 2 → IVec S16 32) a x).toNat < S64x256.size a := fun i v2117 v2131 k0_hw673 k0_h1 => k0_hw673 k0_h1

def k0_chk674 (i : grid0.Coords) (v2119 : IVec S16 32) (v2134 : IVec S16 32) : Prop :=
  (∀ (k0_h1 : k0_cond1 i = 1#1), ∀ a x, ((![v2119, v2134] : Fin 2 → IVec S16 32) a x).toNat < S128x128.size a)
theorem k0_idx672_inb : ∀ (i : grid0.Coords) (v2119 : IVec S16 32) (v2134 : IVec S16 32) (k0_hw674 : k0_chk674 i v2119 v2134), ∀ (k0_h1 : k0_cond1 i = 1#1), ∀ a x, ((![v2119, v2134] : Fin 2 → IVec S16 32) a x).toNat < S128x128.size a := fun i v2119 v2134 k0_hw674 k0_h1 => k0_hw674 k0_h1

def k0_chk675 (i : grid0.Coords) (v2117 : IVec S16 32) (v2136 : IVec S16 32) : Prop :=
  (∀ (k0_h1 : k0_cond1 i = 1#1), ∀ a x, ((![v2136, v2117] : Fin 2 → IVec S16 32) a x).toNat < S64x256.size a)
theorem k0_idx673_inb : ∀ (i : grid0.Coords) (v2117 : IVec S16 32) (v2136 : IVec S16 32) (k0_hw675 : k0_chk675 i v2117 v2136), ∀ (k0_h1 : k0_cond1 i = 1#1), ∀ a x, ((![v2136, v2117] : Fin 2 → IVec S16 32) a x).toNat < S64x256.size a := fun i v2117 v2136 k0_hw675 k0_h1 => k0_hw675 k0_h1

def k0_chk676 (i : grid0.Coords) (v2119 : IVec S16 32) (v2139 : IVec S16 32) : Prop :=
  (∀ (k0_h1 : k0_cond1 i = 1#1), ∀ a x, ((![v2119, v2139] : Fin 2 → IVec S16 32) a x).toNat < S128x128.size a)
theorem k0_idx674_inb : ∀ (i : grid0.Coords) (v2119 : IVec S16 32) (v2139 : IVec S16 32) (k0_hw676 : k0_chk676 i v2119 v2139), ∀ (k0_h1 : k0_cond1 i = 1#1), ∀ a x, ((![v2119, v2139] : Fin 2 → IVec S16 32) a x).toNat < S128x128.size a := fun i v2119 v2139 k0_hw676 k0_h1 => k0_hw676 k0_h1

def k0_chk677 (i : grid0.Coords) (v2143 : IVec S16 32) (v2147 : IVec S16 32) : Prop :=
  (∀ (k0_h1 : k0_cond1 i = 1#1), ∀ a x, ((![v2147, v2143] : Fin 2 → IVec S16 32) a x).toNat < S64x256.size a)
theorem k0_idx675_inb : ∀ (i : grid0.Coords) (v2143 : IVec S16 32) (v2147 : IVec S16 32) (k0_hw677 : k0_chk677 i v2143 v2147), ∀ (k0_h1 : k0_cond1 i = 1#1), ∀ a x, ((![v2147, v2143] : Fin 2 → IVec S16 32) a x).toNat < S64x256.size a := fun i v2143 v2147 k0_hw677 k0_h1 => k0_hw677 k0_h1

def k0_chk678 (i : grid0.Coords) (v2145 : IVec S16 32) (v2150 : IVec S16 32) : Prop :=
  (∀ (k0_h1 : k0_cond1 i = 1#1), ∀ a x, ((![v2145, v2150] : Fin 2 → IVec S16 32) a x).toNat < S128x128.size a)
theorem k0_idx676_inb : ∀ (i : grid0.Coords) (v2145 : IVec S16 32) (v2150 : IVec S16 32) (k0_hw678 : k0_chk678 i v2145 v2150), ∀ (k0_h1 : k0_cond1 i = 1#1), ∀ a x, ((![v2145, v2150] : Fin 2 → IVec S16 32) a x).toNat < S128x128.size a := fun i v2145 v2150 k0_hw678 k0_h1 => k0_hw678 k0_h1

def k0_chk679 (i : grid0.Coords) (v2143 : IVec S16 32) (v2152 : IVec S16 32) : Prop :=
  (∀ (k0_h1 : k0_cond1 i = 1#1), ∀ a x, ((![v2152, v2143] : Fin 2 → IVec S16 32) a x).toNat < S64x256.size a)
theorem k0_idx677_inb : ∀ (i : grid0.Coords) (v2143 : IVec S16 32) (v2152 : IVec S16 32) (k0_hw679 : k0_chk679 i v2143 v2152), ∀ (k0_h1 : k0_cond1 i = 1#1), ∀ a x, ((![v2152, v2143] : Fin 2 → IVec S16 32) a x).toNat < S64x256.size a := fun i v2143 v2152 k0_hw679 k0_h1 => k0_hw679 k0_h1

def k0_chk680 (i : grid0.Coords) (v2145 : IVec S16 32) (v2155 : IVec S16 32) : Prop :=
  (∀ (k0_h1 : k0_cond1 i = 1#1), ∀ a x, ((![v2145, v2155] : Fin 2 → IVec S16 32) a x).toNat < S128x128.size a)
theorem k0_idx678_inb : ∀ (i : grid0.Coords) (v2145 : IVec S16 32) (v2155 : IVec S16 32) (k0_hw680 : k0_chk680 i v2145 v2155), ∀ (k0_h1 : k0_cond1 i = 1#1), ∀ a x, ((![v2145, v2155] : Fin 2 → IVec S16 32) a x).toNat < S128x128.size a := fun i v2145 v2155 k0_hw680 k0_h1 => k0_hw680 k0_h1

def k0_chk681 (i : grid0.Coords) (v2143 : IVec S16 32) (v2157 : IVec S16 32) : Prop :=
  (∀ (k0_h1 : k0_cond1 i = 1#1), ∀ a x, ((![v2157, v2143] : Fin 2 → IVec S16 32) a x).toNat < S64x256.size a)
theorem k0_idx679_inb : ∀ (i : grid0.Coords) (v2143 : IVec S16 32) (v2157 : IVec S16 32) (k0_hw681 : k0_chk681 i v2143 v2157), ∀ (k0_h1 : k0_cond1 i = 1#1), ∀ a x, ((![v2157, v2143] : Fin 2 → IVec S16 32) a x).toNat < S64x256.size a := fun i v2143 v2157 k0_hw681 k0_h1 => k0_hw681 k0_h1

def k0_chk682 (i : grid0.Coords) (v2145 : IVec S16 32) (v2160 : IVec S16 32) : Prop :=
  (∀ (k0_h1 : k0_cond1 i = 1#1), ∀ a x, ((![v2145, v2160] : Fin 2 → IVec S16 32) a x).toNat < S128x128.size a)
theorem k0_idx680_inb : ∀ (i : grid0.Coords) (v2145 : IVec S16 32) (v2160 : IVec S16 32) (k0_hw682 : k0_chk682 i v2145 v2160), ∀ (k0_h1 : k0_cond1 i = 1#1), ∀ a x, ((![v2145, v2160] : Fin 2 → IVec S16 32) a x).toNat < S128x128.size a := fun i v2145 v2160 k0_hw682 k0_h1 => k0_hw682 k0_h1

def k0_chk683 (i : grid0.Coords) (v2143 : IVec S16 32) (v2162 : IVec S16 32) : Prop :=
  (∀ (k0_h1 : k0_cond1 i = 1#1), ∀ a x, ((![v2162, v2143] : Fin 2 → IVec S16 32) a x).toNat < S64x256.size a)
theorem k0_idx681_inb : ∀ (i : grid0.Coords) (v2143 : IVec S16 32) (v2162 : IVec S16 32) (k0_hw683 : k0_chk683 i v2143 v2162), ∀ (k0_h1 : k0_cond1 i = 1#1), ∀ a x, ((![v2162, v2143] : Fin 2 → IVec S16 32) a x).toNat < S64x256.size a := fun i v2143 v2162 k0_hw683 k0_h1 => k0_hw683 k0_h1

def k0_chk684 (i : grid0.Coords) (v2145 : IVec S16 32) (v2165 : IVec S16 32) : Prop :=
  (∀ (k0_h1 : k0_cond1 i = 1#1), ∀ a x, ((![v2145, v2165] : Fin 2 → IVec S16 32) a x).toNat < S128x128.size a)
theorem k0_idx682_inb : ∀ (i : grid0.Coords) (v2145 : IVec S16 32) (v2165 : IVec S16 32) (k0_hw684 : k0_chk684 i v2145 v2165), ∀ (k0_h1 : k0_cond1 i = 1#1), ∀ a x, ((![v2145, v2165] : Fin 2 → IVec S16 32) a x).toNat < S128x128.size a := fun i v2145 v2165 k0_hw684 k0_h1 => k0_hw684 k0_h1

def k0_chk685 (i : grid0.Coords) (v2169 : IVec S16 32) (v2173 : IVec S16 32) : Prop :=
  (∀ (k0_h1 : k0_cond1 i = 1#1), ∀ a x, ((![v2173, v2169] : Fin 2 → IVec S16 32) a x).toNat < S64x256.size a)
theorem k0_idx683_inb : ∀ (i : grid0.Coords) (v2169 : IVec S16 32) (v2173 : IVec S16 32) (k0_hw685 : k0_chk685 i v2169 v2173), ∀ (k0_h1 : k0_cond1 i = 1#1), ∀ a x, ((![v2173, v2169] : Fin 2 → IVec S16 32) a x).toNat < S64x256.size a := fun i v2169 v2173 k0_hw685 k0_h1 => k0_hw685 k0_h1

def k0_chk686 (i : grid0.Coords) (v2171 : IVec S16 32) (v2176 : IVec S16 32) : Prop :=
  (∀ (k0_h1 : k0_cond1 i = 1#1), ∀ a x, ((![v2171, v2176] : Fin 2 → IVec S16 32) a x).toNat < S128x128.size a)
theorem k0_idx684_inb : ∀ (i : grid0.Coords) (v2171 : IVec S16 32) (v2176 : IVec S16 32) (k0_hw686 : k0_chk686 i v2171 v2176), ∀ (k0_h1 : k0_cond1 i = 1#1), ∀ a x, ((![v2171, v2176] : Fin 2 → IVec S16 32) a x).toNat < S128x128.size a := fun i v2171 v2176 k0_hw686 k0_h1 => k0_hw686 k0_h1

def k0_chk687 (i : grid0.Coords) (v2169 : IVec S16 32) (v2178 : IVec S16 32) : Prop :=
  (∀ (k0_h1 : k0_cond1 i = 1#1), ∀ a x, ((![v2178, v2169] : Fin 2 → IVec S16 32) a x).toNat < S64x256.size a)
theorem k0_idx685_inb : ∀ (i : grid0.Coords) (v2169 : IVec S16 32) (v2178 : IVec S16 32) (k0_hw687 : k0_chk687 i v2169 v2178), ∀ (k0_h1 : k0_cond1 i = 1#1), ∀ a x, ((![v2178, v2169] : Fin 2 → IVec S16 32) a x).toNat < S64x256.size a := fun i v2169 v2178 k0_hw687 k0_h1 => k0_hw687 k0_h1

def k0_chk688 (i : grid0.Coords) (v2171 : IVec S16 32) (v2181 : IVec S16 32) : Prop :=
  (∀ (k0_h1 : k0_cond1 i = 1#1), ∀ a x, ((![v2171, v2181] : Fin 2 → IVec S16 32) a x).toNat < S128x128.size a)
theorem k0_idx686_inb : ∀ (i : grid0.Coords) (v2171 : IVec S16 32) (v2181 : IVec S16 32) (k0_hw688 : k0_chk688 i v2171 v2181), ∀ (k0_h1 : k0_cond1 i = 1#1), ∀ a x, ((![v2171, v2181] : Fin 2 → IVec S16 32) a x).toNat < S128x128.size a := fun i v2171 v2181 k0_hw688 k0_h1 => k0_hw688 k0_h1

def k0_chk689 (i : grid0.Coords) (v2169 : IVec S16 32) (v2183 : IVec S16 32) : Prop :=
  (∀ (k0_h1 : k0_cond1 i = 1#1), ∀ a x, ((![v2183, v2169] : Fin 2 → IVec S16 32) a x).toNat < S64x256.size a)
theorem k0_idx687_inb : ∀ (i : grid0.Coords) (v2169 : IVec S16 32) (v2183 : IVec S16 32) (k0_hw689 : k0_chk689 i v2169 v2183), ∀ (k0_h1 : k0_cond1 i = 1#1), ∀ a x, ((![v2183, v2169] : Fin 2 → IVec S16 32) a x).toNat < S64x256.size a := fun i v2169 v2183 k0_hw689 k0_h1 => k0_hw689 k0_h1

def k0_chk690 (i : grid0.Coords) (v2171 : IVec S16 32) (v2186 : IVec S16 32) : Prop :=
  (∀ (k0_h1 : k0_cond1 i = 1#1), ∀ a x, ((![v2171, v2186] : Fin 2 → IVec S16 32) a x).toNat < S128x128.size a)
theorem k0_idx688_inb : ∀ (i : grid0.Coords) (v2171 : IVec S16 32) (v2186 : IVec S16 32) (k0_hw690 : k0_chk690 i v2171 v2186), ∀ (k0_h1 : k0_cond1 i = 1#1), ∀ a x, ((![v2171, v2186] : Fin 2 → IVec S16 32) a x).toNat < S128x128.size a := fun i v2171 v2186 k0_hw690 k0_h1 => k0_hw690 k0_h1

def k0_chk691 (i : grid0.Coords) (v2169 : IVec S16 32) (v2188 : IVec S16 32) : Prop :=
  (∀ (k0_h1 : k0_cond1 i = 1#1), ∀ a x, ((![v2188, v2169] : Fin 2 → IVec S16 32) a x).toNat < S64x256.size a)
theorem k0_idx689_inb : ∀ (i : grid0.Coords) (v2169 : IVec S16 32) (v2188 : IVec S16 32) (k0_hw691 : k0_chk691 i v2169 v2188), ∀ (k0_h1 : k0_cond1 i = 1#1), ∀ a x, ((![v2188, v2169] : Fin 2 → IVec S16 32) a x).toNat < S64x256.size a := fun i v2169 v2188 k0_hw691 k0_h1 => k0_hw691 k0_h1

def k0_chk692 (i : grid0.Coords) (v2171 : IVec S16 32) (v2191 : IVec S16 32) : Prop :=
  (∀ (k0_h1 : k0_cond1 i = 1#1), ∀ a x, ((![v2171, v2191] : Fin 2 → IVec S16 32) a x).toNat < S128x128.size a)
theorem k0_idx690_inb : ∀ (i : grid0.Coords) (v2171 : IVec S16 32) (v2191 : IVec S16 32) (k0_hw692 : k0_chk692 i v2171 v2191), ∀ (k0_h1 : k0_cond1 i = 1#1), ∀ a x, ((![v2171, v2191] : Fin 2 → IVec S16 32) a x).toNat < S128x128.size a := fun i v2171 v2191 k0_hw692 k0_h1 => k0_hw692 k0_h1

def k0_chk693 (i : grid0.Coords) (v2195 : IVec S16 32) (v2199 : IVec S16 32) : Prop :=
  (∀ (k0_h1 : k0_cond1 i = 1#1), ∀ a x, ((![v2199, v2195] : Fin 2 → IVec S16 32) a x).toNat < S64x256.size a)
theorem k0_idx691_inb : ∀ (i : grid0.Coords) (v2195 : IVec S16 32) (v2199 : IVec S16 32) (k0_hw693 : k0_chk693 i v2195 v2199), ∀ (k0_h1 : k0_cond1 i = 1#1), ∀ a x, ((![v2199, v2195] : Fin 2 → IVec S16 32) a x).toNat < S64x256.size a := fun i v2195 v2199 k0_hw693 k0_h1 => k0_hw693 k0_h1

def k0_chk694 (i : grid0.Coords) (v2197 : IVec S16 32) (v2202 : IVec S16 32) : Prop :=
  (∀ (k0_h1 : k0_cond1 i = 1#1), ∀ a x, ((![v2197, v2202] : Fin 2 → IVec S16 32) a x).toNat < S128x128.size a)
theorem k0_idx692_inb : ∀ (i : grid0.Coords) (v2197 : IVec S16 32) (v2202 : IVec S16 32) (k0_hw694 : k0_chk694 i v2197 v2202), ∀ (k0_h1 : k0_cond1 i = 1#1), ∀ a x, ((![v2197, v2202] : Fin 2 → IVec S16 32) a x).toNat < S128x128.size a := fun i v2197 v2202 k0_hw694 k0_h1 => k0_hw694 k0_h1

def k0_chk695 (i : grid0.Coords) (v2195 : IVec S16 32) (v2204 : IVec S16 32) : Prop :=
  (∀ (k0_h1 : k0_cond1 i = 1#1), ∀ a x, ((![v2204, v2195] : Fin 2 → IVec S16 32) a x).toNat < S64x256.size a)
theorem k0_idx693_inb : ∀ (i : grid0.Coords) (v2195 : IVec S16 32) (v2204 : IVec S16 32) (k0_hw695 : k0_chk695 i v2195 v2204), ∀ (k0_h1 : k0_cond1 i = 1#1), ∀ a x, ((![v2204, v2195] : Fin 2 → IVec S16 32) a x).toNat < S64x256.size a := fun i v2195 v2204 k0_hw695 k0_h1 => k0_hw695 k0_h1

def k0_chk696 (i : grid0.Coords) (v2197 : IVec S16 32) (v2207 : IVec S16 32) : Prop :=
  (∀ (k0_h1 : k0_cond1 i = 1#1), ∀ a x, ((![v2197, v2207] : Fin 2 → IVec S16 32) a x).toNat < S128x128.size a)
theorem k0_idx694_inb : ∀ (i : grid0.Coords) (v2197 : IVec S16 32) (v2207 : IVec S16 32) (k0_hw696 : k0_chk696 i v2197 v2207), ∀ (k0_h1 : k0_cond1 i = 1#1), ∀ a x, ((![v2197, v2207] : Fin 2 → IVec S16 32) a x).toNat < S128x128.size a := fun i v2197 v2207 k0_hw696 k0_h1 => k0_hw696 k0_h1

def k0_chk697 (i : grid0.Coords) (v2195 : IVec S16 32) (v2209 : IVec S16 32) : Prop :=
  (∀ (k0_h1 : k0_cond1 i = 1#1), ∀ a x, ((![v2209, v2195] : Fin 2 → IVec S16 32) a x).toNat < S64x256.size a)
theorem k0_idx695_inb : ∀ (i : grid0.Coords) (v2195 : IVec S16 32) (v2209 : IVec S16 32) (k0_hw697 : k0_chk697 i v2195 v2209), ∀ (k0_h1 : k0_cond1 i = 1#1), ∀ a x, ((![v2209, v2195] : Fin 2 → IVec S16 32) a x).toNat < S64x256.size a := fun i v2195 v2209 k0_hw697 k0_h1 => k0_hw697 k0_h1

def k0_chk698 (i : grid0.Coords) (v2197 : IVec S16 32) (v2212 : IVec S16 32) : Prop :=
  (∀ (k0_h1 : k0_cond1 i = 1#1), ∀ a x, ((![v2197, v2212] : Fin 2 → IVec S16 32) a x).toNat < S128x128.size a)
theorem k0_idx696_inb : ∀ (i : grid0.Coords) (v2197 : IVec S16 32) (v2212 : IVec S16 32) (k0_hw698 : k0_chk698 i v2197 v2212), ∀ (k0_h1 : k0_cond1 i = 1#1), ∀ a x, ((![v2197, v2212] : Fin 2 → IVec S16 32) a x).toNat < S128x128.size a := fun i v2197 v2212 k0_hw698 k0_h1 => k0_hw698 k0_h1

def k0_chk699 (i : grid0.Coords) (v2195 : IVec S16 32) (v2214 : IVec S16 32) : Prop :=
  (∀ (k0_h1 : k0_cond1 i = 1#1), ∀ a x, ((![v2214, v2195] : Fin 2 → IVec S16 32) a x).toNat < S64x256.size a)
theorem k0_idx697_inb : ∀ (i : grid0.Coords) (v2195 : IVec S16 32) (v2214 : IVec S16 32) (k0_hw699 : k0_chk699 i v2195 v2214), ∀ (k0_h1 : k0_cond1 i = 1#1), ∀ a x, ((![v2214, v2195] : Fin 2 → IVec S16 32) a x).toNat < S64x256.size a := fun i v2195 v2214 k0_hw699 k0_h1 => k0_hw699 k0_h1

def k0_chk700 (i : grid0.Coords) (v2197 : IVec S16 32) (v2217 : IVec S16 32) : Prop :=
  (∀ (k0_h1 : k0_cond1 i = 1#1), ∀ a x, ((![v2197, v2217] : Fin 2 → IVec S16 32) a x).toNat < S128x128.size a)
theorem k0_idx698_inb : ∀ (i : grid0.Coords) (v2197 : IVec S16 32) (v2217 : IVec S16 32) (k0_hw700 : k0_chk700 i v2197 v2217), ∀ (k0_h1 : k0_cond1 i = 1#1), ∀ a x, ((![v2197, v2217] : Fin 2 → IVec S16 32) a x).toNat < S128x128.size a := fun i v2197 v2217 k0_hw700 k0_h1 => k0_hw700 k0_h1

def k0_chk701 (i : grid0.Coords) (v2221 : IVec S16 32) (v2225 : IVec S16 32) : Prop :=
  (∀ (k0_h1 : k0_cond1 i = 1#1), ∀ a x, ((![v2225, v2221] : Fin 2 → IVec S16 32) a x).toNat < S64x256.size a)
theorem k0_idx699_inb : ∀ (i : grid0.Coords) (v2221 : IVec S16 32) (v2225 : IVec S16 32) (k0_hw701 : k0_chk701 i v2221 v2225), ∀ (k0_h1 : k0_cond1 i = 1#1), ∀ a x, ((![v2225, v2221] : Fin 2 → IVec S16 32) a x).toNat < S64x256.size a := fun i v2221 v2225 k0_hw701 k0_h1 => k0_hw701 k0_h1

def k0_chk702 (i : grid0.Coords) (v2223 : IVec S16 32) (v2228 : IVec S16 32) : Prop :=
  (∀ (k0_h1 : k0_cond1 i = 1#1), ∀ a x, ((![v2223, v2228] : Fin 2 → IVec S16 32) a x).toNat < S128x128.size a)
theorem k0_idx700_inb : ∀ (i : grid0.Coords) (v2223 : IVec S16 32) (v2228 : IVec S16 32) (k0_hw702 : k0_chk702 i v2223 v2228), ∀ (k0_h1 : k0_cond1 i = 1#1), ∀ a x, ((![v2223, v2228] : Fin 2 → IVec S16 32) a x).toNat < S128x128.size a := fun i v2223 v2228 k0_hw702 k0_h1 => k0_hw702 k0_h1

def k0_chk703 (i : grid0.Coords) (v2221 : IVec S16 32) (v2230 : IVec S16 32) : Prop :=
  (∀ (k0_h1 : k0_cond1 i = 1#1), ∀ a x, ((![v2230, v2221] : Fin 2 → IVec S16 32) a x).toNat < S64x256.size a)
theorem k0_idx701_inb : ∀ (i : grid0.Coords) (v2221 : IVec S16 32) (v2230 : IVec S16 32) (k0_hw703 : k0_chk703 i v2221 v2230), ∀ (k0_h1 : k0_cond1 i = 1#1), ∀ a x, ((![v2230, v2221] : Fin 2 → IVec S16 32) a x).toNat < S64x256.size a := fun i v2221 v2230 k0_hw703 k0_h1 => k0_hw703 k0_h1

def k0_chk704 (i : grid0.Coords) (v2223 : IVec S16 32) (v2233 : IVec S16 32) : Prop :=
  (∀ (k0_h1 : k0_cond1 i = 1#1), ∀ a x, ((![v2223, v2233] : Fin 2 → IVec S16 32) a x).toNat < S128x128.size a)
theorem k0_idx702_inb : ∀ (i : grid0.Coords) (v2223 : IVec S16 32) (v2233 : IVec S16 32) (k0_hw704 : k0_chk704 i v2223 v2233), ∀ (k0_h1 : k0_cond1 i = 1#1), ∀ a x, ((![v2223, v2233] : Fin 2 → IVec S16 32) a x).toNat < S128x128.size a := fun i v2223 v2233 k0_hw704 k0_h1 => k0_hw704 k0_h1

def k0_chk705 (i : grid0.Coords) (v2221 : IVec S16 32) (v2235 : IVec S16 32) : Prop :=
  (∀ (k0_h1 : k0_cond1 i = 1#1), ∀ a x, ((![v2235, v2221] : Fin 2 → IVec S16 32) a x).toNat < S64x256.size a)
theorem k0_idx703_inb : ∀ (i : grid0.Coords) (v2221 : IVec S16 32) (v2235 : IVec S16 32) (k0_hw705 : k0_chk705 i v2221 v2235), ∀ (k0_h1 : k0_cond1 i = 1#1), ∀ a x, ((![v2235, v2221] : Fin 2 → IVec S16 32) a x).toNat < S64x256.size a := fun i v2221 v2235 k0_hw705 k0_h1 => k0_hw705 k0_h1

def k0_chk706 (i : grid0.Coords) (v2223 : IVec S16 32) (v2238 : IVec S16 32) : Prop :=
  (∀ (k0_h1 : k0_cond1 i = 1#1), ∀ a x, ((![v2223, v2238] : Fin 2 → IVec S16 32) a x).toNat < S128x128.size a)
theorem k0_idx704_inb : ∀ (i : grid0.Coords) (v2223 : IVec S16 32) (v2238 : IVec S16 32) (k0_hw706 : k0_chk706 i v2223 v2238), ∀ (k0_h1 : k0_cond1 i = 1#1), ∀ a x, ((![v2223, v2238] : Fin 2 → IVec S16 32) a x).toNat < S128x128.size a := fun i v2223 v2238 k0_hw706 k0_h1 => k0_hw706 k0_h1

def k0_chk707 (i : grid0.Coords) (v2221 : IVec S16 32) (v2240 : IVec S16 32) : Prop :=
  (∀ (k0_h1 : k0_cond1 i = 1#1), ∀ a x, ((![v2240, v2221] : Fin 2 → IVec S16 32) a x).toNat < S64x256.size a)
theorem k0_idx705_inb : ∀ (i : grid0.Coords) (v2221 : IVec S16 32) (v2240 : IVec S16 32) (k0_hw707 : k0_chk707 i v2221 v2240), ∀ (k0_h1 : k0_cond1 i = 1#1), ∀ a x, ((![v2240, v2221] : Fin 2 → IVec S16 32) a x).toNat < S64x256.size a := fun i v2221 v2240 k0_hw707 k0_h1 => k0_hw707 k0_h1

def k0_chk708 (i : grid0.Coords) (v2223 : IVec S16 32) (v2243 : IVec S16 32) : Prop :=
  (∀ (k0_h1 : k0_cond1 i = 1#1), ∀ a x, ((![v2223, v2243] : Fin 2 → IVec S16 32) a x).toNat < S128x128.size a)
theorem k0_idx706_inb : ∀ (i : grid0.Coords) (v2223 : IVec S16 32) (v2243 : IVec S16 32) (k0_hw708 : k0_chk708 i v2223 v2243), ∀ (k0_h1 : k0_cond1 i = 1#1), ∀ a x, ((![v2223, v2243] : Fin 2 → IVec S16 32) a x).toNat < S128x128.size a := fun i v2223 v2243 k0_hw708 k0_h1 => k0_hw708 k0_h1

def k0_chk709 (i : grid0.Coords) (v2247 : IVec S16 32) (v2251 : IVec S16 32) : Prop :=
  (∀ (k0_h1 : k0_cond1 i = 1#1), ∀ a x, ((![v2251, v2247] : Fin 2 → IVec S16 32) a x).toNat < S64x256.size a)
theorem k0_idx707_inb : ∀ (i : grid0.Coords) (v2247 : IVec S16 32) (v2251 : IVec S16 32) (k0_hw709 : k0_chk709 i v2247 v2251), ∀ (k0_h1 : k0_cond1 i = 1#1), ∀ a x, ((![v2251, v2247] : Fin 2 → IVec S16 32) a x).toNat < S64x256.size a := fun i v2247 v2251 k0_hw709 k0_h1 => k0_hw709 k0_h1

def k0_chk710 (i : grid0.Coords) (v2249 : IVec S16 32) (v2254 : IVec S16 32) : Prop :=
  (∀ (k0_h1 : k0_cond1 i = 1#1), ∀ a x, ((![v2249, v2254] : Fin 2 → IVec S16 32) a x).toNat < S128x128.size a)
theorem k0_idx708_inb : ∀ (i : grid0.Coords) (v2249 : IVec S16 32) (v2254 : IVec S16 32) (k0_hw710 : k0_chk710 i v2249 v2254), ∀ (k0_h1 : k0_cond1 i = 1#1), ∀ a x, ((![v2249, v2254] : Fin 2 → IVec S16 32) a x).toNat < S128x128.size a := fun i v2249 v2254 k0_hw710 k0_h1 => k0_hw710 k0_h1

def k0_chk711 (i : grid0.Coords) (v2247 : IVec S16 32) (v2256 : IVec S16 32) : Prop :=
  (∀ (k0_h1 : k0_cond1 i = 1#1), ∀ a x, ((![v2256, v2247] : Fin 2 → IVec S16 32) a x).toNat < S64x256.size a)
theorem k0_idx709_inb : ∀ (i : grid0.Coords) (v2247 : IVec S16 32) (v2256 : IVec S16 32) (k0_hw711 : k0_chk711 i v2247 v2256), ∀ (k0_h1 : k0_cond1 i = 1#1), ∀ a x, ((![v2256, v2247] : Fin 2 → IVec S16 32) a x).toNat < S64x256.size a := fun i v2247 v2256 k0_hw711 k0_h1 => k0_hw711 k0_h1

def k0_chk712 (i : grid0.Coords) (v2249 : IVec S16 32) (v2259 : IVec S16 32) : Prop :=
  (∀ (k0_h1 : k0_cond1 i = 1#1), ∀ a x, ((![v2249, v2259] : Fin 2 → IVec S16 32) a x).toNat < S128x128.size a)
theorem k0_idx710_inb : ∀ (i : grid0.Coords) (v2249 : IVec S16 32) (v2259 : IVec S16 32) (k0_hw712 : k0_chk712 i v2249 v2259), ∀ (k0_h1 : k0_cond1 i = 1#1), ∀ a x, ((![v2249, v2259] : Fin 2 → IVec S16 32) a x).toNat < S128x128.size a := fun i v2249 v2259 k0_hw712 k0_h1 => k0_hw712 k0_h1

def k0_chk713 (i : grid0.Coords) (v2247 : IVec S16 32) (v2261 : IVec S16 32) : Prop :=
  (∀ (k0_h1 : k0_cond1 i = 1#1), ∀ a x, ((![v2261, v2247] : Fin 2 → IVec S16 32) a x).toNat < S64x256.size a)
theorem k0_idx711_inb : ∀ (i : grid0.Coords) (v2247 : IVec S16 32) (v2261 : IVec S16 32) (k0_hw713 : k0_chk713 i v2247 v2261), ∀ (k0_h1 : k0_cond1 i = 1#1), ∀ a x, ((![v2261, v2247] : Fin 2 → IVec S16 32) a x).toNat < S64x256.size a := fun i v2247 v2261 k0_hw713 k0_h1 => k0_hw713 k0_h1

def k0_chk714 (i : grid0.Coords) (v2249 : IVec S16 32) (v2264 : IVec S16 32) : Prop :=
  (∀ (k0_h1 : k0_cond1 i = 1#1), ∀ a x, ((![v2249, v2264] : Fin 2 → IVec S16 32) a x).toNat < S128x128.size a)
theorem k0_idx712_inb : ∀ (i : grid0.Coords) (v2249 : IVec S16 32) (v2264 : IVec S16 32) (k0_hw714 : k0_chk714 i v2249 v2264), ∀ (k0_h1 : k0_cond1 i = 1#1), ∀ a x, ((![v2249, v2264] : Fin 2 → IVec S16 32) a x).toNat < S128x128.size a := fun i v2249 v2264 k0_hw714 k0_h1 => k0_hw714 k0_h1

def k0_chk715 (i : grid0.Coords) (v2247 : IVec S16 32) (v2266 : IVec S16 32) : Prop :=
  (∀ (k0_h1 : k0_cond1 i = 1#1), ∀ a x, ((![v2266, v2247] : Fin 2 → IVec S16 32) a x).toNat < S64x256.size a)
theorem k0_idx713_inb : ∀ (i : grid0.Coords) (v2247 : IVec S16 32) (v2266 : IVec S16 32) (k0_hw715 : k0_chk715 i v2247 v2266), ∀ (k0_h1 : k0_cond1 i = 1#1), ∀ a x, ((![v2266, v2247] : Fin 2 → IVec S16 32) a x).toNat < S64x256.size a := fun i v2247 v2266 k0_hw715 k0_h1 => k0_hw715 k0_h1

def k0_chk716 (i : grid0.Coords) (v2249 : IVec S16 32) (v2269 : IVec S16 32) : Prop :=
  (∀ (k0_h1 : k0_cond1 i = 1#1), ∀ a x, ((![v2249, v2269] : Fin 2 → IVec S16 32) a x).toNat < S128x128.size a)
theorem k0_idx714_inb : ∀ (i : grid0.Coords) (v2249 : IVec S16 32) (v2269 : IVec S16 32) (k0_hw716 : k0_chk716 i v2249 v2269), ∀ (k0_h1 : k0_cond1 i = 1#1), ∀ a x, ((![v2249, v2269] : Fin 2 → IVec S16 32) a x).toNat < S128x128.size a := fun i v2249 v2269 k0_hw716 k0_h1 => k0_hw716 k0_h1

def k0_chk717 (i : grid0.Coords) (v2273 : IVec S16 32) (v2277 : IVec S16 32) : Prop :=
  (∀ (k0_h1 : k0_cond1 i = 1#1), ∀ a x, ((![v2277, v2273] : Fin 2 → IVec S16 32) a x).toNat < S64x256.size a)
theorem k0_idx715_inb : ∀ (i : grid0.Coords) (v2273 : IVec S16 32) (v2277 : IVec S16 32) (k0_hw717 : k0_chk717 i v2273 v2277), ∀ (k0_h1 : k0_cond1 i = 1#1), ∀ a x, ((![v2277, v2273] : Fin 2 → IVec S16 32) a x).toNat < S64x256.size a := fun i v2273 v2277 k0_hw717 k0_h1 => k0_hw717 k0_h1

def k0_chk718 (i : grid0.Coords) (v2275 : IVec S16 32) (v2280 : IVec S16 32) : Prop :=
  (∀ (k0_h1 : k0_cond1 i = 1#1), ∀ a x, ((![v2275, v2280] : Fin 2 → IVec S16 32) a x).toNat < S128x128.size a)
theorem k0_idx716_inb : ∀ (i : grid0.Coords) (v2275 : IVec S16 32) (v2280 : IVec S16 32) (k0_hw718 : k0_chk718 i v2275 v2280), ∀ (k0_h1 : k0_cond1 i = 1#1), ∀ a x, ((![v2275, v2280] : Fin 2 → IVec S16 32) a x).toNat < S128x128.size a := fun i v2275 v2280 k0_hw718 k0_h1 => k0_hw718 k0_h1

def k0_chk719 (i : grid0.Coords) (v2273 : IVec S16 32) (v2282 : IVec S16 32) : Prop :=
  (∀ (k0_h1 : k0_cond1 i = 1#1), ∀ a x, ((![v2282, v2273] : Fin 2 → IVec S16 32) a x).toNat < S64x256.size a)
theorem k0_idx717_inb : ∀ (i : grid0.Coords) (v2273 : IVec S16 32) (v2282 : IVec S16 32) (k0_hw719 : k0_chk719 i v2273 v2282), ∀ (k0_h1 : k0_cond1 i = 1#1), ∀ a x, ((![v2282, v2273] : Fin 2 → IVec S16 32) a x).toNat < S64x256.size a := fun i v2273 v2282 k0_hw719 k0_h1 => k0_hw719 k0_h1

def k0_chk720 (i : grid0.Coords) (v2275 : IVec S16 32) (v2285 : IVec S16 32) : Prop :=
  (∀ (k0_h1 : k0_cond1 i = 1#1), ∀ a x, ((![v2275, v2285] : Fin 2 → IVec S16 32) a x).toNat < S128x128.size a)
theorem k0_idx718_inb : ∀ (i : grid0.Coords) (v2275 : IVec S16 32) (v2285 : IVec S16 32) (k0_hw720 : k0_chk720 i v2275 v2285), ∀ (k0_h1 : k0_cond1 i = 1#1), ∀ a x, ((![v2275, v2285] : Fin 2 → IVec S16 32) a x).toNat < S128x128.size a := fun i v2275 v2285 k0_hw720 k0_h1 => k0_hw720 k0_h1

def k0_chk721 (i : grid0.Coords) (v2273 : IVec S16 32) (v2287 : IVec S16 32) : Prop :=
  (∀ (k0_h1 : k0_cond1 i = 1#1), ∀ a x, ((![v2287, v2273] : Fin 2 → IVec S16 32) a x).toNat < S64x256.size a)
theorem k0_idx719_inb : ∀ (i : grid0.Coords) (v2273 : IVec S16 32) (v2287 : IVec S16 32) (k0_hw721 : k0_chk721 i v2273 v2287), ∀ (k0_h1 : k0_cond1 i = 1#1), ∀ a x, ((![v2287, v2273] : Fin 2 → IVec S16 32) a x).toNat < S64x256.size a := fun i v2273 v2287 k0_hw721 k0_h1 => k0_hw721 k0_h1

def k0_chk722 (i : grid0.Coords) (v2275 : IVec S16 32) (v2290 : IVec S16 32) : Prop :=
  (∀ (k0_h1 : k0_cond1 i = 1#1), ∀ a x, ((![v2275, v2290] : Fin 2 → IVec S16 32) a x).toNat < S128x128.size a)
theorem k0_idx720_inb : ∀ (i : grid0.Coords) (v2275 : IVec S16 32) (v2290 : IVec S16 32) (k0_hw722 : k0_chk722 i v2275 v2290), ∀ (k0_h1 : k0_cond1 i = 1#1), ∀ a x, ((![v2275, v2290] : Fin 2 → IVec S16 32) a x).toNat < S128x128.size a := fun i v2275 v2290 k0_hw722 k0_h1 => k0_hw722 k0_h1

def k0_chk723 (i : grid0.Coords) (v2273 : IVec S16 32) (v2292 : IVec S16 32) : Prop :=
  (∀ (k0_h1 : k0_cond1 i = 1#1), ∀ a x, ((![v2292, v2273] : Fin 2 → IVec S16 32) a x).toNat < S64x256.size a)
theorem k0_idx721_inb : ∀ (i : grid0.Coords) (v2273 : IVec S16 32) (v2292 : IVec S16 32) (k0_hw723 : k0_chk723 i v2273 v2292), ∀ (k0_h1 : k0_cond1 i = 1#1), ∀ a x, ((![v2292, v2273] : Fin 2 → IVec S16 32) a x).toNat < S64x256.size a := fun i v2273 v2292 k0_hw723 k0_h1 => k0_hw723 k0_h1

def k0_chk724 (i : grid0.Coords) (v2275 : IVec S16 32) (v2295 : IVec S16 32) : Prop :=
  (∀ (k0_h1 : k0_cond1 i = 1#1), ∀ a x, ((![v2275, v2295] : Fin 2 → IVec S16 32) a x).toNat < S128x128.size a)
theorem k0_idx722_inb : ∀ (i : grid0.Coords) (v2275 : IVec S16 32) (v2295 : IVec S16 32) (k0_hw724 : k0_chk724 i v2275 v2295), ∀ (k0_h1 : k0_cond1 i = 1#1), ∀ a x, ((![v2275, v2295] : Fin 2 → IVec S16 32) a x).toNat < S128x128.size a := fun i v2275 v2295 k0_hw724 k0_h1 => k0_hw724 k0_h1

def k0_chk725 (i : grid0.Coords) (v2299 : IVec S16 32) (v2303 : IVec S16 32) : Prop :=
  (∀ (k0_h1 : k0_cond1 i = 1#1), ∀ a x, ((![v2303, v2299] : Fin 2 → IVec S16 32) a x).toNat < S64x256.size a)
theorem k0_idx723_inb : ∀ (i : grid0.Coords) (v2299 : IVec S16 32) (v2303 : IVec S16 32) (k0_hw725 : k0_chk725 i v2299 v2303), ∀ (k0_h1 : k0_cond1 i = 1#1), ∀ a x, ((![v2303, v2299] : Fin 2 → IVec S16 32) a x).toNat < S64x256.size a := fun i v2299 v2303 k0_hw725 k0_h1 => k0_hw725 k0_h1

def k0_chk726 (i : grid0.Coords) (v2301 : IVec S16 32) (v2306 : IVec S16 32) : Prop :=
  (∀ (k0_h1 : k0_cond1 i = 1#1), ∀ a x, ((![v2301, v2306] : Fin 2 → IVec S16 32) a x).toNat < S128x128.size a)
theorem k0_idx724_inb : ∀ (i : grid0.Coords) (v2301 : IVec S16 32) (v2306 : IVec S16 32) (k0_hw726 : k0_chk726 i v2301 v2306), ∀ (k0_h1 : k0_cond1 i = 1#1), ∀ a x, ((![v2301, v2306] : Fin 2 → IVec S16 32) a x).toNat < S128x128.size a := fun i v2301 v2306 k0_hw726 k0_h1 => k0_hw726 k0_h1

def k0_chk727 (i : grid0.Coords) (v2299 : IVec S16 32) (v2308 : IVec S16 32) : Prop :=
  (∀ (k0_h1 : k0_cond1 i = 1#1), ∀ a x, ((![v2308, v2299] : Fin 2 → IVec S16 32) a x).toNat < S64x256.size a)
theorem k0_idx725_inb : ∀ (i : grid0.Coords) (v2299 : IVec S16 32) (v2308 : IVec S16 32) (k0_hw727 : k0_chk727 i v2299 v2308), ∀ (k0_h1 : k0_cond1 i = 1#1), ∀ a x, ((![v2308, v2299] : Fin 2 → IVec S16 32) a x).toNat < S64x256.size a := fun i v2299 v2308 k0_hw727 k0_h1 => k0_hw727 k0_h1

def k0_chk728 (i : grid0.Coords) (v2301 : IVec S16 32) (v2311 : IVec S16 32) : Prop :=
  (∀ (k0_h1 : k0_cond1 i = 1#1), ∀ a x, ((![v2301, v2311] : Fin 2 → IVec S16 32) a x).toNat < S128x128.size a)
theorem k0_idx726_inb : ∀ (i : grid0.Coords) (v2301 : IVec S16 32) (v2311 : IVec S16 32) (k0_hw728 : k0_chk728 i v2301 v2311), ∀ (k0_h1 : k0_cond1 i = 1#1), ∀ a x, ((![v2301, v2311] : Fin 2 → IVec S16 32) a x).toNat < S128x128.size a := fun i v2301 v2311 k0_hw728 k0_h1 => k0_hw728 k0_h1

def k0_chk729 (i : grid0.Coords) (v2299 : IVec S16 32) (v2313 : IVec S16 32) : Prop :=
  (∀ (k0_h1 : k0_cond1 i = 1#1), ∀ a x, ((![v2313, v2299] : Fin 2 → IVec S16 32) a x).toNat < S64x256.size a)
theorem k0_idx727_inb : ∀ (i : grid0.Coords) (v2299 : IVec S16 32) (v2313 : IVec S16 32) (k0_hw729 : k0_chk729 i v2299 v2313), ∀ (k0_h1 : k0_cond1 i = 1#1), ∀ a x, ((![v2313, v2299] : Fin 2 → IVec S16 32) a x).toNat < S64x256.size a := fun i v2299 v2313 k0_hw729 k0_h1 => k0_hw729 k0_h1

def k0_chk730 (i : grid0.Coords) (v2301 : IVec S16 32) (v2316 : IVec S16 32) : Prop :=
  (∀ (k0_h1 : k0_cond1 i = 1#1), ∀ a x, ((![v2301, v2316] : Fin 2 → IVec S16 32) a x).toNat < S128x128.size a)
theorem k0_idx728_inb : ∀ (i : grid0.Coords) (v2301 : IVec S16 32) (v2316 : IVec S16 32) (k0_hw730 : k0_chk730 i v2301 v2316), ∀ (k0_h1 : k0_cond1 i = 1#1), ∀ a x, ((![v2301, v2316] : Fin 2 → IVec S16 32) a x).toNat < S128x128.size a := fun i v2301 v2316 k0_hw730 k0_h1 => k0_hw730 k0_h1

def k0_chk731 (i : grid0.Coords) (v2299 : IVec S16 32) (v2318 : IVec S16 32) : Prop :=
  (∀ (k0_h1 : k0_cond1 i = 1#1), ∀ a x, ((![v2318, v2299] : Fin 2 → IVec S16 32) a x).toNat < S64x256.size a)
theorem k0_idx729_inb : ∀ (i : grid0.Coords) (v2299 : IVec S16 32) (v2318 : IVec S16 32) (k0_hw731 : k0_chk731 i v2299 v2318), ∀ (k0_h1 : k0_cond1 i = 1#1), ∀ a x, ((![v2318, v2299] : Fin 2 → IVec S16 32) a x).toNat < S64x256.size a := fun i v2299 v2318 k0_hw731 k0_h1 => k0_hw731 k0_h1

def k0_chk732 (i : grid0.Coords) (v2301 : IVec S16 32) (v2321 : IVec S16 32) : Prop :=
  (∀ (k0_h1 : k0_cond1 i = 1#1), ∀ a x, ((![v2301, v2321] : Fin 2 → IVec S16 32) a x).toNat < S128x128.size a)
theorem k0_idx730_inb : ∀ (i : grid0.Coords) (v2301 : IVec S16 32) (v2321 : IVec S16 32) (k0_hw732 : k0_chk732 i v2301 v2321), ∀ (k0_h1 : k0_cond1 i = 1#1), ∀ a x, ((![v2301, v2321] : Fin 2 → IVec S16 32) a x).toNat < S128x128.size a := fun i v2301 v2321 k0_hw732 k0_h1 => k0_hw732 k0_h1

def k0_chk733 (i : grid0.Coords) (v2325 : IVec S16 32) (v2329 : IVec S16 32) : Prop :=
  (∀ (k0_h1 : k0_cond1 i = 1#1), ∀ a x, ((![v2329, v2325] : Fin 2 → IVec S16 32) a x).toNat < S64x256.size a)
theorem k0_idx731_inb : ∀ (i : grid0.Coords) (v2325 : IVec S16 32) (v2329 : IVec S16 32) (k0_hw733 : k0_chk733 i v2325 v2329), ∀ (k0_h1 : k0_cond1 i = 1#1), ∀ a x, ((![v2329, v2325] : Fin 2 → IVec S16 32) a x).toNat < S64x256.size a := fun i v2325 v2329 k0_hw733 k0_h1 => k0_hw733 k0_h1

def k0_chk734 (i : grid0.Coords) (v2327 : IVec S16 32) (v2332 : IVec S16 32) : Prop :=
  (∀ (k0_h1 : k0_cond1 i = 1#1), ∀ a x, ((![v2327, v2332] : Fin 2 → IVec S16 32) a x).toNat < S128x128.size a)
theorem k0_idx732_inb : ∀ (i : grid0.Coords) (v2327 : IVec S16 32) (v2332 : IVec S16 32) (k0_hw734 : k0_chk734 i v2327 v2332), ∀ (k0_h1 : k0_cond1 i = 1#1), ∀ a x, ((![v2327, v2332] : Fin 2 → IVec S16 32) a x).toNat < S128x128.size a := fun i v2327 v2332 k0_hw734 k0_h1 => k0_hw734 k0_h1

def k0_chk735 (i : grid0.Coords) (v2325 : IVec S16 32) (v2334 : IVec S16 32) : Prop :=
  (∀ (k0_h1 : k0_cond1 i = 1#1), ∀ a x, ((![v2334, v2325] : Fin 2 → IVec S16 32) a x).toNat < S64x256.size a)
theorem k0_idx733_inb : ∀ (i : grid0.Coords) (v2325 : IVec S16 32) (v2334 : IVec S16 32) (k0_hw735 : k0_chk735 i v2325 v2334), ∀ (k0_h1 : k0_cond1 i = 1#1), ∀ a x, ((![v2334, v2325] : Fin 2 → IVec S16 32) a x).toNat < S64x256.size a := fun i v2325 v2334 k0_hw735 k0_h1 => k0_hw735 k0_h1

def k0_chk736 (i : grid0.Coords) (v2327 : IVec S16 32) (v2337 : IVec S16 32) : Prop :=
  (∀ (k0_h1 : k0_cond1 i = 1#1), ∀ a x, ((![v2327, v2337] : Fin 2 → IVec S16 32) a x).toNat < S128x128.size a)
theorem k0_idx734_inb : ∀ (i : grid0.Coords) (v2327 : IVec S16 32) (v2337 : IVec S16 32) (k0_hw736 : k0_chk736 i v2327 v2337), ∀ (k0_h1 : k0_cond1 i = 1#1), ∀ a x, ((![v2327, v2337] : Fin 2 → IVec S16 32) a x).toNat < S128x128.size a := fun i v2327 v2337 k0_hw736 k0_h1 => k0_hw736 k0_h1

def k0_chk737 (i : grid0.Coords) (v2325 : IVec S16 32) (v2339 : IVec S16 32) : Prop :=
  (∀ (k0_h1 : k0_cond1 i = 1#1), ∀ a x, ((![v2339, v2325] : Fin 2 → IVec S16 32) a x).toNat < S64x256.size a)
theorem k0_idx735_inb : ∀ (i : grid0.Coords) (v2325 : IVec S16 32) (v2339 : IVec S16 32) (k0_hw737 : k0_chk737 i v2325 v2339), ∀ (k0_h1 : k0_cond1 i = 1#1), ∀ a x, ((![v2339, v2325] : Fin 2 → IVec S16 32) a x).toNat < S64x256.size a := fun i v2325 v2339 k0_hw737 k0_h1 => k0_hw737 k0_h1

def k0_chk738 (i : grid0.Coords) (v2327 : IVec S16 32) (v2342 : IVec S16 32) : Prop :=
  (∀ (k0_h1 : k0_cond1 i = 1#1), ∀ a x, ((![v2327, v2342] : Fin 2 → IVec S16 32) a x).toNat < S128x128.size a)
theorem k0_idx736_inb : ∀ (i : grid0.Coords) (v2327 : IVec S16 32) (v2342 : IVec S16 32) (k0_hw738 : k0_chk738 i v2327 v2342), ∀ (k0_h1 : k0_cond1 i = 1#1), ∀ a x, ((![v2327, v2342] : Fin 2 → IVec S16 32) a x).toNat < S128x128.size a := fun i v2327 v2342 k0_hw738 k0_h1 => k0_hw738 k0_h1

def k0_chk739 (i : grid0.Coords) (v2325 : IVec S16 32) (v2344 : IVec S16 32) : Prop :=
  (∀ (k0_h1 : k0_cond1 i = 1#1), ∀ a x, ((![v2344, v2325] : Fin 2 → IVec S16 32) a x).toNat < S64x256.size a)
theorem k0_idx737_inb : ∀ (i : grid0.Coords) (v2325 : IVec S16 32) (v2344 : IVec S16 32) (k0_hw739 : k0_chk739 i v2325 v2344), ∀ (k0_h1 : k0_cond1 i = 1#1), ∀ a x, ((![v2344, v2325] : Fin 2 → IVec S16 32) a x).toNat < S64x256.size a := fun i v2325 v2344 k0_hw739 k0_h1 => k0_hw739 k0_h1

def k0_chk740 (i : grid0.Coords) (v2327 : IVec S16 32) (v2347 : IVec S16 32) : Prop :=
  (∀ (k0_h1 : k0_cond1 i = 1#1), ∀ a x, ((![v2327, v2347] : Fin 2 → IVec S16 32) a x).toNat < S128x128.size a)
theorem k0_idx738_inb : ∀ (i : grid0.Coords) (v2327 : IVec S16 32) (v2347 : IVec S16 32) (k0_hw740 : k0_chk740 i v2327 v2347), ∀ (k0_h1 : k0_cond1 i = 1#1), ∀ a x, ((![v2327, v2347] : Fin 2 → IVec S16 32) a x).toNat < S128x128.size a := fun i v2327 v2347 k0_hw740 k0_h1 => k0_hw740 k0_h1

def k0_chk741 (i : grid0.Coords) (v2351 : IVec S16 32) (v2355 : IVec S16 32) : Prop :=
  (∀ (k0_h1 : k0_cond1 i = 1#1), ∀ a x, ((![v2355, v2351] : Fin 2 → IVec S16 32) a x).toNat < S64x256.size a)
theorem k0_idx739_inb : ∀ (i : grid0.Coords) (v2351 : IVec S16 32) (v2355 : IVec S16 32) (k0_hw741 : k0_chk741 i v2351 v2355), ∀ (k0_h1 : k0_cond1 i = 1#1), ∀ a x, ((![v2355, v2351] : Fin 2 → IVec S16 32) a x).toNat < S64x256.size a := fun i v2351 v2355 k0_hw741 k0_h1 => k0_hw741 k0_h1

def k0_chk742 (i : grid0.Coords) (v2353 : IVec S16 32) (v2358 : IVec S16 32) : Prop :=
  (∀ (k0_h1 : k0_cond1 i = 1#1), ∀ a x, ((![v2353, v2358] : Fin 2 → IVec S16 32) a x).toNat < S128x128.size a)
theorem k0_idx740_inb : ∀ (i : grid0.Coords) (v2353 : IVec S16 32) (v2358 : IVec S16 32) (k0_hw742 : k0_chk742 i v2353 v2358), ∀ (k0_h1 : k0_cond1 i = 1#1), ∀ a x, ((![v2353, v2358] : Fin 2 → IVec S16 32) a x).toNat < S128x128.size a := fun i v2353 v2358 k0_hw742 k0_h1 => k0_hw742 k0_h1

def k0_chk743 (i : grid0.Coords) (v2351 : IVec S16 32) (v2360 : IVec S16 32) : Prop :=
  (∀ (k0_h1 : k0_cond1 i = 1#1), ∀ a x, ((![v2360, v2351] : Fin 2 → IVec S16 32) a x).toNat < S64x256.size a)
theorem k0_idx741_inb : ∀ (i : grid0.Coords) (v2351 : IVec S16 32) (v2360 : IVec S16 32) (k0_hw743 : k0_chk743 i v2351 v2360), ∀ (k0_h1 : k0_cond1 i = 1#1), ∀ a x, ((![v2360, v2351] : Fin 2 → IVec S16 32) a x).toNat < S64x256.size a := fun i v2351 v2360 k0_hw743 k0_h1 => k0_hw743 k0_h1

def k0_chk744 (i : grid0.Coords) (v2353 : IVec S16 32) (v2363 : IVec S16 32) : Prop :=
  (∀ (k0_h1 : k0_cond1 i = 1#1), ∀ a x, ((![v2353, v2363] : Fin 2 → IVec S16 32) a x).toNat < S128x128.size a)
theorem k0_idx742_inb : ∀ (i : grid0.Coords) (v2353 : IVec S16 32) (v2363 : IVec S16 32) (k0_hw744 : k0_chk744 i v2353 v2363), ∀ (k0_h1 : k0_cond1 i = 1#1), ∀ a x, ((![v2353, v2363] : Fin 2 → IVec S16 32) a x).toNat < S128x128.size a := fun i v2353 v2363 k0_hw744 k0_h1 => k0_hw744 k0_h1

def k0_chk745 (i : grid0.Coords) (v2351 : IVec S16 32) (v2365 : IVec S16 32) : Prop :=
  (∀ (k0_h1 : k0_cond1 i = 1#1), ∀ a x, ((![v2365, v2351] : Fin 2 → IVec S16 32) a x).toNat < S64x256.size a)
theorem k0_idx743_inb : ∀ (i : grid0.Coords) (v2351 : IVec S16 32) (v2365 : IVec S16 32) (k0_hw745 : k0_chk745 i v2351 v2365), ∀ (k0_h1 : k0_cond1 i = 1#1), ∀ a x, ((![v2365, v2351] : Fin 2 → IVec S16 32) a x).toNat < S64x256.size a := fun i v2351 v2365 k0_hw745 k0_h1 => k0_hw745 k0_h1

def k0_chk746 (i : grid0.Coords) (v2353 : IVec S16 32) (v2368 : IVec S16 32) : Prop :=
  (∀ (k0_h1 : k0_cond1 i = 1#1), ∀ a x, ((![v2353, v2368] : Fin 2 → IVec S16 32) a x).toNat < S128x128.size a)
theorem k0_idx744_inb : ∀ (i : grid0.Coords) (v2353 : IVec S16 32) (v2368 : IVec S16 32) (k0_hw746 : k0_chk746 i v2353 v2368), ∀ (k0_h1 : k0_cond1 i = 1#1), ∀ a x, ((![v2353, v2368] : Fin 2 → IVec S16 32) a x).toNat < S128x128.size a := fun i v2353 v2368 k0_hw746 k0_h1 => k0_hw746 k0_h1

def k0_chk747 (i : grid0.Coords) (v2351 : IVec S16 32) (v2370 : IVec S16 32) : Prop :=
  (∀ (k0_h1 : k0_cond1 i = 1#1), ∀ a x, ((![v2370, v2351] : Fin 2 → IVec S16 32) a x).toNat < S64x256.size a)
theorem k0_idx745_inb : ∀ (i : grid0.Coords) (v2351 : IVec S16 32) (v2370 : IVec S16 32) (k0_hw747 : k0_chk747 i v2351 v2370), ∀ (k0_h1 : k0_cond1 i = 1#1), ∀ a x, ((![v2370, v2351] : Fin 2 → IVec S16 32) a x).toNat < S64x256.size a := fun i v2351 v2370 k0_hw747 k0_h1 => k0_hw747 k0_h1

def k0_chk748 (i : grid0.Coords) (v2353 : IVec S16 32) (v2373 : IVec S16 32) : Prop :=
  (∀ (k0_h1 : k0_cond1 i = 1#1), ∀ a x, ((![v2353, v2373] : Fin 2 → IVec S16 32) a x).toNat < S128x128.size a)
theorem k0_idx746_inb : ∀ (i : grid0.Coords) (v2353 : IVec S16 32) (v2373 : IVec S16 32) (k0_hw748 : k0_chk748 i v2353 v2373), ∀ (k0_h1 : k0_cond1 i = 1#1), ∀ a x, ((![v2353, v2373] : Fin 2 → IVec S16 32) a x).toNat < S128x128.size a := fun i v2353 v2373 k0_hw748 k0_h1 => k0_hw748 k0_h1

def k0_chk749 (i : grid0.Coords) (v2377 : IVec S16 32) (v2381 : IVec S16 32) : Prop :=
  (∀ (k0_h1 : k0_cond1 i = 1#1), ∀ a x, ((![v2381, v2377] : Fin 2 → IVec S16 32) a x).toNat < S64x256.size a)
theorem k0_idx747_inb : ∀ (i : grid0.Coords) (v2377 : IVec S16 32) (v2381 : IVec S16 32) (k0_hw749 : k0_chk749 i v2377 v2381), ∀ (k0_h1 : k0_cond1 i = 1#1), ∀ a x, ((![v2381, v2377] : Fin 2 → IVec S16 32) a x).toNat < S64x256.size a := fun i v2377 v2381 k0_hw749 k0_h1 => k0_hw749 k0_h1

def k0_chk750 (i : grid0.Coords) (v2379 : IVec S16 32) (v2384 : IVec S16 32) : Prop :=
  (∀ (k0_h1 : k0_cond1 i = 1#1), ∀ a x, ((![v2379, v2384] : Fin 2 → IVec S16 32) a x).toNat < S128x128.size a)
theorem k0_idx748_inb : ∀ (i : grid0.Coords) (v2379 : IVec S16 32) (v2384 : IVec S16 32) (k0_hw750 : k0_chk750 i v2379 v2384), ∀ (k0_h1 : k0_cond1 i = 1#1), ∀ a x, ((![v2379, v2384] : Fin 2 → IVec S16 32) a x).toNat < S128x128.size a := fun i v2379 v2384 k0_hw750 k0_h1 => k0_hw750 k0_h1

def k0_chk751 (i : grid0.Coords) (v2377 : IVec S16 32) (v2386 : IVec S16 32) : Prop :=
  (∀ (k0_h1 : k0_cond1 i = 1#1), ∀ a x, ((![v2386, v2377] : Fin 2 → IVec S16 32) a x).toNat < S64x256.size a)
theorem k0_idx749_inb : ∀ (i : grid0.Coords) (v2377 : IVec S16 32) (v2386 : IVec S16 32) (k0_hw751 : k0_chk751 i v2377 v2386), ∀ (k0_h1 : k0_cond1 i = 1#1), ∀ a x, ((![v2386, v2377] : Fin 2 → IVec S16 32) a x).toNat < S64x256.size a := fun i v2377 v2386 k0_hw751 k0_h1 => k0_hw751 k0_h1

def k0_chk752 (i : grid0.Coords) (v2379 : IVec S16 32) (v2389 : IVec S16 32) : Prop :=
  (∀ (k0_h1 : k0_cond1 i = 1#1), ∀ a x, ((![v2379, v2389] : Fin 2 → IVec S16 32) a x).toNat < S128x128.size a)
theorem k0_idx750_inb : ∀ (i : grid0.Coords) (v2379 : IVec S16 32) (v2389 : IVec S16 32) (k0_hw752 : k0_chk752 i v2379 v2389), ∀ (k0_h1 : k0_cond1 i = 1#1), ∀ a x, ((![v2379, v2389] : Fin 2 → IVec S16 32) a x).toNat < S128x128.size a := fun i v2379 v2389 k0_hw752 k0_h1 => k0_hw752 k0_h1

def k0_chk753 (i : grid0.Coords) (v2377 : IVec S16 32) (v2391 : IVec S16 32) : Prop :=
  (∀ (k0_h1 : k0_cond1 i = 1#1), ∀ a x, ((![v2391, v2377] : Fin 2 → IVec S16 32) a x).toNat < S64x256.size a)
theorem k0_idx751_inb : ∀ (i : grid0.Coords) (v2377 : IVec S16 32) (v2391 : IVec S16 32) (k0_hw753 : k0_chk753 i v2377 v2391), ∀ (k0_h1 : k0_cond1 i = 1#1), ∀ a x, ((![v2391, v2377] : Fin 2 → IVec S16 32) a x).toNat < S64x256.size a := fun i v2377 v2391 k0_hw753 k0_h1 => k0_hw753 k0_h1

def k0_chk754 (i : grid0.Coords) (v2379 : IVec S16 32) (v2394 : IVec S16 32) : Prop :=
  (∀ (k0_h1 : k0_cond1 i = 1#1), ∀ a x, ((![v2379, v2394] : Fin 2 → IVec S16 32) a x).toNat < S128x128.size a)
theorem k0_idx752_inb : ∀ (i : grid0.Coords) (v2379 : IVec S16 32) (v2394 : IVec S16 32) (k0_hw754 : k0_chk754 i v2379 v2394), ∀ (k0_h1 : k0_cond1 i = 1#1), ∀ a x, ((![v2379, v2394] : Fin 2 → IVec S16 32) a x).toNat < S128x128.size a := fun i v2379 v2394 k0_hw754 k0_h1 => k0_hw754 k0_h1

def k0_chk755 (i : grid0.Coords) (v2377 : IVec S16 32) (v2396 : IVec S16 32) : Prop :=
  (∀ (k0_h1 : k0_cond1 i = 1#1), ∀ a x, ((![v2396, v2377] : Fin 2 → IVec S16 32) a x).toNat < S64x256.size a)
theorem k0_idx753_inb : ∀ (i : grid0.Coords) (v2377 : IVec S16 32) (v2396 : IVec S16 32) (k0_hw755 : k0_chk755 i v2377 v2396), ∀ (k0_h1 : k0_cond1 i = 1#1), ∀ a x, ((![v2396, v2377] : Fin 2 → IVec S16 32) a x).toNat < S64x256.size a := fun i v2377 v2396 k0_hw755 k0_h1 => k0_hw755 k0_h1

def k0_chk756 (i : grid0.Coords) (v2379 : IVec S16 32) (v2399 : IVec S16 32) : Prop :=
  (∀ (k0_h1 : k0_cond1 i = 1#1), ∀ a x, ((![v2379, v2399] : Fin 2 → IVec S16 32) a x).toNat < S128x128.size a)
theorem k0_idx754_inb : ∀ (i : grid0.Coords) (v2379 : IVec S16 32) (v2399 : IVec S16 32) (k0_hw756 : k0_chk756 i v2379 v2399), ∀ (k0_h1 : k0_cond1 i = 1#1), ∀ a x, ((![v2379, v2399] : Fin 2 → IVec S16 32) a x).toNat < S128x128.size a := fun i v2379 v2399 k0_hw756 k0_h1 => k0_hw756 k0_h1

def k0_chk757 (i : grid0.Coords) (v2403 : IVec S16 32) (v2407 : IVec S16 32) : Prop :=
  (∀ (k0_h1 : k0_cond1 i = 1#1), ∀ a x, ((![v2407, v2403] : Fin 2 → IVec S16 32) a x).toNat < S64x256.size a)
theorem k0_idx755_inb : ∀ (i : grid0.Coords) (v2403 : IVec S16 32) (v2407 : IVec S16 32) (k0_hw757 : k0_chk757 i v2403 v2407), ∀ (k0_h1 : k0_cond1 i = 1#1), ∀ a x, ((![v2407, v2403] : Fin 2 → IVec S16 32) a x).toNat < S64x256.size a := fun i v2403 v2407 k0_hw757 k0_h1 => k0_hw757 k0_h1

def k0_chk758 (i : grid0.Coords) (v2405 : IVec S16 32) (v2410 : IVec S16 32) : Prop :=
  (∀ (k0_h1 : k0_cond1 i = 1#1), ∀ a x, ((![v2405, v2410] : Fin 2 → IVec S16 32) a x).toNat < S128x128.size a)
theorem k0_idx756_inb : ∀ (i : grid0.Coords) (v2405 : IVec S16 32) (v2410 : IVec S16 32) (k0_hw758 : k0_chk758 i v2405 v2410), ∀ (k0_h1 : k0_cond1 i = 1#1), ∀ a x, ((![v2405, v2410] : Fin 2 → IVec S16 32) a x).toNat < S128x128.size a := fun i v2405 v2410 k0_hw758 k0_h1 => k0_hw758 k0_h1

def k0_chk759 (i : grid0.Coords) (v2403 : IVec S16 32) (v2412 : IVec S16 32) : Prop :=
  (∀ (k0_h1 : k0_cond1 i = 1#1), ∀ a x, ((![v2412, v2403] : Fin 2 → IVec S16 32) a x).toNat < S64x256.size a)
theorem k0_idx757_inb : ∀ (i : grid0.Coords) (v2403 : IVec S16 32) (v2412 : IVec S16 32) (k0_hw759 : k0_chk759 i v2403 v2412), ∀ (k0_h1 : k0_cond1 i = 1#1), ∀ a x, ((![v2412, v2403] : Fin 2 → IVec S16 32) a x).toNat < S64x256.size a := fun i v2403 v2412 k0_hw759 k0_h1 => k0_hw759 k0_h1

def k0_chk760 (i : grid0.Coords) (v2405 : IVec S16 32) (v2415 : IVec S16 32) : Prop :=
  (∀ (k0_h1 : k0_cond1 i = 1#1), ∀ a x, ((![v2405, v2415] : Fin 2 → IVec S16 32) a x).toNat < S128x128.size a)
theorem k0_idx758_inb : ∀ (i : grid0.Coords) (v2405 : IVec S16 32) (v2415 : IVec S16 32) (k0_hw760 : k0_chk760 i v2405 v2415), ∀ (k0_h1 : k0_cond1 i = 1#1), ∀ a x, ((![v2405, v2415] : Fin 2 → IVec S16 32) a x).toNat < S128x128.size a := fun i v2405 v2415 k0_hw760 k0_h1 => k0_hw760 k0_h1

def k0_chk761 (i : grid0.Coords) (v2403 : IVec S16 32) (v2417 : IVec S16 32) : Prop :=
  (∀ (k0_h1 : k0_cond1 i = 1#1), ∀ a x, ((![v2417, v2403] : Fin 2 → IVec S16 32) a x).toNat < S64x256.size a)
theorem k0_idx759_inb : ∀ (i : grid0.Coords) (v2403 : IVec S16 32) (v2417 : IVec S16 32) (k0_hw761 : k0_chk761 i v2403 v2417), ∀ (k0_h1 : k0_cond1 i = 1#1), ∀ a x, ((![v2417, v2403] : Fin 2 → IVec S16 32) a x).toNat < S64x256.size a := fun i v2403 v2417 k0_hw761 k0_h1 => k0_hw761 k0_h1

def k0_chk762 (i : grid0.Coords) (v2405 : IVec S16 32) (v2420 : IVec S16 32) : Prop :=
  (∀ (k0_h1 : k0_cond1 i = 1#1), ∀ a x, ((![v2405, v2420] : Fin 2 → IVec S16 32) a x).toNat < S128x128.size a)
theorem k0_idx760_inb : ∀ (i : grid0.Coords) (v2405 : IVec S16 32) (v2420 : IVec S16 32) (k0_hw762 : k0_chk762 i v2405 v2420), ∀ (k0_h1 : k0_cond1 i = 1#1), ∀ a x, ((![v2405, v2420] : Fin 2 → IVec S16 32) a x).toNat < S128x128.size a := fun i v2405 v2420 k0_hw762 k0_h1 => k0_hw762 k0_h1

def k0_chk763 (i : grid0.Coords) (v2403 : IVec S16 32) (v2422 : IVec S16 32) : Prop :=
  (∀ (k0_h1 : k0_cond1 i = 1#1), ∀ a x, ((![v2422, v2403] : Fin 2 → IVec S16 32) a x).toNat < S64x256.size a)
theorem k0_idx761_inb : ∀ (i : grid0.Coords) (v2403 : IVec S16 32) (v2422 : IVec S16 32) (k0_hw763 : k0_chk763 i v2403 v2422), ∀ (k0_h1 : k0_cond1 i = 1#1), ∀ a x, ((![v2422, v2403] : Fin 2 → IVec S16 32) a x).toNat < S64x256.size a := fun i v2403 v2422 k0_hw763 k0_h1 => k0_hw763 k0_h1

def k0_chk764 (i : grid0.Coords) (v2405 : IVec S16 32) (v2425 : IVec S16 32) : Prop :=
  (∀ (k0_h1 : k0_cond1 i = 1#1), ∀ a x, ((![v2405, v2425] : Fin 2 → IVec S16 32) a x).toNat < S128x128.size a)
theorem k0_idx762_inb : ∀ (i : grid0.Coords) (v2405 : IVec S16 32) (v2425 : IVec S16 32) (k0_hw764 : k0_chk764 i v2405 v2425), ∀ (k0_h1 : k0_cond1 i = 1#1), ∀ a x, ((![v2405, v2425] : Fin 2 → IVec S16 32) a x).toNat < S128x128.size a := fun i v2405 v2425 k0_hw764 k0_h1 => k0_hw764 k0_h1

def k0_chk765 (i : grid0.Coords) (v2429 : IVec S16 32) (v2433 : IVec S16 32) : Prop :=
  (∀ (k0_h1 : k0_cond1 i = 1#1), ∀ a x, ((![v2433, v2429] : Fin 2 → IVec S16 32) a x).toNat < S64x256.size a)
theorem k0_idx763_inb : ∀ (i : grid0.Coords) (v2429 : IVec S16 32) (v2433 : IVec S16 32) (k0_hw765 : k0_chk765 i v2429 v2433), ∀ (k0_h1 : k0_cond1 i = 1#1), ∀ a x, ((![v2433, v2429] : Fin 2 → IVec S16 32) a x).toNat < S64x256.size a := fun i v2429 v2433 k0_hw765 k0_h1 => k0_hw765 k0_h1

def k0_chk766 (i : grid0.Coords) (v2431 : IVec S16 32) (v2436 : IVec S16 32) : Prop :=
  (∀ (k0_h1 : k0_cond1 i = 1#1), ∀ a x, ((![v2431, v2436] : Fin 2 → IVec S16 32) a x).toNat < S128x128.size a)
theorem k0_idx764_inb : ∀ (i : grid0.Coords) (v2431 : IVec S16 32) (v2436 : IVec S16 32) (k0_hw766 : k0_chk766 i v2431 v2436), ∀ (k0_h1 : k0_cond1 i = 1#1), ∀ a x, ((![v2431, v2436] : Fin 2 → IVec S16 32) a x).toNat < S128x128.size a := fun i v2431 v2436 k0_hw766 k0_h1 => k0_hw766 k0_h1

def k0_chk767 (i : grid0.Coords) (v2429 : IVec S16 32) (v2438 : IVec S16 32) : Prop :=
  (∀ (k0_h1 : k0_cond1 i = 1#1), ∀ a x, ((![v2438, v2429] : Fin 2 → IVec S16 32) a x).toNat < S64x256.size a)
theorem k0_idx765_inb : ∀ (i : grid0.Coords) (v2429 : IVec S16 32) (v2438 : IVec S16 32) (k0_hw767 : k0_chk767 i v2429 v2438), ∀ (k0_h1 : k0_cond1 i = 1#1), ∀ a x, ((![v2438, v2429] : Fin 2 → IVec S16 32) a x).toNat < S64x256.size a := fun i v2429 v2438 k0_hw767 k0_h1 => k0_hw767 k0_h1

def k0_chk768 (i : grid0.Coords) (v2431 : IVec S16 32) (v2441 : IVec S16 32) : Prop :=
  (∀ (k0_h1 : k0_cond1 i = 1#1), ∀ a x, ((![v2431, v2441] : Fin 2 → IVec S16 32) a x).toNat < S128x128.size a)
theorem k0_idx766_inb : ∀ (i : grid0.Coords) (v2431 : IVec S16 32) (v2441 : IVec S16 32) (k0_hw768 : k0_chk768 i v2431 v2441), ∀ (k0_h1 : k0_cond1 i = 1#1), ∀ a x, ((![v2431, v2441] : Fin 2 → IVec S16 32) a x).toNat < S128x128.size a := fun i v2431 v2441 k0_hw768 k0_h1 => k0_hw768 k0_h1

def k0_chk769 (i : grid0.Coords) (v2429 : IVec S16 32) (v2443 : IVec S16 32) : Prop :=
  (∀ (k0_h1 : k0_cond1 i = 1#1), ∀ a x, ((![v2443, v2429] : Fin 2 → IVec S16 32) a x).toNat < S64x256.size a)
theorem k0_idx767_inb : ∀ (i : grid0.Coords) (v2429 : IVec S16 32) (v2443 : IVec S16 32) (k0_hw769 : k0_chk769 i v2429 v2443), ∀ (k0_h1 : k0_cond1 i = 1#1), ∀ a x, ((![v2443, v2429] : Fin 2 → IVec S16 32) a x).toNat < S64x256.size a := fun i v2429 v2443 k0_hw769 k0_h1 => k0_hw769 k0_h1

def k0_chk770 (i : grid0.Coords) (v2431 : IVec S16 32) (v2446 : IVec S16 32) : Prop :=
  (∀ (k0_h1 : k0_cond1 i = 1#1), ∀ a x, ((![v2431, v2446] : Fin 2 → IVec S16 32) a x).toNat < S128x128.size a)
theorem k0_idx768_inb : ∀ (i : grid0.Coords) (v2431 : IVec S16 32) (v2446 : IVec S16 32) (k0_hw770 : k0_chk770 i v2431 v2446), ∀ (k0_h1 : k0_cond1 i = 1#1), ∀ a x, ((![v2431, v2446] : Fin 2 → IVec S16 32) a x).toNat < S128x128.size a := fun i v2431 v2446 k0_hw770 k0_h1 => k0_hw770 k0_h1

def k0_chk771 (i : grid0.Coords) (v2429 : IVec S16 32) (v2448 : IVec S16 32) : Prop :=
  (∀ (k0_h1 : k0_cond1 i = 1#1), ∀ a x, ((![v2448, v2429] : Fin 2 → IVec S16 32) a x).toNat < S64x256.size a)
theorem k0_idx769_inb : ∀ (i : grid0.Coords) (v2429 : IVec S16 32) (v2448 : IVec S16 32) (k0_hw771 : k0_chk771 i v2429 v2448), ∀ (k0_h1 : k0_cond1 i = 1#1), ∀ a x, ((![v2448, v2429] : Fin 2 → IVec S16 32) a x).toNat < S64x256.size a := fun i v2429 v2448 k0_hw771 k0_h1 => k0_hw771 k0_h1

def k0_chk772 (i : grid0.Coords) (v2431 : IVec S16 32) (v2451 : IVec S16 32) : Prop :=
  (∀ (k0_h1 : k0_cond1 i = 1#1), ∀ a x, ((![v2431, v2451] : Fin 2 → IVec S16 32) a x).toNat < S128x128.size a)
theorem k0_idx770_inb : ∀ (i : grid0.Coords) (v2431 : IVec S16 32) (v2451 : IVec S16 32) (k0_hw772 : k0_chk772 i v2431 v2451), ∀ (k0_h1 : k0_cond1 i = 1#1), ∀ a x, ((![v2431, v2451] : Fin 2 → IVec S16 32) a x).toNat < S128x128.size a := fun i v2431 v2451 k0_hw772 k0_h1 => k0_hw772 k0_h1

def k0_chk773 (i : grid0.Coords) (v2455 : IVec S16 32) (v2459 : IVec S16 32) : Prop :=
  (∀ (k0_h1 : k0_cond1 i = 1#1), ∀ a x, ((![v2459, v2455] : Fin 2 → IVec S16 32) a x).toNat < S64x256.size a)
theorem k0_idx771_inb : ∀ (i : grid0.Coords) (v2455 : IVec S16 32) (v2459 : IVec S16 32) (k0_hw773 : k0_chk773 i v2455 v2459), ∀ (k0_h1 : k0_cond1 i = 1#1), ∀ a x, ((![v2459, v2455] : Fin 2 → IVec S16 32) a x).toNat < S64x256.size a := fun i v2455 v2459 k0_hw773 k0_h1 => k0_hw773 k0_h1

def k0_chk774 (i : grid0.Coords) (v2457 : IVec S16 32) (v2462 : IVec S16 32) : Prop :=
  (∀ (k0_h1 : k0_cond1 i = 1#1), ∀ a x, ((![v2457, v2462] : Fin 2 → IVec S16 32) a x).toNat < S128x128.size a)
theorem k0_idx772_inb : ∀ (i : grid0.Coords) (v2457 : IVec S16 32) (v2462 : IVec S16 32) (k0_hw774 : k0_chk774 i v2457 v2462), ∀ (k0_h1 : k0_cond1 i = 1#1), ∀ a x, ((![v2457, v2462] : Fin 2 → IVec S16 32) a x).toNat < S128x128.size a := fun i v2457 v2462 k0_hw774 k0_h1 => k0_hw774 k0_h1

def k0_chk775 (i : grid0.Coords) (v2455 : IVec S16 32) (v2464 : IVec S16 32) : Prop :=
  (∀ (k0_h1 : k0_cond1 i = 1#1), ∀ a x, ((![v2464, v2455] : Fin 2 → IVec S16 32) a x).toNat < S64x256.size a)
theorem k0_idx773_inb : ∀ (i : grid0.Coords) (v2455 : IVec S16 32) (v2464 : IVec S16 32) (k0_hw775 : k0_chk775 i v2455 v2464), ∀ (k0_h1 : k0_cond1 i = 1#1), ∀ a x, ((![v2464, v2455] : Fin 2 → IVec S16 32) a x).toNat < S64x256.size a := fun i v2455 v2464 k0_hw775 k0_h1 => k0_hw775 k0_h1

def k0_chk776 (i : grid0.Coords) (v2457 : IVec S16 32) (v2467 : IVec S16 32) : Prop :=
  (∀ (k0_h1 : k0_cond1 i = 1#1), ∀ a x, ((![v2457, v2467] : Fin 2 → IVec S16 32) a x).toNat < S128x128.size a)
theorem k0_idx774_inb : ∀ (i : grid0.Coords) (v2457 : IVec S16 32) (v2467 : IVec S16 32) (k0_hw776 : k0_chk776 i v2457 v2467), ∀ (k0_h1 : k0_cond1 i = 1#1), ∀ a x, ((![v2457, v2467] : Fin 2 → IVec S16 32) a x).toNat < S128x128.size a := fun i v2457 v2467 k0_hw776 k0_h1 => k0_hw776 k0_h1

def k0_chk777 (i : grid0.Coords) (v2455 : IVec S16 32) (v2469 : IVec S16 32) : Prop :=
  (∀ (k0_h1 : k0_cond1 i = 1#1), ∀ a x, ((![v2469, v2455] : Fin 2 → IVec S16 32) a x).toNat < S64x256.size a)
theorem k0_idx775_inb : ∀ (i : grid0.Coords) (v2455 : IVec S16 32) (v2469 : IVec S16 32) (k0_hw777 : k0_chk777 i v2455 v2469), ∀ (k0_h1 : k0_cond1 i = 1#1), ∀ a x, ((![v2469, v2455] : Fin 2 → IVec S16 32) a x).toNat < S64x256.size a := fun i v2455 v2469 k0_hw777 k0_h1 => k0_hw777 k0_h1

def k0_chk778 (i : grid0.Coords) (v2457 : IVec S16 32) (v2472 : IVec S16 32) : Prop :=
  (∀ (k0_h1 : k0_cond1 i = 1#1), ∀ a x, ((![v2457, v2472] : Fin 2 → IVec S16 32) a x).toNat < S128x128.size a)
theorem k0_idx776_inb : ∀ (i : grid0.Coords) (v2457 : IVec S16 32) (v2472 : IVec S16 32) (k0_hw778 : k0_chk778 i v2457 v2472), ∀ (k0_h1 : k0_cond1 i = 1#1), ∀ a x, ((![v2457, v2472] : Fin 2 → IVec S16 32) a x).toNat < S128x128.size a := fun i v2457 v2472 k0_hw778 k0_h1 => k0_hw778 k0_h1

def k0_chk779 (i : grid0.Coords) (v2455 : IVec S16 32) (v2474 : IVec S16 32) : Prop :=
  (∀ (k0_h1 : k0_cond1 i = 1#1), ∀ a x, ((![v2474, v2455] : Fin 2 → IVec S16 32) a x).toNat < S64x256.size a)
theorem k0_idx777_inb : ∀ (i : grid0.Coords) (v2455 : IVec S16 32) (v2474 : IVec S16 32) (k0_hw779 : k0_chk779 i v2455 v2474), ∀ (k0_h1 : k0_cond1 i = 1#1), ∀ a x, ((![v2474, v2455] : Fin 2 → IVec S16 32) a x).toNat < S64x256.size a := fun i v2455 v2474 k0_hw779 k0_h1 => k0_hw779 k0_h1

def k0_chk780 (i : grid0.Coords) (v2457 : IVec S16 32) (v2477 : IVec S16 32) : Prop :=
  (∀ (k0_h1 : k0_cond1 i = 1#1), ∀ a x, ((![v2457, v2477] : Fin 2 → IVec S16 32) a x).toNat < S128x128.size a)
theorem k0_idx778_inb : ∀ (i : grid0.Coords) (v2457 : IVec S16 32) (v2477 : IVec S16 32) (k0_hw780 : k0_chk780 i v2457 v2477), ∀ (k0_h1 : k0_cond1 i = 1#1), ∀ a x, ((![v2457, v2477] : Fin 2 → IVec S16 32) a x).toNat < S128x128.size a := fun i v2457 v2477 k0_hw780 k0_h1 => k0_hw780 k0_h1

def k0_chk781 (i : grid0.Coords) (v2481 : IVec S16 32) (v2485 : IVec S16 32) : Prop :=
  (∀ (k0_h1 : k0_cond1 i = 1#1), ∀ a x, ((![v2485, v2481] : Fin 2 → IVec S16 32) a x).toNat < S64x256.size a)
theorem k0_idx779_inb : ∀ (i : grid0.Coords) (v2481 : IVec S16 32) (v2485 : IVec S16 32) (k0_hw781 : k0_chk781 i v2481 v2485), ∀ (k0_h1 : k0_cond1 i = 1#1), ∀ a x, ((![v2485, v2481] : Fin 2 → IVec S16 32) a x).toNat < S64x256.size a := fun i v2481 v2485 k0_hw781 k0_h1 => k0_hw781 k0_h1

def k0_chk782 (i : grid0.Coords) (v2483 : IVec S16 32) (v2488 : IVec S16 32) : Prop :=
  (∀ (k0_h1 : k0_cond1 i = 1#1), ∀ a x, ((![v2483, v2488] : Fin 2 → IVec S16 32) a x).toNat < S128x128.size a)
theorem k0_idx780_inb : ∀ (i : grid0.Coords) (v2483 : IVec S16 32) (v2488 : IVec S16 32) (k0_hw782 : k0_chk782 i v2483 v2488), ∀ (k0_h1 : k0_cond1 i = 1#1), ∀ a x, ((![v2483, v2488] : Fin 2 → IVec S16 32) a x).toNat < S128x128.size a := fun i v2483 v2488 k0_hw782 k0_h1 => k0_hw782 k0_h1

def k0_chk783 (i : grid0.Coords) (v2481 : IVec S16 32) (v2490 : IVec S16 32) : Prop :=
  (∀ (k0_h1 : k0_cond1 i = 1#1), ∀ a x, ((![v2490, v2481] : Fin 2 → IVec S16 32) a x).toNat < S64x256.size a)
theorem k0_idx781_inb : ∀ (i : grid0.Coords) (v2481 : IVec S16 32) (v2490 : IVec S16 32) (k0_hw783 : k0_chk783 i v2481 v2490), ∀ (k0_h1 : k0_cond1 i = 1#1), ∀ a x, ((![v2490, v2481] : Fin 2 → IVec S16 32) a x).toNat < S64x256.size a := fun i v2481 v2490 k0_hw783 k0_h1 => k0_hw783 k0_h1

def k0_chk784 (i : grid0.Coords) (v2483 : IVec S16 32) (v2493 : IVec S16 32) : Prop :=
  (∀ (k0_h1 : k0_cond1 i = 1#1), ∀ a x, ((![v2483, v2493] : Fin 2 → IVec S16 32) a x).toNat < S128x128.size a)
theorem k0_idx782_inb : ∀ (i : grid0.Coords) (v2483 : IVec S16 32) (v2493 : IVec S16 32) (k0_hw784 : k0_chk784 i v2483 v2493), ∀ (k0_h1 : k0_cond1 i = 1#1), ∀ a x, ((![v2483, v2493] : Fin 2 → IVec S16 32) a x).toNat < S128x128.size a := fun i v2483 v2493 k0_hw784 k0_h1 => k0_hw784 k0_h1

def k0_chk785 (i : grid0.Coords) (v2481 : IVec S16 32) (v2495 : IVec S16 32) : Prop :=
  (∀ (k0_h1 : k0_cond1 i = 1#1), ∀ a x, ((![v2495, v2481] : Fin 2 → IVec S16 32) a x).toNat < S64x256.size a)
theorem k0_idx783_inb : ∀ (i : grid0.Coords) (v2481 : IVec S16 32) (v2495 : IVec S16 32) (k0_hw785 : k0_chk785 i v2481 v2495), ∀ (k0_h1 : k0_cond1 i = 1#1), ∀ a x, ((![v2495, v2481] : Fin 2 → IVec S16 32) a x).toNat < S64x256.size a := fun i v2481 v2495 k0_hw785 k0_h1 => k0_hw785 k0_h1

def k0_chk786 (i : grid0.Coords) (v2483 : IVec S16 32) (v2498 : IVec S16 32) : Prop :=
  (∀ (k0_h1 : k0_cond1 i = 1#1), ∀ a x, ((![v2483, v2498] : Fin 2 → IVec S16 32) a x).toNat < S128x128.size a)
theorem k0_idx784_inb : ∀ (i : grid0.Coords) (v2483 : IVec S16 32) (v2498 : IVec S16 32) (k0_hw786 : k0_chk786 i v2483 v2498), ∀ (k0_h1 : k0_cond1 i = 1#1), ∀ a x, ((![v2483, v2498] : Fin 2 → IVec S16 32) a x).toNat < S128x128.size a := fun i v2483 v2498 k0_hw786 k0_h1 => k0_hw786 k0_h1

def k0_chk787 (i : grid0.Coords) (v2481 : IVec S16 32) (v2500 : IVec S16 32) : Prop :=
  (∀ (k0_h1 : k0_cond1 i = 1#1), ∀ a x, ((![v2500, v2481] : Fin 2 → IVec S16 32) a x).toNat < S64x256.size a)
theorem k0_idx785_inb : ∀ (i : grid0.Coords) (v2481 : IVec S16 32) (v2500 : IVec S16 32) (k0_hw787 : k0_chk787 i v2481 v2500), ∀ (k0_h1 : k0_cond1 i = 1#1), ∀ a x, ((![v2500, v2481] : Fin 2 → IVec S16 32) a x).toNat < S64x256.size a := fun i v2481 v2500 k0_hw787 k0_h1 => k0_hw787 k0_h1

def k0_chk788 (i : grid0.Coords) (v2483 : IVec S16 32) (v2503 : IVec S16 32) : Prop :=
  (∀ (k0_h1 : k0_cond1 i = 1#1), ∀ a x, ((![v2483, v2503] : Fin 2 → IVec S16 32) a x).toNat < S128x128.size a)
theorem k0_idx786_inb : ∀ (i : grid0.Coords) (v2483 : IVec S16 32) (v2503 : IVec S16 32) (k0_hw788 : k0_chk788 i v2483 v2503), ∀ (k0_h1 : k0_cond1 i = 1#1), ∀ a x, ((![v2483, v2503] : Fin 2 → IVec S16 32) a x).toNat < S128x128.size a := fun i v2483 v2503 k0_hw788 k0_h1 => k0_hw788 k0_h1
def k0_cond10 (k0_t3 : Fin k0_t3_loop.trips) : BitVec 1 :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c5_i32_195 : BitVec 32 := 5#32
  let v2060 : BitVec 32 := Scalar.addi v1989 c5_i32_195
  let c390_i32_196 : BitVec 32 := 390#32
  let v2061 : BitVec 1 := Scalar.cmpi .slt v2060 c390_i32_196
  let v2062 : BitVec 32 := Scalar.extui v2061
  let c0_i32_197 : BitVec 32 := 0#32
  let v2063 : BitVec 1 := Scalar.cmpi .ne v2062 c0_i32_197
  v2063

def k0_mult7 (k0_t3 : Fin k0_t3_loop.trips) : BitVec 32 :=
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c5_i32_198 : BitVec 32 := 5#32
  let v2064 : BitVec 32 := Scalar.addi v1989 c5_i32_198
  let c256_i32_199 : BitVec 32 := 256#32
  let v2065 : BitVec 32 := Scalar.muli v2064 c256_i32_199
  v2065
def k0_off16 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_200 : BitVec 32 := 0#32
  let c3_i32_150 : BitVec 32 := 3#32
  let c0_i32_117 : BitVec 32 := 0#32
  let c1_i32_119 : BitVec 32 := 1#32
  let arg20 : BitVec 32 := Scf.iv c0_i32_117 c1_i32_119 k0_t3
  let v1989 : BitVec 32 := Scalar.muli c3_i32_150 arg20
  let c5_i32_198 : BitVec 32 := 5#32
  let v2064 : BitVec 32 := Scalar.addi v1989 c5_i32_198
  let c256_i32_199 : BitVec 32 := 256#32
  let v2065 : BitVec 32 := Scalar.muli v2064 c256_i32_199
  let v2066 : BitVec 32 := v2065
  ![v1.toNat, 0, v2066.toNat]
def k0_off17 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_152_r1 : BitVec 32 := 0#32
  let c99840_i32_r1 : BitVec 32 := 99840#32
  ![v1.toNat, 0, 99840]
def k0_off18 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_152_r2 : BitVec 32 := 0#32
  let c0_i32_153_r2 : BitVec 32 := 0#32
  ![v1.toNat, 0, 0]
@[reducible] def k0_t10_loop (v1941 : BitVec 32) (v1943 : BitVec 32) : Scf.Loop 32 :=
  let c0_i32_126 : BitVec 32 := 0#32
  let v1944 : BitVec 32 := Scalar.subi v1943 v1941
  let c16_i32_123 : BitVec 32 := 16#32
  let v1945 : BitVec 32 := Scalar.addi v1944 c16_i32_123
  let c1_i32_124 : BitVec 32 := 1#32
  let v1946 : BitVec 32 := Scalar.subi v1945 c1_i32_124
  let c4_i32_125 : BitVec 32 := 4#32
  let v1947 : BitVec 32 := Scalar.shrsi v1946 c4_i32_125
  let v1948 : BitVec 32 := Scalar.subi v1947 c0_i32_126
  let c1_i32_127 : BitVec 32 := 1#32
  let v1950 : BitVec 32 := Scalar.divsi v1948 c1_i32_127
  let v1951 : BitVec 32 := Scalar.muli v1950 c1_i32_127
  let v1952 : BitVec 32 := Scalar.addi c0_i32_126 v1951
  let c1_i32_128 : BitVec 32 := 1#32
  ⟨c0_i32_126, v1952, c1_i32_128⟩

def k0_chk790 (i : grid0.Coords) (v2000 : IVec S16 32) : Prop :=
  (∀ (k0_h1 : k0_cond1 i = 1#1), ∀ a x, ((![v2000] : Fin 1 → IVec S16 32) a x).toNat < S4096.size a)
theorem k0_idx787_inb : ∀ (i : grid0.Coords) (v2000 : IVec S16 32) (k0_hw790 : k0_chk790 i v2000), ∀ (k0_h1 : k0_cond1 i = 1#1), ∀ a x, ((![v2000] : Fin 1 → IVec S16 32) a x).toNat < S4096.size a := fun i v2000 k0_hw790 k0_h1 => k0_hw790 k0_h1

def k0_chk791 (i : grid0.Coords) (v2012 : IVec S16 32) : Prop :=
  (∀ (k0_h1 : k0_cond1 i = 1#1), ∀ a x, ((![v2012] : Fin 1 → IVec S16 32) a x).toNat < S128.size a)
theorem k0_idx788_inb : ∀ (i : grid0.Coords) (v2012 : IVec S16 32) (k0_hw791 : k0_chk791 i v2012), ∀ (k0_h1 : k0_cond1 i = 1#1), ∀ a x, ((![v2012] : Fin 1 → IVec S16 32) a x).toNat < S128.size a := fun i v2012 k0_hw791 k0_h1 => k0_hw791 k0_h1

def k0_chk792 (i : grid0.Coords) (v2016 : IVec S16 32) (v2020 : IVec S16 32) : Prop :=
  (∀ (k0_h1 : k0_cond1 i = 1#1), ∀ a x, ((![v2020, v2016] : Fin 2 → IVec S16 32) a x).toNat < S64x256.size a)
theorem k0_idx789_inb : ∀ (i : grid0.Coords) (v2016 : IVec S16 32) (v2020 : IVec S16 32) (k0_hw792 : k0_chk792 i v2016 v2020), ∀ (k0_h1 : k0_cond1 i = 1#1), ∀ a x, ((![v2020, v2016] : Fin 2 → IVec S16 32) a x).toNat < S64x256.size a := fun i v2016 v2020 k0_hw792 k0_h1 => k0_hw792 k0_h1

def k0_chk793 (i : grid0.Coords) (v2018 : IVec S16 32) (v2023 : IVec S16 32) : Prop :=
  (∀ (k0_h1 : k0_cond1 i = 1#1), ∀ a x, ((![v2018, v2023] : Fin 2 → IVec S16 32) a x).toNat < S128x128.size a)
theorem k0_idx790_inb : ∀ (i : grid0.Coords) (v2018 : IVec S16 32) (v2023 : IVec S16 32) (k0_hw793 : k0_chk793 i v2018 v2023), ∀ (k0_h1 : k0_cond1 i = 1#1), ∀ a x, ((![v2018, v2023] : Fin 2 → IVec S16 32) a x).toNat < S128x128.size a := fun i v2018 v2023 k0_hw793 k0_h1 => k0_hw793 k0_h1

def k0_chk794 (i : grid0.Coords) (v2016 : IVec S16 32) (v2025 : IVec S16 32) : Prop :=
  (∀ (k0_h1 : k0_cond1 i = 1#1), ∀ a x, ((![v2025, v2016] : Fin 2 → IVec S16 32) a x).toNat < S64x256.size a)
theorem k0_idx791_inb : ∀ (i : grid0.Coords) (v2016 : IVec S16 32) (v2025 : IVec S16 32) (k0_hw794 : k0_chk794 i v2016 v2025), ∀ (k0_h1 : k0_cond1 i = 1#1), ∀ a x, ((![v2025, v2016] : Fin 2 → IVec S16 32) a x).toNat < S64x256.size a := fun i v2016 v2025 k0_hw794 k0_h1 => k0_hw794 k0_h1

def k0_chk795 (i : grid0.Coords) (v2018 : IVec S16 32) (v2028 : IVec S16 32) : Prop :=
  (∀ (k0_h1 : k0_cond1 i = 1#1), ∀ a x, ((![v2018, v2028] : Fin 2 → IVec S16 32) a x).toNat < S128x128.size a)
theorem k0_idx792_inb : ∀ (i : grid0.Coords) (v2018 : IVec S16 32) (v2028 : IVec S16 32) (k0_hw795 : k0_chk795 i v2018 v2028), ∀ (k0_h1 : k0_cond1 i = 1#1), ∀ a x, ((![v2018, v2028] : Fin 2 → IVec S16 32) a x).toNat < S128x128.size a := fun i v2018 v2028 k0_hw795 k0_h1 => k0_hw795 k0_h1

def k0_chk796 (i : grid0.Coords) (v2016 : IVec S16 32) (v2030 : IVec S16 32) : Prop :=
  (∀ (k0_h1 : k0_cond1 i = 1#1), ∀ a x, ((![v2030, v2016] : Fin 2 → IVec S16 32) a x).toNat < S64x256.size a)
theorem k0_idx793_inb : ∀ (i : grid0.Coords) (v2016 : IVec S16 32) (v2030 : IVec S16 32) (k0_hw796 : k0_chk796 i v2016 v2030), ∀ (k0_h1 : k0_cond1 i = 1#1), ∀ a x, ((![v2030, v2016] : Fin 2 → IVec S16 32) a x).toNat < S64x256.size a := fun i v2016 v2030 k0_hw796 k0_h1 => k0_hw796 k0_h1

def k0_chk797 (i : grid0.Coords) (v2018 : IVec S16 32) (v2033 : IVec S16 32) : Prop :=
  (∀ (k0_h1 : k0_cond1 i = 1#1), ∀ a x, ((![v2018, v2033] : Fin 2 → IVec S16 32) a x).toNat < S128x128.size a)
theorem k0_idx794_inb : ∀ (i : grid0.Coords) (v2018 : IVec S16 32) (v2033 : IVec S16 32) (k0_hw797 : k0_chk797 i v2018 v2033), ∀ (k0_h1 : k0_cond1 i = 1#1), ∀ a x, ((![v2018, v2033] : Fin 2 → IVec S16 32) a x).toNat < S128x128.size a := fun i v2018 v2033 k0_hw797 k0_h1 => k0_hw797 k0_h1

def k0_chk798 (i : grid0.Coords) (v2016 : IVec S16 32) (v2035 : IVec S16 32) : Prop :=
  (∀ (k0_h1 : k0_cond1 i = 1#1), ∀ a x, ((![v2035, v2016] : Fin 2 → IVec S16 32) a x).toNat < S64x256.size a)
theorem k0_idx795_inb : ∀ (i : grid0.Coords) (v2016 : IVec S16 32) (v2035 : IVec S16 32) (k0_hw798 : k0_chk798 i v2016 v2035), ∀ (k0_h1 : k0_cond1 i = 1#1), ∀ a x, ((![v2035, v2016] : Fin 2 → IVec S16 32) a x).toNat < S64x256.size a := fun i v2016 v2035 k0_hw798 k0_h1 => k0_hw798 k0_h1

def k0_chk799 (i : grid0.Coords) (v2018 : IVec S16 32) (v2038 : IVec S16 32) : Prop :=
  (∀ (k0_h1 : k0_cond1 i = 1#1), ∀ a x, ((![v2018, v2038] : Fin 2 → IVec S16 32) a x).toNat < S128x128.size a)
theorem k0_idx796_inb : ∀ (i : grid0.Coords) (v2018 : IVec S16 32) (v2038 : IVec S16 32) (k0_hw799 : k0_chk799 i v2018 v2038), ∀ (k0_h1 : k0_cond1 i = 1#1), ∀ a x, ((![v2018, v2038] : Fin 2 → IVec S16 32) a x).toNat < S128x128.size a := fun i v2018 v2038 k0_hw799 k0_h1 => k0_hw799 k0_h1

def k0_chk800 (i : grid0.Coords) (v2042 : IVec S16 32) (v2046 : IVec S16 32) : Prop :=
  (∀ (k0_h1 : k0_cond1 i = 1#1), ∀ a x, ((![v2046, v2042] : Fin 2 → IVec S16 32) a x).toNat < S64x256.size a)
theorem k0_idx797_inb : ∀ (i : grid0.Coords) (v2042 : IVec S16 32) (v2046 : IVec S16 32) (k0_hw800 : k0_chk800 i v2042 v2046), ∀ (k0_h1 : k0_cond1 i = 1#1), ∀ a x, ((![v2046, v2042] : Fin 2 → IVec S16 32) a x).toNat < S64x256.size a := fun i v2042 v2046 k0_hw800 k0_h1 => k0_hw800 k0_h1

def k0_chk801 (i : grid0.Coords) (v2044 : IVec S16 32) (v2049 : IVec S16 32) : Prop :=
  (∀ (k0_h1 : k0_cond1 i = 1#1), ∀ a x, ((![v2044, v2049] : Fin 2 → IVec S16 32) a x).toNat < S128x128.size a)
theorem k0_idx798_inb : ∀ (i : grid0.Coords) (v2044 : IVec S16 32) (v2049 : IVec S16 32) (k0_hw801 : k0_chk801 i v2044 v2049), ∀ (k0_h1 : k0_cond1 i = 1#1), ∀ a x, ((![v2044, v2049] : Fin 2 → IVec S16 32) a x).toNat < S128x128.size a := fun i v2044 v2049 k0_hw801 k0_h1 => k0_hw801 k0_h1

def k0_chk802 (i : grid0.Coords) (v2042 : IVec S16 32) (v2051 : IVec S16 32) : Prop :=
  (∀ (k0_h1 : k0_cond1 i = 1#1), ∀ a x, ((![v2051, v2042] : Fin 2 → IVec S16 32) a x).toNat < S64x256.size a)
theorem k0_idx799_inb : ∀ (i : grid0.Coords) (v2042 : IVec S16 32) (v2051 : IVec S16 32) (k0_hw802 : k0_chk802 i v2042 v2051), ∀ (k0_h1 : k0_cond1 i = 1#1), ∀ a x, ((![v2051, v2042] : Fin 2 → IVec S16 32) a x).toNat < S64x256.size a := fun i v2042 v2051 k0_hw802 k0_h1 => k0_hw802 k0_h1

def k0_chk803 (i : grid0.Coords) (v2044 : IVec S16 32) (v2054 : IVec S16 32) : Prop :=
  (∀ (k0_h1 : k0_cond1 i = 1#1), ∀ a x, ((![v2044, v2054] : Fin 2 → IVec S16 32) a x).toNat < S128x128.size a)
theorem k0_idx800_inb : ∀ (i : grid0.Coords) (v2044 : IVec S16 32) (v2054 : IVec S16 32) (k0_hw803 : k0_chk803 i v2044 v2054), ∀ (k0_h1 : k0_cond1 i = 1#1), ∀ a x, ((![v2044, v2054] : Fin 2 → IVec S16 32) a x).toNat < S128x128.size a := fun i v2044 v2054 k0_hw803 k0_h1 => k0_hw803 k0_h1

def k0_chk804 (i : grid0.Coords) (v2042 : IVec S16 32) (v2056 : IVec S16 32) : Prop :=
  (∀ (k0_h1 : k0_cond1 i = 1#1), ∀ a x, ((![v2056, v2042] : Fin 2 → IVec S16 32) a x).toNat < S64x256.size a)
theorem k0_idx801_inb : ∀ (i : grid0.Coords) (v2042 : IVec S16 32) (v2056 : IVec S16 32) (k0_hw804 : k0_chk804 i v2042 v2056), ∀ (k0_h1 : k0_cond1 i = 1#1), ∀ a x, ((![v2056, v2042] : Fin 2 → IVec S16 32) a x).toNat < S64x256.size a := fun i v2042 v2056 k0_hw804 k0_h1 => k0_hw804 k0_h1

def k0_chk805 (i : grid0.Coords) (v2044 : IVec S16 32) (v2059 : IVec S16 32) : Prop :=
  (∀ (k0_h1 : k0_cond1 i = 1#1), ∀ a x, ((![v2044, v2059] : Fin 2 → IVec S16 32) a x).toNat < S128x128.size a)
theorem k0_idx802_inb : ∀ (i : grid0.Coords) (v2044 : IVec S16 32) (v2059 : IVec S16 32) (k0_hw805 : k0_chk805 i v2044 v2059), ∀ (k0_h1 : k0_cond1 i = 1#1), ∀ a x, ((![v2044, v2059] : Fin 2 → IVec S16 32) a x).toNat < S128x128.size a := fun i v2044 v2059 k0_hw805 k0_h1 => k0_hw805 k0_h1

def k0_chk806 (i : grid0.Coords) (v2042 : IVec S16 32) (v2061 : IVec S16 32) : Prop :=
  (∀ (k0_h1 : k0_cond1 i = 1#1), ∀ a x, ((![v2061, v2042] : Fin 2 → IVec S16 32) a x).toNat < S64x256.size a)
theorem k0_idx803_inb : ∀ (i : grid0.Coords) (v2042 : IVec S16 32) (v2061 : IVec S16 32) (k0_hw806 : k0_chk806 i v2042 v2061), ∀ (k0_h1 : k0_cond1 i = 1#1), ∀ a x, ((![v2061, v2042] : Fin 2 → IVec S16 32) a x).toNat < S64x256.size a := fun i v2042 v2061 k0_hw806 k0_h1 => k0_hw806 k0_h1

def k0_chk807 (i : grid0.Coords) (v2044 : IVec S16 32) (v2064 : IVec S16 32) : Prop :=
  (∀ (k0_h1 : k0_cond1 i = 1#1), ∀ a x, ((![v2044, v2064] : Fin 2 → IVec S16 32) a x).toNat < S128x128.size a)
theorem k0_idx804_inb : ∀ (i : grid0.Coords) (v2044 : IVec S16 32) (v2064 : IVec S16 32) (k0_hw807 : k0_chk807 i v2044 v2064), ∀ (k0_h1 : k0_cond1 i = 1#1), ∀ a x, ((![v2044, v2064] : Fin 2 → IVec S16 32) a x).toNat < S128x128.size a := fun i v2044 v2064 k0_hw807 k0_h1 => k0_hw807 k0_h1

def k0_chk808 (i : grid0.Coords) (v2068 : IVec S16 32) (v2072 : IVec S16 32) : Prop :=
  (∀ (k0_h1 : k0_cond1 i = 1#1), ∀ a x, ((![v2072, v2068] : Fin 2 → IVec S16 32) a x).toNat < S64x256.size a)
theorem k0_idx805_inb : ∀ (i : grid0.Coords) (v2068 : IVec S16 32) (v2072 : IVec S16 32) (k0_hw808 : k0_chk808 i v2068 v2072), ∀ (k0_h1 : k0_cond1 i = 1#1), ∀ a x, ((![v2072, v2068] : Fin 2 → IVec S16 32) a x).toNat < S64x256.size a := fun i v2068 v2072 k0_hw808 k0_h1 => k0_hw808 k0_h1

def k0_chk809 (i : grid0.Coords) (v2070 : IVec S16 32) (v2075 : IVec S16 32) : Prop :=
  (∀ (k0_h1 : k0_cond1 i = 1#1), ∀ a x, ((![v2070, v2075] : Fin 2 → IVec S16 32) a x).toNat < S128x128.size a)
theorem k0_idx806_inb : ∀ (i : grid0.Coords) (v2070 : IVec S16 32) (v2075 : IVec S16 32) (k0_hw809 : k0_chk809 i v2070 v2075), ∀ (k0_h1 : k0_cond1 i = 1#1), ∀ a x, ((![v2070, v2075] : Fin 2 → IVec S16 32) a x).toNat < S128x128.size a := fun i v2070 v2075 k0_hw809 k0_h1 => k0_hw809 k0_h1

def k0_chk810 (i : grid0.Coords) (v2068 : IVec S16 32) (v2077 : IVec S16 32) : Prop :=
  (∀ (k0_h1 : k0_cond1 i = 1#1), ∀ a x, ((![v2077, v2068] : Fin 2 → IVec S16 32) a x).toNat < S64x256.size a)
theorem k0_idx807_inb : ∀ (i : grid0.Coords) (v2068 : IVec S16 32) (v2077 : IVec S16 32) (k0_hw810 : k0_chk810 i v2068 v2077), ∀ (k0_h1 : k0_cond1 i = 1#1), ∀ a x, ((![v2077, v2068] : Fin 2 → IVec S16 32) a x).toNat < S64x256.size a := fun i v2068 v2077 k0_hw810 k0_h1 => k0_hw810 k0_h1

def k0_chk811 (i : grid0.Coords) (v2070 : IVec S16 32) (v2080 : IVec S16 32) : Prop :=
  (∀ (k0_h1 : k0_cond1 i = 1#1), ∀ a x, ((![v2070, v2080] : Fin 2 → IVec S16 32) a x).toNat < S128x128.size a)
theorem k0_idx808_inb : ∀ (i : grid0.Coords) (v2070 : IVec S16 32) (v2080 : IVec S16 32) (k0_hw811 : k0_chk811 i v2070 v2080), ∀ (k0_h1 : k0_cond1 i = 1#1), ∀ a x, ((![v2070, v2080] : Fin 2 → IVec S16 32) a x).toNat < S128x128.size a := fun i v2070 v2080 k0_hw811 k0_h1 => k0_hw811 k0_h1

def k0_chk812 (i : grid0.Coords) (v2068 : IVec S16 32) (v2082 : IVec S16 32) : Prop :=
  (∀ (k0_h1 : k0_cond1 i = 1#1), ∀ a x, ((![v2082, v2068] : Fin 2 → IVec S16 32) a x).toNat < S64x256.size a)
theorem k0_idx809_inb : ∀ (i : grid0.Coords) (v2068 : IVec S16 32) (v2082 : IVec S16 32) (k0_hw812 : k0_chk812 i v2068 v2082), ∀ (k0_h1 : k0_cond1 i = 1#1), ∀ a x, ((![v2082, v2068] : Fin 2 → IVec S16 32) a x).toNat < S64x256.size a := fun i v2068 v2082 k0_hw812 k0_h1 => k0_hw812 k0_h1

def k0_chk813 (i : grid0.Coords) (v2070 : IVec S16 32) (v2085 : IVec S16 32) : Prop :=
  (∀ (k0_h1 : k0_cond1 i = 1#1), ∀ a x, ((![v2070, v2085] : Fin 2 → IVec S16 32) a x).toNat < S128x128.size a)
theorem k0_idx810_inb : ∀ (i : grid0.Coords) (v2070 : IVec S16 32) (v2085 : IVec S16 32) (k0_hw813 : k0_chk813 i v2070 v2085), ∀ (k0_h1 : k0_cond1 i = 1#1), ∀ a x, ((![v2070, v2085] : Fin 2 → IVec S16 32) a x).toNat < S128x128.size a := fun i v2070 v2085 k0_hw813 k0_h1 => k0_hw813 k0_h1

def k0_chk814 (i : grid0.Coords) (v2068 : IVec S16 32) (v2087 : IVec S16 32) : Prop :=
  (∀ (k0_h1 : k0_cond1 i = 1#1), ∀ a x, ((![v2087, v2068] : Fin 2 → IVec S16 32) a x).toNat < S64x256.size a)
theorem k0_idx811_inb : ∀ (i : grid0.Coords) (v2068 : IVec S16 32) (v2087 : IVec S16 32) (k0_hw814 : k0_chk814 i v2068 v2087), ∀ (k0_h1 : k0_cond1 i = 1#1), ∀ a x, ((![v2087, v2068] : Fin 2 → IVec S16 32) a x).toNat < S64x256.size a := fun i v2068 v2087 k0_hw814 k0_h1 => k0_hw814 k0_h1

def k0_chk815 (i : grid0.Coords) (v2070 : IVec S16 32) (v2090 : IVec S16 32) : Prop :=
  (∀ (k0_h1 : k0_cond1 i = 1#1), ∀ a x, ((![v2070, v2090] : Fin 2 → IVec S16 32) a x).toNat < S128x128.size a)
theorem k0_idx812_inb : ∀ (i : grid0.Coords) (v2070 : IVec S16 32) (v2090 : IVec S16 32) (k0_hw815 : k0_chk815 i v2070 v2090), ∀ (k0_h1 : k0_cond1 i = 1#1), ∀ a x, ((![v2070, v2090] : Fin 2 → IVec S16 32) a x).toNat < S128x128.size a := fun i v2070 v2090 k0_hw815 k0_h1 => k0_hw815 k0_h1

def k0_chk816 (i : grid0.Coords) (v2094 : IVec S16 32) (v2098 : IVec S16 32) : Prop :=
  (∀ (k0_h1 : k0_cond1 i = 1#1), ∀ a x, ((![v2098, v2094] : Fin 2 → IVec S16 32) a x).toNat < S64x256.size a)
theorem k0_idx813_inb : ∀ (i : grid0.Coords) (v2094 : IVec S16 32) (v2098 : IVec S16 32) (k0_hw816 : k0_chk816 i v2094 v2098), ∀ (k0_h1 : k0_cond1 i = 1#1), ∀ a x, ((![v2098, v2094] : Fin 2 → IVec S16 32) a x).toNat < S64x256.size a := fun i v2094 v2098 k0_hw816 k0_h1 => k0_hw816 k0_h1

def k0_chk817 (i : grid0.Coords) (v2096 : IVec S16 32) (v2101 : IVec S16 32) : Prop :=
  (∀ (k0_h1 : k0_cond1 i = 1#1), ∀ a x, ((![v2096, v2101] : Fin 2 → IVec S16 32) a x).toNat < S128x128.size a)
theorem k0_idx814_inb : ∀ (i : grid0.Coords) (v2096 : IVec S16 32) (v2101 : IVec S16 32) (k0_hw817 : k0_chk817 i v2096 v2101), ∀ (k0_h1 : k0_cond1 i = 1#1), ∀ a x, ((![v2096, v2101] : Fin 2 → IVec S16 32) a x).toNat < S128x128.size a := fun i v2096 v2101 k0_hw817 k0_h1 => k0_hw817 k0_h1

def k0_chk818 (i : grid0.Coords) (v2094 : IVec S16 32) (v2103 : IVec S16 32) : Prop :=
  (∀ (k0_h1 : k0_cond1 i = 1#1), ∀ a x, ((![v2103, v2094] : Fin 2 → IVec S16 32) a x).toNat < S64x256.size a)
theorem k0_idx815_inb : ∀ (i : grid0.Coords) (v2094 : IVec S16 32) (v2103 : IVec S16 32) (k0_hw818 : k0_chk818 i v2094 v2103), ∀ (k0_h1 : k0_cond1 i = 1#1), ∀ a x, ((![v2103, v2094] : Fin 2 → IVec S16 32) a x).toNat < S64x256.size a := fun i v2094 v2103 k0_hw818 k0_h1 => k0_hw818 k0_h1

def k0_chk819 (i : grid0.Coords) (v2096 : IVec S16 32) (v2106 : IVec S16 32) : Prop :=
  (∀ (k0_h1 : k0_cond1 i = 1#1), ∀ a x, ((![v2096, v2106] : Fin 2 → IVec S16 32) a x).toNat < S128x128.size a)
theorem k0_idx816_inb : ∀ (i : grid0.Coords) (v2096 : IVec S16 32) (v2106 : IVec S16 32) (k0_hw819 : k0_chk819 i v2096 v2106), ∀ (k0_h1 : k0_cond1 i = 1#1), ∀ a x, ((![v2096, v2106] : Fin 2 → IVec S16 32) a x).toNat < S128x128.size a := fun i v2096 v2106 k0_hw819 k0_h1 => k0_hw819 k0_h1

def k0_chk820 (i : grid0.Coords) (v2094 : IVec S16 32) (v2108 : IVec S16 32) : Prop :=
  (∀ (k0_h1 : k0_cond1 i = 1#1), ∀ a x, ((![v2108, v2094] : Fin 2 → IVec S16 32) a x).toNat < S64x256.size a)
theorem k0_idx817_inb : ∀ (i : grid0.Coords) (v2094 : IVec S16 32) (v2108 : IVec S16 32) (k0_hw820 : k0_chk820 i v2094 v2108), ∀ (k0_h1 : k0_cond1 i = 1#1), ∀ a x, ((![v2108, v2094] : Fin 2 → IVec S16 32) a x).toNat < S64x256.size a := fun i v2094 v2108 k0_hw820 k0_h1 => k0_hw820 k0_h1

def k0_chk821 (i : grid0.Coords) (v2096 : IVec S16 32) (v2111 : IVec S16 32) : Prop :=
  (∀ (k0_h1 : k0_cond1 i = 1#1), ∀ a x, ((![v2096, v2111] : Fin 2 → IVec S16 32) a x).toNat < S128x128.size a)
theorem k0_idx818_inb : ∀ (i : grid0.Coords) (v2096 : IVec S16 32) (v2111 : IVec S16 32) (k0_hw821 : k0_chk821 i v2096 v2111), ∀ (k0_h1 : k0_cond1 i = 1#1), ∀ a x, ((![v2096, v2111] : Fin 2 → IVec S16 32) a x).toNat < S128x128.size a := fun i v2096 v2111 k0_hw821 k0_h1 => k0_hw821 k0_h1

def k0_chk822 (i : grid0.Coords) (v2094 : IVec S16 32) (v2113 : IVec S16 32) : Prop :=
  (∀ (k0_h1 : k0_cond1 i = 1#1), ∀ a x, ((![v2113, v2094] : Fin 2 → IVec S16 32) a x).toNat < S64x256.size a)
theorem k0_idx819_inb : ∀ (i : grid0.Coords) (v2094 : IVec S16 32) (v2113 : IVec S16 32) (k0_hw822 : k0_chk822 i v2094 v2113), ∀ (k0_h1 : k0_cond1 i = 1#1), ∀ a x, ((![v2113, v2094] : Fin 2 → IVec S16 32) a x).toNat < S64x256.size a := fun i v2094 v2113 k0_hw822 k0_h1 => k0_hw822 k0_h1

def k0_chk823 (i : grid0.Coords) (v2096 : IVec S16 32) (v2116 : IVec S16 32) : Prop :=
  (∀ (k0_h1 : k0_cond1 i = 1#1), ∀ a x, ((![v2096, v2116] : Fin 2 → IVec S16 32) a x).toNat < S128x128.size a)
theorem k0_idx820_inb : ∀ (i : grid0.Coords) (v2096 : IVec S16 32) (v2116 : IVec S16 32) (k0_hw823 : k0_chk823 i v2096 v2116), ∀ (k0_h1 : k0_cond1 i = 1#1), ∀ a x, ((![v2096, v2116] : Fin 2 → IVec S16 32) a x).toNat < S128x128.size a := fun i v2096 v2116 k0_hw823 k0_h1 => k0_hw823 k0_h1

def k0_chk824 (i : grid0.Coords) (v2120 : IVec S16 32) (v2124 : IVec S16 32) : Prop :=
  (∀ (k0_h1 : k0_cond1 i = 1#1), ∀ a x, ((![v2124, v2120] : Fin 2 → IVec S16 32) a x).toNat < S64x256.size a)
theorem k0_idx821_inb : ∀ (i : grid0.Coords) (v2120 : IVec S16 32) (v2124 : IVec S16 32) (k0_hw824 : k0_chk824 i v2120 v2124), ∀ (k0_h1 : k0_cond1 i = 1#1), ∀ a x, ((![v2124, v2120] : Fin 2 → IVec S16 32) a x).toNat < S64x256.size a := fun i v2120 v2124 k0_hw824 k0_h1 => k0_hw824 k0_h1

def k0_chk825 (i : grid0.Coords) (v2122 : IVec S16 32) (v2127 : IVec S16 32) : Prop :=
  (∀ (k0_h1 : k0_cond1 i = 1#1), ∀ a x, ((![v2122, v2127] : Fin 2 → IVec S16 32) a x).toNat < S128x128.size a)
theorem k0_idx822_inb : ∀ (i : grid0.Coords) (v2122 : IVec S16 32) (v2127 : IVec S16 32) (k0_hw825 : k0_chk825 i v2122 v2127), ∀ (k0_h1 : k0_cond1 i = 1#1), ∀ a x, ((![v2122, v2127] : Fin 2 → IVec S16 32) a x).toNat < S128x128.size a := fun i v2122 v2127 k0_hw825 k0_h1 => k0_hw825 k0_h1

def k0_chk826 (i : grid0.Coords) (v2120 : IVec S16 32) (v2129 : IVec S16 32) : Prop :=
  (∀ (k0_h1 : k0_cond1 i = 1#1), ∀ a x, ((![v2129, v2120] : Fin 2 → IVec S16 32) a x).toNat < S64x256.size a)
theorem k0_idx823_inb : ∀ (i : grid0.Coords) (v2120 : IVec S16 32) (v2129 : IVec S16 32) (k0_hw826 : k0_chk826 i v2120 v2129), ∀ (k0_h1 : k0_cond1 i = 1#1), ∀ a x, ((![v2129, v2120] : Fin 2 → IVec S16 32) a x).toNat < S64x256.size a := fun i v2120 v2129 k0_hw826 k0_h1 => k0_hw826 k0_h1

def k0_chk827 (i : grid0.Coords) (v2122 : IVec S16 32) (v2132 : IVec S16 32) : Prop :=
  (∀ (k0_h1 : k0_cond1 i = 1#1), ∀ a x, ((![v2122, v2132] : Fin 2 → IVec S16 32) a x).toNat < S128x128.size a)
theorem k0_idx824_inb : ∀ (i : grid0.Coords) (v2122 : IVec S16 32) (v2132 : IVec S16 32) (k0_hw827 : k0_chk827 i v2122 v2132), ∀ (k0_h1 : k0_cond1 i = 1#1), ∀ a x, ((![v2122, v2132] : Fin 2 → IVec S16 32) a x).toNat < S128x128.size a := fun i v2122 v2132 k0_hw827 k0_h1 => k0_hw827 k0_h1

def k0_chk828 (i : grid0.Coords) (v2120 : IVec S16 32) (v2134 : IVec S16 32) : Prop :=
  (∀ (k0_h1 : k0_cond1 i = 1#1), ∀ a x, ((![v2134, v2120] : Fin 2 → IVec S16 32) a x).toNat < S64x256.size a)
theorem k0_idx825_inb : ∀ (i : grid0.Coords) (v2120 : IVec S16 32) (v2134 : IVec S16 32) (k0_hw828 : k0_chk828 i v2120 v2134), ∀ (k0_h1 : k0_cond1 i = 1#1), ∀ a x, ((![v2134, v2120] : Fin 2 → IVec S16 32) a x).toNat < S64x256.size a := fun i v2120 v2134 k0_hw828 k0_h1 => k0_hw828 k0_h1

def k0_chk829 (i : grid0.Coords) (v2122 : IVec S16 32) (v2137 : IVec S16 32) : Prop :=
  (∀ (k0_h1 : k0_cond1 i = 1#1), ∀ a x, ((![v2122, v2137] : Fin 2 → IVec S16 32) a x).toNat < S128x128.size a)
theorem k0_idx826_inb : ∀ (i : grid0.Coords) (v2122 : IVec S16 32) (v2137 : IVec S16 32) (k0_hw829 : k0_chk829 i v2122 v2137), ∀ (k0_h1 : k0_cond1 i = 1#1), ∀ a x, ((![v2122, v2137] : Fin 2 → IVec S16 32) a x).toNat < S128x128.size a := fun i v2122 v2137 k0_hw829 k0_h1 => k0_hw829 k0_h1

def k0_chk830 (i : grid0.Coords) (v2120 : IVec S16 32) (v2139 : IVec S16 32) : Prop :=
  (∀ (k0_h1 : k0_cond1 i = 1#1), ∀ a x, ((![v2139, v2120] : Fin 2 → IVec S16 32) a x).toNat < S64x256.size a)
theorem k0_idx827_inb : ∀ (i : grid0.Coords) (v2120 : IVec S16 32) (v2139 : IVec S16 32) (k0_hw830 : k0_chk830 i v2120 v2139), ∀ (k0_h1 : k0_cond1 i = 1#1), ∀ a x, ((![v2139, v2120] : Fin 2 → IVec S16 32) a x).toNat < S64x256.size a := fun i v2120 v2139 k0_hw830 k0_h1 => k0_hw830 k0_h1

def k0_chk831 (i : grid0.Coords) (v2122 : IVec S16 32) (v2142 : IVec S16 32) : Prop :=
  (∀ (k0_h1 : k0_cond1 i = 1#1), ∀ a x, ((![v2122, v2142] : Fin 2 → IVec S16 32) a x).toNat < S128x128.size a)
theorem k0_idx828_inb : ∀ (i : grid0.Coords) (v2122 : IVec S16 32) (v2142 : IVec S16 32) (k0_hw831 : k0_chk831 i v2122 v2142), ∀ (k0_h1 : k0_cond1 i = 1#1), ∀ a x, ((![v2122, v2142] : Fin 2 → IVec S16 32) a x).toNat < S128x128.size a := fun i v2122 v2142 k0_hw831 k0_h1 => k0_hw831 k0_h1

def k0_chk832 (i : grid0.Coords) (v2146 : IVec S16 32) (v2150 : IVec S16 32) : Prop :=
  (∀ (k0_h1 : k0_cond1 i = 1#1), ∀ a x, ((![v2150, v2146] : Fin 2 → IVec S16 32) a x).toNat < S64x256.size a)
theorem k0_idx829_inb : ∀ (i : grid0.Coords) (v2146 : IVec S16 32) (v2150 : IVec S16 32) (k0_hw832 : k0_chk832 i v2146 v2150), ∀ (k0_h1 : k0_cond1 i = 1#1), ∀ a x, ((![v2150, v2146] : Fin 2 → IVec S16 32) a x).toNat < S64x256.size a := fun i v2146 v2150 k0_hw832 k0_h1 => k0_hw832 k0_h1

def k0_chk833 (i : grid0.Coords) (v2148 : IVec S16 32) (v2153 : IVec S16 32) : Prop :=
  (∀ (k0_h1 : k0_cond1 i = 1#1), ∀ a x, ((![v2148, v2153] : Fin 2 → IVec S16 32) a x).toNat < S128x128.size a)
theorem k0_idx830_inb : ∀ (i : grid0.Coords) (v2148 : IVec S16 32) (v2153 : IVec S16 32) (k0_hw833 : k0_chk833 i v2148 v2153), ∀ (k0_h1 : k0_cond1 i = 1#1), ∀ a x, ((![v2148, v2153] : Fin 2 → IVec S16 32) a x).toNat < S128x128.size a := fun i v2148 v2153 k0_hw833 k0_h1 => k0_hw833 k0_h1

def k0_chk834 (i : grid0.Coords) (v2146 : IVec S16 32) (v2155 : IVec S16 32) : Prop :=
  (∀ (k0_h1 : k0_cond1 i = 1#1), ∀ a x, ((![v2155, v2146] : Fin 2 → IVec S16 32) a x).toNat < S64x256.size a)
theorem k0_idx831_inb : ∀ (i : grid0.Coords) (v2146 : IVec S16 32) (v2155 : IVec S16 32) (k0_hw834 : k0_chk834 i v2146 v2155), ∀ (k0_h1 : k0_cond1 i = 1#1), ∀ a x, ((![v2155, v2146] : Fin 2 → IVec S16 32) a x).toNat < S64x256.size a := fun i v2146 v2155 k0_hw834 k0_h1 => k0_hw834 k0_h1

def k0_chk835 (i : grid0.Coords) (v2148 : IVec S16 32) (v2158 : IVec S16 32) : Prop :=
  (∀ (k0_h1 : k0_cond1 i = 1#1), ∀ a x, ((![v2148, v2158] : Fin 2 → IVec S16 32) a x).toNat < S128x128.size a)
theorem k0_idx832_inb : ∀ (i : grid0.Coords) (v2148 : IVec S16 32) (v2158 : IVec S16 32) (k0_hw835 : k0_chk835 i v2148 v2158), ∀ (k0_h1 : k0_cond1 i = 1#1), ∀ a x, ((![v2148, v2158] : Fin 2 → IVec S16 32) a x).toNat < S128x128.size a := fun i v2148 v2158 k0_hw835 k0_h1 => k0_hw835 k0_h1

def k0_chk836 (i : grid0.Coords) (v2146 : IVec S16 32) (v2160 : IVec S16 32) : Prop :=
  (∀ (k0_h1 : k0_cond1 i = 1#1), ∀ a x, ((![v2160, v2146] : Fin 2 → IVec S16 32) a x).toNat < S64x256.size a)
theorem k0_idx833_inb : ∀ (i : grid0.Coords) (v2146 : IVec S16 32) (v2160 : IVec S16 32) (k0_hw836 : k0_chk836 i v2146 v2160), ∀ (k0_h1 : k0_cond1 i = 1#1), ∀ a x, ((![v2160, v2146] : Fin 2 → IVec S16 32) a x).toNat < S64x256.size a := fun i v2146 v2160 k0_hw836 k0_h1 => k0_hw836 k0_h1

def k0_chk837 (i : grid0.Coords) (v2148 : IVec S16 32) (v2163 : IVec S16 32) : Prop :=
  (∀ (k0_h1 : k0_cond1 i = 1#1), ∀ a x, ((![v2148, v2163] : Fin 2 → IVec S16 32) a x).toNat < S128x128.size a)
theorem k0_idx834_inb : ∀ (i : grid0.Coords) (v2148 : IVec S16 32) (v2163 : IVec S16 32) (k0_hw837 : k0_chk837 i v2148 v2163), ∀ (k0_h1 : k0_cond1 i = 1#1), ∀ a x, ((![v2148, v2163] : Fin 2 → IVec S16 32) a x).toNat < S128x128.size a := fun i v2148 v2163 k0_hw837 k0_h1 => k0_hw837 k0_h1

def k0_chk838 (i : grid0.Coords) (v2146 : IVec S16 32) (v2165 : IVec S16 32) : Prop :=
  (∀ (k0_h1 : k0_cond1 i = 1#1), ∀ a x, ((![v2165, v2146] : Fin 2 → IVec S16 32) a x).toNat < S64x256.size a)
theorem k0_idx835_inb : ∀ (i : grid0.Coords) (v2146 : IVec S16 32) (v2165 : IVec S16 32) (k0_hw838 : k0_chk838 i v2146 v2165), ∀ (k0_h1 : k0_cond1 i = 1#1), ∀ a x, ((![v2165, v2146] : Fin 2 → IVec S16 32) a x).toNat < S64x256.size a := fun i v2146 v2165 k0_hw838 k0_h1 => k0_hw838 k0_h1

def k0_chk839 (i : grid0.Coords) (v2148 : IVec S16 32) (v2168 : IVec S16 32) : Prop :=
  (∀ (k0_h1 : k0_cond1 i = 1#1), ∀ a x, ((![v2148, v2168] : Fin 2 → IVec S16 32) a x).toNat < S128x128.size a)
theorem k0_idx836_inb : ∀ (i : grid0.Coords) (v2148 : IVec S16 32) (v2168 : IVec S16 32) (k0_hw839 : k0_chk839 i v2148 v2168), ∀ (k0_h1 : k0_cond1 i = 1#1), ∀ a x, ((![v2148, v2168] : Fin 2 → IVec S16 32) a x).toNat < S128x128.size a := fun i v2148 v2168 k0_hw839 k0_h1 => k0_hw839 k0_h1

def k0_chk840 (i : grid0.Coords) (v2172 : IVec S16 32) (v2176 : IVec S16 32) : Prop :=
  (∀ (k0_h1 : k0_cond1 i = 1#1), ∀ a x, ((![v2176, v2172] : Fin 2 → IVec S16 32) a x).toNat < S64x256.size a)
theorem k0_idx837_inb : ∀ (i : grid0.Coords) (v2172 : IVec S16 32) (v2176 : IVec S16 32) (k0_hw840 : k0_chk840 i v2172 v2176), ∀ (k0_h1 : k0_cond1 i = 1#1), ∀ a x, ((![v2176, v2172] : Fin 2 → IVec S16 32) a x).toNat < S64x256.size a := fun i v2172 v2176 k0_hw840 k0_h1 => k0_hw840 k0_h1

def k0_chk841 (i : grid0.Coords) (v2174 : IVec S16 32) (v2179 : IVec S16 32) : Prop :=
  (∀ (k0_h1 : k0_cond1 i = 1#1), ∀ a x, ((![v2174, v2179] : Fin 2 → IVec S16 32) a x).toNat < S128x128.size a)
theorem k0_idx838_inb : ∀ (i : grid0.Coords) (v2174 : IVec S16 32) (v2179 : IVec S16 32) (k0_hw841 : k0_chk841 i v2174 v2179), ∀ (k0_h1 : k0_cond1 i = 1#1), ∀ a x, ((![v2174, v2179] : Fin 2 → IVec S16 32) a x).toNat < S128x128.size a := fun i v2174 v2179 k0_hw841 k0_h1 => k0_hw841 k0_h1

def k0_chk842 (i : grid0.Coords) (v2172 : IVec S16 32) (v2181 : IVec S16 32) : Prop :=
  (∀ (k0_h1 : k0_cond1 i = 1#1), ∀ a x, ((![v2181, v2172] : Fin 2 → IVec S16 32) a x).toNat < S64x256.size a)
theorem k0_idx839_inb : ∀ (i : grid0.Coords) (v2172 : IVec S16 32) (v2181 : IVec S16 32) (k0_hw842 : k0_chk842 i v2172 v2181), ∀ (k0_h1 : k0_cond1 i = 1#1), ∀ a x, ((![v2181, v2172] : Fin 2 → IVec S16 32) a x).toNat < S64x256.size a := fun i v2172 v2181 k0_hw842 k0_h1 => k0_hw842 k0_h1

def k0_chk843 (i : grid0.Coords) (v2174 : IVec S16 32) (v2184 : IVec S16 32) : Prop :=
  (∀ (k0_h1 : k0_cond1 i = 1#1), ∀ a x, ((![v2174, v2184] : Fin 2 → IVec S16 32) a x).toNat < S128x128.size a)
theorem k0_idx840_inb : ∀ (i : grid0.Coords) (v2174 : IVec S16 32) (v2184 : IVec S16 32) (k0_hw843 : k0_chk843 i v2174 v2184), ∀ (k0_h1 : k0_cond1 i = 1#1), ∀ a x, ((![v2174, v2184] : Fin 2 → IVec S16 32) a x).toNat < S128x128.size a := fun i v2174 v2184 k0_hw843 k0_h1 => k0_hw843 k0_h1

def k0_chk844 (i : grid0.Coords) (v2172 : IVec S16 32) (v2186 : IVec S16 32) : Prop :=
  (∀ (k0_h1 : k0_cond1 i = 1#1), ∀ a x, ((![v2186, v2172] : Fin 2 → IVec S16 32) a x).toNat < S64x256.size a)
theorem k0_idx841_inb : ∀ (i : grid0.Coords) (v2172 : IVec S16 32) (v2186 : IVec S16 32) (k0_hw844 : k0_chk844 i v2172 v2186), ∀ (k0_h1 : k0_cond1 i = 1#1), ∀ a x, ((![v2186, v2172] : Fin 2 → IVec S16 32) a x).toNat < S64x256.size a := fun i v2172 v2186 k0_hw844 k0_h1 => k0_hw844 k0_h1

def k0_chk845 (i : grid0.Coords) (v2174 : IVec S16 32) (v2189 : IVec S16 32) : Prop :=
  (∀ (k0_h1 : k0_cond1 i = 1#1), ∀ a x, ((![v2174, v2189] : Fin 2 → IVec S16 32) a x).toNat < S128x128.size a)
theorem k0_idx842_inb : ∀ (i : grid0.Coords) (v2174 : IVec S16 32) (v2189 : IVec S16 32) (k0_hw845 : k0_chk845 i v2174 v2189), ∀ (k0_h1 : k0_cond1 i = 1#1), ∀ a x, ((![v2174, v2189] : Fin 2 → IVec S16 32) a x).toNat < S128x128.size a := fun i v2174 v2189 k0_hw845 k0_h1 => k0_hw845 k0_h1

def k0_chk846 (i : grid0.Coords) (v2172 : IVec S16 32) (v2191 : IVec S16 32) : Prop :=
  (∀ (k0_h1 : k0_cond1 i = 1#1), ∀ a x, ((![v2191, v2172] : Fin 2 → IVec S16 32) a x).toNat < S64x256.size a)
theorem k0_idx843_inb : ∀ (i : grid0.Coords) (v2172 : IVec S16 32) (v2191 : IVec S16 32) (k0_hw846 : k0_chk846 i v2172 v2191), ∀ (k0_h1 : k0_cond1 i = 1#1), ∀ a x, ((![v2191, v2172] : Fin 2 → IVec S16 32) a x).toNat < S64x256.size a := fun i v2172 v2191 k0_hw846 k0_h1 => k0_hw846 k0_h1

def k0_chk847 (i : grid0.Coords) (v2174 : IVec S16 32) (v2194 : IVec S16 32) : Prop :=
  (∀ (k0_h1 : k0_cond1 i = 1#1), ∀ a x, ((![v2174, v2194] : Fin 2 → IVec S16 32) a x).toNat < S128x128.size a)
theorem k0_idx844_inb : ∀ (i : grid0.Coords) (v2174 : IVec S16 32) (v2194 : IVec S16 32) (k0_hw847 : k0_chk847 i v2174 v2194), ∀ (k0_h1 : k0_cond1 i = 1#1), ∀ a x, ((![v2174, v2194] : Fin 2 → IVec S16 32) a x).toNat < S128x128.size a := fun i v2174 v2194 k0_hw847 k0_h1 => k0_hw847 k0_h1

def k0_chk848 (i : grid0.Coords) (v2198 : IVec S16 32) (v2202 : IVec S16 32) : Prop :=
  (∀ (k0_h1 : k0_cond1 i = 1#1), ∀ a x, ((![v2202, v2198] : Fin 2 → IVec S16 32) a x).toNat < S64x256.size a)
theorem k0_idx845_inb : ∀ (i : grid0.Coords) (v2198 : IVec S16 32) (v2202 : IVec S16 32) (k0_hw848 : k0_chk848 i v2198 v2202), ∀ (k0_h1 : k0_cond1 i = 1#1), ∀ a x, ((![v2202, v2198] : Fin 2 → IVec S16 32) a x).toNat < S64x256.size a := fun i v2198 v2202 k0_hw848 k0_h1 => k0_hw848 k0_h1

def k0_chk849 (i : grid0.Coords) (v2200 : IVec S16 32) (v2205 : IVec S16 32) : Prop :=
  (∀ (k0_h1 : k0_cond1 i = 1#1), ∀ a x, ((![v2200, v2205] : Fin 2 → IVec S16 32) a x).toNat < S128x128.size a)
theorem k0_idx846_inb : ∀ (i : grid0.Coords) (v2200 : IVec S16 32) (v2205 : IVec S16 32) (k0_hw849 : k0_chk849 i v2200 v2205), ∀ (k0_h1 : k0_cond1 i = 1#1), ∀ a x, ((![v2200, v2205] : Fin 2 → IVec S16 32) a x).toNat < S128x128.size a := fun i v2200 v2205 k0_hw849 k0_h1 => k0_hw849 k0_h1

def k0_chk850 (i : grid0.Coords) (v2198 : IVec S16 32) (v2207 : IVec S16 32) : Prop :=
  (∀ (k0_h1 : k0_cond1 i = 1#1), ∀ a x, ((![v2207, v2198] : Fin 2 → IVec S16 32) a x).toNat < S64x256.size a)
theorem k0_idx847_inb : ∀ (i : grid0.Coords) (v2198 : IVec S16 32) (v2207 : IVec S16 32) (k0_hw850 : k0_chk850 i v2198 v2207), ∀ (k0_h1 : k0_cond1 i = 1#1), ∀ a x, ((![v2207, v2198] : Fin 2 → IVec S16 32) a x).toNat < S64x256.size a := fun i v2198 v2207 k0_hw850 k0_h1 => k0_hw850 k0_h1

def k0_chk851 (i : grid0.Coords) (v2200 : IVec S16 32) (v2210 : IVec S16 32) : Prop :=
  (∀ (k0_h1 : k0_cond1 i = 1#1), ∀ a x, ((![v2200, v2210] : Fin 2 → IVec S16 32) a x).toNat < S128x128.size a)
theorem k0_idx848_inb : ∀ (i : grid0.Coords) (v2200 : IVec S16 32) (v2210 : IVec S16 32) (k0_hw851 : k0_chk851 i v2200 v2210), ∀ (k0_h1 : k0_cond1 i = 1#1), ∀ a x, ((![v2200, v2210] : Fin 2 → IVec S16 32) a x).toNat < S128x128.size a := fun i v2200 v2210 k0_hw851 k0_h1 => k0_hw851 k0_h1

def k0_chk852 (i : grid0.Coords) (v2198 : IVec S16 32) (v2212 : IVec S16 32) : Prop :=
  (∀ (k0_h1 : k0_cond1 i = 1#1), ∀ a x, ((![v2212, v2198] : Fin 2 → IVec S16 32) a x).toNat < S64x256.size a)
theorem k0_idx849_inb : ∀ (i : grid0.Coords) (v2198 : IVec S16 32) (v2212 : IVec S16 32) (k0_hw852 : k0_chk852 i v2198 v2212), ∀ (k0_h1 : k0_cond1 i = 1#1), ∀ a x, ((![v2212, v2198] : Fin 2 → IVec S16 32) a x).toNat < S64x256.size a := fun i v2198 v2212 k0_hw852 k0_h1 => k0_hw852 k0_h1

def k0_chk853 (i : grid0.Coords) (v2200 : IVec S16 32) (v2215 : IVec S16 32) : Prop :=
  (∀ (k0_h1 : k0_cond1 i = 1#1), ∀ a x, ((![v2200, v2215] : Fin 2 → IVec S16 32) a x).toNat < S128x128.size a)
theorem k0_idx850_inb : ∀ (i : grid0.Coords) (v2200 : IVec S16 32) (v2215 : IVec S16 32) (k0_hw853 : k0_chk853 i v2200 v2215), ∀ (k0_h1 : k0_cond1 i = 1#1), ∀ a x, ((![v2200, v2215] : Fin 2 → IVec S16 32) a x).toNat < S128x128.size a := fun i v2200 v2215 k0_hw853 k0_h1 => k0_hw853 k0_h1

def k0_chk854 (i : grid0.Coords) (v2198 : IVec S16 32) (v2217 : IVec S16 32) : Prop :=
  (∀ (k0_h1 : k0_cond1 i = 1#1), ∀ a x, ((![v2217, v2198] : Fin 2 → IVec S16 32) a x).toNat < S64x256.size a)
theorem k0_idx851_inb : ∀ (i : grid0.Coords) (v2198 : IVec S16 32) (v2217 : IVec S16 32) (k0_hw854 : k0_chk854 i v2198 v2217), ∀ (k0_h1 : k0_cond1 i = 1#1), ∀ a x, ((![v2217, v2198] : Fin 2 → IVec S16 32) a x).toNat < S64x256.size a := fun i v2198 v2217 k0_hw854 k0_h1 => k0_hw854 k0_h1

def k0_chk855 (i : grid0.Coords) (v2200 : IVec S16 32) (v2220 : IVec S16 32) : Prop :=
  (∀ (k0_h1 : k0_cond1 i = 1#1), ∀ a x, ((![v2200, v2220] : Fin 2 → IVec S16 32) a x).toNat < S128x128.size a)
theorem k0_idx852_inb : ∀ (i : grid0.Coords) (v2200 : IVec S16 32) (v2220 : IVec S16 32) (k0_hw855 : k0_chk855 i v2200 v2220), ∀ (k0_h1 : k0_cond1 i = 1#1), ∀ a x, ((![v2200, v2220] : Fin 2 → IVec S16 32) a x).toNat < S128x128.size a := fun i v2200 v2220 k0_hw855 k0_h1 => k0_hw855 k0_h1

def k0_chk856 (i : grid0.Coords) (v2224 : IVec S16 32) (v2228 : IVec S16 32) : Prop :=
  (∀ (k0_h1 : k0_cond1 i = 1#1), ∀ a x, ((![v2228, v2224] : Fin 2 → IVec S16 32) a x).toNat < S64x256.size a)
theorem k0_idx853_inb : ∀ (i : grid0.Coords) (v2224 : IVec S16 32) (v2228 : IVec S16 32) (k0_hw856 : k0_chk856 i v2224 v2228), ∀ (k0_h1 : k0_cond1 i = 1#1), ∀ a x, ((![v2228, v2224] : Fin 2 → IVec S16 32) a x).toNat < S64x256.size a := fun i v2224 v2228 k0_hw856 k0_h1 => k0_hw856 k0_h1

def k0_chk857 (i : grid0.Coords) (v2226 : IVec S16 32) (v2231 : IVec S16 32) : Prop :=
  (∀ (k0_h1 : k0_cond1 i = 1#1), ∀ a x, ((![v2226, v2231] : Fin 2 → IVec S16 32) a x).toNat < S128x128.size a)
theorem k0_idx854_inb : ∀ (i : grid0.Coords) (v2226 : IVec S16 32) (v2231 : IVec S16 32) (k0_hw857 : k0_chk857 i v2226 v2231), ∀ (k0_h1 : k0_cond1 i = 1#1), ∀ a x, ((![v2226, v2231] : Fin 2 → IVec S16 32) a x).toNat < S128x128.size a := fun i v2226 v2231 k0_hw857 k0_h1 => k0_hw857 k0_h1

def k0_chk858 (i : grid0.Coords) (v2224 : IVec S16 32) (v2233 : IVec S16 32) : Prop :=
  (∀ (k0_h1 : k0_cond1 i = 1#1), ∀ a x, ((![v2233, v2224] : Fin 2 → IVec S16 32) a x).toNat < S64x256.size a)
theorem k0_idx855_inb : ∀ (i : grid0.Coords) (v2224 : IVec S16 32) (v2233 : IVec S16 32) (k0_hw858 : k0_chk858 i v2224 v2233), ∀ (k0_h1 : k0_cond1 i = 1#1), ∀ a x, ((![v2233, v2224] : Fin 2 → IVec S16 32) a x).toNat < S64x256.size a := fun i v2224 v2233 k0_hw858 k0_h1 => k0_hw858 k0_h1

def k0_chk859 (i : grid0.Coords) (v2226 : IVec S16 32) (v2236 : IVec S16 32) : Prop :=
  (∀ (k0_h1 : k0_cond1 i = 1#1), ∀ a x, ((![v2226, v2236] : Fin 2 → IVec S16 32) a x).toNat < S128x128.size a)
theorem k0_idx856_inb : ∀ (i : grid0.Coords) (v2226 : IVec S16 32) (v2236 : IVec S16 32) (k0_hw859 : k0_chk859 i v2226 v2236), ∀ (k0_h1 : k0_cond1 i = 1#1), ∀ a x, ((![v2226, v2236] : Fin 2 → IVec S16 32) a x).toNat < S128x128.size a := fun i v2226 v2236 k0_hw859 k0_h1 => k0_hw859 k0_h1

def k0_chk860 (i : grid0.Coords) (v2224 : IVec S16 32) (v2238 : IVec S16 32) : Prop :=
  (∀ (k0_h1 : k0_cond1 i = 1#1), ∀ a x, ((![v2238, v2224] : Fin 2 → IVec S16 32) a x).toNat < S64x256.size a)
theorem k0_idx857_inb : ∀ (i : grid0.Coords) (v2224 : IVec S16 32) (v2238 : IVec S16 32) (k0_hw860 : k0_chk860 i v2224 v2238), ∀ (k0_h1 : k0_cond1 i = 1#1), ∀ a x, ((![v2238, v2224] : Fin 2 → IVec S16 32) a x).toNat < S64x256.size a := fun i v2224 v2238 k0_hw860 k0_h1 => k0_hw860 k0_h1

def k0_chk861 (i : grid0.Coords) (v2226 : IVec S16 32) (v2241 : IVec S16 32) : Prop :=
  (∀ (k0_h1 : k0_cond1 i = 1#1), ∀ a x, ((![v2226, v2241] : Fin 2 → IVec S16 32) a x).toNat < S128x128.size a)
theorem k0_idx858_inb : ∀ (i : grid0.Coords) (v2226 : IVec S16 32) (v2241 : IVec S16 32) (k0_hw861 : k0_chk861 i v2226 v2241), ∀ (k0_h1 : k0_cond1 i = 1#1), ∀ a x, ((![v2226, v2241] : Fin 2 → IVec S16 32) a x).toNat < S128x128.size a := fun i v2226 v2241 k0_hw861 k0_h1 => k0_hw861 k0_h1

def k0_chk862 (i : grid0.Coords) (v2224 : IVec S16 32) (v2243 : IVec S16 32) : Prop :=
  (∀ (k0_h1 : k0_cond1 i = 1#1), ∀ a x, ((![v2243, v2224] : Fin 2 → IVec S16 32) a x).toNat < S64x256.size a)
theorem k0_idx859_inb : ∀ (i : grid0.Coords) (v2224 : IVec S16 32) (v2243 : IVec S16 32) (k0_hw862 : k0_chk862 i v2224 v2243), ∀ (k0_h1 : k0_cond1 i = 1#1), ∀ a x, ((![v2243, v2224] : Fin 2 → IVec S16 32) a x).toNat < S64x256.size a := fun i v2224 v2243 k0_hw862 k0_h1 => k0_hw862 k0_h1

def k0_chk863 (i : grid0.Coords) (v2226 : IVec S16 32) (v2246 : IVec S16 32) : Prop :=
  (∀ (k0_h1 : k0_cond1 i = 1#1), ∀ a x, ((![v2226, v2246] : Fin 2 → IVec S16 32) a x).toNat < S128x128.size a)
theorem k0_idx860_inb : ∀ (i : grid0.Coords) (v2226 : IVec S16 32) (v2246 : IVec S16 32) (k0_hw863 : k0_chk863 i v2226 v2246), ∀ (k0_h1 : k0_cond1 i = 1#1), ∀ a x, ((![v2226, v2246] : Fin 2 → IVec S16 32) a x).toNat < S128x128.size a := fun i v2226 v2246 k0_hw863 k0_h1 => k0_hw863 k0_h1

def k0_chk864 (i : grid0.Coords) (v2250 : IVec S16 32) (v2254 : IVec S16 32) : Prop :=
  (∀ (k0_h1 : k0_cond1 i = 1#1), ∀ a x, ((![v2254, v2250] : Fin 2 → IVec S16 32) a x).toNat < S64x256.size a)
theorem k0_idx861_inb : ∀ (i : grid0.Coords) (v2250 : IVec S16 32) (v2254 : IVec S16 32) (k0_hw864 : k0_chk864 i v2250 v2254), ∀ (k0_h1 : k0_cond1 i = 1#1), ∀ a x, ((![v2254, v2250] : Fin 2 → IVec S16 32) a x).toNat < S64x256.size a := fun i v2250 v2254 k0_hw864 k0_h1 => k0_hw864 k0_h1

def k0_chk865 (i : grid0.Coords) (v2252 : IVec S16 32) (v2257 : IVec S16 32) : Prop :=
  (∀ (k0_h1 : k0_cond1 i = 1#1), ∀ a x, ((![v2252, v2257] : Fin 2 → IVec S16 32) a x).toNat < S128x128.size a)
theorem k0_idx862_inb : ∀ (i : grid0.Coords) (v2252 : IVec S16 32) (v2257 : IVec S16 32) (k0_hw865 : k0_chk865 i v2252 v2257), ∀ (k0_h1 : k0_cond1 i = 1#1), ∀ a x, ((![v2252, v2257] : Fin 2 → IVec S16 32) a x).toNat < S128x128.size a := fun i v2252 v2257 k0_hw865 k0_h1 => k0_hw865 k0_h1

def k0_chk866 (i : grid0.Coords) (v2250 : IVec S16 32) (v2259 : IVec S16 32) : Prop :=
  (∀ (k0_h1 : k0_cond1 i = 1#1), ∀ a x, ((![v2259, v2250] : Fin 2 → IVec S16 32) a x).toNat < S64x256.size a)
theorem k0_idx863_inb : ∀ (i : grid0.Coords) (v2250 : IVec S16 32) (v2259 : IVec S16 32) (k0_hw866 : k0_chk866 i v2250 v2259), ∀ (k0_h1 : k0_cond1 i = 1#1), ∀ a x, ((![v2259, v2250] : Fin 2 → IVec S16 32) a x).toNat < S64x256.size a := fun i v2250 v2259 k0_hw866 k0_h1 => k0_hw866 k0_h1

def k0_chk867 (i : grid0.Coords) (v2252 : IVec S16 32) (v2262 : IVec S16 32) : Prop :=
  (∀ (k0_h1 : k0_cond1 i = 1#1), ∀ a x, ((![v2252, v2262] : Fin 2 → IVec S16 32) a x).toNat < S128x128.size a)
theorem k0_idx864_inb : ∀ (i : grid0.Coords) (v2252 : IVec S16 32) (v2262 : IVec S16 32) (k0_hw867 : k0_chk867 i v2252 v2262), ∀ (k0_h1 : k0_cond1 i = 1#1), ∀ a x, ((![v2252, v2262] : Fin 2 → IVec S16 32) a x).toNat < S128x128.size a := fun i v2252 v2262 k0_hw867 k0_h1 => k0_hw867 k0_h1

def k0_chk868 (i : grid0.Coords) (v2250 : IVec S16 32) (v2264 : IVec S16 32) : Prop :=
  (∀ (k0_h1 : k0_cond1 i = 1#1), ∀ a x, ((![v2264, v2250] : Fin 2 → IVec S16 32) a x).toNat < S64x256.size a)
theorem k0_idx865_inb : ∀ (i : grid0.Coords) (v2250 : IVec S16 32) (v2264 : IVec S16 32) (k0_hw868 : k0_chk868 i v2250 v2264), ∀ (k0_h1 : k0_cond1 i = 1#1), ∀ a x, ((![v2264, v2250] : Fin 2 → IVec S16 32) a x).toNat < S64x256.size a := fun i v2250 v2264 k0_hw868 k0_h1 => k0_hw868 k0_h1

def k0_chk869 (i : grid0.Coords) (v2252 : IVec S16 32) (v2267 : IVec S16 32) : Prop :=
  (∀ (k0_h1 : k0_cond1 i = 1#1), ∀ a x, ((![v2252, v2267] : Fin 2 → IVec S16 32) a x).toNat < S128x128.size a)
theorem k0_idx866_inb : ∀ (i : grid0.Coords) (v2252 : IVec S16 32) (v2267 : IVec S16 32) (k0_hw869 : k0_chk869 i v2252 v2267), ∀ (k0_h1 : k0_cond1 i = 1#1), ∀ a x, ((![v2252, v2267] : Fin 2 → IVec S16 32) a x).toNat < S128x128.size a := fun i v2252 v2267 k0_hw869 k0_h1 => k0_hw869 k0_h1

def k0_chk870 (i : grid0.Coords) (v2250 : IVec S16 32) (v2269 : IVec S16 32) : Prop :=
  (∀ (k0_h1 : k0_cond1 i = 1#1), ∀ a x, ((![v2269, v2250] : Fin 2 → IVec S16 32) a x).toNat < S64x256.size a)
theorem k0_idx867_inb : ∀ (i : grid0.Coords) (v2250 : IVec S16 32) (v2269 : IVec S16 32) (k0_hw870 : k0_chk870 i v2250 v2269), ∀ (k0_h1 : k0_cond1 i = 1#1), ∀ a x, ((![v2269, v2250] : Fin 2 → IVec S16 32) a x).toNat < S64x256.size a := fun i v2250 v2269 k0_hw870 k0_h1 => k0_hw870 k0_h1

def k0_chk871 (i : grid0.Coords) (v2252 : IVec S16 32) (v2272 : IVec S16 32) : Prop :=
  (∀ (k0_h1 : k0_cond1 i = 1#1), ∀ a x, ((![v2252, v2272] : Fin 2 → IVec S16 32) a x).toNat < S128x128.size a)
theorem k0_idx868_inb : ∀ (i : grid0.Coords) (v2252 : IVec S16 32) (v2272 : IVec S16 32) (k0_hw871 : k0_chk871 i v2252 v2272), ∀ (k0_h1 : k0_cond1 i = 1#1), ∀ a x, ((![v2252, v2272] : Fin 2 → IVec S16 32) a x).toNat < S128x128.size a := fun i v2252 v2272 k0_hw871 k0_h1 => k0_hw871 k0_h1

def k0_chk872 (i : grid0.Coords) (v2276 : IVec S16 32) (v2280 : IVec S16 32) : Prop :=
  (∀ (k0_h1 : k0_cond1 i = 1#1), ∀ a x, ((![v2280, v2276] : Fin 2 → IVec S16 32) a x).toNat < S64x256.size a)
theorem k0_idx869_inb : ∀ (i : grid0.Coords) (v2276 : IVec S16 32) (v2280 : IVec S16 32) (k0_hw872 : k0_chk872 i v2276 v2280), ∀ (k0_h1 : k0_cond1 i = 1#1), ∀ a x, ((![v2280, v2276] : Fin 2 → IVec S16 32) a x).toNat < S64x256.size a := fun i v2276 v2280 k0_hw872 k0_h1 => k0_hw872 k0_h1

def k0_chk873 (i : grid0.Coords) (v2278 : IVec S16 32) (v2283 : IVec S16 32) : Prop :=
  (∀ (k0_h1 : k0_cond1 i = 1#1), ∀ a x, ((![v2278, v2283] : Fin 2 → IVec S16 32) a x).toNat < S128x128.size a)
theorem k0_idx870_inb : ∀ (i : grid0.Coords) (v2278 : IVec S16 32) (v2283 : IVec S16 32) (k0_hw873 : k0_chk873 i v2278 v2283), ∀ (k0_h1 : k0_cond1 i = 1#1), ∀ a x, ((![v2278, v2283] : Fin 2 → IVec S16 32) a x).toNat < S128x128.size a := fun i v2278 v2283 k0_hw873 k0_h1 => k0_hw873 k0_h1

def k0_chk874 (i : grid0.Coords) (v2276 : IVec S16 32) (v2285 : IVec S16 32) : Prop :=
  (∀ (k0_h1 : k0_cond1 i = 1#1), ∀ a x, ((![v2285, v2276] : Fin 2 → IVec S16 32) a x).toNat < S64x256.size a)
theorem k0_idx871_inb : ∀ (i : grid0.Coords) (v2276 : IVec S16 32) (v2285 : IVec S16 32) (k0_hw874 : k0_chk874 i v2276 v2285), ∀ (k0_h1 : k0_cond1 i = 1#1), ∀ a x, ((![v2285, v2276] : Fin 2 → IVec S16 32) a x).toNat < S64x256.size a := fun i v2276 v2285 k0_hw874 k0_h1 => k0_hw874 k0_h1

def k0_chk875 (i : grid0.Coords) (v2278 : IVec S16 32) (v2288 : IVec S16 32) : Prop :=
  (∀ (k0_h1 : k0_cond1 i = 1#1), ∀ a x, ((![v2278, v2288] : Fin 2 → IVec S16 32) a x).toNat < S128x128.size a)
theorem k0_idx872_inb : ∀ (i : grid0.Coords) (v2278 : IVec S16 32) (v2288 : IVec S16 32) (k0_hw875 : k0_chk875 i v2278 v2288), ∀ (k0_h1 : k0_cond1 i = 1#1), ∀ a x, ((![v2278, v2288] : Fin 2 → IVec S16 32) a x).toNat < S128x128.size a := fun i v2278 v2288 k0_hw875 k0_h1 => k0_hw875 k0_h1

def k0_chk876 (i : grid0.Coords) (v2276 : IVec S16 32) (v2290 : IVec S16 32) : Prop :=
  (∀ (k0_h1 : k0_cond1 i = 1#1), ∀ a x, ((![v2290, v2276] : Fin 2 → IVec S16 32) a x).toNat < S64x256.size a)
theorem k0_idx873_inb : ∀ (i : grid0.Coords) (v2276 : IVec S16 32) (v2290 : IVec S16 32) (k0_hw876 : k0_chk876 i v2276 v2290), ∀ (k0_h1 : k0_cond1 i = 1#1), ∀ a x, ((![v2290, v2276] : Fin 2 → IVec S16 32) a x).toNat < S64x256.size a := fun i v2276 v2290 k0_hw876 k0_h1 => k0_hw876 k0_h1

def k0_chk877 (i : grid0.Coords) (v2278 : IVec S16 32) (v2293 : IVec S16 32) : Prop :=
  (∀ (k0_h1 : k0_cond1 i = 1#1), ∀ a x, ((![v2278, v2293] : Fin 2 → IVec S16 32) a x).toNat < S128x128.size a)
theorem k0_idx874_inb : ∀ (i : grid0.Coords) (v2278 : IVec S16 32) (v2293 : IVec S16 32) (k0_hw877 : k0_chk877 i v2278 v2293), ∀ (k0_h1 : k0_cond1 i = 1#1), ∀ a x, ((![v2278, v2293] : Fin 2 → IVec S16 32) a x).toNat < S128x128.size a := fun i v2278 v2293 k0_hw877 k0_h1 => k0_hw877 k0_h1

def k0_chk878 (i : grid0.Coords) (v2276 : IVec S16 32) (v2295 : IVec S16 32) : Prop :=
  (∀ (k0_h1 : k0_cond1 i = 1#1), ∀ a x, ((![v2295, v2276] : Fin 2 → IVec S16 32) a x).toNat < S64x256.size a)
theorem k0_idx875_inb : ∀ (i : grid0.Coords) (v2276 : IVec S16 32) (v2295 : IVec S16 32) (k0_hw878 : k0_chk878 i v2276 v2295), ∀ (k0_h1 : k0_cond1 i = 1#1), ∀ a x, ((![v2295, v2276] : Fin 2 → IVec S16 32) a x).toNat < S64x256.size a := fun i v2276 v2295 k0_hw878 k0_h1 => k0_hw878 k0_h1

def k0_chk879 (i : grid0.Coords) (v2278 : IVec S16 32) (v2298 : IVec S16 32) : Prop :=
  (∀ (k0_h1 : k0_cond1 i = 1#1), ∀ a x, ((![v2278, v2298] : Fin 2 → IVec S16 32) a x).toNat < S128x128.size a)
theorem k0_idx876_inb : ∀ (i : grid0.Coords) (v2278 : IVec S16 32) (v2298 : IVec S16 32) (k0_hw879 : k0_chk879 i v2278 v2298), ∀ (k0_h1 : k0_cond1 i = 1#1), ∀ a x, ((![v2278, v2298] : Fin 2 → IVec S16 32) a x).toNat < S128x128.size a := fun i v2278 v2298 k0_hw879 k0_h1 => k0_hw879 k0_h1

def k0_chk880 (i : grid0.Coords) (v2302 : IVec S16 32) (v2306 : IVec S16 32) : Prop :=
  (∀ (k0_h1 : k0_cond1 i = 1#1), ∀ a x, ((![v2306, v2302] : Fin 2 → IVec S16 32) a x).toNat < S64x256.size a)
theorem k0_idx877_inb : ∀ (i : grid0.Coords) (v2302 : IVec S16 32) (v2306 : IVec S16 32) (k0_hw880 : k0_chk880 i v2302 v2306), ∀ (k0_h1 : k0_cond1 i = 1#1), ∀ a x, ((![v2306, v2302] : Fin 2 → IVec S16 32) a x).toNat < S64x256.size a := fun i v2302 v2306 k0_hw880 k0_h1 => k0_hw880 k0_h1

def k0_chk881 (i : grid0.Coords) (v2304 : IVec S16 32) (v2309 : IVec S16 32) : Prop :=
  (∀ (k0_h1 : k0_cond1 i = 1#1), ∀ a x, ((![v2304, v2309] : Fin 2 → IVec S16 32) a x).toNat < S128x128.size a)
theorem k0_idx878_inb : ∀ (i : grid0.Coords) (v2304 : IVec S16 32) (v2309 : IVec S16 32) (k0_hw881 : k0_chk881 i v2304 v2309), ∀ (k0_h1 : k0_cond1 i = 1#1), ∀ a x, ((![v2304, v2309] : Fin 2 → IVec S16 32) a x).toNat < S128x128.size a := fun i v2304 v2309 k0_hw881 k0_h1 => k0_hw881 k0_h1

def k0_chk882 (i : grid0.Coords) (v2302 : IVec S16 32) (v2311 : IVec S16 32) : Prop :=
  (∀ (k0_h1 : k0_cond1 i = 1#1), ∀ a x, ((![v2311, v2302] : Fin 2 → IVec S16 32) a x).toNat < S64x256.size a)
theorem k0_idx879_inb : ∀ (i : grid0.Coords) (v2302 : IVec S16 32) (v2311 : IVec S16 32) (k0_hw882 : k0_chk882 i v2302 v2311), ∀ (k0_h1 : k0_cond1 i = 1#1), ∀ a x, ((![v2311, v2302] : Fin 2 → IVec S16 32) a x).toNat < S64x256.size a := fun i v2302 v2311 k0_hw882 k0_h1 => k0_hw882 k0_h1

def k0_chk883 (i : grid0.Coords) (v2304 : IVec S16 32) (v2314 : IVec S16 32) : Prop :=
  (∀ (k0_h1 : k0_cond1 i = 1#1), ∀ a x, ((![v2304, v2314] : Fin 2 → IVec S16 32) a x).toNat < S128x128.size a)
theorem k0_idx880_inb : ∀ (i : grid0.Coords) (v2304 : IVec S16 32) (v2314 : IVec S16 32) (k0_hw883 : k0_chk883 i v2304 v2314), ∀ (k0_h1 : k0_cond1 i = 1#1), ∀ a x, ((![v2304, v2314] : Fin 2 → IVec S16 32) a x).toNat < S128x128.size a := fun i v2304 v2314 k0_hw883 k0_h1 => k0_hw883 k0_h1

def k0_chk884 (i : grid0.Coords) (v2302 : IVec S16 32) (v2316 : IVec S16 32) : Prop :=
  (∀ (k0_h1 : k0_cond1 i = 1#1), ∀ a x, ((![v2316, v2302] : Fin 2 → IVec S16 32) a x).toNat < S64x256.size a)
theorem k0_idx881_inb : ∀ (i : grid0.Coords) (v2302 : IVec S16 32) (v2316 : IVec S16 32) (k0_hw884 : k0_chk884 i v2302 v2316), ∀ (k0_h1 : k0_cond1 i = 1#1), ∀ a x, ((![v2316, v2302] : Fin 2 → IVec S16 32) a x).toNat < S64x256.size a := fun i v2302 v2316 k0_hw884 k0_h1 => k0_hw884 k0_h1

def k0_chk885 (i : grid0.Coords) (v2304 : IVec S16 32) (v2319 : IVec S16 32) : Prop :=
  (∀ (k0_h1 : k0_cond1 i = 1#1), ∀ a x, ((![v2304, v2319] : Fin 2 → IVec S16 32) a x).toNat < S128x128.size a)
theorem k0_idx882_inb : ∀ (i : grid0.Coords) (v2304 : IVec S16 32) (v2319 : IVec S16 32) (k0_hw885 : k0_chk885 i v2304 v2319), ∀ (k0_h1 : k0_cond1 i = 1#1), ∀ a x, ((![v2304, v2319] : Fin 2 → IVec S16 32) a x).toNat < S128x128.size a := fun i v2304 v2319 k0_hw885 k0_h1 => k0_hw885 k0_h1

def k0_chk886 (i : grid0.Coords) (v2302 : IVec S16 32) (v2321 : IVec S16 32) : Prop :=
  (∀ (k0_h1 : k0_cond1 i = 1#1), ∀ a x, ((![v2321, v2302] : Fin 2 → IVec S16 32) a x).toNat < S64x256.size a)
theorem k0_idx883_inb : ∀ (i : grid0.Coords) (v2302 : IVec S16 32) (v2321 : IVec S16 32) (k0_hw886 : k0_chk886 i v2302 v2321), ∀ (k0_h1 : k0_cond1 i = 1#1), ∀ a x, ((![v2321, v2302] : Fin 2 → IVec S16 32) a x).toNat < S64x256.size a := fun i v2302 v2321 k0_hw886 k0_h1 => k0_hw886 k0_h1

def k0_chk887 (i : grid0.Coords) (v2304 : IVec S16 32) (v2324 : IVec S16 32) : Prop :=
  (∀ (k0_h1 : k0_cond1 i = 1#1), ∀ a x, ((![v2304, v2324] : Fin 2 → IVec S16 32) a x).toNat < S128x128.size a)
theorem k0_idx884_inb : ∀ (i : grid0.Coords) (v2304 : IVec S16 32) (v2324 : IVec S16 32) (k0_hw887 : k0_chk887 i v2304 v2324), ∀ (k0_h1 : k0_cond1 i = 1#1), ∀ a x, ((![v2304, v2324] : Fin 2 → IVec S16 32) a x).toNat < S128x128.size a := fun i v2304 v2324 k0_hw887 k0_h1 => k0_hw887 k0_h1

def k0_chk888 (i : grid0.Coords) (v2328 : IVec S16 32) (v2332 : IVec S16 32) : Prop :=
  (∀ (k0_h1 : k0_cond1 i = 1#1), ∀ a x, ((![v2332, v2328] : Fin 2 → IVec S16 32) a x).toNat < S64x256.size a)
theorem k0_idx885_inb : ∀ (i : grid0.Coords) (v2328 : IVec S16 32) (v2332 : IVec S16 32) (k0_hw888 : k0_chk888 i v2328 v2332), ∀ (k0_h1 : k0_cond1 i = 1#1), ∀ a x, ((![v2332, v2328] : Fin 2 → IVec S16 32) a x).toNat < S64x256.size a := fun i v2328 v2332 k0_hw888 k0_h1 => k0_hw888 k0_h1

def k0_chk889 (i : grid0.Coords) (v2330 : IVec S16 32) (v2335 : IVec S16 32) : Prop :=
  (∀ (k0_h1 : k0_cond1 i = 1#1), ∀ a x, ((![v2330, v2335] : Fin 2 → IVec S16 32) a x).toNat < S128x128.size a)
theorem k0_idx886_inb : ∀ (i : grid0.Coords) (v2330 : IVec S16 32) (v2335 : IVec S16 32) (k0_hw889 : k0_chk889 i v2330 v2335), ∀ (k0_h1 : k0_cond1 i = 1#1), ∀ a x, ((![v2330, v2335] : Fin 2 → IVec S16 32) a x).toNat < S128x128.size a := fun i v2330 v2335 k0_hw889 k0_h1 => k0_hw889 k0_h1

def k0_chk890 (i : grid0.Coords) (v2328 : IVec S16 32) (v2337 : IVec S16 32) : Prop :=
  (∀ (k0_h1 : k0_cond1 i = 1#1), ∀ a x, ((![v2337, v2328] : Fin 2 → IVec S16 32) a x).toNat < S64x256.size a)
theorem k0_idx887_inb : ∀ (i : grid0.Coords) (v2328 : IVec S16 32) (v2337 : IVec S16 32) (k0_hw890 : k0_chk890 i v2328 v2337), ∀ (k0_h1 : k0_cond1 i = 1#1), ∀ a x, ((![v2337, v2328] : Fin 2 → IVec S16 32) a x).toNat < S64x256.size a := fun i v2328 v2337 k0_hw890 k0_h1 => k0_hw890 k0_h1

def k0_chk891 (i : grid0.Coords) (v2330 : IVec S16 32) (v2340 : IVec S16 32) : Prop :=
  (∀ (k0_h1 : k0_cond1 i = 1#1), ∀ a x, ((![v2330, v2340] : Fin 2 → IVec S16 32) a x).toNat < S128x128.size a)
theorem k0_idx888_inb : ∀ (i : grid0.Coords) (v2330 : IVec S16 32) (v2340 : IVec S16 32) (k0_hw891 : k0_chk891 i v2330 v2340), ∀ (k0_h1 : k0_cond1 i = 1#1), ∀ a x, ((![v2330, v2340] : Fin 2 → IVec S16 32) a x).toNat < S128x128.size a := fun i v2330 v2340 k0_hw891 k0_h1 => k0_hw891 k0_h1

def k0_chk892 (i : grid0.Coords) (v2328 : IVec S16 32) (v2342 : IVec S16 32) : Prop :=
  (∀ (k0_h1 : k0_cond1 i = 1#1), ∀ a x, ((![v2342, v2328] : Fin 2 → IVec S16 32) a x).toNat < S64x256.size a)
theorem k0_idx889_inb : ∀ (i : grid0.Coords) (v2328 : IVec S16 32) (v2342 : IVec S16 32) (k0_hw892 : k0_chk892 i v2328 v2342), ∀ (k0_h1 : k0_cond1 i = 1#1), ∀ a x, ((![v2342, v2328] : Fin 2 → IVec S16 32) a x).toNat < S64x256.size a := fun i v2328 v2342 k0_hw892 k0_h1 => k0_hw892 k0_h1

def k0_chk893 (i : grid0.Coords) (v2330 : IVec S16 32) (v2345 : IVec S16 32) : Prop :=
  (∀ (k0_h1 : k0_cond1 i = 1#1), ∀ a x, ((![v2330, v2345] : Fin 2 → IVec S16 32) a x).toNat < S128x128.size a)
theorem k0_idx890_inb : ∀ (i : grid0.Coords) (v2330 : IVec S16 32) (v2345 : IVec S16 32) (k0_hw893 : k0_chk893 i v2330 v2345), ∀ (k0_h1 : k0_cond1 i = 1#1), ∀ a x, ((![v2330, v2345] : Fin 2 → IVec S16 32) a x).toNat < S128x128.size a := fun i v2330 v2345 k0_hw893 k0_h1 => k0_hw893 k0_h1

def k0_chk894 (i : grid0.Coords) (v2328 : IVec S16 32) (v2347 : IVec S16 32) : Prop :=
  (∀ (k0_h1 : k0_cond1 i = 1#1), ∀ a x, ((![v2347, v2328] : Fin 2 → IVec S16 32) a x).toNat < S64x256.size a)
theorem k0_idx891_inb : ∀ (i : grid0.Coords) (v2328 : IVec S16 32) (v2347 : IVec S16 32) (k0_hw894 : k0_chk894 i v2328 v2347), ∀ (k0_h1 : k0_cond1 i = 1#1), ∀ a x, ((![v2347, v2328] : Fin 2 → IVec S16 32) a x).toNat < S64x256.size a := fun i v2328 v2347 k0_hw894 k0_h1 => k0_hw894 k0_h1

def k0_chk895 (i : grid0.Coords) (v2330 : IVec S16 32) (v2350 : IVec S16 32) : Prop :=
  (∀ (k0_h1 : k0_cond1 i = 1#1), ∀ a x, ((![v2330, v2350] : Fin 2 → IVec S16 32) a x).toNat < S128x128.size a)
theorem k0_idx892_inb : ∀ (i : grid0.Coords) (v2330 : IVec S16 32) (v2350 : IVec S16 32) (k0_hw895 : k0_chk895 i v2330 v2350), ∀ (k0_h1 : k0_cond1 i = 1#1), ∀ a x, ((![v2330, v2350] : Fin 2 → IVec S16 32) a x).toNat < S128x128.size a := fun i v2330 v2350 k0_hw895 k0_h1 => k0_hw895 k0_h1

def k0_chk896 (i : grid0.Coords) (v2354 : IVec S16 32) (v2358 : IVec S16 32) : Prop :=
  (∀ (k0_h1 : k0_cond1 i = 1#1), ∀ a x, ((![v2358, v2354] : Fin 2 → IVec S16 32) a x).toNat < S64x256.size a)
theorem k0_idx893_inb : ∀ (i : grid0.Coords) (v2354 : IVec S16 32) (v2358 : IVec S16 32) (k0_hw896 : k0_chk896 i v2354 v2358), ∀ (k0_h1 : k0_cond1 i = 1#1), ∀ a x, ((![v2358, v2354] : Fin 2 → IVec S16 32) a x).toNat < S64x256.size a := fun i v2354 v2358 k0_hw896 k0_h1 => k0_hw896 k0_h1

def k0_chk897 (i : grid0.Coords) (v2356 : IVec S16 32) (v2361 : IVec S16 32) : Prop :=
  (∀ (k0_h1 : k0_cond1 i = 1#1), ∀ a x, ((![v2356, v2361] : Fin 2 → IVec S16 32) a x).toNat < S128x128.size a)
theorem k0_idx894_inb : ∀ (i : grid0.Coords) (v2356 : IVec S16 32) (v2361 : IVec S16 32) (k0_hw897 : k0_chk897 i v2356 v2361), ∀ (k0_h1 : k0_cond1 i = 1#1), ∀ a x, ((![v2356, v2361] : Fin 2 → IVec S16 32) a x).toNat < S128x128.size a := fun i v2356 v2361 k0_hw897 k0_h1 => k0_hw897 k0_h1

def k0_chk898 (i : grid0.Coords) (v2354 : IVec S16 32) (v2363 : IVec S16 32) : Prop :=
  (∀ (k0_h1 : k0_cond1 i = 1#1), ∀ a x, ((![v2363, v2354] : Fin 2 → IVec S16 32) a x).toNat < S64x256.size a)
theorem k0_idx895_inb : ∀ (i : grid0.Coords) (v2354 : IVec S16 32) (v2363 : IVec S16 32) (k0_hw898 : k0_chk898 i v2354 v2363), ∀ (k0_h1 : k0_cond1 i = 1#1), ∀ a x, ((![v2363, v2354] : Fin 2 → IVec S16 32) a x).toNat < S64x256.size a := fun i v2354 v2363 k0_hw898 k0_h1 => k0_hw898 k0_h1

def k0_chk899 (i : grid0.Coords) (v2356 : IVec S16 32) (v2366 : IVec S16 32) : Prop :=
  (∀ (k0_h1 : k0_cond1 i = 1#1), ∀ a x, ((![v2356, v2366] : Fin 2 → IVec S16 32) a x).toNat < S128x128.size a)
theorem k0_idx896_inb : ∀ (i : grid0.Coords) (v2356 : IVec S16 32) (v2366 : IVec S16 32) (k0_hw899 : k0_chk899 i v2356 v2366), ∀ (k0_h1 : k0_cond1 i = 1#1), ∀ a x, ((![v2356, v2366] : Fin 2 → IVec S16 32) a x).toNat < S128x128.size a := fun i v2356 v2366 k0_hw899 k0_h1 => k0_hw899 k0_h1

def k0_chk900 (i : grid0.Coords) (v2354 : IVec S16 32) (v2368 : IVec S16 32) : Prop :=
  (∀ (k0_h1 : k0_cond1 i = 1#1), ∀ a x, ((![v2368, v2354] : Fin 2 → IVec S16 32) a x).toNat < S64x256.size a)
theorem k0_idx897_inb : ∀ (i : grid0.Coords) (v2354 : IVec S16 32) (v2368 : IVec S16 32) (k0_hw900 : k0_chk900 i v2354 v2368), ∀ (k0_h1 : k0_cond1 i = 1#1), ∀ a x, ((![v2368, v2354] : Fin 2 → IVec S16 32) a x).toNat < S64x256.size a := fun i v2354 v2368 k0_hw900 k0_h1 => k0_hw900 k0_h1

def k0_chk901 (i : grid0.Coords) (v2356 : IVec S16 32) (v2371 : IVec S16 32) : Prop :=
  (∀ (k0_h1 : k0_cond1 i = 1#1), ∀ a x, ((![v2356, v2371] : Fin 2 → IVec S16 32) a x).toNat < S128x128.size a)
theorem k0_idx898_inb : ∀ (i : grid0.Coords) (v2356 : IVec S16 32) (v2371 : IVec S16 32) (k0_hw901 : k0_chk901 i v2356 v2371), ∀ (k0_h1 : k0_cond1 i = 1#1), ∀ a x, ((![v2356, v2371] : Fin 2 → IVec S16 32) a x).toNat < S128x128.size a := fun i v2356 v2371 k0_hw901 k0_h1 => k0_hw901 k0_h1

def k0_chk902 (i : grid0.Coords) (v2354 : IVec S16 32) (v2373 : IVec S16 32) : Prop :=
  (∀ (k0_h1 : k0_cond1 i = 1#1), ∀ a x, ((![v2373, v2354] : Fin 2 → IVec S16 32) a x).toNat < S64x256.size a)
theorem k0_idx899_inb : ∀ (i : grid0.Coords) (v2354 : IVec S16 32) (v2373 : IVec S16 32) (k0_hw902 : k0_chk902 i v2354 v2373), ∀ (k0_h1 : k0_cond1 i = 1#1), ∀ a x, ((![v2373, v2354] : Fin 2 → IVec S16 32) a x).toNat < S64x256.size a := fun i v2354 v2373 k0_hw902 k0_h1 => k0_hw902 k0_h1

def k0_chk903 (i : grid0.Coords) (v2356 : IVec S16 32) (v2376 : IVec S16 32) : Prop :=
  (∀ (k0_h1 : k0_cond1 i = 1#1), ∀ a x, ((![v2356, v2376] : Fin 2 → IVec S16 32) a x).toNat < S128x128.size a)
theorem k0_idx900_inb : ∀ (i : grid0.Coords) (v2356 : IVec S16 32) (v2376 : IVec S16 32) (k0_hw903 : k0_chk903 i v2356 v2376), ∀ (k0_h1 : k0_cond1 i = 1#1), ∀ a x, ((![v2356, v2376] : Fin 2 → IVec S16 32) a x).toNat < S128x128.size a := fun i v2356 v2376 k0_hw903 k0_h1 => k0_hw903 k0_h1

def k0_chk904 (i : grid0.Coords) (v2380 : IVec S16 32) (v2384 : IVec S16 32) : Prop :=
  (∀ (k0_h1 : k0_cond1 i = 1#1), ∀ a x, ((![v2384, v2380] : Fin 2 → IVec S16 32) a x).toNat < S64x256.size a)
theorem k0_idx901_inb : ∀ (i : grid0.Coords) (v2380 : IVec S16 32) (v2384 : IVec S16 32) (k0_hw904 : k0_chk904 i v2380 v2384), ∀ (k0_h1 : k0_cond1 i = 1#1), ∀ a x, ((![v2384, v2380] : Fin 2 → IVec S16 32) a x).toNat < S64x256.size a := fun i v2380 v2384 k0_hw904 k0_h1 => k0_hw904 k0_h1

def k0_chk905 (i : grid0.Coords) (v2382 : IVec S16 32) (v2387 : IVec S16 32) : Prop :=
  (∀ (k0_h1 : k0_cond1 i = 1#1), ∀ a x, ((![v2382, v2387] : Fin 2 → IVec S16 32) a x).toNat < S128x128.size a)
theorem k0_idx902_inb : ∀ (i : grid0.Coords) (v2382 : IVec S16 32) (v2387 : IVec S16 32) (k0_hw905 : k0_chk905 i v2382 v2387), ∀ (k0_h1 : k0_cond1 i = 1#1), ∀ a x, ((![v2382, v2387] : Fin 2 → IVec S16 32) a x).toNat < S128x128.size a := fun i v2382 v2387 k0_hw905 k0_h1 => k0_hw905 k0_h1

def k0_chk906 (i : grid0.Coords) (v2380 : IVec S16 32) (v2389 : IVec S16 32) : Prop :=
  (∀ (k0_h1 : k0_cond1 i = 1#1), ∀ a x, ((![v2389, v2380] : Fin 2 → IVec S16 32) a x).toNat < S64x256.size a)
theorem k0_idx903_inb : ∀ (i : grid0.Coords) (v2380 : IVec S16 32) (v2389 : IVec S16 32) (k0_hw906 : k0_chk906 i v2380 v2389), ∀ (k0_h1 : k0_cond1 i = 1#1), ∀ a x, ((![v2389, v2380] : Fin 2 → IVec S16 32) a x).toNat < S64x256.size a := fun i v2380 v2389 k0_hw906 k0_h1 => k0_hw906 k0_h1

def k0_chk907 (i : grid0.Coords) (v2382 : IVec S16 32) (v2392 : IVec S16 32) : Prop :=
  (∀ (k0_h1 : k0_cond1 i = 1#1), ∀ a x, ((![v2382, v2392] : Fin 2 → IVec S16 32) a x).toNat < S128x128.size a)
theorem k0_idx904_inb : ∀ (i : grid0.Coords) (v2382 : IVec S16 32) (v2392 : IVec S16 32) (k0_hw907 : k0_chk907 i v2382 v2392), ∀ (k0_h1 : k0_cond1 i = 1#1), ∀ a x, ((![v2382, v2392] : Fin 2 → IVec S16 32) a x).toNat < S128x128.size a := fun i v2382 v2392 k0_hw907 k0_h1 => k0_hw907 k0_h1

def k0_chk908 (i : grid0.Coords) (v2380 : IVec S16 32) (v2394 : IVec S16 32) : Prop :=
  (∀ (k0_h1 : k0_cond1 i = 1#1), ∀ a x, ((![v2394, v2380] : Fin 2 → IVec S16 32) a x).toNat < S64x256.size a)
theorem k0_idx905_inb : ∀ (i : grid0.Coords) (v2380 : IVec S16 32) (v2394 : IVec S16 32) (k0_hw908 : k0_chk908 i v2380 v2394), ∀ (k0_h1 : k0_cond1 i = 1#1), ∀ a x, ((![v2394, v2380] : Fin 2 → IVec S16 32) a x).toNat < S64x256.size a := fun i v2380 v2394 k0_hw908 k0_h1 => k0_hw908 k0_h1

def k0_chk909 (i : grid0.Coords) (v2382 : IVec S16 32) (v2397 : IVec S16 32) : Prop :=
  (∀ (k0_h1 : k0_cond1 i = 1#1), ∀ a x, ((![v2382, v2397] : Fin 2 → IVec S16 32) a x).toNat < S128x128.size a)
theorem k0_idx906_inb : ∀ (i : grid0.Coords) (v2382 : IVec S16 32) (v2397 : IVec S16 32) (k0_hw909 : k0_chk909 i v2382 v2397), ∀ (k0_h1 : k0_cond1 i = 1#1), ∀ a x, ((![v2382, v2397] : Fin 2 → IVec S16 32) a x).toNat < S128x128.size a := fun i v2382 v2397 k0_hw909 k0_h1 => k0_hw909 k0_h1

def k0_chk910 (i : grid0.Coords) (v2380 : IVec S16 32) (v2399 : IVec S16 32) : Prop :=
  (∀ (k0_h1 : k0_cond1 i = 1#1), ∀ a x, ((![v2399, v2380] : Fin 2 → IVec S16 32) a x).toNat < S64x256.size a)
theorem k0_idx907_inb : ∀ (i : grid0.Coords) (v2380 : IVec S16 32) (v2399 : IVec S16 32) (k0_hw910 : k0_chk910 i v2380 v2399), ∀ (k0_h1 : k0_cond1 i = 1#1), ∀ a x, ((![v2399, v2380] : Fin 2 → IVec S16 32) a x).toNat < S64x256.size a := fun i v2380 v2399 k0_hw910 k0_h1 => k0_hw910 k0_h1

def k0_chk911 (i : grid0.Coords) (v2382 : IVec S16 32) (v2402 : IVec S16 32) : Prop :=
  (∀ (k0_h1 : k0_cond1 i = 1#1), ∀ a x, ((![v2382, v2402] : Fin 2 → IVec S16 32) a x).toNat < S128x128.size a)
theorem k0_idx908_inb : ∀ (i : grid0.Coords) (v2382 : IVec S16 32) (v2402 : IVec S16 32) (k0_hw911 : k0_chk911 i v2382 v2402), ∀ (k0_h1 : k0_cond1 i = 1#1), ∀ a x, ((![v2382, v2402] : Fin 2 → IVec S16 32) a x).toNat < S128x128.size a := fun i v2382 v2402 k0_hw911 k0_h1 => k0_hw911 k0_h1

def k0_chk912 (i : grid0.Coords) (v2406 : IVec S16 32) (v2410 : IVec S16 32) : Prop :=
  (∀ (k0_h1 : k0_cond1 i = 1#1), ∀ a x, ((![v2410, v2406] : Fin 2 → IVec S16 32) a x).toNat < S64x256.size a)
theorem k0_idx909_inb : ∀ (i : grid0.Coords) (v2406 : IVec S16 32) (v2410 : IVec S16 32) (k0_hw912 : k0_chk912 i v2406 v2410), ∀ (k0_h1 : k0_cond1 i = 1#1), ∀ a x, ((![v2410, v2406] : Fin 2 → IVec S16 32) a x).toNat < S64x256.size a := fun i v2406 v2410 k0_hw912 k0_h1 => k0_hw912 k0_h1

def k0_chk913 (i : grid0.Coords) (v2408 : IVec S16 32) (v2413 : IVec S16 32) : Prop :=
  (∀ (k0_h1 : k0_cond1 i = 1#1), ∀ a x, ((![v2408, v2413] : Fin 2 → IVec S16 32) a x).toNat < S128x128.size a)
theorem k0_idx910_inb : ∀ (i : grid0.Coords) (v2408 : IVec S16 32) (v2413 : IVec S16 32) (k0_hw913 : k0_chk913 i v2408 v2413), ∀ (k0_h1 : k0_cond1 i = 1#1), ∀ a x, ((![v2408, v2413] : Fin 2 → IVec S16 32) a x).toNat < S128x128.size a := fun i v2408 v2413 k0_hw913 k0_h1 => k0_hw913 k0_h1

def k0_chk914 (i : grid0.Coords) (v2406 : IVec S16 32) (v2415 : IVec S16 32) : Prop :=
  (∀ (k0_h1 : k0_cond1 i = 1#1), ∀ a x, ((![v2415, v2406] : Fin 2 → IVec S16 32) a x).toNat < S64x256.size a)
theorem k0_idx911_inb : ∀ (i : grid0.Coords) (v2406 : IVec S16 32) (v2415 : IVec S16 32) (k0_hw914 : k0_chk914 i v2406 v2415), ∀ (k0_h1 : k0_cond1 i = 1#1), ∀ a x, ((![v2415, v2406] : Fin 2 → IVec S16 32) a x).toNat < S64x256.size a := fun i v2406 v2415 k0_hw914 k0_h1 => k0_hw914 k0_h1

def k0_chk915 (i : grid0.Coords) (v2408 : IVec S16 32) (v2418 : IVec S16 32) : Prop :=
  (∀ (k0_h1 : k0_cond1 i = 1#1), ∀ a x, ((![v2408, v2418] : Fin 2 → IVec S16 32) a x).toNat < S128x128.size a)
theorem k0_idx912_inb : ∀ (i : grid0.Coords) (v2408 : IVec S16 32) (v2418 : IVec S16 32) (k0_hw915 : k0_chk915 i v2408 v2418), ∀ (k0_h1 : k0_cond1 i = 1#1), ∀ a x, ((![v2408, v2418] : Fin 2 → IVec S16 32) a x).toNat < S128x128.size a := fun i v2408 v2418 k0_hw915 k0_h1 => k0_hw915 k0_h1

def k0_chk916 (i : grid0.Coords) (v2406 : IVec S16 32) (v2420 : IVec S16 32) : Prop :=
  (∀ (k0_h1 : k0_cond1 i = 1#1), ∀ a x, ((![v2420, v2406] : Fin 2 → IVec S16 32) a x).toNat < S64x256.size a)
theorem k0_idx913_inb : ∀ (i : grid0.Coords) (v2406 : IVec S16 32) (v2420 : IVec S16 32) (k0_hw916 : k0_chk916 i v2406 v2420), ∀ (k0_h1 : k0_cond1 i = 1#1), ∀ a x, ((![v2420, v2406] : Fin 2 → IVec S16 32) a x).toNat < S64x256.size a := fun i v2406 v2420 k0_hw916 k0_h1 => k0_hw916 k0_h1

def k0_chk917 (i : grid0.Coords) (v2408 : IVec S16 32) (v2423 : IVec S16 32) : Prop :=
  (∀ (k0_h1 : k0_cond1 i = 1#1), ∀ a x, ((![v2408, v2423] : Fin 2 → IVec S16 32) a x).toNat < S128x128.size a)
theorem k0_idx914_inb : ∀ (i : grid0.Coords) (v2408 : IVec S16 32) (v2423 : IVec S16 32) (k0_hw917 : k0_chk917 i v2408 v2423), ∀ (k0_h1 : k0_cond1 i = 1#1), ∀ a x, ((![v2408, v2423] : Fin 2 → IVec S16 32) a x).toNat < S128x128.size a := fun i v2408 v2423 k0_hw917 k0_h1 => k0_hw917 k0_h1

def k0_chk918 (i : grid0.Coords) (v2406 : IVec S16 32) (v2425 : IVec S16 32) : Prop :=
  (∀ (k0_h1 : k0_cond1 i = 1#1), ∀ a x, ((![v2425, v2406] : Fin 2 → IVec S16 32) a x).toNat < S64x256.size a)
theorem k0_idx915_inb : ∀ (i : grid0.Coords) (v2406 : IVec S16 32) (v2425 : IVec S16 32) (k0_hw918 : k0_chk918 i v2406 v2425), ∀ (k0_h1 : k0_cond1 i = 1#1), ∀ a x, ((![v2425, v2406] : Fin 2 → IVec S16 32) a x).toNat < S64x256.size a := fun i v2406 v2425 k0_hw918 k0_h1 => k0_hw918 k0_h1

def k0_chk919 (i : grid0.Coords) (v2408 : IVec S16 32) (v2428 : IVec S16 32) : Prop :=
  (∀ (k0_h1 : k0_cond1 i = 1#1), ∀ a x, ((![v2408, v2428] : Fin 2 → IVec S16 32) a x).toNat < S128x128.size a)
theorem k0_idx916_inb : ∀ (i : grid0.Coords) (v2408 : IVec S16 32) (v2428 : IVec S16 32) (k0_hw919 : k0_chk919 i v2408 v2428), ∀ (k0_h1 : k0_cond1 i = 1#1), ∀ a x, ((![v2408, v2428] : Fin 2 → IVec S16 32) a x).toNat < S128x128.size a := fun i v2408 v2428 k0_hw919 k0_h1 => k0_hw919 k0_h1
@[reducible] def k0_t11_loop (v1941 : BitVec 32) (v1943 : BitVec 32) : Scf.Loop 32 :=
  let c0_i32_126 : BitVec 32 := 0#32
  let v1944 : BitVec 32 := Scalar.subi v1943 v1941
  let c16_i32_123 : BitVec 32 := 16#32
  let v1945 : BitVec 32 := Scalar.addi v1944 c16_i32_123
  let c1_i32_124 : BitVec 32 := 1#32
  let v1946 : BitVec 32 := Scalar.subi v1945 c1_i32_124
  let c4_i32_125 : BitVec 32 := 4#32
  let v1947 : BitVec 32 := Scalar.shrsi v1946 c4_i32_125
  let v1948 : BitVec 32 := Scalar.subi v1947 c0_i32_126
  let c1_i32_127 : BitVec 32 := 1#32
  let v1950 : BitVec 32 := Scalar.divsi v1948 c1_i32_127
  let v1951 : BitVec 32 := Scalar.muli v1950 c1_i32_127
  let v1952 : BitVec 32 := Scalar.addi c0_i32_126 v1951
  let v1949 : BitVec 32 := Scalar.addi c0_i32_126 v1948
  let c1_i32_129 : BitVec 32 := 1#32
  ⟨v1952, v1949, c1_i32_129⟩

def k0_chk789 (i : grid0.Coords) (v1941 : BitVec 32) (v1943 : BitVec 32) : Prop :=
  (∀ (k0_h1 : k0_cond1 i = 1#1), (k0_t10_loop v1941 v1943).OK) ∧
  (∀ (k0_h1 : k0_cond1 i = 1#1), (k0_t11_loop v1941 v1943).OK)
theorem k0_t10_ok : ∀ (i : grid0.Coords) (v1941 : BitVec 32) (v1943 : BitVec 32) (k0_hw789 : k0_chk789 i v1941 v1943), ∀ (k0_h1 : k0_cond1 i = 1#1), (k0_t10_loop v1941 v1943).OK := fun i v1941 v1943 k0_hw789 k0_h1 => k0_hw789.1 k0_h1
theorem k0_t11_ok : ∀ (i : grid0.Coords) (v1941 : BitVec 32) (v1943 : BitVec 32) (k0_hw789 : k0_chk789 i v1941 v1943), ∀ (k0_h1 : k0_cond1 i = 1#1), (k0_t11_loop v1941 v1943).OK := fun i v1941 v1943 k0_hw789 k0_h1 => k0_hw789.2 k0_h1

def k0_chk920 (i : grid0.Coords) (v2000 : IVec S16 32) : Prop :=
  (∀ (k0_h1 : k0_cond1 i = 1#1), ∀ a x, ((![v2000] : Fin 1 → IVec S16 32) a x).toNat < S4096.size a)
theorem k0_idx917_inb : ∀ (i : grid0.Coords) (v2000 : IVec S16 32) (k0_hw920 : k0_chk920 i v2000), ∀ (k0_h1 : k0_cond1 i = 1#1), ∀ a x, ((![v2000] : Fin 1 → IVec S16 32) a x).toNat < S4096.size a := fun i v2000 k0_hw920 k0_h1 => k0_hw920 k0_h1

def k0_chk921 (i : grid0.Coords) (v2012 : IVec S16 32) : Prop :=
  (∀ (k0_h1 : k0_cond1 i = 1#1), ∀ a x, ((![v2012] : Fin 1 → IVec S16 32) a x).toNat < S128.size a)
theorem k0_idx918_inb : ∀ (i : grid0.Coords) (v2012 : IVec S16 32) (k0_hw921 : k0_chk921 i v2012), ∀ (k0_h1 : k0_cond1 i = 1#1), ∀ a x, ((![v2012] : Fin 1 → IVec S16 32) a x).toNat < S128.size a := fun i v2012 k0_hw921 k0_h1 => k0_hw921 k0_h1

def k0_chk922 (i : grid0.Coords) (v2016 : IVec S16 32) (v2020 : IVec S16 32) : Prop :=
  (∀ (k0_h1 : k0_cond1 i = 1#1), ∀ a x, ((![v2020, v2016] : Fin 2 → IVec S16 32) a x).toNat < S64x256.size a)
theorem k0_idx919_inb : ∀ (i : grid0.Coords) (v2016 : IVec S16 32) (v2020 : IVec S16 32) (k0_hw922 : k0_chk922 i v2016 v2020), ∀ (k0_h1 : k0_cond1 i = 1#1), ∀ a x, ((![v2020, v2016] : Fin 2 → IVec S16 32) a x).toNat < S64x256.size a := fun i v2016 v2020 k0_hw922 k0_h1 => k0_hw922 k0_h1

def k0_chk923 (i : grid0.Coords) (v2018 : IVec S16 32) (v2023 : IVec S16 32) : Prop :=
  (∀ (k0_h1 : k0_cond1 i = 1#1), ∀ a x, ((![v2018, v2023] : Fin 2 → IVec S16 32) a x).toNat < S128x128.size a)
theorem k0_idx920_inb : ∀ (i : grid0.Coords) (v2018 : IVec S16 32) (v2023 : IVec S16 32) (k0_hw923 : k0_chk923 i v2018 v2023), ∀ (k0_h1 : k0_cond1 i = 1#1), ∀ a x, ((![v2018, v2023] : Fin 2 → IVec S16 32) a x).toNat < S128x128.size a := fun i v2018 v2023 k0_hw923 k0_h1 => k0_hw923 k0_h1

def k0_chk924 (i : grid0.Coords) (v2016 : IVec S16 32) (v2025 : IVec S16 32) : Prop :=
  (∀ (k0_h1 : k0_cond1 i = 1#1), ∀ a x, ((![v2025, v2016] : Fin 2 → IVec S16 32) a x).toNat < S64x256.size a)
theorem k0_idx921_inb : ∀ (i : grid0.Coords) (v2016 : IVec S16 32) (v2025 : IVec S16 32) (k0_hw924 : k0_chk924 i v2016 v2025), ∀ (k0_h1 : k0_cond1 i = 1#1), ∀ a x, ((![v2025, v2016] : Fin 2 → IVec S16 32) a x).toNat < S64x256.size a := fun i v2016 v2025 k0_hw924 k0_h1 => k0_hw924 k0_h1

def k0_chk925 (i : grid0.Coords) (v2018 : IVec S16 32) (v2028 : IVec S16 32) : Prop :=
  (∀ (k0_h1 : k0_cond1 i = 1#1), ∀ a x, ((![v2018, v2028] : Fin 2 → IVec S16 32) a x).toNat < S128x128.size a)
theorem k0_idx922_inb : ∀ (i : grid0.Coords) (v2018 : IVec S16 32) (v2028 : IVec S16 32) (k0_hw925 : k0_chk925 i v2018 v2028), ∀ (k0_h1 : k0_cond1 i = 1#1), ∀ a x, ((![v2018, v2028] : Fin 2 → IVec S16 32) a x).toNat < S128x128.size a := fun i v2018 v2028 k0_hw925 k0_h1 => k0_hw925 k0_h1

def k0_chk926 (i : grid0.Coords) (v2016 : IVec S16 32) (v2030 : IVec S16 32) : Prop :=
  (∀ (k0_h1 : k0_cond1 i = 1#1), ∀ a x, ((![v2030, v2016] : Fin 2 → IVec S16 32) a x).toNat < S64x256.size a)
theorem k0_idx923_inb : ∀ (i : grid0.Coords) (v2016 : IVec S16 32) (v2030 : IVec S16 32) (k0_hw926 : k0_chk926 i v2016 v2030), ∀ (k0_h1 : k0_cond1 i = 1#1), ∀ a x, ((![v2030, v2016] : Fin 2 → IVec S16 32) a x).toNat < S64x256.size a := fun i v2016 v2030 k0_hw926 k0_h1 => k0_hw926 k0_h1

def k0_chk927 (i : grid0.Coords) (v2018 : IVec S16 32) (v2033 : IVec S16 32) : Prop :=
  (∀ (k0_h1 : k0_cond1 i = 1#1), ∀ a x, ((![v2018, v2033] : Fin 2 → IVec S16 32) a x).toNat < S128x128.size a)
theorem k0_idx924_inb : ∀ (i : grid0.Coords) (v2018 : IVec S16 32) (v2033 : IVec S16 32) (k0_hw927 : k0_chk927 i v2018 v2033), ∀ (k0_h1 : k0_cond1 i = 1#1), ∀ a x, ((![v2018, v2033] : Fin 2 → IVec S16 32) a x).toNat < S128x128.size a := fun i v2018 v2033 k0_hw927 k0_h1 => k0_hw927 k0_h1

def k0_chk928 (i : grid0.Coords) (v2016 : IVec S16 32) (v2035 : IVec S16 32) : Prop :=
  (∀ (k0_h1 : k0_cond1 i = 1#1), ∀ a x, ((![v2035, v2016] : Fin 2 → IVec S16 32) a x).toNat < S64x256.size a)
theorem k0_idx925_inb : ∀ (i : grid0.Coords) (v2016 : IVec S16 32) (v2035 : IVec S16 32) (k0_hw928 : k0_chk928 i v2016 v2035), ∀ (k0_h1 : k0_cond1 i = 1#1), ∀ a x, ((![v2035, v2016] : Fin 2 → IVec S16 32) a x).toNat < S64x256.size a := fun i v2016 v2035 k0_hw928 k0_h1 => k0_hw928 k0_h1

def k0_chk929 (i : grid0.Coords) (v2018 : IVec S16 32) (v2038 : IVec S16 32) : Prop :=
  (∀ (k0_h1 : k0_cond1 i = 1#1), ∀ a x, ((![v2018, v2038] : Fin 2 → IVec S16 32) a x).toNat < S128x128.size a)
theorem k0_idx926_inb : ∀ (i : grid0.Coords) (v2018 : IVec S16 32) (v2038 : IVec S16 32) (k0_hw929 : k0_chk929 i v2018 v2038), ∀ (k0_h1 : k0_cond1 i = 1#1), ∀ a x, ((![v2018, v2038] : Fin 2 → IVec S16 32) a x).toNat < S128x128.size a := fun i v2018 v2038 k0_hw929 k0_h1 => k0_hw929 k0_h1

def k0_chk930 (i : grid0.Coords) (v2042 : IVec S16 32) (v2046 : IVec S16 32) : Prop :=
  (∀ (k0_h1 : k0_cond1 i = 1#1), ∀ a x, ((![v2046, v2042] : Fin 2 → IVec S16 32) a x).toNat < S64x256.size a)
theorem k0_idx927_inb : ∀ (i : grid0.Coords) (v2042 : IVec S16 32) (v2046 : IVec S16 32) (k0_hw930 : k0_chk930 i v2042 v2046), ∀ (k0_h1 : k0_cond1 i = 1#1), ∀ a x, ((![v2046, v2042] : Fin 2 → IVec S16 32) a x).toNat < S64x256.size a := fun i v2042 v2046 k0_hw930 k0_h1 => k0_hw930 k0_h1

def k0_chk931 (i : grid0.Coords) (v2044 : IVec S16 32) (v2049 : IVec S16 32) : Prop :=
  (∀ (k0_h1 : k0_cond1 i = 1#1), ∀ a x, ((![v2044, v2049] : Fin 2 → IVec S16 32) a x).toNat < S128x128.size a)
theorem k0_idx928_inb : ∀ (i : grid0.Coords) (v2044 : IVec S16 32) (v2049 : IVec S16 32) (k0_hw931 : k0_chk931 i v2044 v2049), ∀ (k0_h1 : k0_cond1 i = 1#1), ∀ a x, ((![v2044, v2049] : Fin 2 → IVec S16 32) a x).toNat < S128x128.size a := fun i v2044 v2049 k0_hw931 k0_h1 => k0_hw931 k0_h1

def k0_chk932 (i : grid0.Coords) (v2042 : IVec S16 32) (v2051 : IVec S16 32) : Prop :=
  (∀ (k0_h1 : k0_cond1 i = 1#1), ∀ a x, ((![v2051, v2042] : Fin 2 → IVec S16 32) a x).toNat < S64x256.size a)
theorem k0_idx929_inb : ∀ (i : grid0.Coords) (v2042 : IVec S16 32) (v2051 : IVec S16 32) (k0_hw932 : k0_chk932 i v2042 v2051), ∀ (k0_h1 : k0_cond1 i = 1#1), ∀ a x, ((![v2051, v2042] : Fin 2 → IVec S16 32) a x).toNat < S64x256.size a := fun i v2042 v2051 k0_hw932 k0_h1 => k0_hw932 k0_h1

def k0_chk933 (i : grid0.Coords) (v2044 : IVec S16 32) (v2054 : IVec S16 32) : Prop :=
  (∀ (k0_h1 : k0_cond1 i = 1#1), ∀ a x, ((![v2044, v2054] : Fin 2 → IVec S16 32) a x).toNat < S128x128.size a)
theorem k0_idx930_inb : ∀ (i : grid0.Coords) (v2044 : IVec S16 32) (v2054 : IVec S16 32) (k0_hw933 : k0_chk933 i v2044 v2054), ∀ (k0_h1 : k0_cond1 i = 1#1), ∀ a x, ((![v2044, v2054] : Fin 2 → IVec S16 32) a x).toNat < S128x128.size a := fun i v2044 v2054 k0_hw933 k0_h1 => k0_hw933 k0_h1

def k0_chk934 (i : grid0.Coords) (v2042 : IVec S16 32) (v2056 : IVec S16 32) : Prop :=
  (∀ (k0_h1 : k0_cond1 i = 1#1), ∀ a x, ((![v2056, v2042] : Fin 2 → IVec S16 32) a x).toNat < S64x256.size a)
theorem k0_idx931_inb : ∀ (i : grid0.Coords) (v2042 : IVec S16 32) (v2056 : IVec S16 32) (k0_hw934 : k0_chk934 i v2042 v2056), ∀ (k0_h1 : k0_cond1 i = 1#1), ∀ a x, ((![v2056, v2042] : Fin 2 → IVec S16 32) a x).toNat < S64x256.size a := fun i v2042 v2056 k0_hw934 k0_h1 => k0_hw934 k0_h1

def k0_chk935 (i : grid0.Coords) (v2044 : IVec S16 32) (v2059 : IVec S16 32) : Prop :=
  (∀ (k0_h1 : k0_cond1 i = 1#1), ∀ a x, ((![v2044, v2059] : Fin 2 → IVec S16 32) a x).toNat < S128x128.size a)
theorem k0_idx932_inb : ∀ (i : grid0.Coords) (v2044 : IVec S16 32) (v2059 : IVec S16 32) (k0_hw935 : k0_chk935 i v2044 v2059), ∀ (k0_h1 : k0_cond1 i = 1#1), ∀ a x, ((![v2044, v2059] : Fin 2 → IVec S16 32) a x).toNat < S128x128.size a := fun i v2044 v2059 k0_hw935 k0_h1 => k0_hw935 k0_h1

def k0_chk936 (i : grid0.Coords) (v2042 : IVec S16 32) (v2061 : IVec S16 32) : Prop :=
  (∀ (k0_h1 : k0_cond1 i = 1#1), ∀ a x, ((![v2061, v2042] : Fin 2 → IVec S16 32) a x).toNat < S64x256.size a)
theorem k0_idx933_inb : ∀ (i : grid0.Coords) (v2042 : IVec S16 32) (v2061 : IVec S16 32) (k0_hw936 : k0_chk936 i v2042 v2061), ∀ (k0_h1 : k0_cond1 i = 1#1), ∀ a x, ((![v2061, v2042] : Fin 2 → IVec S16 32) a x).toNat < S64x256.size a := fun i v2042 v2061 k0_hw936 k0_h1 => k0_hw936 k0_h1

def k0_chk937 (i : grid0.Coords) (v2044 : IVec S16 32) (v2064 : IVec S16 32) : Prop :=
  (∀ (k0_h1 : k0_cond1 i = 1#1), ∀ a x, ((![v2044, v2064] : Fin 2 → IVec S16 32) a x).toNat < S128x128.size a)
theorem k0_idx934_inb : ∀ (i : grid0.Coords) (v2044 : IVec S16 32) (v2064 : IVec S16 32) (k0_hw937 : k0_chk937 i v2044 v2064), ∀ (k0_h1 : k0_cond1 i = 1#1), ∀ a x, ((![v2044, v2064] : Fin 2 → IVec S16 32) a x).toNat < S128x128.size a := fun i v2044 v2064 k0_hw937 k0_h1 => k0_hw937 k0_h1

def k0_chk938 (i : grid0.Coords) (v2068 : IVec S16 32) (v2072 : IVec S16 32) : Prop :=
  (∀ (k0_h1 : k0_cond1 i = 1#1), ∀ a x, ((![v2072, v2068] : Fin 2 → IVec S16 32) a x).toNat < S64x256.size a)
theorem k0_idx935_inb : ∀ (i : grid0.Coords) (v2068 : IVec S16 32) (v2072 : IVec S16 32) (k0_hw938 : k0_chk938 i v2068 v2072), ∀ (k0_h1 : k0_cond1 i = 1#1), ∀ a x, ((![v2072, v2068] : Fin 2 → IVec S16 32) a x).toNat < S64x256.size a := fun i v2068 v2072 k0_hw938 k0_h1 => k0_hw938 k0_h1

def k0_chk939 (i : grid0.Coords) (v2070 : IVec S16 32) (v2075 : IVec S16 32) : Prop :=
  (∀ (k0_h1 : k0_cond1 i = 1#1), ∀ a x, ((![v2070, v2075] : Fin 2 → IVec S16 32) a x).toNat < S128x128.size a)
theorem k0_idx936_inb : ∀ (i : grid0.Coords) (v2070 : IVec S16 32) (v2075 : IVec S16 32) (k0_hw939 : k0_chk939 i v2070 v2075), ∀ (k0_h1 : k0_cond1 i = 1#1), ∀ a x, ((![v2070, v2075] : Fin 2 → IVec S16 32) a x).toNat < S128x128.size a := fun i v2070 v2075 k0_hw939 k0_h1 => k0_hw939 k0_h1

def k0_chk940 (i : grid0.Coords) (v2068 : IVec S16 32) (v2077 : IVec S16 32) : Prop :=
  (∀ (k0_h1 : k0_cond1 i = 1#1), ∀ a x, ((![v2077, v2068] : Fin 2 → IVec S16 32) a x).toNat < S64x256.size a)
theorem k0_idx937_inb : ∀ (i : grid0.Coords) (v2068 : IVec S16 32) (v2077 : IVec S16 32) (k0_hw940 : k0_chk940 i v2068 v2077), ∀ (k0_h1 : k0_cond1 i = 1#1), ∀ a x, ((![v2077, v2068] : Fin 2 → IVec S16 32) a x).toNat < S64x256.size a := fun i v2068 v2077 k0_hw940 k0_h1 => k0_hw940 k0_h1

def k0_chk941 (i : grid0.Coords) (v2070 : IVec S16 32) (v2080 : IVec S16 32) : Prop :=
  (∀ (k0_h1 : k0_cond1 i = 1#1), ∀ a x, ((![v2070, v2080] : Fin 2 → IVec S16 32) a x).toNat < S128x128.size a)
theorem k0_idx938_inb : ∀ (i : grid0.Coords) (v2070 : IVec S16 32) (v2080 : IVec S16 32) (k0_hw941 : k0_chk941 i v2070 v2080), ∀ (k0_h1 : k0_cond1 i = 1#1), ∀ a x, ((![v2070, v2080] : Fin 2 → IVec S16 32) a x).toNat < S128x128.size a := fun i v2070 v2080 k0_hw941 k0_h1 => k0_hw941 k0_h1

def k0_chk942 (i : grid0.Coords) (v2068 : IVec S16 32) (v2082 : IVec S16 32) : Prop :=
  (∀ (k0_h1 : k0_cond1 i = 1#1), ∀ a x, ((![v2082, v2068] : Fin 2 → IVec S16 32) a x).toNat < S64x256.size a)
theorem k0_idx939_inb : ∀ (i : grid0.Coords) (v2068 : IVec S16 32) (v2082 : IVec S16 32) (k0_hw942 : k0_chk942 i v2068 v2082), ∀ (k0_h1 : k0_cond1 i = 1#1), ∀ a x, ((![v2082, v2068] : Fin 2 → IVec S16 32) a x).toNat < S64x256.size a := fun i v2068 v2082 k0_hw942 k0_h1 => k0_hw942 k0_h1

def k0_chk943 (i : grid0.Coords) (v2070 : IVec S16 32) (v2085 : IVec S16 32) : Prop :=
  (∀ (k0_h1 : k0_cond1 i = 1#1), ∀ a x, ((![v2070, v2085] : Fin 2 → IVec S16 32) a x).toNat < S128x128.size a)
theorem k0_idx940_inb : ∀ (i : grid0.Coords) (v2070 : IVec S16 32) (v2085 : IVec S16 32) (k0_hw943 : k0_chk943 i v2070 v2085), ∀ (k0_h1 : k0_cond1 i = 1#1), ∀ a x, ((![v2070, v2085] : Fin 2 → IVec S16 32) a x).toNat < S128x128.size a := fun i v2070 v2085 k0_hw943 k0_h1 => k0_hw943 k0_h1

def k0_chk944 (i : grid0.Coords) (v2068 : IVec S16 32) (v2087 : IVec S16 32) : Prop :=
  (∀ (k0_h1 : k0_cond1 i = 1#1), ∀ a x, ((![v2087, v2068] : Fin 2 → IVec S16 32) a x).toNat < S64x256.size a)
theorem k0_idx941_inb : ∀ (i : grid0.Coords) (v2068 : IVec S16 32) (v2087 : IVec S16 32) (k0_hw944 : k0_chk944 i v2068 v2087), ∀ (k0_h1 : k0_cond1 i = 1#1), ∀ a x, ((![v2087, v2068] : Fin 2 → IVec S16 32) a x).toNat < S64x256.size a := fun i v2068 v2087 k0_hw944 k0_h1 => k0_hw944 k0_h1

def k0_chk945 (i : grid0.Coords) (v2070 : IVec S16 32) (v2090 : IVec S16 32) : Prop :=
  (∀ (k0_h1 : k0_cond1 i = 1#1), ∀ a x, ((![v2070, v2090] : Fin 2 → IVec S16 32) a x).toNat < S128x128.size a)
theorem k0_idx942_inb : ∀ (i : grid0.Coords) (v2070 : IVec S16 32) (v2090 : IVec S16 32) (k0_hw945 : k0_chk945 i v2070 v2090), ∀ (k0_h1 : k0_cond1 i = 1#1), ∀ a x, ((![v2070, v2090] : Fin 2 → IVec S16 32) a x).toNat < S128x128.size a := fun i v2070 v2090 k0_hw945 k0_h1 => k0_hw945 k0_h1

def k0_chk946 (i : grid0.Coords) (v2094 : IVec S16 32) (v2098 : IVec S16 32) : Prop :=
  (∀ (k0_h1 : k0_cond1 i = 1#1), ∀ a x, ((![v2098, v2094] : Fin 2 → IVec S16 32) a x).toNat < S64x256.size a)
theorem k0_idx943_inb : ∀ (i : grid0.Coords) (v2094 : IVec S16 32) (v2098 : IVec S16 32) (k0_hw946 : k0_chk946 i v2094 v2098), ∀ (k0_h1 : k0_cond1 i = 1#1), ∀ a x, ((![v2098, v2094] : Fin 2 → IVec S16 32) a x).toNat < S64x256.size a := fun i v2094 v2098 k0_hw946 k0_h1 => k0_hw946 k0_h1

def k0_chk947 (i : grid0.Coords) (v2096 : IVec S16 32) (v2101 : IVec S16 32) : Prop :=
  (∀ (k0_h1 : k0_cond1 i = 1#1), ∀ a x, ((![v2096, v2101] : Fin 2 → IVec S16 32) a x).toNat < S128x128.size a)
theorem k0_idx944_inb : ∀ (i : grid0.Coords) (v2096 : IVec S16 32) (v2101 : IVec S16 32) (k0_hw947 : k0_chk947 i v2096 v2101), ∀ (k0_h1 : k0_cond1 i = 1#1), ∀ a x, ((![v2096, v2101] : Fin 2 → IVec S16 32) a x).toNat < S128x128.size a := fun i v2096 v2101 k0_hw947 k0_h1 => k0_hw947 k0_h1

def k0_chk948 (i : grid0.Coords) (v2094 : IVec S16 32) (v2103 : IVec S16 32) : Prop :=
  (∀ (k0_h1 : k0_cond1 i = 1#1), ∀ a x, ((![v2103, v2094] : Fin 2 → IVec S16 32) a x).toNat < S64x256.size a)
theorem k0_idx945_inb : ∀ (i : grid0.Coords) (v2094 : IVec S16 32) (v2103 : IVec S16 32) (k0_hw948 : k0_chk948 i v2094 v2103), ∀ (k0_h1 : k0_cond1 i = 1#1), ∀ a x, ((![v2103, v2094] : Fin 2 → IVec S16 32) a x).toNat < S64x256.size a := fun i v2094 v2103 k0_hw948 k0_h1 => k0_hw948 k0_h1

def k0_chk949 (i : grid0.Coords) (v2096 : IVec S16 32) (v2106 : IVec S16 32) : Prop :=
  (∀ (k0_h1 : k0_cond1 i = 1#1), ∀ a x, ((![v2096, v2106] : Fin 2 → IVec S16 32) a x).toNat < S128x128.size a)
theorem k0_idx946_inb : ∀ (i : grid0.Coords) (v2096 : IVec S16 32) (v2106 : IVec S16 32) (k0_hw949 : k0_chk949 i v2096 v2106), ∀ (k0_h1 : k0_cond1 i = 1#1), ∀ a x, ((![v2096, v2106] : Fin 2 → IVec S16 32) a x).toNat < S128x128.size a := fun i v2096 v2106 k0_hw949 k0_h1 => k0_hw949 k0_h1

def k0_chk950 (i : grid0.Coords) (v2094 : IVec S16 32) (v2108 : IVec S16 32) : Prop :=
  (∀ (k0_h1 : k0_cond1 i = 1#1), ∀ a x, ((![v2108, v2094] : Fin 2 → IVec S16 32) a x).toNat < S64x256.size a)
theorem k0_idx947_inb : ∀ (i : grid0.Coords) (v2094 : IVec S16 32) (v2108 : IVec S16 32) (k0_hw950 : k0_chk950 i v2094 v2108), ∀ (k0_h1 : k0_cond1 i = 1#1), ∀ a x, ((![v2108, v2094] : Fin 2 → IVec S16 32) a x).toNat < S64x256.size a := fun i v2094 v2108 k0_hw950 k0_h1 => k0_hw950 k0_h1

def k0_chk951 (i : grid0.Coords) (v2096 : IVec S16 32) (v2111 : IVec S16 32) : Prop :=
  (∀ (k0_h1 : k0_cond1 i = 1#1), ∀ a x, ((![v2096, v2111] : Fin 2 → IVec S16 32) a x).toNat < S128x128.size a)
theorem k0_idx948_inb : ∀ (i : grid0.Coords) (v2096 : IVec S16 32) (v2111 : IVec S16 32) (k0_hw951 : k0_chk951 i v2096 v2111), ∀ (k0_h1 : k0_cond1 i = 1#1), ∀ a x, ((![v2096, v2111] : Fin 2 → IVec S16 32) a x).toNat < S128x128.size a := fun i v2096 v2111 k0_hw951 k0_h1 => k0_hw951 k0_h1

def k0_chk952 (i : grid0.Coords) (v2094 : IVec S16 32) (v2113 : IVec S16 32) : Prop :=
  (∀ (k0_h1 : k0_cond1 i = 1#1), ∀ a x, ((![v2113, v2094] : Fin 2 → IVec S16 32) a x).toNat < S64x256.size a)
theorem k0_idx949_inb : ∀ (i : grid0.Coords) (v2094 : IVec S16 32) (v2113 : IVec S16 32) (k0_hw952 : k0_chk952 i v2094 v2113), ∀ (k0_h1 : k0_cond1 i = 1#1), ∀ a x, ((![v2113, v2094] : Fin 2 → IVec S16 32) a x).toNat < S64x256.size a := fun i v2094 v2113 k0_hw952 k0_h1 => k0_hw952 k0_h1

def k0_chk953 (i : grid0.Coords) (v2096 : IVec S16 32) (v2116 : IVec S16 32) : Prop :=
  (∀ (k0_h1 : k0_cond1 i = 1#1), ∀ a x, ((![v2096, v2116] : Fin 2 → IVec S16 32) a x).toNat < S128x128.size a)
theorem k0_idx950_inb : ∀ (i : grid0.Coords) (v2096 : IVec S16 32) (v2116 : IVec S16 32) (k0_hw953 : k0_chk953 i v2096 v2116), ∀ (k0_h1 : k0_cond1 i = 1#1), ∀ a x, ((![v2096, v2116] : Fin 2 → IVec S16 32) a x).toNat < S128x128.size a := fun i v2096 v2116 k0_hw953 k0_h1 => k0_hw953 k0_h1

def k0_chk954 (i : grid0.Coords) (v2120 : IVec S16 32) (v2124 : IVec S16 32) : Prop :=
  (∀ (k0_h1 : k0_cond1 i = 1#1), ∀ a x, ((![v2124, v2120] : Fin 2 → IVec S16 32) a x).toNat < S64x256.size a)
theorem k0_idx951_inb : ∀ (i : grid0.Coords) (v2120 : IVec S16 32) (v2124 : IVec S16 32) (k0_hw954 : k0_chk954 i v2120 v2124), ∀ (k0_h1 : k0_cond1 i = 1#1), ∀ a x, ((![v2124, v2120] : Fin 2 → IVec S16 32) a x).toNat < S64x256.size a := fun i v2120 v2124 k0_hw954 k0_h1 => k0_hw954 k0_h1

def k0_chk955 (i : grid0.Coords) (v2122 : IVec S16 32) (v2127 : IVec S16 32) : Prop :=
  (∀ (k0_h1 : k0_cond1 i = 1#1), ∀ a x, ((![v2122, v2127] : Fin 2 → IVec S16 32) a x).toNat < S128x128.size a)
theorem k0_idx952_inb : ∀ (i : grid0.Coords) (v2122 : IVec S16 32) (v2127 : IVec S16 32) (k0_hw955 : k0_chk955 i v2122 v2127), ∀ (k0_h1 : k0_cond1 i = 1#1), ∀ a x, ((![v2122, v2127] : Fin 2 → IVec S16 32) a x).toNat < S128x128.size a := fun i v2122 v2127 k0_hw955 k0_h1 => k0_hw955 k0_h1

def k0_chk956 (i : grid0.Coords) (v2120 : IVec S16 32) (v2129 : IVec S16 32) : Prop :=
  (∀ (k0_h1 : k0_cond1 i = 1#1), ∀ a x, ((![v2129, v2120] : Fin 2 → IVec S16 32) a x).toNat < S64x256.size a)
theorem k0_idx953_inb : ∀ (i : grid0.Coords) (v2120 : IVec S16 32) (v2129 : IVec S16 32) (k0_hw956 : k0_chk956 i v2120 v2129), ∀ (k0_h1 : k0_cond1 i = 1#1), ∀ a x, ((![v2129, v2120] : Fin 2 → IVec S16 32) a x).toNat < S64x256.size a := fun i v2120 v2129 k0_hw956 k0_h1 => k0_hw956 k0_h1

def k0_chk957 (i : grid0.Coords) (v2122 : IVec S16 32) (v2132 : IVec S16 32) : Prop :=
  (∀ (k0_h1 : k0_cond1 i = 1#1), ∀ a x, ((![v2122, v2132] : Fin 2 → IVec S16 32) a x).toNat < S128x128.size a)
theorem k0_idx954_inb : ∀ (i : grid0.Coords) (v2122 : IVec S16 32) (v2132 : IVec S16 32) (k0_hw957 : k0_chk957 i v2122 v2132), ∀ (k0_h1 : k0_cond1 i = 1#1), ∀ a x, ((![v2122, v2132] : Fin 2 → IVec S16 32) a x).toNat < S128x128.size a := fun i v2122 v2132 k0_hw957 k0_h1 => k0_hw957 k0_h1

def k0_chk958 (i : grid0.Coords) (v2120 : IVec S16 32) (v2134 : IVec S16 32) : Prop :=
  (∀ (k0_h1 : k0_cond1 i = 1#1), ∀ a x, ((![v2134, v2120] : Fin 2 → IVec S16 32) a x).toNat < S64x256.size a)
theorem k0_idx955_inb : ∀ (i : grid0.Coords) (v2120 : IVec S16 32) (v2134 : IVec S16 32) (k0_hw958 : k0_chk958 i v2120 v2134), ∀ (k0_h1 : k0_cond1 i = 1#1), ∀ a x, ((![v2134, v2120] : Fin 2 → IVec S16 32) a x).toNat < S64x256.size a := fun i v2120 v2134 k0_hw958 k0_h1 => k0_hw958 k0_h1

def k0_chk959 (i : grid0.Coords) (v2122 : IVec S16 32) (v2137 : IVec S16 32) : Prop :=
  (∀ (k0_h1 : k0_cond1 i = 1#1), ∀ a x, ((![v2122, v2137] : Fin 2 → IVec S16 32) a x).toNat < S128x128.size a)
theorem k0_idx956_inb : ∀ (i : grid0.Coords) (v2122 : IVec S16 32) (v2137 : IVec S16 32) (k0_hw959 : k0_chk959 i v2122 v2137), ∀ (k0_h1 : k0_cond1 i = 1#1), ∀ a x, ((![v2122, v2137] : Fin 2 → IVec S16 32) a x).toNat < S128x128.size a := fun i v2122 v2137 k0_hw959 k0_h1 => k0_hw959 k0_h1

def k0_chk960 (i : grid0.Coords) (v2120 : IVec S16 32) (v2139 : IVec S16 32) : Prop :=
  (∀ (k0_h1 : k0_cond1 i = 1#1), ∀ a x, ((![v2139, v2120] : Fin 2 → IVec S16 32) a x).toNat < S64x256.size a)
theorem k0_idx957_inb : ∀ (i : grid0.Coords) (v2120 : IVec S16 32) (v2139 : IVec S16 32) (k0_hw960 : k0_chk960 i v2120 v2139), ∀ (k0_h1 : k0_cond1 i = 1#1), ∀ a x, ((![v2139, v2120] : Fin 2 → IVec S16 32) a x).toNat < S64x256.size a := fun i v2120 v2139 k0_hw960 k0_h1 => k0_hw960 k0_h1

def k0_chk961 (i : grid0.Coords) (v2122 : IVec S16 32) (v2142 : IVec S16 32) : Prop :=
  (∀ (k0_h1 : k0_cond1 i = 1#1), ∀ a x, ((![v2122, v2142] : Fin 2 → IVec S16 32) a x).toNat < S128x128.size a)
theorem k0_idx958_inb : ∀ (i : grid0.Coords) (v2122 : IVec S16 32) (v2142 : IVec S16 32) (k0_hw961 : k0_chk961 i v2122 v2142), ∀ (k0_h1 : k0_cond1 i = 1#1), ∀ a x, ((![v2122, v2142] : Fin 2 → IVec S16 32) a x).toNat < S128x128.size a := fun i v2122 v2142 k0_hw961 k0_h1 => k0_hw961 k0_h1

def k0_chk962 (i : grid0.Coords) (v2146 : IVec S16 32) (v2150 : IVec S16 32) : Prop :=
  (∀ (k0_h1 : k0_cond1 i = 1#1), ∀ a x, ((![v2150, v2146] : Fin 2 → IVec S16 32) a x).toNat < S64x256.size a)
theorem k0_idx959_inb : ∀ (i : grid0.Coords) (v2146 : IVec S16 32) (v2150 : IVec S16 32) (k0_hw962 : k0_chk962 i v2146 v2150), ∀ (k0_h1 : k0_cond1 i = 1#1), ∀ a x, ((![v2150, v2146] : Fin 2 → IVec S16 32) a x).toNat < S64x256.size a := fun i v2146 v2150 k0_hw962 k0_h1 => k0_hw962 k0_h1

def k0_chk963 (i : grid0.Coords) (v2148 : IVec S16 32) (v2153 : IVec S16 32) : Prop :=
  (∀ (k0_h1 : k0_cond1 i = 1#1), ∀ a x, ((![v2148, v2153] : Fin 2 → IVec S16 32) a x).toNat < S128x128.size a)
theorem k0_idx960_inb : ∀ (i : grid0.Coords) (v2148 : IVec S16 32) (v2153 : IVec S16 32) (k0_hw963 : k0_chk963 i v2148 v2153), ∀ (k0_h1 : k0_cond1 i = 1#1), ∀ a x, ((![v2148, v2153] : Fin 2 → IVec S16 32) a x).toNat < S128x128.size a := fun i v2148 v2153 k0_hw963 k0_h1 => k0_hw963 k0_h1

def k0_chk964 (i : grid0.Coords) (v2146 : IVec S16 32) (v2155 : IVec S16 32) : Prop :=
  (∀ (k0_h1 : k0_cond1 i = 1#1), ∀ a x, ((![v2155, v2146] : Fin 2 → IVec S16 32) a x).toNat < S64x256.size a)
theorem k0_idx961_inb : ∀ (i : grid0.Coords) (v2146 : IVec S16 32) (v2155 : IVec S16 32) (k0_hw964 : k0_chk964 i v2146 v2155), ∀ (k0_h1 : k0_cond1 i = 1#1), ∀ a x, ((![v2155, v2146] : Fin 2 → IVec S16 32) a x).toNat < S64x256.size a := fun i v2146 v2155 k0_hw964 k0_h1 => k0_hw964 k0_h1

def k0_chk965 (i : grid0.Coords) (v2148 : IVec S16 32) (v2158 : IVec S16 32) : Prop :=
  (∀ (k0_h1 : k0_cond1 i = 1#1), ∀ a x, ((![v2148, v2158] : Fin 2 → IVec S16 32) a x).toNat < S128x128.size a)
theorem k0_idx962_inb : ∀ (i : grid0.Coords) (v2148 : IVec S16 32) (v2158 : IVec S16 32) (k0_hw965 : k0_chk965 i v2148 v2158), ∀ (k0_h1 : k0_cond1 i = 1#1), ∀ a x, ((![v2148, v2158] : Fin 2 → IVec S16 32) a x).toNat < S128x128.size a := fun i v2148 v2158 k0_hw965 k0_h1 => k0_hw965 k0_h1

def k0_chk966 (i : grid0.Coords) (v2146 : IVec S16 32) (v2160 : IVec S16 32) : Prop :=
  (∀ (k0_h1 : k0_cond1 i = 1#1), ∀ a x, ((![v2160, v2146] : Fin 2 → IVec S16 32) a x).toNat < S64x256.size a)
theorem k0_idx963_inb : ∀ (i : grid0.Coords) (v2146 : IVec S16 32) (v2160 : IVec S16 32) (k0_hw966 : k0_chk966 i v2146 v2160), ∀ (k0_h1 : k0_cond1 i = 1#1), ∀ a x, ((![v2160, v2146] : Fin 2 → IVec S16 32) a x).toNat < S64x256.size a := fun i v2146 v2160 k0_hw966 k0_h1 => k0_hw966 k0_h1

def k0_chk967 (i : grid0.Coords) (v2148 : IVec S16 32) (v2163 : IVec S16 32) : Prop :=
  (∀ (k0_h1 : k0_cond1 i = 1#1), ∀ a x, ((![v2148, v2163] : Fin 2 → IVec S16 32) a x).toNat < S128x128.size a)
theorem k0_idx964_inb : ∀ (i : grid0.Coords) (v2148 : IVec S16 32) (v2163 : IVec S16 32) (k0_hw967 : k0_chk967 i v2148 v2163), ∀ (k0_h1 : k0_cond1 i = 1#1), ∀ a x, ((![v2148, v2163] : Fin 2 → IVec S16 32) a x).toNat < S128x128.size a := fun i v2148 v2163 k0_hw967 k0_h1 => k0_hw967 k0_h1

def k0_chk968 (i : grid0.Coords) (v2146 : IVec S16 32) (v2165 : IVec S16 32) : Prop :=
  (∀ (k0_h1 : k0_cond1 i = 1#1), ∀ a x, ((![v2165, v2146] : Fin 2 → IVec S16 32) a x).toNat < S64x256.size a)
theorem k0_idx965_inb : ∀ (i : grid0.Coords) (v2146 : IVec S16 32) (v2165 : IVec S16 32) (k0_hw968 : k0_chk968 i v2146 v2165), ∀ (k0_h1 : k0_cond1 i = 1#1), ∀ a x, ((![v2165, v2146] : Fin 2 → IVec S16 32) a x).toNat < S64x256.size a := fun i v2146 v2165 k0_hw968 k0_h1 => k0_hw968 k0_h1

def k0_chk969 (i : grid0.Coords) (v2148 : IVec S16 32) (v2168 : IVec S16 32) : Prop :=
  (∀ (k0_h1 : k0_cond1 i = 1#1), ∀ a x, ((![v2148, v2168] : Fin 2 → IVec S16 32) a x).toNat < S128x128.size a)
theorem k0_idx966_inb : ∀ (i : grid0.Coords) (v2148 : IVec S16 32) (v2168 : IVec S16 32) (k0_hw969 : k0_chk969 i v2148 v2168), ∀ (k0_h1 : k0_cond1 i = 1#1), ∀ a x, ((![v2148, v2168] : Fin 2 → IVec S16 32) a x).toNat < S128x128.size a := fun i v2148 v2168 k0_hw969 k0_h1 => k0_hw969 k0_h1

def k0_chk970 (i : grid0.Coords) (v2172 : IVec S16 32) (v2176 : IVec S16 32) : Prop :=
  (∀ (k0_h1 : k0_cond1 i = 1#1), ∀ a x, ((![v2176, v2172] : Fin 2 → IVec S16 32) a x).toNat < S64x256.size a)
theorem k0_idx967_inb : ∀ (i : grid0.Coords) (v2172 : IVec S16 32) (v2176 : IVec S16 32) (k0_hw970 : k0_chk970 i v2172 v2176), ∀ (k0_h1 : k0_cond1 i = 1#1), ∀ a x, ((![v2176, v2172] : Fin 2 → IVec S16 32) a x).toNat < S64x256.size a := fun i v2172 v2176 k0_hw970 k0_h1 => k0_hw970 k0_h1

def k0_chk971 (i : grid0.Coords) (v2174 : IVec S16 32) (v2179 : IVec S16 32) : Prop :=
  (∀ (k0_h1 : k0_cond1 i = 1#1), ∀ a x, ((![v2174, v2179] : Fin 2 → IVec S16 32) a x).toNat < S128x128.size a)
theorem k0_idx968_inb : ∀ (i : grid0.Coords) (v2174 : IVec S16 32) (v2179 : IVec S16 32) (k0_hw971 : k0_chk971 i v2174 v2179), ∀ (k0_h1 : k0_cond1 i = 1#1), ∀ a x, ((![v2174, v2179] : Fin 2 → IVec S16 32) a x).toNat < S128x128.size a := fun i v2174 v2179 k0_hw971 k0_h1 => k0_hw971 k0_h1

def k0_chk972 (i : grid0.Coords) (v2172 : IVec S16 32) (v2181 : IVec S16 32) : Prop :=
  (∀ (k0_h1 : k0_cond1 i = 1#1), ∀ a x, ((![v2181, v2172] : Fin 2 → IVec S16 32) a x).toNat < S64x256.size a)
theorem k0_idx969_inb : ∀ (i : grid0.Coords) (v2172 : IVec S16 32) (v2181 : IVec S16 32) (k0_hw972 : k0_chk972 i v2172 v2181), ∀ (k0_h1 : k0_cond1 i = 1#1), ∀ a x, ((![v2181, v2172] : Fin 2 → IVec S16 32) a x).toNat < S64x256.size a := fun i v2172 v2181 k0_hw972 k0_h1 => k0_hw972 k0_h1

def k0_chk973 (i : grid0.Coords) (v2174 : IVec S16 32) (v2184 : IVec S16 32) : Prop :=
  (∀ (k0_h1 : k0_cond1 i = 1#1), ∀ a x, ((![v2174, v2184] : Fin 2 → IVec S16 32) a x).toNat < S128x128.size a)
theorem k0_idx970_inb : ∀ (i : grid0.Coords) (v2174 : IVec S16 32) (v2184 : IVec S16 32) (k0_hw973 : k0_chk973 i v2174 v2184), ∀ (k0_h1 : k0_cond1 i = 1#1), ∀ a x, ((![v2174, v2184] : Fin 2 → IVec S16 32) a x).toNat < S128x128.size a := fun i v2174 v2184 k0_hw973 k0_h1 => k0_hw973 k0_h1

def k0_chk974 (i : grid0.Coords) (v2172 : IVec S16 32) (v2186 : IVec S16 32) : Prop :=
  (∀ (k0_h1 : k0_cond1 i = 1#1), ∀ a x, ((![v2186, v2172] : Fin 2 → IVec S16 32) a x).toNat < S64x256.size a)
theorem k0_idx971_inb : ∀ (i : grid0.Coords) (v2172 : IVec S16 32) (v2186 : IVec S16 32) (k0_hw974 : k0_chk974 i v2172 v2186), ∀ (k0_h1 : k0_cond1 i = 1#1), ∀ a x, ((![v2186, v2172] : Fin 2 → IVec S16 32) a x).toNat < S64x256.size a := fun i v2172 v2186 k0_hw974 k0_h1 => k0_hw974 k0_h1

def k0_chk975 (i : grid0.Coords) (v2174 : IVec S16 32) (v2189 : IVec S16 32) : Prop :=
  (∀ (k0_h1 : k0_cond1 i = 1#1), ∀ a x, ((![v2174, v2189] : Fin 2 → IVec S16 32) a x).toNat < S128x128.size a)
theorem k0_idx972_inb : ∀ (i : grid0.Coords) (v2174 : IVec S16 32) (v2189 : IVec S16 32) (k0_hw975 : k0_chk975 i v2174 v2189), ∀ (k0_h1 : k0_cond1 i = 1#1), ∀ a x, ((![v2174, v2189] : Fin 2 → IVec S16 32) a x).toNat < S128x128.size a := fun i v2174 v2189 k0_hw975 k0_h1 => k0_hw975 k0_h1

def k0_chk976 (i : grid0.Coords) (v2172 : IVec S16 32) (v2191 : IVec S16 32) : Prop :=
  (∀ (k0_h1 : k0_cond1 i = 1#1), ∀ a x, ((![v2191, v2172] : Fin 2 → IVec S16 32) a x).toNat < S64x256.size a)
theorem k0_idx973_inb : ∀ (i : grid0.Coords) (v2172 : IVec S16 32) (v2191 : IVec S16 32) (k0_hw976 : k0_chk976 i v2172 v2191), ∀ (k0_h1 : k0_cond1 i = 1#1), ∀ a x, ((![v2191, v2172] : Fin 2 → IVec S16 32) a x).toNat < S64x256.size a := fun i v2172 v2191 k0_hw976 k0_h1 => k0_hw976 k0_h1

def k0_chk977 (i : grid0.Coords) (v2174 : IVec S16 32) (v2194 : IVec S16 32) : Prop :=
  (∀ (k0_h1 : k0_cond1 i = 1#1), ∀ a x, ((![v2174, v2194] : Fin 2 → IVec S16 32) a x).toNat < S128x128.size a)
theorem k0_idx974_inb : ∀ (i : grid0.Coords) (v2174 : IVec S16 32) (v2194 : IVec S16 32) (k0_hw977 : k0_chk977 i v2174 v2194), ∀ (k0_h1 : k0_cond1 i = 1#1), ∀ a x, ((![v2174, v2194] : Fin 2 → IVec S16 32) a x).toNat < S128x128.size a := fun i v2174 v2194 k0_hw977 k0_h1 => k0_hw977 k0_h1

def k0_chk978 (i : grid0.Coords) (v2198 : IVec S16 32) (v2202 : IVec S16 32) : Prop :=
  (∀ (k0_h1 : k0_cond1 i = 1#1), ∀ a x, ((![v2202, v2198] : Fin 2 → IVec S16 32) a x).toNat < S64x256.size a)
theorem k0_idx975_inb : ∀ (i : grid0.Coords) (v2198 : IVec S16 32) (v2202 : IVec S16 32) (k0_hw978 : k0_chk978 i v2198 v2202), ∀ (k0_h1 : k0_cond1 i = 1#1), ∀ a x, ((![v2202, v2198] : Fin 2 → IVec S16 32) a x).toNat < S64x256.size a := fun i v2198 v2202 k0_hw978 k0_h1 => k0_hw978 k0_h1

def k0_chk979 (i : grid0.Coords) (v2200 : IVec S16 32) (v2205 : IVec S16 32) : Prop :=
  (∀ (k0_h1 : k0_cond1 i = 1#1), ∀ a x, ((![v2200, v2205] : Fin 2 → IVec S16 32) a x).toNat < S128x128.size a)
theorem k0_idx976_inb : ∀ (i : grid0.Coords) (v2200 : IVec S16 32) (v2205 : IVec S16 32) (k0_hw979 : k0_chk979 i v2200 v2205), ∀ (k0_h1 : k0_cond1 i = 1#1), ∀ a x, ((![v2200, v2205] : Fin 2 → IVec S16 32) a x).toNat < S128x128.size a := fun i v2200 v2205 k0_hw979 k0_h1 => k0_hw979 k0_h1

def k0_chk980 (i : grid0.Coords) (v2198 : IVec S16 32) (v2207 : IVec S16 32) : Prop :=
  (∀ (k0_h1 : k0_cond1 i = 1#1), ∀ a x, ((![v2207, v2198] : Fin 2 → IVec S16 32) a x).toNat < S64x256.size a)
theorem k0_idx977_inb : ∀ (i : grid0.Coords) (v2198 : IVec S16 32) (v2207 : IVec S16 32) (k0_hw980 : k0_chk980 i v2198 v2207), ∀ (k0_h1 : k0_cond1 i = 1#1), ∀ a x, ((![v2207, v2198] : Fin 2 → IVec S16 32) a x).toNat < S64x256.size a := fun i v2198 v2207 k0_hw980 k0_h1 => k0_hw980 k0_h1

def k0_chk981 (i : grid0.Coords) (v2200 : IVec S16 32) (v2210 : IVec S16 32) : Prop :=
  (∀ (k0_h1 : k0_cond1 i = 1#1), ∀ a x, ((![v2200, v2210] : Fin 2 → IVec S16 32) a x).toNat < S128x128.size a)
theorem k0_idx978_inb : ∀ (i : grid0.Coords) (v2200 : IVec S16 32) (v2210 : IVec S16 32) (k0_hw981 : k0_chk981 i v2200 v2210), ∀ (k0_h1 : k0_cond1 i = 1#1), ∀ a x, ((![v2200, v2210] : Fin 2 → IVec S16 32) a x).toNat < S128x128.size a := fun i v2200 v2210 k0_hw981 k0_h1 => k0_hw981 k0_h1

def k0_chk982 (i : grid0.Coords) (v2198 : IVec S16 32) (v2212 : IVec S16 32) : Prop :=
  (∀ (k0_h1 : k0_cond1 i = 1#1), ∀ a x, ((![v2212, v2198] : Fin 2 → IVec S16 32) a x).toNat < S64x256.size a)
theorem k0_idx979_inb : ∀ (i : grid0.Coords) (v2198 : IVec S16 32) (v2212 : IVec S16 32) (k0_hw982 : k0_chk982 i v2198 v2212), ∀ (k0_h1 : k0_cond1 i = 1#1), ∀ a x, ((![v2212, v2198] : Fin 2 → IVec S16 32) a x).toNat < S64x256.size a := fun i v2198 v2212 k0_hw982 k0_h1 => k0_hw982 k0_h1

def k0_chk983 (i : grid0.Coords) (v2200 : IVec S16 32) (v2215 : IVec S16 32) : Prop :=
  (∀ (k0_h1 : k0_cond1 i = 1#1), ∀ a x, ((![v2200, v2215] : Fin 2 → IVec S16 32) a x).toNat < S128x128.size a)
theorem k0_idx980_inb : ∀ (i : grid0.Coords) (v2200 : IVec S16 32) (v2215 : IVec S16 32) (k0_hw983 : k0_chk983 i v2200 v2215), ∀ (k0_h1 : k0_cond1 i = 1#1), ∀ a x, ((![v2200, v2215] : Fin 2 → IVec S16 32) a x).toNat < S128x128.size a := fun i v2200 v2215 k0_hw983 k0_h1 => k0_hw983 k0_h1

def k0_chk984 (i : grid0.Coords) (v2198 : IVec S16 32) (v2217 : IVec S16 32) : Prop :=
  (∀ (k0_h1 : k0_cond1 i = 1#1), ∀ a x, ((![v2217, v2198] : Fin 2 → IVec S16 32) a x).toNat < S64x256.size a)
theorem k0_idx981_inb : ∀ (i : grid0.Coords) (v2198 : IVec S16 32) (v2217 : IVec S16 32) (k0_hw984 : k0_chk984 i v2198 v2217), ∀ (k0_h1 : k0_cond1 i = 1#1), ∀ a x, ((![v2217, v2198] : Fin 2 → IVec S16 32) a x).toNat < S64x256.size a := fun i v2198 v2217 k0_hw984 k0_h1 => k0_hw984 k0_h1

def k0_chk985 (i : grid0.Coords) (v2200 : IVec S16 32) (v2220 : IVec S16 32) : Prop :=
  (∀ (k0_h1 : k0_cond1 i = 1#1), ∀ a x, ((![v2200, v2220] : Fin 2 → IVec S16 32) a x).toNat < S128x128.size a)
theorem k0_idx982_inb : ∀ (i : grid0.Coords) (v2200 : IVec S16 32) (v2220 : IVec S16 32) (k0_hw985 : k0_chk985 i v2200 v2220), ∀ (k0_h1 : k0_cond1 i = 1#1), ∀ a x, ((![v2200, v2220] : Fin 2 → IVec S16 32) a x).toNat < S128x128.size a := fun i v2200 v2220 k0_hw985 k0_h1 => k0_hw985 k0_h1

def k0_chk986 (i : grid0.Coords) (v2224 : IVec S16 32) (v2228 : IVec S16 32) : Prop :=
  (∀ (k0_h1 : k0_cond1 i = 1#1), ∀ a x, ((![v2228, v2224] : Fin 2 → IVec S16 32) a x).toNat < S64x256.size a)
theorem k0_idx983_inb : ∀ (i : grid0.Coords) (v2224 : IVec S16 32) (v2228 : IVec S16 32) (k0_hw986 : k0_chk986 i v2224 v2228), ∀ (k0_h1 : k0_cond1 i = 1#1), ∀ a x, ((![v2228, v2224] : Fin 2 → IVec S16 32) a x).toNat < S64x256.size a := fun i v2224 v2228 k0_hw986 k0_h1 => k0_hw986 k0_h1

def k0_chk987 (i : grid0.Coords) (v2226 : IVec S16 32) (v2231 : IVec S16 32) : Prop :=
  (∀ (k0_h1 : k0_cond1 i = 1#1), ∀ a x, ((![v2226, v2231] : Fin 2 → IVec S16 32) a x).toNat < S128x128.size a)
theorem k0_idx984_inb : ∀ (i : grid0.Coords) (v2226 : IVec S16 32) (v2231 : IVec S16 32) (k0_hw987 : k0_chk987 i v2226 v2231), ∀ (k0_h1 : k0_cond1 i = 1#1), ∀ a x, ((![v2226, v2231] : Fin 2 → IVec S16 32) a x).toNat < S128x128.size a := fun i v2226 v2231 k0_hw987 k0_h1 => k0_hw987 k0_h1

def k0_chk988 (i : grid0.Coords) (v2224 : IVec S16 32) (v2233 : IVec S16 32) : Prop :=
  (∀ (k0_h1 : k0_cond1 i = 1#1), ∀ a x, ((![v2233, v2224] : Fin 2 → IVec S16 32) a x).toNat < S64x256.size a)
theorem k0_idx985_inb : ∀ (i : grid0.Coords) (v2224 : IVec S16 32) (v2233 : IVec S16 32) (k0_hw988 : k0_chk988 i v2224 v2233), ∀ (k0_h1 : k0_cond1 i = 1#1), ∀ a x, ((![v2233, v2224] : Fin 2 → IVec S16 32) a x).toNat < S64x256.size a := fun i v2224 v2233 k0_hw988 k0_h1 => k0_hw988 k0_h1

def k0_chk989 (i : grid0.Coords) (v2226 : IVec S16 32) (v2236 : IVec S16 32) : Prop :=
  (∀ (k0_h1 : k0_cond1 i = 1#1), ∀ a x, ((![v2226, v2236] : Fin 2 → IVec S16 32) a x).toNat < S128x128.size a)
theorem k0_idx986_inb : ∀ (i : grid0.Coords) (v2226 : IVec S16 32) (v2236 : IVec S16 32) (k0_hw989 : k0_chk989 i v2226 v2236), ∀ (k0_h1 : k0_cond1 i = 1#1), ∀ a x, ((![v2226, v2236] : Fin 2 → IVec S16 32) a x).toNat < S128x128.size a := fun i v2226 v2236 k0_hw989 k0_h1 => k0_hw989 k0_h1

def k0_chk990 (i : grid0.Coords) (v2224 : IVec S16 32) (v2238 : IVec S16 32) : Prop :=
  (∀ (k0_h1 : k0_cond1 i = 1#1), ∀ a x, ((![v2238, v2224] : Fin 2 → IVec S16 32) a x).toNat < S64x256.size a)
theorem k0_idx987_inb : ∀ (i : grid0.Coords) (v2224 : IVec S16 32) (v2238 : IVec S16 32) (k0_hw990 : k0_chk990 i v2224 v2238), ∀ (k0_h1 : k0_cond1 i = 1#1), ∀ a x, ((![v2238, v2224] : Fin 2 → IVec S16 32) a x).toNat < S64x256.size a := fun i v2224 v2238 k0_hw990 k0_h1 => k0_hw990 k0_h1

def k0_chk991 (i : grid0.Coords) (v2226 : IVec S16 32) (v2241 : IVec S16 32) : Prop :=
  (∀ (k0_h1 : k0_cond1 i = 1#1), ∀ a x, ((![v2226, v2241] : Fin 2 → IVec S16 32) a x).toNat < S128x128.size a)
theorem k0_idx988_inb : ∀ (i : grid0.Coords) (v2226 : IVec S16 32) (v2241 : IVec S16 32) (k0_hw991 : k0_chk991 i v2226 v2241), ∀ (k0_h1 : k0_cond1 i = 1#1), ∀ a x, ((![v2226, v2241] : Fin 2 → IVec S16 32) a x).toNat < S128x128.size a := fun i v2226 v2241 k0_hw991 k0_h1 => k0_hw991 k0_h1

def k0_chk992 (i : grid0.Coords) (v2224 : IVec S16 32) (v2243 : IVec S16 32) : Prop :=
  (∀ (k0_h1 : k0_cond1 i = 1#1), ∀ a x, ((![v2243, v2224] : Fin 2 → IVec S16 32) a x).toNat < S64x256.size a)
theorem k0_idx989_inb : ∀ (i : grid0.Coords) (v2224 : IVec S16 32) (v2243 : IVec S16 32) (k0_hw992 : k0_chk992 i v2224 v2243), ∀ (k0_h1 : k0_cond1 i = 1#1), ∀ a x, ((![v2243, v2224] : Fin 2 → IVec S16 32) a x).toNat < S64x256.size a := fun i v2224 v2243 k0_hw992 k0_h1 => k0_hw992 k0_h1

def k0_chk993 (i : grid0.Coords) (v2226 : IVec S16 32) (v2246 : IVec S16 32) : Prop :=
  (∀ (k0_h1 : k0_cond1 i = 1#1), ∀ a x, ((![v2226, v2246] : Fin 2 → IVec S16 32) a x).toNat < S128x128.size a)
theorem k0_idx990_inb : ∀ (i : grid0.Coords) (v2226 : IVec S16 32) (v2246 : IVec S16 32) (k0_hw993 : k0_chk993 i v2226 v2246), ∀ (k0_h1 : k0_cond1 i = 1#1), ∀ a x, ((![v2226, v2246] : Fin 2 → IVec S16 32) a x).toNat < S128x128.size a := fun i v2226 v2246 k0_hw993 k0_h1 => k0_hw993 k0_h1

def k0_chk994 (i : grid0.Coords) (v2250 : IVec S16 32) (v2254 : IVec S16 32) : Prop :=
  (∀ (k0_h1 : k0_cond1 i = 1#1), ∀ a x, ((![v2254, v2250] : Fin 2 → IVec S16 32) a x).toNat < S64x256.size a)
theorem k0_idx991_inb : ∀ (i : grid0.Coords) (v2250 : IVec S16 32) (v2254 : IVec S16 32) (k0_hw994 : k0_chk994 i v2250 v2254), ∀ (k0_h1 : k0_cond1 i = 1#1), ∀ a x, ((![v2254, v2250] : Fin 2 → IVec S16 32) a x).toNat < S64x256.size a := fun i v2250 v2254 k0_hw994 k0_h1 => k0_hw994 k0_h1

def k0_chk995 (i : grid0.Coords) (v2252 : IVec S16 32) (v2257 : IVec S16 32) : Prop :=
  (∀ (k0_h1 : k0_cond1 i = 1#1), ∀ a x, ((![v2252, v2257] : Fin 2 → IVec S16 32) a x).toNat < S128x128.size a)
theorem k0_idx992_inb : ∀ (i : grid0.Coords) (v2252 : IVec S16 32) (v2257 : IVec S16 32) (k0_hw995 : k0_chk995 i v2252 v2257), ∀ (k0_h1 : k0_cond1 i = 1#1), ∀ a x, ((![v2252, v2257] : Fin 2 → IVec S16 32) a x).toNat < S128x128.size a := fun i v2252 v2257 k0_hw995 k0_h1 => k0_hw995 k0_h1

def k0_chk996 (i : grid0.Coords) (v2250 : IVec S16 32) (v2259 : IVec S16 32) : Prop :=
  (∀ (k0_h1 : k0_cond1 i = 1#1), ∀ a x, ((![v2259, v2250] : Fin 2 → IVec S16 32) a x).toNat < S64x256.size a)
theorem k0_idx993_inb : ∀ (i : grid0.Coords) (v2250 : IVec S16 32) (v2259 : IVec S16 32) (k0_hw996 : k0_chk996 i v2250 v2259), ∀ (k0_h1 : k0_cond1 i = 1#1), ∀ a x, ((![v2259, v2250] : Fin 2 → IVec S16 32) a x).toNat < S64x256.size a := fun i v2250 v2259 k0_hw996 k0_h1 => k0_hw996 k0_h1

def k0_chk997 (i : grid0.Coords) (v2252 : IVec S16 32) (v2262 : IVec S16 32) : Prop :=
  (∀ (k0_h1 : k0_cond1 i = 1#1), ∀ a x, ((![v2252, v2262] : Fin 2 → IVec S16 32) a x).toNat < S128x128.size a)
theorem k0_idx994_inb : ∀ (i : grid0.Coords) (v2252 : IVec S16 32) (v2262 : IVec S16 32) (k0_hw997 : k0_chk997 i v2252 v2262), ∀ (k0_h1 : k0_cond1 i = 1#1), ∀ a x, ((![v2252, v2262] : Fin 2 → IVec S16 32) a x).toNat < S128x128.size a := fun i v2252 v2262 k0_hw997 k0_h1 => k0_hw997 k0_h1

def k0_chk998 (i : grid0.Coords) (v2250 : IVec S16 32) (v2264 : IVec S16 32) : Prop :=
  (∀ (k0_h1 : k0_cond1 i = 1#1), ∀ a x, ((![v2264, v2250] : Fin 2 → IVec S16 32) a x).toNat < S64x256.size a)
theorem k0_idx995_inb : ∀ (i : grid0.Coords) (v2250 : IVec S16 32) (v2264 : IVec S16 32) (k0_hw998 : k0_chk998 i v2250 v2264), ∀ (k0_h1 : k0_cond1 i = 1#1), ∀ a x, ((![v2264, v2250] : Fin 2 → IVec S16 32) a x).toNat < S64x256.size a := fun i v2250 v2264 k0_hw998 k0_h1 => k0_hw998 k0_h1

def k0_chk999 (i : grid0.Coords) (v2252 : IVec S16 32) (v2267 : IVec S16 32) : Prop :=
  (∀ (k0_h1 : k0_cond1 i = 1#1), ∀ a x, ((![v2252, v2267] : Fin 2 → IVec S16 32) a x).toNat < S128x128.size a)
theorem k0_idx996_inb : ∀ (i : grid0.Coords) (v2252 : IVec S16 32) (v2267 : IVec S16 32) (k0_hw999 : k0_chk999 i v2252 v2267), ∀ (k0_h1 : k0_cond1 i = 1#1), ∀ a x, ((![v2252, v2267] : Fin 2 → IVec S16 32) a x).toNat < S128x128.size a := fun i v2252 v2267 k0_hw999 k0_h1 => k0_hw999 k0_h1

def k0_chk1000 (i : grid0.Coords) (v2250 : IVec S16 32) (v2269 : IVec S16 32) : Prop :=
  (∀ (k0_h1 : k0_cond1 i = 1#1), ∀ a x, ((![v2269, v2250] : Fin 2 → IVec S16 32) a x).toNat < S64x256.size a)
theorem k0_idx997_inb : ∀ (i : grid0.Coords) (v2250 : IVec S16 32) (v2269 : IVec S16 32) (k0_hw1000 : k0_chk1000 i v2250 v2269), ∀ (k0_h1 : k0_cond1 i = 1#1), ∀ a x, ((![v2269, v2250] : Fin 2 → IVec S16 32) a x).toNat < S64x256.size a := fun i v2250 v2269 k0_hw1000 k0_h1 => k0_hw1000 k0_h1

def k0_chk1001 (i : grid0.Coords) (v2252 : IVec S16 32) (v2272 : IVec S16 32) : Prop :=
  (∀ (k0_h1 : k0_cond1 i = 1#1), ∀ a x, ((![v2252, v2272] : Fin 2 → IVec S16 32) a x).toNat < S128x128.size a)
theorem k0_idx998_inb : ∀ (i : grid0.Coords) (v2252 : IVec S16 32) (v2272 : IVec S16 32) (k0_hw1001 : k0_chk1001 i v2252 v2272), ∀ (k0_h1 : k0_cond1 i = 1#1), ∀ a x, ((![v2252, v2272] : Fin 2 → IVec S16 32) a x).toNat < S128x128.size a := fun i v2252 v2272 k0_hw1001 k0_h1 => k0_hw1001 k0_h1

def k0_chk1002 (i : grid0.Coords) (v2276 : IVec S16 32) (v2280 : IVec S16 32) : Prop :=
  (∀ (k0_h1 : k0_cond1 i = 1#1), ∀ a x, ((![v2280, v2276] : Fin 2 → IVec S16 32) a x).toNat < S64x256.size a)
theorem k0_idx999_inb : ∀ (i : grid0.Coords) (v2276 : IVec S16 32) (v2280 : IVec S16 32) (k0_hw1002 : k0_chk1002 i v2276 v2280), ∀ (k0_h1 : k0_cond1 i = 1#1), ∀ a x, ((![v2280, v2276] : Fin 2 → IVec S16 32) a x).toNat < S64x256.size a := fun i v2276 v2280 k0_hw1002 k0_h1 => k0_hw1002 k0_h1

def k0_chk1003 (i : grid0.Coords) (v2278 : IVec S16 32) (v2283 : IVec S16 32) : Prop :=
  (∀ (k0_h1 : k0_cond1 i = 1#1), ∀ a x, ((![v2278, v2283] : Fin 2 → IVec S16 32) a x).toNat < S128x128.size a)
theorem k0_idx1000_inb : ∀ (i : grid0.Coords) (v2278 : IVec S16 32) (v2283 : IVec S16 32) (k0_hw1003 : k0_chk1003 i v2278 v2283), ∀ (k0_h1 : k0_cond1 i = 1#1), ∀ a x, ((![v2278, v2283] : Fin 2 → IVec S16 32) a x).toNat < S128x128.size a := fun i v2278 v2283 k0_hw1003 k0_h1 => k0_hw1003 k0_h1

def k0_chk1004 (i : grid0.Coords) (v2276 : IVec S16 32) (v2285 : IVec S16 32) : Prop :=
  (∀ (k0_h1 : k0_cond1 i = 1#1), ∀ a x, ((![v2285, v2276] : Fin 2 → IVec S16 32) a x).toNat < S64x256.size a)
theorem k0_idx1001_inb : ∀ (i : grid0.Coords) (v2276 : IVec S16 32) (v2285 : IVec S16 32) (k0_hw1004 : k0_chk1004 i v2276 v2285), ∀ (k0_h1 : k0_cond1 i = 1#1), ∀ a x, ((![v2285, v2276] : Fin 2 → IVec S16 32) a x).toNat < S64x256.size a := fun i v2276 v2285 k0_hw1004 k0_h1 => k0_hw1004 k0_h1

def k0_chk1005 (i : grid0.Coords) (v2278 : IVec S16 32) (v2288 : IVec S16 32) : Prop :=
  (∀ (k0_h1 : k0_cond1 i = 1#1), ∀ a x, ((![v2278, v2288] : Fin 2 → IVec S16 32) a x).toNat < S128x128.size a)
theorem k0_idx1002_inb : ∀ (i : grid0.Coords) (v2278 : IVec S16 32) (v2288 : IVec S16 32) (k0_hw1005 : k0_chk1005 i v2278 v2288), ∀ (k0_h1 : k0_cond1 i = 1#1), ∀ a x, ((![v2278, v2288] : Fin 2 → IVec S16 32) a x).toNat < S128x128.size a := fun i v2278 v2288 k0_hw1005 k0_h1 => k0_hw1005 k0_h1

def k0_chk1006 (i : grid0.Coords) (v2276 : IVec S16 32) (v2290 : IVec S16 32) : Prop :=
  (∀ (k0_h1 : k0_cond1 i = 1#1), ∀ a x, ((![v2290, v2276] : Fin 2 → IVec S16 32) a x).toNat < S64x256.size a)
theorem k0_idx1003_inb : ∀ (i : grid0.Coords) (v2276 : IVec S16 32) (v2290 : IVec S16 32) (k0_hw1006 : k0_chk1006 i v2276 v2290), ∀ (k0_h1 : k0_cond1 i = 1#1), ∀ a x, ((![v2290, v2276] : Fin 2 → IVec S16 32) a x).toNat < S64x256.size a := fun i v2276 v2290 k0_hw1006 k0_h1 => k0_hw1006 k0_h1

def k0_chk1007 (i : grid0.Coords) (v2278 : IVec S16 32) (v2293 : IVec S16 32) : Prop :=
  (∀ (k0_h1 : k0_cond1 i = 1#1), ∀ a x, ((![v2278, v2293] : Fin 2 → IVec S16 32) a x).toNat < S128x128.size a)
theorem k0_idx1004_inb : ∀ (i : grid0.Coords) (v2278 : IVec S16 32) (v2293 : IVec S16 32) (k0_hw1007 : k0_chk1007 i v2278 v2293), ∀ (k0_h1 : k0_cond1 i = 1#1), ∀ a x, ((![v2278, v2293] : Fin 2 → IVec S16 32) a x).toNat < S128x128.size a := fun i v2278 v2293 k0_hw1007 k0_h1 => k0_hw1007 k0_h1

def k0_chk1008 (i : grid0.Coords) (v2276 : IVec S16 32) (v2295 : IVec S16 32) : Prop :=
  (∀ (k0_h1 : k0_cond1 i = 1#1), ∀ a x, ((![v2295, v2276] : Fin 2 → IVec S16 32) a x).toNat < S64x256.size a)
theorem k0_idx1005_inb : ∀ (i : grid0.Coords) (v2276 : IVec S16 32) (v2295 : IVec S16 32) (k0_hw1008 : k0_chk1008 i v2276 v2295), ∀ (k0_h1 : k0_cond1 i = 1#1), ∀ a x, ((![v2295, v2276] : Fin 2 → IVec S16 32) a x).toNat < S64x256.size a := fun i v2276 v2295 k0_hw1008 k0_h1 => k0_hw1008 k0_h1

def k0_chk1009 (i : grid0.Coords) (v2278 : IVec S16 32) (v2298 : IVec S16 32) : Prop :=
  (∀ (k0_h1 : k0_cond1 i = 1#1), ∀ a x, ((![v2278, v2298] : Fin 2 → IVec S16 32) a x).toNat < S128x128.size a)
theorem k0_idx1006_inb : ∀ (i : grid0.Coords) (v2278 : IVec S16 32) (v2298 : IVec S16 32) (k0_hw1009 : k0_chk1009 i v2278 v2298), ∀ (k0_h1 : k0_cond1 i = 1#1), ∀ a x, ((![v2278, v2298] : Fin 2 → IVec S16 32) a x).toNat < S128x128.size a := fun i v2278 v2298 k0_hw1009 k0_h1 => k0_hw1009 k0_h1

def k0_chk1010 (i : grid0.Coords) (v2302 : IVec S16 32) (v2306 : IVec S16 32) : Prop :=
  (∀ (k0_h1 : k0_cond1 i = 1#1), ∀ a x, ((![v2306, v2302] : Fin 2 → IVec S16 32) a x).toNat < S64x256.size a)
theorem k0_idx1007_inb : ∀ (i : grid0.Coords) (v2302 : IVec S16 32) (v2306 : IVec S16 32) (k0_hw1010 : k0_chk1010 i v2302 v2306), ∀ (k0_h1 : k0_cond1 i = 1#1), ∀ a x, ((![v2306, v2302] : Fin 2 → IVec S16 32) a x).toNat < S64x256.size a := fun i v2302 v2306 k0_hw1010 k0_h1 => k0_hw1010 k0_h1

def k0_chk1011 (i : grid0.Coords) (v2304 : IVec S16 32) (v2309 : IVec S16 32) : Prop :=
  (∀ (k0_h1 : k0_cond1 i = 1#1), ∀ a x, ((![v2304, v2309] : Fin 2 → IVec S16 32) a x).toNat < S128x128.size a)
theorem k0_idx1008_inb : ∀ (i : grid0.Coords) (v2304 : IVec S16 32) (v2309 : IVec S16 32) (k0_hw1011 : k0_chk1011 i v2304 v2309), ∀ (k0_h1 : k0_cond1 i = 1#1), ∀ a x, ((![v2304, v2309] : Fin 2 → IVec S16 32) a x).toNat < S128x128.size a := fun i v2304 v2309 k0_hw1011 k0_h1 => k0_hw1011 k0_h1

def k0_chk1012 (i : grid0.Coords) (v2302 : IVec S16 32) (v2311 : IVec S16 32) : Prop :=
  (∀ (k0_h1 : k0_cond1 i = 1#1), ∀ a x, ((![v2311, v2302] : Fin 2 → IVec S16 32) a x).toNat < S64x256.size a)
theorem k0_idx1009_inb : ∀ (i : grid0.Coords) (v2302 : IVec S16 32) (v2311 : IVec S16 32) (k0_hw1012 : k0_chk1012 i v2302 v2311), ∀ (k0_h1 : k0_cond1 i = 1#1), ∀ a x, ((![v2311, v2302] : Fin 2 → IVec S16 32) a x).toNat < S64x256.size a := fun i v2302 v2311 k0_hw1012 k0_h1 => k0_hw1012 k0_h1

def k0_chk1013 (i : grid0.Coords) (v2304 : IVec S16 32) (v2314 : IVec S16 32) : Prop :=
  (∀ (k0_h1 : k0_cond1 i = 1#1), ∀ a x, ((![v2304, v2314] : Fin 2 → IVec S16 32) a x).toNat < S128x128.size a)
theorem k0_idx1010_inb : ∀ (i : grid0.Coords) (v2304 : IVec S16 32) (v2314 : IVec S16 32) (k0_hw1013 : k0_chk1013 i v2304 v2314), ∀ (k0_h1 : k0_cond1 i = 1#1), ∀ a x, ((![v2304, v2314] : Fin 2 → IVec S16 32) a x).toNat < S128x128.size a := fun i v2304 v2314 k0_hw1013 k0_h1 => k0_hw1013 k0_h1

def k0_chk1014 (i : grid0.Coords) (v2302 : IVec S16 32) (v2316 : IVec S16 32) : Prop :=
  (∀ (k0_h1 : k0_cond1 i = 1#1), ∀ a x, ((![v2316, v2302] : Fin 2 → IVec S16 32) a x).toNat < S64x256.size a)
theorem k0_idx1011_inb : ∀ (i : grid0.Coords) (v2302 : IVec S16 32) (v2316 : IVec S16 32) (k0_hw1014 : k0_chk1014 i v2302 v2316), ∀ (k0_h1 : k0_cond1 i = 1#1), ∀ a x, ((![v2316, v2302] : Fin 2 → IVec S16 32) a x).toNat < S64x256.size a := fun i v2302 v2316 k0_hw1014 k0_h1 => k0_hw1014 k0_h1

def k0_chk1015 (i : grid0.Coords) (v2304 : IVec S16 32) (v2319 : IVec S16 32) : Prop :=
  (∀ (k0_h1 : k0_cond1 i = 1#1), ∀ a x, ((![v2304, v2319] : Fin 2 → IVec S16 32) a x).toNat < S128x128.size a)
theorem k0_idx1012_inb : ∀ (i : grid0.Coords) (v2304 : IVec S16 32) (v2319 : IVec S16 32) (k0_hw1015 : k0_chk1015 i v2304 v2319), ∀ (k0_h1 : k0_cond1 i = 1#1), ∀ a x, ((![v2304, v2319] : Fin 2 → IVec S16 32) a x).toNat < S128x128.size a := fun i v2304 v2319 k0_hw1015 k0_h1 => k0_hw1015 k0_h1

def k0_chk1016 (i : grid0.Coords) (v2302 : IVec S16 32) (v2321 : IVec S16 32) : Prop :=
  (∀ (k0_h1 : k0_cond1 i = 1#1), ∀ a x, ((![v2321, v2302] : Fin 2 → IVec S16 32) a x).toNat < S64x256.size a)
theorem k0_idx1013_inb : ∀ (i : grid0.Coords) (v2302 : IVec S16 32) (v2321 : IVec S16 32) (k0_hw1016 : k0_chk1016 i v2302 v2321), ∀ (k0_h1 : k0_cond1 i = 1#1), ∀ a x, ((![v2321, v2302] : Fin 2 → IVec S16 32) a x).toNat < S64x256.size a := fun i v2302 v2321 k0_hw1016 k0_h1 => k0_hw1016 k0_h1

def k0_chk1017 (i : grid0.Coords) (v2304 : IVec S16 32) (v2324 : IVec S16 32) : Prop :=
  (∀ (k0_h1 : k0_cond1 i = 1#1), ∀ a x, ((![v2304, v2324] : Fin 2 → IVec S16 32) a x).toNat < S128x128.size a)
theorem k0_idx1014_inb : ∀ (i : grid0.Coords) (v2304 : IVec S16 32) (v2324 : IVec S16 32) (k0_hw1017 : k0_chk1017 i v2304 v2324), ∀ (k0_h1 : k0_cond1 i = 1#1), ∀ a x, ((![v2304, v2324] : Fin 2 → IVec S16 32) a x).toNat < S128x128.size a := fun i v2304 v2324 k0_hw1017 k0_h1 => k0_hw1017 k0_h1

def k0_chk1018 (i : grid0.Coords) (v2328 : IVec S16 32) (v2332 : IVec S16 32) : Prop :=
  (∀ (k0_h1 : k0_cond1 i = 1#1), ∀ a x, ((![v2332, v2328] : Fin 2 → IVec S16 32) a x).toNat < S64x256.size a)
theorem k0_idx1015_inb : ∀ (i : grid0.Coords) (v2328 : IVec S16 32) (v2332 : IVec S16 32) (k0_hw1018 : k0_chk1018 i v2328 v2332), ∀ (k0_h1 : k0_cond1 i = 1#1), ∀ a x, ((![v2332, v2328] : Fin 2 → IVec S16 32) a x).toNat < S64x256.size a := fun i v2328 v2332 k0_hw1018 k0_h1 => k0_hw1018 k0_h1

def k0_chk1019 (i : grid0.Coords) (v2330 : IVec S16 32) (v2335 : IVec S16 32) : Prop :=
  (∀ (k0_h1 : k0_cond1 i = 1#1), ∀ a x, ((![v2330, v2335] : Fin 2 → IVec S16 32) a x).toNat < S128x128.size a)
theorem k0_idx1016_inb : ∀ (i : grid0.Coords) (v2330 : IVec S16 32) (v2335 : IVec S16 32) (k0_hw1019 : k0_chk1019 i v2330 v2335), ∀ (k0_h1 : k0_cond1 i = 1#1), ∀ a x, ((![v2330, v2335] : Fin 2 → IVec S16 32) a x).toNat < S128x128.size a := fun i v2330 v2335 k0_hw1019 k0_h1 => k0_hw1019 k0_h1

def k0_chk1020 (i : grid0.Coords) (v2328 : IVec S16 32) (v2337 : IVec S16 32) : Prop :=
  (∀ (k0_h1 : k0_cond1 i = 1#1), ∀ a x, ((![v2337, v2328] : Fin 2 → IVec S16 32) a x).toNat < S64x256.size a)
theorem k0_idx1017_inb : ∀ (i : grid0.Coords) (v2328 : IVec S16 32) (v2337 : IVec S16 32) (k0_hw1020 : k0_chk1020 i v2328 v2337), ∀ (k0_h1 : k0_cond1 i = 1#1), ∀ a x, ((![v2337, v2328] : Fin 2 → IVec S16 32) a x).toNat < S64x256.size a := fun i v2328 v2337 k0_hw1020 k0_h1 => k0_hw1020 k0_h1

def k0_chk1021 (i : grid0.Coords) (v2330 : IVec S16 32) (v2340 : IVec S16 32) : Prop :=
  (∀ (k0_h1 : k0_cond1 i = 1#1), ∀ a x, ((![v2330, v2340] : Fin 2 → IVec S16 32) a x).toNat < S128x128.size a)
theorem k0_idx1018_inb : ∀ (i : grid0.Coords) (v2330 : IVec S16 32) (v2340 : IVec S16 32) (k0_hw1021 : k0_chk1021 i v2330 v2340), ∀ (k0_h1 : k0_cond1 i = 1#1), ∀ a x, ((![v2330, v2340] : Fin 2 → IVec S16 32) a x).toNat < S128x128.size a := fun i v2330 v2340 k0_hw1021 k0_h1 => k0_hw1021 k0_h1

def k0_chk1022 (i : grid0.Coords) (v2328 : IVec S16 32) (v2342 : IVec S16 32) : Prop :=
  (∀ (k0_h1 : k0_cond1 i = 1#1), ∀ a x, ((![v2342, v2328] : Fin 2 → IVec S16 32) a x).toNat < S64x256.size a)
theorem k0_idx1019_inb : ∀ (i : grid0.Coords) (v2328 : IVec S16 32) (v2342 : IVec S16 32) (k0_hw1022 : k0_chk1022 i v2328 v2342), ∀ (k0_h1 : k0_cond1 i = 1#1), ∀ a x, ((![v2342, v2328] : Fin 2 → IVec S16 32) a x).toNat < S64x256.size a := fun i v2328 v2342 k0_hw1022 k0_h1 => k0_hw1022 k0_h1

def k0_chk1023 (i : grid0.Coords) (v2330 : IVec S16 32) (v2345 : IVec S16 32) : Prop :=
  (∀ (k0_h1 : k0_cond1 i = 1#1), ∀ a x, ((![v2330, v2345] : Fin 2 → IVec S16 32) a x).toNat < S128x128.size a)
theorem k0_idx1020_inb : ∀ (i : grid0.Coords) (v2330 : IVec S16 32) (v2345 : IVec S16 32) (k0_hw1023 : k0_chk1023 i v2330 v2345), ∀ (k0_h1 : k0_cond1 i = 1#1), ∀ a x, ((![v2330, v2345] : Fin 2 → IVec S16 32) a x).toNat < S128x128.size a := fun i v2330 v2345 k0_hw1023 k0_h1 => k0_hw1023 k0_h1

def k0_chk1024 (i : grid0.Coords) (v2328 : IVec S16 32) (v2347 : IVec S16 32) : Prop :=
  (∀ (k0_h1 : k0_cond1 i = 1#1), ∀ a x, ((![v2347, v2328] : Fin 2 → IVec S16 32) a x).toNat < S64x256.size a)
theorem k0_idx1021_inb : ∀ (i : grid0.Coords) (v2328 : IVec S16 32) (v2347 : IVec S16 32) (k0_hw1024 : k0_chk1024 i v2328 v2347), ∀ (k0_h1 : k0_cond1 i = 1#1), ∀ a x, ((![v2347, v2328] : Fin 2 → IVec S16 32) a x).toNat < S64x256.size a := fun i v2328 v2347 k0_hw1024 k0_h1 => k0_hw1024 k0_h1

def k0_chk1025 (i : grid0.Coords) (v2330 : IVec S16 32) (v2350 : IVec S16 32) : Prop :=
  (∀ (k0_h1 : k0_cond1 i = 1#1), ∀ a x, ((![v2330, v2350] : Fin 2 → IVec S16 32) a x).toNat < S128x128.size a)
theorem k0_idx1022_inb : ∀ (i : grid0.Coords) (v2330 : IVec S16 32) (v2350 : IVec S16 32) (k0_hw1025 : k0_chk1025 i v2330 v2350), ∀ (k0_h1 : k0_cond1 i = 1#1), ∀ a x, ((![v2330, v2350] : Fin 2 → IVec S16 32) a x).toNat < S128x128.size a := fun i v2330 v2350 k0_hw1025 k0_h1 => k0_hw1025 k0_h1

def k0_chk1026 (i : grid0.Coords) (v2354 : IVec S16 32) (v2358 : IVec S16 32) : Prop :=
  (∀ (k0_h1 : k0_cond1 i = 1#1), ∀ a x, ((![v2358, v2354] : Fin 2 → IVec S16 32) a x).toNat < S64x256.size a)
theorem k0_idx1023_inb : ∀ (i : grid0.Coords) (v2354 : IVec S16 32) (v2358 : IVec S16 32) (k0_hw1026 : k0_chk1026 i v2354 v2358), ∀ (k0_h1 : k0_cond1 i = 1#1), ∀ a x, ((![v2358, v2354] : Fin 2 → IVec S16 32) a x).toNat < S64x256.size a := fun i v2354 v2358 k0_hw1026 k0_h1 => k0_hw1026 k0_h1

def k0_chk1027 (i : grid0.Coords) (v2356 : IVec S16 32) (v2361 : IVec S16 32) : Prop :=
  (∀ (k0_h1 : k0_cond1 i = 1#1), ∀ a x, ((![v2356, v2361] : Fin 2 → IVec S16 32) a x).toNat < S128x128.size a)
theorem k0_idx1024_inb : ∀ (i : grid0.Coords) (v2356 : IVec S16 32) (v2361 : IVec S16 32) (k0_hw1027 : k0_chk1027 i v2356 v2361), ∀ (k0_h1 : k0_cond1 i = 1#1), ∀ a x, ((![v2356, v2361] : Fin 2 → IVec S16 32) a x).toNat < S128x128.size a := fun i v2356 v2361 k0_hw1027 k0_h1 => k0_hw1027 k0_h1

def k0_chk1028 (i : grid0.Coords) (v2354 : IVec S16 32) (v2363 : IVec S16 32) : Prop :=
  (∀ (k0_h1 : k0_cond1 i = 1#1), ∀ a x, ((![v2363, v2354] : Fin 2 → IVec S16 32) a x).toNat < S64x256.size a)
theorem k0_idx1025_inb : ∀ (i : grid0.Coords) (v2354 : IVec S16 32) (v2363 : IVec S16 32) (k0_hw1028 : k0_chk1028 i v2354 v2363), ∀ (k0_h1 : k0_cond1 i = 1#1), ∀ a x, ((![v2363, v2354] : Fin 2 → IVec S16 32) a x).toNat < S64x256.size a := fun i v2354 v2363 k0_hw1028 k0_h1 => k0_hw1028 k0_h1

def k0_chk1029 (i : grid0.Coords) (v2356 : IVec S16 32) (v2366 : IVec S16 32) : Prop :=
  (∀ (k0_h1 : k0_cond1 i = 1#1), ∀ a x, ((![v2356, v2366] : Fin 2 → IVec S16 32) a x).toNat < S128x128.size a)
theorem k0_idx1026_inb : ∀ (i : grid0.Coords) (v2356 : IVec S16 32) (v2366 : IVec S16 32) (k0_hw1029 : k0_chk1029 i v2356 v2366), ∀ (k0_h1 : k0_cond1 i = 1#1), ∀ a x, ((![v2356, v2366] : Fin 2 → IVec S16 32) a x).toNat < S128x128.size a := fun i v2356 v2366 k0_hw1029 k0_h1 => k0_hw1029 k0_h1

def k0_chk1030 (i : grid0.Coords) (v2354 : IVec S16 32) (v2368 : IVec S16 32) : Prop :=
  (∀ (k0_h1 : k0_cond1 i = 1#1), ∀ a x, ((![v2368, v2354] : Fin 2 → IVec S16 32) a x).toNat < S64x256.size a)
theorem k0_idx1027_inb : ∀ (i : grid0.Coords) (v2354 : IVec S16 32) (v2368 : IVec S16 32) (k0_hw1030 : k0_chk1030 i v2354 v2368), ∀ (k0_h1 : k0_cond1 i = 1#1), ∀ a x, ((![v2368, v2354] : Fin 2 → IVec S16 32) a x).toNat < S64x256.size a := fun i v2354 v2368 k0_hw1030 k0_h1 => k0_hw1030 k0_h1

def k0_chk1031 (i : grid0.Coords) (v2356 : IVec S16 32) (v2371 : IVec S16 32) : Prop :=
  (∀ (k0_h1 : k0_cond1 i = 1#1), ∀ a x, ((![v2356, v2371] : Fin 2 → IVec S16 32) a x).toNat < S128x128.size a)
theorem k0_idx1028_inb : ∀ (i : grid0.Coords) (v2356 : IVec S16 32) (v2371 : IVec S16 32) (k0_hw1031 : k0_chk1031 i v2356 v2371), ∀ (k0_h1 : k0_cond1 i = 1#1), ∀ a x, ((![v2356, v2371] : Fin 2 → IVec S16 32) a x).toNat < S128x128.size a := fun i v2356 v2371 k0_hw1031 k0_h1 => k0_hw1031 k0_h1

def k0_chk1032 (i : grid0.Coords) (v2354 : IVec S16 32) (v2373 : IVec S16 32) : Prop :=
  (∀ (k0_h1 : k0_cond1 i = 1#1), ∀ a x, ((![v2373, v2354] : Fin 2 → IVec S16 32) a x).toNat < S64x256.size a)
theorem k0_idx1029_inb : ∀ (i : grid0.Coords) (v2354 : IVec S16 32) (v2373 : IVec S16 32) (k0_hw1032 : k0_chk1032 i v2354 v2373), ∀ (k0_h1 : k0_cond1 i = 1#1), ∀ a x, ((![v2373, v2354] : Fin 2 → IVec S16 32) a x).toNat < S64x256.size a := fun i v2354 v2373 k0_hw1032 k0_h1 => k0_hw1032 k0_h1

def k0_chk1033 (i : grid0.Coords) (v2356 : IVec S16 32) (v2376 : IVec S16 32) : Prop :=
  (∀ (k0_h1 : k0_cond1 i = 1#1), ∀ a x, ((![v2356, v2376] : Fin 2 → IVec S16 32) a x).toNat < S128x128.size a)
theorem k0_idx1030_inb : ∀ (i : grid0.Coords) (v2356 : IVec S16 32) (v2376 : IVec S16 32) (k0_hw1033 : k0_chk1033 i v2356 v2376), ∀ (k0_h1 : k0_cond1 i = 1#1), ∀ a x, ((![v2356, v2376] : Fin 2 → IVec S16 32) a x).toNat < S128x128.size a := fun i v2356 v2376 k0_hw1033 k0_h1 => k0_hw1033 k0_h1

def k0_chk1034 (i : grid0.Coords) (v2380 : IVec S16 32) (v2384 : IVec S16 32) : Prop :=
  (∀ (k0_h1 : k0_cond1 i = 1#1), ∀ a x, ((![v2384, v2380] : Fin 2 → IVec S16 32) a x).toNat < S64x256.size a)
theorem k0_idx1031_inb : ∀ (i : grid0.Coords) (v2380 : IVec S16 32) (v2384 : IVec S16 32) (k0_hw1034 : k0_chk1034 i v2380 v2384), ∀ (k0_h1 : k0_cond1 i = 1#1), ∀ a x, ((![v2384, v2380] : Fin 2 → IVec S16 32) a x).toNat < S64x256.size a := fun i v2380 v2384 k0_hw1034 k0_h1 => k0_hw1034 k0_h1

def k0_chk1035 (i : grid0.Coords) (v2382 : IVec S16 32) (v2387 : IVec S16 32) : Prop :=
  (∀ (k0_h1 : k0_cond1 i = 1#1), ∀ a x, ((![v2382, v2387] : Fin 2 → IVec S16 32) a x).toNat < S128x128.size a)
theorem k0_idx1032_inb : ∀ (i : grid0.Coords) (v2382 : IVec S16 32) (v2387 : IVec S16 32) (k0_hw1035 : k0_chk1035 i v2382 v2387), ∀ (k0_h1 : k0_cond1 i = 1#1), ∀ a x, ((![v2382, v2387] : Fin 2 → IVec S16 32) a x).toNat < S128x128.size a := fun i v2382 v2387 k0_hw1035 k0_h1 => k0_hw1035 k0_h1

def k0_chk1036 (i : grid0.Coords) (v2380 : IVec S16 32) (v2389 : IVec S16 32) : Prop :=
  (∀ (k0_h1 : k0_cond1 i = 1#1), ∀ a x, ((![v2389, v2380] : Fin 2 → IVec S16 32) a x).toNat < S64x256.size a)
theorem k0_idx1033_inb : ∀ (i : grid0.Coords) (v2380 : IVec S16 32) (v2389 : IVec S16 32) (k0_hw1036 : k0_chk1036 i v2380 v2389), ∀ (k0_h1 : k0_cond1 i = 1#1), ∀ a x, ((![v2389, v2380] : Fin 2 → IVec S16 32) a x).toNat < S64x256.size a := fun i v2380 v2389 k0_hw1036 k0_h1 => k0_hw1036 k0_h1

def k0_chk1037 (i : grid0.Coords) (v2382 : IVec S16 32) (v2392 : IVec S16 32) : Prop :=
  (∀ (k0_h1 : k0_cond1 i = 1#1), ∀ a x, ((![v2382, v2392] : Fin 2 → IVec S16 32) a x).toNat < S128x128.size a)
theorem k0_idx1034_inb : ∀ (i : grid0.Coords) (v2382 : IVec S16 32) (v2392 : IVec S16 32) (k0_hw1037 : k0_chk1037 i v2382 v2392), ∀ (k0_h1 : k0_cond1 i = 1#1), ∀ a x, ((![v2382, v2392] : Fin 2 → IVec S16 32) a x).toNat < S128x128.size a := fun i v2382 v2392 k0_hw1037 k0_h1 => k0_hw1037 k0_h1

def k0_chk1038 (i : grid0.Coords) (v2380 : IVec S16 32) (v2394 : IVec S16 32) : Prop :=
  (∀ (k0_h1 : k0_cond1 i = 1#1), ∀ a x, ((![v2394, v2380] : Fin 2 → IVec S16 32) a x).toNat < S64x256.size a)
theorem k0_idx1035_inb : ∀ (i : grid0.Coords) (v2380 : IVec S16 32) (v2394 : IVec S16 32) (k0_hw1038 : k0_chk1038 i v2380 v2394), ∀ (k0_h1 : k0_cond1 i = 1#1), ∀ a x, ((![v2394, v2380] : Fin 2 → IVec S16 32) a x).toNat < S64x256.size a := fun i v2380 v2394 k0_hw1038 k0_h1 => k0_hw1038 k0_h1

def k0_chk1039 (i : grid0.Coords) (v2382 : IVec S16 32) (v2397 : IVec S16 32) : Prop :=
  (∀ (k0_h1 : k0_cond1 i = 1#1), ∀ a x, ((![v2382, v2397] : Fin 2 → IVec S16 32) a x).toNat < S128x128.size a)
theorem k0_idx1036_inb : ∀ (i : grid0.Coords) (v2382 : IVec S16 32) (v2397 : IVec S16 32) (k0_hw1039 : k0_chk1039 i v2382 v2397), ∀ (k0_h1 : k0_cond1 i = 1#1), ∀ a x, ((![v2382, v2397] : Fin 2 → IVec S16 32) a x).toNat < S128x128.size a := fun i v2382 v2397 k0_hw1039 k0_h1 => k0_hw1039 k0_h1

def k0_chk1040 (i : grid0.Coords) (v2380 : IVec S16 32) (v2399 : IVec S16 32) : Prop :=
  (∀ (k0_h1 : k0_cond1 i = 1#1), ∀ a x, ((![v2399, v2380] : Fin 2 → IVec S16 32) a x).toNat < S64x256.size a)
theorem k0_idx1037_inb : ∀ (i : grid0.Coords) (v2380 : IVec S16 32) (v2399 : IVec S16 32) (k0_hw1040 : k0_chk1040 i v2380 v2399), ∀ (k0_h1 : k0_cond1 i = 1#1), ∀ a x, ((![v2399, v2380] : Fin 2 → IVec S16 32) a x).toNat < S64x256.size a := fun i v2380 v2399 k0_hw1040 k0_h1 => k0_hw1040 k0_h1

def k0_chk1041 (i : grid0.Coords) (v2382 : IVec S16 32) (v2402 : IVec S16 32) : Prop :=
  (∀ (k0_h1 : k0_cond1 i = 1#1), ∀ a x, ((![v2382, v2402] : Fin 2 → IVec S16 32) a x).toNat < S128x128.size a)
theorem k0_idx1038_inb : ∀ (i : grid0.Coords) (v2382 : IVec S16 32) (v2402 : IVec S16 32) (k0_hw1041 : k0_chk1041 i v2382 v2402), ∀ (k0_h1 : k0_cond1 i = 1#1), ∀ a x, ((![v2382, v2402] : Fin 2 → IVec S16 32) a x).toNat < S128x128.size a := fun i v2382 v2402 k0_hw1041 k0_h1 => k0_hw1041 k0_h1

def k0_chk1042 (i : grid0.Coords) (v2406 : IVec S16 32) (v2410 : IVec S16 32) : Prop :=
  (∀ (k0_h1 : k0_cond1 i = 1#1), ∀ a x, ((![v2410, v2406] : Fin 2 → IVec S16 32) a x).toNat < S64x256.size a)
theorem k0_idx1039_inb : ∀ (i : grid0.Coords) (v2406 : IVec S16 32) (v2410 : IVec S16 32) (k0_hw1042 : k0_chk1042 i v2406 v2410), ∀ (k0_h1 : k0_cond1 i = 1#1), ∀ a x, ((![v2410, v2406] : Fin 2 → IVec S16 32) a x).toNat < S64x256.size a := fun i v2406 v2410 k0_hw1042 k0_h1 => k0_hw1042 k0_h1

def k0_chk1043 (i : grid0.Coords) (v2408 : IVec S16 32) (v2413 : IVec S16 32) : Prop :=
  (∀ (k0_h1 : k0_cond1 i = 1#1), ∀ a x, ((![v2408, v2413] : Fin 2 → IVec S16 32) a x).toNat < S128x128.size a)
theorem k0_idx1040_inb : ∀ (i : grid0.Coords) (v2408 : IVec S16 32) (v2413 : IVec S16 32) (k0_hw1043 : k0_chk1043 i v2408 v2413), ∀ (k0_h1 : k0_cond1 i = 1#1), ∀ a x, ((![v2408, v2413] : Fin 2 → IVec S16 32) a x).toNat < S128x128.size a := fun i v2408 v2413 k0_hw1043 k0_h1 => k0_hw1043 k0_h1

def k0_chk1044 (i : grid0.Coords) (v2406 : IVec S16 32) (v2415 : IVec S16 32) : Prop :=
  (∀ (k0_h1 : k0_cond1 i = 1#1), ∀ a x, ((![v2415, v2406] : Fin 2 → IVec S16 32) a x).toNat < S64x256.size a)
theorem k0_idx1041_inb : ∀ (i : grid0.Coords) (v2406 : IVec S16 32) (v2415 : IVec S16 32) (k0_hw1044 : k0_chk1044 i v2406 v2415), ∀ (k0_h1 : k0_cond1 i = 1#1), ∀ a x, ((![v2415, v2406] : Fin 2 → IVec S16 32) a x).toNat < S64x256.size a := fun i v2406 v2415 k0_hw1044 k0_h1 => k0_hw1044 k0_h1

def k0_chk1045 (i : grid0.Coords) (v2408 : IVec S16 32) (v2418 : IVec S16 32) : Prop :=
  (∀ (k0_h1 : k0_cond1 i = 1#1), ∀ a x, ((![v2408, v2418] : Fin 2 → IVec S16 32) a x).toNat < S128x128.size a)
theorem k0_idx1042_inb : ∀ (i : grid0.Coords) (v2408 : IVec S16 32) (v2418 : IVec S16 32) (k0_hw1045 : k0_chk1045 i v2408 v2418), ∀ (k0_h1 : k0_cond1 i = 1#1), ∀ a x, ((![v2408, v2418] : Fin 2 → IVec S16 32) a x).toNat < S128x128.size a := fun i v2408 v2418 k0_hw1045 k0_h1 => k0_hw1045 k0_h1

def k0_chk1046 (i : grid0.Coords) (v2406 : IVec S16 32) (v2420 : IVec S16 32) : Prop :=
  (∀ (k0_h1 : k0_cond1 i = 1#1), ∀ a x, ((![v2420, v2406] : Fin 2 → IVec S16 32) a x).toNat < S64x256.size a)
theorem k0_idx1043_inb : ∀ (i : grid0.Coords) (v2406 : IVec S16 32) (v2420 : IVec S16 32) (k0_hw1046 : k0_chk1046 i v2406 v2420), ∀ (k0_h1 : k0_cond1 i = 1#1), ∀ a x, ((![v2420, v2406] : Fin 2 → IVec S16 32) a x).toNat < S64x256.size a := fun i v2406 v2420 k0_hw1046 k0_h1 => k0_hw1046 k0_h1

def k0_chk1047 (i : grid0.Coords) (v2408 : IVec S16 32) (v2423 : IVec S16 32) : Prop :=
  (∀ (k0_h1 : k0_cond1 i = 1#1), ∀ a x, ((![v2408, v2423] : Fin 2 → IVec S16 32) a x).toNat < S128x128.size a)
theorem k0_idx1044_inb : ∀ (i : grid0.Coords) (v2408 : IVec S16 32) (v2423 : IVec S16 32) (k0_hw1047 : k0_chk1047 i v2408 v2423), ∀ (k0_h1 : k0_cond1 i = 1#1), ∀ a x, ((![v2408, v2423] : Fin 2 → IVec S16 32) a x).toNat < S128x128.size a := fun i v2408 v2423 k0_hw1047 k0_h1 => k0_hw1047 k0_h1

def k0_chk1048 (i : grid0.Coords) (v2406 : IVec S16 32) (v2425 : IVec S16 32) : Prop :=
  (∀ (k0_h1 : k0_cond1 i = 1#1), ∀ a x, ((![v2425, v2406] : Fin 2 → IVec S16 32) a x).toNat < S64x256.size a)
theorem k0_idx1045_inb : ∀ (i : grid0.Coords) (v2406 : IVec S16 32) (v2425 : IVec S16 32) (k0_hw1048 : k0_chk1048 i v2406 v2425), ∀ (k0_h1 : k0_cond1 i = 1#1), ∀ a x, ((![v2425, v2406] : Fin 2 → IVec S16 32) a x).toNat < S64x256.size a := fun i v2406 v2425 k0_hw1048 k0_h1 => k0_hw1048 k0_h1

def k0_chk1049 (i : grid0.Coords) (v2408 : IVec S16 32) (v2428 : IVec S16 32) : Prop :=
  (∀ (k0_h1 : k0_cond1 i = 1#1), ∀ a x, ((![v2408, v2428] : Fin 2 → IVec S16 32) a x).toNat < S128x128.size a)
theorem k0_idx1046_inb : ∀ (i : grid0.Coords) (v2408 : IVec S16 32) (v2428 : IVec S16 32) (k0_hw1049 : k0_chk1049 i v2408 v2428), ∀ (k0_h1 : k0_cond1 i = 1#1), ∀ a x, ((![v2408, v2428] : Fin 2 → IVec S16 32) a x).toNat < S128x128.size a := fun i v2408 v2428 k0_hw1049 k0_h1 => k0_hw1049 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x26 : Shape := ⟨2, ![4096, 26]⟩
abbrev S4096x13 : Shape := ⟨2, ![4096, 13]⟩
abbrev S26x100000x64 : Shape := ⟨3, ![26, 100000, 64]⟩
abbrev S2600000x64 : Shape := ⟨2, ![2600000, 64]⟩
abbrev S26 : Shape := ⟨1, ![26]⟩
abbrev S_ : Shape := ⟨0, ![]⟩
abbrev S1x26 : Shape := ⟨2, ![1, 26]⟩
abbrev S4096x26x1 : Shape := ⟨3, ![4096, 26, 1]⟩
abbrev S1 : Shape := ⟨1, ![1]⟩
abbrev S1x1x1 : Shape := ⟨3, ![1, 1, 1]⟩
abbrev S4096x26x64 : Shape := ⟨3, ![4096, 26, 64]⟩
abbrev S4096x1664 : Shape := ⟨2, ![4096, 1664]⟩
abbrev S4096x1677 : Shape := ⟨2, ![4096, 1677]⟩

abbrev nBuf : Space → Nat
  | .hbm => 36
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x13, .f32⟩
  | .hbm, ⟨2, _⟩ => ⟨S26x100000x64, .f32⟩
  | .hbm, ⟨3, _⟩ => ⟨S2600000x64, .f32⟩
  | .hbm, ⟨4, _⟩ => ⟨S26, .i32⟩
  | .hbm, ⟨5, _⟩ => ⟨S_, .i32⟩
  | .hbm, ⟨6, _⟩ => ⟨S26, .i32⟩
  | .hbm, ⟨7, _⟩ => ⟨S26, .i32⟩
  | .hbm, ⟨8, _⟩ => ⟨S1x26, .i32⟩
  | .hbm, ⟨9, _⟩ => ⟨S4096x26, .i32⟩
  | .hbm, ⟨10, _⟩ => ⟨S4096x26, .i32⟩
  | .hbm, ⟨11, _⟩ => ⟨S_, .i32⟩
  | .hbm, ⟨12, _⟩ => ⟨S4096x26, .i32⟩
  | .hbm, ⟨13, _⟩ => ⟨S4096x26, .i1⟩
  | .hbm, ⟨14, _⟩ => ⟨S_, .i32⟩
  | .hbm, ⟨15, _⟩ => ⟨S4096x26, .i32⟩
  | .hbm, ⟨16, _⟩ => ⟨S4096x26, .i32⟩
  | .hbm, ⟨17, _⟩ => ⟨S4096x26, .i32⟩
  | .hbm, ⟨18, _⟩ => ⟨S4096x26x1, .i32⟩
  | .hbm, ⟨19, _⟩ => ⟨S1, .i32⟩
  | .hbm, ⟨20, _⟩ => ⟨S_, .i32⟩
  | .hbm, ⟨21, _⟩ => ⟨S4096x26x1, .i32⟩
  | .hbm, ⟨22, _⟩ => ⟨S4096x26x1, .i1⟩
  | .hbm, ⟨23, _⟩ => ⟨S1x1x1, .i32⟩
  | .hbm, ⟨24, _⟩ => ⟨S4096x26x1, .i32⟩
  | .hbm, ⟨25, _⟩ => ⟨S4096x26x1, .i1⟩
  | .hbm, ⟨26, _⟩ => ⟨S4096x26x1, .i1⟩
  | .hbm, ⟨27, _⟩ => ⟨S_, .i1⟩
  | .hbm, ⟨28, _⟩ => ⟨S4096x26, .i1⟩
  | .hbm, ⟨29, _⟩ => ⟨S4096x26x64, .f32⟩
  | .hbm, ⟨30, _⟩ => ⟨S4096x26x64, .i1⟩
  | .hbm, ⟨31, _⟩ => ⟨S_, .f32⟩
  | .hbm, ⟨32, _⟩ => ⟨S4096x26x64, .f32⟩
  | .hbm, ⟨33, _⟩ => ⟨S4096x26x64, .f32⟩
  | .hbm, ⟨34, _⟩ => ⟨S4096x1664, .f32⟩
  | .hbm, ⟨35, _⟩ => ⟨S4096x1677, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩

abbrev nD : Nat := 1
abbrev τ : Topo := Topo.v7x

variable {F : FTy → Type} [FloatOps F]
-- ==== Proof.Tile.lean ====
/-
  The vector subcore's program of `cc0__body`, written compactly: the printed function unrolls its short Python loops
  (the clearing of the histogram, the prefix sums, the sixteen records of a group), and this module writes each of them
  as a recursion over a literal list, so that the correctness proof runs over a list once instead of over every printed
  statement. Module Body says the printed function is this program.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Tactic
public import proofs.«01_k».proof.Proof.Gen.KernelIdeal

@[expose] public section

noncomputable section

namespace Cert.Proof

open Cert.KernelIdeal Cert.KernelIdeal.Gen
open Idealize.ShloMosaic Idealize.SL.Sem

variable {F : FTy → Type} [FloatOps F]

/-- A program of the tile at grid point `i`. -/
abbrev TileProg (F : FTy → Type) [FloatOps F] (i : grid0.Coords) (α : Type) :=
  Prog (TpuEff nD τ sig (Elt F) Λ₀ (.scVector ((i 0).castLE hcore0) ((i 1).castLE hsub0))) α

abbrev mIdx : Memref sig .scVector .hbm S106496 .i32 := Memref.whole main_v5_scv
abbrev mTab : Memref sig .scVector .hbm S26x64x100000 .f32 := Memref.whole main_v0_scv
abbrev mTail : Memref sig .scVector .hbm S26x64x128 .f32 := Memref.whole main_v3_scv
abbrev mOut : Memref sig .scVector .hbm S110592x128 .f32 := Memref.whole main_v6_scv
abbrev mV : Memref sig .scVector .vmem S4096 .i32 := Memref.whole cc0_scratch0
abbrev mSort : Memref sig .scVector .vmem S4096 .i32 := Memref.whole cc0_scratch1
abbrev mHist : Memref sig .scVector .vmem S400 .i32 := Memref.whole cc0_scratch2
abbrev mCur : Memref sig .scVector .vmem S400 .i32 := Memref.whole cc0_scratch3
abbrev mOff : Memref sig .scVector .smem S400 .i32 := Memref.whole cc0_scratch4
abbrev mB0 : Memref sig .scVector .vmem S64x256 .f32 := Memref.whole cc0_scratch5
abbrev mB1 : Memref sig .scVector .vmem S64x256 .f32 := Memref.whole cc0_scratch6
abbrev mB2 : Memref sig .scVector .vmem S64x256 .f32 := Memref.whole cc0_scratch7
abbrev mStag : Memref sig .scVector .vmem S128x128 .f32 := Memref.whole cc0_scratch8
abbrev mOidx : Memref sig .scVector .vmem S128 .i32 := Memref.whole cc0_scratch9

/-- Every lane of the index vectors names an element of the shape. -/
def InRange (i : grid0.Coords) (s : Shape) (ix : Fin s.rank → IVec S16 32) : Prop :=
  ∀ (_ : k0_cond1 i = 1#1), ∀ a x, (ix a x).toNat < s.size a

instance InRange.dec (i : grid0.Coords) (s : Shape) (ix : Fin s.rank → IVec S16 32) : Decidable (InRange i s ix) :=
  decidable_of_iff' _ (Iff.of_eq (InRange.eq_1 i s ix))

/-- Assume the index vectors in range, then gather through them. -/
def gather (i : grid0.Coords) (h1 : k0_cond1 i = 1#1) {s : Shape} {e : EltTy} (m : Memref sig .scVector .vmem s e)
    (hs : 0 < s.numel) (ix : Fin s.rank → IVec S16 32) : TileProg F i (Vec F S16 e) :=
  .op (.assume (InRange i s ix) (InRange.dec i s ix)) fun h => SparseCore.vectorLoadIdx m ix (h.down h1) (View.loads_vmem hs)

/-- Assume the index vectors in range, then scatter through them. -/
def scatter (i : grid0.Coords) (h1 : k0_cond1 i = 1#1) {s : Shape} {e : EltTy} (m : Memref sig .scVector .vmem s e)
    (hs : 0 < s.numel) (hb : e.bits = 32) (ix : Fin s.rank → IVec S16 32) (v : Vec F S16 e) (add : Bool) : TileProg F i PUnit :=
  .op (.assume (InRange i s ix) (InRange.dec i s ix)) fun h =>
    SparseCore.vectorStoreIdx m ix v (fun _ => 1#1) add (h.down h1) (View.stores_vmem_bits_univ hs hb)

/-- Four pieces of one record's column, from `buf` to row `rows` of the staging buffer. -/
def cells (i : grid0.Coords) (h1 : k0_cond1 i = 1#1) (buf : Memref sig .scVector .vmem S64x256 .f32) (v5 cols rows : IVec S16 32) :
    List (BitVec 32) → TileProg F i PUnit
  | [] => .ret ⟨⟩
  | c :: cs => do
    let v ← gather i h1 buf h_S64x256 ![addi v5 (broadcast S16 c), cols]
    scatter i h1 mStag h_S128x128 rfl ![rows, addi v5 (broadcast S16 c)] v false
    cells i h1 buf v5 cols rows cs

/-- The records of a group, one after another. -/
def lanes (i : grid0.Coords) (h1 : k0_cond1 i = 1#1) (buf : Memref sig .scVector .vmem S64x256 .f32) (v5 : IVec S16 32) (j : BitVec 32)
    (rec : IVec S16 32) : List {l : Nat // S16.Slices ![l] S1} → TileProg F i PUnit
  | [] => .ret ⟨⟩
  | l :: ls => do
    cells i h1 buf v5
      (broadcast S16 (Scalar.andi (extractAt ![0] (extractStridedSlice S1 ![l.1] rec l.2) inpos_S1_p0) 255#32))
      (broadcast S16 (Scalar.addi j (BitVec.ofNat 32 l.1))) [0#32, 16#32, 32#32, 48#32]
    lanes i h1 buf v5 j rec ls

abbrev laterLanes : List {l : Nat // S16.Slices ![l] S1} :=
  [⟨1, slices_S16_o1_S1⟩, ⟨2, slices_S16_o2_S1⟩, ⟨3, slices_S16_o3_S1⟩, ⟨4, slices_S16_o4_S1⟩, ⟨5, slices_S16_o5_S1⟩,
   ⟨6, slices_S16_o6_S1⟩, ⟨7, slices_S16_o7_S1⟩, ⟨8, slices_S16_o8_S1⟩, ⟨9, slices_S16_o9_S1⟩, ⟨10, slices_S16_o10_S1⟩, ⟨11, slices_S16_o11_S1⟩,
   ⟨12, slices_S16_o12_S1⟩, ⟨13, slices_S16_o13_S1⟩, ⟨14, slices_S16_o14_S1⟩, ⟨15, slices_S16_o15_S1⟩]

/-- Write the dump rows into the offset list, sixteen at a time. -/
def setAt (i : grid0.Coords) (o : {o : Nat // ∀ a, (![o] : Fin 1 → Nat) a + S16.size a ≤ S128.size a}) (v : IVec S16 32) : TileProg F i PUnit := do
  let _ : Vec F S16 .i32 ← Prog.lift (.load mOidx (Rect.unit (s := S128) ![o.1] S16.size o.2).toLoadRect (View.loadsAt_vmem h_S16))
  Prog.lift (.store mOidx (Rect.unit (s := S128) ![o.1] S16.size o.2) v Finset.univ (View.stores_vmem_bits_univ h_S16 rfl) (.inl rfl))

/-- Dump rows again, from each of the given offsets on. -/
def resetAt (i : grid0.Coords) (v5 : IVec S16 32) (dump : BitVec 32) : List {o : Nat // ∀ a, (![o] : Fin 1 → Nat) a + S16.size a ≤ S128.size a} →
    TileProg F i PUnit
  | [] => .ret ⟨⟩
  | o :: os => do
    setAt i o (addi (broadcast S16 (Scalar.addi dump (BitVec.ofNat 32 o.1))) v5)
    resetAt i v5 dump os

abbrev dumpRows : List {o : Nat // ∀ a, (![o] : Fin 1 → Nat) a + S16.size a ≤ S128.size a} :=
  [⟨0, inb_S128_S16_0⟩, ⟨16, inb_S128_S16_16⟩, ⟨32, inb_S128_S16_32⟩, ⟨48, inb_S128_S16_48⟩, ⟨64, inb_S128_S16_64⟩,
    ⟨80, inb_S128_S16_80⟩, ⟨96, inb_S128_S16_96⟩, ⟨112, inb_S128_S16_112⟩]

def reset (i : grid0.Coords) (v5 : IVec S16 32) (dump : BitVec 32) : TileProg F i PUnit := resetAt i v5 dump dumpRows

abbrev mOutAll : Memref sig .scVector .hbm S110592x128 .f32 :=
  mOut.slice (Rect.unit (s := S110592x128) ![0, 0] S110592x128.size inb_S110592x128_S110592x128_0_0) (fun _ => rfl)

/-- Scatter the staged rows, wait for them, and put the dump rows back into the offset list. -/
def flush (i : grid0.Coords) (v5 : IVec S16 32) (dump : BitVec 32) : TileProg F i PUnit := do
  SparseCore.enqueueIndirectScatter rfl mStag mOutAll gathers_S110592x128_S128x128 mOidx rfl cc0_scratch13.sem rfl (Or.inl rfl)
  SparseCore.waitIndirectScatter cc0_scratch13.sem mStag mOutAll (Memref.isWhole_whole _).wordExact (View.wordExact_bits rfl)
  reset i v5 dump

/-- The start of a group of sixteen records of the chunk in `buf`, group `g` of the records `[n0, n1)`: flush a full
    staging buffer, read the records, name their rows, and move the first record's first piece and read its second. -/
def groupHead (i : grid0.Coords) (h1 : k0_cond1 i = 1#1) (buf : Memref sig .scVector .vmem S64x256 .f32) (v1 : BitVec 32) (v5 : IVec S16 32)
    (dump : BitVec 32) (dumpLane : IVec S16 32) (n0 n1 g j : BitVec 32) :
    TileProg F i (Σ' (_ : BitVec 32) (_ : Vec F S16 .i32) (_ : IVec S16 32) (_ : IVec S16 32), Vec F S16 .f32) := do
  if Scalar.cmpi .ne (Scalar.extui (Scalar.cmpi .eq j 128#32) : BitVec 32) 0#32 = 1#1 then do
    flush i v5 dump
    pure ⟨⟩
  else do
    pure ⟨⟩
  let j' := Scalar.select (Scalar.cmpi .eq j 128#32) 0#32 j
  let kv := addi (broadcast S16 (Scalar.addi n0 (Scalar.muli g 16#32))) v5
  let rec16 : Vec F S16 .i32 ← gather i h1 mSort h_S4096 ![minsi kv (broadcast S16 (Scalar.subi n1 1#32))]
  scatter i h1 mOidx h_S128 rfl ![addi (broadcast S16 j') v5]
    (select (cmpi .slt kv (broadcast S16 n1)) (addi (muli (shrsi rec16 (broadcast S16 8#32)) (broadcast S16 26#32)) (broadcast S16 v1)) dumpLane) false
  let cols := broadcast S16 (Scalar.andi (extractAt ![0] (extractStridedSlice S1 ![0] rec16 slices_S16_o0_S1) inpos_S1_p0) 255#32)
  let rows := broadcast S16 (Scalar.addi j' 0#32)
  cells i h1 buf v5 cols rows [0#32]
  let v ← gather i h1 buf h_S64x256 ![addi v5 (broadcast S16 16#32), cols]
  pure ⟨j', rec16, cols, rows, v⟩

/-- The whole group. -/
def group (i : grid0.Coords) (h1 : k0_cond1 i = 1#1) (buf : Memref sig .scVector .vmem S64x256 .f32) (v1 : BitVec 32) (v5 : IVec S16 32)
    (dump : BitVec 32) (dumpLane : IVec S16 32) (n0 n1 g j : BitVec 32) : TileProg F i (BitVec 32) := do
  let ⟨j', rec16, cols, rows, v⟩ ← groupHead i h1 buf v1 v5 dump dumpLane n0 n1 g j
  scatter i h1 mStag h_S128x128 rfl ![rows, addi v5 (broadcast S16 16#32)] v false
  cells i h1 buf v5 cols rows [32#32, 48#32]
  lanes i h1 buf v5 j' rec16 laterLanes
  pure (Scalar.addi j' 16#32)

/-- The part of the transposed tables a chunk is, as the transfers name it. -/
abbrev chunkOf (off : Fin 3 → Nat) (h : ∀ a, off a + S1x64x256.size a ≤ S26x64x100000.size a) : Memref sig .scVector .hbm S64x256 .f32 :=
  (mTab.slice (Rect.unit (s := S26x64x100000) off S1x64x256.size h) (fun _ => rfl)).squeeze S64x256 squeezes_S1x64x256_S64x256

def fetch (i : grid0.Coords) (off : Fin 3 → Nat) (h : ∀ a, off a + S1x64x256.size a ≤ S26x64x100000.size a)
    (buf : Memref sig .scVector .vmem S64x256 .f32) (hb : buf.IsWhole) (sem : DmaSem sig) : TileProg F i PUnit :=
  Prog.lift (.enqueueDma (chunkOf off h) (.here buf) (.dma sem) ((View.wordExact_bits rfl).reshape _ _) hb.wordExact ⟨Or.inl rfl, trivial⟩)

def landed (i : grid0.Coords) (off : Fin 3 → Nat) (h : ∀ a, off a + S1x64x256.size a ≤ S26x64x100000.size a)
    (buf : Memref sig .scVector .vmem S64x256 .f32) (hb : buf.IsWhole) (sem : DmaSem sig) : TileProg F i PUnit :=
  Prog.lift (.waitDma2 sem (chunkOf off h) buf ((View.wordExact_bits rfl).reshape _ _) hb.wordExact)

/-- Clear the histogram, sixteen buckets at a time. -/
def zeroAt (i : grid0.Coords) : List {o : Nat // ∀ a, (![o] : Fin 1 → Nat) a + S16.size a ≤ S400.size a} → TileProg F i PUnit
  | [] => .ret ⟨⟩
  | o :: os => do
    let _ : Vec F S16 .i32 ← Prog.lift (.load mHist (Rect.unit (s := S400) ![o.1] S16.size o.2).toLoadRect (View.loadsAt_vmem h_S16))
    Prog.lift (.store mHist (Rect.unit (s := S400) ![o.1] S16.size o.2) (broadcast S16 0#32)
      Finset.univ (View.stores_vmem_bits_univ h_S16 rfl) (.inl rfl))
    zeroAt i os

abbrev blocks : List {o : Nat // ∀ a, (![o] : Fin 1 → Nat) a + S16.size a ≤ S400.size a} :=
  [⟨0, inb_S400_S16_0⟩, ⟨16, inb_S400_S16_16⟩, ⟨32, inb_S400_S16_32⟩, ⟨48, inb_S400_S16_48⟩, ⟨64, inb_S400_S16_64⟩, ⟨80, inb_S400_S16_80⟩, ⟨96, inb_S400_S16_96⟩, ⟨112, inb_S400_S16_112⟩, ⟨128, inb_S400_S16_128⟩, ⟨144, inb_S400_S16_144⟩, ⟨160, inb_S400_S16_160⟩, ⟨176, inb_S400_S16_176⟩, ⟨192, inb_S400_S16_192⟩, ⟨208, inb_S400_S16_208⟩, ⟨224, inb_S400_S16_224⟩, ⟨240, inb_S400_S16_240⟩, ⟨256, inb_S400_S16_256⟩, ⟨272, inb_S400_S16_272⟩, ⟨288, inb_S400_S16_288⟩, ⟨304, inb_S400_S16_304⟩, ⟨320, inb_S400_S16_320⟩, ⟨336, inb_S400_S16_336⟩, ⟨352, inb_S400_S16_352⟩, ⟨368, inb_S400_S16_368⟩, ⟨384, inb_S400_S16_384⟩]

/-- Count the buckets of the tile's indices. -/
def histLoop (i : grid0.Coords) (h1 : k0_cond1 i = 1#1) (v5 : IVec S16 32) : TileProg F i PUnit :=
  Scf.Loop.for k0_t1_loop (k0_t1_ok i h1) ⟨⟩ fun t _ => do
    let v : Vec F S16 .i32 ← gather i h1 mV h_S4096 ![addi (broadcast S16 (Scalar.muli (Scf.iv 0#32 1#32 t) 16#32)) v5]
    scatter i h1 mHist h_S400 rfl ![shrsi v (broadcast S16 8#32)] (broadcast S16 1#32) true

/-- The lanes of a vector of sixteen. -/
abbrev Lane := {l : {l : Nat // S16.Slices ![l] S1} // l.1 < 16}

abbrev sixteen : List Lane := [⟨⟨0, slices_S16_o0_S1⟩, by decide⟩, ⟨⟨1, slices_S16_o1_S1⟩, by decide⟩, ⟨⟨2, slices_S16_o2_S1⟩, by decide⟩, ⟨⟨3, slices_S16_o3_S1⟩, by decide⟩, ⟨⟨4, slices_S16_o4_S1⟩, by decide⟩, ⟨⟨5, slices_S16_o5_S1⟩, by decide⟩, ⟨⟨6, slices_S16_o6_S1⟩, by decide⟩, ⟨⟨7, slices_S16_o7_S1⟩, by decide⟩, ⟨⟨8, slices_S16_o8_S1⟩, by decide⟩, ⟨⟨9, slices_S16_o9_S1⟩, by decide⟩, ⟨⟨10, slices_S16_o10_S1⟩, by decide⟩, ⟨⟨11, slices_S16_o11_S1⟩, by decide⟩, ⟨⟨12, slices_S16_o12_S1⟩, by decide⟩, ⟨⟨13, slices_S16_o13_S1⟩, by decide⟩, ⟨⟨14, slices_S16_o14_S1⟩, by decide⟩, ⟨⟨15, slices_S16_o15_S1⟩, by decide⟩]

theorem inb_word {o l : Nat} (ho : ∀ a, (![o] : Fin 1 → Nat) a + S16.size a ≤ S400.size a) (hl : l < 16) :
    ∀ a, (![o + l] : Fin 1 → Nat) a + S1.size a ≤ S400.size a := by
  intro a
  have h := ho 0
  obtain rfl : a = 0 := Subsingleton.elim _ _
  simp only [Matrix.cons_val_zero] at h ⊢
  change o + 16 ≤ 400 at h
  change o + l + 1 ≤ 400
  omega

/-- Write one start position to scalar memory. -/
def spillAt (i : grid0.Coords) (o : {o : Nat // ∀ a, (![o] : Fin 1 → Nat) a + S16.size a ≤ S400.size a}) (l : Lane) (x : BitVec 32) : TileProg F i PUnit := do
  let _ : Elt F .i32 ← smemLoad mOff (Rect.unit (s := S400) ![o.1 + l.1.1] S1.size (inb_word o.2 l.2)) numel1_S1 rfl
  Prog.lift (.store mOff (Rect.unit (s := S400) ![o.1 + l.1.1] S1.size (inb_word o.2 l.2))
    (fun _ => x) Finset.univ (View.stores_smem_one rfl numel1_S1) (.inl rfl))

/-- Write the start positions of a block's given lanes to scalar memory. -/
def spill (i : grid0.Coords) (o : {o : Nat // ∀ a, (![o] : Fin 1 → Nat) a + S16.size a ≤ S400.size a}) (ex : IVec S16 32) :
    List Lane → TileProg F i PUnit
  | [] => .ret ⟨⟩
  | l :: ls => do
    spillAt i o l (extractAt ![0] (extractStridedSlice S1 ![l.1.1] ex l.1.2) inpos_S1_p0)
    spill i o ex ls

/-- The exclusive prefix sums of the histogram, to `cur` and to scalar memory, sixteen buckets at a time. -/
def prefixAt (i : grid0.Coords) : BitVec 32 → List {o : Nat // ∀ a, (![o] : Fin 1 → Nat) a + S16.size a ≤ S400.size a} → TileProg F i PUnit
  | _, [] => .ret ⟨⟩
  | carry, o :: os => do
    let h : Vec F S16 .i32 ← Prog.lift (.load mHist (Rect.unit (s := S400) ![o.1] S16.size o.2).toLoadRect (View.loadsAt_vmem h_S16))
    let ex : IVec S16 32 := addi (subi (scan .sum h) h) (broadcast S16 carry)
    let _ : Vec F S16 .i32 ← Prog.lift (.load mCur (Rect.unit (s := S400) ![o.1] S16.size o.2).toLoadRect (View.loadsAt_vmem h_S16))
    Prog.lift (.store mCur (Rect.unit (s := S400) ![o.1] S16.size o.2) ex Finset.univ (View.stores_vmem_bits_univ h_S16 rfl) (.inl rfl))
    spill i o ex sixteen
    prefixAt i (Scalar.addi carry (extractAt ![0] (extractStridedSlice S1 ![15] (scan .sum h : IVec S16 32) slices_S16_o15_S1) inpos_S1_p0)) os

/-- Write every record to its place among the records sorted by bucket. -/
def placeLoop (i : grid0.Coords) (h1 : k0_cond1 i = 1#1) (v5 : IVec S16 32) : TileProg F i PUnit :=
  Scf.Loop.for k0_t2_loop (k0_t2_ok i h1) ⟨⟩ fun t _ => do
    let k := addi (broadcast S16 (Scalar.muli (Scf.iv 0#32 1#32 t) 16#32)) v5
    let v : Vec F S16 .i32 ← gather i h1 mV h_S4096 ![k]
    let c : IVec S16 32 := shrsi v (broadcast S16 8#32)
    let h ← Prog.lift (.assume (k0_chk4 i c) (k0_chk4.dec i c))
    let base : Vec F S16 .i32 ← SparseCore.vectorLoadIdx mCur ![c] (h.down.1 h1) (View.loads_vmem h_S400)
    scatter i h1 mSort h_S4096 rfl ![subi (addi base (scanCount (broadcast S16 1#1) c).2) (broadcast S16 1#32)]
      (ori (shli k (broadcast S16 8#32)) (andi v (broadcast S16 255#32))) false
    SparseCore.vectorStoreIdx mCur ![c] (broadcast S16 1#32) (fun _ => 1#1) true (h.down.2 h1) (View.stores_vmem_bits_univ h_S400 rfl)
    pure ⟨⟩

/-- The records of one chunk, group by group. -/
def mainLoop (i : grid0.Coords) (h1 : k0_cond1 i = 1#1) (buf : Memref sig .scVector .vmem S64x256 .f32) (v1 : BitVec 32) (v5 : IVec S16 32)
    (dump : BitVec 32) (dumpLane : IVec S16 32) (n0 n1 : BitVec 32) (h : k0_chk6 i n0 n1) (lb j : BitVec 32) : TileProg F i (BitVec 32) :=
  Scf.Loop.for (k0_t4_loop n0 n1) (k0_t4_ok i n0 n1 h h1) j fun g j => group i h1 buf v1 v5 dump dumpLane n0 n1 (Scf.iv lb 1#32 g) j

/-- The loop over what a multiple of one leaves of the groups: it has no trip. -/
def restLoop (i : grid0.Coords) (h1 : k0_cond1 i = 1#1) (buf : Memref sig .scVector .vmem S64x256 .f32) (v1 : BitVec 32) (v5 : IVec S16 32)
    (dump : BitVec 32) (dumpLane : IVec S16 32) (n0 n1 : BitVec 32) (h : k0_chk6 i n0 n1) (lb j : BitVec 32) : TileProg F i (BitVec 32) :=
  Scf.Loop.for (k0_t5_loop n0 n1) (k0_t5_ok i n0 n1 h h1) j fun g j => group i h1 buf v1 v5 dump dumpLane n0 n1 (Scf.iv lb 1#32 g) j

abbrev wordAt (off : Fin 1 → Nat) (h : ∀ a, off a + S1.size a ≤ S400.size a) : Rect S400 := Rect.unit (s := S400) off S1.size h

/-- A trip's first chunk, up to the second's arrival. -/
def tripA (i : grid0.Coords) (h1 : k0_cond1 i = 1#1) (v1 : BitVec 32) (v5 : IVec S16 32) (dump : BitVec 32) (dumpLane : IVec S16 32)
    (t : Fin k0_t3_loop.trips) (j : BitVec 32) : TileProg F i (Σ' (_ : BitVec 32) (_ : BitVec 32) (_ : Elt F .i32), BitVec 32) := do
  landed i (k0_off5 i) (k0_off5_inb i h1) mB0 (Memref.isWhole_whole _) cc0_scratch10.sem
  let n0 : Elt F .i32 ← smemLoad mOff (wordAt (k0_off6 t) (k0_off6_inb i t h1)) numel1_S1 rfl
  let n1 : Elt F .i32 ← smemLoad mOff (wordAt (k0_off7 t) (k0_off7_inb i t h1)) numel1_S1 rfl
  let h ← Prog.lift (.assume (k0_chk6 i n0 n1) (k0_chk6.dec i n0 n1))
  let j ← mainLoop i h1 mB0 v1 v5 dump dumpLane n0 n1 h.down 0#32 j
  let j ← restLoop i h1 mB0 v1 v5 dump dumpLane n0 n1 h.down (k0_t5_loop n0 n1).lb j
  if h4 : k0_cond4 t = 1#1 then do
    fetch i (k0_off8 i t) (k0_off8_inb i t h1 h4) mB0 (Memref.isWhole_whole _) cc0_scratch10.sem
    pure ⟨⟩
  else do
    pure ⟨⟩
  landed i (k0_off9 i) (k0_off9_inb i h1) mB1 (Memref.isWhole_whole _) cc0_scratch11.sem
  let n1' : Elt F .i32 ← smemLoad mOff (wordAt (k0_off10 t) (k0_off10_inb i t h1)) numel1_S1 rfl
  pure ⟨Scalar.muli 3#32 (Scf.iv 0#32 1#32 t), j, n1', Scalar.addi (Scalar.addi (Scalar.muli 3#32 (Scf.iv 0#32 1#32 t)) 1#32) 1#32⟩

/-- The second chunk, up to the third's first check. -/
def tripB (i : grid0.Coords) (h1 : k0_cond1 i = 1#1) (v1 : BitVec 32) (v5 : IVec S16 32) (dump : BitVec 32) (dumpLane : IVec S16 32)
    (t : Fin k0_t3_loop.trips) (j : BitVec 32) (n1 : Elt F .i32) :
    TileProg F i (Σ' (_ : BitVec 32) (n2 : Elt F .i32) (n3 : Elt F .i32) (_ : k0_chk528 i n2 n3) (_ : BitVec 32), BitVec 32) := do
  let n2 : Elt F .i32 ← smemLoad mOff (wordAt (k0_off11 t) (k0_off11_inb i t h1)) numel1_S1 rfl
  let h ← Prog.lift (.assume (k0_chk6 i n1 n2) (k0_chk6.dec i n1 n2))
  let j ← mainLoop i h1 mB1 v1 v5 dump dumpLane n1 n2 h.down 0#32 j
  let j ← restLoop i h1 mB1 v1 v5 dump dumpLane n1 n2 h.down (k0_t5_loop n1 n2).lb j
  if h7 : k0_cond7 t = 1#1 then do
    fetch i (k0_off12 i t) (k0_off12_inb i t h1 h7) mB1 (Memref.isWhole_whole _) cc0_scratch11.sem
    pure ⟨⟩
  else do
    pure ⟨⟩
  landed i (k0_off13 i) (k0_off13_inb i h1) mB2 (Memref.isWhole_whole _) cc0_scratch12.sem
  let n2' : Elt F .i32 ← smemLoad mOff (wordAt (k0_off14 t) (k0_off14_inb i t h1)) numel1_S1 rfl
  let n3 : Elt F .i32 ← smemLoad mOff (wordAt (k0_off15 t) (k0_off15_inb i t h1)) numel1_S1 rfl
  let h ← Prog.lift (.assume (k0_chk528 i n2' n3) (k0_chk528.dec i n2' n3))
  let left : BitVec 32 := Scalar.subi (Scalar.shrsi (Scalar.subi (Scalar.addi (Scalar.subi n3 n2') 16#32) 1#32) 4#32) 0#32
  pure ⟨j, n2', n3, h.down, 0#32, Scalar.muli (Scalar.divsi left 1#32) 1#32⟩

/-- A trip: three chunks, each buffer refetched for the next trip once it is read. -/
def trip (i : grid0.Coords) (h1 : k0_cond1 i = 1#1) (v1 : BitVec 32) (v5 : IVec S16 32) (dump : BitVec 32) (dumpLane : IVec S16 32)
    (t : Fin k0_t3_loop.trips) (j : BitVec 32) : TileProg F i (BitVec 32) := do
  let ⟨_, j, n1, _⟩ ← tripA i h1 v1 v5 dump dumpLane t j
  let ⟨j, n2, n3, h, lb, len⟩ ← tripB i h1 v1 v5 dump dumpLane t j n1
  let j ← mainLoop i h1 mB2 v1 v5 dump dumpLane n2 n3 h lb j
  let j ← restLoop i h1 mB2 v1 v5 dump dumpLane n2 n3 h (Scalar.addi lb len) j
  if h10 : k0_cond10 t = 1#1 then do
    fetch i (k0_off16 i t) (k0_off16_inb i t h1 h10) mB2 (Memref.isWhole_whole _) cc0_scratch12.sem
    pure ⟨⟩
  else do
    pure ⟨⟩
  pure j

abbrev half (o : Nat) (h : ∀ a, (![0, o] : Fin 2 → Nat) a + S64x128.size a ≤ S64x256.size a) : Memref sig .scVector .vmem S64x128 .f32 :=
  mB0.slice (Rect.unit (s := S64x256) ![0, o] S64x128.size h) (fun _ => rfl)

abbrev tailSrc1 (i : grid0.Coords) (h1 : k0_cond1 i = 1#1) : Memref sig .scVector .hbm S64x128 .f32 :=
  (mTab.slice (Rect.unit (s := S26x64x100000) (k0_off17 i) S1x64x128.size (k0_off17_inb i h1)) (fun _ => rfl)).squeeze S64x128 squeezes_S1x64x128_S64x128

abbrev tailSrc2 (i : grid0.Coords) (h1 : k0_cond1 i = 1#1) : Memref sig .scVector .hbm S64x128 .f32 :=
  (mTail.slice (Rect.unit (s := S26x64x128) (k0_off18 i) S1x64x128.size (k0_off18_inb i h1)) (fun _ => rfl)).squeeze S64x128 squeezes_S1x64x128_S64x128

/-- All the trips, then the first half of the last chunk, and the second's fetch. -/
def trips (i : grid0.Coords) (h1 : k0_cond1 i = 1#1) (v1 : BitVec 32) (v5 : IVec S16 32) (dump : BitVec 32) (dumpLane : IVec S16 32) :
    TileProg F i (BitVec 32) := do
  let j ← Scf.Loop.for k0_t3_loop (k0_t3_ok i h1) 0#32 (trip i h1 v1 v5 dump dumpLane)
  Prog.lift (.enqueueDma (tailSrc1 i h1) (.here (half 0 inb_S64x256_S64x128_0_0)) (.dma cc0_scoped1.sem) ((View.wordExact_bits rfl).reshape _ _)
    (View.wordExact_bits rfl) ⟨Or.inl rfl, trivial⟩)
  Prog.lift (.waitDma2 cc0_scoped1.sem (tailSrc1 i h1) (half 0 inb_S64x256_S64x128_0_0) ((View.wordExact_bits rfl).reshape _ _) (View.wordExact_bits rfl))
  Prog.lift (.enqueueDma (tailSrc2 i h1) (.here (half 128 inb_S64x256_S64x128_0_128)) (.dma cc0_scoped2.sem) ((View.wordExact_bits rfl).reshape _ _)
    (View.wordExact_bits rfl) ⟨Or.inl rfl, trivial⟩)
  pure j

/-- The last chunk, and the last flush. -/
def tailChunk (i : grid0.Coords) (h1 : k0_cond1 i = 1#1) (v1 : BitVec 32) (v5 : IVec S16 32) (dump : BitVec 32) (dumpLane : IVec S16 32)
    (j : BitVec 32) : TileProg F i (BitVec 32) := do
  Prog.lift (.waitDma2 cc0_scoped2.sem (tailSrc2 i h1) (half 128 inb_S64x256_S64x128_0_128) ((View.wordExact_bits rfl).reshape _ _) (View.wordExact_bits rfl))
  let n0 : Elt F .i32 ← smemLoad mOff (wordAt ![390] inb_S400_S1_390) numel1_S1 rfl
  let n1 : Elt F .i32 ← smemLoad mOff (wordAt ![391] inb_S400_S1_391) numel1_S1 rfl
  let h ← Prog.lift (.assume (k0_chk6 i n0 n1) (k0_chk6.dec i n0 n1))
  let j ← mainLoop i h1 mB0 v1 v5 dump dumpLane n0 n1 h.down 0#32 j
  let _ ← restLoop i h1 mB0 v1 v5 dump dumpLane n0 n1 h.down (k0_t5_loop n0 n1).lb j
  SparseCore.enqueueIndirectScatter rfl mStag mOutAll gathers_S110592x128_S128x128 mOidx rfl cc0_scratch13.sem rfl (Or.inl rfl)
  SparseCore.waitIndirectScatter cc0_scratch13.sem mStag mOutAll (Memref.isWhole_whole _).wordExact (View.wordExact_bits rfl)
  resetAt i v5 dump (dumpRows.take 2)
  pure (Scalar.addi dump 32#32)

abbrev idxOf (i : grid0.Coords) (h1 : k0_cond1 i = 1#1) : Memref sig .scVector .hbm S4096 .i32 :=
  mIdx.slice (Rect.unit (s := S106496) (k0_off1 i) S4096.size (k0_off1_inb i h1)) (fun _ => rfl)

/-- The number of the tile. -/
abbrev tileNo (i : grid0.Coords) : BitVec 32 := Scalar.addi (Scalar.muli (BitVec.ofNat 32 (i 1).val) 2#32) (BitVec.ofNat 32 (i 0).val)

/-- What the tile starts with: its indices, the first three chunks' fetches, a clear histogram. -/
def start (i : grid0.Coords) (h1 : k0_cond1 i = 1#1) : TileProg F i PUnit := do
  Prog.lift (.enqueueDma (idxOf i h1) (.here mV) (.dma cc0_scoped0.sem) (View.wordExact_bits rfl) (Memref.isWhole_whole _).wordExact ⟨Or.inl rfl, trivial⟩)
  Prog.lift (.waitDma2 cc0_scoped0.sem (idxOf i h1) mV (View.wordExact_bits rfl) (Memref.isWhole_whole _).wordExact)
  fetch i (k0_off2 i) (k0_off2_inb i h1) mB0 (Memref.isWhole_whole _) cc0_scratch10.sem
  fetch i (k0_off3 i) (k0_off3_inb i h1) mB1 (Memref.isWhole_whole _) cc0_scratch11.sem
  fetch i (k0_off4 i) (k0_off4_inb i h1) mB2 (Memref.isWhole_whole _) cc0_scratch12.sem
  zeroAt i blocks

abbrev block0 : {o : Nat // ∀ a, (![o] : Fin 1 → Nat) a + S16.size a ≤ S400.size a} := ⟨0, inb_S400_S16_0⟩

abbrev lane7 : Lane := ⟨⟨7, slices_S16_o7_S1⟩, by decide⟩

/-- The histogram, and the prefix sums of its first sixteen buckets. -/
def counts (i : grid0.Coords) (h1 : k0_cond1 i = 1#1) (v5 : IVec S16 32) :
    TileProg F i (Σ' (_ : IVec S16 32) (_ : IVec S16 32) (_ : BitVec 32), BitVec 32) := do
  histLoop i h1 v5
  let h : Vec F S16 .i32 ← Prog.lift (.load mHist (Rect.unit (s := S400) ![0] S16.size block0.2).toLoadRect (View.loadsAt_vmem h_S16))
  let ex : IVec S16 32 := addi (subi (scan .sum h) h) (broadcast S16 0#32)
  let _ : Vec F S16 .i32 ← Prog.lift (.load mCur (Rect.unit (s := S400) ![0] S16.size block0.2).toLoadRect (View.loadsAt_vmem h_S16))
  Prog.lift (.store mCur (Rect.unit (s := S400) ![0] S16.size block0.2) ex Finset.univ (View.stores_vmem_bits_univ h_S16 rfl) (.inl rfl))
  spill i block0 ex (sixteen.take 7)
  pure ⟨scan .sum h, ex, extractAt ![0] (extractStridedSlice S1 ![7] ex slices_S16_o7_S1) inpos_S1_p0, 7#32⟩

/-- The records placed by bucket, and the offset list filled with dump rows but for its last sixteen. -/
def places (i : grid0.Coords) (h1 : k0_cond1 i = 1#1) (v1 : BitVec 32) (v5 : IVec S16 32) :
    TileProg F i (Σ' (_ : BitVec 32) (_ : IVec S16 32), IVec S16 32) := do
  placeLoop i h1 v5
  let dump := Scalar.addi 106496#32 (Scalar.muli v1 128#32)
  resetAt i v5 dump (dumpRows.take 7)
  pure ⟨dump, addi (broadcast S16 dump) v5, broadcast S16 (Scalar.addi dump 112#32)⟩

/-- The work of a tile that has a field, but for the last part of the list's last reset. -/
def work (i : grid0.Coords) (h1 : k0_cond1 i = 1#1) : TileProg F i (Σ' (_ : IVec S16 32) (_ : BitVec 32), IVec S16 32) := do
  let v5 : IVec S16 32 := iota .scVector S16 32 [0] iota_S16_d0_w32_scVector
  let v1 := tileNo i
  start i h1
  let ⟨sum, ex, x7, _⟩ ← counts i h1 v5
  spillAt i block0 lane7 x7
  spill i block0 ex (sixteen.drop 8)
  prefixAt i (Scalar.addi 0#32 (extractAt ![0] (extractStridedSlice S1 ![15] sum slices_S16_o15_S1) inpos_S1_p0)) (blocks.drop 1)
  let ⟨dump, dumpLane, d7⟩ ← places i h1 v1 v5
  setAt i ⟨112, inb_S128_S16_112⟩ (addi d7 v5)
  let j ← trips i h1 v1 v5 dump dumpLane
  let d2 ← tailChunk i h1 v1 v5 dump dumpLane j
  setAt i ⟨32, inb_S128_S16_32⟩ (addi (broadcast S16 d2) v5)
  pure ⟨v5, dump, addi (broadcast S16 (Scalar.addi dump 48#32)) v5⟩

/-- The tile's program. -/
def tile (i : grid0.Coords) : TileProg F i PUnit := do
  if h1 : k0_cond1 i = 1#1 then do
    let ⟨v5, dump, d3⟩ ← work i h1
    setAt i ⟨48, inb_S128_S16_48⟩ d3
    resetAt i v5 dump (dumpRows.drop 4)
    pure ⟨⟩
  else do
    pure ⟨⟩
  pure ⟨⟩

end Cert.Proof
-- ==== Proof.Counting.lean ====
/-
  Counting sort, on naturals. A tile's 4096 indices `v k` fall into buckets of 256 (`v k / 256`); `off` counts the
  indices of earlier buckets, `cnt` those of one bucket among the first few, and `pos k` is where the sort puts index `k`.
-/
module

public import Mathlib.Data.Finset.Card
public import Mathlib.Data.Fintype.EquivFin
public import Mathlib.Algebra.BigOperators.Group.Finset.Basic
public import Mathlib.Algebra.Order.BigOperators.Group.Finset

@[expose] public section

namespace Cert.Proof

open Finset

variable (v : ℕ → ℕ)

/-- How many of the first `n` indices are in bucket `c`. -/
def cnt (c n : ℕ) : ℕ := ((range n).filter fun k => v k / 256 = c).card

/-- How many of the 4096 indices are in buckets before `c`. -/
def off (c : ℕ) : ℕ := ((range 4096).filter fun k => v k / 256 < c).card

/-- Where index `k` stands among the indices sorted by bucket. -/
def pos (k : ℕ) : ℕ := off v (v k / 256) + cnt v (v k / 256) k

theorem cnt_zero (c : ℕ) : cnt v c 0 = 0 := rfl

theorem cnt_succ (c n : ℕ) : cnt v c (n + 1) = cnt v c n + if v n / 256 = c then 1 else 0 := by
  unfold cnt
  rw [range_add_one, filter_insert]
  split_ifs with h
  · rw [card_insert_of_notMem (by simp)]
  · rfl

theorem cnt_add (c n m : ℕ) : cnt v c (n + m) = cnt v c n + ((range m).filter fun l => v (n + l) / 256 = c).card := by
  induction m with
  | zero => simp
  | succ m ih =>
    rw [← Nat.add_assoc, cnt_succ, ih, range_add_one, filter_insert]
    split_ifs with h
    · rw [card_insert_of_notMem (by simp)]; omega
    · omega

theorem cnt_mono (c : ℕ) {n m : ℕ} (h : n ≤ m) : cnt v c n ≤ cnt v c m :=
  card_le_card (filter_subset_filter _ (range_subset_range.mpr h))

theorem cnt_le (c n : ℕ) : cnt v c n ≤ n := (card_filter_le _ _).trans (card_range n).le

theorem off_zero : off v 0 = 0 := by simp [off]

theorem off_succ (c : ℕ) : off v (c + 1) = off v c + cnt v c 4096 := by
  unfold off cnt
  rw [← card_union_of_disjoint]
  · congr 1; ext k; simp only [mem_filter, mem_union, mem_range]; omega
  · rw [disjoint_left]; intro k; simp only [mem_filter, mem_range]; omega

theorem off_add (c : ℕ) : ∀ n, off v (c + n) = off v c + ∑ l ∈ range n, cnt v (c + l) 4096
  | 0 => by simp
  | n + 1 => by rw [← Nat.add_assoc, off_succ, off_add c n, sum_range_succ]; omega

theorem off_mono {c d : ℕ} (h : c ≤ d) : off v c ≤ off v d :=
  card_le_card fun k => by simp only [mem_filter, mem_range]; omega

theorem off_le (c : ℕ) : off v c ≤ 4096 := (card_filter_le _ _).trans (card_range 4096).le

theorem off_all (hv : ∀ k < 4096, v k < 100000) {c : ℕ} (hc : 391 ≤ c) : off v c = 4096 := by
  unfold off
  rw [filter_true_of_mem, card_range]
  intro k hk
  have := hv k (mem_range.mp hk)
  omega

theorem pos_lt_next {k : ℕ} (hk : k < 4096) : pos v k < off v (v k / 256 + 1) := by
  rw [off_succ]
  have h1 : cnt v (v k / 256) (k + 1) ≤ cnt v (v k / 256) 4096 := cnt_mono v _ hk
  rw [cnt_succ, if_pos rfl] at h1
  unfold pos; omega

theorem off_le_pos (k : ℕ) : off v (v k / 256) ≤ pos v k := Nat.le_add_right _ _

theorem pos_lt {k : ℕ} (hk : k < 4096) : pos v k < 4096 := (pos_lt_next v hk).trans_le (off_le v _)

/-- A position lies in the stretch of its index's bucket, and in no other's. -/
theorem bucket_of_pos {k c : ℕ} (hk : k < 4096) (h0 : off v c ≤ pos v k) (h1 : pos v k < off v (c + 1)) : v k / 256 = c := by
  rcases Nat.lt_trichotomy (v k / 256) c with h | h | h
  · have := off_mono v (show v k / 256 + 1 ≤ c from h)
    have := pos_lt_next v hk
    omega
  · exact h
  · have := off_mono v (show c + 1 ≤ v k / 256 from h)
    have := off_le_pos v k
    omega

theorem pos_lt_of_bucket_lt {k c : ℕ} (hk : k < 4096) (h : v k / 256 < c) : pos v k < off v c :=
  (pos_lt_next v hk).trans_le (off_mono v h)

theorem pos_inj {k l : ℕ} (hk : k < 4096) (hl : l < 4096) (h : pos v k = pos v l) : k = l := by
  have hb : v k / 256 = v l / 256 := bucket_of_pos v hk (h ▸ off_le_pos v l) (h ▸ pos_lt_next v hl)
  unfold pos at h
  rw [hb] at h
  have key : ∀ a b : ℕ, v a / 256 = v b / 256 → a < b → cnt v (v b / 256) a < cnt v (v b / 256) b := by
    intro a b hab hlt
    have h1 : cnt v (v b / 256) (a + 1) ≤ cnt v (v b / 256) b := cnt_mono v _ hlt
    rw [cnt_succ, if_pos hab] at h1
    omega
  rcases Nat.lt_trichotomy k l with h' | h' | h'
  · have := key k l hb h'; omega
  · exact h'
  · have := key l k hb.symm h'; rw [hb] at this; omega

/-- Every place of the sorted list is some index's. -/
theorem exists_pos {p : ℕ} (hp : p < 4096) : ∃ k < 4096, pos v k = p := by
  let f : Fin 4096 → Fin 4096 := fun k => ⟨pos v k.val, pos_lt v k.isLt⟩
  have hf : Function.Injective f := fun k l h => Fin.ext (pos_inj v k.isLt l.isLt (Fin.mk.inj h))
  obtain ⟨k, hk⟩ := (Finite.injective_iff_surjective.mp hf) ⟨p, hp⟩
  exact ⟨k.val, k.isLt, Fin.mk.inj hk⟩

end Cert.Proof
-- ==== Proof.Lanes.lean ====
/-
  What the sixteen-lane operations of the tile compute, over contents given as functions of naturals: indexed loads and
  stores, the running sum of a vector, and the occurrence count of its lanes.
-/
module

public import proofs.«01_k».proof.Proof.Tile
public import proofs.«01_k».proof.Proof.Counting

@[expose] public section

namespace Cert.Proof

open Cert.KernelIdeal Cert.KernelIdeal.Gen
open Idealize.ShloMosaic Idealize.SL.Sem

/-- Contents of a rank-one shape, from a function of naturals. -/
abbrev nat1 {n : ℕ} {α : Type} (g : ℕ → α) : (⟨1, ![n]⟩ : Shape).Idx → α := fun x => g (x 0).val

/-- Contents of a rank-two shape, from a function of naturals. -/
abbrev nat2 {n m : ℕ} {α : Type} (g : ℕ → ℕ → α) : (⟨2, ![n, m]⟩ : Shape).Idx → α := fun x => g (x 0).val (x 1).val

/-- Lane `l` of a vector of sixteen. -/
abbrev ln (l : Fin 16) : S16.Idx := Shape.ofLane l

theorem ln_self (x : S16.Idx) : ln (x 0) = x := by
  funext a
  obtain rfl : a = 0 := Subsingleton.elim _ _
  rfl

/-- A vector's lane, named by a natural. -/
def lane {α : Type} (v : S16.Idx → α) (l : ℕ) : α := v (ln ⟨l % 16, Nat.mod_lt _ (by decide)⟩)

theorem lane_ln {α : Type} (v : S16.Idx → α) (l : Fin 16) : lane v l.val = v (ln l) := by
  unfold lane
  congr 2
  exact Fin.ext (Nat.mod_eq_of_lt l.isLt)

theorem lane_lt {α : Type} (v : S16.Idx → α) {l : ℕ} (h : l < 16) : lane v l = v (ln ⟨l, h⟩) := lane_ln v ⟨l, h⟩

theorem lane_nat1 {α : Type} (g : ℕ → α) {l : ℕ} (h : l < 16) : lane (nat1 g) l = g l := by
  rw [lane_lt _ h]; rfl

/-! ## Where no lane, or one lane, hits -/

section Fold

variable {α : Type}

theorem fold_miss (hit : Fin 16 → Prop) [DecidablePred hit] (w : Fin 16 → α) :
    ∀ (l : List (Fin 16)) (y : α), (∀ k ∈ l, ¬hit k) → l.foldl (fun y k => if hit k then w k else y) y = y
  | [], _, _ => rfl
  | a :: l, y, h => by
    rw [List.foldl_cons, if_neg (h a List.mem_cons_self)]
    exact fold_miss hit w l y fun k hk => h k (List.mem_cons_of_mem _ hk)

theorem fold_hit (hit : Fin 16 → Prop) [DecidablePred hit] (w : Fin 16 → α) (k : Fin 16) (hk : hit k) :
    ∀ (l : List (Fin 16)) (y : α), k ∈ l → (∀ k' ∈ l, hit k' → k' = k) → l.foldl (fun y k => if hit k then w k else y) y = w k
  | a :: l, y, hm, h => by
    rw [List.foldl_cons]
    by_cases hkl : k ∈ l
    · exact fold_hit hit w k hk l _ hkl fun k' hk' => h k' (List.mem_cons_of_mem _ hk')
    · obtain rfl : k = a := (List.mem_cons.mp hm).resolve_right hkl
      rw [if_pos hk]
      exact fold_miss hit w l _ fun k' hk' hh => hkl (h k' (List.mem_cons_of_mem _ hk') hh ▸ hk')

theorem fold_add (hit : Fin 16 → Prop) [DecidablePred hit] :
    ∀ (l : List (Fin 16)) (y : BitVec 32), l.Nodup →
      l.foldl (fun y k => if hit k then y + 1#32 else y) y = y + BitVec.ofNat 32 (l.toFinset.filter hit).card
  | [], y, _ => by simp
  | a :: l, y, hl => by
    obtain ⟨ha, hl⟩ := List.nodup_cons.mp hl
    rw [List.foldl_cons, fold_add hit l _ hl, List.toFinset_cons, Finset.filter_insert]
    split_ifs with h
    · rw [Finset.card_insert_of_notMem (by simp [ha]), Nat.add_comm, BitVec.ofNat_add, BitVec.add_assoc]
    · rfl

end Fold

variable {F : FTy → Type} [FloatOps F]

/-! ## Indexed stores, element by element -/

theorem storeIdx_set_at {s : Shape} {e : EltTy} (f : Vec F s e) (ix : Fin s.rank → IVec S16 32) (v : Vec F S16 e)
    (h : ∀ a x, (ix a x).toNat < s.size a) (j : s.Idx) :
    storeIdx f ix v (fun _ => 1#1) false h j
      = (List.finRange 16).foldl (fun y k => if ∀ a, (j a).val = (ix a (ln k)).toNat then v (ln k) else y) (f j) := by
  have key : ∀ (l : List (Fin 16)) (f : Vec F s e),
      l.foldl (fun (g : Vec F s e) (k : Fin 16) => (fun j => if ∀ a, (j a).val = (ix a (ln k)).toNat then v (ln k) else g j : Vec F s e)) f j
        = l.foldl (fun y k => if ∀ a, (j a).val = (ix a (ln k)).toNat then v (ln k) else y) (f j) := by
    intro l
    induction l with
    | nil => intro f; rfl
    | cons a l ih => intro f; rw [List.foldl_cons, ih, List.foldl_cons]
  refine Eq.trans (congrArg (fun st => List.foldl st f (List.finRange 16) j) ?_) (key (List.finRange 16) f)
  funext g k
  dsimp only
  rw [if_pos (by rfl)]
  funext j
  by_cases hc : ∀ a, (j a).val = (ix a (ln k)).toNat
  · exact (@if_pos _ (_) hc _ _ _).trans (@if_pos _ (_) hc _ _ _).symm
  · exact (@if_neg _ (_) hc _ _ _).trans (@if_neg _ (_) hc _ _ _).symm

theorem storeIdx_add_at {s : Shape} (f : Vec F s .i32) (ix : Fin s.rank → IVec S16 32)
    (h : ∀ a x, (ix a x).toNat < s.size a) (j : s.Idx) :
    storeIdx f ix (broadcast S16 1#32 : Vec F S16 .i32) (fun _ => 1#1) true h j
      = (List.finRange 16).foldl (fun y k => if ∀ a, (j a).val = (ix a (ln k)).toNat then y + 1#32 else y) (f j : BitVec 32) := by
  have key : ∀ (l : List (Fin 16)) (f : Vec F s .i32),
      l.foldl (fun (g : Vec F s .i32) (k : Fin 16) =>
          (fun j => if ∀ a, (j a).val = (ix a (ln k)).toNat then (g (idxAt ix h (ln k)) : BitVec 32) + 1#32 else g j : Vec F s .i32)) f j
        = l.foldl (fun y k => if ∀ a, (j a).val = (ix a (ln k)).toNat then y + 1#32 else y) (f j : BitVec 32) := by
    intro l
    induction l with
    | nil => intro f; rfl
    | cons a l ih =>
      intro f
      rw [List.foldl_cons, ih, List.foldl_cons]
      congr 1
      refine ite_congr rfl (fun hj => ?_) fun _ => rfl
      have : idxAt ix h (ln a) = j := funext fun b => Fin.ext (hj b).symm
      rw [this]
  refine Eq.trans (congrArg (fun st => List.foldl st f (List.finRange 16) j) ?_) (key (List.finRange 16) f)
  funext g k
  dsimp only
  rw [if_pos (by rfl)]
  funext j
  by_cases hc : ∀ a, (j a).val = (ix a (ln k)).toNat
  · exact (@if_pos _ (_) hc _ _ _).trans (@if_pos _ (_) hc _ _ _).symm
  · exact (@if_neg _ (_) hc _ _ _).trans (@if_neg _ (_) hc _ _ _).symm

/-- The contents `g` after the lanes `v` were written at `ix`. -/
def put {α : Type} (g : ℕ → α) (ix : IVec S16 32) (v : S16.Idx → α) (p : ℕ) : α :=
  (List.finRange 16).foldl (fun y k => if p = (ix (ln k)).toNat then v (ln k) else y) (g p)

theorem put_miss {α : Type} {g : ℕ → α} {ix : IVec S16 32} {v : S16.Idx → α} {p : ℕ} (h : ∀ l : Fin 16, p ≠ (ix (ln l)).toNat) :
    put g ix v p = g p := fold_miss (fun k => p = (ix (ln k)).toNat) _ _ _ fun k _ => h k

theorem put_hit {α : Type} {g : ℕ → α} {ix : IVec S16 32} {v : S16.Idx → α} {p : ℕ} (l : Fin 16) (hl : p = (ix (ln l)).toNat)
    (hi : ∀ l' : Fin 16, p = (ix (ln l')).toNat → l' = l) : put g ix v p = v (ln l) :=
  fold_hit (fun k => p = (ix (ln k)).toNat) (fun k => v (ln k)) l hl _ _ (List.mem_finRange _) fun k _ hk => hi k hk

/-- The contents `g` after one was added at each lane's index. -/
def bump (g : ℕ → BitVec 32) (ix : IVec S16 32) (p : ℕ) : BitVec 32 :=
  g p + BitVec.ofNat 32 ((Finset.univ : Finset (Fin 16)).filter fun l => p = (ix (ln l)).toNat).card

/-- The contents `g` after the lanes `v` were written to row `r` from column `o` on. -/
def putRow {α : Type} (g : ℕ → ℕ → α) (r o : ℕ) (v : S16.Idx → α) (p q : ℕ) : α :=
  if p = r ∧ o ≤ q ∧ q < o + 16 then lane v (q - o) else g p q

theorem storeIdx_nat1 {n : ℕ} {e : EltTy} (g : ℕ → Elt F e) (ix : IVec S16 32) (v : Vec F S16 e)
    (h : ∀ a x, ((![ix] : Fin 1 → IVec S16 32) a x).toNat < (⟨1, ![n]⟩ : Shape).size a) :
    storeIdx (F := F) (s := ⟨1, ![n]⟩) (nat1 g) ![ix] v (fun _ => 1#1) false h = nat1 (put g ix v) := by
  funext j
  rw [storeIdx_set_at]
  unfold put
  congr 1
  funext y k
  refine if_congr ?_ rfl rfl
  exact ⟨fun h => h 0, fun h a => by obtain rfl : a = 0 := Subsingleton.elim _ _; exact h⟩

theorem storeIdx_bump {n : ℕ} (g : ℕ → BitVec 32) (ix : IVec S16 32)
    (h : ∀ a x, ((![ix] : Fin 1 → IVec S16 32) a x).toNat < (⟨1, ![n]⟩ : Shape).size a) :
    storeIdx (F := F) (s := ⟨1, ![n]⟩) (e := .i32) (nat1 g) ![ix] (broadcast S16 1#32) (fun _ => 1#1) true h = nat1 (bump g ix) := by
  funext j
  rw [storeIdx_add_at, fold_add _ _ _ (List.nodup_finRange 16), List.toFinset_finRange]
  unfold bump
  change _ + BitVec.ofNat 32 _ = _ + BitVec.ofNat 32 _
  congr 3
  ext k
  simp only [Finset.mem_filter, Finset.mem_univ, true_and]
  exact ⟨fun h => h 0, fun h a => by obtain rfl : a = 0 := Subsingleton.elim _ _; exact h⟩

theorem storeIdx_row {n m : ℕ} {e : EltTy} (g : ℕ → ℕ → Elt F e) (ia ib : IVec S16 32) (v : Vec F S16 e) {r o : ℕ}
    (ha : ∀ l : Fin 16, (ia (ln l)).toNat = r) (hb : ∀ l : Fin 16, (ib (ln l)).toNat = o + l.val)
    (h : ∀ a x, ((![ia, ib] : Fin 2 → IVec S16 32) a x).toNat < (⟨2, ![n, m]⟩ : Shape).size a) :
    storeIdx (F := F) (s := ⟨2, ![n, m]⟩) (nat2 g) ![ia, ib] v (fun _ => 1#1) false h = nat2 (putRow g r o v) := by
  funext j
  rw [storeIdx_set_at]
  have hc : ∀ k : Fin 16, (∀ a : Fin 2, (j a).val = ((![ia, ib] : Fin 2 → IVec S16 32) a (ln k)).toNat)
      ↔ ((j 0).val = r ∧ (j 1).val = o + k.val) := fun k => by
    rw [Fin.forall_fin_two]
    change ((j 0).val = (ia (ln k)).toNat ∧ (j 1).val = (ib (ln k)).toNat) ↔ _
    rw [ha, hb]
  unfold nat2 putRow
  split_ifs with hp
  · obtain ⟨h0, h1, h2⟩ := hp
    have hl : (j 1).val - o < 16 := by omega
    rw [lane_lt v hl]
    refine fold_hit (fun k => ∀ a : Fin 2, (j a).val = ((![ia, ib] : Fin 2 → IVec S16 32) a (ln k)).toNat) (fun k => v (ln k))
      ⟨(j 1).val - o, hl⟩ ((hc _).mpr ⟨h0, by change (j 1).val = o + ((j 1).val - o); omega⟩) _ _ (List.mem_finRange _) fun k _ hk => ?_
    have := (hc k).mp hk
    exact Fin.ext (by change k.val = (j 1).val - o; omega)
  · refine fold_miss (fun k => ∀ a : Fin 2, (j a).val = ((![ia, ib] : Fin 2 → IVec S16 32) a (ln k)).toNat) (fun k => v (ln k)) _ _ fun k _ hk => hp ?_
    have := (hc k).mp hk
    have := k.isLt
    omega

/-! ## The running sum, and the occurrence count -/

theorem scan_sum (a : ℕ → ℕ) : scan .sum (nat1 (n := 16) fun l => BitVec.ofNat 32 (a l))
    = nat1 (n := 16) fun l => BitVec.ofNat 32 (∑ k ∈ Finset.range (l + 1), a k) := by
  funext x
  have hx : ∀ j : Fin 16, scan .sum (nat1 (n := 16) fun l => BitVec.ofNat 32 (a l)) (ln j)
      = BitVec.ofNat 32 (∑ k ∈ Finset.range (j.val + 1), a k) := by
    intro j
    simp only [Finset.sum_range_succ, Finset.sum_range_zero]
    fin_cases j <;> simp [Finset.sum_range_succ, BitVec.ofNat_add] <;> rfl
  have := hx (x 0)
  rwa [ln_self] at this

theorem scanCount_ones (c : IVec S16 32) (l : Fin 16) : (scanCount (broadcast S16 1#1) c).2 (ln l)
    = BitVec.ofNat 32 (((Finset.range (l.val + 1)).filter fun k => lane c k = c (ln l)).card) := by
  unfold scanCount
  dsimp only
  rw [if_pos (by rfl)]
  refine congrArg (BitVec.ofNat 32) ?_
  refine Finset.card_bij (fun j _ => (j 0).val) ?_ ?_ ?_
  · intro j hj
    simp only [Finset.mem_filter, Finset.mem_univ, true_and, Shape.rowMajor_val_one] at hj
    refine Finset.mem_filter.mpr ⟨Finset.mem_range.mpr (Nat.lt_succ_of_le hj.1), ?_⟩
    rw [← hj.2.2]
    exact (lane_ln c (j 0)).trans (congrArg c (ln_self j))
  · intro i _ j _ h
    rw [← ln_self i, ← ln_self j]
    exact congrArg ln (Fin.ext h)
  · intro k hk
    simp only [Finset.mem_filter, Finset.mem_range] at hk
    have hk16 : k < 16 := by have := l.isLt; omega
    refine ⟨ln ⟨k, hk16⟩, ?_, rfl⟩
    simp only [Finset.mem_filter, Finset.mem_univ, true_and, Shape.rowMajor_val_one]
    exact ⟨Nat.le_of_lt_succ hk.1, rfl, by rw [← lane_lt c hk16]; exact hk.2⟩

end Cert.Proof
-- ==== Proof.Own.lean ====
/-
  Holding a memref of the tile at given contents, and the step rules of the tile's small programs over it: a gather and
  a scatter within the tile's memory, loads and stores of sixteen words at an offset, and scalar memory's words.
-/
module

public import proofs.«01_k».proof.Proof.Lanes
public import Idealize.ShloMosaic.Lib.Writes
public import Idealize.ShloMosaic.Lib.Pipeline.Kit
public import Idealize.ShloMosaic.Lib.StableHlo.Run

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev 𝒱₀ : Variants := Variants.none

/-- The user algebra: the handshakes' rounds, and the transfers' counters. -/
abbrev UH : Type := URounds (GSem nD τ sig) ℕ
abbrev UU : Type := UH × Counters

local notation "𝕄" => MT nD τ sig (HIx 1) (Elt F) ℕ UU ℕ

/-- The counters of the transfers. -/
abbrev EC : UEmb Counters (MT nD τ sig (HIx 1) (Elt F) ℕ UU ℕ) := countersEmb

abbrev cV (i : grid0.Coords) : Fin τ.nSC := (i 0).castLE hcore0
abbrev jV (i : grid0.Coords) : Fin τ.nSub := (i 1).castLE hsub0

/-- The vector subcore of device `d` at grid point `i`. -/
abbrev thr (d : Dev nD) (i : grid0.Coords) : Thread nD τ := V d (cV i) (jV i)

variable [FloatOps F]
variable (d : Dev nD) (i : grid0.Coords)

/-- The tile's program `p` runs and ends in `Q`. -/
abbrev run {α : Type} (p : TileProg F i α) (Q : α → sProp 𝕄) : sProp 𝕄 :=
  wp frame (wpE (defs₀ (F := F)) 𝒱₀ (V d (cV i) (jV i)) none) Set.univ p Q

theorem run_bind {α β : Type} (p : TileProg F i α) (k : α → TileProg F i β) (Q : β → sProp 𝕄) :
    run d i (p >>= k) Q = run d i p fun a => run d i (k a) Q := by
  unfold run; rw [wp_bind]

theorem run_done {α : Type} (a : α) (Q : α → sProp 𝕄) : Q a ⊢ run d i (.ret a) Q := by
  unfold run
  iintro H
  rw [wp_ret]
  imodintro
  iexact H

theorem run_pure {α : Type} (a : α) (Q : α → sProp 𝕄) : Q a ⊢ run d i (pure a) Q := run_done d i a Q

theorem run_mono {α : Type} {p : TileProg F i α} {Q Q' : α → sProp 𝕄} (h : ∀ a, Q a ⊢ Q' a) : run d i p Q ⊢ run d i p Q' := wp_mono _ _ _ h

/-- A share of the memref's elements is held, and they read as `W`. -/
def holds {sp : Space} {s : Shape} {e : EltTy} (m : Memref sig .scVector sp s e) (q : PosShare TreeShare) (W : s.Idx → Elt F e) : sProp 𝕄 :=
  iprop(∃ f, (m.view.loc (thr d i) ↦[m.view.set]{q} f) ∗ ⌜m.view.read (Elt F) f = W⌝)

instance holds_storable {sp : Space} {s : Shape} {e : EltTy} (m : Memref sig .scVector sp s e) (q : PosShare TreeShare) (W : s.Idx → Elt F e) :
    Storable (upEmb : UEmb _ 𝕄) (holds d i m q W) := by
  unfold holds; infer_instance

section Rules

variable {d i} {sp : Space} {s : Shape} {e : EltTy}

theorem set_access (m : Memref sig .scVector sp s e) : (m.access (Rect.whole s)).set = m.view.set := by
  change (m.view.slice (Rect.whole s)).set = _
  rw [View.set_slice, Rect.set_whole]; rfl

theorem read_access (m : Memref sig .scVector sp s e) (f : m.view.ty.Contents (Elt F)) :
    (m.access (Rect.whole s)).read (Elt F) f = m.view.read (Elt F) f := by
  funext x
  change m.view.read (Elt F) f ((Rect.whole s).emb x) = _
  rw [Rect.emb_whole_apply]

theorem wp_gather {h1 : k0_cond1 i = 1#1} {m : Memref sig .scVector .vmem s e} {hs : 0 < s.numel} {ix : Fin s.rank → IVec S16 32}
    {q : PosShare TreeShare} {W : s.Idx → Elt F e} {Q : Vec F S16 e → sProp 𝕄} (hix : ∀ a x, (ix a x).toNat < s.size a) :
    holds d i m q W ⊢ iprop((holds d i m q W -∗ Q (loadIdx W ix hix)) -∗ run d i (gather i h1 m hs ix) Q) := by
  unfold gather holds
  iintro ⟨%f, H, %hf⟩ Hk
  iapply (wp_assume 𝒱₀ (V d (cV i) (jV i)) none Set.univ (fun _ => hix : InRange i s ix))
  ihave H' := (Entails.of_eq (congrArg (fun I => (m.view.loc (thr d i) ↦[I]{q} f : sProp 𝕄)) (set_access m).symm)) $$ H
  iapply (SparseCore.wp_vectorLoadIdx 𝒱₀ (V d (cV i) (jV i)) none Set.univ (base := m) (idxs := ix) (h := hix)
    (hl := View.loads_vmem hs) (k := .ret) (Q := Q) (q := q) (f := f) subset_rfl) $$ H'
  iintro H'
  rw [wp_ret]
  imodintro
  subst hf
  rw [read_access m f]
  iapply Hk
  iexists f
  isplitl [H']
  · iapply (Entails.of_eq (congrArg (fun I => (m.view.loc (thr d i) ↦[I]{q} f : sProp 𝕄)) (set_access m))) $$ H'
  · ipureintro; rfl

theorem wp_scatter {h1 : k0_cond1 i = 1#1} {m : Memref sig .scVector .vmem s e} {hs : 0 < s.numel} {hb : e.bits = 32}
    {ix : Fin s.rank → IVec S16 32} {v : Vec F S16 e} {add : Bool} {Q : PUnit → sProp 𝕄}
    {W : s.Idx → Elt F e} (hix : ∀ a x, (ix a x).toNat < s.size a) :
    holds d i m fullShare W ⊢ iprop((holds d i m fullShare (storeIdx W ix v (fun _ => 1#1) add hix) -∗ Q ⟨⟩)
      -∗ run d i (scatter i h1 m hs hb ix v add) Q) := by
  unfold scatter holds
  iintro ⟨%f, H, %hf⟩ Hk
  iapply (wp_assume 𝒱₀ (V d (cV i) (jV i)) none Set.univ (fun _ => hix : InRange i s ix))
  ihave H' := (Entails.of_eq (congrArg (fun I => (m.view.loc (thr d i) ↦[I]{fullShare} f : sProp 𝕄)) (set_access m).symm)) $$ H
  iapply (SparseCore.wp_vectorStoreIdx 𝒱₀ (V d (cV i) (jV i)) none Set.univ (base := m) (idxs := ix) (v := v) (mask := fun _ => 1#1) (add := add)
    (h := hix) (hs := View.stores_vmem_bits_univ hs hb) (k := .ret) (Q := Q) (f := f)) $$ H'
  iintro H'
  rw [wp_ret]
  imodintro
  iapply Hk
  iexists ((m.access (.whole s)).write (Elt F) f (storeIdx ((m.access (.whole s)).read (Elt F) f) ix v (fun _ => 1#1) add hix) Finset.univ)
  isplitl [H']
  · iapply (Entails.of_eq (congrArg (fun I => (m.view.loc (thr d i) ↦[I]{fullShare} _ : sProp 𝕄)) (set_access m))) $$ H'
  · ipureintro
    subst hf
    rw [← read_access m, View.read_write_univ, read_access m]

/-- A load of a rectangle reads its part of the contents. -/
theorem wp_loadRect {cs : CoreSpace} {m : Memref sig .scVector cs s e} {r : Rect s} {hl : m.view.LoadsAt r.toLoadRect}
    {q : PosShare TreeShare} {W : s.Idx → Elt F e} {Q : (r.shape.Idx → Elt F e) → sProp 𝕄} :
    holds d i m q W ⊢ iprop((holds d i m q W -∗ Q (fun x => W (r.emb x)))
      -∗ run d i (Prog.lift (.load m r.toLoadRect hl)) Q) := by
  unfold holds
  iintro ⟨%f, H, %hf⟩ Hk
  iapply (wp_load_rect 𝒱₀ (V d (cV i) (jV i)) none Set.univ (m := m) (r := r) (hl := hl) (k := .ret) (Q := Q) (q := q) (f := f)
    (View.set_slice_subset _ _)) $$ H
  iintro H
  rw [wp_ret]
  imodintro
  subst hf
  rw [show (m.access r).read (Elt F) f = fun x => m.view.read (Elt F) f (r.emb x) from rfl]
  iapply Hk
  iexists f
  isplitl [H]; · iexact H
  ipureintro; rfl

/-- A store of a rectangle replaces its part of the contents. -/
theorem wp_storeRect {cs : CoreSpace} {m : Memref sig .scVector cs s e} {r : Rect s} {w : r.shape.Idx → Elt F e} {Q : PUnit → sProp 𝕄}
    {hx : (m.access r).Stores Finset.univ} {hm : (Finset.univ : Finset r.shape.Idx) = Finset.univ ∨ ∀ a, r.stride a = 1}
    {W W' : s.Idx → Elt F e} (hin : ∀ x, W' (r.emb x) = w x) (hout : ∀ y, y ∉ r.set → W' y = W y) :
    holds d i m fullShare W ⊢ iprop((holds d i m fullShare W' -∗ Q ⟨⟩)
      -∗ run d i (Prog.lift (.store m r w Finset.univ hx hm)) Q) := by
  unfold holds
  iintro ⟨%f, H, %hf⟩ Hk
  iapply (wp_store 𝒱₀ (V d (cV i) (jV i)) none Set.univ (m := m) (r := r) (w := w) (Mk := Finset.univ) (hx := hx) (hm := hm) (k := .ret) (Q := Q) (f := f)
    (S := m.view.set) ((View.setOn_subset_set _ _).trans (View.set_slice_subset _ _))) $$ H
  iintro H
  rw [wp_ret]
  imodintro
  iapply Hk
  iexists ((m.access r).write (Elt F) f w Finset.univ)
  isplitl [H]; · iexact H
  ipureintro
  subst hf
  funext y
  by_cases hy : y ∈ r.set
  · obtain ⟨x, rfl⟩ := r.exists_idx_of_mem hy
    exact (View.read_slice_write_emb (v := m.view) r f w (Finset.mem_univ x)).trans (hin x).symm
  · rw [hout y hy]
    exact View.read_slice_write_of_not_mem (v := m.view) r f w Finset.univ (by rw [Rect.map_emb_univ]; exact hy)

/-- A scalar read of one word. -/
theorem wp_smemLoad {m : Memref sig .scVector .smem s e} {r : Rect s} {h1 : r.shape.numel = 1} {hp : e.packing = 1}
    {q : PosShare TreeShare} {W : s.Idx → Elt F e} {w : Elt F e} {Q : Elt F e → sProp 𝕄} (hw : ∀ x, W (r.emb x) = w) :
    holds d i m q W ⊢ iprop((holds d i m q W -∗ Q w) -∗ run d i (smemLoad m r h1 hp) Q) := by
  unfold smemLoad holds
  iintro ⟨%f, H, %hf⟩ Hk
  iapply (wp_smemLoadElt 𝒱₀ (V d (cV i) (jV i)) none Set.univ (m := m) (r := r) (hw := View.loads_smem_one hp h1) (k := .ret) (Q := Q) (q := q) (f := f)
    (View.set_slice_subset _ _)) $$ H
  iintro H
  rw [wp_ret]
  imodintro
  subst hf
  rw [show (m.access r).read (Elt F) f (Shape.Idx.first (h1.symm ▸ Nat.one_pos)) = w from hw (Shape.Idx.first (h1.symm ▸ Nat.one_pos))]
  iapply Hk
  iexists f
  isplitl [H]; · iexact H
  ipureintro; rfl

/-! ### Sixteen words at an offset; one word -/

theorem emb_unit1 {n k : ℕ} (o : ℕ) (h : ∀ a, (![o] : Fin 1 → ℕ) a + (![k] : Fin 1 → ℕ) a ≤ (⟨1, ![n]⟩ : Shape).size a)
    (x : (Rect.unit (s := ⟨1, ![n]⟩) ![o] ![k] h).shape.Idx) : ((Rect.unit (s := ⟨1, ![n]⟩) ![o] ![k] h).emb x 0).val = o + (x 0).val := by
  change o + 1 * (x 0).val = _
  rw [Nat.one_mul]

theorem mem_unit1 {n k : ℕ} (o : ℕ) (h : ∀ a, (![o] : Fin 1 → ℕ) a + (![k] : Fin 1 → ℕ) a ≤ (⟨1, ![n]⟩ : Shape).size a)
    (y : (⟨1, ![n]⟩ : Shape).Idx) : y ∈ (Rect.unit (s := ⟨1, ![n]⟩) ![o] ![k] h).set ↔ o ≤ (y 0).val ∧ (y 0).val < o + k := by
  rw [LoadRect.mem_set]
  constructor
  · intro hy
    obtain ⟨j, hj, hy⟩ := hy 0
    change j < k at hj
    change (y 0).val = o + 1 * j at hy
    omega
  · rintro ⟨h0, h1⟩ a
    obtain rfl : a = 0 := Subsingleton.elim _ _
    refine ⟨(y 0).val - o, ?_, ?_⟩
    · change (y 0).val - o < k; omega
    · change (y 0).val = o + 1 * ((y 0).val - o); omega

/-- Contents after the lanes `v` were written from `o` on. -/
def over {α : Type} (g : ℕ → α) (o : ℕ) (v : S16.Idx → α) (p : ℕ) : α := if o ≤ p ∧ p < o + 16 then lane v (p - o) else g p

theorem wp_load16 {n : ℕ} {cs : CoreSpace} {m : Memref sig .scVector cs ⟨1, ![n]⟩ e} {o : ℕ}
    {h : ∀ a, (![o] : Fin 1 → ℕ) a + S16.size a ≤ (⟨1, ![n]⟩ : Shape).size a}
    {hl : m.view.LoadsAt (Rect.unit (s := ⟨1, ![n]⟩) ![o] S16.size h).toLoadRect}
    {q : PosShare TreeShare} {g : ℕ → Elt F e} {Q : Vec F S16 e → sProp 𝕄} :
    holds d i m q (nat1 g) ⊢ iprop((holds d i m q (nat1 g) -∗ Q (nat1 fun l => g (o + l)))
      -∗ run d i (Prog.lift (.load m (Rect.unit (s := ⟨1, ![n]⟩) ![o] S16.size h).toLoadRect hl)) Q) := by
  iintro H Hk
  iapply (wp_loadRect (r := Rect.unit (s := ⟨1, ![n]⟩) ![o] S16.size h) (hl := hl) (W := nat1 g) (Q := Q)) $$ H
  iintro H
  rw [show (fun x => nat1 g ((Rect.unit (s := ⟨1, ![n]⟩) ![o] S16.size h).emb x)) = nat1 (fun l => g (o + l)) from
    funext fun x => congrArg g (emb_unit1 o h x)]
  iapply Hk; iexact H

theorem wp_store16 {n : ℕ} {cs : CoreSpace} {m : Memref sig .scVector cs ⟨1, ![n]⟩ e} {o : ℕ}
    {h : ∀ a, (![o] : Fin 1 → ℕ) a + S16.size a ≤ (⟨1, ![n]⟩ : Shape).size a} {v : Vec F S16 e} {Q : PUnit → sProp 𝕄}
    {hx : (m.access (Rect.unit (s := ⟨1, ![n]⟩) ![o] S16.size h)).Stores Finset.univ}
    {hm : (Finset.univ : Finset (Rect.unit (s := ⟨1, ![n]⟩) ![o] S16.size h).shape.Idx) = Finset.univ ∨ ∀ a, (Rect.unit (s := ⟨1, ![n]⟩) ![o] S16.size h).stride a = 1}
    {g : ℕ → Elt F e} :
    holds d i m fullShare (nat1 g) ⊢ iprop((holds d i m fullShare (nat1 (over g o v)) -∗ Q ⟨⟩)
      -∗ run d i (Prog.lift (.store m (Rect.unit (s := ⟨1, ![n]⟩) ![o] S16.size h) v Finset.univ hx hm)) Q) := by
  refine wp_storeRect (r := Rect.unit (s := ⟨1, ![n]⟩) ![o] S16.size h) (fun x => ?_) fun y hy => ?_
  · change over g o v _ = _
    rw [emb_unit1]
    have hx : (x 0).val < 16 := (x 0).isLt
    unfold over
    rw [if_pos ⟨Nat.le_add_right _ _, by omega⟩, Nat.add_sub_cancel_left, lane_lt v hx]
    exact congrArg v (ln_self x)
  · change over g o v _ = _
    unfold over
    rw [if_neg fun hh => hy ((mem_unit1 o h y).mpr hh)]

end Rules

end Cert.Proof
-- ==== Proof.Rows.lean ====
/-
  A scatter whose offset list may name one row several times: the entries are given, one by one, as updates of the rows
  they name, so that the entries naming a row no other entry names can hold it outright, and the others can share theirs
  behind an invariant.
-/
module

public import Idealize.ShloMosaic.Lib.SparseCore.Scatter
public import Idealize.ShloMosaic.Lib.SparseCore.Cells

@[expose] public section

noncomputable section

namespace Cert.Proof

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The scatter, its entries' updates given: `X j` is what entry `j` starts with, `Y j` what it leaves. -/
theorem wp_scatterRows [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    (ι : Ix) (N : ℕ) (hs : 0 < s.numel) (hin : ∀ x, (offs.view.read (Elt F) fo x).toNat < s₀.size hg.axis)
    (hN : ∑ j, (dst.slice (s₀.rowRect hg.axis (rows (offs.view.read (Elt F) fo) hn hin j)) (s₀.stride_rowRect hg.axis _)).view.dmaCredit = N)
    (X Y : Fin (s.size hg.axis') → sProp 𝕄) [∀ j, Storable (upEmb : UEmb _ 𝕄) (Y j)]
    (hX : ∀ j, X j ⊢ writeUpdate c (dst.view.slice (s₀.rowRect hg.axis (rows (offs.view.read (Elt F) fo) hn hin j)))
      (scatterRowPayload c src hg fs j) (Y j)) :
    iprop((src.view.loc c ↦[src.view.set]{q} fs) ∗ bigSep Finset.univ X
        ∗ (offs.view.loc c ↦[offs.view.set]{qo} fo) ∗ semVal (c, SemLoc.dma sem) 0)
      ⊢ iprop((Transfers.Flight EC c (.dma sem) ι N
                iprop(bigSep Finset.univ Y ∗ (src.view.loc c ↦[src.view.set]{q} fs) ∗ (offs.view.loc c ↦[offs.view.set]{qo} fo))
              -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  let str : Stream nD τ sig (Elt F) :=
    Stream.issued c offs.view hn sem (fun j w => (rowOf (s₀.size hg.axis) w).map (scatterRow c src dst hg sem he hsp hr j)) 0
  let nm : Fin (s.size hg.axis') → Fin (s₀.size hg.axis) := rows (offs.view.read (Elt F) fo) hn hin
  let mv : Fin (s.size hg.axis') → RowDma τ sig (Elt F) c.2 sem := fun j => scatterRow c src dst hg sem he hsp hr j (nm j)
  let cr : Fin (s.size hg.axis') → ℕ := fun j => (dst.slice (s₀.rowRect hg.axis (nm j)) (s₀.stride_rowRect hg.axis _)).view.dmaCredit
  have hpos : 0 < (s₀.rowShape hg.axis).numel := hg.rowShape_eq ▸ rowShape_numel_pos hs _
  have hcr : ∀ j, 0 < cr j := fun _ => View.dmaCredit_pos _ hpos
  let D : Fin (s.size hg.axis') → sProp 𝕄 := fun j =>
    iprop((Y j ∗ str.heldEntry qo fo j) ∗ (src.view.loc c ↦[(src.view.slice (s.rowRect hg.axis' j)).set]{q} fs))
  have hA : str.RowsAgree := by
    intro j x x' ρ ρ' h h'
    obtain ⟨_, _, rfl⟩ := Option.map_eq_some_iff.mp h
    obtain ⟨_, _, rfl⟩ := Option.map_eq_some_iff.mp h'
    rfl
  have hmv : ∀ j, str.row j (str.word fo j) = some (mv j) := fun j => by
    change (rowOf (s₀.size hg.axis) (offs.view.read (Elt F) fo (str.entry j))).map _ = _
    rw [rowOf_of_lt (hin _)]; rfl
  have hbij : Function.Bijective str.entry := si.rowMajor.symm.bijective.comp (finCongr hn.symm).bijective
  have hset : ∀ j, (src.view.slice (s.rowRect hg.axis' j)).set = (mv j).src.view.set := fun j =>
    (View.set_cast (v := src.view.slice (s.rowRect hg.axis' j)) _ _).symm
  iintro ⟨Hs, HX, Ho, Hv⟩ Hk
  imod (Transfers.stream_alloc EC hcr D (g := (c, SemLoc.dma sem))) $$ Hv with ⟨%γ, %δ, %κ, #Hinv, Hγ, Hδ⟩
  ihave Ho' := (Entails.of_eq (pointsTo_entries c offs.view str.entry hbij qo fo)) $$ Ho
  ihave Hs' := (Entails.of_eq (pointsTo_rows c src.view hg.axis' q fs)) $$ Hs
  iapply (wp_enqueueIndirectDma 𝒱 c bd Set.univ (qo := qo) (fo := fo) (rd := mv) ι N hA hmv hN) $$ [HX Ho' Hs' Hγ]
  · have hone : ∀ j, iprop(inv κ (Transfers.streamBody EC (c, SemLoc.dma sem) cr D γ δ)
          ∗ (((X j ∗ str.heldEntry qo fo j) ∗ (src.view.loc c ↦[(src.view.slice (s.rowRect hg.axis' j)).set]{q} fs)) ∗ count EC (γ j) 0))
        ⊢ iprop(str.heldEntry qo fo j ∗ (str.heldEntry qo fo j -∗ rowRes c (mv j))) := fun j => by
      iintro ⟨#Hinv, ⟨⟨Hx, He⟩, Hsq⟩, Hγj⟩
      isplitl [He]; · iexact He
      iintro He
      unfold rowRes
      iexists q, fs, iprop(Y j ∗ str.heldEntry qo fo j)
      isplitl [Hsq]; · iapply (Entails.of_eq (congrArg (fun I => (src.view.loc c ↦[I]{q} fs : sProp 𝕄)) (hset j))) $$ Hsq
      isplitl [Hx He]
      · iapply writeUpdate_frame
        isplitl [Hx]
        · iapply (hX j) $$ Hx
        · iexact He
      · iapply (Entails.of_eq (show (creditUpdate (c, SemLoc.dma sem) ((mv j).dst.view.amount (.dma sem)) 0
            iprop((Y j ∗ str.heldEntry qo fo j) ∗ (src.view.loc c ↦[(src.view.slice (s.rowRect hg.axis' j)).set]{q} fs)) : sProp 𝕄)
            = creditUpdate (c, SemLoc.dma sem) ((mv j).dst.view.amount (.dma sem)) 0
            iprop((Y j ∗ str.heldEntry qo fo j) ∗ ((mv j).src.view.loc c ↦[(mv j).src.view.set]{q} fs)) from by rw [hset j]))
        iapply (Transfers.stream_creditUpdate EC (a := cr) (D := D) (δ := δ) j)
        isplitr; · iexact Hinv
        iexact Hγj
    unfold Stream.res
    ihave H1 := Transfers.bigSep_sep_in _ _ _ $$ [HX Ho']; · isplitl [HX] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hone j)
    isplitr; · iexact Hinv
    iexact H3
  · have hjoin : bigSep Finset.univ D
        ⊢ (iprop(bigSep Finset.univ Y ∗ (src.view.loc c ↦[src.view.set]{q} fs) ∗ (offs.view.loc c ↦[offs.view.set]{qo} fo)) : sProp 𝕄) := by
      iintro HD
      ihave H1 := Transfers.bigSep_sep_out _ _ _ $$ HD
      icases H1 with ⟨H2, Hsrc⟩
      ihave H3 := Transfers.bigSep_sep_out _ _ _ $$ H2
      icases H3 with ⟨HY, Hoffs⟩
      isplitl [HY]; · iexact HY
      isplitl [Hsrc]
      · iapply (Entails.of_eq (pointsTo_rows c src.view hg.axis' q fs).symm) $$ Hsrc
      · iapply (Entails.of_eq (pointsTo_entries c offs.view str.entry hbij qo fo).symm) $$ Hoffs
    iintro Hcred
    iapply Hk
    iapply (Transfers.Flight_mono EC c hjoin)
    iapply (Transfers.stream_flight EC (a := cr) hN)
    isplitr; · iexact Hinv
    isplitl [Hδ] <;> iassumption

/-- What entries that share a stretch `D` of a buffer keep behind their invariant: the stretch at some contents, or, once
    the scatter is over, every entry's token. -/
def shared {o : ℕ} (ℓ : Loc nD τ sig) (D : Finset (Idx ℓ)) (γ : Fin o → ℕ) : sProp 𝕄 :=
  iprop((∃ g : Buf (Elt F) ℓ, ℓ ↦[D]{fullShare} g) ∨ bigSep Finset.univ fun j => count EC (γ j) 0)

instance shared_storable [EC.LandsIn (upEmb : UEmb _ 𝕄)] {o : ℕ} (ℓ : Loc nD τ sig) (D : Finset (Idx ℓ)) (γ : Fin o → ℕ) :
    Storable (upEmb : UEmb _ 𝕄) (shared (F := F) EC ℓ D γ) := by
  have (j : Fin o) : Storable (upEmb : UEmb _ 𝕄) (count EC (γ j) 0) := by unfold count; infer_instance
  unfold shared; infer_instance

/-- An entry writes a view inside the shared stretch. -/
theorem shared_writeUpdate {o : ℕ} {s : Shape} {v : View sig c.2.kind sp s e} {w : s.Idx → Elt F e} {D : Finset (Idx (v.loc c))}
    {γ : Fin o → ℕ} {κ : Name} (j : Fin o) (hD : v.set ⊆ D) :
    iprop(inv κ (shared (F := F) EC (v.loc c) D γ) ∗ count EC (γ j) 0) ⊢ (writeUpdate c v w (count EC (γ j) 0) : sProp 𝕄) := by
  classical
  rw [writeUpdate, writeUpdateFrom_def]
  iintro ⟨#Hinv, Ht⟩
  iexists (fun _ => count EC (γ j) 0)
  isplitl [Ht]; · iexact Ht
  isplitr
  · rw [writeSteps_def]
    imodintro
    iintro %M %M' Ht
    imod (inv_acc (Set.mem_univ κ)) $$ Hinv with ⟨Hb, Hclose⟩
    unfold shared
    icases Hb with (⟨%g, Hg⟩ | Hall)
    · iapply (atomically_intro _ _)
      rw [storeSpec_apply]
      iexists D, g
      isplitl [Hg]; · iexact Hg
      isplitr; · ipureintro; exact (View.setOn_subset_set _ _).trans hD
      iintro Hg
      imod Hclose $$ [Hg]
      · ileft; iexists _; iexact Hg
      · imodintro; iexact Ht
    · ihave Hall' := (Entails.of_eq (SparseCore.bigSep_erase' (Finset.mem_univ j) (Φ := fun j => (count EC (γ j) 0 : sProp 𝕄)))) $$ Hall
      icases Hall' with ⟨Hj, -⟩
      iexfalso
      iapply (Transfers.tok_tok_false EC (γ j))
      isplitl [Ht] <;> iassumption
  · iintro Ht; iexact Ht

end Cert.Proof
-- ==== Proof.Flush.lean ====
/-
  The tile's scatter of its staged rows: its own rows of the output held outright, its dump rows shared by the entries
  that name them.
-/
module

public import proofs.«01_k».proof.Proof.Own
public import proofs.«01_k».proof.Proof.Rows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Row `r` of the output. -/
def outRow (r : ℕ) : Finset S110592x128.Idx := Finset.univ.filter fun y => (y 0).val = r

/-- The rows of the output that field `f`'s tile fills. -/
def ownRows (f : ℕ) : Finset S110592x128.Idx := Finset.univ.filter fun y => (y 0).val < 106496 ∧ (y 0).val % 26 = f

/-- The rows of the output that tile `f` may write anything to. -/
def dumpSet (f : ℕ) : Finset S110592x128.Idx := Finset.univ.filter fun y => 106496 + 128 * f ≤ (y 0).val ∧ (y 0).val < 106496 + 128 * f + 128

theorem mem_outRow {r : ℕ} {y : S110592x128.Idx} : y ∈ outRow r ↔ (y 0).val = r := by simp [outRow]
theorem mem_ownRows {f : ℕ} {y : S110592x128.Idx} : y ∈ ownRows f ↔ (y 0).val < 106496 ∧ (y 0).val % 26 = f := by simp [ownRows]
theorem mem_dumpSet {f : ℕ} {y : S110592x128.Idx} :
    y ∈ dumpSet f ↔ 106496 + 128 * f ≤ (y 0).val ∧ (y 0).val < 106496 + 128 * f + 128 := by simp [dumpSet]

/-- The output's element in row `y` and column `q`. -/
def pt2 (y q : ℕ) (hy : y < 110592) (hq : q < 128) : S110592x128.Idx := fun a => match a with
  | ⟨0, _⟩ => ⟨y, hy⟩
  | ⟨1, _⟩ => ⟨q, hq⟩

theorem pt2_self (y : S110592x128.Idx) : pt2 (y 0).val (y 1).val (y 0).isLt (y 1).isLt = y := by
  funext a; fin_cases a <;> rfl

/-- The output's location, from a tile. -/
abbrev outLoc (d : Dev nD) (i : grid0.Coords) : Loc nD τ sig := mOut.view.loc (thr d i)

/-- Contents of the output, from a function of naturals. -/
def outBuf (d : Dev nD) (i : grid0.Coords) (out : ℕ → ℕ → Elt F .f32) : Buf (Elt F) (outLoc d i) :=
  fun (y : S110592x128.Idx) => out (y 0).val (y 1).val

/-- Field `f`'s rows of the output at `out`. -/
def outOwn (d : Dev nD) (i : grid0.Coords) (f : ℕ) (out : ℕ → ℕ → Elt F .f32) : sProp 𝕄 :=
  outLoc d i ↦[(ownRows f : Finset (Idx (outLoc d i)))]{fullShare} (outBuf d i out)

/-- Tile `f`'s dump rows, at anything. -/
def outDump (d : Dev nD) (i : grid0.Coords) (f : ℕ) : sProp 𝕄 :=
  iprop(∃ g : Buf (Elt F) (outLoc d i), outLoc d i ↦[(dumpSet f : Finset (Idx (outLoc d i)))]{fullShare} g)

/-- What the tile owes, with its leave to wait. -/
def duty (d : Dev nD) (i : grid0.Coords) (O : CellTallies nD τ sig (HIx 1)) (W₀ : Waits sig (HIx 1)) : sProp 𝕄 :=
  iprop(Transfers.MayWaits (thr d i) none O ∗ ∃ W', ⌜∀ p ∈ W', p ∈ W₀ ∨ p.2 = none⌝ ∗ owes (thr d i) O W')

variable [FloatOps F] {d : Dev nD} {i : grid0.Coords} {O : CellTallies nD τ sig (HIx 1)} {W₀ : Waits sig (HIx 1)}

theorem wp_waitK {α : Type} {sp sp' : Space} {s s' : Shape} {e e' : EltTy} {sem : DmaSem sig} {srcw : Memref sig .scVector sp' s' e'}
    {dstw : Memref sig .scVector sp s e} {hsrc : srcw.view.WordExact} {hdst : dstw.view.WordExact} {k : PUnit → TileProg F i α} {N : ℕ}
    (hN : dstw.view.dmaCredit = N) {D : sProp 𝕄} {Q : α → sProp 𝕄} :
    iprop(Transfers.Flight EC (thr d i) (.dma sem) none N D ∗ duty d i O W₀)
      ⊢ iprop((D ∗ semVal (thr d i, SemLoc.dma sem) 0 ∗ duty d i O W₀ -∗ run d i (k ⟨⟩) Q) -∗ run d i (.op (.waitDma2 sem srcw dstw hsrc hdst) k) Q) := by
  unfold duty
  iintro ⟨Hf, #Hmw, %W', %hW, HO⟩ Hk
  iapply (Transfers.wp_waitLocalO EC 𝒱₀ (thr d i) none (sem := sem) (srcw := srcw) (dstw := dstw) (hsrc := hsrc) (hdst := hdst)
    (k := k) (Q := Q) none hN (D := D) (O := O) (W := W')) $$ [Hf HO]
  · isplitl [Hf]; · iexact Hf
    isplitl [HO]; · iexact HO
    iapply (Transfers.MayWaits.elim (.dma sem)); iexact Hmw
  iintro ⟨HD, Hv, HO⟩
  iapply Hk
  isplitl [HD]; · iexact HD
  isplitl [Hv]; · iexact Hv
  isplitr; · iexact Hmw
  iexists _
  isplitr; swap
  · iexact HO
  · ipureintro
    intro p hp
    rcases Finset.mem_insert.mp hp with rfl | h
    · exact .inr rfl
    · exact hW p h

/-- A wait for a local transfer. -/
theorem wp_wait {sp sp' : Space} {s s' : Shape} {e e' : EltTy} {sem : DmaSem sig} {srcw : Memref sig .scVector sp' s' e'} {dstw : Memref sig .scVector sp s e}
    {hsrc : srcw.view.WordExact} {hdst : dstw.view.WordExact} {N : ℕ} (hN : dstw.view.dmaCredit = N) {D : sProp 𝕄} {Q : PUnit → sProp 𝕄} :
    iprop(Transfers.Flight EC (thr d i) (.dma sem) none N D ∗ duty d i O W₀)
      ⊢ iprop((D ∗ semVal (thr d i, SemLoc.dma sem) 0 ∗ duty d i O W₀ -∗ Q ⟨⟩) -∗ run d i (Prog.lift (.waitDma2 sem srcw dstw hsrc hdst)) Q) := by
  iintro H Hk
  iapply (wp_waitK (k := .ret) (Q := Q) hN) $$ H
  iintro H
  iapply (run_done d i (PUnit.unit) Q)
  iapply Hk
  iexact H

/-- The wait for the scatter of the staged rows. -/
theorem wp_waitScatter {α : Type} {k : PUnit → TileProg F i α} {D : sProp 𝕄} {Q : α → sProp 𝕄}
    {hs : mStag.view.WordExact} {hd : mOutAll.view.WordExact} :
    iprop(Transfers.Flight EC (thr d i) (.dma cc0_scratch13.sem) none mStag.view.dmaCredit D ∗ duty d i O W₀)
      ⊢ iprop((D ∗ semVal (thr d i, SemLoc.dma cc0_scratch13.sem) 0 ∗ duty d i O W₀ -∗ run d i (k ⟨⟩) Q)
        -∗ run d i (SparseCore.waitIndirectScatter cc0_scratch13.sem mStag mOutAll hs hd >>= k) Q) :=
  wp_waitK (dstw := mStag) (srcw := mOutAll) (k := k) (Q := Q) rfl

section Geometry

theorem outAll_emb (y : S110592x128.Idx) : mOutAll.view.emb y = y := by
  funext a
  apply Fin.ext
  change (![0, 0] : Fin 2 → ℕ) a + 1 * (y a).val = (y a).val
  fin_cases a <;> simp

/-- The axis along which the output is indexed. -/
abbrev hgO : S110592x128.Gathers 0 S128x128 := gathers_S110592x128_S128x128

theorem set_outRow (r : Fin (S110592x128.size hgO.axis)) : (mOutAll.view.slice (S110592x128.rowRect hgO.axis r)).set = outRow r.val := by
  ext y
  rw [View.set_slice, Finset.mem_map, mem_outRow]
  constructor
  · rintro ⟨z, hz, rfl⟩
    rw [outAll_emb]
    rw [LoadRect.mem_set] at hz
    obtain ⟨j, hj, h⟩ := hz 0
    change j < 1 at hj
    change (z 0).val = r.val + 1 * j at h
    omega
  · intro h
    refine ⟨y, ?_, outAll_emb y⟩
    rw [LoadRect.mem_set]
    intro a
    fin_cases a
    · refine ⟨0, ?_, ?_⟩
      · change 0 < 1; omega
      · change (y 0).val = r.val + 1 * 0; omega
    · refine ⟨(y 1).val, ?_, ?_⟩
      · exact (y 1).isLt
      · change (y 1).val = 0 + 1 * (y 1).val; omega

theorem cast_idx {s s' : Shape} (h : s = s') (x : s'.Idx) (a : ℕ) (ha : a < s.rank) (ha' : a < s'.rank) :
    ((h.symm ▸ x : s.Idx) ⟨a, ha⟩).val = (x ⟨a, ha'⟩).val := by
  subst h; rfl

theorem read_cast_at {κ : Kind} {sp : Space} {s s' : Shape} {e : EltTy} (v : View sig κ sp s e) (h : s = s') (f : v.ty.Contents (Elt F)) (x : s'.Idx) :
    (v.cast h rfl).read (Elt F) f x = v.read (Elt F) f (h.symm ▸ x) := by
  subst h; rfl

/-- An entry's row, written, holds the staged row. -/
theorem write_outRow (fs : Buf (Elt F) (mStag.view.loc (thr d i))) (fd : Buf (Elt F) (outLoc d i)) (j : Fin (S128x128.size hgO.axis'))
    (r : Fin (S110592x128.size hgO.axis)) {sg : ℕ → ℕ → Elt F .f32} (hsg : mStag.view.read (Elt F) fs = nat2 sg)
    {y : S110592x128.Idx} (hy : (y 0).val = r.val) :
    (mOutAll.view.slice (S110592x128.rowRect hgO.axis r)).write (Elt F) fd (SparseCore.scatterRowPayload (thr d i) mStag hgO fs j) Finset.univ y
      = sg j.val (y 1).val := by
  have hm : y ∈ (mOutAll.view.slice (S110592x128.rowRect hgO.axis r)).set := by rw [set_outRow, mem_outRow]; exact hy
  obtain ⟨x, -, hx⟩ := Finset.mem_map.mp hm
  have hx1 : (x (1 : Fin 2)).val = (y 1).val := by
    rw [← hx]
    change _ = ((mOutAll.view.emb ((S110592x128.rowRect hgO.axis r).emb x)) 1).val
    rw [outAll_emb]
    change _ = 0 + 1 * (x (1 : Fin 2)).val
    omega
  have hw := View.write_emb_of_mem (v := mOutAll.view.slice (S110592x128.rowRect hgO.axis r)) (Val := Elt F) fd
    (SparseCore.scatterRowPayload (thr d i) mStag hgO fs j) (Finset.mem_univ x)
  rw [hx] at hw
  refine hw.trans ?_
  change SparseCore.scatterRowPayload (thr d i) mStag hgO fs j x = _
  have hfs : ∀ z : S128x128.Idx, fs z = sg (z 0).val (z 1).val := fun z => congrFun hsg z
  refine (read_cast_at (mStag.slice (S128x128.rowRect hgO.axis' j) (S128x128.stride_rowRect _ _)).view hgO.rowShape_eq fs x).trans ?_
  refine (hfs ((S128x128.rowRect hgO.axis' j).emb (hgO.rowShape_eq.symm ▸ x : (S128x128.rowShape hgO.axis').Idx))).trans ?_
  congr 1
  · change j.val + 1 * _ = j.val
    have h0 := ((hgO.rowShape_eq.symm ▸ x : (S128x128.rowShape hgO.axis').Idx) (0 : Fin 2)).isLt
    change _ < 1 at h0
    change j.val + 1 * ((hgO.rowShape_eq.symm ▸ x : (S128x128.rowShape hgO.axis').Idx) (0 : Fin 2)).val = j.val
    omega
  · have h1 := cast_idx hgO.rowShape_eq x 1 (by decide) (by decide)
    change 0 + 1 * ((hgO.rowShape_eq.symm ▸ x : (S128x128.rowShape hgO.axis').Idx) (1 : Fin 2)).val = _
    rw [Nat.zero_add, Nat.one_mul]
    refine Eq.trans ?_ hx1
    exact h1

theorem rows_val {ox : ℕ → BitVec 32} {fo : Buf (Elt F) (mOidx.view.loc (thr d i))} (hox : mOidx.view.read (Elt F) fo = nat1 ox)
    (hin : ∀ x, (mOidx.view.read (Elt F) fo x).toNat < S110592x128.size hgO.axis) (j : Fin (S128x128.size hgO.axis')) :
    (SparseCore.rows (mOidx.view.read (Elt F) fo) (o := S128x128.size hgO.axis') rfl hin j).val = (ox j.val).toNat := by
  change (mOidx.view.read (Elt F) fo (S128.rowMajor.symm (j.cast rfl))).toNat = _
  rw [hox]
  change (ox _).toNat = _
  have h := Shape.rowMajor_val_one (S128.rowMajor.symm (j.cast rfl))
  rw [Equiv.apply_symm_apply] at h
  rw [← h]
  rfl

end Geometry

/-- Closing the shared stretch: every entry's token back, for the stretch at some contents. -/
theorem shared_close {ℓ : Loc nD τ sig} {D : Finset (Idx ℓ)} {γ : Fin 128 → ℕ} {κ : ℕ} :
    iprop(inv κ (shared (F := F) EC ℓ D γ) ∗ bigSep Finset.univ fun j => count EC (γ j) 0)
      ⊢ (iprop(|={Set.univ}=> ∃ g : Buf (Elt F) ℓ, ℓ ↦[D]{fullShare} g) : sProp 𝕄) := by
  iintro ⟨#Hinv, Ht⟩
  imod (inv_acc (Set.mem_univ κ)) $$ Hinv with ⟨Hb, Hclose⟩
  unfold shared
  icases Hb with (⟨%g, Hg⟩ | Hall)
  · imod Hclose $$ [Ht]
    · iright; iexact Ht
    · imodintro; iexists g; iexact Hg
  · ihave Hall' := (Entails.of_eq (SparseCore.bigSep_erase' (Finset.mem_univ (0 : Fin 128)) (Φ := fun j => (count EC (γ j) 0 : sProp 𝕄)))) $$ Hall
    ihave Ht' := (Entails.of_eq (SparseCore.bigSep_erase' (Finset.mem_univ (0 : Fin 128)) (Φ := fun j => (count EC (γ j) 0 : sProp 𝕄)))) $$ Ht
    icases Hall' with ⟨H1, -⟩
    icases Ht' with ⟨H2, -⟩
    iexfalso
    iapply (Transfers.tok_tok_false EC (γ 0))
    isplitl [H1] <;> iassumption

/-- The scatter of the staged rows, and the wait for it. -/
theorem wp_spread {α : Type} {f : ℕ} {sg : ℕ → ℕ → Elt F .f32} {ox : ℕ → BitVec 32} {out : ℕ → ℕ → Elt F .f32}
    {k : PUnit → TileProg F i α} {Q : α → sProp 𝕄} (hf : f < 26)
    (hval : ∀ r < 128, ((ox r).toNat < 106496 ∧ (ox r).toNat % 26 = f)
      ∨ (106496 + 128 * f ≤ (ox r).toNat ∧ (ox r).toNat < 106496 + 128 * f + 128))
    (hdis : ∀ r < 128, ∀ r' < 128, (ox r).toNat < 106496 → (ox r).toNat = (ox r').toNat → r = r') :
    iprop(holds d i mStag fullShare (nat2 sg) ∗ holds d i mOidx fullShare (nat1 ox) ∗ semVal (thr d i, SemLoc.dma cc0_scratch13.sem) 0
        ∗ outOwn d i f out ∗ outDump d i f ∗ duty d i O W₀)
      ⊢ iprop(((∃ out', ⌜(∀ r < 128, (ox r).toNat < 106496 → ∀ q < 128, out' (ox r).toNat q = sg r q)
              ∧ ∀ y q, y < 110592 → q < 128 → (∀ r < 128, (ox r).toNat < 106496 → (ox r).toNat ≠ y) → out' y q = out y q⌝
            ∗ outOwn d i f out' ∗ holds d i mStag fullShare (nat2 sg) ∗ holds d i mOidx fullShare (nat1 ox)
            ∗ semVal (thr d i, SemLoc.dma cc0_scratch13.sem) 0 ∗ outDump d i f ∗ duty d i O W₀) -∗ run d i (k ⟨⟩) Q)
        -∗ run d i (SparseCore.enqueueIndirectScatter rfl mStag mOutAll gathers_S110592x128_S128x128 mOidx rfl cc0_scratch13.sem rfl (Or.inl rfl)
            >>= fun _ => SparseCore.waitIndirectScatter cc0_scratch13.sem mStag mOutAll (Memref.isWhole_whole _).wordExact (View.wordExact_bits rfl)
            >>= k) Q) := by
  classical
  unfold holds outDump
  iintro ⟨⟨%fs, Hs, %hsg⟩, ⟨%fo, Ho, %hox⟩, Hv, Hout, ⟨%g0, Hdump⟩, Hduty⟩ Hk
  have hin : ∀ x, (mOidx.view.read (Elt F) fo x).toNat < S110592x128.size hgO.axis := fun x => by
    rw [hox]
    change (ox (x 0).val).toNat < 110592
    have hx : (x 0).val < 128 := (x 0).isLt
    rcases hval _ hx with h | h <;> omega
  let nm : Fin 128 → Fin (S110592x128.size hgO.axis) := SparseCore.rows (mOidx.view.read (Elt F) fo) (o := S128x128.size hgO.axis') rfl hin
  have hnm : ∀ j : Fin 128, (nm j).val = (ox j.val).toNat := fun j => rows_val hox hin j
  let Vd : Finset (Fin 128) := Finset.univ.filter fun j => (ox j.val).toNat < 106496
  let K : Fin 128 → Finset (Idx (outLoc d i)) := fun j => outRow (ox j.val).toNat
  have hK : ∀ j ∈ Vd, ∀ j' ∈ Vd, j ≠ j' → Disjoint (K j) (K j') := fun j hj j' hj' hne =>
    Finset.disjoint_left.mpr fun y hy hy' => hne (Fin.ext (hdis _ j.isLt _ j'.isLt (Finset.mem_filter.mp hj).2
      ((mem_outRow.mp hy).symm.trans (mem_outRow.mp hy'))))
  have hU : Vd.biUnion K ⊆ (ownRows f : Finset (Idx (outLoc d i))) := fun y hy => by
    obtain ⟨j, hj, hy⟩ := Finset.mem_biUnion.mp hy
    have h1 := mem_outRow.mp hy
    have h2 := (Finset.mem_filter.mp hj).2
    refine mem_ownRows.mpr ?_
    rcases hval _ j.isLt with h | h <;> omega
  imod (counts_alloc_family EC (Finset.univ : Finset (Fin 128))) $$ [] with ⟨%γ, -, Hγ⟩; · iempintro
  imod (inv_alloc (P := shared (F := F) EC (outLoc d i) (dumpSet f : Finset (Idx (outLoc d i))) γ)) $$ [Hdump] with ⟨%κ, #Hinv⟩
  · unfold shared; ileft; iexists g0; iexact Hdump
  unfold outOwn
  ihave Hout' := (pointsTo_split_subset hU).1 $$ Hout
  icases Hout' with ⟨Hn, Hrest⟩
  ihave Hn' := (Entails.of_eq ((pointsTo_biUnion Vd K hK).trans
    (bigSep_filter Finset.univ (fun j : Fin 128 => (ox j.val).toNat < 106496) _))) $$ Hn
  ihave HX := Transfers.bigSep_sep_in _ _ _ $$ [Hγ Hn']; · isplitl [Hγ] <;> iassumption
  let Z : Fin 128 → sProp 𝕄 := fun j => outLoc d i ↦[K j]{fullShare} (fun (y : S110592x128.Idx) => sg j.val (y 1).val)
  let X : Fin 128 → sProp 𝕄 := fun j => iprop(inv κ (shared (F := F) EC (outLoc d i) (dumpSet f : Finset (Idx (outLoc d i))) γ)
    ∗ count EC (γ j) 0 ∗ if (ox j.val).toNat < 106496 then outLoc d i ↦[K j]{fullShare} (outBuf d i out) else emp)
  let Y : Fin 128 → sProp 𝕄 := fun j => if (ox j.val).toNat < 106496 then iprop(Z j ∗ count EC (γ j) 0) else count EC (γ j) 0
  have hst (j : Fin 128) : Storable (upEmb : UEmb _ 𝕄) (count EC (γ j) 0) := by unfold count; infer_instance
  have hYst (j : Fin 128) : Storable (upEmb : UEmb _ 𝕄) (Y j) := by
    dsimp only [Y]; split_ifs <;> infer_instance
  have hYst' : ∀ j : Fin (S128x128.size hgO.axis'), Storable (upEmb : UEmb _ 𝕄) (Y j) := hYst
  have hset : ∀ j : Fin 128, (mOutAll.view.slice (S110592x128.rowRect hgO.axis (nm j))).set = K j := fun j =>
    (set_outRow (nm j)).trans (congrArg outRow (hnm j))
  have hX : ∀ j : Fin 128, X j ⊢ writeUpdate (thr d i) (mOutAll.view.slice (S110592x128.rowRect hgO.axis (nm j)))
      (SparseCore.scatterRowPayload (thr d i) mStag hgO fs j) (Y j) := fun j => by
    dsimp only [X, Y]
    by_cases hj : (ox j.val).toNat < 106496
    · rw [if_pos hj, if_pos hj]
      have hZ : (Z j : sProp 𝕄) = (outLoc d i ↦[(mOutAll.view.slice (S110592x128.rowRect hgO.axis (nm j))).set]{fullShare}
          ((mOutAll.view.slice (S110592x128.rowRect hgO.axis (nm j))).write (Elt F) (outBuf d i out)
            (SparseCore.scatterRowPayload (thr d i) mStag hgO fs j) Finset.univ)) := by
        dsimp only [Z]
        rw [hset j]
        refine pointsTo_congr fun y hy => ?_
        exact (write_outRow fs (outBuf d i out) j (nm j) hsg ((mem_outRow.mp hy).trans (hnm j).symm)).symm
      rw [hZ]
      iintro ⟨-, Ht, Hp⟩
      iapply (writeUpdate_frame (thr d i))
      isplitl [Hp]
      · ihave Hp' := (Entails.of_eq (congrArg (fun I => (outLoc d i ↦[I]{fullShare} (outBuf d i out) : sProp 𝕄)) (hset j).symm)) $$ Hp
        iapply (pointsTo_writeUpdate (thr d i) (v := mOutAll.view.slice (S110592x128.rowRect hgO.axis (nm j))) subset_rfl) $$ Hp'
      · iexact Ht
    · rw [if_neg hj, if_neg hj]
      have hD : (mOutAll.view.slice (S110592x128.rowRect hgO.axis (nm j))).set ⊆ (dumpSet f : Finset (Idx (outLoc d i))) := by
        rw [hset j]
        intro y hy
        have h1 := mem_outRow.mp hy
        refine mem_dumpSet.mpr ?_
        rcases hval _ j.isLt with h | h <;> omega
      iintro ⟨#Hinv, Ht, -⟩
      iapply (shared_writeUpdate (F := F) EC (thr d i) (v := mOutAll.view.slice (S110592x128.rowRect hgO.axis (nm j))) j hD)
      isplitr; · iexact Hinv
      iexact Ht
  have hN := SparseCore.sum_scatterCredit_eq_srcCredit (thr d i) mStag mOutAll hgO rfl nm (fun _ => rfl) (fun _ => rfl)
  ihave HX' := Transfers.bigSep_mono_pers Finset.univ (inv κ (shared (F := F) EC (outLoc d i) (dumpSet f : Finset (Idx (outLoc d i))) γ))
    _ X (fun j _ => Entails.rfl) $$ [HX]; · isplitr; · iexact Hinv
                                            iexact HX
  iapply (wp_scatterRows (F := F) EC 𝒱₀ (thr d i) none (src := mStag) (dst := mOutAll) (hg := hgO) (offs := mOidx) (hn := rfl) (q := fullShare) (qo := fullShare)
    (fs := fs) (fo := fo) none (mStag.view.dmaCredit) h_S128x128 hin hN X Y hX) $$ [HX' Hs Ho Hv]
  · isplitl [Hs]; · iexact Hs
    isplitl [HX']; · iexact HX'
    isplitl [Ho] <;> iassumption
  iintro Hfl
  iapply (wp_waitScatter (k := k) (Q := Q)) $$ [Hfl Hduty]
  · isplitl [Hfl] <;> iassumption
  iintro ⟨⟨HY, Hs, Ho⟩, Hv, Hduty⟩
  have hY : ∀ j ∈ (Finset.univ : Finset (Fin 128)), Y j ⊢ iprop(count EC (γ j) 0 ∗ if (ox j.val).toNat < 106496 then Z j else emp) := fun j _ => by
    dsimp only [Y]
    split_ifs
    · iintro ⟨Hz, Ht⟩
      isplitl [Ht] <;> iassumption
    · iintro Ht
      isplitl [Ht]; · iexact Ht
      iempintro
  have hYm : (bigSep (Finset.univ : Finset (Fin (S128x128.size hgO.axis'))) Y : sProp 𝕄)
      ⊢ bigSep Finset.univ fun j : Fin 128 => iprop(count EC (γ j) 0 ∗ if (ox j.val).toNat < 106496 then Z j else emp) := bigSep_mono hY
  ihave HY' := hYm $$ HY
  ihave HY'' := Transfers.bigSep_sep_out _ _ _ $$ HY'
  icases HY'' with ⟨Ht, HZ⟩
  imod (shared_close (F := F) (ℓ := outLoc d i) (D := (dumpSet f : Finset (Idx (outLoc d i)))) (γ := γ) (κ := κ)) $$ [Ht] with Hdump
  · isplitr; · iexact Hinv
    iexact Ht
  ihave HZ' := (Entails.of_eq (bigSep_filter Finset.univ (fun j : Fin 128 => (ox j.val).toNat < 106496) Z).symm) $$ HZ
  ihave HZ'' := (pointsTo_biUnion_join (ℓ := outLoc d i) (q := fullShare) Vd K
    (fun j => fun (y : S110592x128.Idx) => sg j.val (y 1).val) (outBuf d i out) hK) $$ HZ'
  icases HZ'' with ⟨%g, %hg, Hg⟩
  ihave Hall := (pointsTo_join_subset hU) $$ [Hg Hrest]
  · isplitl [Hg] <;> iassumption
  let h : Buf (Elt F) (outLoc d i) := (Vd.biUnion K).piecewise g (outBuf d i out)
  let out' : ℕ → ℕ → Elt F .f32 := fun y q => if hh : y < 110592 ∧ q < 128 then h (pt2 y q hh.1 hh.2) else out y q
  have hout' : outBuf d i out' = h := by
    funext y
    change out' (y 0).val (y 1).val = h y
    dsimp only [out']
    rw [dif_pos ⟨(y 0).isLt, (y 1).isLt⟩, pt2_self]
  iapply Hk
  iexists out'
  isplitr
  · ipureintro
    refine ⟨fun r hr hv q hq => ?_, fun y q hy hq hno => ?_⟩
    · dsimp only [out']
      rw [dif_pos ⟨by omega, hq⟩]
      have hm : (pt2 (ox r).toNat q (by omega) hq : Idx (outLoc d i)) ∈ K ⟨r, hr⟩ := mem_outRow.mpr rfl
      have hV : (⟨r, hr⟩ : Fin 128) ∈ Vd := Finset.mem_filter.mpr ⟨Finset.mem_univ _, hv⟩
      refine (Finset.piecewise_eq_of_mem _ _ _ (Finset.mem_biUnion.mpr ⟨_, hV, hm⟩)).trans ?_
      exact hg _ hV _ hm
    · dsimp only [out']
      rw [dif_pos ⟨hy, hq⟩]
      refine (Finset.piecewise_eq_of_notMem _ _ _ fun hm => ?_).trans rfl
      obtain ⟨j, hj, hm⟩ := Finset.mem_biUnion.mp hm
      exact hno j.val j.isLt (Finset.mem_filter.mp hj).2 (mem_outRow.mp hm).symm
  rw [hout']
  isplitl [Hall]; · iexact Hall
  isplitl [Hs]
  · iexists fs
    isplitl [Hs]; · iexact Hs
    ipureintro; exact hsg
  isplitl [Ho]
  · iexists fo
    isplitl [Ho]; · iexact Ho
    ipureintro; exact hox
  isplitl [Hv]; · iexact Hv
  isplitl [Hdump]; · iexact Hdump
  iexact Hduty

end Cert.Proof
-- ==== Proof.Copy.lean ====
/-
  The tile's copies from the host's arrays into its own memory: a chunk of the tables into a buffer, half a chunk into half
  a buffer, the tile's stretch of the index list.
-/
module

public import proofs.«01_k».proof.Proof.Flush

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Contents of a rank-three shape, from a function of naturals. -/
abbrev nat3 {n m k : ℕ} {α : Type} (g : ℕ → ℕ → ℕ → α) : (⟨3, ![n, m, k]⟩ : Shape).Idx → α := fun x => g (x 0).val (x 1).val (x 2).val

variable [FloatOps F] {d : Dev nD} {i : grid0.Coords}

section General

variable {sp : Space} {s s' : Shape} {e : EltTy}

/-- A copy of part of a held array into a view of the tile's memory. -/
theorem wp_copy {sb : Shape} {eb : EltTy} {base : Memref sig .scVector sp sb e} {src : Memref sig .scVector sp s e} {dst : Memref sig .scVector .vmem s e} {sem : DmaSem sig}
    {hsrc : src.view.WordExact} {hdst : dst.view.WordExact} {hsem : DmaTarget.Typed (nD := nD) sp (SemLoc.dma sem) (.here (p := Proc.scVector (cV i) (jV i)) dst)}
    {q : PosShare TreeShare} {I : Finset (Idx (src.view.loc (thr d i)))} {fs : Buf (Elt F) (src.view.loc (thr d i))}
    {Sd : Finset (Idx (dst.view.loc (thr d i)))} {fd : Buf (Elt F) (dst.view.loc (thr d i))} {Q : PUnit → sProp 𝕄}
    (hI : src.view.set ⊆ I) (hs : 0 < s.numel) (hSd : dst.view.set ⊆ Sd) :
    iprop((src.view.loc (thr d i) ↦[I]{q} fs) ∗ (dst.view.loc (thr d i) ↦[Sd]{fullShare} fd) ∗ semVal (thr d i, SemLoc.dma sem) 0)
      ⊢ iprop((Transfers.Flight EC (thr d i) (.dma sem) none dst.view.dmaCredit
            iprop((src.view.loc (thr d i) ↦[I]{q} fs) ∗ (dst.view.loc (thr d i) ↦[Sd]{fullShare} (dst.view.write (Elt F) fd (src.view.read (Elt F) fs) Finset.univ)))
          -∗ Q ⟨⟩) -∗ run d i (Prog.lift (.enqueueDma src (.here dst) (.dma sem) hsrc hdst hsem)) Q) := by
  iintro ⟨Hs, Hd, Hv⟩ Hk
  ihave Hs' := (pointsTo_split_subset hI).1 $$ Hs
  icases Hs' with ⟨Hs, Hrest⟩
  iapply (Transfers.wp_dmaLocal EC 𝒱₀ (thr d i) none (src := src) (via := .same) (dst := dst) (sm := .dma sem) (hsrc := hsrc) (hdst := hdst) (hsem := hsem)
    (k := .ret) (Q := Q) (q := q) (fs := fs) (Sd := Sd) (fd := fd) none dst.view.dmaCredit rfl (View.dmaCredit_pos _ hs) hSd) $$ [Hs Hd Hv]
  · isplitl [Hs]; · iexact Hs
    isplitl [Hd] <;> iassumption
  iintro Hf
  iapply (run_done d i PUnit.unit Q)
  iapply Hk
  have hm : iprop((src.view.loc (thr d i) ↦[I \ src.view.set]{q} fs) ∗ ((dst.view.loc (thr d i) ↦[Sd]{fullShare} (dst.view.write (Elt F) fd (ReadAs.same.apply (src.view.read (Elt F) fs)) Finset.univ))
        ∗ (src.view.loc (thr d i) ↦[src.view.set]{q} fs)))
      ⊢ (iprop((src.view.loc (thr d i) ↦[I]{q} fs) ∗ (dst.view.loc (thr d i) ↦[Sd]{fullShare} (dst.view.write (Elt F) fd (src.view.read (Elt F) fs) Finset.univ))) : sProp 𝕄) := by
    iintro ⟨Hr, Hd, Hs⟩
    isplitl [Hr Hs]
    · iapply (pointsTo_split_subset hI).2
      isplitl [Hs] <;> iassumption
    · iexact Hd
  iapply (Transfers.Flight_mono EC (thr d i) hm)
  iapply (Transfers.Flight_frame EC (thr d i))
  isplitl [Hrest] <;> iassumption

end General

/-- A squeezed block of a rank-three array, element by element. -/
theorem squeeze_idx {w : ℕ} (h : (⟨2, ![64, w]⟩ : Shape).numel = (⟨3, ![1, 64, w]⟩ : Shape).numel) (x : (⟨2, ![64, w]⟩ : Shape).Idx) :
    ((Shape.reshapeEquiv h x) 0).val = 0 ∧ ((Shape.reshapeEquiv h x) 1).val = (x 0).val ∧ ((Shape.reshapeEquiv h x) 2).val = (x 1).val := by
  let y : (⟨3, ![1, 64, w]⟩ : Shape).Idx := fun a => match a with
    | ⟨0, _⟩ => ⟨0, Nat.one_pos⟩
    | ⟨1, _⟩ => ⟨(x 0).val, (x 0).isLt⟩
    | ⟨2, _⟩ => ⟨(x 1).val, (x 1).isLt⟩
  have hy : Shape.reshapeEquiv h x = y := Shape.reshapeEquiv_eq_of_rowMajor h (by
    rw [Shape.rowMajor_val_three, Shape.rowMajor_val_two]
    change (0 * 64 + (x 0).val) * w + (x 1).val = (x 0).val * w + (x 1).val
    rw [Nat.zero_mul, Nat.zero_add])
  rw [hy]
  exact ⟨rfl, rfl, rfl⟩

/-- The part of a rank-three array a squeezed block is. -/
abbrev blockOf {n m : ℕ} {w : ℕ} (b : Memref sig .scVector .hbm ⟨3, ![26, n, m]⟩ .f32) (off : Fin 3 → ℕ)
    (h : ∀ a, off a + (⟨3, ![1, 64, w]⟩ : Shape).size a ≤ (⟨3, ![26, n, m]⟩ : Shape).size a)
    (hq : (⟨3, ![1, 64, w]⟩ : Shape).Squeezes ⟨2, ![64, w]⟩) : Memref sig .scVector .hbm ⟨2, ![64, w]⟩ .f32 :=
  (b.slice (Rect.unit (s := ⟨3, ![26, n, m]⟩) off (⟨3, ![1, 64, w]⟩ : Shape).size h) (fun _ => rfl)).squeeze ⟨2, ![64, w]⟩ hq

theorem blockOf_read {n m w : ℕ} {b : Memref sig .scVector .hbm ⟨3, ![26, n, m]⟩ .f32} {off : Fin 3 → ℕ}
    {h : ∀ a, off a + (⟨3, ![1, 64, w]⟩ : Shape).size a ≤ (⟨3, ![26, n, m]⟩ : Shape).size a}
    {hq : (⟨3, ![1, 64, w]⟩ : Shape).Squeezes ⟨2, ![64, w]⟩} {fs : Buf (Elt F) (b.view.loc (thr d i))} {T : ℕ → ℕ → ℕ → Elt F .f32}
    (hT : b.view.read (Elt F) fs = nat3 T) :
    (blockOf b off h hq).view.read (Elt F) fs = nat2 fun p r => T (off 0) (off 1 + p) (off 2 + r) := by
  funext x
  obtain ⟨h0, h1, h2⟩ := squeeze_idx hq.numel_eq x
  change b.view.read (Elt F) fs ((Rect.unit (s := ⟨3, ![26, n, m]⟩) off (⟨3, ![1, 64, w]⟩ : Shape).size h).emb (Shape.reshapeEquiv hq.numel_eq x)) = _
  rw [hT]
  change T (off 0 + 1 * ((Shape.reshapeEquiv hq.numel_eq x) 0).val) (off 1 + 1 * ((Shape.reshapeEquiv hq.numel_eq x) 1).val)
    (off 2 + 1 * ((Shape.reshapeEquiv hq.numel_eq x) 2).val) = _
  rw [h0, h1, h2, Nat.mul_zero, Nat.add_zero, Nat.one_mul, Nat.one_mul]

theorem blockOf_set {n m w : ℕ} {b : Memref sig .scVector .hbm ⟨3, ![26, n, m]⟩ .f32} {off : Fin 3 → ℕ}
    {h : ∀ a, off a + (⟨3, ![1, 64, w]⟩ : Shape).size a ≤ (⟨3, ![26, n, m]⟩ : Shape).size a}
    {hq : (⟨3, ![1, 64, w]⟩ : Shape).Squeezes ⟨2, ![64, w]⟩} : (blockOf b off h hq).view.set ⊆ b.view.set := by
  rw [show (blockOf b off h hq).view.set = (b.view.slice (Rect.unit (s := ⟨3, ![26, n, m]⟩) off (⟨3, ![1, 64, w]⟩ : Shape).size h)).set from View.set_reshape _ _]
  exact View.set_slice_subset _ _

/-- What a copy of a block into the whole of a buffer delivers. -/
theorem wp_fetchBlock {n m w : ℕ} {b : Memref sig .scVector .hbm ⟨3, ![26, n, m]⟩ .f32} {off : Fin 3 → ℕ}
    {h : ∀ a, off a + (⟨3, ![1, 64, w]⟩ : Shape).size a ≤ (⟨3, ![26, n, m]⟩ : Shape).size a}
    {hq : (⟨3, ![1, 64, w]⟩ : Shape).Squeezes ⟨2, ![64, w]⟩} {buf : Memref sig .scVector .vmem ⟨2, ![64, w]⟩ .f32} {sem : DmaSem sig}
    {hsrc : (blockOf b off h hq).view.WordExact} {hdst : buf.view.WordExact}
    {hsem : DmaTarget.Typed (nD := nD) .hbm (SemLoc.dma sem) (.here (p := Proc.scVector (cV i) (jV i)) buf)}
    {q : PosShare TreeShare} {T : ℕ → ℕ → ℕ → Elt F .f32} {W : (⟨2, ![64, w]⟩ : Shape).Idx → Elt F .f32} {Q : PUnit → sProp 𝕄} (hs : 0 < (⟨2, ![64, w]⟩ : Shape).numel) :
    iprop(holds d i b q (nat3 T) ∗ holds d i buf fullShare W ∗ semVal (thr d i, SemLoc.dma sem) 0)
      ⊢ iprop((Transfers.Flight EC (thr d i) (.dma sem) none buf.view.dmaCredit
            iprop(holds d i b q (nat3 T) ∗ holds d i buf fullShare (nat2 fun p r => T (off 0) (off 1 + p) (off 2 + r)))
          -∗ Q ⟨⟩) -∗ run d i (Prog.lift (.enqueueDma (blockOf b off h hq) (.here buf) (.dma sem) hsrc hdst hsem)) Q) := by
  unfold holds
  iintro ⟨⟨%fs, Hs, %hfs⟩, ⟨%fd, Hd, %hfd⟩, Hv⟩ Hk
  iapply (wp_copy (base := b) (eb := .f32) (src := blockOf b off h hq) (dst := buf) (fs := fs) (fd := fd) (q := q) (I := b.view.set) (Sd := buf.view.set) (Q := Q) (hsrc := hsrc) (hdst := hdst) (hsem := hsem)
    blockOf_set hs subset_rfl) $$ [Hs Hd Hv]
  · isplitl [Hs]; · iexact Hs
    isplitl [Hd] <;> iassumption
  iintro Hf
  iapply Hk
  have hm : iprop((b.view.loc (thr d i) ↦[b.view.set]{q} fs) ∗ (buf.view.loc (thr d i) ↦[buf.view.set]{fullShare}
        (buf.view.write (Elt F) fd ((blockOf b off h hq).view.read (Elt F) fs) Finset.univ)))
      ⊢ (iprop((∃ f, (b.view.loc (thr d i) ↦[b.view.set]{q} f) ∗ ⌜b.view.read (Elt F) f = nat3 T⌝)
        ∗ (∃ f, (buf.view.loc (thr d i) ↦[buf.view.set]{fullShare} f) ∗ ⌜buf.view.read (Elt F) f = nat2 fun p r => T (off 0) (off 1 + p) (off 2 + r)⌝)) : sProp 𝕄) := by
    iintro ⟨Hs, Hd⟩
    isplitl [Hs]
    · iexists fs
      isplitl [Hs]; · iexact Hs
      ipureintro; exact hfs
    · iexists _
      isplitl [Hd]; · iexact Hd
      ipureintro
      rw [View.read_write_univ]
      exact blockOf_read hfs
  iapply (Transfers.Flight_mono EC (thr d i) hm) $$ Hf

/-- A buffer's columns from `o` on replaced. -/
def splice {α : Type} (g : ℕ → ℕ → α) (o w : ℕ) (u : ℕ → ℕ → α) (p r : ℕ) : α := if o ≤ r ∧ r < o + w then u p (r - o) else g p r

/-- What a copy of a block into half of the first buffer delivers. -/
theorem wp_fetchHalf {n m : ℕ} {b : Memref sig .scVector .hbm ⟨3, ![26, n, m]⟩ .f32} {off : Fin 3 → ℕ} {o : ℕ}
    {ho : ∀ a, (![0, o] : Fin 2 → Nat) a + S64x128.size a ≤ S64x256.size a}
    {h : ∀ a, off a + (⟨3, ![1, 64, 128]⟩ : Shape).size a ≤ (⟨3, ![26, n, m]⟩ : Shape).size a}
    {hq : (⟨3, ![1, 64, 128]⟩ : Shape).Squeezes ⟨2, ![64, 128]⟩} {sem : DmaSem sig}
    {hsrc : (blockOf b off h hq).view.WordExact} {hdst : (half o ho).view.WordExact}
    {hsem : DmaTarget.Typed (nD := nD) .hbm (SemLoc.dma sem) (.here (p := Proc.scVector (cV i) (jV i)) (half o ho))}
    {q : PosShare TreeShare} {T : ℕ → ℕ → ℕ → Elt F .f32} {g : ℕ → ℕ → Elt F .f32} {Q : PUnit → sProp 𝕄} :
    iprop(holds d i b q (nat3 T) ∗ holds d i mB0 fullShare (nat2 g) ∗ semVal (thr d i, SemLoc.dma sem) 0)
      ⊢ iprop((Transfers.Flight EC (thr d i) (.dma sem) none (half o ho).view.dmaCredit
            iprop(holds d i b q (nat3 T) ∗ holds d i mB0 fullShare (nat2 (splice g o 128 fun p r => T (off 0) (off 1 + p) (off 2 + r))))
          -∗ Q ⟨⟩) -∗ run d i (Prog.lift (.enqueueDma (blockOf b off h hq) (.here (half o ho)) (.dma sem) hsrc hdst hsem)) Q) := by
  unfold holds
  iintro ⟨⟨%fs, Hs, %hfs⟩, ⟨%fd, Hd, %hfd⟩, Hv⟩ Hk
  iapply (wp_copy (base := b) (eb := .f32) (src := blockOf b off h hq) (dst := half o ho) (fs := fs) (fd := fd) (q := q) (I := b.view.set) (Sd := mB0.view.set) (Q := Q) (hsrc := hsrc) (hdst := hdst) (hsem := hsem)
    blockOf_set (by decide) (View.set_slice_subset _ _)) $$ [Hs Hd Hv]
  · isplitl [Hs]; · iexact Hs
    isplitl [Hd] <;> iassumption
  iintro Hf
  iapply Hk
  have hm : iprop((b.view.loc (thr d i) ↦[b.view.set]{q} fs) ∗ (mB0.view.loc (thr d i) ↦[mB0.view.set]{fullShare}
        ((half o ho).view.write (Elt F) fd ((blockOf b off h hq).view.read (Elt F) fs) Finset.univ)))
      ⊢ (iprop((∃ f, (b.view.loc (thr d i) ↦[b.view.set]{q} f) ∗ ⌜b.view.read (Elt F) f = nat3 T⌝)
        ∗ (∃ f, (mB0.view.loc (thr d i) ↦[mB0.view.set]{fullShare} f) ∗ ⌜mB0.view.read (Elt F) f
          = nat2 (splice g o 128 fun p r => T (off 0) (off 1 + p) (off 2 + r))⌝)) : sProp 𝕄) := by
    iintro ⟨Hs, Hd⟩
    isplitl [Hs]
    · iexists fs
      isplitl [Hs]; · iexact Hs
      ipureintro; exact hfs
    · iexists ((half o ho).view.write (Elt F) fd ((blockOf b off h hq).view.read (Elt F) fs) Finset.univ)
      isplitl [Hd]; · iexact Hd
      ipureintro
      rw [blockOf_read hfs]
      funext y
      by_cases hy : y ∈ (Rect.unit (s := S64x256) ![0, o] S64x128.size ho).set
      · obtain ⟨x, rfl⟩ := (Rect.unit (s := S64x256) ![0, o] S64x128.size ho).exists_idx_of_mem hy
        refine (View.read_slice_write_emb (v := mB0.view) (Rect.unit (s := S64x256) ![0, o] S64x128.size ho) fd _ (Finset.mem_univ x)).trans ?_
        change T (off 0) (off 1 + (x 0).val) (off 2 + (x 1).val) = splice g o 128 _ (0 + 1 * (x 0).val) (o + 1 * (x 1).val)
        have hx : (x 1).val < 128 := (x 1).isLt
        unfold splice
        rw [if_pos (by omega), Nat.one_mul, Nat.zero_add, show o + 1 * (x 1).val - o = (x 1).val by omega]
      · refine (View.read_slice_write_of_not_mem (v := mB0.view) (Rect.unit (s := S64x256) ![0, o] S64x128.size ho) fd _ Finset.univ (by rw [Rect.map_emb_univ]; exact hy)).trans ?_
        rw [hfd]
        change g (y 0).val (y 1).val = splice g o 128 _ (y 0).val (y 1).val
        unfold splice
        rw [if_neg]
        rintro ⟨h0, h1⟩
        refine hy ?_
        rw [LoadRect.mem_set]
        rw [Fin.forall_fin_two]
        exact ⟨⟨(y 0).val, (y 0).isLt, by change _ = 0 + 1 * _; omega⟩, ⟨(y 1).val - o, by change _ < 128; omega, by change _ = o + 1 * _; omega⟩⟩
  iapply (Transfers.Flight_mono EC (thr d i) hm) $$ Hf

/-- What the copy of the tile's indices delivers. -/
theorem wp_fetchIdx {h1 : k0_cond1 i = 1#1} {sem : DmaSem sig} {hsrc : (idxOf i h1).view.WordExact} {hdst : mV.view.WordExact}
    {hsem : DmaTarget.Typed (nD := nD) .hbm (SemLoc.dma sem) (.here (p := Proc.scVector (cV i) (jV i)) mV)}
    {q : PosShare TreeShare} {g : ℕ → Elt F .i32} {W : S4096.Idx → Elt F .i32} {Q : PUnit → sProp 𝕄} :
    iprop(holds d i mIdx q (nat1 g) ∗ holds d i mV fullShare W ∗ semVal (thr d i, SemLoc.dma sem) 0)
      ⊢ iprop((Transfers.Flight EC (thr d i) (.dma sem) none mV.view.dmaCredit
            iprop(holds d i mIdx q (nat1 g) ∗ holds d i mV fullShare (nat1 fun k => g (k0_off1 i 0 + k)))
          -∗ Q ⟨⟩) -∗ run d i (Prog.lift (.enqueueDma (idxOf i h1) (.here mV) (.dma sem) hsrc hdst hsem)) Q) := by
  unfold holds
  iintro ⟨⟨%fs, Hs, %hfs⟩, ⟨%fd, Hd, %hfd⟩, Hv⟩ Hk
  iapply (wp_copy (base := mIdx) (eb := .i32) (src := idxOf i h1) (dst := mV) (fs := fs) (fd := fd) (q := q) (I := mIdx.view.set) (Sd := mV.view.set) (Q := Q) (hsrc := hsrc) (hdst := hdst) (hsem := hsem)
    (View.set_slice_subset _ _) (by decide) subset_rfl) $$ [Hs Hd Hv]
  · isplitl [Hs]; · iexact Hs
    isplitl [Hd] <;> iassumption
  iintro Hf
  iapply Hk
  have hm : iprop((mIdx.view.loc (thr d i) ↦[mIdx.view.set]{q} fs) ∗ (mV.view.loc (thr d i) ↦[mV.view.set]{fullShare}
        (mV.view.write (Elt F) fd ((idxOf i h1).view.read (Elt F) fs) Finset.univ)))
      ⊢ (iprop((∃ f, (mIdx.view.loc (thr d i) ↦[mIdx.view.set]{q} f) ∗ ⌜mIdx.view.read (Elt F) f = nat1 g⌝)
        ∗ (∃ f, (mV.view.loc (thr d i) ↦[mV.view.set]{fullShare} f) ∗ ⌜mV.view.read (Elt F) f = nat1 fun k => g (k0_off1 i 0 + k)⌝)) : sProp 𝕄) := by
    iintro ⟨Hs, Hd⟩
    isplitl [Hs]
    · iexists fs
      isplitl [Hs]; · iexact Hs
      ipureintro; exact hfs
    · iexists (mV.view.write (Elt F) fd ((idxOf i h1).view.read (Elt F) fs) Finset.univ)
      isplitl [Hd]; · iexact Hd
      ipureintro
      rw [View.read_write_univ]
      funext x
      change mIdx.view.read (Elt F) fs ((Rect.unit (s := S106496) (k0_off1 i) S4096.size (k0_off1_inb i h1)).emb x) = _
      rw [hfs]
      change g (k0_off1 i 0 + 1 * (x 0).val) = g (k0_off1 i 0 + (x 0).val)
      rw [Nat.one_mul]
  iapply (Transfers.Flight_mono EC (thr d i) hm) $$ Hf

/-! ## Words of scalar memory, sixteen entries of the offset list -/

theorem wp_spillAt {o : {o : Nat // ∀ a, (![o] : Fin 1 → Nat) a + S16.size a ≤ S400.size a}} {l : Lane} {x : BitVec 32} {g : ℕ → BitVec 32} {Q : PUnit → sProp 𝕄} :
    holds (F := F) d i mOff fullShare (nat1 g) ⊢ iprop((holds (F := F) d i mOff fullShare (nat1 (Function.update g (o.1 + l.1.1) x)) -∗ Q ⟨⟩) -∗ run d i (spillAt i o l x) Q) := by
  unfold spillAt
  rw [run_bind]
  iintro H Hk
  iapply (wp_smemLoad (F := F) (W := nat1 g) (w := g (o.1 + l.1.1)) (fun x => by
    have hx : (x 0).val = 0 := by have : (x 0).val < 1 := (x 0).isLt; omega
    change g (o.1 + l.1.1 + 1 * (x 0).val) = _
    rw [hx]; rfl)) $$ H
  iintro H
  iapply (wp_storeRect (F := F) (W := nat1 g) (W' := nat1 (Function.update g (o.1 + l.1.1) x)) (Q := Q) (fun y => by
    have hx : (y 0).val = 0 := by have : (y 0).val < 1 := (y 0).isLt; omega
    change Function.update g (o.1 + l.1.1) x (o.1 + l.1.1 + 1 * (y 0).val) = _
    rw [hx]; exact Function.update_self _ _ _) fun y hy => by
      refine Function.update_of_ne (fun he => hy ?_) _ _
      rw [show (Rect.unit (s := S400) ![o.1 + l.1.1] S1.size (inb_word o.2 l.2)) = Rect.unit (s := ⟨1, ![400]⟩) ![o.1 + l.1.1] ![1] (inb_word o.2 l.2) from rfl, mem_unit1]
      omega) $$ H
  iintro H
  iapply Hk
  iexact H

theorem wp_setAt {o : {o : Nat // ∀ a, (![o] : Fin 1 → Nat) a + S16.size a ≤ S128.size a}} {v : IVec S16 32} {g : ℕ → BitVec 32} {Q : PUnit → sProp 𝕄} :
    holds (F := F) d i mOidx fullShare (nat1 g) ⊢ iprop((holds (F := F) d i mOidx fullShare (nat1 (over g o.1 v)) -∗ Q ⟨⟩) -∗ run d i (setAt i o v) Q) := by
  unfold setAt
  rw [run_bind]
  iintro H Hk
  iapply (wp_load16 (F := F) (g := g)) $$ H
  iintro H
  iapply (wp_store16 (F := F) (g := g) (v := v) (Q := Q)) $$ H
  iintro H
  iapply Hk
  iexact H

end Cert.Proof
-- ==== Proof.Words.lean ====
/-
  The tile's sixteen-lane words, named by the naturals they hold.
-/
module

public import proofs.«01_k».proof.Proof.Lanes

@[expose] public section

namespace Cert.Proof

open Cert.KernelIdeal Cert.KernelIdeal.Gen
open Idealize.ShloMosaic Idealize.SL.Sem

/-- Sixteen words holding `a 0, …, a 15`. -/
def vec (a : ℕ → ℕ) : IVec S16 32 := fun x => BitVec.ofNat 32 (a (x 0).val)

theorem vec_ln (a : ℕ → ℕ) (l : Fin 16) : vec a (ln l) = BitVec.ofNat 32 (a l.val) := rfl

theorem lane_vec (a : ℕ → ℕ) {l : ℕ} (h : l < 16) : lane (vec a) l = BitVec.ofNat 32 (a l) := lane_lt _ h

theorem vec_congr {a b : ℕ → ℕ} (h : ∀ l < 16, a l = b l) : vec a = vec b := funext fun x => congrArg _ (h _ (x 0).isLt)

theorem vec_broadcast (n : ℕ) : broadcast S16 (BitVec.ofNat 32 n) = vec fun _ => n := rfl

theorem vec_toNat {a : ℕ → ℕ} {x : S16.Idx} (h : a (x 0).val < 2 ^ 32) : (vec a x).toNat = a (x 0).val := by
  unfold vec; rw [BitVec.toNat_ofNat, Nat.mod_eq_of_lt h]

theorem vec_ln_toNat {a : ℕ → ℕ} {l : Fin 16} (h : a l.val < 2 ^ 32) : (vec a (ln l)).toNat = a l.val := vec_toNat (x := ln l) h

theorem vec_iota : iota .scVector S16 32 [0] iota_S16_d0_w32_scVector = vec fun l => l := by
  funext x
  change BitVec.ofNat 32 (0 * 16 + (x 0).val) = _
  rw [Nat.zero_mul, Nat.zero_add]; rfl

theorem vec_addi (a b : ℕ → ℕ) : addi (vec a) (vec b) = vec fun l => a l + b l := funext fun x => (BitVec.ofNat_add _ _).symm

theorem vec_muli (a b : ℕ → ℕ) : muli (vec a) (vec b) = vec fun l => a l * b l := funext fun x => (BitVec.ofNat_mul _ _).symm

theorem word_sub {a b : ℕ} (h : b ≤ a) : BitVec.ofNat 32 a - BitVec.ofNat 32 b = BitVec.ofNat 32 (a - b) := by
  obtain ⟨c, rfl⟩ := Nat.exists_eq_add_of_le h
  rw [Nat.add_sub_cancel_left, BitVec.ofNat_add, BitVec.add_comm, BitVec.add_sub_cancel]

theorem vec_subi {a b : ℕ → ℕ} (h : ∀ l < 16, b l ≤ a l) : subi (vec a) (vec b) = vec fun l => a l - b l :=
  funext fun x => word_sub (h _ (x 0).isLt)

theorem word_shr {n s : ℕ} (hs : s < 32) (h : n < 2 ^ 31) : IntOp.shrsi .vector (BitVec.ofNat 32 n) (BitVec.ofNat 32 s) = BitVec.ofNat 32 (n / 2 ^ s) := by
  have hs' : (BitVec.ofNat 32 s).toNat = s := by rw [BitVec.toNat_ofNat]; omega
  unfold IntOp.shrsi
  rw [if_pos (by rw [hs']; exact hs)]
  have hm : (BitVec.ofNat 32 n).msb = false := by
    rw [BitVec.msb_eq_decide, BitVec.toNat_ofNat]
    simp only [decide_eq_false_iff_not]; omega
  change (BitVec.ofNat 32 n).sshiftRight (BitVec.ofNat 32 s).toNat = _
  rw [BitVec.sshiftRight_eq_of_msb_false hm]
  apply BitVec.eq_of_toNat_eq
  rw [BitVec.toNat_ushiftRight, hs', BitVec.toNat_ofNat, BitVec.toNat_ofNat, Nat.shiftRight_eq_div_pow]
  rw [Nat.mod_eq_of_lt (by omega), Nat.mod_eq_of_lt (lt_of_le_of_lt (Nat.div_le_self _ _) (by omega))]

theorem vec_shr8 {a : ℕ → ℕ} (h : ∀ l < 16, a l < 2 ^ 31) : shrsi (vec a) (broadcast S16 8#32) = vec fun l => a l / 256 :=
  funext fun x => word_shr (s := 8) (by omega) (h _ (x 0).isLt)

theorem word_and255 (n : ℕ) : BitVec.ofNat 32 n &&& 255#32 = BitVec.ofNat 32 (n % 256) := by
  apply BitVec.eq_of_toNat_eq
  rw [BitVec.toNat_and, BitVec.toNat_ofNat, BitVec.toNat_ofNat, BitVec.toNat_ofNat, show 255 % 2 ^ 32 = 2 ^ 8 - 1 from rfl, Nat.and_two_pow_sub_one_eq_mod]
  omega

/-- A record: the index's place in the batch and its column within the chunk. -/
theorem vec_record {k a : ℕ → ℕ} (hk : ∀ l < 16, k l < 2 ^ 20) :
    ori (shli (vec k) (broadcast S16 8#32)) (andi (vec a) (broadcast S16 255#32)) = vec fun l => k l * 256 + a l % 256 := by
  funext x
  have h := hk _ (x 0).isLt
  change IntOp.shli .vector (BitVec.ofNat 32 (k (x 0).val)) 8#32 ||| (BitVec.ofNat 32 (a (x 0).val) &&& 255#32) = BitVec.ofNat 32 _
  rw [word_and255]
  unfold IntOp.shli
  rw [if_pos (by decide)]
  apply BitVec.eq_of_toNat_eq
  rw [BitVec.toNat_or, BitVec.shiftLeft_eq', BitVec.toNat_ofNat, BitVec.toNat_ofNat, BitVec.toNat_shiftLeft, BitVec.toNat_ofNat, BitVec.toNat_ofNat, show 8 % 2 ^ 32 = 8 from rfl]
  rw [Nat.mod_eq_of_lt (show k (x 0).val < 2 ^ 32 by omega), Nat.shiftLeft_eq, Nat.mod_eq_of_lt (show k (x 0).val * 2 ^ 8 < 2 ^ 32 by omega),
    Nat.mod_eq_of_lt (show a (x 0).val % 256 < 2 ^ 32 by omega), Nat.mod_eq_of_lt (show k (x 0).val * 256 + a (x 0).val % 256 < 2 ^ 32 by omega), ← Nat.shiftLeft_eq,
    ← Nat.shiftLeft_add_eq_or_of_lt (show a (x 0).val % 256 < 2 ^ 8 by omega), Nat.shiftLeft_eq]

theorem word_slt {a b : ℕ} (ha : a < 2 ^ 31) (hb : b < 2 ^ 31) : (BitVec.ofNat 32 a).slt (BitVec.ofNat 32 b) = decide (a < b) := by
  have ha' : (BitVec.ofNat 32 a).toNat = a := by rw [BitVec.toNat_ofNat]; omega
  have hb' : (BitVec.ofNat 32 b).toNat = b := by rw [BitVec.toNat_ofNat]; omega
  unfold BitVec.slt
  rw [BitVec.toInt_eq_toNat_of_lt (by omega), BitVec.toInt_eq_toNat_of_lt (by omega), ha', hb']
  simp

theorem vec_minsi {a b : ℕ → ℕ} (ha : ∀ l < 16, a l < 2 ^ 31) (hb : ∀ l < 16, b l < 2 ^ 31) : minsi (vec a) (vec b) = vec fun l => min (a l) (b l) := by
  funext x
  change (if (BitVec.ofNat 32 (a (x 0).val)).slt (BitVec.ofNat 32 (b (x 0).val)) then BitVec.ofNat 32 (a (x 0).val) else BitVec.ofNat 32 (b (x 0).val))
    = BitVec.ofNat 32 (min (a (x 0).val) (b (x 0).val))
  rw [word_slt (ha _ (x 0).isLt) (hb _ (x 0).isLt)]
  simp only [decide_eq_true_eq]
  split_ifs with h
  · rw [Nat.min_eq_left h.le]
  · rw [Nat.min_eq_right (by omega)]

theorem vec_select {a b p q : ℕ → ℕ} (ha : ∀ l < 16, a l < 2 ^ 31) (hb : ∀ l < 16, b l < 2 ^ 31) :
    select (cmpi .slt (vec a) (vec b)) (vec p) (vec q) = vec fun l => if a l < b l then p l else q l := by
  funext x
  change (if BitVec.ofBool ((BitVec.ofNat 32 (a (x 0).val)).slt (BitVec.ofNat 32 (b (x 0).val))) = 1#1 then BitVec.ofNat 32 (p (x 0).val) else BitVec.ofNat 32 (q (x 0).val)) = BitVec.ofNat 32 _
  rw [word_slt (ha _ (x 0).isLt) (hb _ (x 0).isLt)]
  by_cases h : a (x 0).val < b (x 0).val <;> simp [h]

theorem lane_extract (v : IVec S16 32) {l : ℕ} (h : S16.Slices ![l] S1) (hl : l < 16) :
    extractAt ![0] (extractStridedSlice S1 ![l] v h) inpos_S1_p0 = lane v l := by
  rw [lane_lt v hl]
  refine congrArg v ?_
  funext a
  obtain rfl : a = 0 := Subsingleton.elim _ _
  exact Fin.ext (by change l + 0 = l; omega)

/-- A load through words in range. -/
theorem loadIdx_vec {F : FTy → Type} [FloatOps F] {n : ℕ} {e : EltTy} (g : ℕ → Elt F e) {a : ℕ → ℕ} (ha : ∀ l < 16, a l < 2 ^ 32)
    (h : ∀ b x, ((![vec a] : Fin 1 → IVec S16 32) b x).toNat < (⟨1, ![n]⟩ : Shape).size b) :
    loadIdx (F := F) (s := ⟨1, ![n]⟩) (nat1 g) ![vec a] h = fun x => g (a (x 0).val) := by
  funext x
  change g (vec a x).toNat = _
  rw [vec_toNat (ha _ (x 0).isLt)]

theorem loadIdx_words {F : FTy → Type} [FloatOps F] {n : ℕ} {e : EltTy} (g : ℕ → Elt F e) {c : IVec S16 32} {a : ℕ → ℕ} (hc : c = vec a) (ha : ∀ l < 16, a l < 2 ^ 32)
    {h : ∀ b x, ((![c] : Fin 1 → IVec S16 32) b x).toNat < (⟨1, ![n]⟩ : Shape).size b} :
    loadIdx (F := F) (s := ⟨1, ![n]⟩) (nat1 g) ![c] h = fun x => g (a (x 0).val) := by
  subst hc; exact loadIdx_vec g ha h

theorem inRange_vec {n : ℕ} {a : ℕ → ℕ} (ha : ∀ l < 16, a l < 2 ^ 32) (h : ∀ l < 16, a l < n) :
    ∀ b x, ((![vec a] : Fin 1 → IVec S16 32) b x).toNat < (⟨1, ![n]⟩ : Shape).size b := by
  intro b x
  obtain rfl : b = 0 := Subsingleton.elim _ _
  change (vec a x).toNat < n
  rw [vec_toNat (ha _ (x 0).isLt)]
  exact h _ (x 0).isLt

theorem card_lanes (P : ℕ → Prop) [DecidablePred P] : ((Finset.univ : Finset (Fin 16)).filter fun l => P l.val).card = ((Finset.range 16).filter P).card := by
  refine Finset.card_bij (fun l _ => l.val) (fun l hl => ?_) (fun l _ l' _ h => Fin.ext h) fun k hk => ?_
  · exact Finset.mem_filter.mpr ⟨Finset.mem_range.mpr l.isLt, (Finset.mem_filter.mp hl).2⟩
  · exact ⟨⟨k, Finset.mem_range.mp (Finset.mem_filter.mp hk).1⟩, Finset.mem_filter.mpr ⟨Finset.mem_univ _, (Finset.mem_filter.mp hk).2⟩, rfl⟩

/-- Adding one at each lane's index adds how many lanes have it. -/
theorem bump_vec {g : ℕ → BitVec 32} {a : ℕ → ℕ} (ha : ∀ l < 16, a l < 2 ^ 32) {p n : ℕ} (hg : g p = BitVec.ofNat 32 n) :
    bump g (vec a) p = BitVec.ofNat 32 (n + ((Finset.range 16).filter fun l => a l = p).card) := by
  unfold bump
  rw [hg, BitVec.ofNat_add]
  rw [← card_lanes]
  refine congrArg (fun c => BitVec.ofNat 32 n + BitVec.ofNat 32 c) ?_
  congr 1
  ext l
  simp only [Finset.mem_filter, Finset.mem_univ, true_and]
  rw [vec_toNat (x := ln l) (ha _ l.isLt)]
  exact eq_comm

end Cert.Proof
-- ==== Proof.Sort.lean ====
/-
  The tile's counting sort: the histogram of its indices' buckets, the buckets' start positions, and every record at its
  place; and the offset list's resets, which have the same form.
-/
module

public import proofs.«01_k».proof.Proof.Copy
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {i : grid0.Coords}

/-! ## Loops, assumptions, and the indexed operations under an assumption made before -/

theorem run_for {σ : Type} (l : Scf.Loop 32) (hok : l.OK) (init : σ) (body : Fin l.trips → σ → TileProg F i σ) (I : ℕ → σ → sProp 𝕄)
    (hbody : ∀ (k : Fin l.trips) (acc : σ), I k.val acc ⊢ run d i (body k acc) (I (k.val + 1))) {Q : σ → sProp 𝕄} :
    I 0 init ⊢ iprop((∀ acc, I l.trips acc -∗ Q acc) -∗ run d i (Scf.Loop.for l hok init body) Q) := by
  iintro H HQ
  iapply (Scf.wp_for frame (wpE (defs₀ (F := F)) 𝒱₀ (V d (cV i) (jV i)) none) Set.univ l.lb l.ub l.st hok init body I hbody)
  isplitl [H] <;> iassumption

theorem wp_assumed {P : Prop} {dec : Decidable P} {Q : PLift P → sProp 𝕄} (h : P) :
    Q ⟨h⟩ ⊢ run d i (Prog.lift (.assume P dec)) Q := by
  iintro H
  iapply (wp_assume 𝒱₀ (V d (cV i) (jV i)) none Set.univ h)
  iapply (run_done d i (PLift.up h) Q)
  iexact H

theorem wp_loadIdx {s : Shape} {e : EltTy} {m : Memref sig .scVector .vmem s e} {hs : 0 < s.numel} {ix : Fin s.rank → IVec S16 32}
    {hix : ∀ a x, (ix a x).toNat < s.size a} {q : PosShare TreeShare} {W : s.Idx → Elt F e} {Q : Vec F S16 e → sProp 𝕄} :
    holds d i m q W ⊢ iprop((holds d i m q W -∗ Q (loadIdx W ix hix)) -∗ run d i (SparseCore.vectorLoadIdx m ix hix (View.loads_vmem hs)) Q) := by
  unfold holds
  iintro ⟨%f, H, %hf⟩ Hk
  ihave H' := (Entails.of_eq (congrArg (fun I => (m.view.loc (thr d i) ↦[I]{q} f : sProp 𝕄)) (set_access m).symm)) $$ H
  iapply (SparseCore.wp_vectorLoadIdx 𝒱₀ (V d (cV i) (jV i)) none Set.univ (base := m) (idxs := ix) (h := hix)
    (hl := View.loads_vmem hs) (k := .ret) (Q := Q) (q := q) (f := f) subset_rfl) $$ H'
  iintro H'
  rw [wp_ret]
  imodintro
  subst hf
  rw [read_access m f]
  iapply Hk
  iexists f
  isplitl [H']
  · iapply (Entails.of_eq (congrArg (fun I => (m.view.loc (thr d i) ↦[I]{q} f : sProp 𝕄)) (set_access m))) $$ H'
  · ipureintro; rfl

theorem wp_storeIdx {s : Shape} {e : EltTy} {m : Memref sig .scVector .vmem s e} {hs : 0 < s.numel} {hb : e.bits = 32}
    {ix : Fin s.rank → IVec S16 32} {hix : ∀ a x, (ix a x).toNat < s.size a} {v : Vec F S16 e} {add : Bool} {Q : PUnit → sProp 𝕄}
    {W : s.Idx → Elt F e} :
    holds d i m fullShare W ⊢ iprop((holds d i m fullShare (storeIdx W ix v (fun _ => 1#1) add hix) -∗ Q ⟨⟩)
      -∗ run d i (SparseCore.vectorStoreIdx m ix v (fun _ => 1#1) add hix (View.stores_vmem_bits_univ hs hb)) Q) := by
  unfold holds
  iintro ⟨%f, H, %hf⟩ Hk
  ihave H' := (Entails.of_eq (congrArg (fun I => (m.view.loc (thr d i) ↦[I]{fullShare} f : sProp 𝕄)) (set_access m).symm)) $$ H
  iapply (SparseCore.wp_vectorStoreIdx 𝒱₀ (V d (cV i) (jV i)) none Set.univ (base := m) (idxs := ix) (v := v) (mask := fun _ => 1#1) (add := add)
    (h := hix) (hs := View.stores_vmem_bits_univ hs hb) (k := .ret) (Q := Q) (f := f)) $$ H'
  iintro H'
  rw [wp_ret]
  imodintro
  iapply Hk
  iexists ((m.access (.whole s)).write (Elt F) f (storeIdx ((m.access (.whole s)).read (Elt F) f) ix v (fun _ => 1#1) add hix) Finset.univ)
  isplitl [H']
  · iapply (Entails.of_eq (congrArg (fun I => (m.view.loc (thr d i) ↦[I]{fullShare} _ : sProp 𝕄)) (set_access m))) $$ H'
  · ipureintro
    subst hf
    rw [← read_access m, View.read_write_univ, read_access m]

theorem iv_one (t : ℕ) : Scf.iv 0#32 1#32 t = BitVec.ofNat 32 t := by
  unfold Scf.iv
  rw [BitVec.mul_one, BitVec.zero_add]

/-- Contents of a rank-one shape are given by a function of naturals. -/
theorem exists_nat1 {n : ℕ} {α : Type} (hn : 0 < n) (W : (⟨1, ![n]⟩ : Shape).Idx → α) : ∃ g : ℕ → α, W = nat1 g := by
  refine ⟨fun p => W fun a => ⟨p % n, by obtain rfl : a = 0 := Subsingleton.elim _ _; exact Nat.mod_lt _ hn⟩, ?_⟩
  funext x
  refine congrArg W (funext fun a => ?_)
  obtain rfl : a = 0 := Subsingleton.elim _ _
  exact Fin.ext (Nat.mod_eq_of_lt (x 0).isLt).symm

/-! ## Clearing the histogram -/

theorem over_eq {α : Type} {g : ℕ → α} {o : ℕ} {w : S16.Idx → α} {P : ℕ → α → Prop} (hw : ∀ l < 16, P (o + l) (lane w l)) :
    (∀ p, P p (g p) → P p (over g o w p)) ∧ ∀ l < 16, P (o + l) (over g o w (o + l)) := by
  refine ⟨fun p hp => ?_, fun l hl => ?_⟩
  · unfold over
    split_ifs with h
    · have := hw (p - o) (by omega)
      rwa [show o + (p - o) = p by omega] at this
    · exact hp
  · unfold over
    rw [if_pos (by omega), Nat.add_sub_cancel_left]
    exact hw l hl

theorem wp_zeroAt : ∀ (os : List {o : Nat // ∀ a, (![o] : Fin 1 → Nat) a + S16.size a ≤ S400.size a}) (g : ℕ → BitVec 32) {Q : PUnit → sProp 𝕄},
    holds (F := F) d i mHist fullShare (nat1 g) ⊢ iprop((∀ g', iprop(⌜(∀ p, g p = 0#32 → g' p = 0#32) ∧ ∀ o ∈ os, ∀ l < 16, g' (o.1 + l) = 0#32⌝
        ∗ holds (F := F) d i mHist fullShare (nat1 g')) -∗ Q ⟨⟩)
      -∗ run d i (zeroAt i os) Q)
  | [], g, Q => by
    unfold zeroAt
    iintro H Hk
    iapply (run_done d i PUnit.unit Q)
    iapply Hk
    isplitr
    · ipureintro; exact ⟨fun _ h => h, fun _ h => absurd h List.not_mem_nil⟩
    · iexact H
  | o :: os, g, Q => by
    unfold zeroAt
    iintro H Hk
    rw [run_bind]
    iapply (wp_load16 (F := F) (g := g)) $$ H
    iintro H
    rw [run_bind]
    iapply (wp_store16 (F := F) (g := g) (v := (broadcast S16 0#32 : IVec S16 32))) $$ H
    iintro H
    have hov := over_eq (g := g) (o := o.1) (w := (broadcast S16 0#32 : IVec S16 32)) (P := fun _ x => x = 0#32) fun _ _ => rfl
    iapply (wp_zeroAt os (over g o.1 (broadcast S16 0#32 : IVec S16 32)) (Q := Q)) $$ H
    iintro %g' ⟨%hg', H⟩
    iapply Hk
    isplitr
    · ipureintro
      refine ⟨fun p hp => hg'.1 p (hov.1 p hp), fun o' ho' l hl => ?_⟩
      rcases List.mem_cons.mp ho' with rfl | ho'
      · exact hg'.1 _ (hov.2 l hl)
      · exact hg'.2 o' ho' l hl
    · iexact H

theorem blocks_cover {p : ℕ} (hp : p < 400) : ∃ o ∈ blocks, ∃ l < 16, o.1 + l = p := by
  have hb : ∀ b < 25, ∃ o ∈ blocks, o.1 = 16 * b := by
    intro b hb
    interval_cases b <;> simp [blocks]
  obtain ⟨o, ho, he⟩ := hb (p / 16) (by omega)
  exact ⟨o, ho, p % 16, Nat.mod_lt _ (by decide), by omega⟩

theorem wp_zero {W : S400.Idx → Elt F .i32} {Q : PUnit → sProp 𝕄} :
    holds (F := F) d i mHist fullShare W ⊢ iprop((∀ g', iprop(⌜∀ p < 400, g' p = 0#32⌝ ∗ holds (F := F) d i mHist fullShare (nat1 g')) -∗ Q ⟨⟩)
      -∗ run d i (zeroAt i blocks) Q) := by
  obtain ⟨g, rfl⟩ := exists_nat1 (by decide) W
  iintro H Hk
  iapply (wp_zeroAt blocks g (Q := Q)) $$ H
  iintro %g' ⟨%hg', H⟩
  iapply Hk
  isplitr
  · ipureintro
    intro p hp
    obtain ⟨o, ho, l, hl, rfl⟩ := blocks_cover hp
    exact hg'.2 o ho l hl
  · iexact H

/-! ## Dump rows in the offset list -/

/-- A word that names one of tile `f`'s dump rows. -/
def IsDump (f : ℕ) (x : BitVec 32) : Prop := 106496 + 128 * f ≤ x.toNat ∧ x.toNat < 106496 + 128 * f + 128

theorem wp_resetAt {f : ℕ} (hf : f < 26) : ∀ (os : List {o : Nat // ∀ a, (![o] : Fin 1 → Nat) a + S16.size a ≤ S128.size a}) (g : ℕ → BitVec 32) {Q : PUnit → sProp 𝕄},
    holds (F := F) d i mOidx fullShare (nat1 g) ⊢ iprop((∀ g', iprop(⌜(∀ p, IsDump f (g p) → IsDump f (g' p)) ∧ ∀ o ∈ os, ∀ l < 16, IsDump f (g' (o.1 + l))⌝
        ∗ holds (F := F) d i mOidx fullShare (nat1 g')) -∗ Q ⟨⟩)
      -∗ run d i (resetAt i (vec fun l => l) (BitVec.ofNat 32 (106496 + f * 128)) os) Q)
  | [], g, Q => by
    unfold resetAt
    iintro H Hk
    iapply (run_done d i PUnit.unit Q)
    iapply Hk
    isplitr
    · ipureintro; exact ⟨fun _ h => h, fun _ h => absurd h List.not_mem_nil⟩
    · iexact H
  | o :: os, g, Q => by
    unfold resetAt
    iintro H Hk
    rw [run_bind]
    iapply (wp_setAt (F := F) (g := g)) $$ H
    iintro H
    have ho : o.1 + 16 ≤ 128 := o.2 0
    have hov := over_eq (g := g) (o := o.1) (w := addi (broadcast S16 (Scalar.addi (BitVec.ofNat 32 (106496 + f * 128)) (BitVec.ofNat 32 o.1))) (vec fun l => l)) (P := fun _ x => IsDump f x)
      fun l hl => by
        rw [show Scalar.addi (BitVec.ofNat 32 (106496 + f * 128)) (BitVec.ofNat 32 o.1) = BitVec.ofNat 32 (106496 + f * 128 + o.1) from (BitVec.ofNat_add _ _).symm,
          vec_broadcast, vec_addi, lane_vec _ hl]
        unfold IsDump
        rw [BitVec.toNat_ofNat]
        omega
    iapply (wp_resetAt hf os (over g o.1 _) (Q := Q)) $$ H
    iintro %g' ⟨%hg', H⟩
    iapply Hk
    isplitr
    · ipureintro
      refine ⟨fun p hp => hg'.1 p (hov.1 p hp), fun o' ho' l hl => ?_⟩
      rcases List.mem_cons.mp ho' with rfl | ho'
      · exact hg'.1 _ (hov.2 l hl)
      · exact hg'.2 o' ho' l hl
    · iexact H

theorem dumpRows_cover {p : ℕ} (hp : p < 128) : ∃ o ∈ dumpRows, ∃ l < 16, o.1 + l = p := by
  have hb : ∀ b < 8, ∃ o ∈ dumpRows, o.1 = 16 * b := by
    intro b hb
    interval_cases b <;> simp [dumpRows]
  obtain ⟨o, ho, he⟩ := hb (p / 16) (by omega)
  exact ⟨o, ho, p % 16, Nat.mod_lt _ (by decide), by omega⟩

/-! ## The histogram -/

theorem trips1 : k0_t1_loop.trips = 256 := by decide
theorem trips2 : k0_t2_loop.trips = 256 := by decide
theorem trips3 : k0_t3_loop.trips = 130 := by decide

section Sorting

variable {v : ℕ → ℕ} (hv : ∀ k < 4096, v k < 100000)

theorem block_words (t : ℕ) : addi (broadcast S16 (Scalar.muli (Scf.iv 0#32 1#32 t) 16#32)) (vec fun l => l) = vec fun l => t * 16 + l := by
  rw [iv_one, show Scalar.muli (BitVec.ofNat 32 t) 16#32 = BitVec.ofNat 32 (t * 16) from (BitVec.ofNat_mul _ _).symm, vec_broadcast, vec_addi]

include hv in
theorem wp_hist {h1 : k0_cond1 i = 1#1} {q : PosShare TreeShare} {h : ℕ → BitVec 32} (hh : ∀ p < 400, h p = 0#32) {Q : PUnit → sProp 𝕄} :
    iprop(holds (F := F) d i mV q (nat1 fun k => BitVec.ofNat 32 (v k)) ∗ holds (F := F) d i mHist fullShare (nat1 h))
      ⊢ iprop((∀ h', iprop(⌜∀ c < 400, h' c = BitVec.ofNat 32 (cnt v c 4096)⌝
        ∗ holds (F := F) d i mV q (nat1 fun k => BitVec.ofNat 32 (v k)) ∗ holds (F := F) d i mHist fullShare (nat1 h')) -∗ Q ⟨⟩)
      -∗ run d i (histLoop i h1 (vec fun l => l)) Q) := by
  unfold histLoop
  iintro ⟨Hv, Hh⟩ Hk
  iapply (run_for k0_t1_loop (k0_t1_ok i h1) PUnit.unit _ (fun t _ => iprop(∃ h' : ℕ → BitVec 32, ⌜∀ c < 400, h' c = BitVec.ofNat 32 (cnt v c (t * 16))⌝
        ∗ holds (F := F) d i mV q (nat1 fun k => BitVec.ofNat 32 (v k)) ∗ holds (F := F) d i mHist fullShare (nat1 h'))) ?_ (Q := Q)) $$ [Hv Hh]
  rotate_left
  · iexists h
    isplitr
    · ipureintro; intro c hc; rw [hh c hc, Nat.zero_mul, cnt_zero]
    · isplitl [Hv] <;> iassumption
  · iintro %_ ⟨%h', %hh', Hv, Hh⟩
    iapply Hk
    isplitr
    · ipureintro; rw [trips1] at hh'; exact hh'
    · isplitl [Hv] <;> iassumption
  intro t _
  have ht : t.val < 256 := trips1 ▸ t.isLt
  rw [block_words, run_bind]
  iintro ⟨%h', %hh', Hv, Hh⟩
  iapply (wp_gather (F := F) (d := d) (i := i) (q := q) (m := mV) (W := (nat1 fun k => BitVec.ofNat 32 (v k) : S4096.Idx → Elt F .i32)) (inRange_vec (n := 4096) (a := fun l => t.val * 16 + l) (fun l hl => by omega) fun l hl => by omega)) $$ Hv
  iintro Hv
  rw [loadIdx_vec (F := F) (e := .i32) (fun k => BitVec.ofNat 32 (v k)) (fun l hl => by omega)]
  have hb : ∀ l < 16, v (t.val * 16 + l) < 100000 := fun l hl => hv _ (by omega)
  rw [show (fun x : S16.Idx => BitVec.ofNat 32 (v (t.val * 16 + (x 0).val))) = vec fun l => v (t.val * 16 + l) from rfl,
    vec_shr8 (fun l hl => by have := hb l hl; omega)]
  iapply (wp_scatter (F := F) (W := nat1 h') (inRange_vec (n := 400) (a := fun l => v (t.val * 16 + l) / 256) (fun l hl => by have := hb l hl; omega) fun l hl => by have := hb l hl; omega)) $$ Hh
  iintro Hh
  rw [storeIdx_bump]
  iexists (bump h' (vec fun l => v (t.val * 16 + l) / 256))
  isplitr
  · ipureintro
    intro c hc
    rw [bump_vec (fun l hl => by have := hb l hl; omega) (hh' c hc), Nat.add_mul, Nat.one_mul, cnt_add]
  · isplitl [Hv] <;> iassumption

/-! ## The start positions -/

theorem wp_spill {o : {o : Nat // ∀ a, (![o] : Fin 1 → Nat) a + S16.size a ≤ S400.size a}} {ex : IVec S16 32} {u : ℕ → BitVec 32} (hu : ∀ l < 16, lane ex l = u (o.1 + l)) :
    ∀ (ls : List Lane) (g : ℕ → BitVec 32) {Q : PUnit → sProp 𝕄},
    holds (F := F) d i mOff fullShare (nat1 g) ⊢ iprop((∀ g', iprop(⌜(∀ p, g p = u p → g' p = u p) ∧ ∀ l ∈ ls, g' (o.1 + l.1.1) = u (o.1 + l.1.1)⌝
        ∗ holds (F := F) d i mOff fullShare (nat1 g')) -∗ Q ⟨⟩)
      -∗ run d i (spill i o ex ls) Q)
  | [], g, Q => by
    unfold spill
    iintro H Hk
    iapply (run_done d i PUnit.unit Q)
    iapply Hk
    isplitr
    · ipureintro; exact ⟨fun _ h => h, fun _ h => absurd h List.not_mem_nil⟩
    · iexact H
  | l :: ls, g, Q => by
    unfold spill
    iintro H Hk
    rw [run_bind, lane_extract ex l.1.2 l.2, hu l.1.1 l.2]
    iapply (wp_spillAt (F := F) (g := g)) $$ H
    iintro H
    iapply (wp_spill hu ls (Function.update g (o.1 + l.1.1) (u (o.1 + l.1.1))) (Q := Q)) $$ H
    iintro %g' ⟨%hg', H⟩
    iapply Hk
    isplitr
    · ipureintro
      refine ⟨fun p hp => hg'.1 p ?_, fun l' hl' => ?_⟩
      · by_cases he : p = o.1 + l.1.1
        · subst he; exact Function.update_self _ _ _
        · rw [Function.update_of_ne he]; exact hp
      · rcases List.mem_cons.mp hl' with rfl | hl'
        · exact hg'.1 _ (Function.update_self _ _ _)
        · exact hg'.2 l' hl'
    · iexact H

/-- The word a bucket's start position is. -/
abbrev offW (v : ℕ → ℕ) (c : ℕ) : BitVec 32 := BitVec.ofNat 32 (off v c)

theorem scan_block {h : ℕ → BitVec 32} (hh : ∀ c < 400, h c = BitVec.ofNat 32 (cnt v c 4096)) {o : ℕ} (ho : o + 16 ≤ 400) :
    ((nat1 fun l => h (o + l)) : IVec S16 32) = vec (fun l => cnt v (o + l) 4096)
      ∧ scan .sum ((nat1 fun l => h (o + l)) : IVec S16 32) = vec (fun l => ∑ k ∈ Finset.range (l + 1), cnt v (o + k) 4096) := by
  have h1 : ((nat1 fun l => h (o + l)) : IVec S16 32) = vec (fun l => cnt v (o + l) 4096) :=
    funext fun x => hh _ (by have : (x 0).val < 16 := (x 0).isLt; omega)
  exact ⟨h1, by rw [h1]; exact scan_sum fun l => cnt v (o + l) 4096⟩

theorem starts_block (o : ℕ) : addi (subi (vec fun l => ∑ k ∈ Finset.range (l + 1), cnt v (o + k) 4096) (vec fun l => cnt v (o + l) 4096)) (broadcast S16 (offW v o))
    = vec fun l => off v (o + l) := by
  rw [vec_subi (fun l _ => by rw [Finset.sum_range_succ]; omega), vec_broadcast, vec_addi]
  refine vec_congr fun l _ => ?_
  rw [Finset.sum_range_succ, off_add]
  omega

theorem next_start (o : ℕ) : Scalar.addi (offW v o) (lane (vec fun l => ∑ k ∈ Finset.range (l + 1), cnt v (o + k) 4096) 15) = offW v (o + 16) := by
  rw [lane_vec _ (by decide)]
  exact (BitVec.ofNat_add _ _).symm.trans (congrArg _ (off_add v o 16).symm)

/-- Blocks one after the other, up to the end. -/
def Chain : ℕ → List {o : Nat // ∀ a, (![o] : Fin 1 → Nat) a + S16.size a ≤ S400.size a} → Prop
  | c, [] => c = 400
  | c, o :: os => o.1 = c ∧ Chain (c + 16) os

theorem sixteen_cover {l : ℕ} (hl : l < 16) : ∃ x ∈ sixteen, x.1.1 = l := by
  interval_cases l <;> simp [sixteen]

theorem wp_prefixAt {h : ℕ → BitVec 32} (hh : ∀ c < 400, h c = BitVec.ofNat 32 (cnt v c 4096)) :
    ∀ (os : List {o : Nat // ∀ a, (![o] : Fin 1 → Nat) a + S16.size a ≤ S400.size a}) (c : ℕ) (_ : Chain c os) (g s : ℕ → BitVec 32)
      (_ : ∀ p < c, g p = offW v p ∧ s p = offW v p) {Q : PUnit → sProp 𝕄},
    iprop(holds (F := F) d i mHist fullShare (nat1 h) ∗ holds (F := F) d i mCur fullShare (nat1 g) ∗ holds (F := F) d i mOff fullShare (nat1 s))
      ⊢ iprop((∀ g' s', iprop(⌜∀ p < 400, g' p = offW v p ∧ s' p = offW v p⌝ ∗ holds (F := F) d i mHist fullShare (nat1 h)
          ∗ holds (F := F) d i mCur fullShare (nat1 g') ∗ holds (F := F) d i mOff fullShare (nat1 s')) -∗ Q ⟨⟩)
      -∗ run d i (prefixAt i (offW v c) os) Q)
  | [], c, hc, g, s, hgs, Q => by
    unfold prefixAt
    iintro H Hk
    iapply (run_done d i PUnit.unit Q)
    iapply Hk
    isplitr
    · ipureintro; unfold Chain at hc; subst hc; exact hgs
    · iexact H
  | o :: os, c, hc, g, s, hgs, Q => by
    unfold prefixAt
    unfold Chain at hc
    obtain ⟨hoc, hc⟩ := hc
    have ho : o.1 + 16 ≤ 400 := o.2 0
    iintro ⟨Hh, Hg, Hs⟩ Hk
    rw [run_bind]
    iapply (wp_load16 (F := F) (g := h)) $$ Hh
    iintro Hh
    obtain ⟨e1, e2⟩ := scan_block hh ho
    rw [e2, e1, ← hoc, starts_block, lane_extract _ slices_S16_o15_S1 (by decide), next_start, run_bind]
    iapply (wp_load16 (F := F) (g := g)) $$ Hg
    iintro Hg
    rw [run_bind]
    iapply (wp_store16 (F := F) (g := g) (v := vec fun l => off v (o.1 + l))) $$ Hg
    iintro Hg
    rw [run_bind]
    have hov := over_eq (g := g) (o := o.1) (w := vec fun l => off v (o.1 + l)) (P := fun p x => x = offW v p) fun l hl => lane_vec _ hl
    iapply (wp_spill (F := F) (u := offW v) (fun l hl => lane_vec _ hl) sixteen s) $$ Hs
    iintro %s' ⟨%hs', Hs⟩
    iapply (wp_prefixAt hh os (o.1 + 16) (hoc ▸ hc) (over g o.1 (vec fun l => off v (o.1 + l))) s' (fun p hp => ?_) (Q := Q)) $$ [Hh Hg Hs]
    rotate_left
    · isplitl [Hh]; · iexact Hh
      isplitl [Hg] <;> iassumption
    · iexact Hk
    by_cases hpo : p < o.1
    · exact ⟨hov.1 p (hgs p (hoc ▸ hpo)).1, hs'.1 p (hgs p (hoc ▸ hpo)).2⟩
    · obtain ⟨x, hx, he⟩ := sixteen_cover (show p - o.1 < 16 by omega)
      have h1 := hov.2 (p - o.1) (by omega)
      have h2 := hs'.2 x hx
      rw [he] at h2
      rw [show o.1 + (p - o.1) = p by omega] at h1 h2
      exact ⟨h1, h2⟩

/-! ## The records in place -/

/-- The record of index `k`: its place in the batch and its column within its chunk. -/
abbrev recW (v : ℕ → ℕ) (k : ℕ) : BitVec 32 := BitVec.ofNat 32 (k * 256 + v k % 256)

include hv in
theorem wp_place {h1 : k0_cond1 i = 1#1} {q : PosShare TreeShare} {g : ℕ → BitVec 32} (hg : ∀ p < 400, g p = offW v p) {W : S4096.Idx → Elt F .i32} {Q : PUnit → sProp 𝕄} :
    iprop(holds (F := F) d i mV q (nat1 fun k => BitVec.ofNat 32 (v k)) ∗ holds (F := F) d i mCur fullShare (nat1 g) ∗ holds (F := F) d i mSort fullShare W)
      ⊢ iprop((∀ s g', iprop(⌜∀ k < 4096, s (pos v k) = recW v k⌝
        ∗ holds (F := F) d i mV q (nat1 fun k => BitVec.ofNat 32 (v k)) ∗ holds (F := F) d i mCur fullShare (nat1 g') ∗ holds (F := F) d i mSort fullShare (nat1 s)) -∗ Q ⟨⟩)
      -∗ run d i (placeLoop i h1 (vec fun l => l)) Q) := by
  obtain ⟨s₀, rfl⟩ := exists_nat1 (by decide) W
  unfold placeLoop
  iintro ⟨Hv, Hg, Hs⟩ Hk
  iapply (run_for k0_t2_loop (k0_t2_ok i h1) PUnit.unit _ (fun t _ => iprop(∃ s g' : ℕ → BitVec 32, ⌜(∀ k < t * 16, s (pos v k) = recW v k)
          ∧ ∀ c < 400, g' c = BitVec.ofNat 32 (off v c + cnt v c (t * 16))⌝
        ∗ holds (F := F) d i mV q (nat1 fun k => BitVec.ofNat 32 (v k)) ∗ holds (F := F) d i mCur fullShare (nat1 g') ∗ holds (F := F) d i mSort fullShare (nat1 s))) ?_ (Q := Q)) $$ [Hv Hg Hs]
  rotate_left
  · iexists s₀, g
    isplitr
    · ipureintro
      refine ⟨fun k hk => by omega, fun c hc => ?_⟩
      rw [hg c hc, Nat.zero_mul, cnt_zero]; rfl
    · isplitl [Hv]; · iexact Hv
      isplitl [Hg] <;> iassumption
  · iintro %_ ⟨%s, %g', %hs, Hv, Hg, Hs⟩
    iapply Hk
    isplitr
    · ipureintro; rw [trips2] at hs; exact hs.1
    · isplitl [Hv]; · iexact Hv
      isplitl [Hg] <;> iassumption
  intro t _
  have ht : t.val < 256 := trips2 ▸ t.isLt
  dsimp only
  rw [block_words, run_bind]
  iintro ⟨%s, %g', %hs, Hv, Hg, Hs⟩
  iapply (wp_gather (F := F) (d := d) (i := i) (q := q) (m := mV) (W := (nat1 fun k => BitVec.ofNat 32 (v k) : S4096.Idx → Elt F .i32)) (inRange_vec (n := 4096) (a := fun l => t.val * 16 + l) (fun l hl => by omega) fun l hl => by omega)) $$ Hv
  iintro Hv
  rw [loadIdx_vec (F := F) (e := .i32) (fun k => BitVec.ofNat 32 (v k)) (fun l hl => by omega)]
  have hb : ∀ l < 16, v (t.val * 16 + l) < 100000 := fun l hl => hv _ (by omega)
  rw [show (fun x : S16.Idx => BitVec.ofNat 32 (v (t.val * 16 + (x 0).val))) = vec fun l => v (t.val * 16 + l) from rfl, run_bind]
  have hC : shrsi (vec fun l => v (t.val * 16 + l)) (broadcast S16 8#32) = vec fun l => v (t.val * 16 + l) / 256 := vec_shr8 fun l hl => by have := hb l hl; omega
  have hr : ∀ b x, ((![shrsi (vec fun l => v (t.val * 16 + l)) (broadcast S16 8#32)] : Fin 1 → IVec S16 32) b x).toNat < S400.size b := by
    rw [hC]
    exact inRange_vec (n := 400) (a := fun l => v (t.val * 16 + l) / 256) (fun l hl => by have := hb l hl; omega) fun l hl => by have := hb l hl; omega
  iapply (wp_assumed (F := F) (P := k0_chk4 i (shrsi (vec fun l => v (t.val * 16 + l)) (broadcast S16 8#32))) ⟨fun _ => hr, fun _ => hr⟩)
  rw [run_bind]
  iapply (wp_loadIdx (F := F) (m := mCur) (hs := h_S400) (W := nat1 g')) $$ Hg
  iintro Hg
  rw [loadIdx_words (F := F) (e := .i32) g' hC (fun l hl => by have := hb l hl; omega)]
  have hix : subi (addi (fun x => g' (v (t.val * 16 + (x 0).val) / 256)) (scanCount (broadcast S16 1#1) (shrsi (vec fun l => v (t.val * 16 + l)) (broadcast S16 8#32))).2) (broadcast S16 1#32)
      = vec fun l => pos v (t.val * 16 + l) := by
    rw [hC]
    funext x
    obtain ⟨l, rfl⟩ : ∃ l : Fin 16, ln l = x := ⟨x 0, ln_self x⟩
    have hl := l.isLt
    change g' (v (t.val * 16 + l.val) / 256) + (scanCount (broadcast S16 1#1) (vec fun l => v (t.val * 16 + l) / 256)).2 (ln l) - 1#32 = BitVec.ofNat 32 (pos v (t.val * 16 + l.val))
    rw [scanCount_ones, hs.2 _ (by have := hb l.val hl; omega), ← BitVec.ofNat_add]
    have hc : ((Finset.range (l.val + 1)).filter fun k => lane (vec fun l => v (t.val * 16 + l) / 256) k = vec (fun l => v (t.val * 16 + l) / 256) (ln l))
        = (Finset.range (l.val + 1)).filter fun k => v (t.val * 16 + k) / 256 = v (t.val * 16 + l.val) / 256 := by
      refine Finset.filter_congr fun k hk => ?_
      have hk16 : k < 16 := by have := Finset.mem_range.mp hk; omega
      rw [lane_vec _ hk16, vec_ln]
      have h1 := hb k hk16
      have h2 := hb l.val hl
      constructor
      · intro he
        have := congrArg BitVec.toNat he
        rw [BitVec.toNat_ofNat, BitVec.toNat_ofNat] at this
        omega
      · intro he; rw [he]
    have hp := cnt_add v (v (t.val * 16 + l.val) / 256) (t.val * 16) (l.val + 1)
    rw [← Nat.add_assoc (t.val * 16), cnt_succ, if_pos rfl] at hp
    rw [hc, Nat.add_assoc, ← hp, ← Nat.add_assoc]
    exact word_sub (b := 1) (by omega)
  rw [hix, vec_record (fun l hl => by omega), run_bind]
  have hpos : ∀ l < 16, pos v (t.val * 16 + l) < 4096 := fun l hl => pos_lt v (by omega)
  iapply (wp_scatter (F := F) (d := d) (i := i) (m := mSort) (W := (nat1 s : S4096.Idx → Elt F .i32)) (inRange_vec (n := 4096) (a := fun l => pos v (t.val * 16 + l)) (fun l hl => by have := hpos l hl; omega) hpos)) $$ Hs
  iintro Hs
  rw [storeIdx_nat1, run_bind]
  iapply (wp_storeIdx (F := F) (m := mCur) (hs := h_S400) (hb := rfl) (W := nat1 g')) $$ Hg
  iintro Hg
  rw [storeIdx_bump]
  iapply (run_pure d i)
  iexists (put s (vec fun l => pos v (t.val * 16 + l)) (vec fun l => (t.val * 16 + l) * 256 + v (t.val * 16 + l) % 256)), (bump g' (shrsi (vec fun l => v (t.val * 16 + l)) (broadcast S16 8#32)))
  isplitr
  · ipureintro
    refine ⟨fun k hk => ?_, fun c hc => ?_⟩
    · by_cases hkt : k < t.val * 16
      · rw [put_miss, hs.1 k hkt]
        intro l he
        have hl := l.isLt
        rw [vec_ln_toNat (lt_of_lt_of_le (hpos _ hl) (by decide))] at he
        have := pos_inj v (by omega) (by omega) he
        change k = t.val * 16 + l.val at this
        omega
      · have hl : k - t.val * 16 < 16 := by omega
        have hk' : t.val * 16 + (k - t.val * 16) = k := by omega
        rw [put_hit ⟨k - t.val * 16, hl⟩]
        · rw [vec_ln]; dsimp only; rw [hk']
        · rw [vec_toNat (x := ln ⟨k - t.val * 16, hl⟩) (lt_of_lt_of_le (hpos _ hl) (by decide))]
          change pos v k = pos v (t.val * 16 + (k - t.val * 16)); rw [hk']
        · intro l he
          have hl' := l.isLt
          rw [vec_ln_toNat (lt_of_lt_of_le (hpos _ hl') (by decide))] at he
          have := pos_inj v (by omega) (by omega) he
          change k = t.val * 16 + l.val at this
          exact Fin.ext (by change l.val = k - t.val * 16; omega)
    · rw [hC, bump_vec (fun l hl => by have := hb l hl; omega) (hs.2 c hc), Nat.add_mul, Nat.one_mul, cnt_add, Nat.add_assoc]
  · isplitl [Hv]; · iexact Hv
    isplitl [Hg] <;> iassumption

end Sorting

end Cert.Proof
-- ==== Proof.State.lean ====
/-
  What holds between two groups of records: which records the staging buffer has, and that every record done before is in
  the output or staged for it.
-/
module

public import proofs.«01_k».proof.Proof.Sort

@[expose] public section

namespace Cert.Proof

open Cert.KernelIdeal Cert.KernelIdeal.Gen
open Idealize.ShloMosaic Idealize.SL.Sem

/-- The records at places before `nd` are done: each is in the output, or in one of the first `j` rows of the staging
    buffer under its row's name; the other names are dump rows. -/
structure Good {α : Type} (f : ℕ) (v : ℕ → ℕ) (tb : ℕ → ℕ → α) (nd j : ℕ) (ox : ℕ → BitVec 32) (sg out : ℕ → ℕ → α) : Prop where
  row : ∀ r < 128, (∃ k < 4096, (ox r).toNat = k * 26 + f ∧ r < j ∧ pos v k < nd ∧ ∀ q < 64, sg r q = tb q (v k)) ∨ IsDump f (ox r)
  inj : ∀ r < 128, ∀ r' < 128, (ox r).toNat < 106496 → (ox r).toNat = (ox r').toNat → r = r'
  all : ∀ k < 4096, pos v k < nd → (∀ q < 64, out (k * 26 + f) q = tb q (v k)) ∨ ∃ r < 128, (ox r).toNat = k * 26 + f

namespace Good

variable {α : Type} {f : ℕ} {v : ℕ → ℕ} {tb : ℕ → ℕ → α} {nd j : ℕ} {ox : ℕ → BitVec 32} {sg out : ℕ → ℕ → α}

theorem names (hf : f < 26) (h : Good f v tb nd j ox sg out) : ∀ r < 128, ((ox r).toNat < 106496 ∧ (ox r).toNat % 26 = f)
    ∨ (106496 + 128 * f ≤ (ox r).toNat ∧ (ox r).toNat < 106496 + 128 * f + 128) := by
  intro r hr
  rcases h.row r hr with ⟨k, hk, he, -⟩ | h
  · left; omega
  · exact Or.inr h

/-- With nothing done. -/
theorem start (hox : ∀ r < 128, IsDump f (ox r)) : Good f v tb 0 0 ox sg out where
  row r hr := Or.inr (hox r hr)
  inj r hr r' _ h := by have := (hox r hr).1; omega
  all k _ h := by omega

/-- The staged rows scattered, and the names reset. -/
theorem flushed (hf : f < 26) (h : Good f v tb nd j ox sg out) {ox' : ℕ → BitVec 32} {out' : ℕ → ℕ → α} (hox : ∀ r < 128, IsDump f (ox' r))
    (hhit : ∀ r < 128, (ox r).toNat < 106496 → ∀ q < 128, out' (ox r).toNat q = sg r q)
    (hmiss : ∀ y q, y < 110592 → q < 128 → (∀ r < 128, (ox r).toNat < 106496 → (ox r).toNat ≠ y) → out' y q = out y q) :
    Good f v tb nd 0 ox' sg out' where
  row r hr := Or.inr (hox r hr)
  inj r hr r' _ h := by have := (hox r hr).1; omega
  all k hk hp := by
    left
    intro q hq
    by_cases hr : ∃ r < 128, (ox r).toNat = k * 26 + f
    · obtain ⟨r, hr, he⟩ := hr
      rw [← he, hhit r hr (by omega) q (by omega)]
      rcases h.row r hr with ⟨k', hk', he', -, -, hs⟩ | hd
      · rw [hs q hq, show k' = k by omega]
      · have := hd.1; omega
    · rw [hmiss (k * 26 + f) q (by omega) (by omega) fun r hr' _ he => hr ⟨r, hr', he⟩]
      rcases h.all k hk hp with h | h
      · exact h q hq
      · exact absurd h hr

/-- One group: sixteen rows named and staged. -/
theorem step (hf : f < 26) (h : Good f v tb nd j ox sg out) (hj : j + 16 ≤ 128) {n1 : ℕ} (hn : nd < n1) {kk : ℕ → ℕ} {w : ℕ → ℕ}
    {ox' : ℕ → BitVec 32} {sg' : ℕ → ℕ → α} (hkk : ∀ l, kk l < 4096) (hpos : ∀ l, pos v (kk l) = min (nd + l) (n1 - 1))
    (hw : ∀ l, w l = if nd + l < n1 then kk l * 26 + f else 106496 + f * 128 + l)
    (hox : ∀ p, ox' p = if j ≤ p ∧ p < j + 16 then BitVec.ofNat 32 (w (p - j)) else ox p)
    (hsg : ∀ p, p < j ∨ j + 16 ≤ p → ∀ q, sg' p q = sg p q) (hst : ∀ l < 16, ∀ q < 64, sg' (j + l) q = tb q (v (kk l))) :
    Good f v tb (min n1 (nd + 16)) (j + 16) ox' sg' out := by
  have hval : ∀ l < 16, (BitVec.ofNat 32 (w l)).toNat = w l := fun l hl => by
    rw [BitVec.toNat_ofNat, Nat.mod_eq_of_lt]
    rw [hw]
    have := hkk l
    split_ifs <;> omega
  have hold : ∀ r, ¬(j ≤ r ∧ r < j + 16) → ox' r = ox r := fun r hr => by rw [hox, if_neg hr]
  have hnew : ∀ r, (j ≤ r ∧ r < j + 16) → (ox' r).toNat = w (r - j) := fun r hr => by rw [hox, if_pos hr, hval _ (by omega)]
  have holdv : ∀ r < 128, (ox r).toNat < 106496 → ∃ k < 4096, (ox r).toNat = k * 26 + f ∧ r < j ∧ pos v k < nd := fun r hr hlt => by
    rcases h.row r hr with ⟨k, hk, he, hrj, hp, -⟩ | hd
    · exact ⟨k, hk, he, hrj, hp⟩
    · have := hd.1; omega
  have hnewv : ∀ r, (j ≤ r ∧ r < j + 16) → (ox' r).toNat < 106496 → nd + (r - j) < n1 ∧ (ox' r).toNat = kk (r - j) * 26 + f := fun r hr hlt => by
    rw [hnew r hr, hw] at hlt
    by_cases hc : nd + (r - j) < n1
    · exact ⟨hc, by rw [hnew r hr, hw, if_pos hc]⟩
    · rw [if_neg hc] at hlt; omega
  refine ⟨fun r hr => ?_, fun r hr r' hr' hlt he => ?_, fun k hk hp => ?_⟩
  · by_cases hb : j ≤ r ∧ r < j + 16
    · by_cases hc : nd + (r - j) < n1
      · left
        refine ⟨kk (r - j), hkk _, by rw [hnew r hb, hw, if_pos hc], hb.2, by rw [hpos]; omega, fun q hq => ?_⟩
        have := hst (r - j) (by omega) q hq
        rwa [show j + (r - j) = r by omega] at this
      · right
        unfold IsDump
        rw [hnew r hb, hw, if_neg hc]
        omega
    · rw [hold r hb]
      rcases h.row r hr with ⟨k, hk, he, hrj, hp, hs⟩ | hd
      · exact Or.inl ⟨k, hk, he, by omega, by omega, fun q hq => by rw [hsg r (by omega)]; exact hs q hq⟩
      · exact Or.inr hd
  · by_cases hb : j ≤ r ∧ r < j + 16 <;> by_cases hb' : j ≤ r' ∧ r' < j + 16
    · obtain ⟨h1, h2⟩ := hnewv r hb hlt
      obtain ⟨h1', h2'⟩ := hnewv r' hb' (he ▸ hlt)
      have hk : kk (r - j) = kk (r' - j) := by omega
      have p1 := hpos (r - j)
      have p2 := hpos (r' - j)
      rw [hk] at p1
      omega
    · obtain ⟨h1, h2⟩ := hnewv r hb hlt
      rw [hold r' hb'] at he
      obtain ⟨k, hk, hke, -, hp⟩ := holdv r' hr' (by omega)
      have p1 := hpos (r - j)
      rw [show kk (r - j) = k by omega] at p1
      omega
    · rw [hold r hb] at hlt he
      obtain ⟨h1, h2⟩ := hnewv r' hb' (by omega)
      obtain ⟨k, hk, hke, -, hp⟩ := holdv r hr hlt
      have p1 := hpos (r' - j)
      rw [show kk (r' - j) = k by omega] at p1
      omega
    · rw [hold r hb] at hlt he
      rw [hold r' hb'] at he
      exact h.inj r hr r' hr' hlt he
  · by_cases hpn : pos v k < nd
    · rcases h.all k hk hpn with h' | ⟨r, hr, he⟩
      · exact Or.inl h'
      · obtain ⟨k', -, -, hrj, -⟩ := holdv r hr (by omega)
        exact Or.inr ⟨r, hr, by rw [hold r (by omega)]; exact he⟩
    · right
      have hl : pos v k - nd < 16 := by omega
      have hc : nd + (pos v k - nd) < n1 := by omega
      have hke : kk (pos v k - nd) = k := pos_inj v (hkk _) hk (by rw [hpos]; omega)
      refine ⟨j + (pos v k - nd), by omega, ?_⟩
      rw [hnew _ (by omega), show j + (pos v k - nd) - j = pos v k - nd by omega, hw, if_pos hc, hke]

/-- With everything done and nothing staged, the output is the rows gathered. -/
theorem done (hf : f < 26) (h : Good f v tb 4096 0 ox sg out) : ∀ k < 4096, ∀ q < 64, out (k * 26 + f) q = tb q (v k) := by
  intro k hk
  rcases h.all k hk (pos_lt v hk) with h' | ⟨r, hr, he⟩
  · exact h'
  · rcases h.row r hr with ⟨_, _, _, hrj, _⟩ | hd
    · omega
    · have := hd.1; omega

end Good

end Cert.Proof
-- ==== Proof.Group.lean ====
/-
  A group of sixteen records: the staging buffer flushed when it is full, the records' rows named, and their columns
  gathered from the chunk and staged; and the loop over a chunk's groups.
-/
module

public import proofs.«01_k».proof.Proof.State

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {i : grid0.Coords} {O : CellTallies nD τ sig (HIx 1)} {W₀ : Waits sig (HIx 1)}

/-! ## Lanes over two axes, and a run of sixteen names -/

theorem word_self (c : BitVec 32) : BitVec.ofNat 32 c.toNat = c := by simp

theorem loadIdx_vec2 {n m : ℕ} {e : EltTy} (g : ℕ → ℕ → Elt F e) {a b : ℕ → ℕ} (ha : ∀ l < 16, a l < 2 ^ 32) (hb : ∀ l < 16, b l < 2 ^ 32)
    (h : ∀ c x, ((![vec a, vec b] : Fin 2 → IVec S16 32) c x).toNat < (⟨2, ![n, m]⟩ : Shape).size c) :
    loadIdx (F := F) (s := ⟨2, ![n, m]⟩) (nat2 g) ![vec a, vec b] h = fun x => g (a (x 0).val) (b (x 0).val) := by
  funext x
  change g (vec a x).toNat (vec b x).toNat = _
  rw [vec_toNat (ha _ (x 0).isLt), vec_toNat (hb _ (x 0).isLt)]

theorem inRange_vec2 {n m : ℕ} {a b : ℕ → ℕ} (hn : n < 2 ^ 32) (hm : m < 2 ^ 32) (ha : ∀ l < 16, a l < n) (hb : ∀ l < 16, b l < m) :
    ∀ c x, ((![vec a, vec b] : Fin 2 → IVec S16 32) c x).toNat < (⟨2, ![n, m]⟩ : Shape).size c := by
  intro c x
  have h1 := ha _ (x 0).isLt
  have h2 := hb _ (x 0).isLt
  match c with
  | ⟨0, _⟩ =>
    change (vec a x).toNat < n
    rw [vec_toNat (by omega)]; exact h1
  | ⟨1, _⟩ =>
    change (vec b x).toNat < m
    rw [vec_toNat (by omega)]; exact h2

theorem put_run {α : Type} (g : ℕ → α) {j : ℕ} (hj : j + 16 ≤ 2 ^ 32) (w : S16.Idx → α) (p : ℕ) : put g (vec fun l => j + l) w p = over g j w p := by
  unfold over
  split_ifs with h
  · have hl : p - j < 16 := by omega
    rw [put_hit ⟨p - j, hl⟩, lane_lt w hl]
    · rw [vec_ln_toNat (by change j + (p - j) < _; omega)]; change p = j + (p - j); omega
    · intro l he
      have hl' := l.isLt
      rw [vec_ln_toNat (by omega)] at he
      exact Fin.ext (by change l.val = p - j; omega)
  · refine put_miss fun l he => h ?_
    have hl' := l.isLt
    rw [vec_ln_toNat (by omega)] at he
    omega

/-! ## One record's column -/

/-- One piece: sixteen elements of column `col` of the chunk, to row `r` of the staging buffer. -/
theorem wp_cell {h1 : k0_cond1 i = 1#1} {buf : Memref sig .scVector .vmem S64x256 .f32} {qb : PosShare TreeShare} {B : ℕ → ℕ → Elt F .f32} {col r c : ℕ}
    (hcol : col < 256) (hr : r < 128) (hc : c + 16 ≤ 64) {sg : ℕ → ℕ → Elt F .f32} {α : Type} {k : PUnit → TileProg F i α} {Q : α → sProp 𝕄} :
    iprop(holds d i buf qb (nat2 B) ∗ holds d i mStag fullShare (nat2 sg))
      ⊢ iprop((∀ sg', iprop(⌜(∀ p, p ≠ r → ∀ q, sg' p q = sg p q) ∧ (∀ q, sg r q = B q col → sg' r q = B q col) ∧ ∀ l < 16, sg' r (c + l) = B (c + l) col⌝
          ∗ holds d i buf qb (nat2 B) ∗ holds d i mStag fullShare (nat2 sg')) -∗ run d i (k ⟨⟩) Q)
        -∗ run d i (gather i h1 buf h_S64x256 ![addi (vec fun l => l) (broadcast S16 (BitVec.ofNat 32 c)), vec fun _ => col] >>= fun x =>
          scatter i h1 mStag h_S128x128 rfl ![vec fun _ => r, addi (vec fun l => l) (broadcast S16 (BitVec.ofNat 32 c))] x false >>= k) Q) := by
  rw [vec_broadcast, vec_addi, run_bind]
  iintro ⟨Hb, Hs⟩ Hk
  iapply (wp_gather (F := F) (d := d) (i := i) (q := qb) (m := buf) (W := (nat2 B : S64x256.Idx → Elt F .f32))
    (inRange_vec2 (n := 64) (m := 256) (a := fun l => l + c) (b := fun _ => col) (by decide) (by decide) (fun l hl => by omega) fun l hl => hcol)) $$ Hb
  iintro Hb
  rw [loadIdx_vec2 (F := F) (e := .f32) B (fun l hl => by omega) (fun l hl => by omega), run_bind]
  iapply (wp_scatter (F := F) (d := d) (i := i) (m := mStag) (W := (nat2 sg : S128x128.Idx → Elt F .f32))
    (inRange_vec2 (n := 128) (m := 128) (a := fun _ => r) (b := fun l => l + c) (by decide) (by decide) (fun l hl => hr) fun l hl => by omega)) $$ Hs
  iintro Hs
  rw [storeIdx_row (F := F) (e := .f32) sg (vec fun _ => r) (vec fun l => l + c) _ (r := r) (o := c) (fun l => vec_ln_toNat (by omega))
    (fun l => by have := l.isLt; rw [vec_ln_toNat (by omega)]; omega)]
  iapply Hk
  isplitr
  rotate_left
  · isplitl [Hb] <;> iassumption
  · ipureintro
    refine ⟨fun p hp q => ?_, fun q hq => ?_, fun l hl => ?_⟩
    · unfold putRow
      rw [if_neg fun h => hp h.1]
    · unfold putRow
      split_ifs with h
      · rw [lane_lt _ (show q - c < 16 by omega)]
        change B (q - c + c) col = _
        rw [show q - c + c = q by omega]
      · exact hq
    · unfold putRow
      rw [if_pos ⟨rfl, by omega, by omega⟩, lane_lt _ (show c + l - c < 16 by omega)]
      change B (c + l - c + c) col = _
      rw [show c + l - c + c = c + l by omega]

theorem wp_cells {h1 : k0_cond1 i = 1#1} {buf : Memref sig .scVector .vmem S64x256 .f32} {qb : PosShare TreeShare} {B : ℕ → ℕ → Elt F .f32} {col r : ℕ}
    (hcol : col < 256) (hr : r < 128) : ∀ (cs : List (BitVec 32)) (_ : ∀ c ∈ cs, c.toNat + 16 ≤ 64) (sg : ℕ → ℕ → Elt F .f32) {Q : PUnit → sProp 𝕄},
    iprop(holds d i buf qb (nat2 B) ∗ holds d i mStag fullShare (nat2 sg))
      ⊢ iprop((∀ sg', iprop(⌜(∀ p, p ≠ r → ∀ q, sg' p q = sg p q) ∧ (∀ q, sg r q = B q col → sg' r q = B q col) ∧ ∀ c ∈ cs, ∀ l < 16, sg' r (c.toNat + l) = B (c.toNat + l) col⌝
          ∗ holds d i buf qb (nat2 B) ∗ holds d i mStag fullShare (nat2 sg')) -∗ Q ⟨⟩)
        -∗ run d i (cells i h1 buf (vec fun l => l) (vec fun _ => col) (vec fun _ => r) cs) Q)
  | [], _, sg, Q => by
    unfold cells
    iintro H Hk
    iapply (run_done d i PUnit.unit Q)
    iapply Hk
    isplitr
    · ipureintro; exact ⟨fun _ _ _ => rfl, fun _ h => h, fun _ h => absurd h List.not_mem_nil⟩
    · iexact H
  | c :: cs, hcs, sg, Q => by
    unfold cells
    iintro H Hk
    rw [show c = BitVec.ofNat 32 c.toNat from (word_self c).symm]
    iapply (wp_cell (F := F) (h1 := h1) (Q := Q) hcol hr (hcs c List.mem_cons_self)) $$ H
    iintro %sg₁ ⟨%h₁, H⟩
    iapply (wp_cells hcol hr cs (fun c' hc' => hcs c' (List.mem_cons_of_mem _ hc')) sg₁ (Q := Q)) $$ H
    iintro %sg' ⟨%h', H⟩
    iapply Hk
    isplitr
    · ipureintro
      refine ⟨fun p hp q => (h'.1 p hp q).trans (h₁.1 p hp q), fun q hq => h'.2.1 q (h₁.2.1 q hq), fun c' hc' l hl => ?_⟩
      rcases List.mem_cons.mp hc' with rfl | hc'
      · rw [word_self]
        exact h'.2.1 _ (h₁.2.2 l hl)
      · exact h'.2.2 c' hc' l hl
    · iexact H

/-! ## The records of a group -/

/-- The column of a record, from its word. -/
theorem column_word (n : ℕ) : broadcast S16 (Scalar.andi (BitVec.ofNat 32 n) 255#32) = vec fun _ => n % 256 := by
  rw [show Scalar.andi (BitVec.ofNat 32 n) 255#32 = BitVec.ofNat 32 (n % 256) from word_and255 n]; rfl

theorem pieces_fit : ∀ c ∈ ([0#32, 16#32, 32#32, 48#32] : List (BitVec 32)), c.toNat + 16 ≤ 64 := by
  intro c hc
  simp only [List.mem_cons, List.not_mem_nil, or_false] at hc
  rcases hc with rfl | rfl | rfl | rfl <;> simp

theorem pieces_cover {q : ℕ} (hq : q < 64) : ∃ c ∈ ([0#32, 16#32, 32#32, 48#32] : List (BitVec 32)), c.toNat ≤ q ∧ q < c.toNat + 16 := by
  by_cases h1 : q < 16
  · exact ⟨0#32, by simp, Nat.zero_le _, h1⟩
  by_cases h2 : q < 32
  · exact ⟨16#32, by simp, not_lt.mp h1, h2⟩
  by_cases h3 : q < 48
  · exact ⟨32#32, by simp, not_lt.mp h2, h3⟩
  · exact ⟨48#32, by simp, not_lt.mp h3, hq⟩

theorem wp_lanes {h1 : k0_cond1 i = 1#1} {buf : Memref sig .scVector .vmem S64x256 .f32} {qb : PosShare TreeShare} {B : ℕ → ℕ → Elt F .f32} {rec : ℕ → ℕ} {j : ℕ}
    (hj : j + 16 ≤ 128) (ls : List {l : Nat // S16.Slices ![l] S1}) (hls : ∀ l ∈ ls, l.1 < 16) (sg : ℕ → ℕ → Elt F .f32) {Q : PUnit → sProp 𝕄} :
    iprop(holds d i buf qb (nat2 B) ∗ holds d i mStag fullShare (nat2 sg))
      ⊢ iprop((∀ sg', iprop(⌜(∀ p, p < j ∨ j + 16 ≤ p → ∀ q, sg' p q = sg p q)
            ∧ (∀ l < 16, ∀ q, sg (j + l) q = B q (rec l % 256) → sg' (j + l) q = B q (rec l % 256))
            ∧ ∀ l ∈ ls, ∀ q < 64, sg' (j + l.1) q = B q (rec l.1 % 256)⌝
          ∗ holds d i buf qb (nat2 B) ∗ holds d i mStag fullShare (nat2 sg')) -∗ Q ⟨⟩)
        -∗ run d i (lanes i h1 buf (vec fun l => l) (BitVec.ofNat 32 j) (vec rec) ls) Q) := by
  induction ls generalizing sg with
  | nil =>
    unfold lanes
    iintro H Hk
    iapply (run_done d i PUnit.unit Q)
    iapply Hk
    isplitr
    · ipureintro; exact ⟨fun _ _ _ => rfl, fun _ _ _ h => h, fun _ h => absurd h List.not_mem_nil⟩
    · iexact H
  | cons l ls ih =>
    unfold lanes
    have hl : l.1 < 16 := hls l List.mem_cons_self
    iintro H Hk
    rw [lane_extract _ l.2 hl, lane_vec _ hl, column_word,
      show Scalar.addi (BitVec.ofNat 32 j) (BitVec.ofNat 32 l.1) = BitVec.ofNat 32 (j + l.1) from (BitVec.ofNat_add _ _).symm, vec_broadcast, run_bind]
    iapply (wp_cells (F := F) (h1 := h1) (col := rec l.1 % 256) (r := j + l.1) (Nat.mod_lt _ (by decide)) (by omega) [0#32, 16#32, 32#32, 48#32] pieces_fit sg) $$ H
    iintro %sg₁ ⟨%h₁, H⟩
    iapply (ih (fun l' hl' => hls l' (List.mem_cons_of_mem _ hl')) sg₁) $$ H
    iintro %sg' ⟨%h', H⟩
    iapply Hk
    isplitr
    · ipureintro
      refine ⟨fun p hp q => (h'.1 p hp q).trans (h₁.1 p (by omega) q), fun l' hl' q hq => h'.2.1 l' hl' q ?_, fun l' hl' q hq => ?_⟩
      · by_cases he : l' = l.1
        · subst he; exact h₁.2.1 q hq
        · rw [h₁.1 _ (by omega)]; exact hq
      · rcases List.mem_cons.mp hl' with rfl | hl'
        · refine h'.2.1 _ hl q ?_
          obtain ⟨c, hc, h0, h1⟩ := pieces_cover hq
          have := h₁.2.2 c hc (q - c.toNat) (by omega)
          rwa [show c.toNat + (q - c.toNat) = q by omega] at this
        · exact h'.2.2 l' hl' q hq
    · iexact H

/-! ## What a tile has between groups -/

/-- What a tile has between groups, besides the chunk and the sorted records. -/
def State (d : Dev nD) (i : grid0.Coords) (O : CellTallies nD τ sig (HIx 1)) (W₀ : Waits sig (HIx 1)) (f : ℕ) (v : ℕ → ℕ) (tb : ℕ → ℕ → Elt F .f32) (nd j : ℕ) : sProp 𝕄 :=
  iprop(∃ (ox : ℕ → BitVec 32) (sg out : ℕ → ℕ → Elt F .f32), ⌜Good f v tb nd j ox sg out⌝ ∗ holds (F := F) d i mOidx fullShare (nat1 ox)
    ∗ holds d i mStag fullShare (nat2 sg) ∗ outOwn d i f out ∗ outDump d i f ∗ semVal (thr d i, SemLoc.dma cc0_scratch13.sem) 0 ∗ duty d i O W₀)

section Groups

variable {f : ℕ} (hf : f < 26) {v : ℕ → ℕ} (hv : ∀ k < 4096, v k < 100000) {tb : ℕ → ℕ → Elt F .f32}

include hf in
/-- The staged rows scattered out; what the offset list is left at is for the reset to say. -/
theorem wp_scattered {nd j : ℕ} {α : Type} {k : PUnit → TileProg F i α} {Q : α → sProp 𝕄} :
    State d i O W₀ f v tb nd j
      ⊢ iprop((∀ (ox : ℕ → BitVec 32) (sg out : ℕ → ℕ → Elt F .f32), iprop(⌜∀ ox', (∀ r < 128, IsDump f (ox' r)) → Good f v tb nd 0 ox' sg out⌝ ∗ holds (F := F) d i mOidx fullShare (nat1 ox)
          ∗ holds d i mStag fullShare (nat2 sg) ∗ outOwn d i f out ∗ outDump d i f ∗ semVal (thr d i, SemLoc.dma cc0_scratch13.sem) 0 ∗ duty d i O W₀) -∗ run d i (k ⟨⟩) Q)
        -∗ run d i (SparseCore.enqueueIndirectScatter rfl mStag mOutAll gathers_S110592x128_S128x128 mOidx rfl cc0_scratch13.sem rfl (Or.inl rfl)
            >>= fun _ => SparseCore.waitIndirectScatter cc0_scratch13.sem mStag mOutAll (Memref.isWhole_whole _).wordExact (View.wordExact_bits rfl)
            >>= k) Q) := by
  unfold State
  iintro ⟨%ox, %sg, %out, %hG, Hox, Hsg, Hout, Hdump, Hsem, Hduty⟩ Hk
  iapply (wp_spread (F := F) (k := k) (Q := Q) hf (hG.names hf) hG.inj) $$ [Hox Hsg Hout Hdump Hsem Hduty]
  · isplitl [Hsg]; · iexact Hsg
    isplitl [Hox]; · iexact Hox
    isplitl [Hsem]; · iexact Hsem
    isplitl [Hout]; · iexact Hout
    isplitl [Hdump] <;> iassumption
  iintro ⟨%out', %ho, Hout, Hsg, Hox, Hsem, Hdump, Hduty⟩
  iapply Hk
  isplitr
  rotate_left
  · isplitl [Hox]; · iexact Hox
    isplitl [Hsg]; · iexact Hsg
    isplitl [Hout]; · iexact Hout
    isplitl [Hdump]; · iexact Hdump
    isplitl [Hsem] <;> iassumption
  · ipureintro
    intro ox' hox'
    exact hG.flushed hf hox' ho.1 ho.2

include hf in
theorem wp_flush {nd j : ℕ} {Q : PUnit → sProp 𝕄} :
    State d i O W₀ f v tb nd j ⊢ iprop((State d i O W₀ f v tb nd 0 -∗ Q ⟨⟩) -∗ run d i (flush i (vec fun l => l) (BitVec.ofNat 32 (106496 + f * 128))) Q) := by
  unfold flush
  iintro H Hk
  iapply (wp_scattered hf) $$ H
  iintro %ox %sg %out ⟨%hG, Hox, Hsg, Hout, Hdump, Hsem, Hduty⟩
  unfold reset
  iapply (wp_resetAt (F := F) hf dumpRows ox (Q := Q)) $$ Hox
  iintro %ox' ⟨%hox', Hox⟩
  iapply Hk
  unfold State
  iexists ox', sg, out
  isplitr
  · ipureintro
    refine hG ox' fun r hr => ?_
    obtain ⟨o, ho, l, hl, rfl⟩ := dumpRows_cover hr
    exact hox'.2 o ho l hl
  · isplitl [Hox]; · iexact Hox
    isplitl [Hsg]; · iexact Hsg
    isplitl [Hout]; · iexact Hout
    isplitl [Hdump]; · iexact Hdump
    isplitl [Hsem] <;> iassumption

theorem full_iff {j : ℕ} (hj : j ≤ 128) (h16 : j % 16 = 0) :
    (Scalar.cmpi .ne (Scalar.extui (Scalar.cmpi .eq (BitVec.ofNat 32 j) 128#32) : BitVec 32) 0#32 = 1#1 ↔ j = 128)
      ∧ Scalar.select (Scalar.cmpi .eq (BitVec.ofNat 32 j) 128#32) 0#32 (BitVec.ofNat 32 j) = BitVec.ofNat 32 (if j = 128 then 0 else j) := by
  obtain ⟨b, rfl⟩ : ∃ b, j = 16 * b := ⟨j / 16, by omega⟩
  have hb : b < 9 := by omega
  interval_cases b <;> decide

end Groups

end Cert.Proof
-- ==== Proof.Chunk.lean ====
/-
  The loop over the records of a chunk, a group at a time.
-/
module

public import proofs.«01_k».proof.Proof.Group

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {i : grid0.Coords} {O : CellTallies nD τ sig (HIx 1)} {W₀ : Waits sig (HIx 1)}

/-! ## Lanes over two axes, and a run of sixteen names -/

section Groups

variable {f : ℕ} (hf : f < 26) {v : ℕ → ℕ} (hv : ∀ k < 4096, v k < 100000) {tb : ℕ → ℕ → Elt F .f32}

/-- The first part of a piece: sixteen elements of column `col` of the chunk. -/
theorem wp_peek {h1 : k0_cond1 i = 1#1} {buf : Memref sig .scVector .vmem S64x256 .f32} {qb : PosShare TreeShare} {B : ℕ → ℕ → Elt F .f32} {col c : ℕ}
    (hcol : col < 256) (hc : c + 16 ≤ 64) {Q : Vec F S16 .f32 → sProp 𝕄} :
    holds d i buf qb (nat2 B) ⊢ iprop((holds d i buf qb (nat2 B) -∗ Q (fun x => B ((x 0).val + c) col))
      -∗ run d i (gather i h1 buf h_S64x256 ![addi (vec fun l => l) (broadcast S16 (BitVec.ofNat 32 c)), vec fun _ => col]) Q) := by
  rw [vec_broadcast, vec_addi]
  iintro Hb Hk
  iapply (wp_gather (F := F) (d := d) (i := i) (q := qb) (m := buf) (W := (nat2 B : S64x256.Idx → Elt F .f32))
    (inRange_vec2 (n := 64) (m := 256) (a := fun l => l + c) (b := fun _ => col) (by decide) (by decide) (fun l hl => by omega) fun l hl => hcol)) $$ Hb
  iintro Hb
  rw [loadIdx_vec2 (F := F) (e := .f32) B (fun l hl => by omega) (fun l hl => by omega)]
  iapply Hk
  iexact Hb

/-- The second: to row `r` of the staging buffer. -/
theorem wp_poke {h1 : k0_cond1 i = 1#1} {r c : ℕ} (hr : r < 128) (hc : c + 16 ≤ 64) {sg : ℕ → ℕ → Elt F .f32} {w : Vec F S16 .f32} {Q : PUnit → sProp 𝕄} :
    holds d i mStag fullShare (nat2 sg) ⊢ iprop((holds d i mStag fullShare (nat2 (putRow sg r c w)) -∗ Q ⟨⟩)
      -∗ run d i (scatter i h1 mStag h_S128x128 rfl ![vec fun _ => r, addi (vec fun l => l) (broadcast S16 (BitVec.ofNat 32 c))] w false) Q) := by
  rw [vec_broadcast, vec_addi]
  iintro Hs Hk
  iapply (wp_scatter (F := F) (d := d) (i := i) (m := mStag) (W := (nat2 sg : S128x128.Idx → Elt F .f32))
    (inRange_vec2 (n := 128) (m := 128) (a := fun _ => r) (b := fun l => l + c) (by decide) (by decide) (fun l hl => hr) fun l hl => by omega)) $$ Hs
  iintro Hs
  rw [storeIdx_row (F := F) (e := .f32) sg (vec fun _ => r) (vec fun l => l + c) w (r := r) (o := c) (fun l => vec_ln_toNat (by omega))
    (fun l => by have := l.isLt; rw [vec_ln_toNat (by omega)]; omega)]
  iapply Hk
  iexact Hs

theorem putRow_spec {α : Type} (sg B : ℕ → ℕ → α) (r c col : ℕ) :
    (∀ p, p ≠ r → ∀ q, putRow sg r c (fun x : S16.Idx => B ((x 0).val + c) col) p q = sg p q)
      ∧ (∀ q, sg r q = B q col → putRow sg r c (fun x : S16.Idx => B ((x 0).val + c) col) r q = B q col)
      ∧ ∀ l < 16, putRow sg r c (fun x : S16.Idx => B ((x 0).val + c) col) r (c + l) = B (c + l) col := by
  refine ⟨fun p hp q => ?_, fun q hq => ?_, fun l hl => ?_⟩
  · unfold putRow
    rw [if_neg fun h => hp h.1]
  · unfold putRow
    split_ifs with h
    · rw [lane_lt _ (show q - c < 16 by omega)]
      change B (q - c + c) col = _
      rw [show q - c + c = q by omega]
    · exact hq
  · unfold putRow
    rw [if_pos ⟨rfl, by omega, by omega⟩, lane_lt _ (show c + l - c < 16 by omega)]
    change B (c + l - c + c) col = _
    rw [show c + l - c + c = c + l by omega]

theorem later_small : ∀ l ∈ laterLanes, l.1 < 16 := by
  intro l hl
  simp only [laterLanes, List.mem_cons, List.not_mem_nil, or_false] at hl
  rcases hl with rfl | rfl | rfl | rfl | rfl | rfl | rfl | rfl | rfl | rfl | rfl | rfl | rfl | rfl | rfl <;> simp

theorem later_cover {l : ℕ} (h0 : 0 < l) (hl : l < 16) : ∃ x ∈ laterLanes, x.1 = l := by
  interval_cases l <;> simp [laterLanes]

include hf in
/-- A group's start: the staging buffer has room. -/
theorem wp_room {nd j : ℕ} (hj : j ≤ 128) (h16 : j % 16 = 0) {α : Type} {p : TileProg F i α} {Q : α → sProp 𝕄} :
    State d i O W₀ f v tb nd j ⊢ iprop((State d i O W₀ f v tb nd (if j = 128 then 0 else j) -∗ run d i p Q)
      -∗ run d i (if Scalar.cmpi .ne (Scalar.extui (Scalar.cmpi .eq (BitVec.ofNat 32 j) 128#32) : BitVec 32) 0#32 = 1#1 then
            flush i (vec fun l => l) (BitVec.ofNat 32 (106496 + f * 128)) >>= fun _ => p
          else p) Q) := by
  have hc := (full_iff hj h16).1
  by_cases h : j = 128
  · rw [if_pos (hc.mpr h), if_pos h, run_bind]
    iintro H Hk
    iapply (wp_flush hf) $$ H
    iexact Hk
  · rw [if_neg fun e => h (hc.mp e), if_neg h]
    iintro H Hk
    iapply Hk
    iexact H

include hf hv in
theorem wp_group {h1 : k0_cond1 i = 1#1} {buf : Memref sig .scVector .vmem S64x256 .f32} {qb : PosShare TreeShare} {B : ℕ → ℕ → Elt F .f32} {c g j : ℕ}
    (hB : ∀ a < 64, ∀ b < 256, B a b = tb a (256 * c + b)) (hg : off v c + 16 * g < off v (c + 1)) (hj : j ≤ 128) (h16 : j % 16 = 0)
    {s : ℕ → BitVec 32} (hs : ∀ k < 4096, s (pos v k) = recW v k) {Q : BitVec 32 → sProp 𝕄} :
    iprop(holds d i buf qb (nat2 B) ∗ holds (F := F) d i mSort fullShare (nat1 s) ∗ State d i O W₀ f v tb (off v c + 16 * g) j)
      ⊢ iprop((iprop(holds d i buf qb (nat2 B) ∗ holds (F := F) d i mSort fullShare (nat1 s)
          ∗ State d i O W₀ f v tb (min (off v (c + 1)) (off v c + 16 * g + 16)) ((if j = 128 then 0 else j) + 16))
          -∗ Q (BitVec.ofNat 32 ((if j = 128 then 0 else j) + 16)))
        -∗ run d i (group i h1 buf (BitVec.ofNat 32 f) (vec fun l => l) (BitVec.ofNat 32 (106496 + f * 128)) (vec fun l => 106496 + f * 128 + l)
            (offW v c) (offW v (c + 1)) (BitVec.ofNat 32 g) (BitVec.ofNat 32 j)) Q) := by
  unfold group groupHead
  rw [(full_iff hj h16).2]
  generalize hj' : (if j = 128 then 0 else j) = j'
  have hj1 : j' + 16 ≤ 128 := by subst hj'; split_ifs <;> omega
  iintro ⟨Hb, Hs, HS⟩ Hk
  rw [run_bind]
  dsimp only
  iapply (wp_room hf hj h16) $$ HS
  rw [hj']
  iintro HS
  have hoff : off v (c + 1) ≤ 4096 := off_le v _
  have hex : ∀ l, ∃ k, k < 4096 ∧ pos v k = min (off v c + 16 * g + l) (off v (c + 1) - 1) := fun l => exists_pos v (p := min (off v c + 16 * g + l) (off v (c + 1) - 1)) (by omega)
  choose kk hkk using hex
  have hvk : ∀ l, v (kk l) = 256 * c + v (kk l) % 256 := fun l => by
    have := bucket_of_pos v (hkk l).1 (c := c) (by rw [(hkk l).2]; omega) (by rw [(hkk l).2]; omega)
    omega
  -- The sixteen records.
  rw [show Scalar.addi (offW v c) (Scalar.muli (BitVec.ofNat 32 g) 16#32) = BitVec.ofNat 32 (off v c + 16 * g) from by
      rw [Nat.mul_comm]; exact ((BitVec.ofNat_add _ _).trans (congrArg _ (BitVec.ofNat_mul _ _))).symm,
    show Scalar.subi (offW v (c + 1)) 1#32 = BitVec.ofNat 32 (off v (c + 1) - 1) from word_sub (by omega),
    vec_broadcast (off v c + 16 * g), vec_broadcast (off v (c + 1) - 1), vec_broadcast j', vec_broadcast (off v (c + 1)), vec_broadcast f, vec_addi, vec_addi,
    vec_minsi (fun l hl => by omega) (fun l hl => by omega), run_bind]
  iapply (wp_gather (F := F) (d := d) (i := i) (q := fullShare) (m := mSort) (W := (nat1 s : S4096.Idx → Elt F .i32))
    (inRange_vec (n := 4096) (a := fun l => min (off v c + 16 * g + l) (off v (c + 1) - 1)) (fun l hl => by omega) fun l hl => by omega)) $$ Hs
  iintro Hs
  rw [loadIdx_vec (F := F) (e := .i32) s (fun l hl => by omega),
    show (fun x : S16.Idx => s (min (off v c + 16 * g + (x 0).val) (off v (c + 1) - 1))) = vec fun l => kk l * 256 + v (kk l) % 256 from
      funext fun x => by rw [← (hkk _).2, hs _ (hkk _).1]; rfl]
  rw [vec_shr8 (fun l hl => by have := (hkk l).1; omega), show broadcast S16 26#32 = vec fun _ => 26 from rfl, vec_muli, vec_addi,
    vec_select (fun l hl => by omega) (fun l hl => by omega), run_bind]
  -- Their names.
  unfold State
  icases HS with ⟨%ox, %sg, %out, %hG, Hox, Hsg, Hout, Hdump, Hsem, Hduty⟩
  iapply (wp_scatter (F := F) (d := d) (i := i) (m := mOidx) (W := (nat1 ox : S128.Idx → Elt F .i32))
    (inRange_vec (n := 128) (a := fun l => j' + l) (fun l hl => by omega) fun l hl => by omega)) $$ Hox
  iintro Hox
  rw [storeIdx_nat1 (F := F) (e := .i32)]
  -- The first record, in pieces.
  rw [lane_extract _ slices_S16_o0_S1 (by decide), lane_vec _ (by decide), column_word,
    show Scalar.addi (BitVec.ofNat 32 j') 0#32 = BitVec.ofNat 32 (j' + 0) from (BitVec.ofNat_add _ _).symm, vec_broadcast, run_bind]
  have hr0 : (kk 0 * 256 + v (kk 0) % 256) % 256 < 256 := Nat.mod_lt _ (by decide)
  iapply (wp_cells (F := F) (h1 := h1) (col := (kk 0 * 256 + v (kk 0) % 256) % 256) (r := j' + 0) hr0 (by omega) [0#32] (by simp) sg) $$ [Hb Hsg]
  · isplitl [Hb] <;> iassumption
  iintro %sg₁ ⟨%h₁, Hb, Hsg⟩
  rw [run_bind]
  iapply (wp_peek (F := F) (h1 := h1) (c := 16) hr0 (by decide)) $$ Hb
  iintro Hb
  iapply (run_pure d i)
  dsimp only
  rw [run_bind]
  iapply (wp_poke (F := F) (h1 := h1) (c := 16) (show j' + 0 < 128 by omega) (by decide)) $$ Hsg
  iintro Hsg
  rw [run_bind]
  have h₂ := putRow_spec sg₁ B (j' + 0) 16 ((kk 0 * 256 + v (kk 0) % 256) % 256)
  generalize putRow sg₁ (j' + 0) 16 (fun x : S16.Idx => B ((x 0).val + 16) ((kk 0 * 256 + v (kk 0) % 256) % 256)) = sg₂ at h₂ ⊢
  iapply (wp_cells (F := F) (h1 := h1) (col := (kk 0 * 256 + v (kk 0) % 256) % 256) (r := j' + 0) hr0 (by omega) [32#32, 48#32] (by simp) sg₂) $$ [Hb Hsg]
  · isplitl [Hb] <;> iassumption
  iintro %sg₃ ⟨%h₃, Hb, Hsg⟩
  rw [run_bind]
  -- The others.
  iapply (wp_lanes (F := F) (h1 := h1) (rec := fun l => kk l * 256 + v (kk l) % 256) hj1 laterLanes later_small sg₃) $$ [Hb Hsg]
  · isplitl [Hb] <;> iassumption
  iintro %sg₄ ⟨%h₄, Hb, Hsg⟩
  rw [show Scalar.addi (BitVec.ofNat 32 j') 16#32 = BitVec.ofNat 32 (j' + 16) from (BitVec.ofNat_add _ _).symm]
  iapply (run_pure d i)
  iapply Hk
  isplitl [Hb]; · iexact Hb
  isplitl [Hs]; · iexact Hs
  iexists _, sg₄, out
  isplitr
  rotate_left
  · isplitl [Hox]; · iexact Hox
    isplitl [Hsg]; · iexact Hsg
    isplitl [Hout]; · iexact Hout
    isplitl [Hdump]; · iexact Hdump
    isplitl [Hsem] <;> iassumption
  ipureintro
  refine hG.step hf hj1 hg (fun l => (hkk l).1) (fun l => (hkk l).2) (w := fun l => if off v c + 16 * g + l < off v (c + 1) then kk l * 26 + f else 106496 + f * 128 + l)
    (fun l => rfl) (fun p => ?_) (fun p hp q => ?_) fun l hl q hq => ?_
  · rw [put_run ox (by omega)]
    unfold over
    by_cases hp : j' ≤ p ∧ p < j' + 16
    · rw [if_pos hp, if_pos hp, lane_vec _ (by omega)]
      refine congrArg (BitVec.ofNat 32) ?_
      rw [show (kk (p - j') * 256 + v (kk (p - j')) % 256) / 256 = kk (p - j') by omega]
    · rw [if_neg hp, if_neg hp]
  · rw [h₄.1 p hp, h₃.1 p (by omega), h₂.1 p (by omega), h₁.1 p (by omega)]
  · have hBt : B q ((kk l * 256 + v (kk l) % 256) % 256) = tb q (v (kk l)) := by
      rw [hB q hq _ (Nat.mod_lt _ (by decide)), show 256 * c + (kk l * 256 + v (kk l) % 256) % 256 = v (kk l) by have := hvk l; omega]
    rw [← hBt]
    by_cases h0 : l = 0
    · subst h0
      refine h₄.2.1 0 hl q ?_
      by_cases q1 : q < 16
      · refine h₃.2.1 q (h₂.2.1 q ?_)
        have := h₁.2.2 0#32 (by simp) q q1
        rwa [show (0#32).toNat + q = q by simp] at this
      by_cases q2 : q < 32
      · refine h₃.2.1 q ?_
        have := h₂.2.2 (q - 16) (by omega)
        rwa [show 16 + (q - 16) = q by omega] at this
      by_cases q3 : q < 48
      · have := h₃.2.2 32#32 (by simp) (q - 32) (by omega)
        rwa [show (32#32).toNat + (q - 32) = q by change 32 + (q - 32) = q; omega] at this
      · have := h₃.2.2 48#32 (by simp) (q - 48) (by omega)
        rwa [show (48#32).toNat + (q - 48) = q by change 48 + (q - 48) = q; omega] at this
    · obtain ⟨x, hx, rfl⟩ := later_cover (Nat.pos_of_ne_zero h0) hl
      exact h₄.2.2 x hx q hq

/-! ## The loop over the groups of a chunk -/

/-- The groups of a chunk, as a word. -/
theorem groups_word {a b : ℕ} (hab : a ≤ b) (hb : b ≤ 4096) :
    Scalar.subi (Scalar.shrsi (Scalar.subi (Scalar.addi (Scalar.subi (BitVec.ofNat 32 b) (BitVec.ofNat 32 a)) 16#32) 1#32) 4#32) 0#32
      = BitVec.ofNat 32 ((b - a + 15) / 16) := by
  rw [show Scalar.subi (BitVec.ofNat 32 b) (BitVec.ofNat 32 a) = BitVec.ofNat 32 (b - a) from word_sub hab,
    show Scalar.addi (BitVec.ofNat 32 (b - a)) 16#32 = BitVec.ofNat 32 (b - a + 16) from (BitVec.ofNat_add _ _).symm,
    show Scalar.subi (BitVec.ofNat 32 (b - a + 16)) 1#32 = BitVec.ofNat 32 (b - a + 15) from word_sub (by omega)]
  refine (congrArg (fun x => Scalar.subi x 0#32) (word_shr (s := 4) (n := b - a + 15) (by decide) (by omega))).trans ?_
  exact word_sub (Nat.zero_le _)

theorem divsi_one (x : BitVec 32) : Scalar.divsi x 1#32 = x := by
  change IntOp.divsi .scalar x 1#32 = x
  unfold IntOp.divsi
  rw [if_neg (by unfold IntOp.SDivCorner; rintro (h | ⟨-, h⟩) <;> exact absurd h (by decide)), BitVec.sdiv_one]

theorem chunk_loop {a b : ℕ} (hab : a ≤ b) (hb : b ≤ 4096) :
    k0_t4_loop (BitVec.ofNat 32 a) (BitVec.ofNat 32 b) = ⟨0#32, BitVec.ofNat 32 ((b - a + 15) / 16), 1#32⟩ := by
  change (⟨0#32, 0#32 + Scalar.divsi (Scalar.subi (Scalar.shrsi (Scalar.subi (Scalar.addi (Scalar.subi (BitVec.ofNat 32 b) (BitVec.ofNat 32 a)) 16#32) 1#32) 4#32) 0#32) 1#32 * 1#32, 1#32⟩ : Scf.Loop 32) = _
  rw [groups_word hab hb, divsi_one, BitVec.mul_one, BitVec.zero_add]

theorem rest_loop {a b : ℕ} (hab : a ≤ b) (hb : b ≤ 4096) :
    k0_t5_loop (BitVec.ofNat 32 a) (BitVec.ofNat 32 b) = ⟨BitVec.ofNat 32 ((b - a + 15) / 16), BitVec.ofNat 32 ((b - a + 15) / 16), 1#32⟩ := by
  change (⟨0#32 + Scalar.divsi (Scalar.subi (Scalar.shrsi (Scalar.subi (Scalar.addi (Scalar.subi (BitVec.ofNat 32 b) (BitVec.ofNat 32 a)) 16#32) 1#32) 4#32) 0#32) 1#32 * 1#32,
    0#32 + Scalar.subi (Scalar.shrsi (Scalar.subi (Scalar.addi (Scalar.subi (BitVec.ofNat 32 b) (BitVec.ofNat 32 a)) 16#32) 1#32) 4#32) 0#32, 1#32⟩ : Scf.Loop 32) = _
  rw [groups_word hab hb, divsi_one, BitVec.mul_one, BitVec.zero_add]

theorem toInt_small {n : ℕ} (h : n < 2 ^ 31) : (BitVec.ofNat 32 n).toInt = n := by
  have h' : (BitVec.ofNat 32 n).toNat = n := by rw [BitVec.toNat_ofNat]; omega
  rw [BitVec.toInt_eq_toNat_of_lt (by omega), h']

theorem trips_of {a b : ℕ} (hab : a ≤ b) (hb : b < 2 ^ 30) :
    (⟨BitVec.ofNat 32 a, BitVec.ofNat 32 b, 1#32⟩ : Scf.Loop 32).trips = b - a ∧ (⟨BitVec.ofNat 32 a, BitVec.ofNat 32 b, 1#32⟩ : Scf.Loop 32).OK := by
  have h1 : (1#32).toInt = 1 := by decide
  have ht : (⟨BitVec.ofNat 32 a, BitVec.ofNat 32 b, 1#32⟩ : Scf.Loop 32).trips = b - a := by
    change Scf.trips (BitVec.ofNat 32 a) (BitVec.ofNat 32 b) 1#32 = _
    unfold Scf.trips
    rw [toInt_small (by omega), toInt_small (by omega), h1]
    omega
  refine ⟨ht, ?_⟩
  change Scf.OK (BitVec.ofNat 32 a) (BitVec.ofNat 32 b) 1#32
  have ht' : Scf.trips (BitVec.ofNat 32 a) (BitVec.ofNat 32 b) 1#32 = b - a := ht
  unfold Scf.OK
  rw [ht', h1]
  rw [toInt_small (by omega)]
  change (0 : ℤ) < 1 ∧ (a : ℤ) + ((b - a : ℕ) : ℤ) * 1 < 2 ^ 31
  omega

theorem groups_ok {a b : ℕ} (hab : a ≤ b) (hb : b ≤ 4096) (i : grid0.Coords) : k0_chk6 i (BitVec.ofNat 32 a) (BitVec.ofNat 32 b) := by
  unfold k0_chk6
  rw [chunk_loop hab hb, rest_loop hab hb]
  exact ⟨fun _ => (trips_of (a := 0) (Nat.zero_le _) (by omega)).2, fun _ => (trips_of le_rfl (by omega)).2⟩

include hf hv in
/-- All the groups of chunk `c`. -/
theorem wp_chunk {h1 : k0_cond1 i = 1#1} {buf : Memref sig .scVector .vmem S64x256 .f32} {qb : PosShare TreeShare} {B : ℕ → ℕ → Elt F .f32} {c j : ℕ}
    (hB : ∀ a < 64, ∀ b < 256, B a b = tb a (256 * c + b)) (hj : j ≤ 128) (h16 : j % 16 = 0)
    {s : ℕ → BitVec 32} (hs : ∀ k < 4096, s (pos v k) = recW v k) {h : k0_chk6 i (offW v c) (offW v (c + 1))} {Q : BitVec 32 → sProp 𝕄} :
    iprop(holds d i buf qb (nat2 B) ∗ holds (F := F) d i mSort fullShare (nat1 s) ∗ State d i O W₀ f v tb (off v c) j)
      ⊢ iprop((∀ j', iprop(⌜j' ≤ 128 ∧ j' % 16 = 0⌝ ∗ holds d i buf qb (nat2 B) ∗ holds (F := F) d i mSort fullShare (nat1 s)
          ∗ State d i O W₀ f v tb (off v (c + 1)) j') -∗ Q (BitVec.ofNat 32 j'))
        -∗ run d i (mainLoop i h1 buf (BitVec.ofNat 32 f) (vec fun l => l) (BitVec.ofNat 32 (106496 + f * 128)) (vec fun l => 106496 + f * 128 + l)
            (offW v c) (offW v (c + 1)) h 0#32 (BitVec.ofNat 32 j)) Q) := by
  have hmono : off v c ≤ off v (c + 1) := off_mono v (Nat.le_succ c)
  have hoff : off v (c + 1) ≤ 4096 := off_le v _
  have ht : (k0_t4_loop (offW v c) (offW v (c + 1))).trips = (off v (c + 1) - off v c + 15) / 16 := by
    rw [chunk_loop hmono hoff]
    exact (trips_of (a := 0) (Nat.zero_le _) (by omega)).1
  unfold mainLoop
  iintro H Hk
  iapply (run_for (k0_t4_loop (offW v c) (offW v (c + 1))) (k0_t4_ok i _ _ h h1) (BitVec.ofNat 32 j) _ (fun t w => iprop(∃ j' : ℕ, ⌜w = BitVec.ofNat 32 j' ∧ j' ≤ 128 ∧ j' % 16 = 0⌝
    ∗ holds d i buf qb (nat2 B) ∗ holds (F := F) d i mSort fullShare (nat1 s) ∗ State d i O W₀ f v tb (min (off v (c + 1)) (off v c + 16 * t)) j')) ?_ (Q := Q)) $$ [H]
  rotate_left
  · iexists j
    isplitr
    · ipureintro; exact ⟨rfl, hj, h16⟩
    · rw [show min (off v (c + 1)) (off v c + 16 * 0) = off v c by omega]; iexact H
  · iintro %_ ⟨%j', %hj', H⟩
    obtain ⟨rfl, hj', h16'⟩ := hj'
    iapply Hk
    isplitr
    · ipureintro; exact ⟨hj', h16'⟩
    · rw [ht, Nat.min_eq_left (by omega)]; iexact H
  intro t w
  have htt : t.val < (off v (c + 1) - off v c + 15) / 16 := ht ▸ t.isLt
  iintro ⟨%j', %hj', H⟩
  obtain ⟨rfl, hj', h16'⟩ := hj'
  rw [iv_one, Nat.min_eq_right (show off v c + 16 * t.val ≤ off v (c + 1) by omega)]
  iapply (wp_group (F := F) hf hv (h1 := h1) hB (show off v c + 16 * t.val < off v (c + 1) by omega) hj' h16' hs) $$ H
  iintro H
  iexists ((if j' = 128 then 0 else j') + 16)
  isplitr
  · ipureintro
    refine ⟨rfl, ?_, ?_⟩ <;> split_ifs <;> omega
  · rw [Nat.mul_succ, ← Nat.add_assoc]; iexact H

/-- The rest is nothing. -/
theorem wp_rest {h1 : k0_cond1 i = 1#1} {buf : Memref sig .scVector .vmem S64x256 .f32} {v1 : BitVec 32} {v5 : IVec S16 32} {dump : BitVec 32} {dumpLane : IVec S16 32}
    {c : ℕ} {lb j : BitVec 32} {h : k0_chk6 i (offW v c) (offW v (c + 1))} {Q : BitVec 32 → sProp 𝕄} :
    Q j ⊢ run d i (restLoop i h1 buf v1 v5 dump dumpLane (offW v c) (offW v (c + 1)) h lb j) Q := by
  have hmono : off v c ≤ off v (c + 1) := off_mono v (Nat.le_succ c)
  have hoff : off v (c + 1) ≤ 4096 := off_le v _
  have ht : (k0_t5_loop (offW v c) (offW v (c + 1))).trips = 0 := by
    rw [rest_loop hmono hoff, (trips_of le_rfl (by omega)).1, Nat.sub_self]
  unfold restLoop
  iintro H
  iapply (run_for (k0_t5_loop (offW v c) (offW v (c + 1))) (k0_t5_ok i _ _ h h1) j _ (fun t w => iprop(⌜w = j⌝ ∗ Q j)) ?_ (Q := Q)) $$ [H]
  rotate_left
  · isplitr
    · ipureintro; rfl
    · iexact H
  · iintro %w ⟨%hw, H⟩
    subst hw
    iexact H
  · intro t
    exact absurd t.isLt (by omega)

end Groups

end Cert.Proof
-- ==== Proof.Trips.lean ====
/-
  The trips over the chunks, three at a time, each into its own buffer and refetched once it is read; and the last chunk.
-/
module

public import proofs.«01_k».proof.Proof.Chunk

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {i : grid0.Coords} {O : CellTallies nD τ sig (HIx 1)} {W₀ : Waits sig (HIx 1)}

/-! ## Lanes over two axes, and a run of sixteen names -/

/-! ## Words of the grid point and of a trip -/

/-- The field of the tile at grid point `i`. -/
def fieldOf (i : grid0.Coords) : ℕ := (i 1).val * 2 + (i 0).val

theorem fieldOf_lt (i : grid0.Coords) : fieldOf i < 32 := by
  have h0 : (i 0).val < 2 := (i 0).isLt
  have h1 : (i 1).val < 16 := (i 1).isLt
  unfold fieldOf; omega

theorem tileNo_eq (i : grid0.Coords) : tileNo i = BitVec.ofNat 32 (fieldOf i) :=
  ((BitVec.ofNat_add _ _).trans (congrArg (· + BitVec.ofNat 32 (i 0).val) (BitVec.ofNat_mul _ _))).symm

theorem tileNo_toNat (i : grid0.Coords) : (tileNo i).toNat = fieldOf i := by
  have := fieldOf_lt i
  rw [tileNo_eq, BitVec.toNat_ofNat]; omega

theorem cond_slt (a : ℕ) (ha : a < 2 ^ 31) (b : ℕ) (hb : b < 2 ^ 31) :
    Scalar.cmpi .ne (Scalar.extui (Scalar.cmpi .slt (BitVec.ofNat 32 a) (BitVec.ofNat 32 b)) : BitVec 32) 0#32 = 1#1 ↔ a < b := by
  rw [show Scalar.cmpi .slt (BitVec.ofNat 32 a) (BitVec.ofNat 32 b) = BitVec.ofBool (decide (a < b)) from congrArg BitVec.ofBool (word_slt ha hb)]
  by_cases h : a < b
  · rw [decide_eq_true h]; exact iff_of_true (by decide) h
  · rw [decide_eq_false h]; exact iff_of_false (by decide) h

theorem working_iff (i : grid0.Coords) : k0_cond1 i = 1#1 ↔ fieldOf i < 26 := by
  have := fieldOf_lt i
  rw [← cond_slt (fieldOf i) (by omega) 26 (by decide), ← tileNo_eq]
  rfl

theorem block_off (i : grid0.Coords) (n : ℕ) : (![(tileNo i).toNat, 0, n] : Fin 3 → ℕ) = ![fieldOf i, 0, n] := by rw [tileNo_toNat]

theorem trip_word (t : ℕ) (b : ℕ) : Scalar.addi (Scalar.muli 3#32 (Scf.iv 0#32 1#32 t)) (BitVec.ofNat 32 b) = BitVec.ofNat 32 (3 * t + b) := by
  rw [iv_one]
  exact ((BitVec.ofNat_add _ _).trans (congrArg (· + BitVec.ofNat 32 b) (BitVec.ofNat_mul _ _))).symm

theorem trip_lt (t : Fin k0_t3_loop.trips) : t.val < 130 := trips3 ▸ t.isLt

theorem next_off (i : grid0.Coords) (t : Fin k0_t3_loop.trips) {b : ℕ} (hb : b < 10) :
    (![(tileNo i).toNat, 0, (Scalar.muli (Scalar.addi (Scalar.muli 3#32 (Scf.iv 0#32 1#32 t.val)) (BitVec.ofNat 32 b)) 256#32).toNat] : Fin 3 → ℕ)
      = ![fieldOf i, 0, 256 * (3 * t.val + b)] := by
  have ht := trip_lt t
  rw [tileNo_toNat, trip_word, show Scalar.muli (BitVec.ofNat 32 (3 * t.val + b)) 256#32 = BitVec.ofNat 32 ((3 * t.val + b) * 256) from (BitVec.ofNat_mul _ _).symm,
    BitVec.toNat_ofNat, Nat.mod_eq_of_lt (by omega), Nat.mul_comm]

theorem next_iff (t : Fin k0_t3_loop.trips) {b : ℕ} (hb : b < 10) :
    Scalar.cmpi .ne (Scalar.extui (Scalar.cmpi .slt (Scalar.addi (Scalar.muli 3#32 (Scf.iv 0#32 1#32 t.val)) (BitVec.ofNat 32 b)) 390#32) : BitVec 32) 0#32 = 1#1
      ↔ 3 * t.val + b < 390 := by
  have ht := trip_lt t
  rw [trip_word]
  exact cond_slt _ (by omega) 390 (by decide)

theorem word_off0 : ∀ t : Fin k0_t3_loop.trips, k0_off6 t 0 = 3 * t.val := by decide +kernel
theorem word_off1 : ∀ t : Fin k0_t3_loop.trips, k0_off7 t 0 = 3 * t.val + 1 := by decide +kernel
theorem word_off1' : ∀ t : Fin k0_t3_loop.trips, k0_off10 t 0 = 3 * t.val + 1 := by decide +kernel
theorem word_off2 : ∀ t : Fin k0_t3_loop.trips, k0_off11 t 0 = 3 * t.val + 2 := by decide +kernel
theorem word_off2' : ∀ t : Fin k0_t3_loop.trips, k0_off14 t 0 = 3 * t.val + 2 := by decide +kernel
theorem word_off3 : ∀ t : Fin k0_t3_loop.trips, k0_off15 t 0 = 3 * t.val + 3 := by decide +kernel

/-- A bucket's start, read from scalar memory. -/
theorem wp_wordAt {v : ℕ → ℕ} {os : ℕ → BitVec 32} (hos : ∀ p < 400, os p = offW v p) {off : Fin 1 → ℕ} {h : ∀ a, off a + S1.size a ≤ S400.size a} {c : ℕ} (hc : off 0 = c)
    {Q : Elt F .i32 → sProp 𝕄} :
    holds (F := F) d i mOff fullShare (nat1 os) ⊢ iprop((holds (F := F) d i mOff fullShare (nat1 os) -∗ Q (offW v c)) -∗ run d i (smemLoad mOff (wordAt off h) numel1_S1 rfl) Q) := by
  iintro H Hk
  iapply (wp_smemLoad (F := F) (W := nat1 os) (w := offW v c) (fun x => by
    have hx : (x 0).val = 0 := by have : (x 0).val < 1 := (x 0).isLt; omega
    have h0 : off 0 + 1 ≤ 400 := h 0
    change os (off 0 + 1 * (x 0).val) = _
    rw [hx, Nat.mul_zero, Nat.add_zero, hos _ (by omega), hc])) $$ H
  iexact Hk

/-! ## A buffer: a chunk on its way to it, or nothing -/

section Slots

/-- The part of field `f` that is chunk `c`. -/
abbrev chunk (T : ℕ → ℕ → ℕ → Elt F .f32) (f c : ℕ) : S64x256.Idx → Elt F .f32 := nat2 fun p r => T f p (256 * c + r)

/-- Chunk `c` is on its way. -/
def coming (d : Dev nD) (i : grid0.Coords) (T : ℕ → ℕ → ℕ → Elt F .f32) (f : ℕ) (q : PosShare TreeShare) (buf : Memref sig .scVector .vmem S64x256 .f32) (sem : DmaSem sig) (c : ℕ) : sProp 𝕄 :=
  Transfers.Flight EC (thr d i) (.dma sem) none buf.view.dmaCredit iprop(holds d i mTab q (nat3 T) ∗ holds d i buf fullShare (chunk T f c))

/-- Nothing is on its way. -/
def idle (d : Dev nD) (i : grid0.Coords) (T : ℕ → ℕ → ℕ → Elt F .f32) (q : PosShare TreeShare) (buf : Memref sig .scVector .vmem S64x256 .f32) (sem : DmaSem sig) : sProp 𝕄 :=
  iprop(holds d i mTab q (nat3 T) ∗ (∃ W, holds d i buf fullShare W) ∗ semVal (thr d i, SemLoc.dma sem) 0)

/-- A buffer before chunk `c` is waited for. -/
def slot (d : Dev nD) (i : grid0.Coords) (T : ℕ → ℕ → ℕ → Elt F .f32) (f : ℕ) (q : PosShare TreeShare) (buf : Memref sig .scVector .vmem S64x256 .f32) (sem : DmaSem sig) (c : ℕ) : sProp 𝕄 :=
  if c < 390 then coming d i T f q buf sem c else idle d i T q buf sem

variable {T : ℕ → ℕ → ℕ → Elt F .f32} {f : ℕ} {q : PosShare TreeShare} {buf : Memref sig .scVector .vmem S64x256 .f32} {sem : DmaSem sig}

theorem wp_fetch {off : Fin 3 → ℕ} {h : ∀ a, off a + S1x64x256.size a ≤ S26x64x100000.size a} {hb : buf.IsWhole} {c : ℕ} (ho : off = ![f, 0, 256 * c]) {Q : PUnit → sProp 𝕄} :
    idle d i T q buf sem ⊢ iprop((coming d i T f q buf sem c -∗ Q ⟨⟩) -∗ run d i (fetch i off h buf hb sem) Q) := by
  unfold idle fetch
  iintro ⟨Ht, ⟨%W, Hb⟩, Hv⟩ Hk
  iapply (wp_fetchBlock (F := F) (b := mTab) (buf := buf) (off := off) (sem := sem) (q := q) (T := T) (W := W) (Q := Q) (by decide)) $$ [Ht Hb Hv]
  · isplitl [Ht]; · iexact Ht
    isplitl [Hb] <;> iassumption
  have he : (fun p r => T (off 0) (off 1 + p) (off 2 + r)) = fun p r => T f p (256 * c + r) := by
    subst ho
    funext p r
    change T f (0 + p) (256 * c + r) = _
    rw [Nat.zero_add]
  rw [he]
  iexact Hk

theorem wp_refetch {α : Type} {k : BitVec 1} {off : Fin 3 → ℕ} {h : k = 1#1 → ∀ a, off a + S1x64x256.size a ≤ S26x64x100000.size a} {hb : buf.IsWhole} {c : ℕ}
    (hk : k = 1#1 ↔ c < 390) (ho : off = ![f, 0, 256 * c]) {p : TileProg F i α} {Q : α → sProp 𝕄} :
    idle d i T q buf sem ⊢ iprop((slot d i T f q buf sem c -∗ run d i p Q)
      -∗ run d i (if h' : k = 1#1 then fetch i off (h h') buf hb sem >>= fun _ => p else p) Q) := by
  unfold slot
  by_cases hc : k = 1#1
  · rw [dif_pos hc, if_pos (hk.mp hc), run_bind]
    iintro H Hk
    iapply (wp_fetch ho) $$ H
    iexact Hk
  · rw [dif_neg hc, if_neg fun h => hc (hk.mpr h)]
    iintro H Hk
    iapply Hk
    iexact H

theorem wp_landed {v : ℕ → ℕ} {tb : ℕ → ℕ → Elt F .f32} {nd j : ℕ} {off : Fin 3 → ℕ} {h : ∀ a, off a + S1x64x256.size a ≤ S26x64x100000.size a} {hb : buf.IsWhole} {c : ℕ} {Q : PUnit → sProp 𝕄} :
    iprop(coming d i T f q buf sem c ∗ State d i O W₀ f v tb nd j)
      ⊢ iprop((holds d i mTab q (nat3 T) ∗ holds d i buf fullShare (chunk T f c) ∗ semVal (thr d i, SemLoc.dma sem) 0 ∗ State d i O W₀ f v tb nd j -∗ Q ⟨⟩)
        -∗ run d i (landed i off h buf hb sem) Q) := by
  unfold coming landed State
  iintro ⟨Hf, %ox, %sg, %out, %hG, Hox, Hsg, Hout, Hdump, Hsem, Hduty⟩ Hk
  iapply (wp_wait (F := F) (dstw := buf) (Q := Q) rfl) $$ [Hf Hduty]
  · isplitl [Hf] <;> iassumption
  iintro ⟨⟨Ht, Hb⟩, Hv, Hduty⟩
  iapply Hk
  isplitl [Ht]; · iexact Ht
  isplitl [Hb]; · iexact Hb
  isplitl [Hv]; · iexact Hv
  iexists ox, sg, out
  isplitr
  · ipureintro; exact hG
  · isplitl [Hox]; · iexact Hox
    isplitl [Hsg]; · iexact Hsg
    isplitl [Hout]; · iexact Hout
    isplitl [Hdump]; · iexact Hdump
    isplitl [Hsem] <;> iassumption

end Slots

/-! ## A trip -/

section Trip

variable {T : ℕ → ℕ → ℕ → Elt F .f32} {v : ℕ → ℕ} (hv : ∀ k < 4096, v k < 100000) {tb : ℕ → ℕ → Elt F .f32}
  (htb : ∀ a < 64, ∀ b < 99968, tb a b = T (fieldOf i) a b) {q0 q1 q2 : PosShare TreeShare}

/-- What the trips carry: the starts, the sorted records, and the three buffers' slots from chunk `3 t` on. -/
def Before (d : Dev nD) (i : grid0.Coords) (O : CellTallies nD τ sig (HIx 1)) (W₀ : Waits sig (HIx 1)) (T : ℕ → ℕ → ℕ → Elt F .f32) (v : ℕ → ℕ) (tb : ℕ → ℕ → Elt F .f32)
    (q0 q1 q2 : PosShare TreeShare) (os s : ℕ → BitVec 32) (t j : ℕ) : sProp 𝕄 :=
  iprop(slot d i T (fieldOf i) q0 mB0 cc0_scratch10.sem (3 * t) ∗ slot d i T (fieldOf i) q1 mB1 cc0_scratch11.sem (3 * t + 1) ∗ slot d i T (fieldOf i) q2 mB2 cc0_scratch12.sem (3 * t + 2)
    ∗ holds (F := F) d i mOff fullShare (nat1 os) ∗ holds (F := F) d i mSort fullShare (nat1 s) ∗ State d i O W₀ (fieldOf i) v tb (off v (3 * t)) j)

include hv htb in
theorem wp_trip {h1 : k0_cond1 i = 1#1} {os s : ℕ → BitVec 32} (hos : ∀ p < 400, os p = offW v p) (hs : ∀ k < 4096, s (pos v k) = recW v k)
    (t : Fin k0_t3_loop.trips) {j : ℕ} (hj : j ≤ 128) (h16 : j % 16 = 0) {Q : BitVec 32 → sProp 𝕄} :
    Before d i O W₀ T v tb q0 q1 q2 os s t.val j
      ⊢ iprop((∀ j', iprop(⌜j' ≤ 128 ∧ j' % 16 = 0⌝ ∗ Before d i O W₀ T v tb q0 q1 q2 os s (t.val + 1) j') -∗ Q (BitVec.ofNat 32 j'))
        -∗ run d i (trip i h1 (BitVec.ofNat 32 (fieldOf i)) (vec fun l => l) (BitVec.ofNat 32 (106496 + fieldOf i * 128)) (vec fun l => 106496 + fieldOf i * 128 + l) t (BitVec.ofNat 32 j)) Q) := by
  have ht := trip_lt t
  have hf : fieldOf i < 26 := (working_iff i).mp h1
  have hB : ∀ c < 390, ∀ a < 64, ∀ b < 256, T (fieldOf i) a (256 * c + b) = tb a (256 * c + b) := fun c hc a ha b hb => (htb a ha _ (by omega)).symm
  unfold Before trip tripA tripB
  have e0 : ∀ buf q sem, slot d i T (fieldOf i) q buf sem (3 * t.val) = coming d i T (fieldOf i) q buf sem (3 * t.val) := fun _ _ _ => if_pos (by omega)
  have e1 : ∀ buf q sem, slot d i T (fieldOf i) q buf sem (3 * t.val + 1) = coming d i T (fieldOf i) q buf sem (3 * t.val + 1) := fun _ _ _ => if_pos (by omega)
  have e2 : ∀ buf q sem, slot d i T (fieldOf i) q buf sem (3 * t.val + 2) = coming d i T (fieldOf i) q buf sem (3 * t.val + 2) := fun _ _ _ => if_pos (by omega)
  rw [e0, e1, e2, run_bind, run_bind]
  iintro ⟨H0, H1, H2, Hos, Hs, HS⟩ Hk
  -- The first chunk.
  iapply (wp_landed (F := F) (buf := mB0)) $$ [H0 HS]
  · isplitl [H0] <;> iassumption
  iintro ⟨Ht0, Hb, Hv0, HS⟩
  rw [run_bind]
  iapply (wp_wordAt hos (word_off0 t)) $$ Hos
  iintro Hos
  rw [run_bind]
  iapply (wp_wordAt hos (word_off1 t)) $$ Hos
  iintro Hos
  rw [run_bind]
  iapply (wp_assumed (F := F) (groups_ok (off_mono v (Nat.le_succ (3 * t.val))) (off_le v _) i))
  rw [run_bind]
  iapply (wp_chunk (F := F) hf hv (h1 := h1) (hB (3 * t.val) (by omega)) hj h16 hs) $$ [Hb Hs HS]
  · isplitl [Hb]; · iexact Hb
    isplitl [Hs] <;> iassumption
  iintro %j₁ ⟨%hj₁, Hb, Hs, HS⟩
  rw [run_bind]
  iapply (wp_rest (F := F))
  dsimp only
  iapply (wp_refetch (F := F) (T := T) (f := fieldOf i) (buf := mB0) (sem := cc0_scratch10.sem) (next_iff t (b := 3) (by decide)) (next_off i t (b := 3) (by decide))) $$ [Ht0 Hb Hv0]
  · unfold idle
    isplitl [Ht0]; · iexact Ht0
    isplitl [Hb]
    · iexists _; iexact Hb
    · iexact Hv0
  iintro H0
  -- The second.
  rw [run_bind]
  iapply (wp_landed (F := F) (buf := mB1)) $$ [H1 HS]
  · isplitl [H1] <;> iassumption
  iintro ⟨Ht1, Hb, Hv1, HS⟩
  rw [run_bind]
  iapply (wp_wordAt hos (word_off1' t)) $$ Hos
  iintro Hos
  iapply (run_pure d i)
  dsimp only
  rw [run_bind, run_bind]
  iapply (wp_wordAt hos (c := 3 * t.val + 1 + 1) (word_off2 t)) $$ Hos
  iintro Hos
  rw [run_bind]
  iapply (wp_assumed (F := F) (groups_ok (off_mono v (Nat.le_succ (3 * t.val + 1))) (off_le v _) i))
  rw [run_bind]
  iapply (wp_chunk (F := F) hf hv (h1 := h1) (hB (3 * t.val + 1) (by omega)) hj₁.1 hj₁.2 hs) $$ [Hb Hs HS]
  · isplitl [Hb]; · iexact Hb
    isplitl [Hs] <;> iassumption
  iintro %j₂ ⟨%hj₂, Hb, Hs, HS⟩
  rw [run_bind]
  iapply (wp_rest (F := F))
  iapply (wp_refetch (F := F) (T := T) (f := fieldOf i) (buf := mB1) (sem := cc0_scratch11.sem) (next_iff t (b := 4) (by decide)) (next_off i t (b := 4) (by decide))) $$ [Ht1 Hb Hv1]
  · unfold idle
    isplitl [Ht1]; · iexact Ht1
    isplitl [Hb]
    · iexists _; iexact Hb
    · iexact Hv1
  iintro H1
  -- The third.
  rw [run_bind]
  iapply (wp_landed (F := F) (buf := mB2)) $$ [H2 HS]
  · isplitl [H2] <;> iassumption
  iintro ⟨Ht2, Hb, Hv2, HS⟩
  rw [run_bind]
  iapply (wp_wordAt hos (word_off2' t)) $$ Hos
  iintro Hos
  rw [run_bind]
  iapply (wp_wordAt hos (c := 3 * t.val + 2 + 1) (word_off3 t)) $$ Hos
  iintro Hos
  rw [run_bind]
  iapply (wp_assumed (F := F) (groups_ok (off_mono v (Nat.le_succ (3 * t.val + 2))) (off_le v _) i))
  iapply (run_pure d i)
  dsimp only
  rw [run_bind]
  iapply (wp_chunk (F := F) hf hv (h1 := h1) (hB (3 * t.val + 2) (by omega)) hj₂.1 hj₂.2 hs) $$ [Hb Hs HS]
  · isplitl [Hb]; · iexact Hb
    isplitl [Hs] <;> iassumption
  iintro %j₃ ⟨%hj₃, Hb, Hs, HS⟩
  rw [run_bind]
  iapply (wp_rest (F := F))
  iapply (wp_refetch (F := F) (T := T) (f := fieldOf i) (buf := mB2) (sem := cc0_scratch12.sem) (next_iff t (b := 5) (by decide)) (next_off i t (b := 5) (by decide))) $$ [Ht2 Hb Hv2]
  · unfold idle
    isplitl [Ht2]; · iexact Ht2
    isplitl [Hb]
    · iexists _; iexact Hb
    · iexact Hv2
  iintro H2
  iapply (run_pure d i)
  iapply Hk
  isplitr
  · ipureintro; exact hj₃
  rw [show 3 * (t.val + 1) = 3 * t.val + 3 from by omega]
  isplitl [H0]; · iexact H0
  isplitl [H1]; · iexact H1
  isplitl [H2]; · iexact H2
  isplitl [Hos]; · iexact Hos
  isplitl [Hs] <;> iassumption

/-! ## The last chunk -/

theorem exists_nat2 {n m : ℕ} {α : Type} (hn : 0 < n) (hm : 0 < m) (W : (⟨2, ![n, m]⟩ : Shape).Idx → α) : ∃ g : ℕ → ℕ → α, W = nat2 g := by
  refine ⟨fun p r => W fun a => match a with
    | ⟨0, _⟩ => ⟨p % n, Nat.mod_lt _ hn⟩
    | ⟨1, _⟩ => ⟨r % m, Nat.mod_lt _ hm⟩, ?_⟩
  funext x
  refine congrArg W (funext fun a => ?_)
  match a with
  | ⟨0, _⟩ => exact Fin.ext (Nat.mod_eq_of_lt (x 0).isLt).symm
  | ⟨1, _⟩ => exact Fin.ext (Nat.mod_eq_of_lt (x 1).isLt).symm

/-- What a tile ends with: every row of its field in the output. -/
def Ended (d : Dev nD) (i : grid0.Coords) (O : CellTallies nD τ sig (HIx 1)) (W₀ : Waits sig (HIx 1)) (v : ℕ → ℕ) (tb : ℕ → ℕ → Elt F .f32) : sProp 𝕄 :=
  iprop(∃ (ox : ℕ → BitVec 32) (sg out : ℕ → ℕ → Elt F .f32), ⌜∀ k < 4096, ∀ q < 64, out (k * 26 + fieldOf i) q = tb q (v k)⌝ ∗ holds (F := F) d i mOidx fullShare (nat1 ox)
    ∗ holds d i mStag fullShare (nat2 sg) ∗ outOwn d i (fieldOf i) out ∗ outDump d i (fieldOf i) ∗ semVal (thr d i, SemLoc.dma cc0_scratch13.sem) 0 ∗ duty d i O W₀)

/-- What the last chunk is read from, and what it leaves. -/
def Rest (d : Dev nD) (i : grid0.Coords) (T U : ℕ → ℕ → ℕ → Elt F .f32) (q0 q1 q2 qu : PosShare TreeShare) (os s : ℕ → BitVec 32) : sProp 𝕄 :=
  iprop(idle d i T q0 mB0 cc0_scratch10.sem ∗ idle d i T q1 mB1 cc0_scratch11.sem ∗ idle d i T q2 mB2 cc0_scratch12.sem
    ∗ holds (F := F) d i mOff fullShare (nat1 os) ∗ holds (F := F) d i mSort fullShare (nat1 s)
    ∗ holds d i mTail qu (nat3 U) ∗ semVal (thr d i, SemLoc.dma cc0_scoped1.sem) 0 ∗ semVal (thr d i, SemLoc.dma cc0_scoped2.sem) 0)

theorem Rest_of_Before {os s : ℕ → BitVec 32} {j : ℕ} {U : ℕ → ℕ → ℕ → Elt F .f32} {qu : PosShare TreeShare} :
    iprop(Before d i O W₀ T v tb q0 q1 q2 os s 130 j ∗ holds d i mTail qu (nat3 U) ∗ semVal (thr d i, SemLoc.dma cc0_scoped1.sem) 0 ∗ semVal (thr d i, SemLoc.dma cc0_scoped2.sem) 0)
      ⊢ (iprop(Rest d i T U q0 q1 q2 qu os s ∗ State d i O W₀ (fieldOf i) v tb (off v 390) j) : sProp 𝕄) := by
  unfold Before Rest slot
  rw [if_neg (by decide), if_neg (by decide), if_neg (by decide)]
  iintro ⟨⟨H0, H1, H2, Hos, Hs, HS⟩, Hu, Hv1, Hv2⟩
  isplitr [HS]
  · isplitl [H0]; · iexact H0
    isplitl [H1]; · iexact H1
    isplitl [H2]; · iexact H2
    isplitl [Hos]; · iexact Hos
    isplitl [Hs]; · iexact Hs
    isplitl [Hu]; · iexact Hu
    isplitl [Hv1] <;> iassumption
  · iexact HS

/-- A wait for a transfer between groups. -/
theorem wp_waitState {sp sp' : Space} {s s' : Shape} {e e' : EltTy} {sem : DmaSem sig} {srcw : Memref sig .scVector sp' s' e'} {dstw : Memref sig .scVector sp s e}
    {hsrc : srcw.view.WordExact} {hdst : dstw.view.WordExact} {f nd j : ℕ} {D : sProp 𝕄} {Q : PUnit → sProp 𝕄} :
    iprop(Transfers.Flight EC (thr d i) (.dma sem) none dstw.view.dmaCredit D ∗ State d i O W₀ f v tb nd j)
      ⊢ iprop((D ∗ semVal (thr d i, SemLoc.dma sem) 0 ∗ State d i O W₀ f v tb nd j -∗ Q ⟨⟩) -∗ run d i (Prog.lift (.waitDma2 sem srcw dstw hsrc hdst)) Q) := by
  unfold State
  iintro ⟨Hf, %ox, %sg, %out, %hG, Hox, Hsg, Hout, Hdump, Hsem, Hduty⟩ Hk
  iapply (wp_wait (F := F) (dstw := dstw) (Q := Q) rfl) $$ [Hf Hduty]
  · isplitl [Hf] <;> iassumption
  iintro ⟨HD, Hv, Hduty⟩
  iapply Hk
  isplitl [HD]; · iexact HD
  isplitl [Hv]; · iexact Hv
  iexists ox, sg, out
  isplitr
  · ipureintro; exact hG
  · isplitl [Hox]; · iexact Hox
    isplitl [Hsg]; · iexact Hsg
    isplitl [Hout]; · iexact Hout
    isplitl [Hdump]; · iexact Hdump
    isplitl [Hsem] <;> iassumption

include hv htb in
/-- All the trips, then the last chunk and the last flush. -/
theorem wp_all {h1 : k0_cond1 i = 1#1} {os s : ℕ → BitVec 32} (hos : ∀ p < 400, os p = offW v p) (hs : ∀ k < 4096, s (pos v k) = recW v k)
    {U : ℕ → ℕ → ℕ → Elt F .f32} (hU : ∀ a < 64, ∀ b < 128, tb a (99968 + b) = U (fieldOf i) a b) {qu : PosShare TreeShare} {α : Type} {k : BitVec 32 → TileProg F i α} {Q : α → sProp 𝕄} :
    iprop(Before d i O W₀ T v tb q0 q1 q2 os s 0 0 ∗ holds d i mTail qu (nat3 U) ∗ semVal (thr d i, SemLoc.dma cc0_scoped1.sem) 0 ∗ semVal (thr d i, SemLoc.dma cc0_scoped2.sem) 0)
      ⊢ iprop((iprop(Rest d i T U q0 q1 q2 qu os s ∗ Ended d i O W₀ v tb) -∗ run d i (k (Scalar.addi (BitVec.ofNat 32 (106496 + fieldOf i * 128)) 32#32)) Q)
        -∗ run d i (trips i h1 (BitVec.ofNat 32 (fieldOf i)) (vec fun l => l) (BitVec.ofNat 32 (106496 + fieldOf i * 128)) (vec fun l => 106496 + fieldOf i * 128 + l)
            >>= fun j => tailChunk i h1 (BitVec.ofNat 32 (fieldOf i)) (vec fun l => l) (BitVec.ofNat 32 (106496 + fieldOf i * 128)) (vec fun l => 106496 + fieldOf i * 128 + l) j
            >>= k) Q) := by
  have hf : fieldOf i < 26 := (working_iff i).mp h1
  rw [run_bind]
  unfold trips
  rw [run_bind]
  iintro ⟨HB, Hu, Hv1, Hv2⟩ Hk
  iapply (run_for (F := F) k0_t3_loop (k0_t3_ok i h1) 0#32 _ (fun t w => iprop(∃ j : ℕ, ⌜w = BitVec.ofNat 32 j ∧ j ≤ 128 ∧ j % 16 = 0⌝ ∗ Before d i O W₀ T v tb q0 q1 q2 os s t j)) ?_) $$ [HB]
  rotate_left
  · iexists 0
    isplitr
    · ipureintro; exact ⟨rfl, by decide, rfl⟩
    · iexact HB
  rotate_left
  · intro t w
    iintro ⟨%j, %hj, H⟩
    obtain ⟨rfl, hj, h16⟩ := hj
    iapply (wp_trip hv htb hos hs t hj h16) $$ H
    iintro %j' ⟨%hj', H⟩
    iexists j'
    isplitr
    · ipureintro; exact ⟨rfl, hj'⟩
    · iexact H
  iintro %w ⟨%j, %hj, HB⟩
  obtain ⟨rfl, hj, h16⟩ := hj
  rw [trips3]
  ihave H := (Rest_of_Before (F := F) (U := U) (qu := qu)) $$ [HB Hu Hv1 Hv2]
  · isplitl [HB]; · iexact HB
    isplitl [Hu]; · iexact Hu
    isplitl [Hv1] <;> iassumption
  unfold Rest
  icases H with ⟨⟨H0, H1, H2, Hos, Hs, Hu, Hv1, Hv2⟩, HS⟩
  unfold idle
  icases H0 with ⟨Ht, ⟨%W, Hb⟩, Hv0⟩
  obtain ⟨g, rfl⟩ := exists_nat2 (n := 64) (m := 256) (by decide) (by decide) W
  rw [run_bind]
  iapply (wp_fetchHalf (F := F) (b := mTab) (off := k0_off17 i) (o := 0) (q := q0) (T := T) (g := g)) $$ [Ht Hb Hv1]
  · isplitl [Ht]; · iexact Ht
    isplitl [Hb] <;> iassumption
  iintro Hf
  rw [run_bind]
  iapply (wp_waitState (F := F) (dstw := half 0 inb_S64x256_S64x128_0_0)) $$ [Hf HS]
  · isplitl [Hf] <;> iassumption
  iintro ⟨⟨Ht, Hb⟩, Hv1, HS⟩
  rw [run_bind]
  iapply (wp_fetchHalf (F := F) (b := mTail) (off := k0_off18 i) (o := 128) (q := qu) (T := U)) $$ [Hu Hb Hv2]
  · isplitl [Hu]; · iexact Hu
    isplitl [Hb] <;> iassumption
  iintro Hf
  iapply (run_pure d i)
  unfold tailChunk
  rw [run_bind, run_bind]
  iapply (wp_waitState (F := F) (dstw := half 128 inb_S64x256_S64x128_0_128)) $$ [Hf HS]
  · isplitl [Hf] <;> iassumption
  iintro ⟨⟨Hu, Hb⟩, Hv2, HS⟩
  rw [run_bind]
  iapply (wp_wordAt hos (c := 390) rfl) $$ Hos
  iintro Hos
  rw [run_bind]
  iapply (wp_wordAt hos (c := 390 + 1) rfl) $$ Hos
  iintro Hos
  rw [run_bind]
  iapply (wp_assumed (F := F) (groups_ok (off_mono v (Nat.le_succ 390)) (off_le v _) i))
  rw [run_bind]
  have hB : ∀ a < 64, ∀ b < 256, splice (splice g 0 128 fun p r => T (k0_off17 i 0) (k0_off17 i 1 + p) (k0_off17 i 2 + r)) 128 128
      (fun p r => U (k0_off18 i 0) (k0_off18 i 1 + p) (k0_off18 i 2 + r)) a b = tb a (256 * 390 + b) := by
    intro a ha b hb
    rw [show k0_off17 i = ![fieldOf i, 0, 99840] from block_off i 99840, show k0_off18 i = ![fieldOf i, 0, 0] from block_off i 0]
    unfold splice
    by_cases h : 128 ≤ b ∧ b < 128 + 128
    · rw [if_pos h]
      change U (fieldOf i) (0 + a) (0 + (b - 128)) = _
      rw [show 256 * 390 + b = 99968 + (b - 128) by omega, hU a ha _ (by omega), Nat.zero_add, Nat.zero_add]
    · rw [if_neg h, if_pos (by omega)]
      change T (fieldOf i) (0 + a) (99840 + (b - 0)) = _
      rw [htb a ha _ (by omega), Nat.zero_add]
      rfl
  iapply (wp_chunk (F := F) hf hv (h1 := h1) hB hj h16 hs) $$ [Hb Hs HS]
  · isplitl [Hb]; · iexact Hb
    isplitl [Hs] <;> iassumption
  iintro %j₁ ⟨-, Hb, Hs, HS⟩
  rw [run_bind]
  iapply (wp_rest (F := F))
  dsimp only
  iapply (wp_scattered (F := F) hf) $$ HS
  iintro %ox %sg %out ⟨%hG, Hox, Hsg, Hout, Hdump, Hsem, Hduty⟩
  rw [run_bind]
  iapply (wp_resetAt (F := F) hf (dumpRows.take 2) ox) $$ Hox
  iintro %ox' ⟨-, Hox⟩
  iapply (run_pure d i)
  iapply Hk
  isplitr [Hox Hsg Hout Hdump Hsem Hduty]
  · isplitl [Ht Hb Hv0]
    · isplitl [Ht]; · iexact Ht
      isplitl [Hb]
      · iexists _; iexact Hb
      · iexact Hv0
    isplitl [H1]; · iexact H1
    isplitl [H2]; · iexact H2
    isplitl [Hos]; · iexact Hos
    isplitl [Hs]; · iexact Hs
    isplitl [Hu]; · iexact Hu
    isplitl [Hv1] <;> iassumption
  · unfold Ended
    iexists ox', sg, out
    isplitr
    · ipureintro
      have := hG (fun _ => BitVec.ofNat 32 (106496 + 128 * fieldOf i)) fun r _ => by
        unfold IsDump
        rw [BitVec.toNat_ofNat]
        omega
      rw [off_all v hv (c := 390 + 1) le_rfl] at this
      exact this.done hf
    · isplitl [Hox]; · iexact Hox
      isplitl [Hsg]; · iexact Hsg
      isplitl [Hout]; · iexact Hout
      isplitl [Hdump]; · iexact Hdump
      isplitl [Hsem] <;> iassumption

end Trip

end Cert.Proof
-- ==== Proof.Whole.lean ====
/-
  The whole of a tile: its indices counted and sorted by chunk, the trips over the chunks, and every row of its field in the output.
-/
module

public import proofs.«01_k».proof.Proof.Trips

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {i : grid0.Coords} {O : CellTallies nD τ sig (HIx 1)} {W₀ : Waits sig (HIx 1)}

/-! ## Lanes over two axes, and a run of sixteen names -/

theorem nat1_congr {n : ℕ} {α : Type} {a b : ℕ → α} (h : ∀ k < n, a k = b k) : (nat1 a : (⟨1, ![n]⟩ : Shape).Idx → α) = nat1 b :=
  funext fun x => h _ (x 0).isLt

theorem first_chain : Chain 16 (blocks.drop 1) := by
  simp [Chain, blocks]

theorem early_cover {l : ℕ} (hl : l < 7) : ∃ x ∈ sixteen.take 7, x.1.1 = l := by
  interval_cases l <;> simp [sixteen]

theorem late_cover {l : ℕ} (h8 : 8 ≤ l) (hl : l < 16) : ∃ x ∈ sixteen.drop 8, x.1.1 = l := by
  interval_cases l <;> simp [sixteen]

theorem most_cover {p : ℕ} (hp : p < 112) : ∃ o ∈ dumpRows.take 7, ∃ l < 16, o.1 + l = p := by
  have hb : ∀ b < 7, ∃ o ∈ dumpRows.take 7, o.1 = 16 * b := by
    intro b hb
    interval_cases b <;> simp [dumpRows]
  obtain ⟨o, ho, he⟩ := hb (p / 16) (by omega)
  exact ⟨o, ho, p % 16, Nat.mod_lt _ (by decide), by omega⟩

/-- A tile's own memory and semaphores, but for its chunk buffers and theirs. -/
def Scratch (d : Dev nD) (i : grid0.Coords) : sProp 𝕄 :=
  iprop((∃ W, holds (F := F) d i mV fullShare W) ∗ (∃ W, holds (F := F) d i mSort fullShare W) ∗ (∃ W, holds (F := F) d i mHist fullShare W)
    ∗ (∃ W, holds (F := F) d i mCur fullShare W) ∗ (∃ W, holds (F := F) d i mOff fullShare W) ∗ (∃ W, holds (F := F) d i mStag fullShare W)
    ∗ (∃ W, holds (F := F) d i mOidx fullShare W) ∗ semVal (thr d i, SemLoc.dma cc0_scratch13.sem) 0 ∗ semVal (thr d i, SemLoc.dma cc0_scoped0.sem) 0
    ∗ semVal (thr d i, SemLoc.dma cc0_scoped1.sem) 0 ∗ semVal (thr d i, SemLoc.dma cc0_scoped2.sem) 0)

/-- What a tile reads, with its chunk buffers. -/
def Inputs (d : Dev nD) (i : grid0.Coords) (g : ℕ → BitVec 32) (T U : ℕ → ℕ → ℕ → Elt F .f32) (qi q0 q1 q2 qu : PosShare TreeShare) : sProp 𝕄 :=
  iprop(holds (F := F) d i mIdx qi (nat1 g) ∗ idle d i T q0 mB0 cc0_scratch10.sem ∗ idle d i T q1 mB1 cc0_scratch11.sem ∗ idle d i T q2 mB2 cc0_scratch12.sem
    ∗ holds d i mTail qu (nat3 U))

/-- A tile with a field gathers the field's rows. -/
theorem wp_tile (h1 : k0_cond1 i = 1#1) {v : ℕ → ℕ} (hv : ∀ k < 4096, v k < 100000) {g : ℕ → BitVec 32} (hg : ∀ k < 4096, g (fieldOf i * 4096 + k) = BitVec.ofNat 32 (v k))
    {T U : ℕ → ℕ → ℕ → Elt F .f32} {qi q0 q1 q2 qu : PosShare TreeShare} {tb : ℕ → ℕ → Elt F .f32} (htb : ∀ a < 64, ∀ b < 99968, tb a b = T (fieldOf i) a b)
    (hU : ∀ a < 64, ∀ b < 128, tb a (99968 + b) = U (fieldOf i) a b) {out : ℕ → ℕ → Elt F .f32} {Q : PUnit → sProp 𝕄} :
    iprop(Inputs d i g T U qi q0 q1 q2 qu ∗ Scratch (F := F) d i ∗ outOwn d i (fieldOf i) out ∗ outDump d i (fieldOf i) ∗ duty d i O W₀)
      ⊢ iprop((∀ out', iprop(⌜∀ k < 4096, ∀ q < 64, out' (k * 26 + fieldOf i) q = tb q (v k)⌝ ∗ Inputs d i g T U qi q0 q1 q2 qu ∗ Scratch (F := F) d i
          ∗ outOwn d i (fieldOf i) out' ∗ outDump d i (fieldOf i) ∗ duty d i O W₀) -∗ Q ⟨⟩)
        -∗ run d i (tile i) Q) := by
  have hf : fieldOf i < 26 := (working_iff i).mp h1
  unfold tile
  rw [dif_pos h1, run_bind]
  unfold work
  rw [vec_iota, tileNo_eq]
  dsimp only
  unfold Inputs Scratch
  iintro ⟨⟨Hi, H0, H1, H2, Hu⟩, ⟨⟨%Wv, HV⟩, ⟨%Ws, HS⟩, ⟨%Wh, HH⟩, ⟨%Wc, HC⟩, ⟨%Wo, HO⟩, ⟨%Wg, HG⟩, ⟨%Wx, HX⟩, Hv3, Hs0, Hs1, Hs2⟩, Hout, Hdump, Hduty⟩ Hk
  obtain ⟨c₀, rfl⟩ := exists_nat1 (n := 400) (by decide) Wc
  obtain ⟨o₀, rfl⟩ := exists_nat1 (n := 400) (by decide) Wo
  obtain ⟨x₀, rfl⟩ := exists_nat1 (n := 128) (by decide) Wx
  obtain ⟨g₀, rfl⟩ := exists_nat2 (n := 128) (m := 128) (by decide) (by decide) Wg
  rw [run_bind]
  unfold start
  rw [run_bind, run_bind]
  iapply (wp_fetchIdx (F := F) (h1 := h1) (q := qi) (g := g) (W := Wv)) $$ [Hi HV Hs0]
  · isplitl [Hi]; · iexact Hi
    isplitl [HV] <;> iassumption
  iintro Hf
  rw [run_bind]
  iapply (wp_wait (F := F) (dstw := mV) rfl) $$ [Hf Hduty]
  · isplitl [Hf] <;> iassumption
  iintro ⟨⟨Hi, HV⟩, Hs0, Hduty⟩
  rw [nat1_congr (n := 4096) (a := fun k => g (k0_off1 i 0 + k)) (b := fun k => BitVec.ofNat 32 (v k)) fun k hk => by
    rw [← hg k hk]
    refine congrArg (fun n => g (n + k)) ?_
    change (Scalar.muli (tileNo i) 4096#32).toNat = _
    rw [tileNo_eq, show Scalar.muli (BitVec.ofNat 32 (fieldOf i)) 4096#32 = BitVec.ofNat 32 (fieldOf i * 4096) from (BitVec.ofNat_mul _ _).symm, BitVec.toNat_ofNat]
    omega]
  rw [run_bind]
  iapply (wp_fetch (F := F) (f := fieldOf i) (c := 0) (block_off i 0)) $$ H0
  iintro H0
  rw [run_bind]
  iapply (wp_fetch (F := F) (f := fieldOf i) (c := 1) (block_off i 256)) $$ H1
  iintro H1
  rw [run_bind]
  iapply (wp_fetch (F := F) (f := fieldOf i) (c := 2) (block_off i 512)) $$ H2
  iintro H2
  iapply (wp_zero (F := F) (W := Wh)) $$ HH
  iintro %h₀ ⟨%hh₀, HH⟩
  -- The histogram, and the first block of start positions.
  unfold counts
  rw [run_bind]
  iapply (wp_hist (F := F) hv hh₀) $$ [HV HH]
  · isplitl [HV] <;> iassumption
  iintro %h ⟨%hh, HV, HH⟩
  rw [run_bind]
  iapply (wp_load16 (F := F) (g := h)) $$ HH
  iintro HH
  obtain ⟨e1, e2⟩ := scan_block hh (o := 0) (by decide)
  rw [e2, e1, show (0#32 : BitVec 32) = offW v 0 from congrArg (BitVec.ofNat 32) (off_zero v).symm, starts_block, run_bind]
  iapply (wp_load16 (F := F) (g := c₀)) $$ HC
  iintro HC
  rw [run_bind]
  iapply (wp_store16 (F := F) (g := c₀) (v := vec fun l => off v (0 + l))) $$ HC
  iintro HC
  have hov := over_eq (g := c₀) (o := 0) (w := vec fun l => off v (0 + l)) (P := fun p x => x = offW v p) fun l hl => lane_vec _ hl
  generalize over c₀ 0 (vec fun l => off v (0 + l)) = c₁ at hov ⊢
  rw [run_bind]
  iapply (wp_spill (F := F) (o := block0) (u := offW v) (fun l hl => lane_vec _ hl) (sixteen.take 7) o₀) $$ HO
  iintro %o₁ ⟨%ho₁, HO⟩
  iapply (run_pure d i)
  dsimp only
  rw [lane_extract _ slices_S16_o7_S1 (by decide), lane_vec _ (by decide), run_bind]
  iapply (wp_spillAt (F := F) (o := block0) (l := lane7) (g := o₁)) $$ HO
  iintro HO
  rw [run_bind]
  iapply (wp_spill (F := F) (o := block0) (u := offW v) (fun l hl => lane_vec _ hl) (sixteen.drop 8)) $$ HO
  iintro %o₂ ⟨%ho₂, HO⟩
  have hstarts : ∀ p < 16, c₁ p = offW v p ∧ o₂ p = offW v p := by
    intro p hp
    have hc := hov.2 p hp
    rw [Nat.zero_add] at hc
    refine ⟨hc, ?_⟩
    by_cases h8 : 8 ≤ p
    · obtain ⟨x, hx, rfl⟩ := late_cover h8 hp
      have := ho₂.2 x hx
      rwa [show block0.1 + x.1.1 = x.1.1 from Nat.zero_add _] at this
    · refine ho₂.1 p ?_
      by_cases h7 : p = 7
      · subst h7
        exact Function.update_self _ _ _
      · rw [Function.update_of_ne (show p ≠ block0.1 + lane7.1.1 from h7)]
        obtain ⟨x, hx, rfl⟩ := early_cover (show p < 7 by omega)
        have := ho₁.2 x hx
        rwa [show block0.1 + x.1.1 = x.1.1 from Nat.zero_add _] at this
  rw [lane_extract _ slices_S16_o15_S1 (by decide), next_start, run_bind]
  iapply (wp_prefixAt (F := F) hh (blocks.drop 1) 16 first_chain c₁ o₂ hstarts) $$ [HH HC HO]
  · isplitl [HH]; · iexact HH
    isplitl [HC] <;> iassumption
  iintro %c %os ⟨%hcos, HH, HC, HO⟩
  -- The records in place, and the offset list.
  rw [run_bind]
  unfold places
  rw [run_bind]
  iapply (wp_place (F := F) hv (fun p hp => (hcos p hp).1) (W := Ws)) $$ [HV HC HS]
  · isplitl [HV]; · iexact HV
    isplitl [HC] <;> iassumption
  iintro %s %c' ⟨%hs, HV, HC, HS⟩
  rw [show Scalar.addi 106496#32 (Scalar.muli (BitVec.ofNat 32 (fieldOf i)) 128#32) = BitVec.ofNat 32 (106496 + fieldOf i * 128) from
    ((BitVec.ofNat_add _ _).trans (congrArg (BitVec.ofNat 32 106496 + ·) (BitVec.ofNat_mul _ _))).symm]
  dsimp only
  rw [run_bind]
  iapply (wp_resetAt (F := F) hf (dumpRows.take 7) x₀) $$ HX
  iintro %x₁ ⟨%hx₁, HX⟩
  iapply (run_pure d i)
  dsimp only
  rw [run_bind]
  iapply (wp_setAt (F := F) (g := x₁)) $$ HX
  iintro HX
  have hov' := over_eq (g := x₁) (o := 112) (w := addi (broadcast S16 (Scalar.addi (BitVec.ofNat 32 (106496 + fieldOf i * 128)) 112#32)) (vec fun l => l)) (P := fun _ x => IsDump (fieldOf i) x)
    fun l hl => by
      rw [show Scalar.addi (BitVec.ofNat 32 (106496 + fieldOf i * 128)) 112#32 = BitVec.ofNat 32 (106496 + fieldOf i * 128 + 112) from (BitVec.ofNat_add _ _).symm,
        vec_broadcast, vec_addi, lane_vec _ hl]
      unfold IsDump
      rw [BitVec.toNat_ofNat]
      omega
  have hx₂ : ∀ r < 128, IsDump (fieldOf i) (over x₁ 112 (addi (broadcast S16 (Scalar.addi (BitVec.ofNat 32 (106496 + fieldOf i * 128)) 112#32)) (vec fun l => l)) r) := by
    intro r hr
    by_cases h112 : r < 112
    · obtain ⟨o, ho, l, hl, rfl⟩ := most_cover h112
      exact hov'.1 _ (hx₁.2 o ho l hl)
    · have := hov'.2 (r - 112) (by omega)
      rwa [show 112 + (r - 112) = r by omega] at this
  generalize over x₁ 112 (addi (broadcast S16 (Scalar.addi (BitVec.ofNat 32 (106496 + fieldOf i * 128)) 112#32)) (vec fun l => l)) = x₂ at hx₂ ⊢
  -- The trips and the last chunk.
  rw [vec_broadcast, vec_addi]
  iapply (wp_all (F := F) hv htb (fun p hp => (hcos p hp).2) hs hU (q0 := q0) (q1 := q1) (q2 := q2) (qu := qu)) $$ [H0 H1 H2 HO HS HX HG Hout Hdump Hv3 Hduty Hu Hs1 Hs2]
  · isplitl [H0 H1 H2 HO HS HX HG Hout Hdump Hv3 Hduty]
    · unfold Before slot State
      rw [if_pos (by decide), if_pos (by decide), if_pos (by decide)]
      isplitl [H0]; · iexact H0
      isplitl [H1]; · iexact H1
      isplitl [H2]; · iexact H2
      isplitl [HO]; · iexact HO
      isplitl [HS]; · iexact HS
      iexists x₂, g₀, out
      isplitr
      · ipureintro
        rw [Nat.mul_zero, off_zero]
        exact Good.start hx₂
      · isplitl [HX]; · iexact HX
        isplitl [HG]; · iexact HG
        isplitl [Hout]; · iexact Hout
        isplitl [Hdump]; · iexact Hdump
        isplitl [Hv3] <;> iassumption
    · isplitl [Hu]; · iexact Hu
      isplitl [Hs1] <;> iassumption
  unfold Rest Ended
  iintro ⟨⟨H0, H1, H2, HO, HS, Hu, Hs1, Hs2⟩, %x₃, %g₃, %out', %hout, HX, HG, Hout, Hdump, Hv3, Hduty⟩
  rw [run_bind]
  iapply (wp_setAt (F := F) (g := x₃)) $$ HX
  iintro HX
  iapply (run_pure d i)
  dsimp only
  rw [run_bind]
  iapply (wp_setAt (F := F)) $$ HX
  iintro HX
  rw [run_bind]
  iapply (wp_resetAt (F := F) hf (dumpRows.drop 4)) $$ HX
  iintro %x₄ ⟨-, HX⟩
  iapply (run_pure d i)
  iapply Hk
  isplitr
  rotate_left
  · isplitl [Hi H0 H1 H2 Hu]
    · isplitl [Hi]; · iexact Hi
      isplitl [H0]; · iexact H0
      isplitl [H1]; · iexact H1
      isplitl [H2] <;> iassumption
    isplitl [HV HS HH HC HO HG HX Hv3 Hs0 Hs1 Hs2]
    · isplitl [HV]; · iexists _; iexact HV
      isplitl [HS]; · iexists _; iexact HS
      isplitl [HH]; · iexists _; iexact HH
      isplitl [HC]; · iexists _; iexact HC
      isplitl [HO]; · iexists _; iexact HO
      isplitl [HG]; · iexists _; iexact HG
      isplitl [HX]; · iexists _; iexact HX
      isplitl [Hv3]; · iexact Hv3
      isplitl [Hs0]; · iexact Hs0
      isplitl [Hs1] <;> iassumption
    isplitl [Hout]; · iexact Hout
    isplitl [Hdump] <;> iassumption
  · ipureintro; exact hout

/-- A tile without a field does nothing. -/
theorem wp_tile_none (h1 : ¬ k0_cond1 i = 1#1) {Q : PUnit → sProp 𝕄} : Q ⟨⟩ ⊢ run d i (tile i) Q := by
  unfold tile
  rw [dif_neg h1]
  iintro H
  iapply (run_pure d i)
  iexact H

end Cert.Proof
-- ==== Proof.Body.lean ====
/-
  The printed function of the vector subcore is the compact program of Tile.
-/
module

public import proofs.«01_k».proof.Proof.Tile

@[expose] public section

noncomputable section

namespace Cert.Proof

open Cert.KernelIdeal Cert.KernelIdeal.Gen
open Idealize.ShloMosaic Idealize.SL.Sem

variable {F : FTy → Type} [FloatOps F]

set_option maxRecDepth 65536 in
set_option maxHeartbeats 40000000 in
/-- The printed function is the compact program. -/
theorem body_eq_tile (i : grid0.Coords) :
    cc0__body (F := F) i mIdx (Memref.isWhole_whole _) mTab (Memref.isWhole_whole _) mTail (Memref.isWhole_whole _) mOut (Memref.isWhole_whole _) mV (Memref.isWhole_whole _)
    mSort (Memref.isWhole_whole _) mHist (Memref.isWhole_whole _) mCur (Memref.isWhole_whole _) mOff (Memref.isWhole_whole _) mB0 (Memref.isWhole_whole _)
    mB1 (Memref.isWhole_whole _) mB2 (Memref.isWhole_whole _) mStag (Memref.isWhole_whole _) mOidx (Memref.isWhole_whole _)
    cc0_scratch10 cc0_scratch11 cc0_scratch12 cc0_scratch13 cc0_scoped0 cc0_scoped1 cc0_scoped2 = tile i := rfl

end Cert.Proof
-- ==== Proof.Task.lean ====
/-
  The task of one tile: from read shares of the indices, the tables and the tail, and the tile's own rows of the output,
  to the same with the field's rows filled in.
-/
module

public import proofs.«01_k».proof.Proof.Whole
public import proofs.«01_k».proof.Proof.Body
public import Idealize.ShloMosaic.Lib.SparseCore.Quiescent

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tile's buffers and semaphores -/

/-- The tile's ten buffers. -/
abbrev tileRefs : Finset (Ref sig .scVector) :=
  {cc0_scratch0, cc0_scratch1, cc0_scratch2, cc0_scratch3, cc0_scratch4, cc0_scratch5, cc0_scratch6, cc0_scratch7, cc0_scratch8, cc0_scratch9}

/-- The tile's seven semaphores. -/
abbrev tileSems : Finset (SemLoc sig) :=
  {.dma cc0_scratch10.sem, .dma cc0_scratch11.sem, .dma cc0_scratch12.sem, .dma cc0_scratch13.sem, .dma cc0_scoped0.sem, .dma cc0_scoped1.sem, .dma cc0_scoped2.sem}

/-- The ten buffers are distinct. -/
theorem fresh0 : cc0_scratch0 ∉ ({cc0_scratch1, cc0_scratch2, cc0_scratch3, cc0_scratch4, cc0_scratch5, cc0_scratch6, cc0_scratch7, cc0_scratch8, cc0_scratch9} : Finset (Ref sig .scVector)) := by decide
theorem fresh1 : cc0_scratch1 ∉ ({cc0_scratch2, cc0_scratch3, cc0_scratch4, cc0_scratch5, cc0_scratch6, cc0_scratch7, cc0_scratch8, cc0_scratch9} : Finset (Ref sig .scVector)) := by decide
theorem fresh2 : cc0_scratch2 ∉ ({cc0_scratch3, cc0_scratch4, cc0_scratch5, cc0_scratch6, cc0_scratch7, cc0_scratch8, cc0_scratch9} : Finset (Ref sig .scVector)) := by decide
theorem fresh3 : cc0_scratch3 ∉ ({cc0_scratch4, cc0_scratch5, cc0_scratch6, cc0_scratch7, cc0_scratch8, cc0_scratch9} : Finset (Ref sig .scVector)) := by decide
theorem fresh4 : cc0_scratch4 ∉ ({cc0_scratch5, cc0_scratch6, cc0_scratch7, cc0_scratch8, cc0_scratch9} : Finset (Ref sig .scVector)) := by decide
theorem fresh5 : cc0_scratch5 ∉ ({cc0_scratch6, cc0_scratch7, cc0_scratch8, cc0_scratch9} : Finset (Ref sig .scVector)) := by decide
theorem fresh6 : cc0_scratch6 ∉ ({cc0_scratch7, cc0_scratch8, cc0_scratch9} : Finset (Ref sig .scVector)) := by decide
theorem fresh7 : cc0_scratch7 ∉ ({cc0_scratch8, cc0_scratch9} : Finset (Ref sig .scVector)) := by decide
theorem fresh8 : cc0_scratch8 ∉ ({cc0_scratch9} : Finset (Ref sig .scVector)) := by decide

section Own

variable (d : Dev nD) (i : grid0.Coords)

/-- A buffer of the tile's own, at some contents. -/
abbrev anyBuf (b : Ref sig .scVector) : sProp 𝕄 := iprop(∃ f : Buf (Elt F) ((thr d i).loc b), (thr d i).loc b ↦{fullShare} f)

theorem ownBufs_split : ∃ R : sProp 𝕄, (ownBufs (thr d i) : sProp 𝕄)
    = iprop((anyBuf d i cc0_scratch0 ∗ anyBuf d i cc0_scratch1 ∗ anyBuf d i cc0_scratch2 ∗ anyBuf d i cc0_scratch3 ∗ anyBuf d i cc0_scratch4
        ∗ anyBuf d i cc0_scratch5 ∗ anyBuf d i cc0_scratch6 ∗ anyBuf d i cc0_scratch7 ∗ anyBuf d i cc0_scratch8 ∗ anyBuf d i cc0_scratch9) ∗ R) := by
  classical
  have hsub : tileRefs.map ⟨(thr d i).2.devRef, Proc.devRef_injective _⟩ ⊆ ownRefs (thr d i).2 := by
    intro b hb
    obtain ⟨r, hr, rfl⟩ := Finset.mem_map.mp hb
    refine SparseCore.Cfg.mem_ownRefs_of_owner ?_
    simp only [tileRefs, Finset.mem_insert, Finset.mem_singleton] at hr
    rcases hr with rfl | rfl | rfl | rfl | rfl | rfl | rfl | rfl | rfl | rfl <;> rfl
  refine ⟨bigSep (ownRefs (thr d i).2 \ tileRefs.map ⟨(thr d i).2.devRef, Proc.devRef_injective _⟩)
    fun b => iprop(∃ f : Buf (Elt F) ((thr d i).1, b), (((thr d i).1, b) : Loc nD τ sig) ↦{fullShare} f), ?_⟩
  unfold SparseCore.Cfg.ownBufs
  rw [bigSep_sdiff_split hsub, bigSep_map]
  unfold tileRefs
  rw [SparseCore.bigSep_insert' fresh0, SparseCore.bigSep_insert' fresh1, SparseCore.bigSep_insert' fresh2, SparseCore.bigSep_insert' fresh3, SparseCore.bigSep_insert' fresh4, SparseCore.bigSep_insert' fresh5, SparseCore.bigSep_insert' fresh6, SparseCore.bigSep_insert' fresh7, SparseCore.bigSep_insert' fresh8, bigSep_singleton]
  rfl

/-- A semaphore of the tile's own, at zero. -/
abbrev zeroSem (s : SemLoc sig) : sProp 𝕄 := semVal (thr d i, s) 0

theorem ownSems_split : ∃ R : sProp 𝕄, (ownSems0 (thr d i) : sProp 𝕄)
    = iprop((zeroSem d i (.dma cc0_scratch10.sem) ∗ zeroSem d i (.dma cc0_scratch11.sem) ∗ zeroSem d i (.dma cc0_scratch12.sem) ∗ zeroSem d i (.dma cc0_scratch13.sem)
        ∗ zeroSem d i (.dma cc0_scoped0.sem) ∗ zeroSem d i (.dma cc0_scoped1.sem) ∗ zeroSem d i (.dma cc0_scoped2.sem)) ∗ R) := by
  classical
  have hsub : tileSems.map ⟨fun s => ((thr d i, s) : GSem nD τ sig), fun _ _ e => (Prod.mk.inj e).2⟩ ⊆ ownCells (thr d i) := by
    intro g hg
    obtain ⟨s, hs, rfl⟩ := Finset.mem_map.mp hg
    refine mem_ownCells.mpr ⟨rfl, ?_⟩
    show s.isScoped .scVector = true
    clear hg
    simp only [tileSems, Finset.mem_insert, Finset.mem_singleton] at hs
    rcases hs with rfl | rfl | rfl | rfl | rfl | rfl | rfl <;> rfl
  refine ⟨bigSep (ownCells (thr d i) \ tileSems.map ⟨fun s => ((thr d i, s) : GSem nD τ sig), fun _ _ e => (Prod.mk.inj e).2⟩)
    fun g => semVal g 0, ?_⟩
  unfold SparseCore.Cfg.ownSems0
  rw [bigSep_sdiff_split hsub, bigSep_map]
  unfold tileSems
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

end Own

/-! ## What a tile is handed -/

section Handed

variable (d : Dev nD)

abbrev idxLoc (d : Dev nD) : Loc nD τ sig := (SparseCore.T d).loc main_v5
abbrev tabLoc (d : Dev nD) : Loc nD τ sig := (SparseCore.T d).loc main_v0
abbrev tailLoc (d : Dev nD) : Loc nD τ sig := (SparseCore.T d).loc main_v3
abbrev o3Loc (d : Dev nD) : Loc nD τ sig := (SparseCore.T d).loc main_v6

/-- The arrays' contents, from functions of naturals. -/
def idxBuf (d : Dev nD) (g : ℕ → BitVec 32) : Buf (Elt F) (idxLoc d) := fun (x : S106496.Idx) => g (x 0).val
def tabBuf (d : Dev nD) (T : ℕ → ℕ → ℕ → Elt F .f32) : Buf (Elt F) (tabLoc d) := fun (x : S26x64x100000.Idx) => T (x 0).val (x 1).val (x 2).val
def tailBuf (d : Dev nD) (U : ℕ → ℕ → ℕ → Elt F .f32) : Buf (Elt F) (tailLoc d) := fun (x : S26x64x128.Idx) => U (x 0).val (x 1).val (x 2).val

/-- The share of the arrays that the tile of field `f` reads. -/
abbrev tok (f : ℕ) : PosShare TreeShare := Transfers.shareTokN fullShare f

/-- The three arrays at the share of field `f`. -/
def reads (g : ℕ → BitVec 32) (T U : ℕ → ℕ → ℕ → Elt F .f32) (f : ℕ) : sProp 𝕄 :=
  iprop((idxLoc d ↦{tok f} idxBuf d g) ∗ (tabLoc d ↦{tok f} tabBuf d T) ∗ tailLoc d ↦{tok f} tailBuf d U)

/-- The rows of the output that belong to the tile of field `f`. -/
def part (f : ℕ) : Finset S110592x128.Idx := ownRows f ∪ dumpSet f

/-- The tile's part of the output. -/
abbrev partPts (f : ℕ) (o : Buf (Elt F) (o3Loc d)) : sProp 𝕄 := o3Loc d ↦[(part f : Finset (Idx (o3Loc d)))]{fullShare} o

/-- The rows of field `f` hold the table's: output row `26k + f` holds in its first 64 columns the entry that index `k` of the field names. -/
def Filled (d : Dev nD) (g : ℕ → BitVec 32) (tb : ℕ → ℕ → ℕ → Elt F .f32) (f : ℕ) (o : Buf (Elt F) (o3Loc d)) : Prop :=
  f < 26 → ∀ y : S110592x128.Idx, ∀ k < 4096, (y 0).val = k * 26 + f → (y 1).val < 64 → o y = tb f (y 1).val (g (f * 4096 + k)).toNat

/-- What the tile of field `f` takes, and what it brings back. -/
def takes (g : ℕ → BitVec 32) (T U : ℕ → ℕ → ℕ → Elt F .f32) (f : ℕ) : sProp 𝕄 := iprop(reads d g T U f ∗ ∃ o, partPts d f o)
def brings (g : ℕ → BitVec 32) (T U tb : ℕ → ℕ → ℕ → Elt F .f32) (f : ℕ) : sProp 𝕄 := iprop(reads d g T U f ∗ ∃ o, ⌜Filled d g tb f o⌝ ∗ partPts d f o)

instance takes_storable (g : ℕ → BitVec 32) (T U : ℕ → ℕ → ℕ → Elt F .f32) (f : ℕ) : Storable (upEmb : UEmb _ 𝕄) (takes d g T U f) := by
  unfold takes reads; infer_instance
instance brings_storable (g : ℕ → BitVec 32) (T U tb : ℕ → ℕ → ℕ → Elt F .f32) (f : ℕ) : Storable (upEmb : UEmb _ 𝕄) (brings d g T U tb f) := by
  unfold brings reads; infer_instance

theorem part_disjoint (f : ℕ) : Disjoint (ownRows f) (dumpSet f) := by
  rw [Finset.disjoint_left]
  intro y hy hy'
  rw [mem_ownRows] at hy
  rw [mem_dumpSet] at hy'
  omega

end Handed

section Tile

variable [FloatOps F] (d : Dev nD) (i : grid0.Coords)

/-- A whole array at a share is held. -/
theorem holds_whole {b : Ref sig .scVector} {q : PosShare TreeShare} {f : Buf (Elt F) ((thr d i).loc b)} :
    ((thr d i).loc b ↦{q} f : sProp 𝕄) ⊢ holds d i (Memref.whole b) q ((Memref.whole b).view.read (Elt F) f) := by
  unfold holds
  iintro H
  iexists f
  rw [show (Memref.whole b).view.set = Finset.univ from View.set_whole _]
  isplitl [H]; · iexact H
  ipureintro; rfl

/-- and back. -/
theorem whole_holds {b : Ref sig .scVector} {q : PosShare TreeShare} {f : Buf (Elt F) ((thr d i).loc b)} {W : _}
    (h : (Memref.whole b).view.read (Elt F) f = W) : holds d i (Memref.whole b) q W ⊢ ((thr d i).loc b ↦{q} f : sProp 𝕄) := by
  unfold holds
  iintro ⟨%f', H, %e⟩
  rw [show (Memref.whole b).view.set = Finset.univ from View.set_whole _]
  obtain rfl : f' = f := e.trans h.symm
  iexact H

theorem holds_any {b : Ref sig .scVector} : anyBuf (F := F) d i b ⊢ iprop(∃ W, holds (F := F) d i (Memref.whole b) fullShare W) := by
  iintro ⟨%f, H⟩
  iexists _
  iapply (holds_whole (F := F) d i); iexact H

theorem any_holds {b : Ref sig .scVector} : iprop(∃ W, holds (F := F) d i (Memref.whole b) fullShare W) ⊢ anyBuf (F := F) d i b := by
  unfold holds
  iintro ⟨%W, %f, H, -⟩
  rw [show (Memref.whole b).view.set = Finset.univ from View.set_whole _]
  iexists f; iexact H

section Run

variable {g : ℕ → BitVec 32} {T U : ℕ → ℕ → ℕ → Elt F .f32} {tb : ℕ → ℕ → ℕ → Elt F .f32}

/-- The tile's field's part of the output, in the shape the tile's run wants. -/
theorem part_open (hf : fieldOf i < 32) (o : Buf (Elt F) (o3Loc d)) :
    (partPts d (fieldOf i) o : sProp 𝕄) ⊢ iprop(∃ out, outOwn d i (fieldOf i) out ∗ outDump (F := F) d i (fieldOf i)) := by
  iintro H
  ihave H := (show (partPts d (fieldOf i) o : sProp 𝕄) ⊢ iprop((o3Loc d ↦[(ownRows (fieldOf i) : Finset (Idx (o3Loc d)))]{fullShare} o)
      ∗ o3Loc d ↦[(dumpSet (fieldOf i) : Finset (Idx (o3Loc d)))]{fullShare} o) from (pointsTo_union (part_disjoint (fieldOf i))).1) $$ H
  icases H with ⟨Ho, Hd⟩
  let out : ℕ → ℕ → Elt F .f32 := fun a b => if h : a < 110592 ∧ b < 128 then (o : S110592x128.Idx → Elt F .f32) (pt2 a b h.1 h.2) else (o : S110592x128.Idx → Elt F .f32) (pt2 0 0 (by decide) (by decide))
  have e : o = outBuf (F := F) d i out := by
    funext y
    have h : (y 0).val < 110592 ∧ (y 1).val < 128 := ⟨(y 0).isLt, (y 1).isLt⟩
    show o y = out (y 0).val (y 1).val
    simp only [out, dif_pos h]
    exact congrArg o (pt2_self y).symm
  iexists out
  isplitl [Ho]
  · unfold outOwn; rw [← e]; iexact Ho
  unfold outDump
  iexists o; iexact Hd

/-- and back. -/
theorem part_close (out : ℕ → ℕ → Elt F .f32) (h : fieldOf i < 26 → ∀ k < 4096, ∀ q < 64, out (k * 26 + fieldOf i) q = tb (fieldOf i) q (g (fieldOf i * 4096 + k)).toNat) :
    iprop(outOwn d i (fieldOf i) out ∗ outDump (F := F) d i (fieldOf i)) ⊢ (iprop(∃ o, ⌜Filled d g tb (fieldOf i) o⌝ ∗ partPts d (fieldOf i) o) : sProp 𝕄) := by
  unfold outDump
  iintro ⟨Ho, %w, Hd⟩
  let o : Buf (Elt F) (o3Loc d) := fun (y : S110592x128.Idx) => if y ∈ ownRows (fieldOf i) then outBuf (F := F) d i out y else w y
  iexists o
  isplitr
  · ipureintro
    intro hf y k hk hy hq
    have hm : y ∈ ownRows (fieldOf i) := mem_ownRows.mpr (by omega)
    show (if y ∈ ownRows (fieldOf i) then outBuf (F := F) d i out y else w y) = _
    rw [if_pos hm]
    show out (y 0).val (y 1).val = _
    rw [hy]
    exact h hf k hk _ hq
  iapply (show iprop((o3Loc d ↦[(ownRows (fieldOf i) : Finset (Idx (o3Loc d)))]{fullShare} o)
      ∗ o3Loc d ↦[(dumpSet (fieldOf i) : Finset (Idx (o3Loc d)))]{fullShare} o) ⊢ (partPts d (fieldOf i) o : sProp 𝕄) from (pointsTo_union (part_disjoint (fieldOf i))).2)
  isplitl [Ho]
  · iapply (Entails.of_eq (show ((o3Loc d ↦[(ownRows (fieldOf i) : Finset (Idx (o3Loc d)))]{fullShare} outBuf (F := F) d i out) : sProp 𝕄)
      = o3Loc d ↦[(ownRows (fieldOf i) : Finset (Idx (o3Loc d)))]{fullShare} o from pointsTo_congr fun y hy => (if_pos hy).symm))
    unfold outOwn
    iexact Ho
  · iapply (Entails.of_eq (show ((o3Loc d ↦[(dumpSet (fieldOf i) : Finset (Idx (o3Loc d)))]{fullShare} w) : sProp 𝕄)
      = o3Loc d ↦[(dumpSet (fieldOf i) : Finset (Idx (o3Loc d)))]{fullShare} o from
        pointsTo_congr fun y hy => (if_neg fun h' => (Finset.disjoint_left.mp (part_disjoint (fieldOf i)) h' hy)).symm))
    iexact Hd

/-- The precondition: every index names an entry of its table. -/
def InVocab (g : ℕ → BitVec 32) : Prop := ∀ n < 106496, (g n).toNat < 100000

/-- What the table says agrees with what the two arrays hold. -/
def Covers (T U tb : ℕ → ℕ → ℕ → Elt F .f32) : Prop :=
  ∀ f < 26, (∀ a < 64, ∀ b < 99968, tb f a b = T f a b) ∧ ∀ a < 64, ∀ b < 128, tb f a (99968 + b) = U f a b

theorem body_wp (hg : InVocab g) (hc : Covers T U tb) (O : CellTallies nD τ sig (HIx 1)) (W : Waits sig (HIx 1)) (hO : ∀ g, O g none = 0) :
    iprop(levAts (K (F := F)).L (K (F := F)).lev ∗ emp ∗ takes d g T U (fieldOf i)
        ∗ scopedBufs (thr d i) ∗ scopedSems0 (thr d i) ∗ owes (thr d i) O W)
      ⊢ run d i (tile i) fun _ => iprop(brings d g T U tb (fieldOf i) ∗ scopedBufs (thr d i) ∗ scopedSems0 (thr d i)
            ∗ ∃ W', ⌜∀ p ∈ W', p ∈ W ∨ p.2 = none⌝ ∗ owes (thr d i) O W') := by
  have hf : fieldOf i < 32 := by
    have h0 : (i 0).val < 2 := (i 0).isLt
    have h1 : (i 1).val < 16 := (i 1).isLt
    unfold fieldOf; omega
  by_cases h1 : k0_cond1 i = 1#1
  · rw [(K (F := F)).scopedBufs_V facts d (cV i) (jV i), SparseCore.Cfg.scopedSems0_V (Val := Elt F) d (cV i) (jV i)]
    obtain ⟨R, hR⟩ := ownBufs_split (F := F) d i
    obtain ⟨R', hR'⟩ := ownSems_split (F := F) d i
    rw [hR, hR']
    have hf' : fieldOf i < 26 := (working_iff i).mp h1
    unfold takes reads
    iintro ⟨#Hlv, -, ⟨⟨Hi, Ht, Hu⟩, %o, Ho⟩, ⟨⟨B0, B1, B2, B3, B4, B5, B6, B7, B8, B9⟩, HR⟩, ⟨⟨S0, S1, S2, S3, S4, S5, S6⟩, HR'⟩, HO⟩
    ihave Hmw := (show levAts (K (F := F)).L (K (F := F)).lev ⊢ Transfers.MayWaits (thr d i) (none : HIx 1) O from
      (K (F := F)).mayWaits_none (thr := thr d i) hO) $$ Hlv
    ihave Ho := (part_open (F := F) d i hf o) $$ Ho
    icases Ho with ⟨%out, Ho, Hd⟩
    ihave Hi := (holds_whole (F := F) d i (b := main_v5_scv) (q := tok (fieldOf i)) (f := idxBuf d g)) $$ Hi
    ihave Hu := (holds_whole (F := F) d i (b := main_v3_scv) (q := tok (fieldOf i)) (f := tailBuf d U)) $$ Hu
    ihave Ht := (pointsTo_share (ℓ := tabLoc d) (I := Finset.univ) (f := tabBuf d T) (PosShare.mem_left_op_right (tok (fieldOf i)))).1 $$ Ht
    icases Ht with ⟨T0, Ht⟩
    ihave Ht := (pointsTo_share (ℓ := tabLoc d) (I := Finset.univ) (f := tabBuf d T) (PosShare.mem_left_op_right (tok (fieldOf i)).right)).1 $$ Ht
    icases Ht with ⟨T1, T2⟩
    ihave T0 := (holds_whole (F := F) d i (b := main_v0_scv) (q := (tok (fieldOf i)).left) (f := tabBuf d T)) $$ T0
    ihave T1 := (holds_whole (F := F) d i (b := main_v0_scv) (q := (tok (fieldOf i)).right.left) (f := tabBuf d T)) $$ T1
    ihave T2 := (holds_whole (F := F) d i (b := main_v0_scv) (q := (tok (fieldOf i)).right.right) (f := tabBuf d T)) $$ T2
    ihave B0 := (holds_any (F := F) d i) $$ B0
    ihave B1 := (holds_any (F := F) d i) $$ B1
    ihave B2 := (holds_any (F := F) d i) $$ B2
    ihave B3 := (holds_any (F := F) d i) $$ B3
    ihave B4 := (holds_any (F := F) d i) $$ B4
    ihave B5 := (holds_any (F := F) d i) $$ B5
    ihave B6 := (holds_any (F := F) d i) $$ B6
    ihave B7 := (holds_any (F := F) d i) $$ B7
    ihave B8 := (holds_any (F := F) d i) $$ B8
    ihave B9 := (holds_any (F := F) d i) $$ B9
    iapply (wp_tile (F := F) (d := d) (i := i) (O := O) (W₀ := W) h1 (v := fun k => (g (fieldOf i * 4096 + k)).toNat) (fun k hk => hg _ (by omega))
      (g := g) (fun k _ => by simp) (T := T) (U := U) (qi := tok (fieldOf i)) (q0 := (tok (fieldOf i)).left) (q1 := (tok (fieldOf i)).right.left)
      (q2 := (tok (fieldOf i)).right.right) (qu := tok (fieldOf i)) (tb := tb (fieldOf i)) (hc _ hf').1 (hc _ hf').2 (out := out))
      $$ [Hi Hu T0 T1 T2 B0 B1 B2 B3 B4 B5 B6 B7 B8 B9 S0 S1 S2 S3 S4 S5 S6 Ho Hd HO Hmw]
    · unfold Inputs Scratch idle duty
      isplitl [Hi Hu T0 T1 T2 B5 B6 B7 S0 S1 S2]
      · isplitl [Hi]; · iexact Hi
        isplitl [T0 B5 S0]
        · isplitl [T0]; · iexact T0
          isplitl [B5]; · iexact B5
          iexact S0
        isplitl [T1 B6 S1]
        · isplitl [T1]; · iexact T1
          isplitl [B6]; · iexact B6
          iexact S1
        isplitl [T2 B7 S2]
        · isplitl [T2]; · iexact T2
          isplitl [B7]; · iexact B7
          iexact S2
        iexact Hu
      isplitl [B0 B1 B2 B3 B4 B8 B9 S3 S4 S5 S6]
      · isplitl [B0]; · iexact B0
        isplitl [B1]; · iexact B1
        isplitl [B2]; · iexact B2
        isplitl [B3]; · iexact B3
        isplitl [B4]; · iexact B4
        isplitl [B8]; · iexact B8
        isplitl [B9]; · iexact B9
        isplitl [S3]; · iexact S3
        isplitl [S4]; · iexact S4
        isplitl [S5]; · iexact S5
        iexact S6
      isplitl [Ho]; · iexact Ho
      isplitl [Hd]; · iexact Hd
      isplitl [Hmw]; · iexact Hmw
      iexists W
      isplitr; · ipureintro; exact fun p hp => .inl hp
      iexact HO
    iintro %out' ⟨%hout, Hin, Hsc, Ho, Hd, Hduty⟩
    unfold Inputs Scratch idle duty
    icases Hin with ⟨Hi, ⟨T0, B5, S0⟩, ⟨T1, B6, S1⟩, ⟨T2, B7, S2⟩, Hu⟩
    icases Hsc with ⟨B0, B1, B2, B3, B4, B8, B9, S3, S4, S5, S6⟩
    icases Hduty with ⟨-, HO⟩
    ihave Hi := (whole_holds (F := F) d i (b := main_v5_scv) (q := tok (fieldOf i)) (f := idxBuf d g) (W := nat1 g) rfl) $$ Hi
    ihave Hu := (whole_holds (F := F) d i (b := main_v3_scv) (q := tok (fieldOf i)) (f := tailBuf d U) (W := nat3 U) rfl) $$ Hu
    ihave T0 := (whole_holds (F := F) d i (b := main_v0_scv) (q := (tok (fieldOf i)).left) (f := tabBuf d T) (W := nat3 T) rfl) $$ T0
    ihave T1 := (whole_holds (F := F) d i (b := main_v0_scv) (q := (tok (fieldOf i)).right.left) (f := tabBuf d T) (W := nat3 T) rfl) $$ T1
    ihave T2 := (whole_holds (F := F) d i (b := main_v0_scv) (q := (tok (fieldOf i)).right.right) (f := tabBuf d T) (W := nat3 T) rfl) $$ T2
    ihave Ht := (pointsTo_share (ℓ := tabLoc d) (I := Finset.univ) (f := tabBuf d T) (PosShare.mem_left_op_right (tok (fieldOf i)).right)).2 $$ [T1 T2]
    · isplitl [T1]; · iexact T1
      iexact T2
    ihave Ht := (pointsTo_share (ℓ := tabLoc d) (I := Finset.univ) (f := tabBuf d T) (PosShare.mem_left_op_right (tok (fieldOf i)))).2 $$ [T0 Ht]
    · isplitl [T0]; · iexact T0
      iexact Ht
    ihave B0 := (any_holds (F := F) d i (b := cc0_scratch0)) $$ B0
    ihave B1 := (any_holds (F := F) d i (b := cc0_scratch1)) $$ B1
    ihave B2 := (any_holds (F := F) d i (b := cc0_scratch2)) $$ B2
    ihave B3 := (any_holds (F := F) d i (b := cc0_scratch3)) $$ B3
    ihave B4 := (any_holds (F := F) d i (b := cc0_scratch4)) $$ B4
    ihave B5 := (any_holds (F := F) d i (b := cc0_scratch5)) $$ B5
    ihave B6 := (any_holds (F := F) d i (b := cc0_scratch6)) $$ B6
    ihave B7 := (any_holds (F := F) d i (b := cc0_scratch7)) $$ B7
    ihave B8 := (any_holds (F := F) d i (b := cc0_scratch8)) $$ B8
    ihave B9 := (any_holds (F := F) d i (b := cc0_scratch9)) $$ B9
    isplitl [Hi Ht Hu Ho Hd]
    · unfold brings reads
      isplitl [Hi Ht Hu]
      · isplitl [Hi]; · iexact Hi
        isplitl [Ht]; · iexact Ht
        iexact Hu
      iapply (part_close (F := F) d i (g := g) (tb := tb) out' (fun _ => hout))
      isplitl [Ho]; · iexact Ho
      iexact Hd
    isplitl [B0 B1 B2 B3 B4 B5 B6 B7 B8 B9 HR]
    · isplitr [HR]
      · isplitl [B0]; · iexact B0
        isplitl [B1]; · iexact B1
        isplitl [B2]; · iexact B2
        isplitl [B3]; · iexact B3
        isplitl [B4]; · iexact B4
        isplitl [B5]; · iexact B5
        isplitl [B6]; · iexact B6
        isplitl [B7]; · iexact B7
        isplitl [B8]; · iexact B8
        iexact B9
      iexact HR
    isplitl [S0 S1 S2 S3 S4 S5 S6 HR']
    · isplitr [HR']
      · isplitl [S0]; · iexact S0
        isplitl [S1]; · iexact S1
        isplitl [S2]; · iexact S2
        isplitl [S3]; · iexact S3
        isplitl [S4]; · iexact S4
        isplitl [S5]; · iexact S5
        iexact S6
      iexact HR'
    iexact HO
  · have hf' : ¬ fieldOf i < 26 := fun h => h1 ((working_iff i).mpr h)
    unfold takes brings
    iintro ⟨-, -, ⟨Hr, %o, Ho⟩, HB, HS, HO⟩
    iapply (wp_tile_none (F := F) (d := d) (i := i) h1)
    isplitl [Hr Ho]
    · isplitl [Hr]; · iexact Hr
      iexists o
      isplitr; · ipureintro; exact fun h => absurd h hf'
      iexact Ho
    isplitl [HB]; · iexact HB
    isplitl [HS]; · iexact HS
    iexists W
    isplitr; · ipureintro; exact fun p hp => .inl hp
    iexact HO

end Run

/-! ## The payments -/

/-- The field of tile `s` of SparseCore `c`. -/
def fieldAt (c s : ℕ) : ℕ := s * 2 + c

/-- The one call hands each tile what its field takes, and receives what it brings back; a core's are its tiles'. -/
def P (g : Dev nD → ℕ → BitVec 32) (T U tb : Dev nD → ℕ → ℕ → ℕ → Elt F .f32) : (K (F := F)).Pay (nD := nD) (Val := Elt F) (Name := ℕ) (U := UU) where
  st := fun q d c => match q with
    | 0 => bigSep Finset.univ fun s : Fin ((K (F := F)).nSub 0) => takes d (g d) (T d) (U d) (fieldAt c.val s.val)
  dn := fun q d c => match q with
    | 0 => bigSep Finset.univ fun s : Fin ((K (F := F)).nSub 0) => brings d (g d) (T d) (U d) (tb d) (fieldAt c.val s.val)
  go := fun q d c s => match q with | 0 => takes d (g d) (T d) (U d) (fieldAt c.val s.val)
  td := fun q d c s => match q with | 0 => brings d (g d) (T d) (U d) (tb d) (fieldAt c.val s.val)
  x := fun _ _ => iprop(emp)

instance P_storable (g : Dev nD → ℕ → BitVec 32) (T U tb : Dev nD → ℕ → ℕ → ℕ → Elt F .f32) : (P (F := F) g T U tb).IsStorable where
  st q d c := match q with
    | 0 => (inferInstance : BI.Storable (upEmb : UEmb _ 𝕄) (bigSep Finset.univ fun s : Fin ((K (F := F)).nSub 0) => takes d (g d) (T d) (U d) (fieldAt c.val s.val)))
  dn q d c := match q with
    | 0 => (inferInstance : BI.Storable (upEmb : UEmb _ 𝕄) (bigSep Finset.univ fun s : Fin ((K (F := F)).nSub 0) => brings d (g d) (T d) (U d) (tb d) (fieldAt c.val s.val)))
  go q d c s := match q with | 0 => (inferInstance : BI.Storable (upEmb : UEmb _ 𝕄) (takes d (g d) (T d) (U d) (fieldAt c.val s.val)))
  td q d c s := match q with | 0 => (inferInstance : BI.Storable (upEmb : UEmb _ 𝕄) (brings d (g d) (T d) (U d) (tb d) (fieldAt c.val s.val)))

/-- The tile a core and a number name. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 () = SparseCore.onTile hcore0 hsub0 (fun c s => cc0__body (coordsV c s) mIdx (Memref.isWhole_whole _) mTab (Memref.isWhole_whole _) mTail (Memref.isWhole_whole _) mOut (Memref.isWhole_whole _) mV (Memref.isWhole_whole _)
      mSort (Memref.isWhole_whole _) mHist (Memref.isWhole_whole _) mCur (Memref.isWhole_whole _) mOff (Memref.isWhole_whole _) mB0 (Memref.isWhole_whole _)
      mB1 (Memref.isWhole_whole _) mB2 (Memref.isWhole_whole _) mStag (Memref.isWhole_whole _) mOidx (Memref.isWhole_whole _)
      cc0_scratch10 cc0_scratch11 cc0_scratch12 cc0_scratch13 cc0_scoped0 cc0_scoped1 cc0_scoped2) ⟨⟩ c s := rfl

section Obl

variable {g : Dev nD → ℕ → BitVec 32} {T U tb : Dev nD → ℕ → ℕ → ℕ → Elt F .f32}

set_option maxRecDepth 16384 in
theorem tileObl (hg : ∀ d, InVocab (g d)) (hc : ∀ d, Covers (T d) (U d) (tb d)) : (K (F := F)).TileObl (D (F := F)) 𝒱 (P g T U tb) v₀ 0 := by
  intro d c s O W hO _ _
  simp only [show (P (F := F) g T U tb).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_tile]; simp only [SparseCore.onTile, hcs, and_self, ↓reduceDIte]
  rw [body_eq_tile]
  refine (body_wp (F := F) d (coordsV ⟨_, hcs.1⟩ ⟨_, hcs.2⟩) (hg d) (hc d) O W hO).trans (wp_mono frame _ _ fun _ => ?_)
  iintro ⟨HA, HB, HC, %W', %hW', HO⟩
  isplitl [HA]
  · iapply (Entails.of_eq (show brings d (g d) (T d) (U d) (tb d) (fieldAt c.val s.val) = (P (F := F) g T U tb).td 0 d c s from rfl))
    iexact HA
  isplitl [HB]; · iexact HB
  isplitl [HC]; · iexact HC
  iexists W'; isplitr
  · ipureintro; exact fun p hp => (hW' p hp).imp_right Or.inl
  · iexact HO

theorem vecSplit : (K (F := F)).VecSplit' (P g T U tb) 0 := by
  intro d c
  show (bigSep Finset.univ fun s : Fin ((K (F := F)).nSub 0) => takes d (g d) (T d) (U d) (fieldAt c.val s.val))
    ⊢ |={Set.univ}=> iprop((bigSep Finset.univ fun s : Fin ((K (F := F)).nSub 0) => takes d (g d) (T d) (U d) (fieldAt c.val s.val))
      ∗ ((bigSep Finset.univ fun s : Fin ((K (F := F)).nSub 0) => brings d (g d) (T d) (U d) (tb d) (fieldAt c.val s.val))
        -∗ bigSep Finset.univ fun s : Fin ((K (F := F)).nSub 0) => brings d (g d) (T d) (U d) (tb d) (fieldAt c.val s.val)))
  iintro H
  imodintro
  isplitl [H]; · iexact H
  iintro H; iexact H

end Obl

end Tile

end Cert.Proof
-- ==== Proof.Values.lean ====
/-
  The arrays around the call, read at an index: the transposed indices and tables, the padded tail, and what the
  rows of the output make of them.
-/
module

public import proofs.«01_k».proof.Proof.Task
public import Idealize.ShloMosaic.Lib.Pipeline.Value
public import Idealize.ShloMosaic.Lib.KernelVsHost

@[expose] public section

noncomputable section

namespace Cert.Proof

open Cert.KernelIdeal Cert.KernelIdeal.Gen

open Idealize.ShloMosaic

variable {F : FTy → Type} [FloatOps F]

/-! ## Indices of three axes and two, from numbers -/

/-- The index of a three-axis shape at three numbers, each taken round its axis. -/
def at3 {a b c : ℕ} (ha : 0 < a) (hb : 0 < b) (hc : 0 < c) (x y z : ℕ) : (⟨3, ![a, b, c]⟩ : Shape).Idx := fun k => match k with
  | ⟨0, _⟩ => ⟨x % a, Nat.mod_lt _ ha⟩
  | ⟨1, _⟩ => ⟨y % b, Nat.mod_lt _ hb⟩
  | ⟨2, _⟩ => ⟨z % c, Nat.mod_lt _ hc⟩

/-- The index of a two-axis shape at two numbers. -/
def at2 {a b : ℕ} (ha : 0 < a) (hb : 0 < b) (x y : ℕ) : (⟨2, ![a, b]⟩ : Shape).Idx := fun k => match k with
  | ⟨0, _⟩ => ⟨x % a, Nat.mod_lt _ ha⟩
  | ⟨1, _⟩ => ⟨y % b, Nat.mod_lt _ hb⟩

/-- The index of a one-axis shape at a number. -/
def at1 {a : ℕ} (ha : 0 < a) (x : ℕ) : (⟨1, ![a]⟩ : Shape).Idx := fun k => match k with
  | ⟨0, _⟩ => ⟨x % a, Nat.mod_lt _ ha⟩

theorem at3_self {a b c : ℕ} (ha : 0 < a) (hb : 0 < b) (hc : 0 < c) (j : (⟨3, ![a, b, c]⟩ : Shape).Idx) :
    at3 ha hb hc (j 0).val (j 1).val (j 2).val = j := by
  funext k
  match k with
  | ⟨0, _⟩ => exact Fin.ext (Nat.mod_eq_of_lt (j 0).isLt)
  | ⟨1, _⟩ => exact Fin.ext (Nat.mod_eq_of_lt (j 1).isLt)
  | ⟨2, _⟩ => exact Fin.ext (Nat.mod_eq_of_lt (j 2).isLt)

theorem at1_self {a : ℕ} (ha : 0 < a) (j : (⟨1, ![a]⟩ : Shape).Idx) : at1 ha (j 0).val = j := by
  funext k
  match k with
  | ⟨0, _⟩ => exact Fin.ext (Nat.mod_eq_of_lt (j 0).isLt)

/-! ## The arrays before the call -/

section Arrays

variable (I : S4096x26.Idx → BitVec 32) (E : S26x100000x64.Idx → Elt F .f32)

/-- The indices, field by field. -/
def idxArr : S106496.Idx → BitVec 32 := shapeCast S106496 (transpose S26x4096 [1, 0] I transposes_S4096x26_S26x4096_1_0) shapeCasts_S26x4096_S106496

/-- The tables, transposed. -/
def tabArr : S26x64x100000.Idx → Elt F .f32 := transpose S26x64x100000 [0, 2, 1] E transposes_S26x100000x64_S26x64x100000_0_2_1

/-- The tables' last 32 entries, transposed and padded. -/
def tailArr : S26x64x128.Idx → Elt F .f32 :=
  pad S26x64x128 ![0, 0, 0] ![0, 0, 96] ![0, 0, 0]
    (transpose S26x64x32 [0, 2, 1] (extractStridedSlice S26x32x64 ![0, 99968, 0] E slices_S26x100000x64_S26x32x64_0_99968_0) transposes_S26x32x64_S26x64x32_0_2_1)
    (sitofp (F := F) .f32 (constantI S_ 32 0#32)) pads_S26x64x32_S26x64x128_000_000_0960 h_S_

/-- The three as functions of numbers. -/
def idxFn (n : ℕ) : BitVec 32 := idxArr I (at1 (by decide) n)
def tabFn (f q c : ℕ) : Elt F .f32 := tabArr E (at3 (by decide) (by decide) (by decide) f q c)
def tailFn (f q c : ℕ) : Elt F .f32 := tailArr E (at3 (by decide) (by decide) (by decide) f q c)

/-- What a field's table holds at a column and an entry, from the two arrays. -/
def entryFn (f q c : ℕ) : Elt F .f32 := if c < 99968 then tabFn E f q c else tailFn E f q (c - 99968)

theorem covers : Covers (tabFn E) (tailFn E) (entryFn E) := fun f _ =>
  ⟨fun a _ b hb => if_pos hb, fun a _ b _ => (if_neg (by omega)).trans (by rw [Nat.add_sub_cancel_left])⟩

/-- The table's entry `c` of field `f`, at column `q`. -/
def entry (f q c : ℕ) : Elt F .f32 := E (at3 (by decide) (by decide) (by decide) f c q)

theorem tabFn_eq {f q c : ℕ} (hf : f < 26) (hq : q < 64) (hc : c < 100000) : tabFn E f q c = entry E f q c := by
  unfold tabFn tabArr entry
  refine transpose_apply _ _ _ _ _ fun b => ?_
  match b with
  | ⟨0, _⟩ => rfl
  | ⟨1, _⟩ => rfl
  | ⟨2, _⟩ => rfl

theorem tailFn_eq {f q c : ℕ} (hf : f < 26) (hq : q < 64) (hc : c < 32) : tailFn E f q c = entry E f q (99968 + c) := by
  unfold tailFn tailArr entry
  rw [pad_apply_of_inside ![0, 0, 0] ![0, 0, 96] ![0, 0, 0] _ _ _ _ _ (at3 (by decide) (by decide) (by decide) f q c) (fun b => by
    match b with
    | ⟨0, _⟩ => simp [at3]
    | ⟨1, _⟩ => simp [at3]
    | ⟨2, _⟩ => simp [at3]; omega)]
  rw [transpose_apply _ _ _ _ (at3 (by decide) (by decide) (by decide) f c q) fun b => by
    match b with
    | ⟨0, _⟩ => rfl
    | ⟨1, _⟩ => rfl
    | ⟨2, _⟩ => rfl]
  refine extractStridedSlice_apply _ _ _ _ _ fun b => ?_
  match b with
  | ⟨0, _⟩ => simp [at3]
  | ⟨1, _⟩ => simp [at3]; omega
  | ⟨2, _⟩ => simp [at3]

theorem entryFn_eq {f q c : ℕ} (hf : f < 26) (hq : q < 64) (hc : c < 100000) : entryFn E f q c = entry E f q c := by
  unfold entryFn
  split
  · exact tabFn_eq E hf hq hc
  · rw [tailFn_eq E hf hq (by omega), show 99968 + (c - 99968) = c by omega]

theorem idxFn_eq {f k : ℕ} (hf : f < 26) (hk : k < 4096) : idxFn I (f * 4096 + k) = I (at2 (by decide) (by decide) k f) := by
  unfold idxFn idxArr
  rw [shapeCast_apply _ _ _ (at2 (by decide) (by decide) f k) (by
    rw [Shape.rowMajor_val_two, Shape.rowMajor_val_one]
    simp [at1, at2]
    omega)]
  refine transpose_apply _ _ _ _ _ fun b => ?_
  match b with
  | ⟨0, _⟩ => rfl
  | ⟨1, _⟩ => rfl

end Arrays

/-! ## The result -/

section Result

variable (I : S4096x26.Idx → BitVec 32) (E : S26x100000x64.Idx → Elt F .f32)

/-- The gathered rows: row `k` holds the 26 fields' entries side by side. -/
def gathered : S4096x1664.Idx → Elt F .f32 := fun y =>
  entry E ((y 1).val / 64) ((y 1).val % 64) (I (at2 (by decide) (by decide) (y 0).val ((y 1).val / 64))).toNat

/-- What the program returns. -/
def result (D : S4096x13.Idx → Elt F .f32) : S4096x1677.Idx → Elt F .f32 :=
  concatenate S4096x1677 1 [⟨S4096x1664, gathered I E⟩, ⟨S4096x13, D⟩] concatenates_S4096x1664_S4096x13_S4096x1677_d1

/-- The output's rows, cut to 64 columns and taken 26 at a time, are the gathered rows. -/
theorem rows_gathered (hI : ∀ x, (I x).toNat < 100000) (o : S110592x128.Idx → Elt F .f32)
    (ho : ∀ f < 26, ∀ y : S110592x128.Idx, ∀ k < 4096, (y 0).val = k * 26 + f → (y 1).val < 64 → o y = entryFn E f (y 1).val (idxFn I (f * 4096 + k)).toNat) :
    shapeCast S4096x1664 (extractStridedSlice S106496x64 ![0, 0] o slices_S110592x128_S106496x64_0_0) shapeCasts_S106496x64_S4096x1664 = gathered I E := by
  funext y
  have h0 : (y 0).val < 4096 := (y 0).isLt
  have h1 : (y 1).val < 1664 := (y 1).isLt
  have hf : (y 1).val / 64 < 26 := by omega
  have hq : (y 1).val % 64 < 64 := Nat.mod_lt _ (by decide)
  have e0 : ((y 0).val * 26 + (y 1).val / 64) % 110592 = (y 0).val * 26 + (y 1).val / 64 := Nat.mod_eq_of_lt (by omega)
  have e2 : ((y 0).val * 26 + (y 1).val / 64) % 106496 = (y 0).val * 26 + (y 1).val / 64 := Nat.mod_eq_of_lt (by omega)
  rw [shapeCast_apply _ _ _ (at2 (a := 106496) (b := 64) (by decide) (by decide) ((y 0).val * 26 + (y 1).val / 64) ((y 1).val % 64)) (by
    rw [Shape.rowMajor_val_two, Shape.rowMajor_val_two]
    simp [at2]
    omega)]
  rw [extractStridedSlice_apply _ _ _ _ (at2 (a := 110592) (b := 128) (by decide) (by decide) ((y 0).val * 26 + (y 1).val / 64) ((y 1).val % 64)) (fun b => by
    match b with
    | ⟨0, _⟩ => simp [at2, e0, e2]
    | ⟨1, _⟩ => simp [at2]; omega)]
  have e1 : (y 1).val % 64 % 128 = (y 1).val % 64 := Nat.mod_eq_of_lt (by omega)
  rw [ho _ hf _ (y 0).val h0 e0 (show (y 1).val % 64 % 128 < 64 by omega)]
  show entryFn E _ ((y 1).val % 64 % 128) _ = _
  rw [e1, idxFn_eq I hf h0, entryFn_eq E hf hq (hI _)]
  rfl

end Result

end Cert.Proof
-- ==== Proof.Launch.lean ====
/-
  The whole program's run: the host operations before the call, the call, and those after it.
-/
module

public import proofs.«01_k».proof.Proof.Values
public import Idealize.ShloMosaic.Lib.Pipeline.Frame
public import Idealize.ShloMosaic.Lib.StableHlo.Run

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held seq after TRef)

variable {F : FTy → Type}

local notation "𝕄" => MT nD τ sig (HIx 1) (Elt F) ℕ UU ℕ

/-! ## The arrays split among the fields, and come back -/

/-- A core and a tile, as a field. -/
def fieldEmb : Fin 2 × Fin 16 ↪ ℕ where
  toFun p := fieldAt p.1.val p.2.val
  inj' p q h := by
    have h1 := p.1.isLt; have h2 := q.1.isLt
    have h' : p.2.val * 2 + p.1.val = q.2.val * 2 + q.1.val := h
    exact Prod.ext (Fin.ext (by omega)) (Fin.ext (by omega))

theorem fieldEmb_univ : (Finset.univ : Finset (Fin 2 × Fin 16)).map fieldEmb = Finset.range 32 := by
  ext n
  simp only [Finset.mem_map, Finset.mem_univ, true_and, Finset.mem_range]
  constructor
  · rintro ⟨p, rfl⟩
    have h1 := p.1.isLt; have h2 := p.2.isLt
    show p.2.val * 2 + p.1.val < 32
    omega
  · intro h
    refine ⟨(⟨n % 2, by omega⟩, ⟨n / 2, by omega⟩), ?_⟩
    show n / 2 * 2 + n % 2 = n
    omega

theorem fields (Φ : ℕ → sProp 𝕄) :
    (bigSep Finset.univ fun c : Fin ((K (F := F)).nCore 0) => bigSep Finset.univ fun s : Fin ((K (F := F)).nSub 0) => Φ (fieldAt c.val s.val))
      = bigSep (Finset.range 32) Φ := by
  rw [← fieldEmb_univ, bigSep_map, bigSep_univ_prod]
  rfl

theorem parts_disjoint : ∀ f ∈ Finset.range 32, ∀ f' ∈ Finset.range 32, f ≠ f' → Disjoint (part f) (part f') := by
  intro f hf f' hf' h
  rw [Finset.mem_range] at hf hf'
  rw [Finset.disjoint_left]
  intro y hy hy'
  simp only [part, Finset.mem_union, mem_ownRows, mem_dumpSet] at hy hy'
  omega

theorem parts_cover : (Finset.range 32).biUnion part = Finset.univ := by
  ext y
  simp only [Finset.mem_biUnion, Finset.mem_range, Finset.mem_univ, iff_true, part, Finset.mem_union, mem_ownRows, mem_dumpSet]
  have hy : (y 0).val < 110592 := (y 0).isLt
  by_cases h : (y 0).val < 106496
  · exact ⟨(y 0).val % 26, by omega, .inl ⟨h, rfl⟩⟩
  · exact ⟨((y 0).val - 106496) / 128, by omega, .inr (by omega)⟩

section Split

variable (d : Dev nD) (g : ℕ → BitVec 32) (T U tb : ℕ → ℕ → ℕ → Elt F .f32)

/-- What stays behind of the three arrays while the call runs. -/
def stays : sProp 𝕄 :=
  iprop((idxLoc d ↦{Transfers.shareDrop fullShare 32} idxBuf d g) ∗ (tabLoc d ↦{Transfers.shareDrop fullShare 32} tabBuf d T)
    ∗ tailLoc d ↦{Transfers.shareDrop fullShare 32} tailBuf d U)

theorem deal (o : Buf (Elt F) (o3Loc d)) :
    iprop((idxLoc d ↦{fullShare} idxBuf d g) ∗ (tabLoc d ↦{fullShare} tabBuf d T) ∗ (tailLoc d ↦{fullShare} tailBuf d U) ∗ o3Loc d ↦{fullShare} o)
      ⊢ (iprop(stays d g T U ∗ bigSep (Finset.range 32) (takes d g T U)) : sProp 𝕄) := by
  iintro ⟨Hi, Ht, Hu, Ho⟩
  ihave Hi := (Transfers.pointsTo_toks_range (ℓ := idxLoc d) (S := Finset.univ) (f := idxBuf d g) fullShare 32).1 $$ Hi
  ihave Ht := (Transfers.pointsTo_toks_range (ℓ := tabLoc d) (S := Finset.univ) (f := tabBuf d T) fullShare 32).1 $$ Ht
  ihave Hu := (Transfers.pointsTo_toks_range (ℓ := tailLoc d) (S := Finset.univ) (f := tailBuf d U) fullShare 32).1 $$ Hu
  icases Hi with ⟨Hi0, Hi⟩
  icases Ht with ⟨Ht0, Ht⟩
  icases Hu with ⟨Hu0, Hu⟩
  isplitl [Hi0 Ht0 Hu0]
  · unfold stays
    isplitl [Hi0]; · iexact Hi0
    isplitl [Ht0]; · iexact Ht0
    iexact Hu0
  unfold takes reads
  rw [bigSep_sep', bigSep_sep', bigSep_sep']
  isplitr [Ho]
  · isplitl [Hi]; · iexact Hi
    isplitl [Ht]; · iexact Ht
    iexact Hu
  iapply (show (o3Loc d ↦{fullShare} o : sProp 𝕄) ⊢ bigSep (Finset.range 32) fun f => iprop(∃ o, partPts d f o) from by
    rw [show (o3Loc d ↦{fullShare} o : sProp 𝕄) = bigSep (Finset.range 32) fun f => partPts d f o from by
      rw [← pointsTo_biUnion (ℓ := o3Loc d) (Finset.range 32) (fun f => (part f : Finset (Idx (o3Loc d)))) parts_disjoint]
      exact congrArg (fun S : Finset (Idx (o3Loc d)) => (o3Loc d ↦[S]{fullShare} o : sProp 𝕄)) parts_cover.symm]
    exact bigSep_mono fun f _ => exists_intro (Φ := fun o => (partPts d f o : sProp 𝕄)) o)
  iexact Ho

theorem gathers (hd : ∀ f < 26, ∀ k < 4096, k * 26 + f < 106496) :
    iprop(stays d g T U ∗ bigSep (Finset.range 32) (brings d g T U tb))
      ⊢ (iprop((idxLoc d ↦{fullShare} idxBuf d g) ∗ (tabLoc d ↦{fullShare} tabBuf d T) ∗ (tailLoc d ↦{fullShare} tailBuf d U)
          ∗ ∃ o, ⌜∀ f, Filled d g tb f o⌝ ∗ o3Loc d ↦{fullShare} o) : sProp 𝕄) := by
  unfold brings reads stays
  rw [bigSep_sep', bigSep_sep', bigSep_sep']
  iintro ⟨⟨Hi0, Ht0, Hu0⟩, ⟨Hi, Ht, Hu⟩, Ho⟩
  ihave Hi := (Transfers.pointsTo_toks_range (ℓ := idxLoc d) (S := Finset.univ) (f := idxBuf d g) fullShare 32).2 $$ [Hi0 Hi]
  · isplitl [Hi0] <;> iassumption
  ihave Ht := (Transfers.pointsTo_toks_range (ℓ := tabLoc d) (S := Finset.univ) (f := tabBuf d T) fullShare 32).2 $$ [Ht0 Ht]
  · isplitl [Ht0] <;> iassumption
  ihave Hu := (Transfers.pointsTo_toks_range (ℓ := tailLoc d) (S := Finset.univ) (f := tailBuf d U) fullShare 32).2 $$ [Hu0 Hu]
  · isplitl [Hu0] <;> iassumption
  isplitl [Hi]; · iexact Hi
  isplitl [Ht]; · iexact Ht
  isplitl [Hu]; · iexact Hu
  have hne : Nonempty (Buf (Elt F) (o3Loc d)) := ⟨fun (y : S110592x128.Idx) => T 0 0 0⟩
  ihave Ho := (bigSep_exists_pi (Finset.range 32) (fun f (o : Buf (Elt F) (o3Loc d)) => iprop(⌜Filled d g tb f o⌝ ∗ partPts d f o))) $$ Ho
  icases Ho with ⟨%os, Ho⟩
  ihave Ho := (bigSep_pure_sep (Finset.range 32) (fun f => Filled d g tb f (os f)) (fun f => (partPts d f (os f) : sProp 𝕄))) $$ Ho
  icases Ho with ⟨%hos, Ho⟩
  ihave Ho := (pointsTo_biUnion_join (ℓ := o3Loc d) (q := fullShare) (Finset.range 32) (fun f => (part f : Finset (Idx (o3Loc d)))) os (os 0) parts_disjoint) $$ Ho
  icases Ho with ⟨%o, %ho, Ho⟩
  iexists o
  isplitr
  · ipureintro
    intro f hf y k hk hy hq
    have hf' : f ∈ Finset.range 32 := Finset.mem_range.mpr (by omega)
    have hm : y ∈ part f := Finset.mem_union_left _ (mem_ownRows.mpr (by have := hd f hf k hk; omega))
    rw [ho f hf' y hm]
    exact hos f hf' hf y k hk hy hq
  iapply (Entails.of_eq (congrArg (fun S : Finset (Idx (o3Loc d)) => (o3Loc d ↦[S]{fullShare} o : sProp 𝕄)) parts_cover))
  iexact Ho

end Split

/-! ## The host's lines -/

variable [FloatOps F]

/-- The lines before the call. -/
def before : List (HloOp τ sig (Elt F)) :=
  [StableHlo.unary main_arg2 main_v0 ((transpose S26x64x100000 [0, 2, 1] · transposes_S26x100000x64_S26x64x100000_0_2_1) : (⟨S26x100000x64, .f32⟩ : BufTy).Contents (Elt F) → (⟨S26x64x100000, .f32⟩ : BufTy).Contents (Elt F)),
   StableHlo.unary main_arg2 main_v1 ((extractStridedSlice S26x32x64 ![0, 99968, 0] · slices_S26x100000x64_S26x32x64_0_99968_0) : (⟨S26x100000x64, .f32⟩ : BufTy).Contents (Elt F) → (⟨S26x32x64, .f32⟩ : BufTy).Contents (Elt F)),
   StableHlo.unary main_v1 main_v2 ((transpose S26x64x32 [0, 2, 1] · transposes_S26x32x64_S26x64x32_0_2_1) : (⟨S26x32x64, .f32⟩ : BufTy).Contents (Elt F) → (⟨S26x64x32, .f32⟩ : BufTy).Contents (Elt F)),
   StableHlo.nullary main_c (constantI S_ 32 0#32),
   TRef.unary (TRef.of main_c : TRef sig ⟨S_, .i32⟩) (TRef.of main_call0_v0 : TRef sig ⟨S_, .f32⟩) (sitofp .f32),
   TRef.binary (TRef.of main_v2 : TRef sig ⟨S26x64x32, .f32⟩) (TRef.of main_call0_v0 : TRef sig ⟨S_, .f32⟩) (TRef.of main_v3 : TRef sig ⟨S26x64x128, .f32⟩) (fun x v => pad S26x64x128 ![0, 0, 0] ![0, 0, 96] ![0, 0, 0] x v pads_S26x64x32_S26x64x128_000_000_0960 h_S_),
   StableHlo.unary main_arg0 main_v4 ((transpose S26x4096 [1, 0] · transposes_S4096x26_S26x4096_1_0) : (⟨S4096x26, .i32⟩ : BufTy).Contents (Elt F) → (⟨S26x4096, .i32⟩ : BufTy).Contents (Elt F)),
   StableHlo.reshape main_v4 main_v5 (rfl : (.i32 : EltTy) = .i32) shapeCasts_S26x4096_S106496]

/-- The two parts of a row of the result, side by side. -/
def beside (a : S4096x1664.Idx → Elt F .f32) (b : S4096x13.Idx → Elt F .f32) : S4096x1677.Idx → Elt F .f32 :=
  concatenate S4096x1677 1 [⟨S4096x1664, a⟩, ⟨S4096x13, b⟩] concatenates_S4096x1664_S4096x13_S4096x1677_d1

/-- The lines after the call. -/
def behind : List (HloOp τ sig (Elt F)) :=
  [StableHlo.unary main_v6 main_v7 ((extractStridedSlice S106496x64 ![0, 0] · slices_S110592x128_S106496x64_0_0) : (⟨S110592x128, .f32⟩ : BufTy).Contents (Elt F) → (⟨S106496x64, .f32⟩ : BufTy).Contents (Elt F)),
   StableHlo.reshape main_v7 main_v8 (rfl : (.f32 : EltTy) = .f32) shapeCasts_S106496x64_S4096x1664,
   StableHlo.binary main_v8 main_arg1 main_v9 (beside : (⟨S4096x1664, .f32⟩ : BufTy).Contents (Elt F) → (⟨S4096x13, .f32⟩ : BufTy).Contents (Elt F) → (⟨S4096x1677, .f32⟩ : BufTy).Contents (Elt F))]

theorem main_eq (d : Dev nD) :
    main (F := F) d = (seq before >>= fun _ => sc.run d 0 >>= fun _ => seq behind >>= fun _ => pure ⟨⟩) := rfl

theorem before_sub : ∀ op ∈ before (F := F), op.bufs ⊆ Pipeline.ucRefs τ sig := by
  intro op h
  simp only [before, List.mem_cons, List.not_mem_nil, or_false] at h
  rcases h with rfl | rfl | rfl | rfl | rfl | rfl | rfl | rfl
  · exact Pipeline.sub_ucRefs _ (StableHlo.unary_bufs_sub ..)
  · exact Pipeline.sub_ucRefs _ (StableHlo.unary_bufs_sub ..)
  · exact Pipeline.sub_ucRefs _ (StableHlo.unary_bufs_sub ..)
  · exact Pipeline.sub_ucRefs _ (StableHlo.nullary_bufs_sub ..)
  · exact Pipeline.sub_ucRefs _ (StableHlo.unary_bufs_sub ..)
  · exact Pipeline.sub_ucRefs _ (StableHlo.binary_bufs_sub ..)
  · exact Pipeline.sub_ucRefs _ (StableHlo.unary_bufs_sub ..)
  · exact Pipeline.sub_ucRefs _ (StableHlo.reshape_bufs_sub ..)

theorem behind_sub : ∀ op ∈ behind (F := F), op.bufs ⊆ Pipeline.ucRefs τ sig := by
  intro op h
  simp only [behind, List.mem_cons, List.not_mem_nil, or_false] at h
  rcases h with rfl | rfl | rfl
  · exact Pipeline.sub_ucRefs _ (StableHlo.unary_bufs_sub ..)
  · exact Pipeline.sub_ucRefs _ (StableHlo.reshape_bufs_sub ..)
  · exact Pipeline.sub_ucRefs _ (StableHlo.binary_bufs_sub ..)

theorem before_fresh : ∀ op ∈ before (F := F), op.fresh = ∅ := by
  intro op h
  simp only [before, List.mem_cons, List.not_mem_nil, or_false] at h
  rcases h with rfl | rfl | rfl | rfl | rfl | rfl | rfl | rfl <;> rfl

theorem behind_fresh : ∀ op ∈ behind (F := F), op.fresh = ∅ := by
  intro op h
  simp only [behind, List.mem_cons, List.not_mem_nil, or_false] at h
  rcases h with rfl | rfl | rfl <;> rfl

section Values

variable (V : Valuation τ sig (Elt F))

theorem before_idx : after before V (Proc.devRef .tc main_v5) = idxArr (V (Proc.devRef .tc main_arg0)) := by
  simp only [before, TRef.binary, TRef.nullary, TRef.unary, TRef.toBuf, TRef.ofBuf, cast_eq]
  after_results_simp <;> rfl

theorem before_tab : after before V (Proc.devRef .tc main_v0) = tabArr (V (Proc.devRef .tc main_arg2)) := by
  simp only [before, TRef.binary, TRef.nullary, TRef.unary, TRef.toBuf, TRef.ofBuf, cast_eq]
  after_results_simp <;> rfl

theorem before_tail : after before V (Proc.devRef .tc main_v3) = tailArr (V (Proc.devRef .tc main_arg2)) := by
  simp only [before, TRef.binary, TRef.nullary, TRef.unary, TRef.toBuf, TRef.ofBuf, cast_eq]
  after_results_simp <;> rfl

theorem before_arg0 : after before V (Proc.devRef .tc main_arg0) = V (Proc.devRef .tc main_arg0) := by
  simp only [before, TRef.binary, TRef.nullary, TRef.unary, TRef.toBuf, TRef.ofBuf, cast_eq]
  after_results_simp <;> rfl

theorem before_arg1 : after before V (Proc.devRef .tc main_arg1) = V (Proc.devRef .tc main_arg1) := by
  simp only [before, TRef.binary, TRef.nullary, TRef.unary, TRef.toBuf, TRef.ofBuf, cast_eq]
  after_results_simp <;> rfl

theorem before_arg2 : after before V (Proc.devRef .tc main_arg2) = V (Proc.devRef .tc main_arg2) := by
  simp only [before, TRef.binary, TRef.nullary, TRef.unary, TRef.toBuf, TRef.ofBuf, cast_eq]
  after_results_simp <;> rfl

theorem behind_out : after behind V (Proc.devRef .tc main_v9)
    = beside (shapeCast S4096x1664 (extractStridedSlice S106496x64 ![0, 0] (V (Proc.devRef .tc main_v6) : S110592x128.Idx → Elt F .f32) slices_S110592x128_S106496x64_0_0) shapeCasts_S106496x64_S4096x1664)
        (V (Proc.devRef .tc main_arg1)) := by
  simp only [behind]
  after_results_simp <;> rfl

theorem behind_arg0 : after behind V (Proc.devRef .tc main_arg0) = V (Proc.devRef .tc main_arg0) := by
  simp only [behind]
  after_results_simp <;> rfl

theorem behind_arg1 : after behind V (Proc.devRef .tc main_arg1) = V (Proc.devRef .tc main_arg1) := by
  simp only [behind]
  after_results_simp <;> rfl

theorem behind_arg2 : after behind V (Proc.devRef .tc main_arg2) = V (Proc.devRef .tc main_arg2) := by
  simp only [behind]
  after_results_simp <;> rfl

end Values

/-! ## The run -/

section Run

variable (m : (ℓ : Loc nD τ sig) → Buf (Elt F) ℓ) (ρ : Dev nD → PrngReg)

/-- The arguments on a device. -/
def argI (d : Dev nD) : S4096x26.Idx → BitVec 32 := m ((SparseCore.T d).loc main_arg0)
def argD (d : Dev nD) : S4096x13.Idx → Elt F .f32 := m ((SparseCore.T d).loc main_arg1)
def argE (d : Dev nD) : S26x100000x64.Idx → Elt F .f32 := m ((SparseCore.T d).loc main_arg2)

/-- Every index names a row of its table. -/
def AllInRange : Prop := ∀ d x, (argI m d x).toNat < 100000

abbrev fnG (d : Dev nD) : ℕ → BitVec 32 := idxFn (argI m d)
abbrev fnT (d : Dev nD) : ℕ → ℕ → ℕ → Elt F .f32 := tabFn (argE m d)
abbrev fnU (d : Dev nD) : ℕ → ℕ → ℕ → Elt F .f32 := tailFn (argE m d)
abbrev fnE (d : Dev nD) : ℕ → ℕ → ℕ → Elt F .f32 := entryFn (argE m d)

/-- What the call's threads exchange. -/
abbrev PM : (K (F := F)).Pay (nD := nD) (Val := Elt F) (Name := ℕ) (U := UU) := P (fnG m) (fnT m) (fnU m) (fnE m)

theorem inVocab (h : AllInRange m) (d : Dev nD) : InVocab (fnG m d) := by
  intro n hn
  have e := idxFn_eq (argI m d) (f := n / 4096) (k := n % 4096) (by omega) (by omega)
  rw [show n / 4096 * 4096 + n % 4096 = n by omega] at e
  show (idxFn (argI m d) n).toNat < 100000
  rw [e]
  exact h d _

/-- What the buffers hold at the launch, before the call, and after it. -/
def V0 (d : Dev nD) : Valuation τ sig (Elt F) := StableHlo.launchContents m d
def V1 (d : Dev nD) : Valuation τ sig (Elt F) := after before (V0 m d)
def V2 (d : Dev nD) (o : S110592x128.Idx → Elt F .f32) : Valuation τ sig (Elt F) := Function.update (V1 m d) (Proc.devRef .tc main_v6) o

theorem V1_idx (d : Dev nD) : V1 m d (Proc.devRef .tc main_v5) = idxBuf d (fnG m d) :=
  (before_idx (V0 m d)).trans (funext fun x : S106496.Idx => congrArg (idxArr (argI m d)) (at1_self _ x).symm)

theorem V1_tab (d : Dev nD) : V1 m d (Proc.devRef .tc main_v0) = tabBuf d (fnT m d) :=
  (before_tab (V0 m d)).trans (funext fun x : S26x64x100000.Idx => congrArg (tabArr (argE m d)) (at3_self _ _ _ x).symm)

theorem V1_tail (d : Dev nD) : V1 m d (Proc.devRef .tc main_v3) = tailBuf d (fnU m d) :=
  (before_tail (V0 m d)).trans (funext fun x : S26x64x128.Idx => congrArg (tailArr (argE m d)) (at3_self _ _ _ x).symm)

/-- The four buffers of the call. -/
def callRefs : Finset (DevRef τ sig) :=
  {Proc.devRef .tc main_v5, Proc.devRef .tc main_v0, Proc.devRef .tc main_v3, Proc.devRef .tc main_v6}

theorem callRefs_sub : callRefs ⊆ Pipeline.ucRefs τ sig := by decide

theorem held_call (d : Dev nD) (V : Valuation τ sig (Elt F)) :
    (held (d.tc : Thread nD τ) callRefs V : sProp 𝕄)
      = iprop((idxLoc d ↦{fullShare} V (Proc.devRef .tc main_v5)) ∗ (tabLoc d ↦{fullShare} V (Proc.devRef .tc main_v0))
          ∗ (tailLoc d ↦{fullShare} V (Proc.devRef .tc main_v3)) ∗ o3Loc d ↦{fullShare} V (Proc.devRef .tc main_v6)) := by
  unfold held callRefs
  rw [SparseCore.bigSep_insert' (by decide), SparseCore.bigSep_insert' (by decide), SparseCore.bigSep_insert' (by decide), bigSep_singleton]

/-- The four buffers of the claims. -/
def endRefs : Finset (DevRef τ sig) :=
  {Proc.devRef .tc main_v9, Proc.devRef .tc main_arg0, Proc.devRef .tc main_arg1, Proc.devRef .tc main_arg2}

theorem endRefs_sub : endRefs ⊆ Pipeline.ucRefs τ sig := by decide

/-- What the call's run ends with. -/
def FIN (d : Dev nD) : sProp 𝕄 :=
  iprop(((SparseCore.T d).loc main_v9 ↦{fullShare} (result (argI m d) (argE m d) (argD m d) : S4096x1677.Idx → Elt F .f32))
    ∗ ((SparseCore.T d).loc main_arg0 ↦{fullShare} m ((SparseCore.T d).loc main_arg0)) ∗ ((SparseCore.T d).loc main_arg1 ↦{fullShare} m ((SparseCore.T d).loc main_arg1))
    ∗ (SparseCore.T d).loc main_arg2 ↦{fullShare} m ((SparseCore.T d).loc main_arg2))

theorem held_end (d : Dev nD) (V : Valuation τ sig (Elt F)) (h9 : V (Proc.devRef .tc main_v9) = result (argI m d) (argE m d) (argD m d))
    (h0 : V (Proc.devRef .tc main_arg0) = m ((SparseCore.T d).loc main_arg0)) (h1 : V (Proc.devRef .tc main_arg1) = m ((SparseCore.T d).loc main_arg1))
    (h2 : V (Proc.devRef .tc main_arg2) = m ((SparseCore.T d).loc main_arg2)) :
    (held (d.tc : Thread nD τ) endRefs V : sProp 𝕄) = FIN m d := by
  unfold held endRefs FIN
  rw [SparseCore.bigSep_insert' (by decide), SparseCore.bigSep_insert' (by decide), SparseCore.bigSep_insert' (by decide), bigSep_singleton,
    h9, h0, h1, h2]

theorem V2_arg0 (d : Dev nD) (o) : V2 m d o (Proc.devRef .tc main_arg0) = m ((SparseCore.T d).loc main_arg0) :=
  (Function.update_of_ne (show Proc.devRef .tc main_arg0 ≠ (Proc.devRef .tc main_v6 : DevRef τ sig) by decide) _ _).trans (before_arg0 _)
theorem V2_arg1 (d : Dev nD) (o) : V2 m d o (Proc.devRef .tc main_arg1) = m ((SparseCore.T d).loc main_arg1) :=
  (Function.update_of_ne (show Proc.devRef .tc main_arg1 ≠ (Proc.devRef .tc main_v6 : DevRef τ sig) by decide) _ _).trans (before_arg1 _)
theorem V2_arg2 (d : Dev nD) (o) : V2 m d o (Proc.devRef .tc main_arg2) = m ((SparseCore.T d).loc main_arg2) :=
  (Function.update_of_ne (show Proc.devRef .tc main_arg2 ≠ (Proc.devRef .tc main_v6 : DevRef τ sig) by decide) _ _).trans (before_arg2 _)

theorem end_value (hI : AllInRange m) (d : Dev nD) (o : S110592x128.Idx → Elt F .f32) (ho : ∀ f, Filled d (fnG m d) (fnE m d) f o) :
    after behind (V2 m d o) (Proc.devRef .tc main_v9) = result (argI m d) (argE m d) (argD m d) := by
  refine (behind_out (V2 m d o)).trans ?_
  have h1 : V2 m d o (Proc.devRef .tc main_arg1) = argD m d := V2_arg1 m d o
  have h6 : V2 m d o (Proc.devRef .tc main_v6) = o := Function.update_self _ _ _
  rw [h1, h6, rows_gathered (argI m d) (argE m d) (hI d) o (fun f hf y k hk hy hq => ho f hf y k hk hy hq)]
  rfl

theorem before_call (d : Dev nD) :
    (held (d.tc : Thread nD τ) (Pipeline.ucRefs τ sig) (after before (V0 m d)) : sProp 𝕄)
      ⊢ iprop(((idxLoc d ↦{fullShare} idxBuf d (fnG m d)) ∗ (tabLoc d ↦{fullShare} tabBuf d (fnT m d)) ∗ (tailLoc d ↦{fullShare} tailBuf d (fnU m d))
        ∗ o3Loc d ↦{fullShare} V1 m d (Proc.devRef .tc main_v6)) ∗ held (d.tc : Thread nD τ) (Pipeline.ucRefs τ sig \ callRefs) (V1 m d)) := by
  show (held (d.tc : Thread nD τ) (Pipeline.ucRefs τ sig) (V1 m d) : sProp 𝕄) ⊢ _
  rw [StableHlo.held_sub_split (d.tc : Thread nD τ) callRefs_sub (V1 m d), held_call, V1_idx, V1_tab, V1_tail]

theorem after_call (d : Dev nD) (o : S110592x128.Idx → Elt F .f32) :
    iprop((idxLoc d ↦{fullShare} idxBuf d (fnG m d)) ∗ (tabLoc d ↦{fullShare} tabBuf d (fnT m d)) ∗ (tailLoc d ↦{fullShare} tailBuf d (fnU m d))
        ∗ (o3Loc d ↦{fullShare} o) ∗ held (d.tc : Thread nD τ) (Pipeline.ucRefs τ sig \ callRefs) (V1 m d))
      ⊢ (held (d.tc : Thread nD τ) (Pipeline.ucRefs τ sig) (V2 m d o) : sProp 𝕄) := by
  rw [StableHlo.held_sub_split (d.tc : Thread nD τ) callRefs_sub (V2 m d o), held_call,
    StableHlo.held_congr (d.tc : Thread nD τ) (V := V2 m d o) (V' := V1 m d) (S := Pipeline.ucRefs τ sig \ callRefs) (fun b hb =>
      Function.update_of_ne (fun e => (Finset.mem_sdiff.mp hb).2 (by rw [e]; decide)) _ _),
    show V2 m d o (Proc.devRef .tc main_v5) = idxBuf d (fnG m d) from
      (Function.update_of_ne (show Proc.devRef .tc main_v5 ≠ (Proc.devRef .tc main_v6 : DevRef τ sig) by decide) _ _).trans (V1_idx m d),
    show V2 m d o (Proc.devRef .tc main_v0) = tabBuf d (fnT m d) from
      (Function.update_of_ne (show Proc.devRef .tc main_v0 ≠ (Proc.devRef .tc main_v6 : DevRef τ sig) by decide) _ _).trans (V1_tab m d),
    show V2 m d o (Proc.devRef .tc main_v3) = tailBuf d (fnU m d) from
      (Function.update_of_ne (show Proc.devRef .tc main_v3 ≠ (Proc.devRef .tc main_v6 : DevRef τ sig) by decide) _ _).trans (V1_tail m d),
    show V2 m d o (Proc.devRef .tc main_v6) = o from Function.update_self _ _ _]
  iintro ⟨Hi, Ht, Hu, Ho, Hr⟩
  isplitr [Hr]
  · isplitl [Hi]; · iexact Hi
    isplitl [Ht]; · iexact Ht
    isplitl [Hu]; · iexact Hu
    iexact Ho
  iexact Hr

/-- The handshake's part of the ghost state, and its start. -/
abbrev EH : Emb UH (MT nD τ sig (HIx 1) (Elt F) ℕ UU ℕ) := embL

def u₀ : UU := (initOf (K (F := F)).hsCells (K (F := F)).hsToks, 1)

/-- Nothing, for each of some things. -/
theorem nothings {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothings]; iempintro
  rw [show (bigSep Finset.univ fun thr : Thread nD τ => bigSep Finset.univ fun q : Fin 1 => (PM m).x q thr) = bigSep Finset.univ fun _ => iprop(emp) from
    bigSep_congr fun _ _ => bigSep_univ_of_subsingleton (0 : Fin 1), nothings]
  iempintro

theorem st_eq (d : Dev nD) : (bigSep Finset.univ fun c : Fin ((K (F := F)).nCore 0) => (PM m).st 0 d c)
    = bigSep (Finset.range 32) (takes d (fnG m d) (fnT m d) (fnU m d)) := fields _
theorem dn_eq (d : Dev nD) : (bigSep Finset.univ fun c : Fin ((K (F := F)).nCore 0) => (PM m).dn 0 d c)
    = bigSep (Finset.range 32) (brings d (fnG m d) (fnT m d) (fnU m d) (fnE m d)) := fields _

theorem hmain (hI : AllInRange m) (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) (Pipeline.ucRefs τ sig) (V0 m d) from
    Pipeline.unscopedBufs_held d (V0 m d)]
  iintro ⟨#Hctx, Hst, ⟨Hb, Hh, Hts, -⟩, -⟩
  iapply (StableHlo.wp_seq 𝒱 none Set.univ d (Pipeline.ucRefs τ sig) _ before before_sub before_fresh (V0 m d)) $$ [Hb Hh]
  · isplitl [Hb] <;> iassumption
  iintro ⟨Hb, Hh⟩
  rw [wp_bind]
  ihave Hh := (before_call m d) $$ Hh
  icases Hh with ⟨Hc, Hr⟩
  ihave Hc := (deal d (fnG m d) (fnT m d) (fnU m d) (V1 m d (Proc.devRef .tc main_v6))) $$ Hc
  icases Hc with ⟨Hstay, Hc⟩
  iapply ((K (F := F)).wp_run (D (F := F)) 𝒱 (EH := EH) (P := PM m) κ d 0)
  isplitr; · iexact Hctx
  isplitl [Hst]; · iexact Hst
  isplitl [Hc]
  · rw [st_eq]; iexact Hc
  iintro ⟨Hst, Hdn⟩
  ihave Hdn := (Entails.of_eq (dn_eq m d)) $$ Hdn
  ihave Hc := (gathers d (fnG m d) (fnT m d) (fnU m d) (fnE m d) (fun _ _ _ _ => by omega)) $$ [Hstay Hdn]
  · isplitl [Hstay] <;> iassumption
  icases Hc with ⟨Hi, Ht, Hu, %o, %ho, Ho⟩
  ihave Hh := (after_call m d o) $$ [Hi Ht Hu Ho Hr]
  · isplitl [Hi]; · iexact Hi
    isplitl [Ht]; · iexact Ht
    isplitl [Hu]; · iexact Hu
    isplitl [Ho]; · iexact Ho
    iexact Hr
  iapply (StableHlo.wp_seq 𝒱 none Set.univ d (Pipeline.ucRefs τ sig) _ behind behind_sub behind_fresh (V2 m d o)) $$ [Hb Hh]
  · isplitl [Hb] <;> iassumption
  iintro ⟨Hb, Hh⟩
  rw [wp_pure]
  imodintro
  ihave Hh := (Entails.of_eq ((StableHlo.held_sub_split (d.tc : Thread nD τ) endRefs_sub (after behind (V2 m d o))).trans (by
    rw [held_end m d _ (end_value m hI d o ho) ((behind_arg0 _).trans (V2_arg0 m d o)) ((behind_arg1 _).trans (V2_arg1 m d o))
      ((behind_arg2 _).trans (V2_arg2 m d o))]))) $$ Hh
  icases Hh with ⟨Hf, -⟩
  isplitl [Hst]; · iexact Hst
  isplitl [Hf]; · iexact Hf
  isplitl [Hb] <;> iassumption

/-- What the run says of a device's memory. -/
def fq (d : Dev nD) (s' : Phys nD τ sig (Elt F)) : Prop :=
  s'.mem.mem ((SparseCore.T d).loc main_v9) = (result (argI m d) (argE m d) (argD m d) : S4096x1677.Idx → Elt F .f32)
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

theorem reads_off (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := fullShare) (f := f))) $$ [HSI Hf]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H9, H0, H1, H2⟩, HSI⟩
  ihave H := (reads_off _ _ s') $$ [H9 HSI]
  · isplitl [H9] <;> iassumption
  icases H with ⟨%h9, HSI⟩
  ihave H := (reads_off _ _ s') $$ [H0 HSI]
  · isplitl [H0] <;> iassumption
  icases H with ⟨%h0, HSI⟩
  ihave H := (reads_off _ _ s') $$ [H1 HSI]
  · isplitl [H1] <;> iassumption
  icases H with ⟨%h1, HSI⟩
  ihave H := (reads_off _ _ s') $$ [H2 HSI]
  · isplitl [H2] <;> iassumption
  icases H with ⟨%h2, -⟩
  ipureintro; exact ⟨h9, h0, h1, h2⟩

def QC : PUnit × MemSt nD τ sig (Elt F) → Prop := fun r =>
  (∀ c : Dev nD, r.2.mem ((SparseCore.T c).loc main_v9) = (result (argI m c) (argE m c) (argD m c) : S4096x1677.Idx → Elt F .f32)
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2))
  ∧ r.2.sem = fun _ => 0

/-- The whole program, run from any memory whose indices are in range: it ends, with the gathered rows beside the dense
    features in its result, its arguments as they were and every semaphore at zero. -/
theorem run_main [∀ e, Nonempty (Elt F e)] (hI : AllInRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (fun d => inVocab m hI d) (fun d => covers (argE m d)))
    (fun q _ => match q with | 0 => SparseCore.Cfg.VecSplit.of_plain vecSplit)
    m ρ main (fun _ => iprop(emp)) (FIN m) (u₀ (F := F)) (sep_elim_left.trans (hu₀ m)) (hmain m ρ hI) (fq m) (hfin m) (QC m) (fun _ h hz => ⟨h, hz⟩)

end Run

end Cert.Proof
-- ==== Proof.RefValue.lean ====
/-
  The reference's result, for indices in range: the 26 tables' rows side by side, and the dense features.
-/
module

public import proofs.«01_k».proof.Proof.Values
public import proofs.«01_k».proof.Proof.Gen.ReferenceIdeal.Run
public import proofs.«01_k».proof.Proof.Gen.Reference.Run
public import Idealize.ShloMosaic.Lib.ReduceAll

@[expose] public section

noncomputable section

namespace Cert.Proof.Ref

open Cert.ReferenceIdeal Cert.ReferenceIdeal.Gen

open Idealize.ShloMosaic

variable {F : FTy → Type} [FloatOps F]

variable (I : S4096x26.Idx → BitVec 32) (E : S26x100000x64.Idx → Elt F .f32)

/-! ## The rows' numbers in the flattened table -/

/-- An index of field `f`, moved past the tables of the fields before it. -/
def moved : S4096x26.Idx → BitVec 32 :=
  addi I (broadcastInDim S4096x26 ![0, 1] bcast_S1x26_S4096x26_0_1 (broadcastInDim S1x26 ![1] bcast_S26_S1x26_1
    (muli (iotaInDim S26 32 0) (broadcastInDim S26 ![] bcast_S_S26 (constantI S_ 32 100000#32)))))

/-- A negative one, counted from the end. -/
def wrapped : S4096x26.Idx → BitVec 32 :=
  select (cmpi .slt (moved I) (broadcastInDim S4096x26 ![] bcast_S_S4096x26 (constantI S_ 32 0#32)))
    (addi (moved I) (broadcastInDim S4096x26 ![] bcast_S_S4096x26 (constantI S_ 32 2600000#32))) (moved I)

/-- The same with a last axis of one. -/
def starts : S4096x26x1.Idx → BitVec 32 := broadcastInDim S4096x26x1 ![0, 1] bcast_S4096x26_S4096x26x1_0_1 (wrapped I)

theorem moved_apply (y : S4096x26.Idx) : moved I y = I y + BitVec.ofNat 32 (y 1).val * 100000#32 := rfl

theorem moved_toNat (hI : ∀ x, (I x).toNat < 100000) (y : S4096x26.Idx) : (moved I y).toNat = (y 1).val * 100000 + (I y).toNat := by
  have h1 : (y 1).val < 26 := (y 1).isLt
  have h := hI y
  rw [moved_apply, BitVec.toNat_add, BitVec.toNat_mul, BitVec.toNat_ofNat, BitVec.toNat_ofNat]
  omega

theorem wrapped_eq (hI : ∀ x, (I x).toNat < 100000) (y : S4096x26.Idx) : wrapped I y = moved I y := by
  have h1 : (y 1).val < 26 := (y 1).isLt
  have h := hI y
  have e := moved_toNat I hI y
  have hn : (moved I y).slt 0#32 = false := by
    rw [BitVec.slt_eq_decide, decide_eq_false_iff_not, BitVec.toInt_eq_toNat_cond, BitVec.toInt_eq_toNat_cond]
    simp only [BitVec.toNat_ofNat, Nat.reducePow, Nat.reduceMod]
    omega
  show Scalar.select (BitVec.ofBool ((moved I y).slt 0#32)) _ _ = _
  rw [hn]
  rfl

theorem starts_toNat (hI : ∀ x, (I x).toNat < 100000) (z : S4096x26x1.Idx) :
    (starts I z).toNat = (z 1).val * 100000 + (I (at2 (by decide) (by decide) (z 0).val (z 1).val)).toNat := by
  have h0 : (z 0).val < 4096 := (z 0).isLt
  have h1 : (z 1).val < 26 := (z 1).isLt
  have e : starts I z = wrapped I (at2 (by decide) (by decide) (z 0).val (z 1).val) := by
    unfold starts
    refine congrArg (wrapped I) (funext fun b => Fin.ext ?_)
    match b with
    | ⟨0, _⟩ => exact (Nat.mod_eq_of_lt h0).symm
    | ⟨1, _⟩ => exact (Nat.mod_eq_of_lt h1).symm
  rw [e, wrapped_eq I hI, moved_toNat I hI]
  show (z 1).val % 26 * 100000 + _ = _
  rw [Nat.mod_eq_of_lt h1]

/-! ## Every row's number is inside the table -/

/-- Whether a row's number is inside. -/
def inside : S4096x26x1.Idx → BitVec 1 :=
  andi (cmpi .sge (starts I) (broadcastInDim S4096x26x1 ![] bcast_S_S4096x26x1 (constantI S_ 32 0#32)))
    (cmpi .sle (starts I) (broadcastInDim S4096x26x1 ![0, 1, 2] bcast_S1x1x1_S4096x26x1_0_1_2 (broadcastInDim S1x1x1 ![2] bcast_S1_S1x1x1_2 (constantI S1 32 2599999#32))))

theorem inside_one (hI : ∀ x, (I x).toNat < 100000) (z : S4096x26x1.Idx) : inside I z = 1#1 := by
  have h1 : (z 1).val < 26 := (z 1).isLt
  have e := starts_toNat I hI z
  have h := hI (at2 (by decide) (by decide) (z 0).val (z 1).val)
  have ha : (0#32 : BitVec 32).sle (starts I z) = true := by
    rw [BitVec.sle_eq_decide, decide_eq_true_eq, BitVec.toInt_eq_toNat_cond, BitVec.toInt_eq_toNat_cond]
    simp only [BitVec.toNat_ofNat, Nat.reducePow, Nat.reduceMod]
    omega
  have hb : (starts I z).sle 2599999#32 = true := by
    rw [BitVec.sle_eq_decide, decide_eq_true_eq, BitVec.toInt_eq_toNat_cond, BitVec.toInt_eq_toNat_cond]
    simp only [BitVec.toNat_ofNat, Nat.reducePow, Nat.reduceMod]
    omega
  show BitVec.ofBool ((0#32 : BitVec 32).sle (starts I z)) &&& BitVec.ofBool ((starts I z).sle 2599999#32) = 1#1
  rw [ha, hb]
  decide

/-! ## A row of the flattened table -/

/-- The tables one below the other. -/
def flat : S2600000x64.Idx → Elt F .f32 := shapeCast S2600000x64 E shapeCasts_S26x100000x64_S2600000x64

theorem flat_apply {f c q : ℕ} (hf : f < 26) (hc : c < 100000) (hq : q < 64) (j : S2600000x64.Idx) (h0 : (j 0).val = f * 100000 + c)
    (h1 : (j 1).val = q) : flat E j = entry E f q c := by
  unfold flat entry
  refine shapeCast_apply _ _ _ _ ?_
  rw [Shape.rowMajor_val_three, Shape.rowMajor_val_two]
  have e1 : f % 26 = f := Nat.mod_eq_of_lt hf
  have e2 : c % 100000 = c := Nat.mod_eq_of_lt hc
  have e3 : q % 64 = q := Nat.mod_eq_of_lt hq
  simp [at3, h0, h1, e1, e2, e3]

/-- The row a result index reads the number of. -/
def rowOf (y : S4096x26x64.Idx) : S4096x26x1.Idx := at3 (a := 4096) (b := 26) (c := 1) (by decide) (by decide) (by decide) (y 0).val (y 1).val 0

theorem picked (hI : ∀ x, (I x).toNat < 100000) (y : S4096x26x64.Idx) :
    Host.gather gather_S2600000x64_S4096x26x1_S4096x26x64_2_0_n_n_0_2_164 (flat E) (starts I) y
      = entry E (y 1).val (y 2).val (I (at2 (by decide) (by decide) (y 0).val (y 1).val)).toNat := by
  have h0 : (y 0).val < 4096 := (y 0).isLt
  have h1 : (y 1).val < 26 := (y 1).isLt
  have h2 : (y 2).val < 64 := (y 2).isLt
  have hz0 : (rowOf y 0).val = (y 0).val := Nat.mod_eq_of_lt h0
  have hz1 : (rowOf y 1).val = (y 1).val := Nat.mod_eq_of_lt h1
  have e := starts_toNat I hI (rowOf y)
  rw [hz0, hz1] at e
  have h := hI (at2 (by decide) (by decide) (y 0).val (y 1).val)
  unfold Host.gather
  refine flat_apply E h1 h h2 _ ?_ ?_
  · show GatherDims.start _ y (starts I) 0 + GatherDims.batchCoord _ y 0 + GatherDims.offCoord _ y 0 = _
    rw [GatherDims.batchCoord_eq_zero _ _ _ List.not_mem_nil,
      GatherDims.offCoord_eq_zero _ _ _ (fun hk => ((GatherDims.mem_sKept _ _).mp hk).1 (List.mem_singleton.mpr rfl))]
    unfold GatherDims.start
    rw [dif_pos (show (0 : Fin 2) ∈ gather_S2600000x64_S4096x26x1_S4096x26x64_2_0_n_n_0_2_164.startIndexMap from List.mem_singleton.mpr rfl)]
    have hsi : gather_S2600000x64_S4096x26x1_S4096x26x64_2_0_n_n_0_2_164.siIdx y
        ⟨List.idxOf (0 : Fin 2) gather_S2600000x64_S4096x26x1_S4096x26x64_2_0_n_n_0_2_164.startIndexMap,
          List.idxOf_lt_length_iff.2 (List.mem_singleton.mpr rfl)⟩ = rowOf y := by
      funext b; refine Fin.ext ?_
      match b with
      | ⟨0, _⟩ => exact hz0.symm
      | ⟨1, _⟩ => exact hz1.symm
      | ⟨2, _⟩ => rfl
    rw [hsi]
    show min (starts I (rowOf y)).toInt.toNat 2599999 + 0 + 0 = _
    rw [BitVec.toInt_eq_toNat_cond, e]
    simp only [Nat.reducePow]
    omega
  · show GatherDims.start _ y (starts I) 1 + GatherDims.batchCoord _ y 1 + GatherDims.offCoord _ y 1 = _
    rw [GatherDims.batchCoord_eq_zero _ _ _ List.not_mem_nil]
    unfold GatherDims.start GatherDims.offCoord
    rw [dif_neg (show (1 : Fin 2) ∉ gather_S2600000x64_S4096x26x1_S4096x26x64_2_0_n_n_0_2_164.startIndexMap by decide),
      dif_pos (show (1 : Fin 2) ∈ gather_S2600000x64_S4096x26x1_S4096x26x64_2_0_n_n_0_2_164.sKept by decide)]
    show 0 + 0 + _ = _
    rw [Nat.zero_add]
    rfl

/-! ## The result -/

/-- The reference's embedding part. -/
def rows : S4096x1664.Idx → Elt F .f32 :=
  shapeCast S4096x1664 (select (broadcastInDim S4096x26x64 ![0, 1] bcast_S4096x26_S4096x26x64_0_1
      (Host.reduce IntOp.andi (inside I) (constantI S_ 1 1#1) reducesTo_S4096x26x1_S4096x26_d2 h_S_))
    (Host.gather gather_S2600000x64_S4096x26x1_S4096x26x64_2_0_n_n_0_2_164 (flat E) (starts I))
    (broadcastInDim S4096x26x64 ![] bcast_S_S4096x26x64 (constant S_ .f32 0x7FC00000#32))) shapeCasts_S4096x26x64_S4096x1664

theorem rows_eq (hI : ∀ x, (I x).toNat < 100000) : rows I E = gathered I E := by
  funext y
  have h0 : (y 0).val < 4096 := (y 0).isLt
  have h1 : (y 1).val < 1664 := (y 1).isLt
  have e0 : (y 0).val % 4096 = (y 0).val := Nat.mod_eq_of_lt h0
  have e1 : (y 1).val / 64 % 26 = (y 1).val / 64 := Nat.mod_eq_of_lt (by omega)
  have e2 : (y 1).val % 64 % 64 = (y 1).val % 64 := Nat.mod_eq_of_lt (by omega)
  unfold rows
  rw [shapeCast_apply _ _ _ (at3 (a := 4096) (b := 26) (c := 64) (by decide) (by decide) (by decide) (y 0).val ((y 1).val / 64) ((y 1).val % 64)) (by
    rw [Shape.rowMajor_val_three, Shape.rowMajor_val_two]
    simp [at3, e0, e1, e2]
    omega)]
  show Scalar.select (Host.reduce IntOp.andi (inside I) (constantI S_ 1 1#1) reducesTo_S4096x26x1_S4096x26_d2 h_S_ _) _ _ = _
  rw [Host.reduce_andi_one _ _ _ _ _ rfl (inside_one I hI)]
  rw [show ∀ a b : Elt F .f32, Scalar.select 1#1 a b = a from fun _ _ => rfl, picked I E hI]
  show entry E ((y 1).val / 64 % 26) ((y 1).val % 64 % 64) (I (at2 _ _ ((y 0).val % 4096) ((y 1).val / 64 % 26))).toNat = _
  rw [e0, e1, e2]
  rfl

/-- What the reference returns. -/
def out (B : S4096x13.Idx → Elt F .f32) : S4096x1677.Idx → Elt F .f32 :=
  concatenate S4096x1677 1 [⟨S4096x1664, rows I E⟩, ⟨S4096x13, B⟩] concatenates_S4096x1664_S4096x13_S4096x1677_d1

theorem out_eq (hI : ∀ x, (I x).toNat < 100000) (B : S4096x13.Idx → Elt F .f32) : out I E B = result I E B := by
  unfold out
  rw [rows_eq I E hI]
  rfl

/-- The idealized reference's run, its result named. -/
theorem run_ideal (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_v9) = out (m ((c.tc : Thread nD τ).loc main_arg0)) (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.Proof.Ref

namespace Cert.Proof.Ref

open Cert.Reference Cert.Reference.Gen

open Idealize.ShloMosaic

variable {F : FTy → Type} [FloatOps F]

/-- The reference's run, its result named. -/
theorem run_bits (m : (ℓ : Loc nD τ sig) → Buf (Elt F) ℓ) (ρ : Dev nD → PrngReg) :
    θ_run (Cert.Reference.defs (F := F)) (onTc (τ := τ) (Cert.Reference.main (F := F))) ⟨m, fun _ => 0, ρ⟩ fun r => ∀ c : Dev nD,
      r.2.mem ((c.tc : Thread nD τ).loc main_v9) = out (m ((c.tc : Thread nD τ).loc main_arg0)) (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference.Value.run m ρ

end Cert.Proof.Ref
-- ==== Proof.lean ====
/-
  The claims, each from the run of the program it speaks of.

  `Proof/Launch.lean` runs the kernel once, over any float values; `Proof/RefValue.lean` reads the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_indices_in_vocab
public import proofs.«01_k».proof.Proof.Launch
public import proofs.«01_k».proof.Proof.RefValue
public import Idealize.ShloMosaic.Adequacy
public import Idealize.ShloMosaic.Init

@[expose] public section

noncomputable section

namespace Cert.Proof

open Idealize.ShloMosaic Idealize.SL.Sem

/-! ## The precondition, as the proof uses it -/

/-- A word that is not negative and below the vocabulary's size, both as signed comparisons, is below it as a number. -/
theorem below (v : BitVec 32) (e : IntOp.andi (IntOp.cmpi .sge v 0#32) (IntOp.cmpi .slt v 100000#32) = 1#1) : v.toNat < 100000 := by
  have both : ∀ p q : Bool, BitVec.ofBool p &&& BitVec.ofBool q = 1#1 → p = true ∧ q = true := by decide
  obtain ⟨h0, h1⟩ := both ((0#32 : BitVec 32).sle v) (v.slt 100000#32) e
  rw [BitVec.sle_eq_decide, decide_eq_true_eq, BitVec.toInt_eq_toNat_cond, BitVec.toInt_eq_toNat_cond] at h0
  rw [BitVec.slt_eq_decide, decide_eq_true_eq, BitVec.toInt_eq_toNat_cond, BitVec.toInt_eq_toNat_cond] at h1
  simp only [BitVec.toNat_ofNat, Nat.reducePow, Nat.reduceMod] at h0 h1
  omega

/-- The precondition's value all ones: every index is in range. -/
theorem inRange_of_pre {F : FTy → Type} [FloatOps F] (m : (ℓ : Loc Cert.KernelIdeal.nD Cert.KernelIdeal.τ Cert.KernelIdeal.sig) → Buf (Elt F) ℓ)
    (h : ∀ d, Cert.Pre_indices_in_vocab.fn (argI m d) (argD m d) (argE m d) = fun _ => 1#1) : AllInRange m :=
  fun d x => below _ (congrFun (h d) x)

/-! ## The claims -/

theorem frame_kernel : Cert.quiescent_Kernel := fun m ρ hpre =>
  (θ_run Cert.KernelIdeal.defs _ _).mono (fun _ h => ⟨fun c => (h.1 c).2, h.2⟩) (run_main (F := Bits) m ρ (inRange_of_pre m hpre))

theorem frame_kernelIdeal : Cert.quiescent_KernelIdeal := fun m ρ hpre =>
  (θ_run Cert.KernelIdeal.defs _ _).mono (fun _ h => ⟨fun c => (h.1 c).2, h.2⟩) (run_main (F := Ideal) m ρ (inRange_of_pre m hpre))

theorem frame_referenceIdeal : Cert.quiescent_ReferenceIdeal := fun m ρ _ =>
  (θ_run Cert.ReferenceIdeal.defs _ _).mono (fun r h => ⟨fun c => (h c).2, sem_eq_zero_of_no_sems (by decide) r.2⟩) (Ref.run_ideal (F := Ideal) m ρ)

theorem frame_referenceIdeal_pre : Cert.quiescent_ReferenceIdeal_pre_indices_in_vocab := fun m ρ _ => frame_referenceIdeal m ρ trivial

theorem frame_reference : Cert.quiescent_Reference := fun m ρ _ =>
  (θ_run Cert.Reference.defs _ _).mono (fun r h => ⟨fun c => (h c).2, sem_eq_zero_of_no_sems (by decide) r.2⟩) (Ref.run_bits (F := Bits) m ρ)

/-- Over the extended reals: the kernel's result is the reference's. -/
theorem algebraic : Cert.algebraic_KernelIdeal_ReferenceIdeal := by
  intro m ρ m' ρ' hpre hag
  have hI := inRange_of_pre (F := Ideal) m hpre
  refine ⟨fun c => result (argI m c) (argE m c) (argD m c),
    (θ_run Cert.KernelIdeal.defs _ _).mono (fun _ h c => h.1 c) (run_main (F := Ideal) m ρ hI),
    (θ_run Cert.ReferenceIdeal.defs _ _).mono (fun r h c => ⟨(h c).1.trans ?_, (h c).2⟩) (Ref.run_ideal (F := Ideal) m' ρ')⟩
  obtain ⟨e0, e1, e2⟩ := hag c
  rw [e0, e1, e2]
  exact Ref.out_eq (argI m c) (argE m c) (hI c) (argD m c)

/-- Over 32-bit floats, bit for bit. -/
theorem bitexact : Cert.bitexact_Kernel_Reference := by
  intro m ρ m' ρ' hpre hag
  have hI := inRange_of_pre (F := Bits) m hpre
  refine ⟨fun c => result (argI m c) (argE m c) (argD m c),
    (θ_run Cert.KernelIdeal.defs _ _).mono (fun _ h c => h.1 c) (run_main (F := Bits) m ρ hI),
    (θ_run Cert.Reference.defs _ _).mono (fun r h c => ⟨(h c).1.trans ?_, (h c).2⟩) (Ref.run_bits (F := Bits) m' ρ')⟩
  obtain ⟨e0, e1, e2⟩ := hag c
  rw [e0, e1, e2]
  exact Ref.out_eq (argI m c) (argE m c) (hI c) (argD m c)

theorem claim : Cert.Claim :=
  ⟨Cert.Kernel.Gen.facts, Cert.KernelIdeal.Gen.facts, Cert.ReferenceIdeal.Gen.facts, Cert.Reference.Gen.facts, Cert.Pre_indices_in_vocab.Gen.facts,
    frame_kernel, frame_kernelIdeal, frame_referenceIdeal, frame_referenceIdeal_pre, frame_reference, trivial, algebraic, bitexact⟩

end Cert.Proof

end
